-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Filt (m : (ℓ : Loc Cert.Filt.nD Cert.Filt.τ Cert.Filt.sig) → Buf (Elt Bits) ℓ) : Prop :=
  True

def Pre_FiltIdeal (m : (ℓ : Loc Cert.FiltIdeal.nD Cert.FiltIdeal.τ Cert.FiltIdeal.sig) → Buf (Elt Ideal) ℓ) : Prop :=
  True

def Pre_FiltIdeal_weights [hPre_weights : Cert.Pre_weights.Facts] (m : (ℓ : Loc Cert.FiltIdeal.nD Cert.FiltIdeal.τ Cert.FiltIdeal.sig) → Buf (Elt Ideal) ℓ) : Prop :=
  ∀ c : Dev Cert.FiltIdeal.nD,
    (Cert.Pre_weights.fn (F := Ideal) (m ((c.tc : Thread Cert.FiltIdeal.nD Cert.FiltIdeal.τ).loc Cert.FiltIdeal.main_arg0)) (m ((c.tc : Thread Cert.FiltIdeal.nD Cert.FiltIdeal.τ).loc Cert.FiltIdeal.main_arg1)) (m ((c.tc : Thread Cert.FiltIdeal.nD Cert.FiltIdeal.τ).loc Cert.FiltIdeal.main_arg2)) (m ((c.tc : Thread Cert.FiltIdeal.nD Cert.FiltIdeal.τ).loc Cert.FiltIdeal.main_arg3)) (m ((c.tc : Thread Cert.FiltIdeal.nD Cert.FiltIdeal.τ).loc Cert.FiltIdeal.main_arg4)) (m ((c.tc : Thread Cert.FiltIdeal.nD Cert.FiltIdeal.τ).loc Cert.FiltIdeal.main_arg5)) (m ((c.tc : Thread Cert.FiltIdeal.nD Cert.FiltIdeal.τ).loc Cert.FiltIdeal.main_arg6))) = (fun _ => 1#1)

def Pre_FiltRefIdeal (m : (ℓ : Loc Cert.FiltRefIdeal.nD Cert.FiltRefIdeal.τ Cert.FiltRefIdeal.sig) → Buf (Elt Ideal) ℓ) : Prop :=
  True

def Pre_FiltRefIdeal_weights [hPre_weights : Cert.Pre_weights.Facts] (m : (ℓ : Loc Cert.FiltRefIdeal.nD Cert.FiltRefIdeal.τ Cert.FiltRefIdeal.sig) → Buf (Elt Ideal) ℓ) : Prop :=
  ∀ c : Dev Cert.FiltRefIdeal.nD,
    (Cert.Pre_weights.fn (F := Ideal) (m ((c.tc : Thread Cert.FiltRefIdeal.nD Cert.FiltRefIdeal.τ).loc Cert.FiltRefIdeal.main_arg0)) (m ((c.tc : Thread Cert.FiltRefIdeal.nD Cert.FiltRefIdeal.τ).loc Cert.FiltRefIdeal.main_arg1)) (m ((c.tc : Thread Cert.FiltRefIdeal.nD Cert.FiltRefIdeal.τ).loc Cert.FiltRefIdeal.main_arg2)) (m ((c.tc : Thread Cert.FiltRefIdeal.nD Cert.FiltRefIdeal.τ).loc Cert.FiltRefIdeal.main_arg3)) (m ((c.tc : Thread Cert.FiltRefIdeal.nD Cert.FiltRefIdeal.τ).loc Cert.FiltRefIdeal.main_arg4)) (m ((c.tc : Thread Cert.FiltRefIdeal.nD Cert.FiltRefIdeal.τ).loc Cert.FiltRefIdeal.main_arg5)) (m ((c.tc : Thread Cert.FiltRefIdeal.nD Cert.FiltRefIdeal.τ).loc Cert.FiltRefIdeal.main_arg6))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10)
      ∧ r.2.mem ((c.tc : Thread Cert.Sample.nD Cert.Sample.τ).loc Cert.Sample.main_arg11) = m ((c.tc : Thread Cert.Sample.nD Cert.Sample.τ).loc Cert.Sample.main_arg11)
      ∧ r.2.mem ((c.tc : Thread Cert.Sample.nD Cert.Sample.τ).loc Cert.Sample.main_arg12) = m ((c.tc : Thread Cert.Sample.nD Cert.Sample.τ).loc Cert.Sample.main_arg12))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
      ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9)
      ∧ r.2.mem ((c.tc : Thread Cert.SampleRefIdeal.nD Cert.SampleRefIdeal.τ).loc Cert.SampleRefIdeal.main_arg10) = m ((c.tc : Thread Cert.SampleRefIdeal.nD Cert.SampleRefIdeal.τ).loc Cert.SampleRefIdeal.main_arg10)
      ∧ r.2.mem ((c.tc : Thread Cert.SampleRefIdeal.nD Cert.SampleRefIdeal.τ).loc Cert.SampleRefIdeal.main_arg11) = m ((c.tc : Thread Cert.SampleRefIdeal.nD Cert.SampleRefIdeal.τ).loc Cert.SampleRefIdeal.main_arg11)
      ∧ r.2.mem ((c.tc : Thread Cert.SampleRefIdeal.nD Cert.SampleRefIdeal.τ).loc Cert.SampleRefIdeal.main_arg12) = m ((c.tc : Thread Cert.SampleRefIdeal.nD Cert.SampleRefIdeal.τ).loc Cert.SampleRefIdeal.main_arg12))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Filt [hFilt : Cert.Filt.Facts] : Prop :=
  ∀ (m : (ℓ : Loc Cert.Filt.nD Cert.Filt.τ Cert.Filt.sig) → Buf (Elt Bits) ℓ) (g : Dev Cert.Filt.nD → PrngReg), Pre_Filt m →
    θ_run (Cert.Filt.defs (F := Bits)) (onTc (τ := Cert.Filt.τ) (Cert.Filt.main (F := Bits))) ⟨m, fun _ => 0, g⟩ (fun r => (∀ c : Dev Cert.Filt.nD,
      r.2.mem ((c.tc : Thread Cert.Filt.nD Cert.Filt.τ).loc Cert.Filt.main_arg0) = m ((c.tc : Thread Cert.Filt.nD Cert.Filt.τ).loc Cert.Filt.main_arg0)
      ∧ r.2.mem ((c.tc : Thread Cert.Filt.nD Cert.Filt.τ).loc Cert.Filt.main_arg1) = m ((c.tc : Thread Cert.Filt.nD Cert.Filt.τ).loc Cert.Filt.main_arg1)
      ∧ r.2.mem ((c.tc : Thread Cert.Filt.nD Cert.Filt.τ).loc Cert.Filt.main_arg2) = m ((c.tc : Thread Cert.Filt.nD Cert.Filt.τ).loc Cert.Filt.main_arg2)
      ∧ r.2.mem ((c.tc : Thread Cert.Filt.nD Cert.Filt.τ).loc Cert.Filt.main_arg3) = m ((c.tc : Thread Cert.Filt.nD Cert.Filt.τ).loc Cert.Filt.main_arg3)
      ∧ r.2.mem ((c.tc : Thread Cert.Filt.nD Cert.Filt.τ).loc Cert.Filt.main_arg4) = m ((c.tc : Thread Cert.Filt.nD Cert.Filt.τ).loc Cert.Filt.main_arg4)
      ∧ r.2.mem ((c.tc : Thread Cert.Filt.nD Cert.Filt.τ).loc Cert.Filt.main_arg5) = m ((c.tc : Thread Cert.Filt.nD Cert.Filt.τ).loc Cert.Filt.main_arg5)
      ∧ r.2.mem ((c.tc : Thread Cert.Filt.nD Cert.Filt.τ).loc Cert.Filt.main_arg6) = m ((c.tc : Thread Cert.Filt.nD Cert.Filt.τ).loc Cert.Filt.main_arg6))
      ∧ r.2.sem = fun _ => 0)

def quiescent_FiltIdeal [hFiltIdeal : Cert.FiltIdeal.Facts] : Prop :=
  ∀ (m : (ℓ : Loc Cert.FiltIdeal.nD Cert.FiltIdeal.τ Cert.FiltIdeal.sig) → Buf (Elt Ideal) ℓ) (g : Dev Cert.FiltIdeal.nD → PrngReg), Pre_FiltIdeal m →
    θ_run (Cert.FiltIdeal.defs (F := Ideal)) (onTc (τ := Cert.FiltIdeal.τ) (Cert.FiltIdeal.main (F := Ideal))) ⟨m, fun _ => 0, g⟩ (fun r => (∀ c : Dev Cert.FiltIdeal.nD,
      r.2.mem ((c.tc : Thread Cert.FiltIdeal.nD Cert.FiltIdeal.τ).loc Cert.FiltIdeal.main_arg0) = m ((c.tc : Thread Cert.FiltIdeal.nD Cert.FiltIdeal.τ).loc Cert.FiltIdeal.main_arg0)
      ∧ r.2.mem ((c.tc : Thread Cert.FiltIdeal.nD Cert.FiltIdeal.τ).loc Cert.FiltIdeal.main_arg1) = m ((c.tc : Thread Cert.FiltIdeal.nD Cert.FiltIdeal.τ).loc Cert.FiltIdeal.main_arg1)
      ∧ r.2.mem ((c.tc : Thread Cert.FiltIdeal.nD Cert.FiltIdeal.τ).loc Cert.FiltIdeal.main_arg2) = m ((c.tc : Thread Cert.FiltIdeal.nD Cert.FiltIdeal.τ).loc Cert.FiltIdeal.main_arg2)
      ∧ r.2.mem ((c.tc : Thread Cert.FiltIdeal.nD Cert.FiltIdeal.τ).loc Cert.FiltIdeal.main_arg3) = m ((c.tc : Thread Cert.FiltIdeal.nD Cert.FiltIdeal.τ).loc Cert.FiltIdeal.main_arg3)
      ∧ r.2.mem ((c.tc : Thread Cert.FiltIdeal.nD Cert.FiltIdeal.τ).loc Cert.FiltIdeal.main_arg4) = m ((c.tc : Thread Cert.FiltIdeal.nD Cert.FiltIdeal.τ).loc Cert.FiltIdeal.main_arg4)
      ∧ r.2.mem ((c.tc : Thread Cert.FiltIdeal.nD Cert.FiltIdeal.τ).loc Cert.FiltIdeal.main_arg5) = m ((c.tc : Thread Cert.FiltIdeal.nD Cert.FiltIdeal.τ).loc Cert.FiltIdeal.main_arg5)
      ∧ r.2.mem ((c.tc : Thread Cert.FiltIdeal.nD Cert.FiltIdeal.τ).loc Cert.FiltIdeal.main_arg6) = m ((c.tc : Thread Cert.FiltIdeal.nD Cert.FiltIdeal.τ).loc Cert.FiltIdeal.main_arg6))
      ∧ r.2.sem = fun _ => 0)

def quiescent_FiltIdeal_pre_weights [hFiltIdeal : Cert.FiltIdeal.Facts] [hPre_weights : Cert.Pre_weights.Facts] : Prop :=
  ∀ (m : (ℓ : Loc Cert.FiltIdeal.nD Cert.FiltIdeal.τ Cert.FiltIdeal.sig) → Buf (Elt Ideal) ℓ) (g : Dev Cert.FiltIdeal.nD → PrngReg), Pre_FiltIdeal_weights m →
    θ_run (Cert.FiltIdeal.defs (F := Ideal)) (onTc (τ := Cert.FiltIdeal.τ) (Cert.FiltIdeal.main (F := Ideal))) ⟨m, fun _ => 0, g⟩ (fun r => (∀ c : Dev Cert.FiltIdeal.nD,
      r.2.mem ((c.tc : Thread Cert.FiltIdeal.nD Cert.FiltIdeal.τ).loc Cert.FiltIdeal.main_arg0) = m ((c.tc : Thread Cert.FiltIdeal.nD Cert.FiltIdeal.τ).loc Cert.FiltIdeal.main_arg0)
      ∧ r.2.mem ((c.tc : Thread Cert.FiltIdeal.nD Cert.FiltIdeal.τ).loc Cert.FiltIdeal.main_arg1) = m ((c.tc : Thread Cert.FiltIdeal.nD Cert.FiltIdeal.τ).loc Cert.FiltIdeal.main_arg1)
      ∧ r.2.mem ((c.tc : Thread Cert.FiltIdeal.nD Cert.FiltIdeal.τ).loc Cert.FiltIdeal.main_arg2) = m ((c.tc : Thread Cert.FiltIdeal.nD Cert.FiltIdeal.τ).loc Cert.FiltIdeal.main_arg2)
      ∧ r.2.mem ((c.tc : Thread Cert.FiltIdeal.nD Cert.FiltIdeal.τ).loc Cert.FiltIdeal.main_arg3) = m ((c.tc : Thread Cert.FiltIdeal.nD Cert.FiltIdeal.τ).loc Cert.FiltIdeal.main_arg3)
      ∧ r.2.mem ((c.tc : Thread Cert.FiltIdeal.nD Cert.FiltIdeal.τ).loc Cert.FiltIdeal.main_arg4) = m ((c.tc : Thread Cert.FiltIdeal.nD Cert.FiltIdeal.τ).loc Cert.FiltIdeal.main_arg4)
      ∧ r.2.mem ((c.tc : Thread Cert.FiltIdeal.nD Cert.FiltIdeal.τ).loc Cert.FiltIdeal.main_arg5) = m ((c.tc : Thread Cert.FiltIdeal.nD Cert.FiltIdeal.τ).loc Cert.FiltIdeal.main_arg5)
      ∧ r.2.mem ((c.tc : Thread Cert.FiltIdeal.nD Cert.FiltIdeal.τ).loc Cert.FiltIdeal.main_arg6) = m ((c.tc : Thread Cert.FiltIdeal.nD Cert.FiltIdeal.τ).loc Cert.FiltIdeal.main_arg6))
      ∧ r.2.sem = fun _ => 0)

def quiescent_FiltRefIdeal [hFiltRefIdeal : Cert.FiltRefIdeal.Facts] : Prop :=
  ∀ (m : (ℓ : Loc Cert.FiltRefIdeal.nD Cert.FiltRefIdeal.τ Cert.FiltRefIdeal.sig) → Buf (Elt Ideal) ℓ) (g : Dev Cert.FiltRefIdeal.nD → PrngReg), Pre_FiltRefIdeal m →
    θ_run (Cert.FiltRefIdeal.defs (F := Ideal)) (onTc (τ := Cert.FiltRefIdeal.τ) (Cert.FiltRefIdeal.main (F := Ideal))) ⟨m, fun _ => 0, g⟩ (fun r => (∀ c : Dev Cert.FiltRefIdeal.nD,
      r.2.mem ((c.tc : Thread Cert.FiltRefIdeal.nD Cert.FiltRefIdeal.τ).loc Cert.FiltRefIdeal.main_arg0) = m ((c.tc : Thread Cert.FiltRefIdeal.nD Cert.FiltRefIdeal.τ).loc Cert.FiltRefIdeal.main_arg0)
      ∧ r.2.mem ((c.tc : Thread Cert.FiltRefIdeal.nD Cert.FiltRefIdeal.τ).loc Cert.FiltRefIdeal.main_arg1) = m ((c.tc : Thread Cert.FiltRefIdeal.nD Cert.FiltRefIdeal.τ).loc Cert.FiltRefIdeal.main_arg1)
      ∧ r.2.mem ((c.tc : Thread Cert.FiltRefIdeal.nD Cert.FiltRefIdeal.τ).loc Cert.FiltRefIdeal.main_arg2) = m ((c.tc : Thread Cert.FiltRefIdeal.nD Cert.FiltRefIdeal.τ).loc Cert.FiltRefIdeal.main_arg2)
      ∧ r.2.mem ((c.tc : Thread Cert.FiltRefIdeal.nD Cert.FiltRefIdeal.τ).loc Cert.FiltRefIdeal.main_arg3) = m ((c.tc : Thread Cert.FiltRefIdeal.nD Cert.FiltRefIdeal.τ).loc Cert.FiltRefIdeal.main_arg3)
      ∧ r.2.mem ((c.tc : Thread Cert.FiltRefIdeal.nD Cert.FiltRefIdeal.τ).loc Cert.FiltRefIdeal.main_arg4) = m ((c.tc : Thread Cert.FiltRefIdeal.nD Cert.FiltRefIdeal.τ).loc Cert.FiltRefIdeal.main_arg4)
      ∧ r.2.mem ((c.tc : Thread Cert.FiltRefIdeal.nD Cert.FiltRefIdeal.τ).loc Cert.FiltRefIdeal.main_arg5) = m ((c.tc : Thread Cert.FiltRefIdeal.nD Cert.FiltRefIdeal.τ).loc Cert.FiltRefIdeal.main_arg5)
      ∧ r.2.mem ((c.tc : Thread Cert.FiltRefIdeal.nD Cert.FiltRefIdeal.τ).loc Cert.FiltRefIdeal.main_arg6) = m ((c.tc : Thread Cert.FiltRefIdeal.nD Cert.FiltRefIdeal.τ).loc Cert.FiltRefIdeal.main_arg6))
      ∧ r.2.sem = fun _ => 0)

def quiescent_FiltRefIdeal_pre_weights [hFiltRefIdeal : Cert.FiltRefIdeal.Facts] [hPre_weights : Cert.Pre_weights.Facts] : Prop :=
  ∀ (m : (ℓ : Loc Cert.FiltRefIdeal.nD Cert.FiltRefIdeal.τ Cert.FiltRefIdeal.sig) → Buf (Elt Ideal) ℓ) (g : Dev Cert.FiltRefIdeal.nD → PrngReg), Pre_FiltRefIdeal_weights m →
    θ_run (Cert.FiltRefIdeal.defs (F := Ideal)) (onTc (τ := Cert.FiltRefIdeal.τ) (Cert.FiltRefIdeal.main (F := Ideal))) ⟨m, fun _ => 0, g⟩ (fun r => (∀ c : Dev Cert.FiltRefIdeal.nD,
      r.2.mem ((c.tc : Thread Cert.FiltRefIdeal.nD Cert.FiltRefIdeal.τ).loc Cert.FiltRefIdeal.main_arg0) = m ((c.tc : Thread Cert.FiltRefIdeal.nD Cert.FiltRefIdeal.τ).loc Cert.FiltRefIdeal.main_arg0)
      ∧ r.2.mem ((c.tc : Thread Cert.FiltRefIdeal.nD Cert.FiltRefIdeal.τ).loc Cert.FiltRefIdeal.main_arg1) = m ((c.tc : Thread Cert.FiltRefIdeal.nD Cert.FiltRefIdeal.τ).loc Cert.FiltRefIdeal.main_arg1)
      ∧ r.2.mem ((c.tc : Thread Cert.FiltRefIdeal.nD Cert.FiltRefIdeal.τ).loc Cert.FiltRefIdeal.main_arg2) = m ((c.tc : Thread Cert.FiltRefIdeal.nD Cert.FiltRefIdeal.τ).loc Cert.FiltRefIdeal.main_arg2)
      ∧ r.2.mem ((c.tc : Thread Cert.FiltRefIdeal.nD Cert.FiltRefIdeal.τ).loc Cert.FiltRefIdeal.main_arg3) = m ((c.tc : Thread Cert.FiltRefIdeal.nD Cert.FiltRefIdeal.τ).loc Cert.FiltRefIdeal.main_arg3)
      ∧ r.2.mem ((c.tc : Thread Cert.FiltRefIdeal.nD Cert.FiltRefIdeal.τ).loc Cert.FiltRefIdeal.main_arg4) = m ((c.tc : Thread Cert.FiltRefIdeal.nD Cert.FiltRefIdeal.τ).loc Cert.FiltRefIdeal.main_arg4)
      ∧ r.2.mem ((c.tc : Thread Cert.FiltRefIdeal.nD Cert.FiltRefIdeal.τ).loc Cert.FiltRefIdeal.main_arg5) = m ((c.tc : Thread Cert.FiltRefIdeal.nD Cert.FiltRefIdeal.τ).loc Cert.FiltRefIdeal.main_arg5)
      ∧ r.2.mem ((c.tc : Thread Cert.FiltRefIdeal.nD Cert.FiltRefIdeal.τ).loc Cert.FiltRefIdeal.main_arg6) = m ((c.tc : Thread Cert.FiltRefIdeal.nD Cert.FiltRefIdeal.τ).loc Cert.FiltRefIdeal.main_arg6))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4))
      ∧ r.2.sem = fun _ => 0)

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v33)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v33) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v61) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)
      ∧ m' ((c.tc : Thread Cert.SampleRefIdeal.nD Cert.SampleRefIdeal.τ).loc Cert.SampleRefIdeal.main_arg9) = m ((c.tc : Thread Cert.SampleIdeal.nD Cert.SampleIdeal.τ).loc Cert.SampleIdeal.main_arg9)
      ∧ m' ((c.tc : Thread Cert.SampleRefIdeal.nD Cert.SampleRefIdeal.τ).loc Cert.SampleRefIdeal.main_arg10) = m ((c.tc : Thread Cert.SampleIdeal.nD Cert.SampleIdeal.τ).loc Cert.SampleIdeal.main_arg10)
      ∧ m' ((c.tc : Thread Cert.SampleRefIdeal.nD Cert.SampleRefIdeal.τ).loc Cert.SampleRefIdeal.main_arg11) = m ((c.tc : Thread Cert.SampleIdeal.nD Cert.SampleIdeal.τ).loc Cert.SampleIdeal.main_arg11)
      ∧ m' ((c.tc : Thread Cert.SampleRefIdeal.nD Cert.SampleRefIdeal.τ).loc Cert.SampleRefIdeal.main_arg12) = m ((c.tc : Thread Cert.SampleIdeal.nD Cert.SampleIdeal.τ).loc Cert.SampleIdeal.main_arg12)) →
    ∃ (v0 : (c : Dev Cert.SampleIdeal.nD) → Buf (Elt Ideal) ((c.tc : Thread Cert.SampleIdeal.nD Cert.SampleIdeal.τ).loc Cert.SampleIdeal.main_v33)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v33) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
          ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
          ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v61) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8)
          ∧ r.2.mem ((c.tc : Thread Cert.SampleRefIdeal.nD Cert.SampleRefIdeal.τ).loc Cert.SampleRefIdeal.main_arg9) = m' ((c.tc : Thread Cert.SampleRefIdeal.nD Cert.SampleRefIdeal.τ).loc Cert.SampleRefIdeal.main_arg9)
          ∧ r.2.mem ((c.tc : Thread Cert.SampleRefIdeal.nD Cert.SampleRefIdeal.τ).loc Cert.SampleRefIdeal.main_arg10) = m' ((c.tc : Thread Cert.SampleRefIdeal.nD Cert.SampleRefIdeal.τ).loc Cert.SampleRefIdeal.main_arg10)
          ∧ r.2.mem ((c.tc : Thread Cert.SampleRefIdeal.nD Cert.SampleRefIdeal.τ).loc Cert.SampleRefIdeal.main_arg11) = m' ((c.tc : Thread Cert.SampleRefIdeal.nD Cert.SampleRefIdeal.τ).loc Cert.SampleRefIdeal.main_arg11)
          ∧ r.2.mem ((c.tc : Thread Cert.SampleRefIdeal.nD Cert.SampleRefIdeal.τ).loc Cert.SampleRefIdeal.main_arg12) = m' ((c.tc : Thread Cert.SampleRefIdeal.nD Cert.SampleRefIdeal.τ).loc Cert.SampleRefIdeal.main_arg12))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v45)) (v1 : (c : Dev Cert.ProjIdeal.nD) → Buf (Elt Ideal) ((c.tc : Thread Cert.ProjIdeal.nD Cert.ProjIdeal.τ).loc Cert.ProjIdeal.main_v46)) (v2 : (c : Dev Cert.ProjIdeal.nD) → Buf (Elt Ideal) ((c.tc : Thread Cert.ProjIdeal.nD Cert.ProjIdeal.τ).loc Cert.ProjIdeal.main_v47)) (v3 : (c : Dev Cert.ProjIdeal.nD) → Buf (Elt Ideal) ((c.tc : Thread Cert.ProjIdeal.nD Cert.ProjIdeal.τ).loc Cert.ProjIdeal.main_v48)) (v4 : (c : Dev Cert.ProjIdeal.nD) → Buf (Elt Ideal) ((c.tc : Thread Cert.ProjIdeal.nD Cert.ProjIdeal.τ).loc Cert.ProjIdeal.main_v49)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v45) = v0 c
          ∧ r.2.mem ((c.tc : Thread Cert.ProjIdeal.nD Cert.ProjIdeal.τ).loc Cert.ProjIdeal.main_v46) = v1 c
          ∧ r.2.mem ((c.tc : Thread Cert.ProjIdeal.nD Cert.ProjIdeal.τ).loc Cert.ProjIdeal.main_v47) = v2 c
          ∧ r.2.mem ((c.tc : Thread Cert.ProjIdeal.nD Cert.ProjIdeal.τ).loc Cert.ProjIdeal.main_v48) = v3 c
          ∧ r.2.mem ((c.tc : Thread Cert.ProjIdeal.nD Cert.ProjIdeal.τ).loc Cert.ProjIdeal.main_v49) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v132) = v0 c
          ∧ r.2.mem ((c.tc : Thread Cert.ProjRefIdeal.nD Cert.ProjRefIdeal.τ).loc Cert.ProjRefIdeal.main_v134) = v1 c
          ∧ r.2.mem ((c.tc : Thread Cert.ProjRefIdeal.nD Cert.ProjRefIdeal.τ).loc Cert.ProjRefIdeal.main_v143) = v2 c
          ∧ r.2.mem ((c.tc : Thread Cert.ProjRefIdeal.nD Cert.ProjRefIdeal.τ).loc Cert.ProjRefIdeal.main_v152) = v3 c
          ∧ r.2.mem ((c.tc : Thread Cert.ProjRefIdeal.nD Cert.ProjRefIdeal.τ).loc Cert.ProjRefIdeal.main_v166) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Attn_AttnIdeal : Prop :=
  IdealRules.named_const.Statement Cert.AttnIdeal.κ "mask" .f32 0xF149F2CA#32 ⊥
  ∧ IdealRules.named_const.Statement Cert.AttnIdeal.κ "q_scale" .f32 0x3E38AA3B#32 (((1 / 8) * (Real.log 2)⁻¹ : ℝ) : EReal)
  ∧ IdealRules.named_const.Statement Cert.AttnIdeal.κ "log2e" .f32 0x3FB8AA3B#32 (((Real.log 2)⁻¹ : ℝ) : EReal)

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v28)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v28) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v76) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Filt_FiltIdeal : Prop :=
  True

def algebraic_FiltIdeal_FiltRefIdeal_pre_weights [hFiltIdeal : Cert.FiltIdeal.Facts] [hFiltRefIdeal : Cert.FiltRefIdeal.Facts] [hPre_weights : Cert.Pre_weights.Facts] : Prop :=
  ∀ (m : (ℓ : Loc Cert.FiltIdeal.nD Cert.FiltIdeal.τ Cert.FiltIdeal.sig) → Buf (Elt Ideal) ℓ) (g : Dev Cert.FiltIdeal.nD → PrngReg)
    (m' : (ℓ : Loc Cert.FiltRefIdeal.nD Cert.FiltRefIdeal.τ Cert.FiltRefIdeal.sig) → Buf (Elt Ideal) ℓ) (g' : Dev Cert.FiltRefIdeal.nD → PrngReg), Pre_FiltIdeal_weights m →
    (∀ c : Dev Cert.FiltIdeal.nD,
      m' ((c.tc : Thread Cert.FiltRefIdeal.nD Cert.FiltRefIdeal.τ).loc Cert.FiltRefIdeal.main_arg0) = m ((c.tc : Thread Cert.FiltIdeal.nD Cert.FiltIdeal.τ).loc Cert.FiltIdeal.main_arg0)
      ∧ m' ((c.tc : Thread Cert.FiltRefIdeal.nD Cert.FiltRefIdeal.τ).loc Cert.FiltRefIdeal.main_arg1) = m ((c.tc : Thread Cert.FiltIdeal.nD Cert.FiltIdeal.τ).loc Cert.FiltIdeal.main_arg1)
      ∧ m' ((c.tc : Thread Cert.FiltRefIdeal.nD Cert.FiltRefIdeal.τ).loc Cert.FiltRefIdeal.main_arg2) = m ((c.tc : Thread Cert.FiltIdeal.nD Cert.FiltIdeal.τ).loc Cert.FiltIdeal.main_arg2)
      ∧ m' ((c.tc : Thread Cert.FiltRefIdeal.nD Cert.FiltRefIdeal.τ).loc Cert.FiltRefIdeal.main_arg3) = m ((c.tc : Thread Cert.FiltIdeal.nD Cert.FiltIdeal.τ).loc Cert.FiltIdeal.main_arg3)
      ∧ m' ((c.tc : Thread Cert.FiltRefIdeal.nD Cert.FiltRefIdeal.τ).loc Cert.FiltRefIdeal.main_arg4) = m ((c.tc : Thread Cert.FiltIdeal.nD Cert.FiltIdeal.τ).loc Cert.FiltIdeal.main_arg4)
      ∧ m' ((c.tc : Thread Cert.FiltRefIdeal.nD Cert.FiltRefIdeal.τ).loc Cert.FiltRefIdeal.main_arg5) = m ((c.tc : Thread Cert.FiltIdeal.nD Cert.FiltIdeal.τ).loc Cert.FiltIdeal.main_arg5)
      ∧ m' ((c.tc : Thread Cert.FiltRefIdeal.nD Cert.FiltRefIdeal.τ).loc Cert.FiltRefIdeal.main_arg6) = m ((c.tc : Thread Cert.FiltIdeal.nD Cert.FiltIdeal.τ).loc Cert.FiltIdeal.main_arg6)) →
    ∃ (v0 : (c : Dev Cert.FiltIdeal.nD) → Buf (Elt Ideal) ((c.tc : Thread Cert.FiltIdeal.nD Cert.FiltIdeal.τ).loc Cert.FiltIdeal.main_v52_0)) (v1 : (c : Dev Cert.FiltIdeal.nD) → Buf (Elt Ideal) ((c.tc : Thread Cert.FiltIdeal.nD Cert.FiltIdeal.τ).loc Cert.FiltIdeal.main_v52_1)),
      θ_run (Cert.FiltIdeal.defs (F := Ideal)) (onTc (τ := Cert.FiltIdeal.τ) (Cert.FiltIdeal.main (F := Ideal))) ⟨m, fun _ => 0, g⟩ (fun r => ∀ c : Dev Cert.FiltIdeal.nD,
          r.2.mem ((c.tc : Thread Cert.FiltIdeal.nD Cert.FiltIdeal.τ).loc Cert.FiltIdeal.main_v52_0) = v0 c
          ∧ r.2.mem ((c.tc : Thread Cert.FiltIdeal.nD Cert.FiltIdeal.τ).loc Cert.FiltIdeal.main_v52_1) = v1 c
          ∧ r.2.mem ((c.tc : Thread Cert.FiltIdeal.nD Cert.FiltIdeal.τ).loc Cert.FiltIdeal.main_arg0) = m ((c.tc : Thread Cert.FiltIdeal.nD Cert.FiltIdeal.τ).loc Cert.FiltIdeal.main_arg0)
          ∧ r.2.mem ((c.tc : Thread Cert.FiltIdeal.nD Cert.FiltIdeal.τ).loc Cert.FiltIdeal.main_arg1) = m ((c.tc : Thread Cert.FiltIdeal.nD Cert.FiltIdeal.τ).loc Cert.FiltIdeal.main_arg1)
          ∧ r.2.mem ((c.tc : Thread Cert.FiltIdeal.nD Cert.FiltIdeal.τ).loc Cert.FiltIdeal.main_arg2) = m ((c.tc : Thread Cert.FiltIdeal.nD Cert.FiltIdeal.τ).loc Cert.FiltIdeal.main_arg2)
          ∧ r.2.mem ((c.tc : Thread Cert.FiltIdeal.nD Cert.FiltIdeal.τ).loc Cert.FiltIdeal.main_arg3) = m ((c.tc : Thread Cert.FiltIdeal.nD Cert.FiltIdeal.τ).loc Cert.FiltIdeal.main_arg3)
          ∧ r.2.mem ((c.tc : Thread Cert.FiltIdeal.nD Cert.FiltIdeal.τ).loc Cert.FiltIdeal.main_arg4) = m ((c.tc : Thread Cert.FiltIdeal.nD Cert.FiltIdeal.τ).loc Cert.FiltIdeal.main_arg4)
          ∧ r.2.mem ((c.tc : Thread Cert.FiltIdeal.nD Cert.FiltIdeal.τ).loc Cert.FiltIdeal.main_arg5) = m ((c.tc : Thread Cert.FiltIdeal.nD Cert.FiltIdeal.τ).loc Cert.FiltIdeal.main_arg5)
          ∧ r.2.mem ((c.tc : Thread Cert.FiltIdeal.nD Cert.FiltIdeal.τ).loc Cert.FiltIdeal.main_arg6) = m ((c.tc : Thread Cert.FiltIdeal.nD Cert.FiltIdeal.τ).loc Cert.FiltIdeal.main_arg6))
      ∧ θ_run (Cert.FiltRefIdeal.defs (F := Ideal)) (onTc (τ := Cert.FiltRefIdeal.τ) (Cert.FiltRefIdeal.main (F := Ideal))) ⟨m', fun _ => 0, g'⟩ (fun r => ∀ c : Dev Cert.FiltRefIdeal.nD,
          r.2.mem ((c.tc : Thread Cert.FiltRefIdeal.nD Cert.FiltRefIdeal.τ).loc Cert.FiltRefIdeal.main_v69) = v0 c
          ∧ r.2.mem ((c.tc : Thread Cert.FiltRefIdeal.nD Cert.FiltRefIdeal.τ).loc Cert.FiltRefIdeal.main_v71) = v1 c
          ∧ r.2.mem ((c.tc : Thread Cert.FiltRefIdeal.nD Cert.FiltRefIdeal.τ).loc Cert.FiltRefIdeal.main_arg0) = m' ((c.tc : Thread Cert.FiltRefIdeal.nD Cert.FiltRefIdeal.τ).loc Cert.FiltRefIdeal.main_arg0)
          ∧ r.2.mem ((c.tc : Thread Cert.FiltRefIdeal.nD Cert.FiltRefIdeal.τ).loc Cert.FiltRefIdeal.main_arg1) = m' ((c.tc : Thread Cert.FiltRefIdeal.nD Cert.FiltRefIdeal.τ).loc Cert.FiltRefIdeal.main_arg1)
          ∧ r.2.mem ((c.tc : Thread Cert.FiltRefIdeal.nD Cert.FiltRefIdeal.τ).loc Cert.FiltRefIdeal.main_arg2) = m' ((c.tc : Thread Cert.FiltRefIdeal.nD Cert.FiltRefIdeal.τ).loc Cert.FiltRefIdeal.main_arg2)
          ∧ r.2.mem ((c.tc : Thread Cert.FiltRefIdeal.nD Cert.FiltRefIdeal.τ).loc Cert.FiltRefIdeal.main_arg3) = m' ((c.tc : Thread Cert.FiltRefIdeal.nD Cert.FiltRefIdeal.τ).loc Cert.FiltRefIdeal.main_arg3)
          ∧ r.2.mem ((c.tc : Thread Cert.FiltRefIdeal.nD Cert.FiltRefIdeal.τ).loc Cert.FiltRefIdeal.main_arg4) = m' ((c.tc : Thread Cert.FiltRefIdeal.nD Cert.FiltRefIdeal.τ).loc Cert.FiltRefIdeal.main_arg4)
          ∧ r.2.mem ((c.tc : Thread Cert.FiltRefIdeal.nD Cert.FiltRefIdeal.τ).loc Cert.FiltRefIdeal.main_arg5) = m' ((c.tc : Thread Cert.FiltRefIdeal.nD Cert.FiltRefIdeal.τ).loc Cert.FiltRefIdeal.main_arg5)
          ∧ r.2.mem ((c.tc : Thread Cert.FiltRefIdeal.nD Cert.FiltRefIdeal.τ).loc Cert.FiltRefIdeal.main_arg6) = m' ((c.tc : Thread Cert.FiltRefIdeal.nD Cert.FiltRefIdeal.τ).loc Cert.FiltRefIdeal.main_arg6))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)) →
    ∃ (v0 : (c : Dev Cert.TailIdeal.nD) → Buf (Elt Ideal) ((c.tc : Thread Cert.TailIdeal.nD Cert.TailIdeal.τ).loc Cert.TailIdeal.main_v45)) (v1 : (c : Dev Cert.TailIdeal.nD) → Buf (Elt Ideal) ((c.tc : Thread Cert.TailIdeal.nD Cert.TailIdeal.τ).loc Cert.TailIdeal.main_v46)) (v2 : (c : Dev Cert.TailIdeal.nD) → Buf (Elt Ideal) ((c.tc : Thread Cert.TailIdeal.nD Cert.TailIdeal.τ).loc Cert.TailIdeal.main_v47)) (v3 : (c : Dev Cert.TailIdeal.nD) → Buf (Elt Ideal) ((c.tc : Thread Cert.TailIdeal.nD Cert.TailIdeal.τ).loc Cert.TailIdeal.main_v48)) (v4 : (c : Dev Cert.TailIdeal.nD) → Buf (Elt Ideal) ((c.tc : Thread Cert.TailIdeal.nD Cert.TailIdeal.τ).loc Cert.TailIdeal.main_v49)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v45) = v0 c
          ∧ r.2.mem ((c.tc : Thread Cert.TailIdeal.nD Cert.TailIdeal.τ).loc Cert.TailIdeal.main_v46) = v1 c
          ∧ r.2.mem ((c.tc : Thread Cert.TailIdeal.nD Cert.TailIdeal.τ).loc Cert.TailIdeal.main_v47) = v2 c
          ∧ r.2.mem ((c.tc : Thread Cert.TailIdeal.nD Cert.TailIdeal.τ).loc Cert.TailIdeal.main_v48) = v3 c
          ∧ r.2.mem ((c.tc : Thread Cert.TailIdeal.nD Cert.TailIdeal.τ).loc Cert.TailIdeal.main_v49) = v4 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v132) = v0 c
          ∧ r.2.mem ((c.tc : Thread Cert.TailRefIdeal.nD Cert.TailRefIdeal.τ).loc Cert.TailRefIdeal.main_v134) = v1 c
          ∧ r.2.mem ((c.tc : Thread Cert.TailRefIdeal.nD Cert.TailRefIdeal.τ).loc Cert.TailRefIdeal.main_v143) = v2 c
          ∧ r.2.mem ((c.tc : Thread Cert.TailRefIdeal.nD Cert.TailRefIdeal.τ).loc Cert.TailRefIdeal.main_v152) = v3 c
          ∧ r.2.mem ((c.tc : Thread Cert.TailRefIdeal.nD Cert.TailRefIdeal.τ).loc Cert.TailRefIdeal.main_v166) = v4 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4))

def Claim : Prop :=
  ∃ (hMix : Cert.Mix.Facts) (hMixIdeal : Cert.MixIdeal.Facts) (hMixRefIdeal : Cert.MixRefIdeal.Facts) (hSample : Cert.Sample.Facts) (hSampleIdeal : Cert.SampleIdeal.Facts) (hSampleRefIdeal : Cert.SampleRefIdeal.Facts) (hProj : Cert.Proj.Facts) (hProjIdeal : Cert.ProjIdeal.Facts) (hProjRefIdeal : Cert.ProjRefIdeal.Facts) (hAttn : Cert.Attn.Facts) (hAttnIdeal : Cert.AttnIdeal.Facts) (hAttnRefIdeal : Cert.AttnRefIdeal.Facts) (hFilt : Cert.Filt.Facts) (hFiltIdeal : Cert.FiltIdeal.Facts) (hFiltRefIdeal : Cert.FiltRefIdeal.Facts) (hTail : Cert.Tail.Facts) (hTailIdeal : Cert.TailIdeal.Facts) (hTailRefIdeal : Cert.TailRefIdeal.Facts) (hPre_finite : Cert.Pre_finite.Facts) (hPre_weights : Cert.Pre_weights.Facts),
    quiescent_Mix (hMix := hMix)
    ∧ quiescent_MixIdeal (hMixIdeal := hMixIdeal)
    ∧ quiescent_MixRefIdeal (hMixRefIdeal := hMixRefIdeal)
    ∧ quiescent_Sample (hSample := hSample)
    ∧ quiescent_SampleIdeal (hSampleIdeal := hSampleIdeal)
    ∧ quiescent_SampleRefIdeal (hSampleRefIdeal := hSampleRefIdeal)
    ∧ quiescent_Proj (hProj := hProj)
    ∧ quiescent_ProjIdeal (hProjIdeal := hProjIdeal)
    ∧ quiescent_ProjRefIdeal (hProjRefIdeal := hProjRefIdeal)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Filt (hFilt := hFilt)
    ∧ quiescent_FiltIdeal (hFiltIdeal := hFiltIdeal)
    ∧ quiescent_FiltIdeal_pre_weights (hFiltIdeal := hFiltIdeal) (hPre_weights := hPre_weights)
    ∧ quiescent_FiltRefIdeal (hFiltRefIdeal := hFiltRefIdeal)
    ∧ quiescent_FiltRefIdeal_pre_weights (hFiltRefIdeal := hFiltRefIdeal) (hPre_weights := hPre_weights)
    ∧ quiescent_Tail (hTail := hTail)
    ∧ quiescent_TailIdeal (hTailIdeal := hTailIdeal)
    ∧ quiescent_TailRefIdeal (hTailRefIdeal := hTailRefIdeal)
    ∧ preserves_Mix_MixIdeal
    ∧ algebraic_MixIdeal_MixRefIdeal (hMixIdeal := hMixIdeal) (hMixRefIdeal := hMixRefIdeal)
    ∧ preserves_Sample_SampleIdeal
    ∧ algebraic_SampleIdeal_SampleRefIdeal (hSampleIdeal := hSampleIdeal) (hSampleRefIdeal := hSampleRefIdeal)
    ∧ preserves_Proj_ProjIdeal
    ∧ algebraic_ProjIdeal_ProjRefIdeal (hProjIdeal := hProjIdeal) (hProjRefIdeal := hProjRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Filt_FiltIdeal
    ∧ algebraic_FiltIdeal_FiltRefIdeal_pre_weights (hFiltIdeal := hFiltIdeal) (hFiltRefIdeal := hFiltRefIdeal) (hPre_weights := hPre_weights)
    ∧ preserves_Tail_TailIdeal
    ∧ algebraic_TailIdeal_TailRefIdeal (hTailIdeal := hTailIdeal) (hTailRefIdeal := hTailRefIdeal)
-- ==== Pre_finite.lean ====
abbrev S8 : Shape := ⟨1, ![8]⟩
abbrev S12x4096x8x64 : Shape := ⟨4, ![12, 4096, 8, 64]⟩
abbrev S12x4096x2x64 : Shape := ⟨4, ![12, 4096, 2, 64]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S12x4096x8x64 : S_.BroadcastsInDim S12x4096x8x64 (![] : Fin 0 → Fin S12x4096x8x64.rank)
  reducesTo_S12x4096x8x64_S_d0_1_2_3 : S12x4096x8x64.ReducesTo [0, 1, 2, 3] S_
  bcast_S_S12x4096x2x64 : S_.BroadcastsInDim S12x4096x2x64 (![] : Fin 0 → Fin S12x4096x2x64.rank)
  reducesTo_S12x4096x2x64_S_d0_1_2_3 : S12x4096x2x64.ReducesTo [0, 1, 2, 3] S_

variable [Facts]

def fn {F : FTy → Type} [FloatOps F] (main_arg0 : FVec F S8 .f32) (main_arg1 : FVec F S12x4096x8x64 .f32) (main_arg2 : FVec F S12x4096x2x64 .f32) (main_arg3 : FVec F S12x4096x2x64 .f32) : IVec S_ 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S12x4096x8x64 .f32 := Host.absf main_arg1
  let main_cst_0 : FVec F S_ .f32 := constant S_ .f32 0x7F800000#32
  let main_v5 : FVec F S12x4096x8x64 .f32 := broadcastInDim S12x4096x8x64 ![] bcast_S_S12x4096x8x64 main_cst_0
  let main_v6 : IVec S12x4096x8x64 1 := cmpf .olt main_v4 main_v5
  let main_c_1 : IVec S_ 1 := constantI S_ 1 1#1
  let main_v7 : IVec S_ 1 := (fun x v => Host.reduce IntOp.andi x v reducesTo_S12x4096x8x64_S_d0_1_2_3 h_S_) main_v6 main_c_1
  let main_v8 : IVec S_ 1 := andi main_v3 main_v7
  let main_v9 : FVec F S12x4096x2x64 .f32 := Host.absf main_arg2
  let main_cst_2 : FVec F S_ .f32 := constant S_ .f32 0x7F800000#32
  let main_v10 : FVec F S12x4096x2x64 .f32 := broadcastInDim S12x4096x2x64 ![] bcast_S_S12x4096x2x64 main_cst_2
  let main_v11 : IVec S12x4096x2x64 1 := cmpf .olt main_v9 main_v10
  let main_c_3 : IVec S_ 1 := constantI S_ 1 1#1
  let main_v12 : IVec S_ 1 := (fun x v => Host.reduce IntOp.andi x v reducesTo_S12x4096x2x64_S_d0_1_2_3 h_S_) main_v11 main_c_3
  let main_v13 : IVec S_ 1 := andi main_v8 main_v12
  main_v13
-- ==== Pre_weights.lean ====
abbrev S1x33x64 : Shape := ⟨3, ![1, 33, 64]⟩
abbrev S1x64 : Shape := ⟨2, ![1, 64]⟩
abbrev S1x2x64x64 : Shape := ⟨4, ![1, 2, 64, 64]⟩
abbrev S1x2x64 : Shape := ⟨3, ![1, 2, 64]⟩
abbrev S1x64x2048 : Shape := ⟨3, ![1, 64, 2048]⟩
abbrev S1x1024x4352 : Shape := ⟨3, ![1, 1024, 4352]⟩
abbrev S_ : Shape := ⟨0, ![]⟩

class Facts : Prop where
  bcast_S_S1x64x2048 : S_.BroadcastsInDim S1x64x2048 (![] : Fin 0 → Fin S1x64x2048.rank)
  reducesTo_S1x64x2048_S_d0_1_2 : S1x64x2048.ReducesTo [0, 1, 2] S_
  h_S_ : 0 < S_.numel

variable [Facts]

def fn {F : FTy → Type} [FloatOps F] (main_arg0 : FVec F S1x33x64 .f32) (main_arg1 : FVec F S1x64 .f32) (main_arg2 : FVec F S1x2x64x64 .f32) (main_arg3 : FVec F S1x2x64 .f32) (main_arg4 : FVec F S1x64x2048 .f32) (main_arg5 : FVec F S1x64 .f32) (main_arg6 : FVec F S1x1024x4352 .f32) : IVec S_ 1 :=
  let main_v0 : FVec F S1x64x2048 .f32 := Host.absf main_arg4
  let main_cst : FVec F S_ .f32 := constant S_ .f32 0x7F800000#32
  let main_v1 : FVec F S1x64x2048 .f32 := broadcastInDim S1x64x2048 ![] bcast_S_S1x64x2048 main_cst
  let main_v2 : IVec S1x64x2048 1 := cmpf .olt main_v0 main_v1
  let main_c : IVec S_ 1 := constantI S_ 1 1#1
  let main_v3 : IVec S_ 1 := (fun x v => Host.reduce IntOp.andi x v reducesTo_S1x64x2048_S_d0_1_2 h_S_) main_v2 main_c
  main_v3
-- ==== Mix.lean ====
abbrev S8x4096x1024 : Shape := ⟨3, ![8, 4096, 1024]⟩
abbrev S12x4096x512 : Shape := ⟨3, ![12, 4096, 512]⟩
abbrev S12x4096x1024 : Shape := ⟨3, ![12, 4096, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S12x4096x4x128 : Shape := ⟨4, ![12, 4096, 4, 128]⟩
abbrev S12x4x4096x128 : Shape := ⟨4, ![12, 4, 4096, 128]⟩
abbrev S_ : Shape := ⟨0, ![]⟩
abbrev S12x4096x2048 : Shape := ⟨3, ![12, 4096, 2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S1x4x512x128 : Shape := ⟨4, ![1, 4, 512, 128]⟩
abbrev S1x512x512 : Shape := ⟨3, ![1, 512, 512]⟩
abbrev S1x512x2048 : Shape := ⟨3, ![1, 512, 2048]⟩
abbrev S1x1x256x128 : Shape := ⟨4, ![1, 1, 256, 128]⟩
abbrev S256x128 : Shape := ⟨2, ![256, 128]⟩
abbrev S256x512 : Shape := ⟨2, ![256, 512]⟩
abbrev S256x1024 : Shape := ⟨2, ![256, 1024]⟩
abbrev S1x256x512 : Shape := ⟨3, ![1, 256, 512]⟩
abbrev S1x256x1024 : Shape := ⟨3, ![1, 256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 51
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S12x4096x512, .f32⟩
  | .hbm, ⟨2, _⟩ => ⟨S12x4096x512, .f32⟩
  | .hbm, ⟨3, _⟩ => ⟨S12x4096x1024, .f32⟩
  | .hbm, ⟨4, _⟩ => ⟨S12x4096x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S12x4096x4x128, .f32⟩
  | .hbm, ⟨14, _⟩ => ⟨S12x4x4096x128, .f32⟩
  | .hbm, ⟨15, _⟩ => ⟨S12x4x4096x128, .bf16⟩
  | .hbm, ⟨16, _⟩ => ⟨S12x4096x1024, .f32⟩
  | .hbm, ⟨17, _⟩ => ⟨S12x4096x1024, .f32⟩
  | .hbm, ⟨18, _⟩ => ⟨S_, .f32⟩
  | .hbm, ⟨19, _⟩ => ⟨S12x4096x1024, .f32⟩
  | .hbm, ⟨20, _⟩ => ⟨S12x4096x1024, .f32⟩
  | .hbm, ⟨21, _⟩ => ⟨S_, .f32⟩
  | .hbm, ⟨22, _⟩ => ⟨S12x4096x1024, .f32⟩
  | .hbm, ⟨23, _⟩ => ⟨S12x4096x1024, .f32⟩
  | .hbm, ⟨24, _⟩ => ⟨S12x4096x1024, .f32⟩
  | .hbm, ⟨25, _⟩ => ⟨S12x4096x1024, .f32⟩
  | .hbm, ⟨26, _⟩ => ⟨S_, .f32⟩
  | .hbm, ⟨27, _⟩ => ⟨S12x4096x1024, .f32⟩
  | .hbm, ⟨28, _⟩ => ⟨S12x4096x1024, .f32⟩
  | .hbm, ⟨29, _⟩ => ⟨S_, .f32⟩
  | .hbm, ⟨30, _⟩ => ⟨S12x4096x1024, .f32⟩
  | .hbm, ⟨31, _⟩ => ⟨S12x4096x1024, .f32⟩
  | .hbm, ⟨32, _⟩ => ⟨S12x4096x2048, .f32⟩
  | .hbm, ⟨33, _⟩ => ⟨S12x4096x2048, .bf16⟩
  | .hbm, ⟨34, _⟩ => ⟨S512x1024, .f32⟩
  | .hbm, ⟨35, _⟩ => ⟨S512x1024, .bf16⟩
  | .hbm, ⟨36, _⟩ => ⟨S512x1024, .f32⟩
  | .hbm, ⟨37, _⟩ => ⟨S512x1024, .bf16⟩
  | .hbm, ⟨38, _⟩ => ⟨S1024x1024, .f32⟩
  | .hbm, ⟨39, _⟩ => ⟨S1024x1024, .bf16⟩
  | .hbm, ⟨40, _⟩ => ⟨S1024x2816, .f32⟩
  | .hbm, ⟨41, _⟩ => ⟨S1024x2816, .bf16⟩
  | .hbm, ⟨42, _⟩ => ⟨S1024x2816, .f32⟩
  | .hbm, ⟨43, _⟩ => ⟨S1024x2816, .bf16⟩
  | .hbm, ⟨44, _⟩ => ⟨S2816x1024, .f32⟩
  | .hbm, ⟨45, _⟩ => ⟨S2816x1024, .bf16⟩
  | .hbm, ⟨46, _⟩ => ⟨S12x4096x512, .bf16⟩
  | .hbm, ⟨47, _⟩ => ⟨S1024, .f32⟩
  | .hbm, ⟨48, _⟩ => ⟨S1x1024, .f32⟩
  | .hbm, ⟨49, _⟩ => ⟨S1x1024, .f32⟩
  | .hbm, ⟨50, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x4x512x128, .bf16⟩
  | .local _ .vmem, ⟨3, _⟩ => ⟨S1x4x512x128, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, arg1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MixRefIdeal.lean ====
abbrev S8x4096x1024 : Shape := ⟨3, ![8, 4096, 1024]⟩
abbrev S12x4096x512 : Shape := ⟨3, ![12, 4096, 512]⟩
abbrev S12x4096x1024 : Shape := ⟨3, ![12, 4096, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S8x4096x512 : Shape := ⟨3, ![8, 4096, 512]⟩
abbrev S_ : Shape := ⟨0, ![]⟩
abbrev S512x1024 : Shape := ⟨2, ![512, 1024]⟩
abbrev S1024x1024 : Shape := ⟨2, ![1024, 1024]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S8x4096x2816 : Shape := ⟨3, ![8, 4096, 2816]⟩
abbrev S2816x1024 : Shape := ⟨2, ![2816, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S12x4096x512, .f32⟩
  | .hbm, ⟨2, _⟩ => ⟨S12x4096x512, .f32⟩
  | .hbm, ⟨3, _⟩ => ⟨S12x4096x1024, .f32⟩
  | .hbm, ⟨4, _⟩ => ⟨S12x4096x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S8x4096x512, .f32⟩
  | .hbm, ⟨14, _⟩ => ⟨S8x4096x512, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096x1024, .f32⟩
  | .hbm, ⟨24, _⟩ => ⟨S8x4096x1024, .f32⟩
  | .hbm, ⟨25, _⟩ => ⟨S512x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096x1024, .f32⟩
  | .hbm, ⟨35, _⟩ => ⟨S8x4096x1024, .f32⟩
  | .hbm, ⟨36, _⟩ => ⟨S512x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S1024x1024, .f32⟩
  | .hbm, ⟨41, _⟩ => ⟨S8x4096x1024, .f32⟩
  | .hbm, ⟨42, _⟩ => ⟨S8x4096x1024, .f32⟩
  | .hbm, ⟨43, _⟩ => ⟨S1024, .f32⟩
  | .hbm, ⟨44, _⟩ => ⟨S8x4096x1024, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1, .f32⟩
  | .hbm, ⟨55, _⟩ => ⟨S8x4096x1024, .f32⟩
  | .hbm, ⟨56, _⟩ => ⟨S8x4096x1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | .hbm, ⟨60, _⟩ => ⟨S1024x2816, .f32⟩
  | .hbm, ⟨61, _⟩ => ⟨S8x4096x2816, .f32⟩
  | .hbm, ⟨62, _⟩ => ⟨S8x4096x2816, .f32⟩
  | .hbm, ⟨63, _⟩ => ⟨S8x4096x2816, .f32⟩
  | .hbm, ⟨64, _⟩ => ⟨S_, .f32⟩
  | .hbm, ⟨65, _⟩ => ⟨S8x4096x2816, .f32⟩
  | .hbm, ⟨66, _⟩ => ⟨S8x4096x2816, .f32⟩
  | .hbm, ⟨67, _⟩ => ⟨S_, .f32⟩
  | .hbm, ⟨68, _⟩ => ⟨S8x4096x2816, .f32⟩
  | .hbm, ⟨69, _⟩ => ⟨S8x4096x2816, .f32⟩
  | .hbm, ⟨70, _⟩ => ⟨S8x4096x2816, .f32⟩
  | .hbm, ⟨71, _⟩ => ⟨S1024x2816, .f32⟩
  | .hbm, ⟨72, _⟩ => ⟨S8x4096x2816, .f32⟩
  | .hbm, ⟨73, _⟩ => ⟨S8x4096x2816, .f32⟩
  | .hbm, ⟨74, _⟩ => ⟨S2816x1024, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S_, .f32⟩
  | .hbm, ⟨79, _⟩ => ⟨S8x4096, .f32⟩
  | .hbm, ⟨80, _⟩ => ⟨S8x4096x1, .f32⟩
  | .hbm, ⟨81, _⟩ => ⟨S_, .f32⟩
  | .hbm, ⟨82, _⟩ => ⟨S8x4096x1, .f32⟩
  | .hbm, ⟨83, _⟩ => ⟨S8x4096x1, .f32⟩
  | .hbm, ⟨84, _⟩ => ⟨S_, .f32⟩
  | .hbm, ⟨85, _⟩ => ⟨S8x4096x1, .f32⟩
  | .hbm, ⟨86, _⟩ => ⟨S8x4096x1, .f32⟩
  | .hbm, ⟨87, _⟩ => ⟨S8x4096x1, .f32⟩
  | .hbm, ⟨88, _⟩ => ⟨S8x4096x1024, .f32⟩
  | .hbm, ⟨89, _⟩ => ⟨S8x4096x1024, .f32⟩
  | .hbm, ⟨90, _⟩ => ⟨S1x1x1024, .f32⟩
  | .hbm, ⟨91, _⟩ => ⟨S8x4096x1024, .f32⟩
  | .hbm, ⟨92, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== Sample.lean ====
abbrev S4x4096x1024 : Shape := ⟨3, ![4, 4096, 1024]⟩
abbrev S12x4096x512 : Shape := ⟨3, ![12, 4096, 512]⟩
abbrev S12x4096x1024 : Shape := ⟨3, ![12, 4096, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S12x4096x4x128 : Shape := ⟨4, ![12, 4096, 4, 128]⟩
abbrev S12x4x4096x128 : Shape := ⟨4, ![12, 4, 4096, 128]⟩
abbrev S_ : Shape := ⟨0, ![]⟩
abbrev S12x4096x2048 : Shape := ⟨3, ![12, 4096, 2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S1x4x512x128 : Shape := ⟨4, ![1, 4, 512, 128]⟩
abbrev S1x512x512 : Shape := ⟨3, ![1, 512, 512]⟩
abbrev S1x512x2048 : Shape := ⟨3, ![1, 512, 2048]⟩
abbrev S1x1x256x128 : Shape := ⟨4, ![1, 1, 256, 128]⟩
abbrev S256x128 : Shape := ⟨2, ![256, 128]⟩
abbrev S256x512 : Shape := ⟨2, ![256, 512]⟩
abbrev S256x1024 : Shape := ⟨2, ![256, 1024]⟩
abbrev S1x256x512 : Shape := ⟨3, ![1, 256, 512]⟩
abbrev S1x256x1024 : Shape := ⟨3, ![1, 256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩

abbrev nBuf : Space → Nat
  | .hbm => 51
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S12x4096x512, .f32⟩
  | .hbm, ⟨2, _⟩ => ⟨S12x4096x512, .f32⟩
  | .hbm, ⟨3, _⟩ => ⟨S12x4096x1024, .f32⟩
  | .hbm, ⟨4, _⟩ => ⟨S12x4096x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S12x4096x4x128, .f32⟩
  | .hbm, ⟨14, _⟩ => ⟨S12x4x4096x128, .f32⟩
  | .hbm, ⟨15, _⟩ => ⟨S12x4x4096x128, .bf16⟩
  | .hbm, ⟨16, _⟩ => ⟨S12x4096x1024, .f32⟩
  | .hbm, ⟨17, _⟩ => ⟨S12x4096x1024, .f32⟩
  | .hbm, ⟨18, _⟩ => ⟨S_, .f32⟩
  | .hbm, ⟨19, _⟩ => ⟨S12x4096x1024, .f32⟩
  | .hbm, ⟨20, _⟩ => ⟨S12x4096x1024, .f32⟩
  | .hbm, ⟨21, _⟩ => ⟨S_, .f32⟩
  | .hbm, ⟨22, _⟩ => ⟨S12x4096x1024, .f32⟩
  | .hbm, ⟨23, _⟩ => ⟨S12x4096x1024, .f32⟩
  | .hbm, ⟨24, _⟩ => ⟨S12x4096x1024, .f32⟩
  | .hbm, ⟨25, _⟩ => ⟨S12x4096x1024, .f32⟩
  | .hbm, ⟨26, _⟩ => ⟨S_, .f32⟩
  | .hbm, ⟨27, _⟩ => ⟨S12x4096x1024, .f32⟩
  | .hbm, ⟨28, _⟩ => ⟨S12x4096x1024, .f32⟩
  | .hbm, ⟨29, _⟩ => ⟨S_, .f32⟩
  | .hbm, ⟨30, _⟩ => ⟨S12x4096x1024, .f32⟩
  | .hbm, ⟨31, _⟩ => ⟨S12x4096x1024, .f32⟩
  | .hbm, ⟨32, _⟩ => ⟨S12x4096x2048, .f32⟩
  | .hbm, ⟨33, _⟩ => ⟨S12x4096x2048, .bf16⟩
  | .hbm, ⟨34, _⟩ => ⟨S512x1024, .f32⟩
  | .hbm, ⟨35, _⟩ => ⟨S512x1024, .bf16⟩
  | .hbm, ⟨36, _⟩ => ⟨S512x1024, .f32⟩
  | .hbm, ⟨37, _⟩ => ⟨S512x1024, .bf16⟩
  | .hbm, ⟨38, _⟩ => ⟨S1024x1024, .f32⟩
  | .hbm, ⟨39, _⟩ => ⟨S1024x1024, .bf16⟩
  | .hbm, ⟨40, _⟩ => ⟨S1024x2816, .f32⟩
  | .hbm, ⟨41, _⟩ => ⟨S1024x2816, .bf16⟩
  | .hbm, ⟨42, _⟩ => ⟨S1024x2816, .f32⟩
  | .hbm, ⟨43, _⟩ => ⟨S1024x2816, .bf16⟩
  | .hbm, ⟨44, _⟩ => ⟨S2816x1024, .f32⟩
  | .hbm, ⟨45, _⟩ => ⟨S2816x1024, .bf16⟩
  | .hbm, ⟨46, _⟩ => ⟨S12x4096x512, .bf16⟩
  | .hbm, ⟨47, _⟩ => ⟨S1024, .f32⟩
  | .hbm, ⟨48, _⟩ => ⟨S1x1024, .f32⟩
  | .hbm, ⟨49, _⟩ => ⟨S1x1024, .f32⟩
  | .hbm, ⟨50, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x4x512x128, .bf16⟩
  | .local _ .vmem, ⟨3, _⟩ => ⟨S1x4x512x128, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== SampleRefIdeal.lean ====
abbrev S4x4096x1024 : Shape := ⟨3, ![4, 4096, 1024]⟩
abbrev S12x4096x512 : Shape := ⟨3, ![12, 4096, 512]⟩
abbrev S12x4096x1024 : Shape := ⟨3, ![12, 4096, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S4x4096x512 : Shape := ⟨3, ![4, 4096, 512]⟩
abbrev S_ : Shape := ⟨0, ![]⟩
abbrev S512x1024 : Shape := ⟨2, ![512, 1024]⟩
abbrev S1024x1024 : Shape := ⟨2, ![1024, 1024]⟩
abbrev S4x4096 : Shape := ⟨2, ![4, 4096]⟩
abbrev S4x4096x1 : Shape := ⟨3, ![4, 4096, 1]⟩
abbrev S1x1x1024 : Shape := ⟨3, ![1, 1, 1024]⟩
abbrev S1024x2816 : Shape := ⟨2, ![1024, 2816]⟩
abbrev S4x4096x2816 : Shape := ⟨3, ![4, 4096, 2816]⟩
abbrev S2816x1024 : Shape := ⟨2, ![2816, 1024]⟩

abbrev nBuf : Space → Nat
  | .hbm => 93
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S12x4096x512, .f32⟩
  | .hbm, ⟨2, _⟩ => ⟨S12x4096x512, .f32⟩
  | .hbm, ⟨3, _⟩ => ⟨S12x4096x1024, .f32⟩
  | .hbm, ⟨4, _⟩ => ⟨S12x4096x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S4x4096x512, .f32⟩
  | .hbm, ⟨14, _⟩ => ⟨S4x4096x512, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S_, .f32⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x4096x1024, .f32⟩
  | .hbm, ⟨24, _⟩ => ⟨S4x4096x1024, .f32⟩
  | .hbm, ⟨25, _⟩ => ⟨S512x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x4096x1024, .f32⟩
  | .hbm, ⟨32, _⟩ => ⟨S4x4096x1024, .f32⟩
  | .hbm, ⟨33, _⟩ => ⟨S_, .f32⟩
  | .hbm, ⟨34, _⟩ => ⟨S4x4096x1024, .f32⟩
  | .hbm, ⟨35, _⟩ => ⟨S4x4096x1024, .f32⟩
  | .hbm, ⟨36, _⟩ => ⟨S512x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S1024x1024, .f32⟩
  | .hbm, ⟨41, _⟩ => ⟨S4x4096x1024, .f32⟩
  | .hbm, ⟨42, _⟩ => ⟨S4x4096x1024, .f32⟩
  | .hbm, ⟨43, _⟩ => ⟨S1024, .f32⟩
  | .hbm, ⟨44, _⟩ => ⟨S4x4096x1024, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x4096x1, .f32⟩
  | .hbm, ⟨55, _⟩ => ⟨S4x4096x1024, .f32⟩
  | .hbm, ⟨56, _⟩ => ⟨S4x4096x1024, .f32⟩
  | .hbm, ⟨57, _⟩ => ⟨S1x1x1024, .f32⟩
  | .hbm, ⟨58, _⟩ => ⟨S4x4096x1024, .f32⟩
  | .hbm, ⟨59, _⟩ => ⟨S4x4096x1024, .f32⟩
  | .hbm, ⟨60, _⟩ => ⟨S1024x2816, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S_, .f32⟩
  | .hbm, ⟨65, _⟩ => ⟨S4x4096x2816, .f32⟩
  | .hbm, ⟨66, _⟩ => ⟨S4x4096x2816, .f32⟩
  | .hbm, ⟨67, _⟩ => ⟨S_, .f32⟩
  | .hbm, ⟨68, _⟩ => ⟨S4x4096x2816, .f32⟩
  | .hbm, ⟨69, _⟩ => ⟨S4x4096x2816, .f32⟩
  | .hbm, ⟨70, _⟩ => ⟨S4x4096x2816, .f32⟩
  | .hbm, ⟨71, _⟩ => ⟨S1024x2816, .f32⟩
  | .hbm, ⟨72, _⟩ => ⟨S4x4096x2816, .f32⟩
  | .hbm, ⟨73, _⟩ => ⟨S4x4096x2816, .f32⟩
  | .hbm, ⟨74, _⟩ => ⟨S2816x1024, .f32⟩
  | .hbm, ⟨75, _⟩ => ⟨S4x4096x1024, .f32⟩
  | .hbm, ⟨76, _⟩ => ⟨S4x4096x1024, .f32⟩
  | .hbm, ⟨77, _⟩ => ⟨S4x4096x1024, .f32⟩
  | .hbm, ⟨78, _⟩ => ⟨S_, .f32⟩
  | .hbm, ⟨79, _⟩ => ⟨S4x4096, .f32⟩
  | .hbm, ⟨80, _⟩ => ⟨S4x4096x1, .f32⟩
  | .hbm, ⟨81, _⟩ => ⟨S_, .f32⟩
  | .hbm, ⟨82, _⟩ => ⟨S4x4096x1, .f32⟩
  | .hbm, ⟨83, _⟩ => ⟨S4x4096x1, .f32⟩
  | .hbm, ⟨84, _⟩ => ⟨S_, .f32⟩
  | .hbm, ⟨85, _⟩ => ⟨S4x4096x1, .f32⟩
  | .hbm, ⟨86, _⟩ => ⟨S4x4096x1, .f32⟩
  | .hbm, ⟨87, _⟩ => ⟨S4x4096x1, .f32⟩
  | .hbm, ⟨88, _⟩ => ⟨S4x4096x1024, .f32⟩
  | .hbm, ⟨89, _⟩ => ⟨S4x4096x1024, .f32⟩
  | .hbm, ⟨90, _⟩ => ⟨S1x1x1024, .f32⟩
  | .hbm, ⟨91, _⟩ => ⟨S4x4096x1024, .f32⟩
  | .hbm, ⟨92, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== Proj.lean ====
abbrev S8x4096x1024 : Shape := ⟨3, ![8, 4096, 1024]⟩
abbrev S1x1024 : Shape := ⟨2, ![1, 1024]⟩
abbrev S1x1024x4352 : Shape := ⟨3, ![1, 1024, 4352]⟩
abbrev S1x3x1536 : Shape := ⟨3, ![1, 3, 1536]⟩
abbrev S1x1536 : Shape := ⟨2, ![1, 1536]⟩
abbrev S3x1536 : Shape := ⟨2, ![3, 1536]⟩
abbrev S1536 : Shape := ⟨1, ![1536]⟩
abbrev S_ : Shape := ⟨0, ![]⟩
abbrev S4x1536 : Shape := ⟨2, ![4, 1536]⟩
abbrev S8x1536 : Shape := ⟨2, ![8, 1536]⟩
abbrev S1024 : Shape := ⟨1, ![1024]⟩
abbrev S1024x4352 : Shape := ⟨2, ![1024, 4352]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S12x12x4096x128 : Shape := ⟨4, ![12, 12, 4096, 128]⟩
abbrev S12x4096x512 : Shape := ⟨3, ![12, 4096, 512]⟩
abbrev S12x4x4096x128 : Shape := ⟨4, ![12, 4, 4096, 128]⟩
abbrev S12x4096x2048 : Shape := ⟨3, ![12, 4096, 2048]⟩
abbrev S1x1024x1024 : Shape := ⟨3, ![1, 1024, 1024]⟩
abbrev S1x16x1024 : Shape := ⟨3, ![1, 16, 1024]⟩
abbrev S1024x128 : Shape := ⟨2, ![1024, 128]⟩
abbrev S1x12x1024x128 : Shape := ⟨4, ![1, 12, 1024, 128]⟩
abbrev S1x1024x512 : Shape := ⟨3, ![1, 1024, 512]⟩
abbrev S1x4x1024x128 : Shape := ⟨4, ![1, 4, 1024, 128]⟩
abbrev S1x1024x2048 : Shape := ⟨3, ![1, 1024, 2048]⟩
abbrev S1024x1024 : Shape := ⟨2, ![1024, 1024]⟩
abbrev S1024x1 : Shape := ⟨2, ![1024, 1]⟩
abbrev S16x1024 : Shape := ⟨2, ![16, 1024]⟩
abbrev S16 : Shape := ⟨1, ![16]⟩
abbrev S16x1 : Shape := ⟨2, ![16, 1]⟩
abbrev S1056x1024 : Shape := ⟨2, ![1056, 1024]⟩
abbrev S1024x512 : Shape := ⟨2, ![1024, 512]⟩
abbrev S1056x512 : Shape := ⟨2, ![1056, 512]⟩
abbrev S1x512 : Shape := ⟨2, ![1, 512]⟩
abbrev S1x1x1024x128 : Shape := ⟨4, ![1, 1, 1024, 128]⟩
abbrev S1024x768 : Shape := ⟨2, ![1024, 768]⟩
abbrev S1x1024x128 : Shape := ⟨3, ![1, 1024, 128]⟩
abbrev S8x12x4096x128 : Shape := ⟨4, ![8, 12, 4096, 128]⟩
abbrev S8x4096x512 : Shape := ⟨3, ![8, 4096, 512]⟩
abbrev S8x4x4096x128 : Shape := ⟨4, ![8, 4, 4096, 128]⟩
abbrev S8x4096x2048 : Shape := ⟨3, ![8, 4096, 2048]⟩

abbrev nBuf : Space → Nat
  | .hbm => 68
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x4352, .f32⟩
  | .hbm, ⟨3, _⟩ => ⟨S1x3x1536, .f32⟩
  | .hbm, ⟨4, _⟩ => ⟨S1x1536, .f32⟩
  | .hbm, ⟨5, _⟩ => ⟨S3x1536, .f32⟩
  | .hbm, ⟨6, _⟩ => ⟨S1536, .f32⟩
  | .hbm, ⟨7, _⟩ => ⟨S1x1536, .f32⟩
  | .hbm, ⟨8, _⟩ => ⟨S_, .f32⟩
  | .hbm, ⟨9, _⟩ => ⟨S4x1536, .f32⟩
  | .hbm, ⟨10, _⟩ => ⟨S8x1536, .f32⟩
  | .hbm, ⟨11, _⟩ => ⟨S1024, .f32⟩
  | .hbm, ⟨12, _⟩ => ⟨S1x1024, .f32⟩
  | .hbm, ⟨13, _⟩ => ⟨S1024x4352, .f32⟩
  | .hbm, ⟨14, _⟩ => ⟨S1024x4352, .bf16⟩
  | .hbm, ⟨15, _⟩ => ⟨S4096, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S4096x1, .f32⟩
  | .hbm, ⟨33, _⟩ => ⟨S1x8, .f32⟩
  | .hbm, ⟨34, _⟩ => ⟨S4096x8, .f32⟩
  | .hbm, ⟨35, _⟩ => ⟨S4096x8, .f32⟩
  | .hbm, ⟨36, _⟩ => ⟨S4096x8, .f32⟩
  | .hbm, ⟨37, _⟩ => ⟨S4096x8, .f32⟩
  | .hbm, ⟨38, _⟩ => ⟨S4096x8, .f32⟩
  | .hbm, ⟨39, _⟩ => ⟨S_, .f32⟩
  | .hbm, ⟨40, _⟩ => ⟨S4096x48, .f32⟩
  | .hbm, ⟨41, _⟩ => ⟨S_, .f32⟩
  | .hbm, ⟨42, _⟩ => ⟨S4096x48, .f32⟩
  | .hbm, ⟨43, _⟩ => ⟨S_, .f32⟩
  | .hbm, ⟨44, _⟩ => ⟨S4096x8, .f32⟩
  | .hbm, ⟨45, _⟩ => ⟨S4096x64, .f32⟩
  | .hbm, ⟨46, _⟩ => ⟨S4096x8, .f32⟩
  | .hbm, ⟨47, _⟩ => ⟨S4096x64, .f32⟩
  | .hbm, ⟨48, _⟩ => ⟨S4096x64, .f32⟩
  | .hbm, ⟨49, _⟩ => ⟨S1x4096x1x64, .f32⟩
  | .hbm, ⟨50, _⟩ => ⟨S1x4096x2x64, .f32⟩
  | .hbm, ⟨51, _⟩ => ⟨S4096x128, .f32⟩
  | .hbm, ⟨52, _⟩ => ⟨S1x4096x1x64, .f32⟩
  | .hbm, ⟨53, _⟩ => ⟨S1x4096x2x64, .f32⟩
  | .hbm, ⟨54, _⟩ => ⟨S4096x128, .f32⟩
  | .hbm, ⟨55, _⟩ => ⟨S1x4096x1x64, .f32⟩
  | .hbm, ⟨56, _⟩ => ⟨S1x4096x2x64, .f32⟩
  | .hbm, ⟨57, _⟩ => ⟨S4096x128, .f32⟩
  | .hbm, ⟨58, _⟩ => ⟨S12x12x4096x128, .bf16⟩
  | .hbm, ⟨59, _⟩ => ⟨S12x4096x512, .bf16⟩
  | .hbm, ⟨60, _⟩ => ⟨S12x4x4096x128, .bf16⟩
  | .hbm, ⟨61, _⟩ => ⟨S12x4x4096x128, .bf16⟩
  | .hbm, ⟨62, _⟩ => ⟨S12x4096x2048, .bf16⟩
  | .hbm, ⟨63, _⟩ => ⟨S8x12x4096x128, .bf16⟩
  | .hbm, ⟨64, _⟩ => ⟨S8x4096x512, .bf16⟩
  | .hbm, ⟨65, _⟩ => ⟨S8x4x4096x128, .bf16⟩
  | .hbm, ⟨66, _⟩ => ⟨S8x4x4096x128, .bf16⟩
  | .hbm, ⟨67, _⟩ => ⟨S8x4096x2048, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024, .f32⟩
  | .local _ .vmem, ⟨7, _⟩ => ⟨S1024x4352, .bf16⟩
  | .local _ .vmem, ⟨8, _⟩ => ⟨S8x1536, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1x12x1024x128, .bf16⟩
  | .local _ .vmem, ⟨16, _⟩ => ⟨S1x12x1024x128, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x4x1024x128, .bf16⟩
  | .local _ .vmem, ⟨20, _⟩ => ⟨S1x4x1024x128, .bf16⟩
  | .local _ .vmem, ⟨21, _⟩ => ⟨S1x4x1024x128, .bf16⟩
  | .local _ .vmem, ⟨22, _⟩ => ⟨S1x4x1024x128, .bf16⟩
  | .local _ .vmem, ⟨23, _⟩ => ⟨S1x1024x2048, .bf16⟩
  | .local _ .vmem, ⟨24, _⟩ => ⟨S1x1024x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44_0 : Ref sig .tc := ⟨.hbm, 58, rfl⟩
abbrev main_v44_1 : Ref sig .tc := ⟨.hbm, 59, rfl⟩
abbrev main_v44_2 : Ref sig .tc := ⟨.hbm, 60, rfl⟩
abbrev main_v44_3 : Ref sig .tc := ⟨.hbm, 61, rfl⟩
abbrev main_v44_4 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, arg1.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, arg1.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, arg1.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4352 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x12x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjRefIdeal.lean ====
abbrev S8x4096x1024 : Shape := ⟨3, ![8, 4096, 1024]⟩
abbrev S1x1024 : Shape := ⟨2, ![1, 1024]⟩
abbrev S1x1024x4352 : Shape := ⟨3, ![1, 1024, 4352]⟩
abbrev S1x3x1536 : Shape := ⟨3, ![1, 3, 1536]⟩
abbrev S1x1536 : Shape := ⟨2, ![1, 1536]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x4352 : Shape := ⟨2, ![1024, 4352]⟩
abbrev S8x4096x4352 : Shape := ⟨3, ![8, 4096, 4352]⟩
abbrev S8x4096x1536 : Shape := ⟨3, ![8, 4096, 1536]⟩
abbrev S8x4096x512 : Shape := ⟨3, ![8, 4096, 512]⟩
abbrev S8x4096x128 : Shape := ⟨3, ![8, 4096, 128]⟩
abbrev S8x4098x1536 : Shape := ⟨3, ![8, 4098, 1536]⟩
abbrev S3x1536 : Shape := ⟨2, ![3, 1536]⟩
abbrev S1536 : Shape := ⟨1, ![1536]⟩
abbrev S1x1x1536 : Shape := ⟨3, ![1, 1, 1536]⟩
abbrev S4096 : Shape := ⟨1, ![4096]⟩
abbrev S8x4096x8x64 : Shape := ⟨4, ![8, 4096, 8, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S8x4096x8x16 : Shape := ⟨4, ![8, 4096, 8, 16]⟩
abbrev S8x4096x8x8 : Shape := ⟨4, ![8, 4096, 8, 8]⟩
abbrev S8x4096x8x48 : Shape := ⟨4, ![8, 4096, 8, 48]⟩
abbrev S8x4096x2x64 : Shape := ⟨4, ![8, 4096, 2, 64]⟩
abbrev S8x4096x2x16 : Shape := ⟨4, ![8, 4096, 2, 16]⟩
abbrev S8x4096x2x8 : Shape := ⟨4, ![8, 4096, 2, 8]⟩
abbrev S8x4096x2x48 : Shape := ⟨4, ![8, 4096, 2, 48]⟩
abbrev S8x4096x12x128 : Shape := ⟨4, ![8, 4096, 12, 128]⟩
abbrev S8x12x4096x128 : Shape := ⟨4, ![8, 12, 4096, 128]⟩
abbrev S8x4096x2x128 : Shape := ⟨4, ![8, 4096, 2, 128]⟩
abbrev S8x4096x2x1x128 : Shape := ⟨5, ![8, 4096, 2, 1, 128]⟩
abbrev S8x4096x2x2x128 : Shape := ⟨5, ![8, 4096, 2, 2, 128]⟩
abbrev S8x4096x4x128 : Shape := ⟨4, ![8, 4096, 4, 128]⟩
abbrev S8x4x4096x128 : Shape := ⟨4, ![8, 4, 4096, 128]⟩
abbrev S8x4096x2048 : Shape := ⟨3, ![8, 4096, 2048]⟩

abbrev nBuf : Space → Nat
  | .hbm => 195
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x4352, .f32⟩
  | 3 => ⟨S1x3x1536, .f32⟩
  | 4 => ⟨S1x1536, .f32⟩
  | 5 => ⟨S1024, .f32⟩
  | 6 => ⟨S8x4096x1024, .f32⟩
  | 7 => ⟨S_, .f32⟩
  | 8 => ⟨S8x4096, .f32⟩
  | 9 => ⟨S8x4096x1, .f32⟩
  | 10 => ⟨S_, .f32⟩
  | 11 => ⟨S8x4096x1, .f32⟩
  | 12 => ⟨S8x4096x1, .f32⟩
  | 13 => ⟨S_, .f32⟩
  | 14 => ⟨S8x4096x1, .f32⟩
  | 15 => ⟨S8x4096x1, .f32⟩
  | 16 => ⟨S8x4096x1, .f32⟩
  | 17 => ⟨S8x4096x1024, .f32⟩
  | 18 => ⟨S8x4096x1024, .f32⟩
  | 19 => ⟨S1x1x1024, .f32⟩
  | 20 => ⟨S8x4096x1024, .f32⟩
  | 21 => ⟨S8x4096x1024, .f32⟩
  | 22 => ⟨S1024x4352, .f32⟩
  | 23 => ⟨S8x4096x4352, .f32⟩
  | 24 => ⟨S8x4096x1536, .f32⟩
  | 25 => ⟨S8x4096x512, .f32⟩
  | 26 => ⟨S8x4096x128, .f32⟩
  | 27 => ⟨S8x4096x128, .f32⟩
  | 28 => ⟨S8x4096x1024, .f32⟩
  | 29 => ⟨S8x4096x1024, .f32⟩
  | 30 => ⟨S_, .i32⟩
  | 31 => ⟨S_, .f32⟩
  | 32 => ⟨S8x4098x1536, .f32⟩
  | 33 => ⟨S8x4096x1536, .f32⟩
  | 34 => ⟨S3x1536, .f32⟩
  | 35 => ⟨S1x1536, .f32⟩
  | 36 => ⟨S1536, .f32⟩
  | 37 => ⟨S1x1x1536, .f32⟩
  | 38 => ⟨S8x4096x1536, .f32⟩
  | 39 => ⟨S8x4096x1536, .f32⟩
  | 40 => ⟨S_, .f32⟩
  | 41 => ⟨S8x4096x1536, .f32⟩
  | 42 => ⟨S8x4096x1536, .f32⟩
  | 43 => ⟨S8x4096x1536, .f32⟩
  | 44 => ⟨S3x1536, .f32⟩
  | 45 => ⟨S1x1536, .f32⟩
  | 46 => ⟨S1536, .f32⟩
  | 47 => ⟨S1x1x1536, .f32⟩
  | 48 => ⟨S8x4096x1536, .f32⟩
  | 49 => ⟨S8x4096x1536, .f32⟩
  | 50 => ⟨S8x4096x1536, .f32⟩
  | 51 => ⟨S8x4096x1536, .f32⟩
  | 52 => ⟨S3x1536, .f32⟩
  | 53 => ⟨S1x1536, .f32⟩
  | 54 => ⟨S1536, .f32⟩
  | 55 => ⟨S1x1x1536, .f32⟩
  | 56 => ⟨S8x4096x1536, .f32⟩
  | 57 => ⟨S8x4096x1536, .f32⟩
  | 58 => ⟨S8x4096x1536, .f32⟩
  | 59 => ⟨S1536, .f32⟩
  | 60 => ⟨S1x1x1536, .f32⟩
  | 61 => ⟨S8x4096x1536, .f32⟩
  | 62 => ⟨S8x4096x1536, .f32⟩
  | 63 => ⟨S4096, .f32⟩
  | 64 => ⟨S8x4096x8x64, .f32⟩
  | 65 => ⟨S8, .f32⟩
  | 66 => ⟨S_, .f32⟩
  | 67 => ⟨S8, .f32⟩
  | 68 => ⟨S8, .f32⟩
  | 69 => ⟨S_, .f32⟩
  | 70 => ⟨S8, .f32⟩
  | 71 => ⟨S8, .f32⟩
  | 72 => ⟨S_, .f32⟩
  | 73 => ⟨S8, .f32⟩
  | 74 => ⟨S8, .f32⟩
  | 75 => ⟨S_, .f32⟩
  | 76 => ⟨S8, .f32⟩
  | 77 => ⟨S8, .f32⟩
  | 78 => ⟨S_, .f32⟩
  | 79 => ⟨S8, .f32⟩
  | 80 => ⟨S8, .f32⟩
  | 81 => ⟨S4096x1, .f32⟩
  | 82 => ⟨S1x8, .f32⟩
  | 83 => ⟨S4096x8, .f32⟩
  | 84 => ⟨S4096x8, .f32⟩
  | 85 => ⟨S4096x8, .f32⟩
  | 86 => ⟨S4096x8, .f32⟩
  | 87 => ⟨S1x4096x1x8, .f32⟩
  | 88 => ⟨S4096x8, .f32⟩
  | 89 => ⟨S1x4096x1x8, .f32⟩
  | 90 => ⟨S8x4096x8x16, .f32⟩
  | 91 => ⟨S8x4096x8x8, .f32⟩
  | 92 => ⟨S8x4096x8x8, .f32⟩
  | 93 => ⟨S8x4096x8x8, .f32⟩
  | 94 => ⟨S8x4096x8x8, .f32⟩
  | 95 => ⟨S8x4096x8x8, .f32⟩
  | 96 => ⟨S8x4096x8x8, .f32⟩
  | 97 => ⟨S8x4096x8x8, .f32⟩
  | 98 => ⟨S8x4096x8x8, .f32⟩
  | 99 => ⟨S8x4096x8x8, .f32⟩
  | 100 => ⟨S8x4096x8x8, .f32⟩
  | 101 => ⟨S8x4096x8x8, .f32⟩
  | 102 => ⟨S8x4096x8x8, .f32⟩
  | 103 => ⟨S8x4096x8x16, .f32⟩
  | 104 => ⟨S8x4096x8x48, .f32⟩
  | 105 => ⟨S8x4096x8x64, .f32⟩
  | 106 => ⟨S_, .f32⟩
  | 107 => ⟨S8x4096x8x64, .f32⟩
  | 108 => ⟨S8x4096x8x64, .f32⟩
  | 109 => ⟨S8x4096x2x64, .f32⟩
  | 110 => ⟨S8, .f32⟩
  | 111 => ⟨S_, .f32⟩
  | 112 => ⟨S8, .f32⟩
  | 113 => ⟨S8, .f32⟩
  | 114 => ⟨S_, .f32⟩
  | 115 => ⟨S8, .f32⟩
  | 116 => ⟨S8, .f32⟩
  | 117 => ⟨S_, .f32⟩
  | 118 => ⟨S8, .f32⟩
  | 119 => ⟨S8, .f32⟩
  | 120 => ⟨S_, .f32⟩
  | 121 => ⟨S8, .f32⟩
  | 122 => ⟨S8, .f32⟩
  | 123 => ⟨S_, .f32⟩
  | 124 => ⟨S8, .f32⟩
  | 125 => ⟨S8, .f32⟩
  | 126 => ⟨S4096x1, .f32⟩
  | 127 => ⟨S1x8, .f32⟩
  | _ => ⟨S8x4096x1024, .f32⟩

abbrev hbmTy0_1 (i : Nat) : BufTy := match i % 128 with
  | 0 => ⟨S4096x8, .f32⟩
  | 1 => ⟨S4096x8, .f32⟩
  | 2 => ⟨S4096x8, .f32⟩
  | 3 => ⟨S4096x8, .f32⟩
  | 4 => ⟨S1x4096x1x8, .f32⟩
  | 5 => ⟨S4096x8, .f32⟩
  | 6 => ⟨S1x4096x1x8, .f32⟩
  | 7 => ⟨S8x4096x2x16, .f32⟩
  | 8 => ⟨S8x4096x2x8, .f32⟩
  | 9 => ⟨S8x4096x2x8, .f32⟩
  | 10 => ⟨S8x4096x2x8, .f32⟩
  | 11 => ⟨S8x4096x2x8, .f32⟩
  | 12 => ⟨S8x4096x2x8, .f32⟩
  | 13 => ⟨S8x4096x2x8, .f32⟩
  | 14 => ⟨S8x4096x2x8, .f32⟩
  | 15 => ⟨S8x4096x2x8, .f32⟩
  | 16 => ⟨S8x4096x2x8, .f32⟩
  | 17 => ⟨S8x4096x2x8, .f32⟩
  | 18 => ⟨S8x4096x2x8, .f32⟩
  | 19 => ⟨S8x4096x2x8, .f32⟩
  | 20 => ⟨S8x4096x2x16, .f32⟩
  | 21 => ⟨S8x4096x2x48, .f32⟩
  | 22 => ⟨S8x4096x2x64, .f32⟩
  | 23 => ⟨S8x4096x2x64, .f32⟩
  | 24 => ⟨S8x4096x12x128, .f32⟩
  | 25 => ⟨S8x12x4096x128, .f32⟩
  | 26 => ⟨S8x12x4096x128, .bf16⟩
  | 27 => ⟨S8x4096x512, .f32⟩
  | 28 => ⟨S8x4096x512, .bf16⟩
  | 29 => ⟨S_, .f32⟩
  | 30 => ⟨S8x4096x2x64, .f32⟩
  | 31 => ⟨S8x4096x2x128, .f32⟩
  | 32 => ⟨S8x4096x2x128, .f32⟩
  | 33 => ⟨S8x4096x2x1x128, .f32⟩
  | 34 => ⟨S8x4096x2x1x128, .f32⟩
  | 35 => ⟨S8x4096x2x2x128, .f32⟩
  | 36 => ⟨S8x4096x4x128, .f32⟩
  | 37 => ⟨S8x4x4096x128, .f32⟩
  | 38 => ⟨S8x4x4096x128, .bf16⟩
  | 39 => ⟨S_, .f32⟩
  | 40 => ⟨S8x4096x2x64, .f32⟩
  | 41 => ⟨S8x4096x2x128, .f32⟩
  | 42 => ⟨S8x4096x2x128, .f32⟩
  | 43 => ⟨S8x4096x2x1x128, .f32⟩
  | 44 => ⟨S8x4096x2x1x128, .f32⟩
  | 45 => ⟨S8x4096x2x2x128, .f32⟩
  | 46 => ⟨S8x4096x4x128, .f32⟩
  | 47 => ⟨S8x4x4096x128, .f32⟩
  | 48 => ⟨S8x4x4096x128, .bf16⟩
  | 49 => ⟨S8x4096x1024, .f32⟩
  | 50 => ⟨S8x4096x1024, .f32⟩
  | 51 => ⟨S_, .f32⟩
  | 52 => ⟨S8x4096x1024, .f32⟩
  | 53 => ⟨S8x4096x1024, .f32⟩
  | 54 => ⟨S_, .f32⟩
  | 55 => ⟨S8x4096x1024, .f32⟩
  | 56 => ⟨S8x4096x1024, .f32⟩
  | 57 => ⟨S8x4096x1024, .f32⟩
  | 58 => ⟨S8x4096x1024, .f32⟩
  | 59 => ⟨S_, .f32⟩
  | 60 => ⟨S8x4096x1024, .f32⟩
  | 61 => ⟨S8x4096x1024, .f32⟩
  | 62 => ⟨S_, .f32⟩
  | 63 => ⟨S8x4096x1024, .f32⟩
  | 64 => ⟨S8x4096x1024, .f32⟩
  | 65 => ⟨S8x4096x2048, .f32⟩
  | 66 => ⟨S8x4096x2048, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_call0_v0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_3 : Ref sig .tc := ⟨.hbm, 66, rfl⟩
abbrev main_v55 : Ref sig .tc := ⟨.hbm, 67, rfl⟩
abbrev main_v56 : Ref sig .tc := ⟨.hbm, 68, rfl⟩
abbrev main_cst_4 : Ref sig .tc := ⟨.hbm, 69, rfl⟩
abbrev main_v57 : Ref sig .tc := ⟨.hbm, 70, rfl⟩
abbrev main_v58 : Ref sig .tc := ⟨.hbm, 71, rfl⟩
abbrev main_cst_5 : Ref sig .tc := ⟨.hbm, 72, rfl⟩
abbrev main_v59 : Ref sig .tc := ⟨.hbm, 73, rfl⟩
abbrev main_v60 : Ref sig .tc := ⟨.hbm, 74, rfl⟩
abbrev main_cst_6 : Ref sig .tc := ⟨.hbm, 75, rfl⟩
abbrev main_v61 : Ref sig .tc := ⟨.hbm, 76, rfl⟩
abbrev main_v62 : Ref sig .tc := ⟨.hbm, 77, rfl⟩
abbrev main_cst_7 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_8 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_9 : Ref sig .tc := ⟨.hbm, 111, rfl⟩
abbrev main_v94 : Ref sig .tc := ⟨.hbm, 112, rfl⟩
abbrev main_v95 : Ref sig .tc := ⟨.hbm, 113, rfl⟩
abbrev main_cst_10 : Ref sig .tc := ⟨.hbm, 114, rfl⟩
abbrev main_v96 : Ref sig .tc := ⟨.hbm, 115, rfl⟩
abbrev main_v97 : Ref sig .tc := ⟨.hbm, 116, rfl⟩
abbrev main_cst_11 : Ref sig .tc := ⟨.hbm, 117, rfl⟩
abbrev main_v98 : Ref sig .tc := ⟨.hbm, 118, rfl⟩
abbrev main_v99 : Ref sig .tc := ⟨.hbm, 119, rfl⟩
abbrev main_cst_12 : Ref sig .tc := ⟨.hbm, 120, rfl⟩
abbrev main_v100 : Ref sig .tc := ⟨.hbm, 121, rfl⟩
abbrev main_v101 : Ref sig .tc := ⟨.hbm, 122, rfl⟩
abbrev main_cst_13 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_cst_14 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_cst_15 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_cst_16 : Ref sig .tc := ⟨.hbm, 179, rfl⟩
abbrev main_v155 : Ref sig .tc := ⟨.hbm, 180, rfl⟩
abbrev main_v156 : Ref sig .tc := ⟨.hbm, 181, rfl⟩
abbrev main_cst_17 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_cst_18 : Ref sig .tc := ⟨.hbm, 187, rfl⟩
abbrev main_v161 : Ref sig .tc := ⟨.hbm, 188, rfl⟩
abbrev main_v162 : Ref sig .tc := ⟨.hbm, 189, rfl⟩
abbrev main_cst_19 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩

abbrev nD : Nat := 1
abbrev τ : Topo := Topo.v7x

variable {F : FTy → Type} [FloatOps F]
-- ==== Attn.lean ====
abbrev S8 : Shape := ⟨1, ![8]⟩
abbrev S12x4096x8x64 : Shape := ⟨4, ![12, 4096, 8, 64]⟩
abbrev S12x4096x2x64 : Shape := ⟨4, ![12, 4096, 2, 64]⟩
abbrev S12x4096x128 : Shape := ⟨3, ![12, 4096, 128]⟩
abbrev S_ : Shape := ⟨0, ![]⟩
abbrev S12x4096x512 : Shape := ⟨3, ![12, 4096, 512]⟩
abbrev S12x4096x64 : Shape := ⟨3, ![12, 4096, 64]⟩
abbrev S12x1x4096x128 : Shape := ⟨4, ![12, 1, 4096, 128]⟩
abbrev S12x4x4096x128 : Shape := ⟨4, ![12, 4, 4096, 128]⟩
abbrev S1x2048x512 : Shape := ⟨3, ![1, 2048, 512]⟩
abbrev S1x4x4096x128 : Shape := ⟨4, ![1, 4, 4096, 128]⟩
abbrev S128x128 : Shape := ⟨2, ![128, 128]⟩
abbrev S128x384 : Shape := ⟨2, ![128, 384]⟩
abbrev S1x1x384x128 : Shape := ⟨4, ![1, 1, 384, 128]⟩
abbrev S384x128 : Shape := ⟨2, ![384, 128]⟩
abbrev S768x128 : Shape := ⟨2, ![768, 128]⟩
abbrev S1x128x128 : Shape := ⟨3, ![1, 128, 128]⟩
abbrev S128x768 : Shape := ⟨2, ![128, 768]⟩
abbrev S1 : Shape := ⟨1, ![1]⟩
abbrev S128 : Shape := ⟨1, ![128]⟩
abbrev S128x1 : Shape := ⟨2, ![128, 1]⟩

abbrev nBuf : Space → Nat
  | .hbm => 62
  | .vmem => 8
  | .smem => 1
  | _ => 0

abbrev bufTy : (tb : Table) → Fin (tcTables nBuf tb) → BufTy
  | .hbm, ⟨0, _⟩ => ⟨S8, .f32⟩
  | .hbm, ⟨1, _⟩ => ⟨S12x4096x8x64, .f32⟩
  | .hbm, ⟨2, _⟩ => ⟨S12x4096x2x64, .f32⟩
  | .hbm, ⟨3, _⟩ => ⟨S12x4096x2x64, .f32⟩
  | .hbm, ⟨4, _⟩ => ⟨S12x4096x128, .i32⟩
  | .hbm, ⟨5, _⟩ => ⟨S_, .i32⟩
  | .hbm, ⟨6, _⟩ => ⟨S12x4096x128, .i32⟩
  | .hbm, ⟨7, _⟩ => ⟨S12x4096x128, .i1⟩
  | .hbm, ⟨8, _⟩ => ⟨S12x4096x512, .f32⟩
  | .hbm, ⟨9, _⟩ => ⟨S12x4096x128, .f32⟩
  | .hbm, ⟨10, _⟩ => ⟨S12x4096x64, .f32⟩
  | .hbm, ⟨11, _⟩ => ⟨S12x4096x64, .f32⟩
  | .hbm, ⟨12, _⟩ => ⟨S12x4096x128, .f32⟩
  | .hbm, ⟨13, _⟩ => ⟨S_, .f32⟩
  | .hbm, ⟨14, _⟩ => ⟨S_, .f32⟩
  | .hbm, ⟨15, _⟩ => ⟨S12x4096x128, .f32⟩
  | .hbm, ⟨16, _⟩ => ⟨S12x4096x128, .f32⟩
  | .hbm, ⟨17, _⟩ => ⟨S_, .f32⟩
  | .hbm, ⟨18, _⟩ => ⟨S_, .f32⟩
  | .hbm, ⟨19, _⟩ => ⟨S12x4096x128, .f32⟩
  | .hbm, ⟨20, _⟩ => ⟨S12x4096x128, .f32⟩
  | .hbm, ⟨21, _⟩ => ⟨S_, .f32⟩
  | .hbm, ⟨22, _⟩ => ⟨S_, .f32⟩
  | .hbm, ⟨23, _⟩ => ⟨S12x4096x128, .f32⟩
  | .hbm, ⟨24, _⟩ => ⟨S12x4096x128, .f32⟩
  | .hbm, ⟨25, _⟩ => ⟨S_, .f32⟩
  | .hbm, ⟨26, _⟩ => ⟨S_, .f32⟩
  | .hbm, ⟨27, _⟩ => ⟨S12x4096x128, .f32⟩
  | .hbm, ⟨28, _⟩ => ⟨S12x4096x128, .f32⟩
  | .hbm, ⟨29, _⟩ => ⟨S12x1x4096x128, .f32⟩
  | .hbm, ⟨30, _⟩ => ⟨S12x1x4096x128, .f32⟩
  | .hbm, ⟨31, _⟩ => ⟨S12x1x4096x128, .f32⟩
  | .hbm, ⟨32, _⟩ => ⟨S12x1x4096x128, .f32⟩
  | .hbm, ⟨33, _⟩ => ⟨S12x4x4096x128, .f32⟩
  | .hbm, ⟨34, _⟩ => ⟨S12x4x4096x128, .bf16⟩
  | .hbm, ⟨35, _⟩ => ⟨S12x4096x128, .f32⟩
  | .hbm, ⟨36, _⟩ => ⟨S12x4096x64, .f32⟩
  | .hbm, ⟨37, _⟩ => ⟨S12x4096x64, .f32⟩
  | .hbm, ⟨38, _⟩ => ⟨S12x4096x128, .f32⟩
  | .hbm, ⟨39, _⟩ => ⟨S_, .f32⟩
  | .hbm, ⟨40, _⟩ => ⟨S_, .f32⟩
  | .hbm, ⟨41, _⟩ => ⟨S12x4096x128, .f32⟩
  | .hbm, ⟨42, _⟩ => ⟨S12x4096x128, .f32⟩
  | .hbm, ⟨43, _⟩ => ⟨S_, .f32⟩
  | .hbm, ⟨44, _⟩ => ⟨S_, .f32⟩
  | .hbm, ⟨45, _⟩ => ⟨S12x4096x128, .f32⟩
  | .hbm, ⟨46, _⟩ => ⟨S12x4096x128, .f32⟩
  | .hbm, ⟨47, _⟩ => ⟨S_, .f32⟩
  | .hbm, ⟨48, _⟩ => ⟨S_, .f32⟩
  | .hbm, ⟨49, _⟩ => ⟨S12x4096x128, .f32⟩
  | .hbm, ⟨50, _⟩ => ⟨S12x4096x128, .f32⟩
  | .hbm, ⟨51, _⟩ => ⟨S_, .f32⟩
  | .hbm, ⟨52, _⟩ => ⟨S_, .f32⟩
  | .hbm, ⟨53, _⟩ => ⟨S12x4096x128, .f32⟩
  | .hbm, ⟨54, _⟩ => ⟨S12x4096x128, .f32⟩
  | .hbm, ⟨55, _⟩ => ⟨S12x1x4096x128, .f32⟩
  | .hbm, ⟨56, _⟩ => ⟨S12x1x4096x128, .f32⟩
  | .hbm, ⟨57, _⟩ => ⟨S12x1x4096x128, .f32⟩
  | .hbm, ⟨58, _⟩ => ⟨S12x1x4096x128, .f32⟩
  | .hbm, ⟨59, _⟩ => ⟨S12x4x4096x128, .f32⟩
  | .hbm, ⟨60, _⟩ => ⟨S12x4x4096x128, .bf16⟩
  | .hbm, ⟨61, _⟩ => ⟨S12x4096x512, .bf16⟩
  | .local _ .vmem, ⟨0, _⟩ => ⟨S1x2048x512, .f32⟩
  | .local _ .vmem, ⟨1, _⟩ => ⟨S1x2048x512, .f32⟩
  | .local _ .vmem, ⟨2, _⟩ => ⟨S1x4x4096x128, .bf16⟩
  | .local _ .vmem, ⟨3, _⟩ => ⟨S1x4x4096x128, .bf16⟩
  | .local _ .vmem, ⟨4, _⟩ => ⟨S1x4x4096x128, .bf16⟩
  | .local _ .vmem, ⟨5, _⟩ => ⟨S1x4x4096x128, .bf16⟩
  | .local _ .vmem, ⟨6, _⟩ => ⟨S1x2048x512, .bf16⟩
  | .local _ .vmem, ⟨7, _⟩ => ⟨S1x2048x512, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_cst : Ref sig .tc := ⟨.hbm, 13, rfl⟩
abbrev main_call1_v0 : Ref sig .tc := ⟨.hbm, 14, rfl⟩
abbrev main_call1_v1 : Ref sig .tc := ⟨.hbm, 15, rfl⟩
abbrev main_v6 : Ref sig .tc := ⟨.hbm, 16, rfl⟩
abbrev main_cst_0 : Ref sig .tc := ⟨.hbm, 17, rfl⟩
abbrev main_call2_v0 : Ref sig .tc := ⟨.hbm, 18, rfl⟩
abbrev main_call2_v1 : Ref sig .tc := ⟨.hbm, 19, rfl⟩
abbrev main_v7 : Ref sig .tc := ⟨.hbm, 20, rfl⟩
abbrev main_cst_1 : Ref sig .tc := ⟨.hbm, 21, rfl⟩
abbrev main_call3_v0 : Ref sig .tc := ⟨.hbm, 22, rfl⟩
abbrev main_call3_v1 : Ref sig .tc := ⟨.hbm, 23, rfl⟩
abbrev main_v8 : Ref sig .tc := ⟨.hbm, 24, rfl⟩
abbrev main_cst_2 : Ref sig .tc := ⟨.hbm, 25, rfl⟩
abbrev main_call4_v0 : Ref sig .tc := ⟨.hbm, 26, rfl⟩
abbrev main_call4_v1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call5_v0 : Ref sig .tc := ⟨.hbm, 36, rfl⟩
abbrev main_call5_v1 : Ref sig .tc := ⟨.hbm, 37, rfl⟩
abbrev main_v17 : Ref sig .tc := ⟨.hbm, 38, rfl⟩
abbrev main_cst_3 : Ref sig .tc := ⟨.hbm, 39, rfl⟩
abbrev main_call6_v0 : Ref sig .tc := ⟨.hbm, 40, rfl⟩
abbrev main_call6_v1 : Ref sig .tc := ⟨.hbm, 41, rfl⟩
abbrev main_v18 : Ref sig .tc := ⟨.hbm, 42, rfl⟩
abbrev main_cst_4 : Ref sig .tc := ⟨.hbm, 43, rfl⟩
abbrev main_call7_v0 : Ref sig .tc := ⟨.hbm, 44, rfl⟩
abbrev main_call7_v1 : Ref sig .tc := ⟨.hbm, 45, rfl⟩
abbrev main_v19 : Ref sig .tc := ⟨.hbm, 46, rfl⟩
abbrev main_cst_5 : Ref sig .tc := ⟨.hbm, 47, rfl⟩
abbrev main_call8_v0 : Ref sig .tc := ⟨.hbm, 48, rfl⟩
abbrev main_call8_v1 : Ref sig .tc := ⟨.hbm, 49, rfl⟩
abbrev main_v20 : Ref sig .tc := ⟨.hbm, 50, rfl⟩
abbrev main_cst_6 : Ref sig .tc := ⟨.hbm, 51, rfl⟩
abbrev main_call9_v0 : Ref sig .tc := ⟨.hbm, 52, rfl⟩
abbrev main_call9_v1 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![12, 2], ![false, false]⟩

def k0_mult1 (i : grid0.Coords) : BitVec 32 :=
  let c3712_i32 : BitVec 32 := 3712#32
  let c0_i32_1 : BitVec 32 := 0#32
  let arg1 : BitVec 32 := BitVec.ofNat 32 (i 1).val
  let c16_i32 : BitVec 32 := 16#32
  let v3 : BitVec 32 := Scalar.muli arg1 c16_i32
  let c0_i32 : BitVec 32 := 0#32
  let v4 : BitVec 32 := Scalar.addi v3 c0_i32
  let c128_i32 : BitVec 32 := 128#32
  let v5 : BitVec 32 := Scalar.muli v4 c128_i32
  let c128_i32_0 : BitVec 32 := 128#32
  let v6 : BitVec 32 := Scalar.subi v5 c128_i32_0
  let v7 : BitVec 32 := Scalar.maxsi c0_i32_1 v6
  let v8 : BitVec 32 := Scalar.minsi c3712_i32 v7
  v8
def k0_mult2 (i : grid0.Coords) : BitVec 32 :=
  let c3712_i32_9 : BitVec 32 := 3712#32
  let c0_i32_8 : BitVec 32 := 0#32
  let arg1 : BitVec 32 := BitVec.ofNat 32 (i 1).val
  let c16_i32_5 : BitVec 32 := 16#32
  let v25 : BitVec 32 := Scalar.muli arg1 c16_i32_5
  let c1_i32 : BitVec 32 := 1#32
  let v26 : BitVec 32 := Scalar.addi v25 c1_i32
  let c128_i32_6 : BitVec 32 := 128#32
  let v27 : BitVec 32 := Scalar.muli v26 c128_i32_6
  let c128_i32_7 : BitVec 32 := 128#32
  let v28 : BitVec 32 := Scalar.subi v27 c128_i32_7
  let v29 : BitVec 32 := Scalar.maxsi c0_i32_8 v28
  let v30 : BitVec 32 := Scalar.minsi c3712_i32_9 v29
  v30
def k0_mult3 (i : grid0.Coords) : BitVec 32 :=
  let c3712_i32_18 : BitVec 32 := 3712#32
  let c0_i32_17 : BitVec 32 := 0#32
  let arg1 : BitVec 32 := BitVec.ofNat 32 (i 1).val
  let c16_i32_14 : BitVec 32 := 16#32
  let v47 : BitVec 32 := Scalar.muli arg1 c16_i32_14
  let c2_i32 : BitVec 32 := 2#32
  let v48 : BitVec 32 := Scalar.addi v47 c2_i32
  let c128_i32_15 : BitVec 32 := 128#32
  let v49 : BitVec 32 := Scalar.muli v48 c128_i32_15
  let c128_i32_16 : BitVec 32 := 128#32
  let v50 : BitVec 32 := Scalar.subi v49 c128_i32_16
  let v51 : BitVec 32 := Scalar.maxsi c0_i32_17 v50
  let v52 : BitVec 32 := Scalar.minsi c3712_i32_18 v51
  v52
def k0_mult4 (i : grid0.Coords) : BitVec 32 :=
  let c3712_i32_27 : BitVec 32 := 3712#32
  let c0_i32_26 : BitVec 32 := 0#32
  let arg1 : BitVec 32 := BitVec.ofNat 32 (i 1).val
  let c16_i32_23 : BitVec 32 := 16#32
  let v69 : BitVec 32 := Scalar.muli arg1 c16_i32_23
  let c3_i32 : BitVec 32 := 3#32
  let v70 : BitVec 32 := Scalar.addi v69 c3_i32
  let c128_i32_24 : BitVec 32 := 128#32
  let v71 : BitVec 32 := Scalar.muli v70 c128_i32_24
  let c128_i32_25 : BitVec 32 := 128#32
  let v72 : BitVec 32 := Scalar.subi v71 c128_i32_25
  let v73 : BitVec 32 := Scalar.maxsi c0_i32_26 v72
  let v74 : BitVec 32 := Scalar.minsi c3712_i32_27 v73
  v74
def k0_mult5 (i : grid0.Coords) : BitVec 32 :=
  let c3712_i32_36 : BitVec 32 := 3712#32
  let c0_i32_35 : BitVec 32 := 0#32
  let arg1 : BitVec 32 := BitVec.ofNat 32 (i 1).val
  let c16_i32_32 : BitVec 32 := 16#32
  let v91 : BitVec 32 := Scalar.muli arg1 c16_i32_32
  let c4_i32 : BitVec 32 := 4#32
  let v92 : BitVec 32 := Scalar.addi v91 c4_i32
  let c128_i32_33 : BitVec 32 := 128#32
  let v93 : BitVec 32 := Scalar.muli v92 c128_i32_33
  let c128_i32_34 : BitVec 32 := 128#32
  let v94 : BitVec 32 := Scalar.subi v93 c128_i32_34
  let v95 : BitVec 32 := Scalar.maxsi c0_i32_35 v94
  let v96 : BitVec 32 := Scalar.minsi c3712_i32_36 v95
  v96
def k0_mult6 (i : grid0.Coords) : BitVec 32 :=
  let c3712_i32_45 : BitVec 32 := 3712#32
  let c0_i32_44 : BitVec 32 := 0#32
  let arg1 : BitVec 32 := BitVec.ofNat 32 (i 1).val
  let c16_i32_41 : BitVec 32 := 16#32
  let v113 : BitVec 32 := Scalar.muli arg1 c16_i32_41
  let c5_i32 : BitVec 32 := 5#32
  let v114 : BitVec 32 := Scalar.addi v113 c5_i32
  let c128_i32_42 : BitVec 32 := 128#32
  let v115 : BitVec 32 := Scalar.muli v114 c128_i32_42
  let c128_i32_43 : BitVec 32 := 128#32
  let v116 : BitVec 32 := Scalar.subi v115 c128_i32_43
  let v117 : BitVec 32 := Scalar.maxsi c0_i32_44 v116
  let v118 : BitVec 32 := Scalar.minsi c3712_i32_45 v117
  v118
def k0_mult7 (i : grid0.Coords) : BitVec 32 :=
  let c3712_i32_54 : BitVec 32 := 3712#32
  let c0_i32_53 : BitVec 32 := 0#32
  let arg1 : BitVec 32 := BitVec.ofNat 32 (i 1).val
  let c16_i32_50 : BitVec 32 := 16#32
  let v135 : BitVec 32 := Scalar.muli arg1 c16_i32_50
  let c6_i32 : BitVec 32 := 6#32
  let v136 : BitVec 32 := Scalar.addi v135 c6_i32
  let c128_i32_51 : BitVec 32 := 128#32
  let v137 : BitVec 32 := Scalar.muli v136 c128_i32_51
  let c128_i32_52 : BitVec 32 := 128#32
  let v138 : BitVec 32 := Scalar.subi v137 c128_i32_52
  let v139 : BitVec 32 := Scalar.maxsi c0_i32_53 v138
  let v140 : BitVec 32 := Scalar.minsi c3712_i32_54 v139
  v140
def k0_mult8 (i : grid0.Coords) : BitVec 32 :=
  let c3712_i32_63 : BitVec 32 := 3712#32
  let c0_i32_62 : BitVec 32 := 0#32
  let arg1 : BitVec 32 := BitVec.ofNat 32 (i 1).val
  let c16_i32_59 : BitVec 32 := 16#32
  let v157 : BitVec 32 := Scalar.muli arg1 c16_i32_59
  let c7_i32 : BitVec 32 := 7#32
  let v158 : BitVec 32 := Scalar.addi v157 c7_i32
  let c128_i32_60 : BitVec 32 := 128#32
  let v159 : BitVec 32 := Scalar.muli v158 c128_i32_60
  let c128_i32_61 : BitVec 32 := 128#32
  let v160 : BitVec 32 := Scalar.subi v159 c128_i32_61
  let v161 : BitVec 32 := Scalar.maxsi c0_i32_62 v160
  let v162 : BitVec 32 := Scalar.minsi c3712_i32_63 v161
  v162
def k0_mult9 (i : grid0.Coords) : BitVec 32 :=
  let c3712_i32_72 : BitVec 32 := 3712#32
  let c0_i32_71 : BitVec 32 := 0#32
  let arg1 : BitVec 32 := BitVec.ofNat 32 (i 1).val
  let c16_i32_68 : BitVec 32 := 16#32
  let v179 : BitVec 32 := Scalar.muli arg1 c16_i32_68
  let c8_i32 : BitVec 32 := 8#32
  let v180 : BitVec 32 := Scalar.addi v179 c8_i32
  let c128_i32_69 : BitVec 32 := 128#32
  let v181 : BitVec 32 := Scalar.muli v180 c128_i32_69
  let c128_i32_70 : BitVec 32 := 128#32
  let v182 : BitVec 32 := Scalar.subi v181 c128_i32_70
  let v183 : BitVec 32 := Scalar.maxsi c0_i32_71 v182
  let v184 : BitVec 32 := Scalar.minsi c3712_i32_72 v183
  v184
def k0_mult10 (i : grid0.Coords) : BitVec 32 :=
  let c3712_i32_81 : BitVec 32 := 3712#32
  let c0_i32_80 : BitVec 32 := 0#32
  let arg1 : BitVec 32 := BitVec.ofNat 32 (i 1).val
  let c16_i32_77 : BitVec 32 := 16#32
  let v201 : BitVec 32 := Scalar.muli arg1 c16_i32_77
  let c9_i32 : BitVec 32 := 9#32
  let v202 : BitVec 32 := Scalar.addi v201 c9_i32
  let c128_i32_78 : BitVec 32 := 128#32
  let v203 : BitVec 32 := Scalar.muli v202 c128_i32_78
  let c128_i32_79 : BitVec 32 := 128#32
  let v204 : BitVec 32 := Scalar.subi v203 c128_i32_79
  let v205 : BitVec 32 := Scalar.maxsi c0_i32_80 v204
  let v206 : BitVec 32 := Scalar.minsi c3712_i32_81 v205
  v206
def k0_mult11 (i : grid0.Coords) : BitVec 32 :=
  let c3712_i32_90 : BitVec 32 := 3712#32
  let c0_i32_89 : BitVec 32 := 0#32
  let arg1 : BitVec 32 := BitVec.ofNat 32 (i 1).val
  let c16_i32_86 : BitVec 32 := 16#32
  let v223 : BitVec 32 := Scalar.muli arg1 c16_i32_86
  let c10_i32 : BitVec 32 := 10#32
  let v224 : BitVec 32 := Scalar.addi v223 c10_i32
  let c128_i32_87 : BitVec 32 := 128#32
  let v225 : BitVec 32 := Scalar.muli v224 c128_i32_87
  let c128_i32_88 : BitVec 32 := 128#32
  let v226 : BitVec 32 := Scalar.subi v225 c128_i32_88
  let v227 : BitVec 32 := Scalar.maxsi c0_i32_89 v226
  let v228 : BitVec 32 := Scalar.minsi c3712_i32_90 v227
  v228
def k0_mult12 (i : grid0.Coords) : BitVec 32 :=
  let c3712_i32_99 : BitVec 32 := 3712#32
  let c0_i32_98 : BitVec 32 := 0#32
  let arg1 : BitVec 32 := BitVec.ofNat 32 (i 1).val
  let c16_i32_95 : BitVec 32 := 16#32
  let v245 : BitVec 32 := Scalar.muli arg1 c16_i32_95
  let c11_i32 : BitVec 32 := 11#32
  let v246 : BitVec 32 := Scalar.addi v245 c11_i32
  let c128_i32_96 : BitVec 32 := 128#32
  let v247 : BitVec 32 := Scalar.muli v246 c128_i32_96
  let c128_i32_97 : BitVec 32 := 128#32
  let v248 : BitVec 32 := Scalar.subi v247 c128_i32_97
  let v249 : BitVec 32 := Scalar.maxsi c0_i32_98 v248
  let v250 : BitVec 32 := Scalar.minsi c3712_i32_99 v249
  v250
def k0_mult13 (i : grid0.Coords) : BitVec 32 :=
  let c3712_i32_108 : BitVec 32 := 3712#32
  let c0_i32_107 : BitVec 32 := 0#32
  let arg1 : BitVec 32 := BitVec.ofNat 32 (i 1).val
  let c16_i32_104 : BitVec 32 := 16#32
  let v267 : BitVec 32 := Scalar.muli arg1 c16_i32_104
  let c12_i32 : BitVec 32 := 12#32
  let v268 : BitVec 32 := Scalar.addi v267 c12_i32
  let c128_i32_105 : BitVec 32 := 128#32
  let v269 : BitVec 32 := Scalar.muli v268 c128_i32_105
  let c128_i32_106 : BitVec 32 := 128#32
  let v270 : BitVec 32 := Scalar.subi v269 c128_i32_106
  let v271 : BitVec 32 := Scalar.maxsi c0_i32_107 v270
  let v272 : BitVec 32 := Scalar.minsi c3712_i32_108 v271
  v272
def k0_mult14 (i : grid0.Coords) : BitVec 32 :=
  let c3712_i32_117 : BitVec 32 := 3712#32
  let c0_i32_116 : BitVec 32 := 0#32
  let arg1 : BitVec 32 := BitVec.ofNat 32 (i 1).val
  let c16_i32_113 : BitVec 32 := 16#32
  let v289 : BitVec 32 := Scalar.muli arg1 c16_i32_113
  let c13_i32 : BitVec 32 := 13#32
  let v290 : BitVec 32 := Scalar.addi v289 c13_i32
  let c128_i32_114 : BitVec 32 := 128#32
  let v291 : BitVec 32 := Scalar.muli v290 c128_i32_114
  let c128_i32_115 : BitVec 32 := 128#32
  let v292 : BitVec 32 := Scalar.subi v291 c128_i32_115
  let v293 : BitVec 32 := Scalar.maxsi c0_i32_116 v292
  let v294 : BitVec 32 := Scalar.minsi c3712_i32_117 v293
  v294
def k0_mult15 (i : grid0.Coords) : BitVec 32 :=
  let c3712_i32_126 : BitVec 32 := 3712#32
  let c0_i32_125 : BitVec 32 := 0#32
  let arg1 : BitVec 32 := BitVec.ofNat 32 (i 1).val
  let c16_i32_122 : BitVec 32 := 16#32
  let v311 : BitVec 32 := Scalar.muli arg1 c16_i32_122
  let c14_i32 : BitVec 32 := 14#32
  let v312 : BitVec 32 := Scalar.addi v311 c14_i32
  let c128_i32_123 : BitVec 32 := 128#32
  let v313 : BitVec 32 := Scalar.muli v312 c128_i32_123
  let c128_i32_124 : BitVec 32 := 128#32
  let v314 : BitVec 32 := Scalar.subi v313 c128_i32_124
  let v315 : BitVec 32 := Scalar.maxsi c0_i32_125 v314
  let v316 : BitVec 32 := Scalar.minsi c3712_i32_126 v315
  v316
def k0_mult16 (i : grid0.Coords) : BitVec 32 :=
  let c3712_i32_135 : BitVec 32 := 3712#32
  let c0_i32_134 : BitVec 32 := 0#32
  let arg1 : BitVec 32 := BitVec.ofNat 32 (i 1).val
  let c16_i32_131 : BitVec 32 := 16#32
  let v333 : BitVec 32 := Scalar.muli arg1 c16_i32_131
  let c15_i32 : BitVec 32 := 15#32
  let v334 : BitVec 32 := Scalar.addi v333 c15_i32
  let c128_i32_132 : BitVec 32 := 128#32
  let v335 : BitVec 32 := Scalar.muli v334 c128_i32_132
  let c128_i32_133 : BitVec 32 := 128#32
  let v336 : BitVec 32 := Scalar.subi v335 c128_i32_133
  let v337 : BitVec 32 := Scalar.maxsi c0_i32_134 v336
  let v338 : BitVec 32 := Scalar.minsi c3712_i32_135 v337
  v338
def k0_off1 (i : grid0.Coords) (c0_i32 : BitVec 32) : Fin 4 → Nat :=
  let c0 : Index := 0#32
  let c0_140 : Index := 0#32
  let c3712_i32 : BitVec 32 := 3712#32
  let c0_i32_1 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32
  let c128_i32 : BitVec 32 := 128#32
  let v5 : BitVec 32 := Scalar.muli v4 c128_i32
  let c128_i32_0 : BitVec 32 := 128#32
  let v6 : BitVec 32 := Scalar.subi v5 c128_i32_0
  let v7 : BitVec 32 := Scalar.maxsi c0_i32_1 v6
  let v8 : BitVec 32 := Scalar.minsi c3712_i32 v7
  let v9 : BitVec 32 := v8
  let v355 : Index := Scalar.indexCast v9
  let c0_141 : Index := 0#32
  ![0, 0, v355.toNat, 0]
def k0_off2 (i : grid0.Coords) (c0_i32 : BitVec 32) : Fin 4 → Nat :=
  let c0_142 : Index := 0#32
  let c1 : Index := 1#32
  let c3712_i32 : BitVec 32 := 3712#32
  let c0_i32_1 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32
  let c128_i32 : BitVec 32 := 128#32
  let v5 : BitVec 32 := Scalar.muli v4 c128_i32
  let c128_i32_0 : BitVec 32 := 128#32
  let v6 : BitVec 32 := Scalar.subi v5 c128_i32_0
  let v7 : BitVec 32 := Scalar.maxsi c0_i32_1 v6
  let v8 : BitVec 32 := Scalar.minsi c3712_i32 v7
  let v9 : BitVec 32 := v8
  let v358 : Index := Scalar.indexCast v9
  let c0_143 : Index := 0#32
  ![0, 1, v358.toNat, 0]
def k0_off3 (i : grid0.Coords) (c0_i32 : BitVec 32) : Fin 4 → Nat :=
  let c0_159 : Index := 0#32
  let c2 : Index := 2#32
  let c3712_i32 : BitVec 32 := 3712#32
  let c0_i32_1 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32
  let c128_i32 : BitVec 32 := 128#32
  let v5 : BitVec 32 := Scalar.muli v4 c128_i32
  let c128_i32_0 : BitVec 32 := 128#32
  let v6 : BitVec 32 := Scalar.subi v5 c128_i32_0
  let v7 : BitVec 32 := Scalar.maxsi c0_i32_1 v6
  let v8 : BitVec 32 := Scalar.minsi c3712_i32 v7
  let v9 : BitVec 32 := v8
  let v381 : Index := Scalar.indexCast v9
  let c0_160 : Index := 0#32
  ![0, 2, v381.toNat, 0]
def k0_off4 (i : grid0.Coords) (c0_i32 : BitVec 32) : Fin 4 → Nat :=
  let c0_161 : Index := 0#32
  let c3 : Index := 3#32
  let c3712_i32 : BitVec 32 := 3712#32
  let c0_i32_1 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32
  let c128_i32 : BitVec 32 := 128#32
  let v5 : BitVec 32 := Scalar.muli v4 c128_i32
  let c128_i32_0 : BitVec 32 := 128#32
  let v6 : BitVec 32 := Scalar.subi v5 c128_i32_0
  let v7 : BitVec 32 := Scalar.maxsi c0_i32_1 v6
  let v8 : BitVec 32 := Scalar.minsi c3712_i32 v7
  let v9 : BitVec 32 := v8
  let v384 : Index := Scalar.indexCast v9
  let c0_162 : Index := 0#32
  ![0, 3, v384.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnIdeal.lean ====
variable {F : FTy → Type} [FloatOps F] [Named F]
def κ : String → Option EReal := fun
  | "log2e" => some (((Real.log 2)⁻¹ : ℝ) : EReal)
  | "mask" => some ⊥
  | "q_scale" => some (((1 / 8) * (Real.log 2)⁻¹ : ℝ) : EReal)
  | _ => none
-- ==== AttnRefIdeal.lean ====
abbrev S8 : Shape := ⟨1, ![8]⟩
abbrev S12x4096x8x64 : Shape := ⟨4, ![12, 4096, 8, 64]⟩
abbrev S12x4096x2x64 : Shape := ⟨4, ![12, 4096, 2, 64]⟩
abbrev S12x32x128x2x4x64 : Shape := ⟨6, ![12, 32, 128, 2, 4, 64]⟩
abbrev S_ : Shape := ⟨0, ![]⟩
abbrev S12x4352x2x64 : Shape := ⟨4, ![12, 4352, 2, 64]⟩
abbrev S12x34x128x2x64 : Shape := ⟨5, ![12, 34, 128, 2, 64]⟩
abbrev S12x32x128x2x64 : Shape := ⟨5, ![12, 32, 128, 2, 64]⟩
abbrev S12x32x384x2x64 : Shape := ⟨5, ![12, 32, 384, 2, 64]⟩
abbrev S12x32x2x384x128x4 : Shape := ⟨6, ![12, 32, 2, 384, 128, 4]⟩
abbrev S12x32x2x4x128x384 : Shape := ⟨6, ![12, 32, 2, 4, 128, 384]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S384 : Shape := ⟨1, ![384]⟩
abbrev S1x384 : Shape := ⟨2, ![1, 384]⟩
abbrev S32x384 : Shape := ⟨2, ![32, 384]⟩
abbrev S32x128x1 : Shape := ⟨3, ![32, 128, 1]⟩
abbrev S32x1x384 : Shape := ⟨3, ![32, 1, 384]⟩
abbrev S32x128x384 : Shape := ⟨3, ![32, 128, 384]⟩
abbrev S1x32x1x1x128x384 : Shape := ⟨6, ![1, 32, 1, 1, 128, 384]⟩
abbrev S1x1x2x4x1x1 : Shape := ⟨6, ![1, 1, 2, 4, 1, 1]⟩
abbrev S12x32x2x4x128 : Shape := ⟨5, ![12, 32, 2, 4, 128]⟩
abbrev S12x32x2x4x128x1 : Shape := ⟨6, ![12, 32, 2, 4, 128, 1]⟩
abbrev S12x32x2x64x4x128 : Shape := ⟨6, ![12, 32, 2, 64, 4, 128]⟩
abbrev S12x4096x512 : Shape := ⟨3, ![12, 4096, 512]⟩

abbrev nBuf : Space → Nat
  | .hbm => 98
  | .vmem => 0
  | .smem => 0
  | _ => 0

abbrev bufTy : (tb : Table) → Fin (tcTables nBuf tb) → BufTy
  | .hbm, ⟨0, _⟩ => ⟨S8, .f32⟩
  | .hbm, ⟨1, _⟩ => ⟨S12x4096x8x64, .f32⟩
  | .hbm, ⟨2, _⟩ => ⟨S12x4096x2x64, .f32⟩
  | .hbm, ⟨3, _⟩ => ⟨S12x4096x2x64, .f32⟩
  | .hbm, ⟨4, _⟩ => ⟨S12x32x128x2x4x64, .f32⟩
  | .hbm, ⟨5, _⟩ => ⟨S_, .i32⟩
  | .hbm, ⟨6, _⟩ => ⟨S_, .f32⟩
  | .hbm, ⟨7, _⟩ => ⟨S12x4352x2x64, .f32⟩
  | .hbm, ⟨8, _⟩ => ⟨S12x34x128x2x64, .f32⟩
  | .hbm, ⟨9, _⟩ => ⟨S12x32x128x2x64, .f32⟩
  | .hbm, ⟨10, _⟩ => ⟨S12x32x128x2x64, .f32⟩
  | .hbm, ⟨11, _⟩ => ⟨S12x32x128x2x64, .f32⟩
  | .hbm, ⟨12, _⟩ => ⟨S12x32x384x2x64, .f32⟩
  | .hbm, ⟨13, _⟩ => ⟨S_, .i32⟩
  | .hbm, ⟨14, _⟩ => ⟨S_, .f32⟩
  | .hbm, ⟨15, _⟩ => ⟨S12x4352x2x64, .f32⟩
  | .hbm, ⟨16, _⟩ => ⟨S12x34x128x2x64, .f32⟩
  | .hbm, ⟨17, _⟩ => ⟨S12x32x128x2x64, .f32⟩
  | .hbm, ⟨18, _⟩ => ⟨S12x32x128x2x64, .f32⟩
  | .hbm, ⟨19, _⟩ => ⟨S12x32x128x2x64, .f32⟩
  | .hbm, ⟨20, _⟩ => ⟨S12x32x384x2x64, .f32⟩
  | .hbm, ⟨21, _⟩ => ⟨S12x32x2x384x128x4, .f32⟩
  | .hbm, ⟨22, _⟩ => ⟨S12x32x2x4x128x384, .f32⟩
  | .hbm, ⟨23, _⟩ => ⟨S_, .f32⟩
  | .hbm, ⟨24, _⟩ => ⟨S12x32x2x4x128x384, .f32⟩
  | .hbm, ⟨25, _⟩ => ⟨S12x32x2x4x128x384, .f32⟩
  | .hbm, ⟨26, _⟩ => ⟨S32, .i32⟩
  | .hbm, ⟨27, _⟩ => ⟨S32x1, .i32⟩
  | .hbm, ⟨28, _⟩ => ⟨S_, .i32⟩
  | .hbm, ⟨29, _⟩ => ⟨S32x1, .i32⟩
  | .hbm, ⟨30, _⟩ => ⟨S32x1, .i32⟩
  | .hbm, ⟨31, _⟩ => ⟨S128, .i32⟩
  | .hbm, ⟨32, _⟩ => ⟨S1x128, .i32⟩
  | .hbm, ⟨33, _⟩ => ⟨S32x128, .i32⟩
  | .hbm, ⟨34, _⟩ => ⟨S32x128, .i32⟩
  | .hbm, ⟨35, _⟩ => ⟨S32x128, .i32⟩
  | .hbm, ⟨36, _⟩ => ⟨S32, .i32⟩
  | .hbm, ⟨37, _⟩ => ⟨S32x1, .i32⟩
  | .hbm, ⟨38, _⟩ => ⟨S_, .i32⟩
  | .hbm, ⟨39, _⟩ => ⟨S32x1, .i32⟩
  | .hbm, ⟨40, _⟩ => ⟨S32x1, .i32⟩
  | .hbm, ⟨41, _⟩ => ⟨S_, .i32⟩
  | .hbm, ⟨42, _⟩ => ⟨S32x1, .i32⟩
  | .hbm, ⟨43, _⟩ => ⟨S32x1, .i32⟩
  | .hbm, ⟨44, _⟩ => ⟨S384, .i32⟩
  | .hbm, ⟨45, _⟩ => ⟨S1x384, .i32⟩
  | .hbm, ⟨46, _⟩ => ⟨S32x384, .i32⟩
  | .hbm, ⟨47, _⟩ => ⟨S32x384, .i32⟩
  | .hbm, ⟨48, _⟩ => ⟨S32x384, .i32⟩
  | .hbm, ⟨49, _⟩ => ⟨S32x128x1, .i32⟩
  | .hbm, ⟨50, _⟩ => ⟨S32x1x384, .i32⟩
  | .hbm, ⟨51, _⟩ => ⟨S32x128x384, .i32⟩
  | .hbm, ⟨52, _⟩ => ⟨S32x128x384, .i32⟩
  | .hbm, ⟨53, _⟩ => ⟨S32x128x384, .i32⟩
  | .hbm, ⟨54, _⟩ => ⟨S32x128x384, .i32⟩
  | .hbm, ⟨55, _⟩ => ⟨S_, .i32⟩
  | .hbm, ⟨56, _⟩ => ⟨S32x128x384, .i32⟩
  | .hbm, ⟨57, _⟩ => ⟨S32x128x384, .i1⟩
  | .hbm, ⟨58, _⟩ => ⟨S32x1x384, .i32⟩
  | .hbm, ⟨59, _⟩ => ⟨S_, .i32⟩
  | .hbm, ⟨60, _⟩ => ⟨S32x1x384, .i32⟩
  | .hbm, ⟨61, _⟩ => ⟨S32x1x384, .i1⟩
  | .hbm, ⟨62, _⟩ => ⟨S32x128x384, .i1⟩
  | .hbm, ⟨63, _⟩ => ⟨S32x128x384, .i1⟩
  | .hbm, ⟨64, _⟩ => ⟨S32x1x384, .i32⟩
  | .hbm, ⟨65, _⟩ => ⟨S_, .i32⟩
  | .hbm, ⟨66, _⟩ => ⟨S32x1x384, .i32⟩
  | .hbm, ⟨67, _⟩ => ⟨S32x1x384, .i1⟩
  | .hbm, ⟨68, _⟩ => ⟨S32x128x384, .i1⟩
  | .hbm, ⟨69, _⟩ => ⟨S32x128x384, .i1⟩
  | .hbm, ⟨70, _⟩ => ⟨S1x32x1x1x128x384, .i1⟩
  | .hbm, ⟨71, _⟩ => ⟨S_, .f32⟩
  | .hbm, ⟨72, _⟩ => ⟨S_, .f32⟩
  | .hbm, ⟨73, _⟩ => ⟨S12x32x2x4x128x384, .i1⟩
  | .hbm, ⟨74, _⟩ => ⟨S12x32x2x4x128x384, .f32⟩
  | .hbm, ⟨75, _⟩ => ⟨S12x32x2x4x128x384, .f32⟩
  | .hbm, ⟨76, _⟩ => ⟨S1x1x2x4x1x1, .f32⟩
  | .hbm, ⟨77, _⟩ => ⟨S_, .f32⟩
  | .hbm, ⟨78, _⟩ => ⟨S12x32x2x4x128, .f32⟩
  | .hbm, ⟨79, _⟩ => ⟨S12x32x2x4x128x1, .f32⟩
  | .hbm, ⟨80, _⟩ => ⟨S12x32x2x4x128x1, .f32⟩
  | .hbm, ⟨81, _⟩ => ⟨S12x32x2x4x128x1, .f32⟩
  | .hbm, ⟨82, _⟩ => ⟨S12x32x2x4x128x384, .f32⟩
  | .hbm, ⟨83, _⟩ => ⟨S12x32x2x4x128x384, .f32⟩
  | .hbm, ⟨84, _⟩ => ⟨S12x32x2x4x128x384, .f32⟩
  | .hbm, ⟨85, _⟩ => ⟨S_, .f32⟩
  | .hbm, ⟨86, _⟩ => ⟨S12x32x2x4x128, .f32⟩
  | .hbm, ⟨87, _⟩ => ⟨S12x32x2x4x128x1, .f32⟩
  | .hbm, ⟨88, _⟩ => ⟨S12x32x2x4x128x1, .f32⟩
  | .hbm, ⟨89, _⟩ => ⟨S12x32x2x4x128x1, .f32⟩
  | .hbm, ⟨90, _⟩ => ⟨S12x32x2x4x128x1, .f32⟩
  | .hbm, ⟨91, _⟩ => ⟨S12x32x2x4x128x1, .f32⟩
  | .hbm, ⟨92, _⟩ => ⟨S12x32x2x4x128x384, .f32⟩
  | .hbm, ⟨93, _⟩ => ⟨S12x32x2x4x128x384, .f32⟩
  | .hbm, ⟨94, _⟩ => ⟨S12x32x2x64x4x128, .f32⟩
  | .hbm, ⟨95, _⟩ => ⟨S12x32x128x2x4x64, .f32⟩
  | .hbm, ⟨96, _⟩ => ⟨S12x4096x512, .f32⟩
  | .hbm, ⟨97, _⟩ => ⟨S12x4096x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_9 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩

abbrev nD : Nat := 1
abbrev τ : Topo := Topo.v7x

variable {F : FTy → Type} [FloatOps F]
-- ==== Filt.lean ====
abbrev S1x33x64 : Shape := ⟨3, ![1, 33, 64]⟩
abbrev S1x64 : Shape := ⟨2, ![1, 64]⟩
abbrev S1x2x64x64 : Shape := ⟨4, ![1, 2, 64, 64]⟩
abbrev S1x2x64 : Shape := ⟨3, ![1, 2, 64]⟩
abbrev S1x64x2048 : Shape := ⟨3, ![1, 64, 2048]⟩
abbrev S1x1024x4352 : Shape := ⟨3, ![1, 1024, 4352]⟩
abbrev S_ : Shape := ⟨0, ![]⟩
abbrev S4095 : Shape := ⟨1, ![4095]⟩
abbrev S1 : Shape := ⟨1, ![1]⟩
abbrev S4096 : Shape := ⟨1, ![4096]⟩
abbrev S4096x1 : Shape := ⟨2, ![4096, 1]⟩
abbrev S15 : Shape := ⟨1, ![15]⟩
abbrev S16 : Shape := ⟨1, ![16]⟩
abbrev S1x16 : Shape := ⟨2, ![1, 16]⟩
abbrev S4096x16 : Shape := ⟨2, ![4096, 16]⟩
abbrev S4096x33 : Shape := ⟨2, ![4096, 33]⟩
abbrev S4096x128 : Shape := ⟨2, ![4096, 128]⟩
abbrev S511 : Shape := ⟨1, ![511]⟩
abbrev S512 : Shape := ⟨1, ![512]⟩
abbrev S1x512 : Shape := ⟨2, ![1, 512]⟩
abbrev S4x512 : Shape := ⟨2, ![4, 512]⟩
abbrev S2048 : Shape := ⟨1, ![2048]⟩
abbrev S1x2048 : Shape := ⟨2, ![1, 2048]⟩
abbrev S33x64 : Shape := ⟨2, ![33, 64]⟩
abbrev S128x64 : Shape := ⟨2, ![128, 64]⟩
abbrev S64 : Shape := ⟨1, ![64]⟩
abbrev S2x64x64 : Shape := ⟨3, ![2, 64, 64]⟩
abbrev S2x64 : Shape := ⟨2, ![2, 64]⟩
abbrev S2x1x64 : Shape := ⟨3, ![2, 1, 64]⟩
abbrev S64x2048 : Shape := ⟨2, ![64, 2048]⟩
abbrev S1024x4352 : Shape := ⟨2, ![1024, 4352]⟩
abbrev S128x128 : Shape := ⟨2, ![128, 128]⟩
abbrev S256x128 : Shape := ⟨2, ![256, 128]⟩
abbrev S2x64x128 : Shape := ⟨3, ![2, 64, 128]⟩
abbrev S2x128x128 : Shape := ⟨3, ![2, 128, 128]⟩
abbrev S64x4096 : Shape := ⟨2, ![64, 4096]⟩
abbrev S128x4096 : Shape := ⟨2, ![128, 4096]⟩
abbrev S1x128 : Shape := ⟨2, ![1, 128]⟩
abbrev S2x1x128 : Shape := ⟨3, ![2, 1, 128]⟩
abbrev S4096x2048 : Shape := ⟨2, ![4096, 2048]⟩
abbrev S512x128 : Shape := ⟨2, ![512, 128]⟩
abbrev S128x4352 : Shape := ⟨2, ![128, 4352]⟩
abbrev S512x2048 : Shape := ⟨2, ![512, 2048]⟩
abbrev S256x256 : Shape := ⟨2, ![256, 256]⟩
abbrev S1x128x128 : Shape := ⟨3, ![1, 128, 128]⟩
abbrev S1x1x128 : Shape := ⟨3, ![1, 1, 128]⟩
abbrev S256x4096 : Shape := ⟨2, ![256, 4096]⟩
abbrev S256x1 : Shape := ⟨2, ![256, 1]⟩
abbrev S256x2048 : Shape := ⟨2, ![256, 2048]⟩

abbrev nBuf : Space → Nat
  | .hbm => 136
  | .vmem => 15
  | .smem => 0
  | _ => 0

abbrev hbmTy0_0 (i : Nat) : BufTy := match i % 128 with
  | 0 => ⟨S1x33x64, .f32⟩
  | 1 => ⟨S1x64, .f32⟩
  | 2 => ⟨S1x2x64x64, .f32⟩
  | 3 => ⟨S1x2x64, .f32⟩
  | 4 => ⟨S1x64x2048, .f32⟩
  | 5 => ⟨S1x64, .f32⟩
  | 6 => ⟨S1x1024x4352, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S4095, .f32⟩
  | 15 => ⟨S_, .f32⟩
  | 16 => ⟨S4095, .f32⟩
  | 17 => ⟨S4095, .f32⟩
  | 18 => ⟨S1, .f32⟩
  | 19 => ⟨S_, .f32⟩
  | 20 => ⟨S4095, .f32⟩
  | 21 => ⟨S4095, .f32⟩
  | 22 => ⟨S4095, .f32⟩
  | 23 => ⟨S4095, .f32⟩
  | 24 => ⟨S1, .f32⟩
  | 25 => ⟨S4095, .f32⟩
  | 26 => ⟨S4095, .f32⟩
  | 27 => ⟨S4095, .f32⟩
  | 28 => ⟨S1, .f32⟩
  | 29 => ⟨S4096, .f32⟩
  | 30 => ⟨S4096x1, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S_, .f32⟩
  | 40 => ⟨S_, .i32⟩
  | 41 => ⟨S_, .f32⟩
  | 42 => ⟨S_, .f32⟩
  | 43 => ⟨S_, .f32⟩
  | 44 => ⟨S_, .f32⟩
  | 45 => ⟨S_, .f32⟩
  | 46 => ⟨S15, .f32⟩
  | 47 => ⟨S_, .f32⟩
  | 48 => ⟨S15, .f32⟩
  | 49 => ⟨S15, .f32⟩
  | 50 => ⟨S1, .f32⟩
  | 51 => ⟨S_, .f32⟩
  | 52 => ⟨S15, .f32⟩
  | 53 => ⟨S15, .f32⟩
  | 54 => ⟨S15, .f32⟩
  | 55 => ⟨S15, .f32⟩
  | 56 => ⟨S1, .f32⟩
  | 57 => ⟨S15, .f32⟩
  | 58 => ⟨S15, .f32⟩
  | 59 => ⟨S15, .f32⟩
  | 60 => ⟨S1, .f32⟩
  | 61 => ⟨S16, .f32⟩
  | 62 => ⟨S1x16, .f32⟩
  | 63 => ⟨S4096x16, .f32⟩
  | 64 => ⟨S4096x16, .f32⟩
  | 65 => ⟨S4096x16, .f32⟩
  | 66 => ⟨S4096x16, .f32⟩
  | 67 => ⟨S4096x16, .f32⟩
  | 68 => ⟨S4096x16, .f32⟩
  | 69 => ⟨S4096x16, .f32⟩
  | 70 => ⟨S4096x16, .f32⟩
  | 71 => ⟨S4096x33, .f32⟩
  | 72 => ⟨S_, .i32⟩
  | 73 => ⟨S_, .f32⟩
  | 74 => ⟨S4096x128, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S511, .f32⟩
  | 83 => ⟨S_, .f32⟩
  | 84 => ⟨S511, .f32⟩
  | 85 => ⟨S511, .f32⟩
  | 86 => ⟨S1, .f32⟩
  | 87 => ⟨S_, .f32⟩
  | 88 => ⟨S511, .f32⟩
  | 89 => ⟨S511, .f32⟩
  | 90 => ⟨S511, .f32⟩
  | 91 => ⟨S511, .f32⟩
  | 92 => ⟨S1, .f32⟩
  | 93 => ⟨S511, .f32⟩
  | 94 => ⟨S511, .f32⟩
  | 95 => ⟨S511, .f32⟩
  | 96 => ⟨S1, .f32⟩
  | 97 => ⟨S512, .f32⟩
  | 98 => ⟨S1x512, .f32⟩
  | 99 => ⟨S4x512, .f32⟩
  | 100 => ⟨S2048, .f32⟩
  | 101 => ⟨S2048, .f32⟩
  | 102 => ⟨S1x2048, .f32⟩
  | 103 => ⟨S33x64, .f32⟩
  | 104 => ⟨S_, .i32⟩
  | 105 => ⟨S_, .f32⟩
  | 106 => ⟨S128x64, .f32⟩
  | 107 => ⟨S64, .f32⟩
  | 108 => ⟨S1x64, .f32⟩
  | 109 => ⟨S2x64x64, .f32⟩
  | 110 => ⟨S2x64, .f32⟩
  | 111 => ⟨S2x1x64, .f32⟩
  | 112 => ⟨S64x2048, .f32⟩
  | 113 => ⟨S64, .f32⟩
  | 114 => ⟨S1x64, .f32⟩
  | 115 => ⟨S1024x4352, .f32⟩
  | 116 => ⟨S_, .f32⟩
  | 117 => ⟨S128x64, .f32⟩
  | 118 => ⟨S128x128, .f32⟩
  | 119 => ⟨S128x128, .f32⟩
  | 120 => ⟨S256x128, .f32⟩
  | 121 => ⟨S_, .f32⟩
  | 122 => ⟨S2x64x64, .f32⟩
  | 123 => ⟨S2x64x128, .f32⟩
  | 124 => ⟨S2x64x128, .f32⟩
  | 125 => ⟨S2x128x128, .f32⟩
  | 126 => ⟨S_, .f32⟩
  | 127 => ⟨S64x2048, .f32⟩
  | _ => ⟨S1x33x64, .f32⟩

abbrev hbmTy0_1 (i : Nat) : BufTy := match i % 128 with
  | 0 => ⟨S64x4096, .f32⟩
  | 1 => ⟨S64x4096, .f32⟩
  | 2 => ⟨S128x4096, .f32⟩
  | 3 => ⟨S1x128, .f32⟩
  | 4 => ⟨S2x1x128, .f32⟩
  | 5 => ⟨S1x128, .f32⟩
  | 6 => ⟨S4096x2048, .f32⟩
  | 7 => ⟨S1024x4352, .bf16⟩
  | _ => ⟨S1x33x64, .f32⟩

abbrev hbmTy (i : Nat) : BufTy := match i / 128 with
  | 0 => hbmTy0_0 i
  | 1 => hbmTy0_1 i
  | _ => ⟨S1x33x64, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S256x128, .f32⟩
  | .local _ .vmem, ⟨3, _⟩ => ⟨S1x128, .f32⟩
  | .local _ .vmem, ⟨4, _⟩ => ⟨S2x128x128, .f32⟩
  | .local _ .vmem, ⟨5, _⟩ => ⟨S2x1x128, .f32⟩
  | .local _ .vmem, ⟨6, _⟩ => ⟨S128x4096, .f32⟩
  | .local _ .vmem, ⟨7, _⟩ => ⟨S1x128, .f32⟩
  | .local _ .vmem, ⟨8, _⟩ => ⟨S1x2048, .f32⟩
  | .local _ .vmem, ⟨9, _⟩ => ⟨S128x4352, .f32⟩
  | .local _ .vmem, ⟨10, _⟩ => ⟨S128x4352, .f32⟩
  | .local _ .vmem, ⟨11, _⟩ => ⟨S512x2048, .f32⟩
  | .local _ .vmem, ⟨12, _⟩ => ⟨S512x2048, .f32⟩
  | .local _ .vmem, ⟨13, _⟩ => ⟨S128x4352, .bf16⟩
  | .local _ .vmem, ⟨14, _⟩ => ⟨S128x4352, .bf16⟩
  | _, _ => ⟨S1x33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst_1 : Ref sig .tc := ⟨.hbm, 33, rfl⟩
abbrev main_v4 : Ref sig .tc := ⟨.hbm, 34, rfl⟩
abbrev main_v5 : Ref sig .tc := ⟨.hbm, 35, rfl⟩
abbrev main_cst_2 : Ref sig .tc := ⟨.hbm, 36, rfl⟩
abbrev main_v6 : Ref sig .tc := ⟨.hbm, 37, rfl⟩
abbrev main_v7 : Ref sig .tc := ⟨.hbm, 38, rfl⟩
abbrev main_cst_3 : Ref sig .tc := ⟨.hbm, 39, rfl⟩
abbrev main_c : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_cst : Ref sig .tc := ⟨.hbm, 44, rfl⟩
abbrev main_call1_v3 : Ref sig .tc := ⟨.hbm, 45, rfl⟩
abbrev main_call1_v4 : Ref sig .tc := ⟨.hbm, 46, rfl⟩
abbrev main_call1_cst_0 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_cst_1 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_v15 : Ref sig .tc := ⟨.hbm, 59, rfl⟩
abbrev main_call1_v16 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_c_4 : Ref sig .tc := ⟨.hbm, 72, rfl⟩
abbrev main_call2_v0 : Ref sig .tc := ⟨.hbm, 73, rfl⟩
abbrev main_v19 : Ref sig .tc := ⟨.hbm, 74, rfl⟩
abbrev main_cst_5 : Ref sig .tc := ⟨.hbm, 75, rfl⟩
abbrev main_cst_6 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_cst : Ref sig .tc := ⟨.hbm, 80, rfl⟩
abbrev main_call3_v3 : Ref sig .tc := ⟨.hbm, 81, rfl⟩
abbrev main_call3_v4 : Ref sig .tc := ⟨.hbm, 82, rfl⟩
abbrev main_call3_cst_0 : Ref sig .tc := ⟨.hbm, 83, rfl⟩
abbrev main_call3_v5 : Ref sig .tc := ⟨.hbm, 84, rfl⟩
abbrev main_call3_v6 : Ref sig .tc := ⟨.hbm, 85, rfl⟩
abbrev main_call3_v7 : Ref sig .tc := ⟨.hbm, 86, rfl⟩
abbrev main_call3_cst_1 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_call3_v15 : Ref sig .tc := ⟨.hbm, 95, rfl⟩
abbrev main_call3_v16 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_c_7 : Ref sig .tc := ⟨.hbm, 104, rfl⟩
abbrev main_call4_v0 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_cst_8 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_cst_9 : Ref sig .tc := ⟨.hbm, 121, rfl⟩
abbrev main_v41 : Ref sig .tc := ⟨.hbm, 122, rfl⟩
abbrev main_v42 : Ref sig .tc := ⟨.hbm, 123, rfl⟩
abbrev main_v43 : Ref sig .tc := ⟨.hbm, 124, rfl⟩
abbrev main_v44 : Ref sig .tc := ⟨.hbm, 125, rfl⟩
abbrev main_cst_10 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52_0 : Ref sig .tc := ⟨.hbm, 134, rfl⟩
abbrev main_v52_1 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x4352 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x4352 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FiltRefIdeal.lean ====
abbrev S1x33x64 : Shape := ⟨3, ![1, 33, 64]⟩
abbrev S1x64 : Shape := ⟨2, ![1, 64]⟩
abbrev S1x2x64x64 : Shape := ⟨4, ![1, 2, 64, 64]⟩
abbrev S1x2x64 : Shape := ⟨3, ![1, 2, 64]⟩
abbrev S1x64x2048 : Shape := ⟨3, ![1, 64, 2048]⟩
abbrev S1x1024x4352 : Shape := ⟨3, ![1, 1024, 4352]⟩
abbrev S33x64 : Shape := ⟨2, ![33, 64]⟩
abbrev S64 : Shape := ⟨1, ![64]⟩
abbrev S2x64x64 : Shape := ⟨3, ![2, 64, 64]⟩
abbrev S2x64 : Shape := ⟨2, ![2, 64]⟩
abbrev S64x2048 : Shape := ⟨2, ![64, 2048]⟩
abbrev S_ : Shape := ⟨0, ![]⟩
abbrev S4095 : Shape := ⟨1, ![4095]⟩
abbrev S1 : Shape := ⟨1, ![1]⟩
abbrev S4096 : Shape := ⟨1, ![4096]⟩
abbrev S4096x1 : Shape := ⟨2, ![4096, 1]⟩
abbrev S15 : Shape := ⟨1, ![15]⟩
abbrev S16 : Shape := ⟨1, ![16]⟩
abbrev S1x16 : Shape := ⟨2, ![1, 16]⟩
abbrev S4096x16 : Shape := ⟨2, ![4096, 16]⟩
abbrev S4096x33 : Shape := ⟨2, ![4096, 33]⟩
abbrev S4096x64 : Shape := ⟨2, ![4096, 64]⟩
abbrev S1x64x64 : Shape := ⟨3, ![1, 64, 64]⟩
abbrev S64x64 : Shape := ⟨2, ![64, 64]⟩
abbrev S4096x2048 : Shape := ⟨2, ![4096, 2048]⟩
abbrev S511 : Shape := ⟨1, ![511]⟩
abbrev S512 : Shape := ⟨1, ![512]⟩
abbrev S1x512 : Shape := ⟨2, ![1, 512]⟩
abbrev S4x512 : Shape := ⟨2, ![4, 512]⟩
abbrev S2048 : Shape := ⟨1, ![2048]⟩
abbrev S1x2048 : Shape := ⟨2, ![1, 2048]⟩
abbrev S1024x4352 : Shape := ⟨2, ![1024, 4352]⟩

abbrev nBuf : Space → Nat
  | .hbm => 147
  | .vmem => 0
  | .smem => 0
  | _ => 0

abbrev hbmTy0_0 (i : Nat) : BufTy := match i % 128 with
  | 0 => ⟨S1x33x64, .f32⟩
  | 1 => ⟨S1x64, .f32⟩
  | 2 => ⟨S1x2x64x64, .f32⟩
  | 3 => ⟨S1x2x64, .f32⟩
  | 4 => ⟨S1x64x2048, .f32⟩
  | 5 => ⟨S1x64, .f32⟩
  | 6 => ⟨S1x1024x4352, .f32⟩
  | 7 => ⟨S33x64, .f32⟩
  | 8 => ⟨S64, .f32⟩
  | 9 => ⟨S2x64x64, .f32⟩
  | 10 => ⟨S2x64, .f32⟩
  | 11 => ⟨S64x2048, .f32⟩
  | 12 => ⟨S64, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S4095, .f32⟩
  | 21 => ⟨S_, .f32⟩
  | 22 => ⟨S4095, .f32⟩
  | 23 => ⟨S4095, .f32⟩
  | 24 => ⟨S1, .f32⟩
  | 25 => ⟨S_, .f32⟩
  | 26 => ⟨S4095, .f32⟩
  | 27 => ⟨S4095, .f32⟩
  | 28 => ⟨S4095, .f32⟩
  | 29 => ⟨S4095, .f32⟩
  | 30 => ⟨S1, .f32⟩
  | 31 => ⟨S4095, .f32⟩
  | 32 => ⟨S4095, .f32⟩
  | 33 => ⟨S4095, .f32⟩
  | 34 => ⟨S1, .f32⟩
  | 35 => ⟨S4096, .f32⟩
  | 36 => ⟨S4096x1, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S_, .f32⟩
  | 43 => ⟨S4096x1, .f32⟩
  | 44 => ⟨S4096x1, .f32⟩
  | 45 => ⟨S_, .f32⟩
  | 46 => ⟨S_, .i32⟩
  | 47 => ⟨S_, .f32⟩
  | 48 => ⟨S_, .f32⟩
  | 49 => ⟨S_, .f32⟩
  | 50 => ⟨S_, .f32⟩
  | 51 => ⟨S_, .f32⟩
  | 52 => ⟨S15, .f32⟩
  | 53 => ⟨S_, .f32⟩
  | 54 => ⟨S15, .f32⟩
  | 55 => ⟨S15, .f32⟩
  | 56 => ⟨S1, .f32⟩
  | 57 => ⟨S_, .f32⟩
  | 58 => ⟨S15, .f32⟩
  | 59 => ⟨S15, .f32⟩
  | 60 => ⟨S15, .f32⟩
  | 61 => ⟨S15, .f32⟩
  | 62 => ⟨S1, .f32⟩
  | 63 => ⟨S15, .f32⟩
  | 64 => ⟨S15, .f32⟩
  | 65 => ⟨S15, .f32⟩
  | 66 => ⟨S1, .f32⟩
  | 67 => ⟨S16, .f32⟩
  | 68 => ⟨S1x16, .f32⟩
  | 69 => ⟨S4096x16, .f32⟩
  | 70 => ⟨S4096x16, .f32⟩
  | 71 => ⟨S4096x16, .f32⟩
  | 72 => ⟨S4096x16, .f32⟩
  | 73 => ⟨S4096x16, .f32⟩
  | 74 => ⟨S4096x16, .f32⟩
  | 75 => ⟨S4096x16, .f32⟩
  | 76 => ⟨S4096x16, .f32⟩
  | 77 => ⟨S4096x33, .f32⟩
  | 78 => ⟨S4096x64, .f32⟩
  | 79 => ⟨S1x64, .f32⟩
  | 80 => ⟨S4096x64, .f32⟩
  | 81 => ⟨S4096x64, .f32⟩
  | 82 => ⟨S1x64, .f32⟩
  | 83 => ⟨S4096x64, .f32⟩
  | 84 => ⟨S4096x64, .f32⟩
  | 85 => ⟨S4096x64, .f32⟩
  | 86 => ⟨S1x64x64, .f32⟩
  | 87 => ⟨S64x64, .f32⟩
  | 88 => ⟨S4096x64, .f32⟩
  | 89 => ⟨S1x64, .f32⟩
  | 90 => ⟨S64, .f32⟩
  | 91 => ⟨S1x64, .f32⟩
  | 92 => ⟨S4096x64, .f32⟩
  | 93 => ⟨S4096x64, .f32⟩
  | 94 => ⟨S1x64, .f32⟩
  | 95 => ⟨S4096x64, .f32⟩
  | 96 => ⟨S4096x64, .f32⟩
  | 97 => ⟨S4096x64, .f32⟩
  | 98 => ⟨S1x64x64, .f32⟩
  | 99 => ⟨S64x64, .f32⟩
  | 100 => ⟨S4096x64, .f32⟩
  | 101 => ⟨S1x64, .f32⟩
  | 102 => ⟨S64, .f32⟩
  | 103 => ⟨S1x64, .f32⟩
  | 104 => ⟨S4096x64, .f32⟩
  | 105 => ⟨S4096x64, .f32⟩
  | 106 => ⟨S1x64, .f32⟩
  | 107 => ⟨S4096x64, .f32⟩
  | 108 => ⟨S4096x64, .f32⟩
  | 109 => ⟨S4096x64, .f32⟩
  | 110 => ⟨S4096x2048, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S511, .f32⟩
  | 119 => ⟨S_, .f32⟩
  | 120 => ⟨S511, .f32⟩
  | 121 => ⟨S511, .f32⟩
  | 122 => ⟨S1, .f32⟩
  | 123 => ⟨S_, .f32⟩
  | 124 => ⟨S511, .f32⟩
  | 125 => ⟨S511, .f32⟩
  | 126 => ⟨S511, .f32⟩
  | 127 => ⟨S511, .f32⟩
  | _ => ⟨S1x33x64, .f32⟩

abbrev hbmTy0_1 (i : Nat) : BufTy := match i % 128 with
  | 0 => ⟨S1, .f32⟩
  | 1 => ⟨S511, .f32⟩
  | 2 => ⟨S511, .f32⟩
  | 3 => ⟨S511, .f32⟩
  | 4 => ⟨S1, .f32⟩
  | 5 => ⟨S512, .f32⟩
  | 6 => ⟨S1x512, .f32⟩
  | 7 => ⟨S4x512, .f32⟩
  | 8 => ⟨S2048, .f32⟩
  | 9 => ⟨S4096x1, .f32⟩
  | 10 => ⟨S2048, .f32⟩
  | 11 => ⟨S1x2048, .f32⟩
  | 12 => ⟨S4096x2048, .f32⟩
  | 13 => ⟨S4096x2048, .f32⟩
  | 14 => ⟨S4096x2048, .f32⟩
  | 15 => ⟨S4096x2048, .f32⟩
  | 16 => ⟨S4096x2048, .f32⟩
  | 17 => ⟨S1024x4352, .f32⟩
  | 18 => ⟨S1024x4352, .bf16⟩
  | _ => ⟨S1x33x64, .f32⟩

abbrev hbmTy (i : Nat) : BufTy := match i / 128 with
  | 0 => hbmTy0_0 i
  | 1 => hbmTy0_1 i
  | _ => ⟨S1x33x64, .f32⟩

abbrev bufTy : (tb : Table) → Fin (tcTables nBuf tb) → BufTy
  | .hbm, ⟨i, _⟩ => hbmTy i
  | _, _ => ⟨S1x33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_cst : Ref sig .tc := ⟨.hbm, 18, rfl⟩
abbrev main_call0_v3 : Ref sig .tc := ⟨.hbm, 19, rfl⟩
abbrev main_call0_v4 : Ref sig .tc := ⟨.hbm, 20, rfl⟩
abbrev main_call0_cst_0 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_v11 : Ref sig .tc := ⟨.hbm, 41, rfl⟩
abbrev main_cst_2 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_c : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_cst : Ref sig .tc := ⟨.hbm, 50, rfl⟩
abbrev main_call1_v3 : Ref sig .tc := ⟨.hbm, 51, rfl⟩
abbrev main_call1_v4 : Ref sig .tc := ⟨.hbm, 52, rfl⟩
abbrev main_call1_cst_0 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_cst_1 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_v15 : Ref sig .tc := ⟨.hbm, 65, rfl⟩
abbrev main_call1_v16 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_cst_4 : Ref sig .tc := ⟨.hbm, 111, rfl⟩
abbrev main_cst_5 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_call2_cst : Ref sig .tc := ⟨.hbm, 116, rfl⟩
abbrev main_call2_v3 : Ref sig .tc := ⟨.hbm, 117, rfl⟩
abbrev main_call2_v4 : Ref sig .tc := ⟨.hbm, 118, rfl⟩
abbrev main_call2_cst_0 : Ref sig .tc := ⟨.hbm, 119, rfl⟩
abbrev main_call2_v5 : Ref sig .tc := ⟨.hbm, 120, rfl⟩
abbrev main_call2_v6 : Ref sig .tc := ⟨.hbm, 121, rfl⟩
abbrev main_call2_v7 : Ref sig .tc := ⟨.hbm, 122, rfl⟩
abbrev main_call2_cst_1 : Ref sig .tc := ⟨.hbm, 123, rfl⟩
abbrev main_call2_v8 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_v12 : Ref sig .tc := ⟨.hbm, 128, rfl⟩
abbrev main_call2_v13 : Ref sig .tc := ⟨.hbm, 129, rfl⟩
abbrev main_call2_v14 : Ref sig .tc := ⟨.hbm, 130, rfl⟩
abbrev main_call2_v15 : Ref sig .tc := ⟨.hbm, 131, rfl⟩
abbrev main_call2_v16 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩

abbrev nD : Nat := 1
abbrev τ : Topo := Topo.v7x

variable {F : FTy → Type} [FloatOps F]
-- ==== Tail.lean ====
abbrev S4x4096x1024 : Shape := ⟨3, ![4, 4096, 1024]⟩
abbrev S1x1024 : Shape := ⟨2, ![1, 1024]⟩
abbrev S1x1024x4352 : Shape := ⟨3, ![1, 1024, 4352]⟩
abbrev S1x3x1536 : Shape := ⟨3, ![1, 3, 1536]⟩
abbrev S1x1536 : Shape := ⟨2, ![1, 1536]⟩
abbrev S3x1536 : Shape := ⟨2, ![3, 1536]⟩
abbrev S1536 : Shape := ⟨1, ![1536]⟩
abbrev S_ : Shape := ⟨0, ![]⟩
abbrev S4x1536 : Shape := ⟨2, ![4, 1536]⟩
abbrev S8x1536 : Shape := ⟨2, ![8, 1536]⟩
abbrev S1024 : Shape := ⟨1, ![1024]⟩
abbrev S1024x4352 : Shape := ⟨2, ![1024, 4352]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S12x12x4096x128 : Shape := ⟨4, ![12, 12, 4096, 128]⟩
abbrev S12x4096x512 : Shape := ⟨3, ![12, 4096, 512]⟩
abbrev S12x4x4096x128 : Shape := ⟨4, ![12, 4, 4096, 128]⟩
abbrev S12x4096x2048 : Shape := ⟨3, ![12, 4096, 2048]⟩
abbrev S1x1024x1024 : Shape := ⟨3, ![1, 1024, 1024]⟩
abbrev S1x16x1024 : Shape := ⟨3, ![1, 16, 1024]⟩
abbrev S1024x128 : Shape := ⟨2, ![1024, 128]⟩
abbrev S1x12x1024x128 : Shape := ⟨4, ![1, 12, 1024, 128]⟩
abbrev S1x1024x512 : Shape := ⟨3, ![1, 1024, 512]⟩
abbrev S1x4x1024x128 : Shape := ⟨4, ![1, 4, 1024, 128]⟩
abbrev S1x1024x2048 : Shape := ⟨3, ![1, 1024, 2048]⟩
abbrev S1024x1024 : Shape := ⟨2, ![1024, 1024]⟩
abbrev S1024x1 : Shape := ⟨2, ![1024, 1]⟩
abbrev S16x1024 : Shape := ⟨2, ![16, 1024]⟩
abbrev S16 : Shape := ⟨1, ![16]⟩
abbrev S16x1 : Shape := ⟨2, ![16, 1]⟩
abbrev S1056x1024 : Shape := ⟨2, ![1056, 1024]⟩
abbrev S1024x512 : Shape := ⟨2, ![1024, 512]⟩
abbrev S1056x512 : Shape := ⟨2, ![1056, 512]⟩
abbrev S1x512 : Shape := ⟨2, ![1, 512]⟩
abbrev S1x1x1024x128 : Shape := ⟨4, ![1, 1, 1024, 128]⟩
abbrev S1024x768 : Shape := ⟨2, ![1024, 768]⟩
abbrev S1x1024x128 : Shape := ⟨3, ![1, 1024, 128]⟩
abbrev S4x12x4096x128 : Shape := ⟨4, ![4, 12, 4096, 128]⟩
abbrev S4x4096x512 : Shape := ⟨3, ![4, 4096, 512]⟩
abbrev S4x4x4096x128 : Shape := ⟨4, ![4, 4, 4096, 128]⟩
abbrev S4x4096x2048 : Shape := ⟨3, ![4, 4096, 2048]⟩

abbrev nBuf : Space → Nat
  | .hbm => 68
  | .vmem => 25
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x4352, .f32⟩
  | .hbm, ⟨3, _⟩ => ⟨S1x3x1536, .f32⟩
  | .hbm, ⟨4, _⟩ => ⟨S1x1536, .f32⟩
  | .hbm, ⟨5, _⟩ => ⟨S3x1536, .f32⟩
  | .hbm, ⟨6, _⟩ => ⟨S1536, .f32⟩
  | .hbm, ⟨7, _⟩ => ⟨S1x1536, .f32⟩
  | .hbm, ⟨8, _⟩ => ⟨S_, .f32⟩
  | .hbm, ⟨9, _⟩ => ⟨S4x1536, .f32⟩
  | .hbm, ⟨10, _⟩ => ⟨S8x1536, .f32⟩
  | .hbm, ⟨11, _⟩ => ⟨S1024, .f32⟩
  | .hbm, ⟨12, _⟩ => ⟨S1x1024, .f32⟩
  | .hbm, ⟨13, _⟩ => ⟨S1024x4352, .f32⟩
  | .hbm, ⟨14, _⟩ => ⟨S1024x4352, .bf16⟩
  | .hbm, ⟨15, _⟩ => ⟨S4096, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S4096x1, .f32⟩
  | .hbm, ⟨33, _⟩ => ⟨S1x8, .f32⟩
  | .hbm, ⟨34, _⟩ => ⟨S4096x8, .f32⟩
  | .hbm, ⟨35, _⟩ => ⟨S4096x8, .f32⟩
  | .hbm, ⟨36, _⟩ => ⟨S4096x8, .f32⟩
  | .hbm, ⟨37, _⟩ => ⟨S4096x8, .f32⟩
  | .hbm, ⟨38, _⟩ => ⟨S4096x8, .f32⟩
  | .hbm, ⟨39, _⟩ => ⟨S_, .f32⟩
  | .hbm, ⟨40, _⟩ => ⟨S4096x48, .f32⟩
  | .hbm, ⟨41, _⟩ => ⟨S_, .f32⟩
  | .hbm, ⟨42, _⟩ => ⟨S4096x48, .f32⟩
  | .hbm, ⟨43, _⟩ => ⟨S_, .f32⟩
  | .hbm, ⟨44, _⟩ => ⟨S4096x8, .f32⟩
  | .hbm, ⟨45, _⟩ => ⟨S4096x64, .f32⟩
  | .hbm, ⟨46, _⟩ => ⟨S4096x8, .f32⟩
  | .hbm, ⟨47, _⟩ => ⟨S4096x64, .f32⟩
  | .hbm, ⟨48, _⟩ => ⟨S4096x64, .f32⟩
  | .hbm, ⟨49, _⟩ => ⟨S1x4096x1x64, .f32⟩
  | .hbm, ⟨50, _⟩ => ⟨S1x4096x2x64, .f32⟩
  | .hbm, ⟨51, _⟩ => ⟨S4096x128, .f32⟩
  | .hbm, ⟨52, _⟩ => ⟨S1x4096x1x64, .f32⟩
  | .hbm, ⟨53, _⟩ => ⟨S1x4096x2x64, .f32⟩
  | .hbm, ⟨54, _⟩ => ⟨S4096x128, .f32⟩
  | .hbm, ⟨55, _⟩ => ⟨S1x4096x1x64, .f32⟩
  | .hbm, ⟨56, _⟩ => ⟨S1x4096x2x64, .f32⟩
  | .hbm, ⟨57, _⟩ => ⟨S4096x128, .f32⟩
  | .hbm, ⟨58, _⟩ => ⟨S12x12x4096x128, .bf16⟩
  | .hbm, ⟨59, _⟩ => ⟨S12x4096x512, .bf16⟩
  | .hbm, ⟨60, _⟩ => ⟨S12x4x4096x128, .bf16⟩
  | .hbm, ⟨61, _⟩ => ⟨S12x4x4096x128, .bf16⟩
  | .hbm, ⟨62, _⟩ => ⟨S12x4096x2048, .bf16⟩
  | .hbm, ⟨63, _⟩ => ⟨S4x12x4096x128, .bf16⟩
  | .hbm, ⟨64, _⟩ => ⟨S4x4096x512, .bf16⟩
  | .hbm, ⟨65, _⟩ => ⟨S4x4x4096x128, .bf16⟩
  | .hbm, ⟨66, _⟩ => ⟨S4x4x4096x128, .bf16⟩
  | .hbm, ⟨67, _⟩ => ⟨S4x4096x2048, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024, .f32⟩
  | .local _ .vmem, ⟨7, _⟩ => ⟨S1024x4352, .bf16⟩
  | .local _ .vmem, ⟨8, _⟩ => ⟨S8x1536, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1x12x1024x128, .bf16⟩
  | .local _ .vmem, ⟨16, _⟩ => ⟨S1x12x1024x128, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x4x1024x128, .bf16⟩
  | .local _ .vmem, ⟨20, _⟩ => ⟨S1x4x1024x128, .bf16⟩
  | .local _ .vmem, ⟨21, _⟩ => ⟨S1x4x1024x128, .bf16⟩
  | .local _ .vmem, ⟨22, _⟩ => ⟨S1x4x1024x128, .bf16⟩
  | .local _ .vmem, ⟨23, _⟩ => ⟨S1x1024x2048, .bf16⟩
  | .local _ .vmem, ⟨24, _⟩ => ⟨S1x1024x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44_0 : Ref sig .tc := ⟨.hbm, 58, rfl⟩
abbrev main_v44_1 : Ref sig .tc := ⟨.hbm, 59, rfl⟩
abbrev main_v44_2 : Ref sig .tc := ⟨.hbm, 60, rfl⟩
abbrev main_v44_3 : Ref sig .tc := ⟨.hbm, 61, rfl⟩
abbrev main_v44_4 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4352 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x12x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== TailRefIdeal.lean ====
abbrev S4x4096x1024 : Shape := ⟨3, ![4, 4096, 1024]⟩
abbrev S1x1024 : Shape := ⟨2, ![1, 1024]⟩
abbrev S1x1024x4352 : Shape := ⟨3, ![1, 1024, 4352]⟩
abbrev S1x3x1536 : Shape := ⟨3, ![1, 3, 1536]⟩
abbrev S1x1536 : Shape := ⟨2, ![1, 1536]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4352 : Shape := ⟨2, ![1024, 4352]⟩
abbrev S4x4096x4352 : Shape := ⟨3, ![4, 4096, 4352]⟩
abbrev S4x4096x1536 : Shape := ⟨3, ![4, 4096, 1536]⟩
abbrev S4x4096x512 : Shape := ⟨3, ![4, 4096, 512]⟩
abbrev S4x4096x128 : Shape := ⟨3, ![4, 4096, 128]⟩
abbrev S4x4098x1536 : Shape := ⟨3, ![4, 4098, 1536]⟩
abbrev S3x1536 : Shape := ⟨2, ![3, 1536]⟩
abbrev S1536 : Shape := ⟨1, ![1536]⟩
abbrev S1x1x1536 : Shape := ⟨3, ![1, 1, 1536]⟩
abbrev S4096 : Shape := ⟨1, ![4096]⟩
abbrev S4x4096x8x64 : Shape := ⟨4, ![4, 4096, 8, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S4x4096x8x16 : Shape := ⟨4, ![4, 4096, 8, 16]⟩
abbrev S4x4096x8x8 : Shape := ⟨4, ![4, 4096, 8, 8]⟩
abbrev S4x4096x8x48 : Shape := ⟨4, ![4, 4096, 8, 48]⟩
abbrev S4x4096x2x64 : Shape := ⟨4, ![4, 4096, 2, 64]⟩
abbrev S4x4096x2x16 : Shape := ⟨4, ![4, 4096, 2, 16]⟩
abbrev S4x4096x2x8 : Shape := ⟨4, ![4, 4096, 2, 8]⟩
abbrev S4x4096x2x48 : Shape := ⟨4, ![4, 4096, 2, 48]⟩
abbrev S4x4096x12x128 : Shape := ⟨4, ![4, 4096, 12, 128]⟩
abbrev S4x12x4096x128 : Shape := ⟨4, ![4, 12, 4096, 128]⟩
abbrev S4x4096x2x128 : Shape := ⟨4, ![4, 4096, 2, 128]⟩
abbrev S4x4096x2x1x128 : Shape := ⟨5, ![4, 4096, 2, 1, 128]⟩
abbrev S4x4096x2x2x128 : Shape := ⟨5, ![4, 4096, 2, 2, 128]⟩
abbrev S4x4096x4x128 : Shape := ⟨4, ![4, 4096, 4, 128]⟩
abbrev S4x4x4096x128 : Shape := ⟨4, ![4, 4, 4096, 128]⟩
abbrev S4x4096x2048 : Shape := ⟨3, ![4, 4096, 2048]⟩

abbrev nBuf : Space → Nat
  | .hbm => 195
  | .vmem => 0
  | .smem => 0
  | _ => 0

abbrev hbmTy0_0 (i : Nat) : BufTy := match i % 128 with
  | 0 => ⟨S4x4096x1024, .f32⟩
  | 1 => ⟨S1x1024, .f32⟩
  | 2 => ⟨S1x1024x4352, .f32⟩
  | 3 => ⟨S1x3x1536, .f32⟩
  | 4 => ⟨S1x1536, .f32⟩
  | 5 => ⟨S1024, .f32⟩
  | 6 => ⟨S4x4096x1024, .f32⟩
  | 7 => ⟨S_, .f32⟩
  | 8 => ⟨S4x4096, .f32⟩
  | 9 => ⟨S4x4096x1, .f32⟩
  | 10 => ⟨S_, .f32⟩
  | 11 => ⟨S4x4096x1, .f32⟩
  | 12 => ⟨S4x4096x1, .f32⟩
  | 13 => ⟨S_, .f32⟩
  | 14 => ⟨S4x4096x1, .f32⟩
  | 15 => ⟨S4x4096x1, .f32⟩
  | 16 => ⟨S4x4096x1, .f32⟩
  | 17 => ⟨S4x4096x1024, .f32⟩
  | 18 => ⟨S4x4096x1024, .f32⟩
  | 19 => ⟨S1x1x1024, .f32⟩
  | 20 => ⟨S4x4096x1024, .f32⟩
  | 21 => ⟨S4x4096x1024, .f32⟩
  | 22 => ⟨S1024x4352, .f32⟩
  | 23 => ⟨S4x4096x4352, .f32⟩
  | 24 => ⟨S4x4096x1536, .f32⟩
  | 25 => ⟨S4x4096x512, .f32⟩
  | 26 => ⟨S4x4096x128, .f32⟩
  | 27 => ⟨S4x4096x128, .f32⟩
  | 28 => ⟨S4x4096x1024, .f32⟩
  | 29 => ⟨S4x4096x1024, .f32⟩
  | 30 => ⟨S_, .i32⟩
  | 31 => ⟨S_, .f32⟩
  | 32 => ⟨S4x4098x1536, .f32⟩
  | 33 => ⟨S4x4096x1536, .f32⟩
  | 34 => ⟨S3x1536, .f32⟩
  | 35 => ⟨S1x1536, .f32⟩
  | 36 => ⟨S1536, .f32⟩
  | 37 => ⟨S1x1x1536, .f32⟩
  | 38 => ⟨S4x4096x1536, .f32⟩
  | 39 => ⟨S4x4096x1536, .f32⟩
  | 40 => ⟨S_, .f32⟩
  | 41 => ⟨S4x4096x1536, .f32⟩
  | 42 => ⟨S4x4096x1536, .f32⟩
  | 43 => ⟨S4x4096x1536, .f32⟩
  | 44 => ⟨S3x1536, .f32⟩
  | 45 => ⟨S1x1536, .f32⟩
  | 46 => ⟨S1536, .f32⟩
  | 47 => ⟨S1x1x1536, .f32⟩
  | 48 => ⟨S4x4096x1536, .f32⟩
  | 49 => ⟨S4x4096x1536, .f32⟩
  | 50 => ⟨S4x4096x1536, .f32⟩
  | 51 => ⟨S4x4096x1536, .f32⟩
  | 52 => ⟨S3x1536, .f32⟩
  | 53 => ⟨S1x1536, .f32⟩
  | 54 => ⟨S1536, .f32⟩
  | 55 => ⟨S1x1x1536, .f32⟩
  | 56 => ⟨S4x4096x1536, .f32⟩
  | 57 => ⟨S4x4096x1536, .f32⟩
  | 58 => ⟨S4x4096x1536, .f32⟩
  | 59 => ⟨S1536, .f32⟩
  | 60 => ⟨S1x1x1536, .f32⟩
  | 61 => ⟨S4x4096x1536, .f32⟩
  | 62 => ⟨S4x4096x1536, .f32⟩
  | 63 => ⟨S4096, .f32⟩
  | 64 => ⟨S4x4096x8x64, .f32⟩
  | 65 => ⟨S8, .f32⟩
  | 66 => ⟨S_, .f32⟩
  | 67 => ⟨S8, .f32⟩
  | 68 => ⟨S8, .f32⟩
  | 69 => ⟨S_, .f32⟩
  | 70 => ⟨S8, .f32⟩
  | 71 => ⟨S8, .f32⟩
  | 72 => ⟨S_, .f32⟩
  | 73 => ⟨S8, .f32⟩
  | 74 => ⟨S8, .f32⟩
  | 75 => ⟨S_, .f32⟩
  | 76 => ⟨S8, .f32⟩
  | 77 => ⟨S8, .f32⟩
  | 78 => ⟨S_, .f32⟩
  | 79 => ⟨S8, .f32⟩
  | 80 => ⟨S8, .f32⟩
  | 81 => ⟨S4096x1, .f32⟩
  | 82 => ⟨S1x8, .f32⟩
  | 83 => ⟨S4096x8, .f32⟩
  | 84 => ⟨S4096x8, .f32⟩
  | 85 => ⟨S4096x8, .f32⟩
  | 86 => ⟨S4096x8, .f32⟩
  | 87 => ⟨S1x4096x1x8, .f32⟩
  | 88 => ⟨S4096x8, .f32⟩
  | 89 => ⟨S1x4096x1x8, .f32⟩
  | 90 => ⟨S4x4096x8x16, .f32⟩
  | 91 => ⟨S4x4096x8x8, .f32⟩
  | 92 => ⟨S4x4096x8x8, .f32⟩
  | 93 => ⟨S4x4096x8x8, .f32⟩
  | 94 => ⟨S4x4096x8x8, .f32⟩
  | 95 => ⟨S4x4096x8x8, .f32⟩
  | 96 => ⟨S4x4096x8x8, .f32⟩
  | 97 => ⟨S4x4096x8x8, .f32⟩
  | 98 => ⟨S4x4096x8x8, .f32⟩
  | 99 => ⟨S4x4096x8x8, .f32⟩
  | 100 => ⟨S4x4096x8x8, .f32⟩
  | 101 => ⟨S4x4096x8x8, .f32⟩
  | 102 => ⟨S4x4096x8x8, .f32⟩
  | 103 => ⟨S4x4096x8x16, .f32⟩
  | 104 => ⟨S4x4096x8x48, .f32⟩
  | 105 => ⟨S4x4096x8x64, .f32⟩
  | 106 => ⟨S_, .f32⟩
  | 107 => ⟨S4x4096x8x64, .f32⟩
  | 108 => ⟨S4x4096x8x64, .f32⟩
  | 109 => ⟨S4x4096x2x64, .f32⟩
  | 110 => ⟨S8, .f32⟩
  | 111 => ⟨S_, .f32⟩
  | 112 => ⟨S8, .f32⟩
  | 113 => ⟨S8, .f32⟩
  | 114 => ⟨S_, .f32⟩
  | 115 => ⟨S8, .f32⟩
  | 116 => ⟨S8, .f32⟩
  | 117 => ⟨S_, .f32⟩
  | 118 => ⟨S8, .f32⟩
  | 119 => ⟨S8, .f32⟩
  | 120 => ⟨S_, .f32⟩
  | 121 => ⟨S8, .f32⟩
  | 122 => ⟨S8, .f32⟩
  | 123 => ⟨S_, .f32⟩
  | 124 => ⟨S8, .f32⟩
  | 125 => ⟨S8, .f32⟩
  | 126 => ⟨S4096x1, .f32⟩
  | 127 => ⟨S1x8, .f32⟩
  | _ => ⟨S4x4096x1024, .f32⟩

abbrev hbmTy0_1 (i : Nat) : BufTy := match i % 128 with
  | 0 => ⟨S4096x8, .f32⟩
  | 1 => ⟨S4096x8, .f32⟩
  | 2 => ⟨S4096x8, .f32⟩
  | 3 => ⟨S4096x8, .f32⟩
  | 4 => ⟨S1x4096x1x8, .f32⟩
  | 5 => ⟨S4096x8, .f32⟩
  | 6 => ⟨S1x4096x1x8, .f32⟩
  | 7 => ⟨S4x4096x2x16, .f32⟩
  | 8 => ⟨S4x4096x2x8, .f32⟩
  | 9 => ⟨S4x4096x2x8, .f32⟩
  | 10 => ⟨S4x4096x2x8, .f32⟩
  | 11 => ⟨S4x4096x2x8, .f32⟩
  | 12 => ⟨S4x4096x2x8, .f32⟩
  | 13 => ⟨S4x4096x2x8, .f32⟩
  | 14 => ⟨S4x4096x2x8, .f32⟩
  | 15 => ⟨S4x4096x2x8, .f32⟩
  | 16 => ⟨S4x4096x2x8, .f32⟩
  | 17 => ⟨S4x4096x2x8, .f32⟩
  | 18 => ⟨S4x4096x2x8, .f32⟩
  | 19 => ⟨S4x4096x2x8, .f32⟩
  | 20 => ⟨S4x4096x2x16, .f32⟩
  | 21 => ⟨S4x4096x2x48, .f32⟩
  | 22 => ⟨S4x4096x2x64, .f32⟩
  | 23 => ⟨S4x4096x2x64, .f32⟩
  | 24 => ⟨S4x4096x12x128, .f32⟩
  | 25 => ⟨S4x12x4096x128, .f32⟩
  | 26 => ⟨S4x12x4096x128, .bf16⟩
  | 27 => ⟨S4x4096x512, .f32⟩
  | 28 => ⟨S4x4096x512, .bf16⟩
  | 29 => ⟨S_, .f32⟩
  | 30 => ⟨S4x4096x2x64, .f32⟩
  | 31 => ⟨S4x4096x2x128, .f32⟩
  | 32 => ⟨S4x4096x2x128, .f32⟩
  | 33 => ⟨S4x4096x2x1x128, .f32⟩
  | 34 => ⟨S4x4096x2x1x128, .f32⟩
  | 35 => ⟨S4x4096x2x2x128, .f32⟩
  | 36 => ⟨S4x4096x4x128, .f32⟩
  | 37 => ⟨S4x4x4096x128, .f32⟩
  | 38 => ⟨S4x4x4096x128, .bf16⟩
  | 39 => ⟨S_, .f32⟩
  | 40 => ⟨S4x4096x2x64, .f32⟩
  | 41 => ⟨S4x4096x2x128, .f32⟩
  | 42 => ⟨S4x4096x2x128, .f32⟩
  | 43 => ⟨S4x4096x2x1x128, .f32⟩
  | 44 => ⟨S4x4096x2x1x128, .f32⟩
  | 45 => ⟨S4x4096x2x2x128, .f32⟩
  | 46 => ⟨S4x4096x4x128, .f32⟩
  | 47 => ⟨S4x4x4096x128, .f32⟩
  | 48 => ⟨S4x4x4096x128, .bf16⟩
  | 49 => ⟨S4x4096x1024, .f32⟩
  | 50 => ⟨S4x4096x1024, .f32⟩
  | 51 => ⟨S_, .f32⟩
  | 52 => ⟨S4x4096x1024, .f32⟩
  | 53 => ⟨S4x4096x1024, .f32⟩
  | 54 => ⟨S_, .f32⟩
  | 55 => ⟨S4x4096x1024, .f32⟩
  | 56 => ⟨S4x4096x1024, .f32⟩
  | 57 => ⟨S4x4096x1024, .f32⟩
  | 58 => ⟨S4x4096x1024, .f32⟩
  | 59 => ⟨S_, .f32⟩
  | 60 => ⟨S4x4096x1024, .f32⟩
  | 61 => ⟨S4x4096x1024, .f32⟩
  | 62 => ⟨S_, .f32⟩
  | 63 => ⟨S4x4096x1024, .f32⟩
  | 64 => ⟨S4x4096x1024, .f32⟩
  | 65 => ⟨S4x4096x2048, .f32⟩
  | 66 => ⟨S4x4096x2048, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_call0_v0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_3 : Ref sig .tc := ⟨.hbm, 66, rfl⟩
abbrev main_v55 : Ref sig .tc := ⟨.hbm, 67, rfl⟩
abbrev main_v56 : Ref sig .tc := ⟨.hbm, 68, rfl⟩
abbrev main_cst_4 : Ref sig .tc := ⟨.hbm, 69, rfl⟩
abbrev main_v57 : Ref sig .tc := ⟨.hbm, 70, rfl⟩
abbrev main_v58 : Ref sig .tc := ⟨.hbm, 71, rfl⟩
abbrev main_cst_5 : Ref sig .tc := ⟨.hbm, 72, rfl⟩
abbrev main_v59 : Ref sig .tc := ⟨.hbm, 73, rfl⟩
abbrev main_v60 : Ref sig .tc := ⟨.hbm, 74, rfl⟩
abbrev main_cst_6 : Ref sig .tc := ⟨.hbm, 75, rfl⟩
abbrev main_v61 : Ref sig .tc := ⟨.hbm, 76, rfl⟩
abbrev main_v62 : Ref sig .tc := ⟨.hbm, 77, rfl⟩
abbrev main_cst_7 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_8 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_9 : Ref sig .tc := ⟨.hbm, 111, rfl⟩
abbrev main_v94 : Ref sig .tc := ⟨.hbm, 112, rfl⟩
abbrev main_v95 : Ref sig .tc := ⟨.hbm, 113, rfl⟩
abbrev main_cst_10 : Ref sig .tc := ⟨.hbm, 114, rfl⟩
abbrev main_v96 : Ref sig .tc := ⟨.hbm, 115, rfl⟩
abbrev main_v97 : Ref sig .tc := ⟨.hbm, 116, rfl⟩
abbrev main_cst_11 : Ref sig .tc := ⟨.hbm, 117, rfl⟩
abbrev main_v98 : Ref sig .tc := ⟨.hbm, 118, rfl⟩
abbrev main_v99 : Ref sig .tc := ⟨.hbm, 119, rfl⟩
abbrev main_cst_12 : Ref sig .tc := ⟨.hbm, 120, rfl⟩
abbrev main_v100 : Ref sig .tc := ⟨.hbm, 121, rfl⟩
abbrev main_v101 : Ref sig .tc := ⟨.hbm, 122, rfl⟩
abbrev main_cst_13 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_cst_14 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_cst_15 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_cst_16 : Ref sig .tc := ⟨.hbm, 179, rfl⟩
abbrev main_v155 : Ref sig .tc := ⟨.hbm, 180, rfl⟩
abbrev main_v156 : Ref sig .tc := ⟨.hbm, 181, rfl⟩
abbrev main_cst_17 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_cst_18 : Ref sig .tc := ⟨.hbm, 187, rfl⟩
abbrev main_v161 : Ref sig .tc := ⟨.hbm, 188, rfl⟩
abbrev main_v162 : Ref sig .tc := ⟨.hbm, 189, rfl⟩
abbrev main_cst_19 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩

abbrev nD : Nat := 1
abbrev τ : Topo := Topo.v7x

variable {F : FTy → Type} [FloatOps F]
-- ==== Proof.Layout.lean ====
/- Reading the layout operations and the plain matrix products of both kernels at an index: a unit axis dropped or
   added, a column or a row repeated, a row's sum, a product as a sum over the contracted coordinate. -/
module

public import Idealize.ShloMosaic.Lib.Pipeline.Value
public import Idealize.ShloMosaic.Lib.ValueIdx
public import Idealize.ShloMosaic.PureOps.Ideal.Laws

@[expose] public section

noncomputable section

namespace Cert.Layout

open Idealize.ShloMosaic Idealize.ShloMosaic.ValueIdx

/-- A plain product into zeros is the sum over the contracted coordinate. -/
theorem matmul_rows {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (b : FVec Ideal ⟨2, ![K, N]⟩ φ₂) (r : Fin M) (c : Fin N) :
    matmul d none a b (constant ⟨2, ![M, N]⟩ .f32 0x00000000#32) (ix2 r c) = ∑ k : Fin K, a (ix2 r k) * b (ix2 k c) := by
  subst hd
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => rfl
      | ⟨1, _⟩ => exact hk)
  have er : (DotDims.plain M K N).rhsIdx (ix2 r c) ((contrEquiv1 (DotDims.plain M K N) K rfl rfl).symm k) = ix2 k c :=
    funext fun x => Fin.ext (by
      match x with
      | ⟨0, _⟩ => exact hk
      | ⟨1, _⟩ => rfl)
  rw [el, er]

variable {α : Type}

theorem cast_drop1 {n m : Nat} (x : (⟨3, ![1, n, m]⟩ : Shape).Idx → α) (h : (⟨3, ![1, n, m]⟩ : Shape).ShapeCasts ⟨2, ![n, m]⟩)
    (r : Fin n) (c : Fin m) : shapeCast ⟨2, ![n, m]⟩ x h (ix2 r c) = x (ix3 0 r c) :=
  shapeCast_apply x h _ _ (by
    rw [Shape.rowMajor_val_three, Shape.rowMajor_val_two]
    show (0 * n + r.val) * m + c.val = r.val * m + c.val
    rw [Nat.zero_mul, Nat.zero_add])

theorem cast_drop2 {n m : Nat} (x : (⟨4, ![1, 1, n, m]⟩ : Shape).Idx → α)
    (h : (⟨4, ![1, 1, n, m]⟩ : Shape).ShapeCasts ⟨2, ![n, m]⟩)
    (r : Fin n) (c : Fin m) : shapeCast ⟨2, ![n, m]⟩ x h (ix2 r c) = x (ix4 0 0 r c) :=
  shapeCast_apply x h _ _ (by
    rw [Shape.rowMajor_val_four, Shape.rowMajor_val_two]
    show ((0 * 1 + 0) * n + r.val) * m + c.val = r.val * m + c.val
    simp)

theorem cast_add1 {n m : Nat} (x : (⟨2, ![n, m]⟩ : Shape).Idx → α) (h : (⟨2, ![n, m]⟩ : Shape).ShapeCasts ⟨3, ![1, n, m]⟩)
    (u : Fin 1) (r : Fin n) (c : Fin m) : shapeCast ⟨3, ![1, n, m]⟩ x h (ix3 u r c) = x (ix2 r c) :=
  shapeCast_apply x h _ _ (by
    rw [Shape.rowMajor_val_three, Shape.rowMajor_val_two]
    show r.val * m + c.val = (u.val * n + r.val) * m + c.val
    have : u.val = 0 := by omega
    rw [this, Nat.zero_mul, Nat.zero_add])

theorem cast_col {n : Nat} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    rw [Shape.rowMajor_val_one, Shape.rowMajor_val_two]
    show r.val = r.val * 1 + u.val
    omega)

theorem spread_col {n m : Nat} (hn : n ≠ 1) (x : (⟨2, ![n, 1]⟩ : Shape).Idx → α)
    (h : (⟨2, ![n, 1]⟩ : Shape).Broadcasts ⟨2, ![n, m]⟩) (r : Fin n) (c : Fin m) :
    broadcastTo ⟨2, ![n, m]⟩ x h (ix2 r c) = x (ix2 r 0) :=
  broadcastTo_apply x h _ _ fun a => by
    match a with
    | ⟨0, _⟩ => exact (if_neg hn).symm
    | ⟨1, _⟩ => rfl

theorem spread_row {n m : Nat} (hm : m ≠ 1) (x : (⟨2, ![1, m]⟩ : Shape).Idx → α)
    (h : (⟨2, ![1, m]⟩ : Shape).Broadcasts ⟨2, ![n, m]⟩) (r : Fin n) (c : Fin m) :
    broadcastTo ⟨2, ![n, m]⟩ x h (ix2 r c) = x (ix2 0 c) :=
  broadcastTo_apply x h _ _ fun a => by
    match a with
    | ⟨0, _⟩ => rfl
    | ⟨1, _⟩ => exact (if_neg hm).symm

/-- A row's sum. -/
theorem row_sum {n m : Nat} (x : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (r : Fin n) :
    multiReduction .add [1] ⟨1, ![n]⟩ x 0x00000000#32 h hφ hacc (ix1 r) = ∑ k : Fin m, x (ix2 r k) := by
  rw [Ideal.multiReduction_add_single]
  refine Finset.sum_congr rfl fun k _ => congrArg x (funext fun a => Fin.ext ?_)
  match a with
  | ⟨0, _⟩ => rfl
  | ⟨1, _⟩ => rfl

/-- Four column strips side by side, read at a column: the strip it falls in, at the column within the strip. -/
theorem concat4 {n w W : Nat} (hW : W = 4 * w) (hw : 0 < w) (x : Fin 4 → (⟨2, ![n, w]⟩ : Shape).Idx → α)
    (h : Shape.Concatenates [⟨2, ![n, w]⟩, ⟨2, ![n, w]⟩, ⟨2, ![n, w]⟩, ⟨2, ![n, w]⟩] ⟨2, ![n, W]⟩ 1)
    (r : Fin n) (k : Fin W) :
    concatenate ⟨2, ![n, W]⟩ 1 [⟨⟨2, ![n, w]⟩, x 0⟩, ⟨⟨2, ![n, w]⟩, x 1⟩, ⟨⟨2, ![n, w]⟩, x 2⟩, ⟨⟨2, ![n, w]⟩, x 3⟩] h (ix2 r k)
      = x ⟨k.val / w, Nat.div_lt_of_lt_mul (by have := k.isLt; rw [Nat.mul_comm]; omega)⟩ (ix2 r ⟨k.val % w, Nat.mod_lt _ hw⟩) :=
  concatenate_ofFn_apply (t := ⟨2, ![n, W]⟩) (s₁ := ⟨2, ![n, w]⟩) 1 x h rfl w rfl (ix2 r k) _ rfl
    (ix2 r ⟨k.val % w, Nat.mod_lt _ hw⟩) rfl (fun b hb => by
      match b with
      | ⟨0, _⟩ => rfl
      | ⟨1, _⟩ => exact absurd rfl hb)

/-- The same with the strips' elements named. -/
theorem concat4_of {n w W : Nat} (hW : W = 4 * w) (hw : 0 < w) (x0 x1 x2 x3 : (⟨2, ![n, w]⟩ : Shape).Idx → α)
    (f : Fin 4 → Fin n → Fin w → α) (h0 : ∀ r l, x0 (ix2 r l) = f 0 r l) (h1 : ∀ r l, x1 (ix2 r l) = f 1 r l)
    (h2 : ∀ r l, x2 (ix2 r l) = f 2 r l) (h3 : ∀ r l, x3 (ix2 r l) = f 3 r l)
    (h : Shape.Concatenates [⟨2, ![n, w]⟩, ⟨2, ![n, w]⟩, ⟨2, ![n, w]⟩, ⟨2, ![n, w]⟩] ⟨2, ![n, W]⟩ 1)
    (r : Fin n) (k : Fin W) :
    concatenate ⟨2, ![n, W]⟩ 1 [⟨⟨2, ![n, w]⟩, x0⟩, ⟨⟨2, ![n, w]⟩, x1⟩, ⟨⟨2, ![n, w]⟩, x2⟩, ⟨⟨2, ![n, w]⟩, x3⟩] h (ix2 r k)
      = f ⟨k.val / w, Nat.div_lt_of_lt_mul (by have := k.isLt; rw [Nat.mul_comm]; omega)⟩ r ⟨k.val % w, Nat.mod_lt _ hw⟩ := by
  refine (concat4 hW hw ![x0, x1, x2, x3] h r k).trans ?_
  have key : ∀ (q : Fin 4) (l : Fin w), (![x0, x1, x2, x3] : Fin 4 → _) q (ix2 r l) = f q r l := fun q l => by
    match q with
    | ⟨0, _⟩ => exact h0 r l
    | ⟨1, _⟩ => exact h1 r l
    | ⟨2, _⟩ => exact h2 r l
    | ⟨3, _⟩ => exact h3 r l
  exact key _ _

end Cert.Layout

end
-- ==== Proof.Mix.Row.lean ====
/- One token's way through the merge, the output projection, the feed-forward and the two norms, as a function of the
   token's rows over the extended reals. Both the kernel's blocks and the reference's arrays are this row by row. -/
module

public import Idealize.ShloMosaic.PureOps.Ideal

@[expose] public section

noncomputable section

namespace Cert.MixRow

open Idealize.ShloMosaic

/-- The two branches up-projected, gated and added. -/
def merged (yh ya : Fin 512 → EReal) (gh ga : Fin 1024 → EReal) (wh wa : Fin 512 → Fin 1024 → EReal) (c : Fin 1024) : EReal :=
  gh c * (∑ k, yh k * wh k c) + ga c * (∑ k, ya k * wa k c)

/-- The residual stream after the output projection. -/
def resid (x mg : Fin 1024 → EReal) (wo : Fin 1024 → Fin 1024 → EReal) (c : Fin 1024) : EReal :=
  x c + ∑ k, mg k * wo k c

/-- The root-mean-square norm of a row with its gain. -/
def norm (h g : Fin 1024 → EReal) (c : Fin 1024) : EReal :=
  h c * Ideal.rsqrt (Ideal.div (∑ k, h k * h k) (Ideal.ofBits .f32 0x44800000#32) + Ideal.ofBits .f32 0x358637BD#32) * g c

/-- The gated activation of one hidden unit. -/
def act (n : Fin 1024 → EReal) (wg wu : Fin 1024 → Fin 2816 → EReal) (j : Fin 2816) : EReal :=
  (∑ k, n k * wg k j) * Ideal.logistic (∑ k, n k * wg k j) * (∑ k, n k * wu k j)

/-- The residual stream after the feed-forward. -/
def ffn (h n : Fin 1024 → EReal) (wg wu : Fin 1024 → Fin 2816 → EReal) (wd : Fin 2816 → Fin 1024 → EReal) (c : Fin 1024) : EReal :=
  h c + ∑ j, act n wg wu j * wd j c

/-- A token's result row. -/
def token (x : Fin 1024 → EReal) (yh ya : Fin 512 → EReal) (gh ga : Fin 1024 → EReal) (wh wa : Fin 512 → Fin 1024 → EReal)
    (wo : Fin 1024 → Fin 1024 → EReal) (g2 : Fin 1024 → EReal) (wg wu : Fin 1024 → Fin 2816 → EReal)
    (wd : Fin 2816 → Fin 1024 → EReal) (gf : Fin 1024 → EReal) : Fin 1024 → EReal :=
  norm (ffn (resid x (merged yh ya gh ga wh wa) wo) (norm (resid x (merged yh ya gh ga wh wa) wo) g2) wg wu wd) gf

/-- The hidden units summed in two runs, one after the other. -/
theorem sum_two_runs (f : Fin 2816 → EReal) (h : EReal) :
    h + (∑ j : Fin 1536, f ⟨j.val, by omega⟩) + (∑ j : Fin 1280, f ⟨1536 + j.val, by omega⟩) = h + ∑ j, f j := by
  rw [add_assoc]
  refine congrArg (h + ·) ?_
  exact (Fin.sum_univ_add (a := 1536) (b := 1280) f).symm

end Cert.MixRow

end
-- ==== Proof.Mix.Block.lean ====
/- What the mixing kernel computes for one block of 512 tokens: each row of the block it leaves is the token's row
   (`Cert.MixRow.token`) of the rows it loaded. -/
module

public import proofs.«01_k».proof.Proof.Layout
public import proofs.«01_k».proof.Proof.Mix.Row
public import proofs.«01_k».proof.Proof.Gen.MixIdeal.Frame

@[expose] public section

noncomputable section

namespace Cert.MixBlock

open Cert.MixIdeal Cert.MixIdeal.Gen Cert.Layout Cert.MixRow Idealize.ShloMosaic Idealize.ShloMosaic.ValueIdx

/-- The token row `256 * p + r` of a block. -/
abbrev row (p : Fin 2) (r : Fin 256) : Fin 512 := ⟨256 * p.val + r.val, by omega⟩

/-- Column `c` of gate `g` in the gates' side-by-side array. -/
abbrev gate (g : Fin 2) (c : Fin 1024) : Fin 2048 := ⟨1024 * g.val + c.val, by omega⟩

/-- A lane `k` of the Hyena output split into its slab and its place in the slab. -/
abbrev slab (k : Fin 512) : Fin 4 := ⟨k.val / 128, by omega⟩
abbrev lane (k : Fin 512) : Fin 128 := ⟨k.val % 128, by omega⟩

/-! ## The loads -/

theorem ld_r0_15 (x : Vec Ideal S1x512x1024 .f32) (r : Fin 256) (c : Fin 1024) : View.ld x r0_15 (ix3 0 r c) = x (ix3 0 (row 0 r) c) :=
  congrArg x (funext fun a => Fin.ext (by
    match a with
    | ⟨0, _⟩ => simp [Rect.emb_apply]
    | ⟨1, _⟩ => simp [Rect.emb_apply]
    | ⟨2, _⟩ => simp [Rect.emb_apply]))

theorem ld_r0_17 (x : Vec Ideal S1x512x1024 .f32) (r : Fin 256) (c : Fin 1024) : View.ld x r0_17 (ix3 0 r c) = x (ix3 0 (row 1 r) c) :=
  congrArg x (funext fun a => Fin.ext (by
    match a with
    | ⟨0, _⟩ => simp [Rect.emb_apply]
    | ⟨1, _⟩ => simp [Rect.emb_apply]
    | ⟨2, _⟩ => simp [Rect.emb_apply]))

theorem ld_r0_0 (x : Vec Ideal S1x4x512x128 .bf16) (r : Fin 256) (c : Fin 128) : View.ld x r0_0 (ix4 0 0 r c) = x (ix4 0 0 (row 0 r) c) :=
  congrArg x (funext fun a => Fin.ext (by
    match a with
    | ⟨0, _⟩ => simp [Rect.emb_apply]
    | ⟨1, _⟩ => simp [Rect.emb_apply]
    | ⟨2, _⟩ => simp [Rect.emb_apply]
    | ⟨3, _⟩ => simp [Rect.emb_apply]))

theorem ld_r0_1 (x : Vec Ideal S1x4x512x128 .bf16) (r : Fin 256) (c : Fin 128) : View.ld x r0_1 (ix4 0 0 r c) = x (ix4 0 1 (row 0 r) c) :=
  congrArg x (funext fun a => Fin.ext (by
    match a with
    | ⟨0, _⟩ => simp [Rect.emb_apply]
    | ⟨1, _⟩ => simp [Rect.emb_apply]
    | ⟨2, _⟩ => simp [Rect.emb_apply]
    | ⟨3, _⟩ => simp [Rect.emb_apply]))

theorem ld_r0_2 (x : Vec Ideal S1x4x512x128 .bf16) (r : Fin 256) (c : Fin 128) : View.ld x r0_2 (ix4 0 0 r c) = x (ix4 0 2 (row 0 r) c) :=
  congrArg x (funext fun a => Fin.ext (by
    match a with
    | ⟨0, _⟩ => simp [Rect.emb_apply]
    | ⟨1, _⟩ => simp [Rect.emb_apply]
    | ⟨2, _⟩ => simp [Rect.emb_apply]
    | ⟨3, _⟩ => simp [Rect.emb_apply]))

theorem ld_r0_3 (x : Vec Ideal S1x4x512x128 .bf16) (r : Fin 256) (c : Fin 128) : View.ld x r0_3 (ix4 0 0 r c) = x (ix4 0 3 (row 0 r) c) :=
  congrArg x (funext fun a => Fin.ext (by
    match a with
    | ⟨0, _⟩ => simp [Rect.emb_apply]
    | ⟨1, _⟩ => simp [Rect.emb_apply]
    | ⟨2, _⟩ => simp [Rect.emb_apply]
    | ⟨3, _⟩ => simp [Rect.emb_apply]))

theorem ld_r0_6 (x : Vec Ideal S1x4x512x128 .bf16) (r : Fin 256) (c : Fin 128) : View.ld x r0_6 (ix4 0 0 r c) = x (ix4 0 0 (row 1 r) c) :=
  congrArg x (funext fun a => Fin.ext (by
    match a with
    | ⟨0, _⟩ => simp [Rect.emb_apply]
    | ⟨1, _⟩ => simp [Rect.emb_apply]
    | ⟨2, _⟩ => simp [Rect.emb_apply]
    | ⟨3, _⟩ => simp [Rect.emb_apply]))

theorem ld_r0_7 (x : Vec Ideal S1x4x512x128 .bf16) (r : Fin 256) (c : Fin 128) : View.ld x r0_7 (ix4 0 0 r c) = x (ix4 0 1 (row 1 r) c) :=
  congrArg x (funext fun a => Fin.ext (by
    match a with
    | ⟨0, _⟩ => simp [Rect.emb_apply]
    | ⟨1, _⟩ => simp [Rect.emb_apply]
    | ⟨2, _⟩ => simp [Rect.emb_apply]
    | ⟨3, _⟩ => simp [Rect.emb_apply]))

theorem ld_r0_8 (x : Vec Ideal S1x4x512x128 .bf16) (r : Fin 256) (c : Fin 128) : View.ld x r0_8 (ix4 0 0 r c) = x (ix4 0 2 (row 1 r) c) :=
  congrArg x (funext fun a => Fin.ext (by
    match a with
    | ⟨0, _⟩ => simp [Rect.emb_apply]
    | ⟨1, _⟩ => simp [Rect.emb_apply]
    | ⟨2, _⟩ => simp [Rect.emb_apply]
    | ⟨3, _⟩ => simp [Rect.emb_apply]))

theorem ld_r0_9 (x : Vec Ideal S1x4x512x128 .bf16) (r : Fin 256) (c : Fin 128) : View.ld x r0_9 (ix4 0 0 r c) = x (ix4 0 3 (row 1 r) c) :=
  congrArg x (funext fun a => Fin.ext (by
    match a with
    | ⟨0, _⟩ => simp [Rect.emb_apply]
    | ⟨1, _⟩ => simp [Rect.emb_apply]
    | ⟨2, _⟩ => simp [Rect.emb_apply]
    | ⟨3, _⟩ => simp [Rect.emb_apply]))

theorem ld_r0_5 (x : Vec Ideal S1x512x512 .bf16) (r : Fin 256) (c : Fin 512) : View.ld x r0_5 (ix3 0 r c) = x (ix3 0 (row 0 r) c) :=
  congrArg x (funext fun a => Fin.ext (by
    match a with
    | ⟨0, _⟩ => simp [Rect.emb_apply]
    | ⟨1, _⟩ => simp [Rect.emb_apply]
    | ⟨2, _⟩ => simp [Rect.emb_apply]))

theorem ld_r0_10 (x : Vec Ideal S1x512x512 .bf16) (r : Fin 256) (c : Fin 512) : View.ld x r0_10 (ix3 0 r c) = x (ix3 0 (row 1 r) c) :=
  congrArg x (funext fun a => Fin.ext (by
    match a with
    | ⟨0, _⟩ => simp [Rect.emb_apply]
    | ⟨1, _⟩ => simp [Rect.emb_apply]
    | ⟨2, _⟩ => simp [Rect.emb_apply]))

theorem ld_r0_11 (x : Vec Ideal S1x512x2048 .bf16) (r : Fin 256) (c : Fin 1024) : View.ld x r0_11 (ix3 0 r c) = x (ix3 0 (row 0 r) (gate 0 c)) :=
  congrArg x (funext fun a => Fin.ext (by
    match a with
    | ⟨0, _⟩ => simp [Rect.emb_apply]
    | ⟨1, _⟩ => simp [Rect.emb_apply]
    | ⟨2, _⟩ => simp [Rect.emb_apply]))

theorem ld_r0_12 (x : Vec Ideal S1x512x2048 .bf16) (r : Fin 256) (c : Fin 1024) : View.ld x r0_12 (ix3 0 r c) = x (ix3 0 (row 0 r) (gate 1 c)) :=
  congrArg x (funext fun a => Fin.ext (by
    match a with
    | ⟨0, _⟩ => simp [Rect.emb_apply]
    | ⟨1, _⟩ => simp [Rect.emb_apply]
    | ⟨2, _⟩ => simp [Rect.emb_apply]))

theorem ld_r0_13 (x : Vec Ideal S1x512x2048 .bf16) (r : Fin 256) (c : Fin 1024) : View.ld x r0_13 (ix3 0 r c) = x (ix3 0 (row 1 r) (gate 0 c)) :=
  congrArg x (funext fun a => Fin.ext (by
    match a with
    | ⟨0, _⟩ => simp [Rect.emb_apply]
    | ⟨1, _⟩ => simp [Rect.emb_apply]
    | ⟨2, _⟩ => simp [Rect.emb_apply]))

theorem ld_r0_14 (x : Vec Ideal S1x512x2048 .bf16) (r : Fin 256) (c : Fin 1024) : View.ld x r0_14 (ix3 0 r c) = x (ix3 0 (row 1 r) (gate 1 c)) :=
  congrArg x (funext fun a => Fin.ext (by
    match a with
    | ⟨0, _⟩ => simp [Rect.emb_apply]
    | ⟨1, _⟩ => simp [Rect.emb_apply]
    | ⟨2, _⟩ => simp [Rect.emb_apply]))

theorem ld_r0_19 (x : Vec Ideal S1024x2816 .bf16) (r : Fin 1024) (c : Fin 1536) : View.ld x r0_19 (ix2 r c) = x (ix2 r ⟨c.val, by omega⟩) :=
  congrArg x (funext fun a => Fin.ext (by
    match a with
    | ⟨0, _⟩ => simp [Rect.emb_apply]
    | ⟨1, _⟩ => simp [Rect.emb_apply]))

theorem ld_r0_21 (x : Vec Ideal S1024x2816 .bf16) (r : Fin 1024) (c : Fin 1280) : View.ld x r0_21 (ix2 r c) = x (ix2 r ⟨1536 + c.val, by omega⟩) :=
  congrArg x (funext fun a => Fin.ext (by
    match a with
    | ⟨0, _⟩ => simp [Rect.emb_apply]
    | ⟨1, _⟩ => simp [Rect.emb_apply]))

theorem ld_r0_20 (x : Vec Ideal S2816x1024 .bf16) (r : Fin 1536) (c : Fin 1024) : View.ld x r0_20 (ix2 r c) = x (ix2 ⟨r.val, by omega⟩ c) :=
  congrArg x (funext fun a => Fin.ext (by
    match a with
    | ⟨0, _⟩ => simp [Rect.emb_apply]
    | ⟨1, _⟩ => simp [Rect.emb_apply]))

theorem ld_r0_22 (x : Vec Ideal S2816x1024 .bf16) (r : Fin 1280) (c : Fin 1024) : View.ld x r0_22 (ix2 r c) = x (ix2 ⟨1536 + r.val, by omega⟩ c) :=
  congrArg x (funext fun a => Fin.ext (by
    match a with
    | ⟨0, _⟩ => simp [Rect.emb_apply]
    | ⟨1, _⟩ => simp [Rect.emb_apply]))

theorem ld_r0_4 (x : Vec Ideal S512x1024 .bf16) : View.ld x r0_4 = x :=
  View.ld_unit_zero (funext fun a => by fin_cases a <;> rfl) _ x

theorem ld_r0_16 (x : Vec Ideal S1024x1024 .bf16) : View.ld x r0_16 = x :=
  View.ld_unit_zero (funext fun a => by fin_cases a <;> rfl) _ x

theorem ld_r0_18 (x : Vec Ideal S1x1024 .f32) : View.ld x r0_18 = x :=
  View.ld_unit_zero (funext fun a => by fin_cases a <;> rfl) _ x

/-! ## The products -/

theorem mm_512 {φ₁ φ₂ : FTy} (a : FVec Ideal S256x512 φ₁) (b : FVec Ideal S512x1024 φ₂) (r : Fin 256) (c : Fin 1024) :
    matmul dot_S256x512_S512x1024_S256x1024_1_0_0_1_n_n none a b (constant S256x1024 .f32 0x00000000#32) (ix2 r c)
      = ∑ k : Fin 512, a (ix2 r k) * b (ix2 k c) := matmul_rows _ rfl a b r c
theorem mm_1024 {φ₁ φ₂ : FTy} (a : FVec Ideal S256x1024 φ₁) (b : FVec Ideal S1024x1024 φ₂) (r : Fin 256) (c : Fin 1024) :
    matmul dot_S256x1024_S1024x1024_S256x1024_1_0_0_1_n_n none a b (constant S256x1024 .f32 0x00000000#32) (ix2 r c)
      = ∑ k : Fin 1024, a (ix2 r k) * b (ix2 k c) := matmul_rows _ rfl a b r c
theorem mm_up0 {φ₁ φ₂ : FTy} (a : FVec Ideal S256x1024 φ₁) (b : FVec Ideal S1024x1536 φ₂) (r : Fin 256) (c : Fin 1536) :
    matmul dot_S256x1024_S1024x1536_S256x1536_1_0_0_1_n_n none a b (constant S256x1536 .f32 0x00000000#32) (ix2 r c)
      = ∑ k : Fin 1024, a (ix2 r k) * b (ix2 k c) := matmul_rows _ rfl a b r c
theorem mm_up1 {φ₁ φ₂ : FTy} (a : FVec Ideal S256x1024 φ₁) (b : FVec Ideal S1024x1280 φ₂) (r : Fin 256) (c : Fin 1280) :
    matmul dot_S256x1024_S1024x1280_S256x1280_1_0_0_1_n_n none a b (constant S256x1280 .f32 0x00000000#32) (ix2 r c)
      = ∑ k : Fin 1024, a (ix2 r k) * b (ix2 k c) := matmul_rows _ rfl a b r c
theorem mm_down0 {φ₁ φ₂ : FTy} (a : FVec Ideal S256x1536 φ₁) (b : FVec Ideal S1536x1024 φ₂) (r : Fin 256) (c : Fin 1024) :
    matmul dot_S256x1536_S1536x1024_S256x1024_1_0_0_1_n_n none a b (constant S256x1024 .f32 0x00000000#32) (ix2 r c)
      = ∑ k : Fin 1536, a (ix2 r k) * b (ix2 k c) := matmul_rows _ rfl a b r c
theorem mm_down1 {φ₁ φ₂ : FTy} (a : FVec Ideal S256x1280 φ₁) (b : FVec Ideal S1280x1024 φ₂) (r : Fin 256) (c : Fin 1024) :
    matmul dot_S256x1280_S1280x1024_S256x1024_1_0_0_1_n_n none a b (constant S256x1024 .f32 0x00000000#32) (ix2 r c)
      = ∑ k : Fin 1280, a (ix2 r k) * b (ix2 k c) := matmul_rows _ rfl a b r c

/-! ## The stages, row by row -/

/-- A row of a two-dimensional vector. -/
abbrev rowOf {n m : Nat} (a : (⟨2, ![n, m]⟩ : Shape).Idx → EReal) (r : Fin n) : Fin m → EReal := fun c => a (ix2 r c)
/-- A matrix as a function of its two coordinates. -/
abbrev mat {n m : Nat} (a : (⟨2, ![n, m]⟩ : Shape).Idx → EReal) : Fin n → Fin m → EReal := fun r c => a (ix2 r c)

/-- The rows a token's result is computed from. -/
abbrev xRow (x0 : Vec Ideal S1x512x1024 .f32) (q : Fin 512) : Fin 1024 → EReal := fun c => x0 (ix3 0 q c)
abbrev hRow (x1 : Vec Ideal S1x4x512x128 .bf16) (q : Fin 512) : Fin 512 → EReal := fun k => x1 (ix4 0 (slab k) q (lane k))
abbrev aRow (x2 : Vec Ideal S1x512x512 .bf16) (q : Fin 512) : Fin 512 → EReal := fun k => x2 (ix3 0 q k)
abbrev gRow (x3 : Vec Ideal S1x512x2048 .bf16) (g : Fin 2) (q : Fin 512) : Fin 1024 → EReal := fun c => x3 (ix3 0 q (gate g c))

theorem slabs_row (v0 v1 v2 v3 : Vec Ideal S1x1x256x128 .bf16) (x1 : Vec Ideal S1x4x512x128 .bf16) (p : Fin 2)
    (h0 : ∀ r l, v0 (ix4 0 0 r l) = x1 (ix4 0 0 (row p r) l)) (h1 : ∀ r l, v1 (ix4 0 0 r l) = x1 (ix4 0 1 (row p r) l))
    (h2 : ∀ r l, v2 (ix4 0 0 r l) = x1 (ix4 0 2 (row p r) l)) (h3 : ∀ r l, v3 (ix4 0 0 r l) = x1 (ix4 0 3 (row p r) l))
    (r : Fin 256) (k : Fin 512) :
    (concatenate S256x512 1 [⟨S256x128, shapeCast S256x128 v0 shapeCasts_S1x1x256x128_S256x128⟩, ⟨S256x128, shapeCast S256x128 v1 shapeCasts_S1x1x256x128_S256x128⟩, ⟨S256x128, shapeCast S256x128 v2 shapeCasts_S1x1x256x128_S256x128⟩, ⟨S256x128, shapeCast S256x128 v3 shapeCasts_S1x1x256x128_S256x128⟩] concatenates_S256x128_S256x128_S256x128_S256x128_S256x512_d1 : FVec Ideal S256x512 .bf16) (ix2 r k)
      = hRow x1 (row p r) k :=
  concat4_of (n := 256) (w := 128) (W := 512) rfl (by decide) _ _ _ _ (fun s r l => x1 (ix4 0 s (row p r) l))
    (fun r l => (cast_drop2 v0 _ r l).trans (h0 r l)) (fun r l => (cast_drop2 v1 _ r l).trans (h1 r l))
    (fun r l => (cast_drop2 v2 _ r l).trans (h2 r l)) (fun r l => (cast_drop2 v3 _ r l).trans (h3 r l)) _ r k

/-- The root-mean-square norm as the body spells it, at a row. -/
theorem norm_row (h : FVec Ideal S256x1024 .f32) (g : Vec Ideal S1x1024 .f32) (r : Fin 256) (c : Fin 1024) :
    mulf (mulf h (broadcastTo S256x1024 (rsqrt (addf (divf (shapeCast S256x1 (multiReduction .add [1] S256 (mulf h h) 0x00000000#32 reduces_S256x1024_S256 (.inl rfl) rfl) shapeCasts_S256_S256x1)
        (broadcast S256x1 (Scalar.ofBits (F := Ideal) .f32 0x44800000#32))) (broadcast S256x1 (Scalar.ofBits (F := Ideal) .f32 0x358637BD#32)))) broadcasts_S256x1_S256x1024))
      (broadcastTo S256x1024 g broadcasts_S1x1024_S256x1024) (ix2 r c) = norm (rowOf h r) (rowOf g 0) c := by
  rw [mulf_apply, mulf_apply, spread_col (by decide), spread_row (by decide)]
  show h (ix2 r c) * Ideal.rsqrt (Ideal.div (shapeCast S256x1 (multiReduction .add [1] S256 (mulf h h) 0x00000000#32 reduces_S256x1024_S256 (.inl rfl) rfl) shapeCasts_S256_S256x1 (ix2 r 0)) (Ideal.ofBits .f32 0x44800000#32) + Ideal.ofBits .f32 0x358637BD#32) * g (ix2 0 c) = _
  exact congrArg (fun s => h (ix2 r c) * Ideal.rsqrt (Ideal.div s (Ideal.ofBits .f32 0x44800000#32) + Ideal.ofBits .f32 0x358637BD#32) * g (ix2 0 c))
    ((cast_col _ _ r 0).trans (row_sum (mulf h h) _ _ _ r))

section Block

variable (x0 : Vec Ideal S1x512x1024 .f32) (x1 : Vec Ideal S1x4x512x128 .bf16) (x2 : Vec Ideal S1x512x512 .bf16) (x3 : Vec Ideal S1x512x2048 .bf16)
  (x4 x5 : Vec Ideal S512x1024 .bf16) (x6 : Vec Ideal S1024x1024 .bf16) (x7 : Vec Ideal S1x1024 .f32) (x8 x9 : Vec Ideal S1024x2816 .bf16)
  (x10 : Vec Ideal S2816x1024 .bf16) (x11 : Vec Ideal S1x1024 .f32)

/-- The merged branches, upper half. -/
theorem merged0 (r : Fin 256) : rowOf (k0_pay20 x0 x1 x2 x3 x4 x5 x6 x7 x8 x9 x10 x11) r
    = merged (hRow x1 (row 0 r)) (aRow x2 (row 0 r)) (gRow x3 0 (row 0 r)) (gRow x3 1 (row 0 r)) (mat x4) (mat x5) := by
  funext c
  unfold rowOf k0_pay20 k0_pay6 k0_pay2 k0_pay3
  simp only [truncf_apply, addf_apply, mulf_apply, extf_apply, cast_drop1, mm_512, shapeCast_self, ld_r0_4, ld_r0_5, ld_r0_11, ld_r0_12,
    slabs_row _ _ _ _ x1 0 (ld_r0_0 x1) (ld_r0_1 x1) (ld_r0_2 x1) (ld_r0_3 x1)]
  exact congrArg₂ (· + ·) (congrArg (· * _) (ld_r0_11 x3 r c))
    (congrArg₂ (· * ·) (ld_r0_12 x3 r c) (Finset.sum_congr rfl fun k _ => congrArg (· * x5 (ix2 k c)) (ld_r0_5 x2 r k)))

/-- The merged branches, lower half. -/
theorem merged1 (r : Fin 256) : rowOf (k0_pay21 x0 x1 x2 x3 x4 x5 x6 x7 x8 x9 x10 x11) r
    = merged (hRow x1 (row 1 r)) (aRow x2 (row 1 r)) (gRow x3 0 (row 1 r)) (gRow x3 1 (row 1 r)) (mat x4) (mat x5) := by
  funext c
  unfold rowOf k0_pay21 k0_pay7 k0_pay4 k0_pay5
  simp only [truncf_apply, addf_apply, mulf_apply, extf_apply, cast_drop1, mm_512, shapeCast_self, ld_r0_4, ld_r0_10, ld_r0_13, ld_r0_14,
    slabs_row _ _ _ _ x1 1 (ld_r0_6 x1) (ld_r0_7 x1) (ld_r0_8 x1) (ld_r0_9 x1)]
  exact congrArg₂ (· + ·) (congrArg (· * _) (ld_r0_13 x3 r c))
    (congrArg₂ (· * ·) (ld_r0_14 x3 r c) (Finset.sum_congr rfl fun k _ => congrArg (· * x5 (ix2 k c)) (ld_r0_10 x2 r k)))

/-- The residual stream, upper half, from any merged rows. -/
theorem resid0 (mg : FVec Ideal S256x1024 .bf16) (r : Fin 256) : rowOf (k0_pay8 mg (View.ld x0 r0_15) (View.ld x6 r0_16)) r
    = resid (xRow x0 (row 0 r)) (rowOf mg r) (mat x6) := by
  funext c
  unfold rowOf k0_pay8
  simp only [addf_apply, cast_drop1, mm_1024, shapeCast_self, ld_r0_15, ld_r0_16]
  exact congrArg (· + _) (ld_r0_15 x0 r c)

theorem resid1 (mg : FVec Ideal S256x1024 .bf16) (r : Fin 256) : rowOf (k0_pay9 mg (View.ld x0 r0_17) (View.ld x6 r0_16)) r
    = resid (xRow x0 (row 1 r)) (rowOf mg r) (mat x6) := by
  funext c
  unfold rowOf k0_pay9
  simp only [addf_apply, cast_drop1, mm_1024, shapeCast_self, ld_r0_17, ld_r0_16]
  exact congrArg (· + _) (ld_r0_17 x0 r c)

/-- The first norm, upper half. -/
theorem norm0 (mg : FVec Ideal S256x1024 .bf16) (v54 : Vec Ideal S1x256x1024 .f32) (v56 : Vec Ideal S1024x1024 .bf16) (r : Fin 256) :
    rowOf (k0_pay10 mg v54 v56 (View.ld x7 r0_18)) r = norm (rowOf (k0_pay8 mg v54 v56) r) (rowOf x7 0) := by
  funext c
  unfold k0_pay10
  rw [ld_r0_18]
  generalize k0_pay8 mg v54 v56 = h
  simp only [rowOf, shapeCast_self]
  exact norm_row h x7 r c

/-- The first norm, lower half. -/
theorem norm1 (mg : FVec Ideal S256x1024 .bf16) (v60 : Vec Ideal S1x256x1024 .f32) (v62 : Vec Ideal S1024x1024 .bf16) (r : Fin 256) :
    rowOf (k0_pay13 (k0_pay11 mg v60 v62) (k0_pay12 (View.ld x7 r0_18))) r = norm (rowOf (k0_pay9 mg v60 v62) r) (rowOf x7 0) := by
  funext c
  unfold k0_pay13 k0_pay11 k0_pay12
  rw [ld_r0_18]
  generalize k0_pay9 mg v60 v62 = h
  simp only [rowOf, shapeCast_self]
  exact norm_row h x7 r c

/-- The feed-forward, from any residual rows and any normed rows. -/
theorem ffn_row (h : FVec Ideal S256x1024 .f32) (n : FVec Ideal S256x1024 .bf16) (r : Fin 256) :
    rowOf (k0_pay18 n (k0_pay14 h n (View.ld x8 r0_19) (View.ld x9 r0_19) (View.ld x10 r0_20)) (k0_pay16 n (View.ld x8 r0_21))
      (View.ld x9 r0_21) (View.ld x10 r0_22)) r = ffn (rowOf h r) (rowOf n r) (mat x8) (mat x9) (mat x10) := by
  funext c
  refine Eq.trans ?_ (sum_two_runs (fun j => act (rowOf n r) (mat x8) (mat x9) j * mat x10 j c) (h (ix2 r c)))
  have hg0 : ∀ j : Fin 1536, (∑ k : Fin 1024, n (ix2 r k) * View.ld x8 r0_19 (ix2 k j)) = ∑ k, rowOf n r k * mat x8 k ⟨j.val, by omega⟩ :=
    fun j => Finset.sum_congr rfl fun k _ => congrArg (n (ix2 r k) * ·) (ld_r0_19 x8 k j)
  have hu0 : ∀ j : Fin 1536, (∑ k : Fin 1024, n (ix2 r k) * View.ld x9 r0_19 (ix2 k j)) = ∑ k, rowOf n r k * mat x9 k ⟨j.val, by omega⟩ :=
    fun j => Finset.sum_congr rfl fun k _ => congrArg (n (ix2 r k) * ·) (ld_r0_19 x9 k j)
  have hg1 : ∀ j : Fin 1280, (∑ k : Fin 1024, n (ix2 r k) * View.ld x8 r0_21 (ix2 k j)) = ∑ k, rowOf n r k * mat x8 k ⟨1536 + j.val, by omega⟩ :=
    fun j => Finset.sum_congr rfl fun k _ => congrArg (n (ix2 r k) * ·) (ld_r0_21 x8 k j)
  have hu1 : ∀ j : Fin 1280, (∑ k : Fin 1024, n (ix2 r k) * View.ld x9 r0_21 (ix2 k j)) = ∑ k, rowOf n r k * mat x9 k ⟨1536 + j.val, by omega⟩ :=
    fun j => Finset.sum_congr rfl fun k _ => congrArg (n (ix2 r k) * ·) (ld_r0_21 x9 k j)
  unfold k0_pay18 k0_pay14 k0_pay16
  simp only [rowOf, shapeCast_self, addf_apply, mm_down0, mm_down1]
  refine congrArg₂ (· + ·) (congrArg (h (ix2 r c) + ·) (Finset.sum_congr rfl fun j _ => congrArg₂ (· * ·) ?_ (ld_r0_20 x10 j c)))
    (Finset.sum_congr rfl fun j _ => congrArg₂ (· * ·) ?_ (ld_r0_22 x10 j c))
  · have eg := (mm_up0 (φ₂ := .bf16) n (View.ld x8 r0_19) r j).trans (hg0 j)
    exact congrArg₂ (· * ·) (congrArg₂ (· * ·) eg (congrArg Ideal.logistic eg)) ((mm_up0 (φ₂ := .bf16) n (View.ld x9 r0_19) r j).trans (hu0 j))
  · have eg := (mm_up1 (φ₂ := .bf16) n (View.ld x8 r0_21) r j).trans (hg1 j)
    exact congrArg₂ (· * ·) (congrArg₂ (· * ·) eg (congrArg Ideal.logistic eg)) ((mm_up1 (φ₂ := .bf16) n (View.ld x9 r0_21) r j).trans (hu1 j))

/-- The closing norm, from any residual rows. -/
theorem final_row (h : FVec Ideal S256x1024 .f32) (u : Fin 1) (r : Fin 256) (c : Fin 1024) :
    k0_pay1 h (View.ld x11 r0_18) (ix3 u r c) = norm (rowOf h r) (rowOf x11 0) c := by
  unfold k0_pay1
  rw [ld_r0_18]
  simp only [cast_add1, shapeCast_self]
  exact norm_row h x11 r c

/-- The row a token's place in the block is computed as. -/
abbrev tokenRow (q : Fin 512) : Fin 1024 → EReal :=
  token (xRow x0 q) (hRow x1 q) (aRow x2 q) (gRow x3 0 q) (gRow x3 1 q) (mat x4) (mat x5) (mat x6) (rowOf x7 0) (mat x8) (mat x9) (mat x10) (rowOf x11 0)

/-- The upper half's stored rows. -/
theorem upper_row (u : Fin 1) (r : Fin 256) (c : Fin 1024) :
    k0_pay19 (k0_pay22 x0 x1 x2 x3 x4 x5 x6 x7 x8 x9 x10 x11) (k0_pay14 (k0_pay8 (k0_pay20 x0 x1 x2 x3 x4 x5 x6 x7 x8 x9 x10 x11) (View.ld x0 r0_15) (View.ld x6 r0_16)) (k0_pay22 x0 x1 x2 x3 x4 x5 x6 x7 x8 x9 x10 x11) (View.ld x8 r0_19) (View.ld x9 r0_19) (View.ld x10 r0_20)) (k0_pay16 (k0_pay22 x0 x1 x2 x3 x4 x5 x6 x7 x8 x9 x10 x11) (View.ld x8 r0_21)) (View.ld x9 r0_21) (View.ld x10 r0_22) (View.ld x11 r0_18) (ix3 u r c)
      = tokenRow x0 x1 x2 x3 x4 x5 x6 x7 x8 x9 x10 x11 (row 0 r) c := by
  have hm := merged0 x0 x1 x2 x3 x4 x5 x6 x7 x8 x9 x10 x11 r
  have hn : rowOf (k0_pay22 x0 x1 x2 x3 x4 x5 x6 x7 x8 x9 x10 x11) r = norm (rowOf (k0_pay8 (k0_pay20 x0 x1 x2 x3 x4 x5 x6 x7 x8 x9 x10 x11) (View.ld x0 r0_15) (View.ld x6 r0_16)) r) (rowOf x7 0) := norm0 x7 _ _ _ r
  have hr := resid0 x0 x6 (k0_pay20 x0 x1 x2 x3 x4 x5 x6 x7 x8 x9 x10 x11) r
  rw [hm] at hr
  rw [hr] at hn
  refine (final_row x11 _ u r c).trans ?_
  refine congrArg (fun w => norm w (rowOf x11 0) c) ((ffn_row x8 x9 x10 (k0_pay8 (k0_pay20 x0 x1 x2 x3 x4 x5 x6 x7 x8 x9 x10 x11) (View.ld x0 r0_15) (View.ld x6 r0_16)) (k0_pay22 x0 x1 x2 x3 x4 x5 x6 x7 x8 x9 x10 x11) r).trans ?_)
  rw [hn, hr]

/-- The lower half's stored rows. -/
theorem lower_row (u : Fin 1) (r : Fin 256) (c : Fin 1024) :
    k0_pay1 (k0_pay18 (k0_pay13 (k0_pay23 x0 x1 x2 x3 x4 x5 x6 x7 x8 x9 x10 x11) (k0_pay24 x0 x1 x2 x3 x4 x5 x6 x7 x8 x9 x10 x11)) (k0_pay15 (k0_pay9 (k0_pay21 x0 x1 x2 x3 x4 x5 x6 x7 x8 x9 x10 x11) (View.ld x0 r0_17) (View.ld x6 r0_16)) (k0_pay23 x0 x1 x2 x3 x4 x5 x6 x7 x8 x9 x10 x11) (k0_pay24 x0 x1 x2 x3 x4 x5 x6 x7 x8 x9 x10 x11) (View.ld x8 r0_19) (View.ld x9 r0_19) (View.ld x10 r0_20)) (k0_pay17 (k0_pay23 x0 x1 x2 x3 x4 x5 x6 x7 x8 x9 x10 x11) (k0_pay24 x0 x1 x2 x3 x4 x5 x6 x7 x8 x9 x10 x11) (View.ld x8 r0_21)) (View.ld x9 r0_21) (View.ld x10 r0_22)) (View.ld x11 r0_18) (ix3 u r c)
      = tokenRow x0 x1 x2 x3 x4 x5 x6 x7 x8 x9 x10 x11 (row 1 r) c := by
  have hm := merged1 x0 x1 x2 x3 x4 x5 x6 x7 x8 x9 x10 x11 r
  have hn : rowOf (k0_pay13 (k0_pay23 x0 x1 x2 x3 x4 x5 x6 x7 x8 x9 x10 x11) (k0_pay24 x0 x1 x2 x3 x4 x5 x6 x7 x8 x9 x10 x11)) r = norm (rowOf (k0_pay9 (k0_pay21 x0 x1 x2 x3 x4 x5 x6 x7 x8 x9 x10 x11) (View.ld x0 r0_17) (View.ld x6 r0_16)) r) (rowOf x7 0) := norm1 x7 _ _ _ r
  have hr := resid1 x0 x6 (k0_pay21 x0 x1 x2 x3 x4 x5 x6 x7 x8 x9 x10 x11) r
  rw [hm] at hr
  rw [hr] at hn
  refine (final_row x11 _ u r c).trans ?_
  refine congrArg (fun w => norm w (rowOf x11 0) c) ((ffn_row x8 x9 x10 (k0_pay9 (k0_pay21 x0 x1 x2 x3 x4 x5 x6 x7 x8 x9 x10 x11) (View.ld x0 r0_17) (View.ld x6 r0_16)) (k0_pay13 (k0_pay23 x0 x1 x2 x3 x4 x5 x6 x7 x8 x9 x10 x11) (k0_pay24 x0 x1 x2 x3 x4 x5 x6 x7 x8 x9 x10 x11)) r).trans ?_)
  rw [hn, hr]

/-- What the body leaves in the output block, at every place. -/
theorem block (q : Fin 512) (c : Fin 1024) : out0_12 x0 x1 x2 x3 x4 x5 x6 x7 x8 x9 x10 x11 (ix3 0 q c) = tokenRow x0 x1 x2 x3 x4 x5 x6 x7 x8 x9 x10 x11 q c := by
  refine (View.canon_apply_of_pieces (Val := Elt Ideal) (e := .f32) (fun y : S1x512x1024.Idx => tokenRow x0 x1 x2 x3 x4 x5 x6 x7 x8 x9 x10 x11 (y 1) (y 2)) _ ?_ (ix3 0 q c) (cover0_12 _ _ _))
  intro p hp
  rcases List.mem_cons.mp hp with rfl | hp
  · intro y
    rw [eq_ix3 y]
    refine (lower_row x0 x1 x2 x3 x4 x5 x6 x7 x8 x9 x10 x11 _ _ _).trans (congrArg₂ (tokenRow x0 x1 x2 x3 x4 x5 x6 x7 x8 x9 x10 x11) (Fin.ext ?_) (Fin.ext ?_)) <;> simp [Rect.emb_apply]
  · obtain rfl := List.mem_singleton.mp hp
    intro y
    rw [eq_ix3 y]
    refine (upper_row x0 x1 x2 x3 x4 x5 x6 x7 x8 x9 x10 x11 _ _ _).trans (congrArg₂ (tokenRow x0 x1 x2 x3 x4 x5 x6 x7 x8 x9 x10 x11) (Fin.ext ?_) (Fin.ext ?_)) <;> simp [Rect.emb_apply]

end Block

end Cert.MixBlock

end
-- ==== Proof.Mix.Host.lean ====
/- What the mixing kernel's windows hold when the kernel is entered: the host's reshapes, casts, gates and rows, read at
   an index, as the arguments. -/
module

public import proofs.«01_k».proof.Proof.Layout
public import Idealize.ShloMosaic.Lib.IdealHost
public import proofs.«01_k».proof.Proof.Gen.MixIdeal.Frame

@[expose] public section

noncomputable section

namespace Cert.MixHost

open Cert.MixIdeal Cert.MixIdeal.Gen Cert.Layout Idealize.ShloMosaic Idealize.ShloMosaic.TcCoe Idealize.ShloMosaic.ValueIdx

variable (m : (ℓ : Loc nD τ sig) → Buf (Elt Ideal) ℓ) (c : Dev nD)

/-- The Hyena output's slabs: lane `l` of slab `s` is lane `128 * s + l` of the argument. -/
theorem yh_eq (b : Fin 12) (s : Fin 4) (q : Fin 4096) (l : Fin 128) :
    V m c main_v2 (ix4 b s q l) = m ((c : Thread nD τ).loc main_arg1) (ix3 b q ⟨128 * s.val + l.val, by omega⟩) := by
  have e : V m c main_v2 = (truncf .bf16 (transpose S12x4x4096x128 [0, 2, 1, 3]
      (shapeCast S12x4096x4x128 (m ((c : Thread nD τ).loc main_arg1)) shapeCasts_S12x4096x512_S12x4096x4x128)
      transposes_S12x4096x4x128_S12x4x4096x128_0_2_1_3) bitsLt_bf16_f32 : FVec Ideal S12x4x4096x128 .bf16) := by
    rfl
  rw [e]
  refine (transpose_apply _ _ _ _ (ix4 b q s l) (fun a => ?_)).trans (shapeCast_apply _ _ _ _ ?_)
  · match a with
    | ⟨0, _⟩ => rfl
    | ⟨1, _⟩ => rfl
    | ⟨2, _⟩ => rfl
    | ⟨3, _⟩ => rfl
  · refine (Shape.rowMajor_val_three (d := ![12, 4096, 512]) _).trans (Eq.trans ?_ (Shape.rowMajor_val_four _).symm)
    show (b.val * 4096 + q.val) * 512 + (128 * s.val + l.val) = ((b.val * 4096 + q.val) * 4 + s.val) * 128 + l.val
    omega

/-- The attention output. -/
theorem ya_eq (b : Fin 12) (q : Fin 4096) (k : Fin 512) :
    V m c main_v29 (ix3 b q k) = m ((c : Thread nD τ).loc main_arg2) (ix3 b q k) := by
  have e : V m c main_v29 = (truncf .bf16 (m ((c : Thread nD τ).loc main_arg2)) bitsLt_bf16_f32 : FVec Ideal S12x4096x512 .bf16) := by
    rfl
  rw [e]
  rfl

/-- The sigmoid of an array, as the host spells it. -/
abbrev sigm (x : FVec Ideal S12x4096x1024 .f32) : FVec Ideal S12x4096x1024 .f32 :=
  Host.divf (broadcastInDim S12x4096x1024 ![] bcast_S_S12x4096x1024 (constant (F := Ideal) S_ .f32 0x3F800000#32))
    (addf (broadcastInDim S12x4096x1024 ![] bcast_S_S12x4096x1024 (constant (F := Ideal) S_ .f32 0x3F800000#32)) (Host.exp (Host.negf x)))

theorem one_bits : Ideal.ofBits .f32 0x3F800000#32 = 1 := Ideal.ofBits_one_f32

theorem sigm_apply (x : FVec Ideal S12x4096x1024 .f32) (i : S12x4096x1024.Idx) : sigm x i = Ideal.logistic (x i) := by
  show Ideal.div (Ideal.ofBits .f32 0x3F800000#32) (Ideal.ofBits .f32 0x3F800000#32 + Ideal.exp (-(x i))) = _
  rw [one_bits]
  rfl

theorem gates_eq : V m c main_v16 = (truncf .bf16 (concatenate S12x4096x2048 2 [⟨S12x4096x1024, sigm (m ((c : Thread nD τ).loc main_arg3))⟩,
      ⟨S12x4096x1024, sigm (m ((c : Thread nD τ).loc main_arg4))⟩] concatenates_S12x4096x1024_S12x4096x1024_S12x4096x2048_d2) bitsLt_bf16_f32 : FVec Ideal S12x4096x2048 .bf16) := by
  rfl

/-- The gates: the two sigmoids side by side. -/
theorem gh_eq (b : Fin 12) (q : Fin 4096) (k : Fin 1024) :
    V m c main_v16 (ix3 b q ⟨1024 * 0 + k.val, by omega⟩) = Ideal.logistic (m ((c : Thread nD τ).loc main_arg3) (ix3 b q k)) := by
  rw [gates_eq]
  refine (concatenate_pair_apply_left (t := S12x4096x2048) (s₁ := S12x4096x1024) (s₂ := S12x4096x1024) 2 (sigm _) _ concatenates_S12x4096x1024_S12x4096x1024_S12x4096x2048_d2 _ rfl (ix3 b q k) (fun a => ?_)).trans (sigm_apply _ _)
  match a with
  | ⟨0, _⟩ => rfl
  | ⟨1, _⟩ => rfl
  | ⟨2, _⟩ =>
    show k.val = 1024 * 0 + k.val
    omega

theorem ga_eq (b : Fin 12) (q : Fin 4096) (k : Fin 1024) :
    V m c main_v16 (ix3 b q ⟨1024 * 1 + k.val, by omega⟩) = Ideal.logistic (m ((c : Thread nD τ).loc main_arg4) (ix3 b q k)) := by
  rw [gates_eq]
  refine (concatenate_pair_apply_right (t := S12x4096x2048) (s₁ := S12x4096x1024) (s₂ := S12x4096x1024) 2 _ (sigm _) concatenates_S12x4096x1024_S12x4096x1024_S12x4096x2048_d2 _ rfl rfl (ix3 b q k) (fun a ha => ?_) ?_).trans (sigm_apply _ _)
  · match a, ha with
    | ⟨0, _⟩, _ => rfl
    | ⟨1, _⟩, _ => rfl
    | ⟨2, _⟩, ha => exact absurd rfl ha
  · show k.val + 1024 = 1024 * 1 + k.val
    omega

theorem wh_eq (k : Fin 512) (j : Fin 1024) : V m c main_v18 (ix2 k j) = m ((c : Thread nD τ).loc main_arg5) (ix3 0 k j) := by
  have e : V m c main_v18 = (truncf .bf16 (shapeCast S512x1024 (m ((c : Thread nD τ).loc main_arg5)) shapeCasts_S1x512x1024_S512x1024) bitsLt_bf16_f32 : FVec Ideal S512x1024 .bf16) := by
    rfl
  rw [e]
  exact cast_drop1 _ _ k j

theorem wa_eq (k : Fin 512) (j : Fin 1024) : V m c main_v20 (ix2 k j) = m ((c : Thread nD τ).loc main_arg6) (ix3 0 k j) := by
  have e : V m c main_v20 = (truncf .bf16 (shapeCast S512x1024 (m ((c : Thread nD τ).loc main_arg6)) shapeCasts_S1x512x1024_S512x1024) bitsLt_bf16_f32 : FVec Ideal S512x1024 .bf16) := by
    rfl
  rw [e]
  exact cast_drop1 _ _ k j

theorem wo_eq (k : Fin 1024) (j : Fin 1024) : V m c main_v22 (ix2 k j) = m ((c : Thread nD τ).loc main_arg7) (ix3 0 k j) := by
  have e : V m c main_v22 = (truncf .bf16 (shapeCast S1024x1024 (m ((c : Thread nD τ).loc main_arg7)) shapeCasts_S1x1024x1024_S1024x1024) bitsLt_bf16_f32 : FVec Ideal S1024x1024 .bf16) := by
    rfl
  rw [e]
  exact cast_drop1 _ _ k j

theorem wg_eq (k : Fin 1024) (j : Fin 2816) : V m c main_v24 (ix2 k j) = m ((c : Thread nD τ).loc main_arg9) (ix3 0 k j) := by
  have e : V m c main_v24 = (truncf .bf16 (shapeCast S1024x2816 (m ((c : Thread nD τ).loc main_arg9)) shapeCasts_S1x1024x2816_S1024x2816) bitsLt_bf16_f32 : FVec Ideal S1024x2816 .bf16) := by
    rfl
  rw [e]
  exact cast_drop1 _ _ k j

theorem wu_eq (k : Fin 1024) (j : Fin 2816) : V m c main_v26 (ix2 k j) = m ((c : Thread nD τ).loc main_arg10) (ix3 0 k j) := by
  have e : V m c main_v26 = (truncf .bf16 (shapeCast S1024x2816 (m ((c : Thread nD τ).loc main_arg10)) shapeCasts_S1x1024x2816_S1024x2816) bitsLt_bf16_f32 : FVec Ideal S1024x2816 .bf16) := by
    rfl
  rw [e]
  exact cast_drop1 _ _ k j

theorem wd_eq (k : Fin 2816) (j : Fin 1024) : V m c main_v28 (ix2 k j) = m ((c : Thread nD τ).loc main_arg11) (ix3 0 k j) := by
  have e : V m c main_v28 = (truncf .bf16 (shapeCast S2816x1024 (m ((c : Thread nD τ).loc main_arg11)) shapeCasts_S1x2816x1024_S2816x1024) bitsLt_bf16_f32 : FVec Ideal S2816x1024 .bf16) := by
    rfl
  rw [e]
  exact cast_drop1 _ _ k j

/-- The gains, as rows. -/
theorem g2_eq (k : Fin 1024) : V m c main_v31 (ix2 0 k) = m ((c : Thread nD τ).loc main_arg8) (ix2 0 k) := by
  have e : V m c main_v31 = (broadcastInDim S1x1024 ![1] bcast_S1024_S1x1024_1 (shapeCast S1024 (m ((c : Thread nD τ).loc main_arg8)) shapeCasts_S1x1024_S1024) : FVec Ideal S1x1024 .f32) := by
    rfl
  rw [e]
  refine (broadcastInDim_apply _ _ _ _ (ix1 k) (fun a => ?_)).trans (shapeCast_apply _ _ _ _ ?_)
  · match a with
    | ⟨0, _⟩ => rfl
  · refine (Shape.rowMajor_val_two (d := ![1, 1024]) _).trans (Eq.trans ?_ (Shape.rowMajor_val_one _).symm)
    show 0 * 1024 + k.val = k.val
    omega

theorem gf_eq (k : Fin 1024) : V m c main_v32 (ix2 0 k) = m ((c : Thread nD τ).loc main_arg12) (ix1 k) := by
  have e : V m c main_v32 = (broadcastInDim S1x1024 ![1] bcast_S1024_S1x1024_1 (m ((c : Thread nD τ).loc main_arg12)) : FVec Ideal S1x1024 .f32) := by
    rfl
  rw [e]
  exact broadcastInDim_apply _ _ _ _ (ix1 k) (fun a => by
    match a with
    | ⟨0, _⟩ => rfl)

end Cert.MixHost

end
-- ==== Proof.Mix.Array.lean ====
/- The mixing kernel's whole result array: at every batch row and token, the token's row of the arguments. -/
module

public import proofs.«01_k».proof.Proof.Mix.Block
public import proofs.«01_k».proof.Proof.Mix.Host
public import proofs.«01_k».proof.Proof.Gen.MixIdeal.Value
public import Idealize.ShloMosaic.Lib.Pipeline.ValueKit

@[expose] public section

noncomputable section

namespace Cert.MixArray

open Cert.MixIdeal Cert.MixIdeal.Gen Cert.Layout Cert.MixRow Cert.MixHost Idealize.ShloMosaic.TcCoe Idealize.ShloMosaic.ValueIdx
open Idealize.ShloMosaic hiding ix1 ix2 ix3 ix4
open Idealize.ShloMosaic.Pipeline (Dat)

variable (m : (ℓ : Loc nD τ sig) → Buf (Elt Ideal) ℓ) (c : Dev nD)

/-- A batch row of the eight as one of the twelve of the branches' arrays. -/
abbrev up (b : Fin 8) : Fin 12 := ⟨b.val, by omega⟩

/-- The result at batch row `b`, token `q`, lane `k`, from the arguments. -/
def out (x : S8x4096x1024.Idx → EReal) (yh ya : S12x4096x512.Idx → EReal) (gh ga : S12x4096x1024.Idx → EReal)
    (wh wa : S1x512x1024.Idx → EReal) (wo : S1x1024x1024.Idx → EReal) (g2 : S1x1024.Idx → EReal) (wg wu : S1x1024x2816.Idx → EReal)
    (wd : S1x2816x1024.Idx → EReal) (gf : S1024.Idx → EReal) (b : Fin 8) (q : Fin 4096) : Fin 1024 → EReal :=
  token (fun k => x (ix3 b q k)) (fun k => yh (ix3 (up b) q k)) (fun k => ya (ix3 (up b) q k))
    (fun k => Ideal.logistic (gh (ix3 (up b) q k))) (fun k => Ideal.logistic (ga (ix3 (up b) q k)))
    (fun k j => wh (ix3 0 k j)) (fun k j => wa (ix3 0 k j)) (fun k j => wo (ix3 0 k j)) (fun k => g2 (ix2 0 k))
    (fun k j => wg (ix3 0 k j)) (fun k j => wu (ix3 0 k j)) (fun k j => wd (ix3 0 k j)) (fun k => gf (ix1 k))

/-! ## The blocks of a point -/

/-- The batch row and the first-token block of a grid point. -/
abbrev bt (t : Fin cfg0.N) : Fin 8 := ⟨(grid0.coords t 0).val, (grid0.coords t 0).isLt⟩
abbrev tok (t : Fin cfg0.N) (q : Fin 512) : Fin 4096 := ⟨(grid0.coords t 1).val * 512 + q.val, by
  have h : (grid0.coords t 1).val < 8 := (grid0.coords t 1).isLt
  omega⟩

theorem at0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem at1 : ∀ t : Fin cfg0.N, win0_1.index t = ![(grid0.coords t 0).val, 0, (grid0.coords t 1).val, 0] :=
  (by decide +kernel : ∀ t : Fin grid0.N, win0_1.index t = ![(grid0.coords t 0).val, 0, (grid0.coords t 1).val, 0])
theorem at2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])
theorem at3 : ∀ t : Fin cfg0.N, win0_3.index t = ![(grid0.coords t 0).val, (grid0.coords t 1).val, 0] :=
  (by decide +kernel : ∀ t : Fin grid0.N, win0_3.index t = ![(grid0.coords t 0).val, (grid0.coords t 1).val, 0])
theorem at12 : ∀ t : Fin cfg0.N, win0_12.index t = ![(grid0.coords t 0).val, (grid0.coords t 1).val, 0] :=
  (by decide +kernel : ∀ t : Fin grid0.N, win0_12.index t = ![(grid0.coords t 0).val, (grid0.coords t 1).val, 0])
theorem at4 : ∀ t : Fin cfg0.N, win0_4.index t = ![0, 0] :=
  (by decide +kernel : ∀ t : Fin grid0.N, win0_4.index t = ![0, 0])
theorem at5 : ∀ t : Fin cfg0.N, win0_5.index t = ![0, 0] :=
  (by decide +kernel : ∀ t : Fin grid0.N, win0_5.index t = ![0, 0])
theorem at6 : ∀ t : Fin cfg0.N, win0_6.index t = ![0, 0] :=
  (by decide +kernel : ∀ t : Fin grid0.N, win0_6.index t = ![0, 0])
theorem at7 : ∀ t : Fin cfg0.N, win0_7.index t = ![0, 0] :=
  (by decide +kernel : ∀ t : Fin grid0.N, win0_7.index t = ![0, 0])
theorem at8 : ∀ t : Fin cfg0.N, win0_8.index t = ![0, 0] :=
  (by decide +kernel : ∀ t : Fin grid0.N, win0_8.index t = ![0, 0])
theorem at9 : ∀ t : Fin cfg0.N, win0_9.index t = ![0, 0] :=
  (by decide +kernel : ∀ t : Fin grid0.N, win0_9.index t = ![0, 0])
theorem at10 : ∀ t : Fin cfg0.N, win0_10.index t = ![0, 0] :=
  (by decide +kernel : ∀ t : Fin grid0.N, win0_10.index t = ![0, 0])
theorem at11 : ∀ t : Fin cfg0.N, win0_11.index t = ![0, 0] :=
  (by decide +kernel : ∀ t : Fin grid0.N, win0_11.index t = ![0, 0])

theorem blk0 (t : Fin cfg0.N) (q : Fin 512) (k : Fin 1024) : iblk m c 0 t (ix3 0 q k) = V m c main_arg0 (ix3 (bt t) (tok t q) k) := by
  refine congrArg (V m c main_arg0) ?_
  blk_ext [at0]

theorem blk1 (t : Fin cfg0.N) (s : Fin 4) (q : Fin 512) (l : Fin 128) : iblk m c 1 t (ix4 0 s q l) = V m c main_v2 (ix4 (up (bt t)) s (tok t q) l) := by
  refine congrArg (V m c main_v2) ?_
  blk_ext [at1]

theorem blk2 (t : Fin cfg0.N) (q : Fin 512) (k : Fin 512) : iblk m c 2 t (ix3 0 q k) = V m c main_v29 (ix3 (up (bt t)) (tok t q) k) := by
  refine congrArg (V m c main_v29) ?_
  blk_ext [at2]

theorem blk3 (t : Fin cfg0.N) (q : Fin 512) (k : Fin 2048) : iblk m c 3 t (ix3 0 q k) = V m c main_v16 (ix3 (up (bt t)) (tok t q) k) := by
  refine congrArg (V m c main_v16) ?_
  blk_ext [at3]

theorem blk4 (t : Fin cfg0.N) (k : Fin 512) (j : Fin 1024) : iblk m c 4 t (ix2 k j) = V m c main_v18 (ix2 k j) := by
  refine congrArg (V m c main_v18) ?_
  blk_ext [at4]

theorem blk5 (t : Fin cfg0.N) (k : Fin 512) (j : Fin 1024) : iblk m c 5 t (ix2 k j) = V m c main_v20 (ix2 k j) := by
  refine congrArg (V m c main_v20) ?_
  blk_ext [at5]

theorem blk6 (t : Fin cfg0.N) (k : Fin 1024) (j : Fin 1024) : iblk m c 6 t (ix2 k j) = V m c main_v22 (ix2 k j) := by
  refine congrArg (V m c main_v22) ?_
  blk_ext [at6]

theorem blk7 (t : Fin cfg0.N) (k : Fin 1) (j : Fin 1024) : iblk m c 7 t (ix2 k j) = V m c main_v31 (ix2 k j) := by
  refine congrArg (V m c main_v31) ?_
  blk_ext [at7]

theorem blk8 (t : Fin cfg0.N) (k : Fin 1024) (j : Fin 2816) : iblk m c 8 t (ix2 k j) = V m c main_v24 (ix2 k j) := by
  refine congrArg (V m c main_v24) ?_
  blk_ext [at8]

theorem blk9 (t : Fin cfg0.N) (k : Fin 1024) (j : Fin 2816) : iblk m c 9 t (ix2 k j) = V m c main_v26 (ix2 k j) := by
  refine congrArg (V m c main_v26) ?_
  blk_ext [at9]

theorem blk10 (t : Fin cfg0.N) (k : Fin 2816) (j : Fin 1024) : iblk m c 10 t (ix2 k j) = V m c main_v28 (ix2 k j) := by
  refine congrArg (V m c main_v28) ?_
  blk_ext [at10]

theorem blk11 (t : Fin cfg0.N) (k : Fin 1) (j : Fin 1024) : iblk m c 11 t (ix2 k j) = V m c main_v32 (ix2 k j) := by
  refine congrArg (V m c main_v32) ?_
  blk_ext [at11]

/-! ## The rows a point computes from -/

/-- The result array, whole. -/
abbrev whole : S8x4096x1024.Idx → EReal := fun i => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (i 0) (i 1) (i 2)

theorem tokenRow_eq (t : Fin cfg0.N) (q : Fin 512) :
    MixBlock.tokenRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) q
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (bt t) (tok t q) := by
  have h0 : MixBlock.xRow (iblk m c 0 t) q = fun k => (m ((c : Thread nD τ).loc main_arg0)) (ix3 (bt t) (tok t q) k) :=
    funext fun k => (blk0 m c t q k).trans (congrFun (V_main_arg0 m c) _)
  have h1 : MixBlock.hRow (iblk m c 1 t) q = fun k => (m ((c : Thread nD τ).loc main_arg1)) (ix3 (up (bt t)) (tok t q) k) :=
    funext fun k => ((blk1 m c t _ q _).trans (yh_eq m c _ _ _ _)).trans
      (congrArg (fun k' => (m ((c : Thread nD τ).loc main_arg1)) (ix3 (up (bt t)) (tok t q) k')) (Fin.ext (Nat.div_add_mod k.val 128)))
  have h2 : MixBlock.aRow (iblk m c 2 t) q = fun k => (m ((c : Thread nD τ).loc main_arg2)) (ix3 (up (bt t)) (tok t q) k) :=
    funext fun k => (blk2 m c t q k).trans (ya_eq m c _ _ _)
  have h3 : MixBlock.gRow (iblk m c 3 t) 0 q = fun k => Ideal.logistic ((m ((c : Thread nD τ).loc main_arg3)) (ix3 (up (bt t)) (tok t q) k)) :=
    funext fun k => (blk3 m c t q _).trans (gh_eq m c _ _ k)
  have h3' : MixBlock.gRow (iblk m c 3 t) 1 q = fun k => Ideal.logistic ((m ((c : Thread nD τ).loc main_arg4)) (ix3 (up (bt t)) (tok t q) k)) :=
    funext fun k => (blk3 m c t q _).trans (ga_eq m c _ _ k)
  have h4 : MixBlock.mat (iblk m c 4 t) = fun k j => (m ((c : Thread nD τ).loc main_arg5)) (ix3 0 k j) :=
    funext fun k => funext fun j => (blk4 m c t k j).trans (wh_eq m c k j)
  have h5 : MixBlock.mat (iblk m c 5 t) = fun k j => (m ((c : Thread nD τ).loc main_arg6)) (ix3 0 k j) :=
    funext fun k => funext fun j => (blk5 m c t k j).trans (wa_eq m c k j)
  have h6 : MixBlock.mat (iblk m c 6 t) = fun k j => (m ((c : Thread nD τ).loc main_arg7)) (ix3 0 k j) :=
    funext fun k => funext fun j => (blk6 m c t k j).trans (wo_eq m c k j)
  have h8 : MixBlock.mat (iblk m c 8 t) = fun k j => (m ((c : Thread nD τ).loc main_arg9)) (ix3 0 k j) :=
    funext fun k => funext fun j => (blk8 m c t k j).trans (wg_eq m c k j)
  have h9 : MixBlock.mat (iblk m c 9 t) = fun k j => (m ((c : Thread nD τ).loc main_arg10)) (ix3 0 k j) :=
    funext fun k => funext fun j => (blk9 m c t k j).trans (wu_eq m c k j)
  have h10 : MixBlock.mat (iblk m c 10 t) = fun k j => (m ((c : Thread nD τ).loc main_arg11)) (ix3 0 k j) :=
    funext fun k => funext fun j => (blk10 m c t k j).trans (wd_eq m c k j)
  have h7 : MixBlock.rowOf (iblk m c 7 t) 0 = fun k => (m ((c : Thread nD τ).loc main_arg8)) (ix2 0 k) :=
    funext fun k => (blk7 m c t 0 k).trans (g2_eq m c k)
  have h11 : MixBlock.rowOf (iblk m c 11 t) 0 = fun k => (m ((c : Thread nD τ).loc main_arg12)) (ix1 k) :=
    funext fun k => (blk11 m c t 0 k).trans (gf_eq m c k)
  unfold MixBlock.tokenRow out
  rw [h0, h1, h2, h3, h3', h4, h5, h6, h7, h8, h9, h10, h11]

/-- The result array after the run. -/
theorem final : (dats m 0 c).arrAt 12 cfg0.N = whole m c := by
  refine (dats m 0 c).arrAt_eq_of_covers 12 _ (by decide +kernel) fun t hf y => ?_
  blk_simp
  rw [after0_12]
  have hy : ∀ y : S1x512x1024.Idx, y = ix3 0 (y 1) (y 2) := fun y => (ValueIdx.eq_ix3 y).trans (by
    have h0 : (y 0 : Fin 1) = (0 : Fin 1) := Fin.ext (by have h : (y 0).val < 1 := (y 0).isLt; show (y 0).val = 0; omega)
    exact congrArg (fun u => (ix3 u (y 1) (y 2) : S1x512x1024.Idx)) h0)
  have e : (win0_12.blk t).view.emb y = (ix3 (bt t) (tok t (y 1)) (y 2) : S8x4096x1024.Idx) := by
    blk_ext [at12]
  rw [e]
  refine (congrArg (out0_12 (F := Ideal) _ _ _ _ _ _ _ _ _ _ _ _) (hy y)).trans ((MixBlock.block _ _ _ _ _ _ _ _ _ _ _ _ (y 1) (y 2)).trans ?_)
  exact congrFun (tokenRow_eq m c t (y 1)) (y 2)

end Cert.MixArray

end
-- ==== Proof.Mix.Ref.lean ====
/- The reference's result, read row by row: at every batch row and token it is the token's row of the arguments. -/
module

public import proofs.«01_k».proof.Proof.Mix.Array
public import proofs.«01_k».proof.Proof.Gen.MixRefIdeal.Read
public import Idealize.ShloMosaic.Lib.IdealHost

@[expose] public section

noncomputable section

namespace Cert.MixRefRow

open Cert.MixRefIdeal Cert.MixRefIdeal.Read Cert.MixRow Idealize.ShloMosaic.ValueIdx
open Cert.MixArray (up out)
open Idealize.ShloMosaic hiding ix1 ix2 ix3 ix4

variable (x0 : (⟨S8x4096x1024, .f32⟩ : BufTy).Contents (Elt Ideal)) (x1 : (⟨S12x4096x512, .f32⟩ : BufTy).Contents (Elt Ideal)) (x2 : (⟨S12x4096x512, .f32⟩ : BufTy).Contents (Elt Ideal)) (x3 : (⟨S12x4096x1024, .f32⟩ : BufTy).Contents (Elt Ideal)) (x4 : (⟨S12x4096x1024, .f32⟩ : BufTy).Contents (Elt Ideal)) (x5 : (⟨S1x512x1024, .f32⟩ : BufTy).Contents (Elt Ideal)) (x6 : (⟨S1x512x1024, .f32⟩ : BufTy).Contents (Elt Ideal)) (x7 : (⟨S1x1024x1024, .f32⟩ : BufTy).Contents (Elt Ideal)) (x8 : (⟨S1x1024, .f32⟩ : BufTy).Contents (Elt Ideal)) (x9 : (⟨S1x1024x2816, .f32⟩ : BufTy).Contents (Elt Ideal)) (x10 : (⟨S1x1024x2816, .f32⟩ : BufTy).Contents (Elt Ideal)) (x11 : (⟨S1x2816x1024, .f32⟩ : BufTy).Contents (Elt Ideal)) (x12 : (⟨S1024, .f32⟩ : BufTy).Contents (Elt Ideal))
variable (b : Fin 8) (q : Fin 4096)

theorem w10 (k : Fin 512) (j : Fin 1024) : val_main_v10 (F := Ideal) x5 (ix2 k j) = x5 (ix3 0 k j) :=
  (val_main_v10_apply x5 _).trans (congrArg x5 (funext fun a => Fin.ext (by
    match a with
    | ⟨0, _⟩ => rfl
    | ⟨1, _⟩ =>
      show (k.val * 1024 + j.val) / 1024 % 512 = k.val
      omega
    | ⟨2, _⟩ =>
      show (k.val * 1024 + j.val) % 1024 = j.val
      omega)))

theorem w19 (k : Fin 512) (j : Fin 1024) : val_main_v19 (F := Ideal) x6 (ix2 k j) = x6 (ix3 0 k j) :=
  (val_main_v19_apply x6 _).trans (congrArg x6 (funext fun a => Fin.ext (by
    match a with
    | ⟨0, _⟩ => rfl
    | ⟨1, _⟩ =>
      show (k.val * 1024 + j.val) / 1024 % 512 = k.val
      omega
    | ⟨2, _⟩ =>
      show (k.val * 1024 + j.val) % 1024 = j.val
      omega)))

theorem w23 (k : Fin 1024) (j : Fin 1024) : val_main_v23 (F := Ideal) x7 (ix2 k j) = x7 (ix3 0 k j) :=
  (val_main_v23_apply x7 _).trans (congrArg x7 (funext fun a => Fin.ext (by
    match a with
    | ⟨0, _⟩ => rfl
    | ⟨1, _⟩ =>
      show (k.val * 1024 + j.val) / 1024 % 1024 = k.val
      omega
    | ⟨2, _⟩ =>
      show (k.val * 1024 + j.val) % 1024 = j.val
      omega)))

theorem w40 (k : Fin 1024) (j : Fin 2816) : val_main_v40 (F := Ideal) x9 (ix2 k j) = x9 (ix3 0 k j) :=
  (val_main_v40_apply x9 _).trans (congrArg x9 (funext fun a => Fin.ext (by
    match a with
    | ⟨0, _⟩ => rfl
    | ⟨1, _⟩ =>
      show (k.val * 2816 + j.val) / 2816 % 1024 = k.val
      omega
    | ⟨2, _⟩ =>
      show (k.val * 2816 + j.val) % 2816 = j.val
      omega)))

theorem w43 (k : Fin 1024) (j : Fin 2816) : val_main_v43 (F := Ideal) x10 (ix2 k j) = x10 (ix3 0 k j) :=
  (val_main_v43_apply x10 _).trans (congrArg x10 (funext fun a => Fin.ext (by
    match a with
    | ⟨0, _⟩ => rfl
    | ⟨1, _⟩ =>
      show (k.val * 2816 + j.val) / 2816 % 1024 = k.val
      omega
    | ⟨2, _⟩ =>
      show (k.val * 2816 + j.val) % 2816 = j.val
      omega)))

theorem w46 (k : Fin 2816) (j : Fin 1024) : val_main_v46 (F := Ideal) x11 (ix2 k j) = x11 (ix3 0 k j) :=
  (val_main_v46_apply x11 _).trans (congrArg x11 (funext fun a => Fin.ext (by
    match a with
    | ⟨0, _⟩ => rfl
    | ⟨1, _⟩ =>
      show (k.val * 1024 + j.val) / 1024 % 2816 = k.val
      omega
    | ⟨2, _⟩ =>
      show (k.val * 1024 + j.val) % 1024 = j.val
      omega)))

theorem s0 (k : Fin 512) : val_main_v0 (F := Ideal) x1 (ix3 b q k) = x1 (ix3 (up b) q k) :=
  (val_main_v0_apply x1 _).trans (congrArg x1 (funext fun a => by
    match a with
    | ⟨0, _⟩ => rfl
    | ⟨1, _⟩ => rfl
    | ⟨2, _⟩ => rfl))

theorem s1 (k : Fin 512) : val_main_v1 (F := Ideal) x2 (ix3 b q k) = x2 (ix3 (up b) q k) :=
  (val_main_v1_apply x2 _).trans (congrArg x2 (funext fun a => by
    match a with
    | ⟨0, _⟩ => rfl
    | ⟨1, _⟩ => rfl
    | ⟨2, _⟩ => rfl))

theorem s2 (k : Fin 1024) : val_main_v2 (F := Ideal) x3 (ix3 b q k) = x3 (ix3 (up b) q k) :=
  (val_main_v2_apply x3 _).trans (congrArg x3 (funext fun a => by
    match a with
    | ⟨0, _⟩ => rfl
    | ⟨1, _⟩ => rfl
    | ⟨2, _⟩ => rfl))

theorem s3 (k : Fin 1024) : val_main_v3 (F := Ideal) x4 (ix3 b q k) = x4 (ix3 (up b) q k) :=
  (val_main_v3_apply x4 _).trans (congrArg x4 (funext fun a => by
    match a with
    | ⟨0, _⟩ => rfl
    | ⟨1, _⟩ => rfl
    | ⟨2, _⟩ => rfl))

theorem gate9 (k : Fin 1024) : val_main_v9 (F := Ideal) x3 (ix3 b q k) = Ideal.logistic (x3 (ix3 (up b) q k)) := by
  rw [← s2 x3 b q k]
  show Ideal.div (Ideal.ofBits .f32 0x3F800000#32) (Ideal.ofBits .f32 0x3F800000#32 + Ideal.exp (-(val_main_v2 (F := Ideal) x3 (ix3 b q k)))) = _
  rw [Ideal.ofBits_one_f32]
  rfl

theorem gate18 (k : Fin 1024) : val_main_v18 (F := Ideal) x4 (ix3 b q k) = Ideal.logistic (x4 (ix3 (up b) q k)) := by
  rw [← s3 x4 b q k]
  show Ideal.div (Ideal.ofBits .f32 0x3F800000#32) (Ideal.ofBits .f32 0x3F800000#32 + Ideal.exp (-(val_main_v3 (F := Ideal) x4 (ix3 b q k)))) = _
  rw [Ideal.ofBits_one_f32]
  rfl

theorem up_h (c : Fin 1024) : val_main_v11 (F := Ideal) x1 x5 (ix3 b q c) = ∑ k : Fin 512, val_main_v0 (F := Ideal) x1 (ix3 b q k) * x5 (ix3 0 k c) := by
  rw [val_main_v11_apply]
  refine Finset.sum_congr rfl fun k _ => congrArg₂ (· * ·) (congrArg (val_main_v0 (F := Ideal) x1) (funext fun a => by
    match a with
    | ⟨0, _⟩ => rfl
    | ⟨1, _⟩ => rfl
    | ⟨2, _⟩ => rfl))
    ((congrArg (val_main_v10 (F := Ideal) x5) (funext fun a => by
    match a with
    | ⟨0, _⟩ => rfl
    | ⟨1, _⟩ => rfl)).trans (w10 x5 k c))

theorem up_a (c : Fin 1024) : val_main_v20 (F := Ideal) x2 x6 (ix3 b q c) = ∑ k : Fin 512, val_main_v1 (F := Ideal) x2 (ix3 b q k) * x6 (ix3 0 k c) := by
  rw [val_main_v20_apply]
  refine Finset.sum_congr rfl fun k _ => congrArg₂ (· * ·) (congrArg (val_main_v1 (F := Ideal) x2) (funext fun a => by
    match a with
    | ⟨0, _⟩ => rfl
    | ⟨1, _⟩ => rfl
    | ⟨2, _⟩ => rfl))
    ((congrArg (val_main_v19 (F := Ideal) x6) (funext fun a => by
    match a with
    | ⟨0, _⟩ => rfl
    | ⟨1, _⟩ => rfl)).trans (w19 x6 k c))

theorem proj (c : Fin 1024) : val_main_v24 (F := Ideal) x1 x2 x3 x4 x5 x6 x7 (ix3 b q c) = ∑ k : Fin 1024, val_main_v22 (F := Ideal) x1 x2 x3 x4 x5 x6 (ix3 b q k) * x7 (ix3 0 k c) := by
  rw [val_main_v24_apply]
  refine Finset.sum_congr rfl fun k _ => congrArg₂ (· * ·) (congrArg (val_main_v22 (F := Ideal) x1 x2 x3 x4 x5 x6) (funext fun a => by
    match a with
    | ⟨0, _⟩ => rfl
    | ⟨1, _⟩ => rfl
    | ⟨2, _⟩ => rfl))
    ((congrArg (val_main_v23 (F := Ideal) x7) (funext fun a => by
    match a with
    | ⟨0, _⟩ => rfl
    | ⟨1, _⟩ => rfl)).trans (w23 x7 k c))

theorem gate_up (c : Fin 2816) : val_main_v41 (F := Ideal) x0 x1 x2 x3 x4 x5 x6 x7 x8 x9 (ix3 b q c) = ∑ k : Fin 1024, val_main_v39 (F := Ideal) x0 x1 x2 x3 x4 x5 x6 x7 x8 (ix3 b q k) * x9 (ix3 0 k c) := by
  rw [val_main_v41_apply]
  refine Finset.sum_congr rfl fun k _ => congrArg₂ (· * ·) (congrArg (val_main_v39 (F := Ideal) x0 x1 x2 x3 x4 x5 x6 x7 x8) (funext fun a => by
    match a with
    | ⟨0, _⟩ => rfl
    | ⟨1, _⟩ => rfl
    | ⟨2, _⟩ => rfl))
    ((congrArg (val_main_v40 (F := Ideal) x9) (funext fun a => by
    match a with
    | ⟨0, _⟩ => rfl
    | ⟨1, _⟩ => rfl)).trans (w40 x9 k c))

theorem lin_up (c : Fin 2816) : val_main_v44 (F := Ideal) x0 x1 x2 x3 x4 x5 x6 x7 x8 x10 (ix3 b q c) = ∑ k : Fin 1024, val_main_v39 (F := Ideal) x0 x1 x2 x3 x4 x5 x6 x7 x8 (ix3 b q k) * x10 (ix3 0 k c) := by
  rw [val_main_v44_apply]
  refine Finset.sum_congr rfl fun k _ => congrArg₂ (· * ·) (congrArg (val_main_v39 (F := Ideal) x0 x1 x2 x3 x4 x5 x6 x7 x8) (funext fun a => by
    match a with
    | ⟨0, _⟩ => rfl
    | ⟨1, _⟩ => rfl
    | ⟨2, _⟩ => rfl))
    ((congrArg (val_main_v43 (F := Ideal) x10) (funext fun a => by
    match a with
    | ⟨0, _⟩ => rfl
    | ⟨1, _⟩ => rfl)).trans (w43 x10 k c))

theorem down (c : Fin 1024) : val_main_v47 (F := Ideal) x0 x1 x2 x3 x4 x5 x6 x7 x8 x9 x10 x11 (ix3 b q c) = ∑ k : Fin 2816, val_main_v45 (F := Ideal) x0 x1 x2 x3 x4 x5 x6 x7 x8 x9 x10 (ix3 b q k) * x11 (ix3 0 k c) := by
  rw [val_main_v47_apply]
  refine Finset.sum_congr rfl fun k _ => congrArg₂ (· * ·) (congrArg (val_main_v45 (F := Ideal) x0 x1 x2 x3 x4 x5 x6 x7 x8 x9 x10) (funext fun a => by
    match a with
    | ⟨0, _⟩ => rfl
    | ⟨1, _⟩ => rfl
    | ⟨2, _⟩ => rfl))
    ((congrArg (val_main_v46 (F := Ideal) x11) (funext fun a => by
    match a with
    | ⟨0, _⟩ => rfl
    | ⟨1, _⟩ => rfl)).trans (w46 x11 k c))

/-- A norm, over any rows. -/
theorem norm2 (c : Fin 1024) : val_main_v39 (F := Ideal) x0 x1 x2 x3 x4 x5 x6 x7 x8 (ix3 b q c)
    = norm (fun k => val_main_v25 (F := Ideal) x0 x1 x2 x3 x4 x5 x6 x7 (ix3 b q k)) (fun k => x8 (ix2 0 k)) c := by
  have hs : val_main_v28 (F := Ideal) x0 x1 x2 x3 x4 x5 x6 x7 (ix2 b q) = ∑ k : Fin 1024, val_main_v25 (F := Ideal) x0 x1 x2 x3 x4 x5 x6 x7 (ix3 b q k) * val_main_v25 (F := Ideal) x0 x1 x2 x3 x4 x5 x6 x7 (ix3 b q k) := by
    rw [val_main_v28_apply]
    refine (congrArg (· + _) Ideal.ofBits_zero_f32).trans ((zero_add _).trans (Finset.sum_congr rfl fun k _ => ?_))
    exact congrArg (fun i => val_main_v25 (F := Ideal) x0 x1 x2 x3 x4 x5 x6 x7 i * val_main_v25 (F := Ideal) x0 x1 x2 x3 x4 x5 x6 x7 i) (funext fun a => by
    match a with
    | ⟨0, _⟩ => rfl
    | ⟨1, _⟩ => rfl
    | ⟨2, _⟩ => rfl)
  rw [val_main_v39_apply, val_main_v36_apply, val_main_v35_apply, val_main_v34_apply, val_main_v33_apply, val_main_v31_apply, val_main_v29_apply, val_main_v38_apply, val_main_v37_apply, val_main_v26_apply, val_main_v32_apply, val_main_v30_apply]
  refine congrArg₂ (· * ·) (congrArg₂ (· * ·) rfl (congrArg Ideal.rsqrt (congrArg₂ (· + ·) (congrArg₂ Ideal.div ?_ rfl) rfl))) ?_
  · exact (congrArg (val_main_v28 (F := Ideal) x0 x1 x2 x3 x4 x5 x6 x7) (funext fun a => by
    match a with
    | ⟨0, _⟩ => rfl
    | ⟨1, _⟩ => rfl)).trans hs
  · exact congrArg x8 (funext fun a => Fin.ext (by
      match a with
      | ⟨0, _⟩ => rfl
      | ⟨1, _⟩ =>
        show c.val % 1024 = c.val
        omega))

/-- A norm, over any rows. -/
theorem normf (c : Fin 1024) : val_main_v61 (F := Ideal) x0 x1 x2 x3 x4 x5 x6 x7 x8 x9 x10 x11 x12 (ix3 b q c)
    = norm (fun k => val_main_v48 (F := Ideal) x0 x1 x2 x3 x4 x5 x6 x7 x8 x9 x10 x11 (ix3 b q k)) (fun k => x12 (ix1 k)) c := by
  have hs : val_main_v50 (F := Ideal) x0 x1 x2 x3 x4 x5 x6 x7 x8 x9 x10 x11 (ix2 b q) = ∑ k : Fin 1024, val_main_v48 (F := Ideal) x0 x1 x2 x3 x4 x5 x6 x7 x8 x9 x10 x11 (ix3 b q k) * val_main_v48 (F := Ideal) x0 x1 x2 x3 x4 x5 x6 x7 x8 x9 x10 x11 (ix3 b q k) := by
    rw [val_main_v50_apply]
    refine (congrArg (· + _) Ideal.ofBits_zero_f32).trans ((zero_add _).trans (Finset.sum_congr rfl fun k _ => ?_))
    exact congrArg (fun i => val_main_v48 (F := Ideal) x0 x1 x2 x3 x4 x5 x6 x7 x8 x9 x10 x11 i * val_main_v48 (F := Ideal) x0 x1 x2 x3 x4 x5 x6 x7 x8 x9 x10 x11 i) (funext fun a => by
    match a with
    | ⟨0, _⟩ => rfl
    | ⟨1, _⟩ => rfl
    | ⟨2, _⟩ => rfl)
  rw [val_main_v61_apply, val_main_v58_apply, val_main_v57_apply, val_main_v56_apply, val_main_v55_apply, val_main_v53_apply, val_main_v51_apply, val_main_v60_apply, val_main_v59_apply, val_main_v54_apply, val_main_v52_apply]
  refine congrArg₂ (· * ·) (congrArg₂ (· * ·) rfl (congrArg Ideal.rsqrt (congrArg₂ (· + ·) (congrArg₂ Ideal.div ?_ rfl) rfl))) ?_
  · exact (congrArg (val_main_v50 (F := Ideal) x0 x1 x2 x3 x4 x5 x6 x7 x8 x9 x10 x11) (funext fun a => by
    match a with
    | ⟨0, _⟩ => rfl
    | ⟨1, _⟩ => rfl)).trans hs
  · exact congrArg x12 (funext fun a => by
      match a with
      | ⟨0, _⟩ => rfl)

/-- The stages, chained. -/
theorem merged_row : (fun c => val_main_v22 (F := Ideal) x1 x2 x3 x4 x5 x6 (ix3 b q c))
    = merged (fun k => x1 (ix3 (up b) q k)) (fun k => x2 (ix3 (up b) q k)) (fun k => Ideal.logistic (x3 (ix3 (up b) q k))) (fun k => Ideal.logistic (x4 (ix3 (up b) q k))) (fun k j => x5 (ix3 0 k j)) (fun k j => x6 (ix3 0 k j)) := by
  funext c
  rw [val_main_v22_apply, val_main_v12_apply, val_main_v21_apply]
  refine congrArg₂ (· + ·) (congrArg₂ (· * ·) (gate9 x3 b q c) ((up_h x1 x5 b q c).trans ?_)) (congrArg₂ (· * ·) (gate18 x4 b q c) ((up_a x2 x6 b q c).trans ?_))
  · exact Finset.sum_congr rfl fun k _ => congrArg (· * _) (s0 x1 b q k)
  · exact Finset.sum_congr rfl fun k _ => congrArg (· * _) (s1 x2 b q k)

theorem resid_row : (fun c => val_main_v25 (F := Ideal) x0 x1 x2 x3 x4 x5 x6 x7 (ix3 b q c)) = resid (fun k => x0 (ix3 b q k)) (merged (fun k => x1 (ix3 (up b) q k)) (fun k => x2 (ix3 (up b) q k)) (fun k => Ideal.logistic (x3 (ix3 (up b) q k))) (fun k => Ideal.logistic (x4 (ix3 (up b) q k))) (fun k j => x5 (ix3 0 k j)) (fun k j => x6 (ix3 0 k j))) (fun k j => x7 (ix3 0 k j)) := by
  funext c
  rw [val_main_v25_apply, ← merged_row x1 x2 x3 x4 x5 x6 b q]
  exact congrArg (x0 (ix3 b q c) + ·) (proj x1 x2 x3 x4 x5 x6 x7 b q c)

theorem act_row (j : Fin 2816) : val_main_v45 (F := Ideal) x0 x1 x2 x3 x4 x5 x6 x7 x8 x9 x10 (ix3 b q j)
    = act (fun k => val_main_v39 (F := Ideal) x0 x1 x2 x3 x4 x5 x6 x7 x8 (ix3 b q k)) (fun k j => x9 (ix3 0 k j)) (fun k j => x10 (ix3 0 k j)) j := by
  rw [val_main_v45_apply, val_main_v42_apply]
  refine congrArg₂ (· * ·) (congrArg₂ (· * ·) (gate_up x0 x1 x2 x3 x4 x5 x6 x7 x8 x9 b q j) ?_) (lin_up x0 x1 x2 x3 x4 x5 x6 x7 x8 x10 b q j)
  rw [← gate_up x0 x1 x2 x3 x4 x5 x6 x7 x8 x9 b q j]
  show Ideal.div (Ideal.ofBits .f32 0x3F800000#32) (Ideal.ofBits .f32 0x3F800000#32 + Ideal.exp (-(val_main_v41 (F := Ideal) x0 x1 x2 x3 x4 x5 x6 x7 x8 x9 (ix3 b q j)))) = _
  rw [Ideal.ofBits_one_f32]
  rfl

theorem ffn_row : (fun c => val_main_v48 (F := Ideal) x0 x1 x2 x3 x4 x5 x6 x7 x8 x9 x10 x11 (ix3 b q c))
    = ffn (fun c => val_main_v25 (F := Ideal) x0 x1 x2 x3 x4 x5 x6 x7 (ix3 b q c)) (fun k => val_main_v39 (F := Ideal) x0 x1 x2 x3 x4 x5 x6 x7 x8 (ix3 b q k)) (fun k j => x9 (ix3 0 k j)) (fun k j => x10 (ix3 0 k j)) (fun k j => x11 (ix3 0 k j)) := by
  funext c
  rw [val_main_v48_apply]
  exact congrArg (_ + ·) ((down x0 x1 x2 x3 x4 x5 x6 x7 x8 x9 x10 x11 b q c).trans (Finset.sum_congr rfl fun j _ => congrArg (· * _) (act_row x0 x1 x2 x3 x4 x5 x6 x7 x8 x9 x10 b q j)))

/-- The reference's result. -/
theorem result (c : Fin 1024) : val_main_v61 (F := Ideal) x0 x1 x2 x3 x4 x5 x6 x7 x8 x9 x10 x11 x12 (ix3 b q c) = out x0 x1 x2 x3 x4 x5 x6 x7 x8 x9 x10 x11 x12 b q c := by
  have hn : (fun k => val_main_v39 (F := Ideal) x0 x1 x2 x3 x4 x5 x6 x7 x8 (ix3 b q k)) = norm (resid (fun k => x0 (ix3 b q k)) (merged (fun k => x1 (ix3 (up b) q k)) (fun k => x2 (ix3 (up b) q k)) (fun k => Ideal.logistic (x3 (ix3 (up b) q k))) (fun k => Ideal.logistic (x4 (ix3 (up b) q k))) (fun k j => x5 (ix3 0 k j)) (fun k j => x6 (ix3 0 k j))) (fun k j => x7 (ix3 0 k j))) (fun k => x8 (ix2 0 k)) := by
    funext k
    rw [norm2 x0 x1 x2 x3 x4 x5 x6 x7 x8 b q k, resid_row x0 x1 x2 x3 x4 x5 x6 x7 b q]
  rw [normf x0 x1 x2 x3 x4 x5 x6 x7 x8 x9 x10 x11 x12 b q c, ffn_row x0 x1 x2 x3 x4 x5 x6 x7 x8 x9 x10 x11 b q, hn, resid_row x0 x1 x2 x3 x4 x5 x6 x7 b q]
  rfl

end Cert.MixRefRow

end
-- ==== Proof.Mix.Claims.lean ====
/- The mixing kernel's claims on the prompt batch: its frames, and that over the reals its result array is the layer's own. -/
module

public import proofs.«01_k».proof.Defs
public import proofs.«01_k».proof.Proof.Mix.Ref
public import proofs.«01_k».proof.Proof.Gen.Mix.Frame

@[expose] public section

noncomputable section

namespace Cert.MixClaims

open Idealize.ShloMosaic Idealize.ShloMosaic.ValueIdx

theorem frame : Cert.quiescent_Mix := fun m ρ _ => Cert.Mix.Gen.frame m ρ
theorem frame_ideal : Cert.quiescent_MixIdeal := fun m ρ _ => Cert.MixIdeal.Gen.frame m ρ
theorem frame_ref : Cert.quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

/-- The kernel's array is `MixArray.whole` of the arguments, and so is the reference's of arguments that agree. -/
theorem algebraic : Cert.algebraic_MixIdeal_MixRefIdeal := by
  intro m ρ m' ρ' _ hagree
  refine ⟨fun c => Cert.MixArray.whole m c, ?_, ?_⟩
  · exact (θ_run Cert.MixIdeal.defs _ _).mono (fun _ h c => ⟨(h c).1.trans (Cert.MixArray.final m c), (h c).2⟩)
      (Cert.MixIdeal.Value.run_blocks (F := Ideal) m ρ)
  refine (θ_run Cert.MixRefIdeal.defs _ _).mono (fun _ h c => ⟨(h c).1.trans ?_, (h c).2⟩)
    (Cert.MixRefIdeal.Value.run (F := Ideal) m' ρ')
  obtain ⟨h0, h1, h2, h3, h4, h5, h6, h7, h8, h9, h10, h11, h12⟩ := hagree c
  rw [Cert.MixRefIdeal.Read.val_main_v61_eq, h0, h1, h2, h3, h4, h5, h6, h7, h8, h9, h10, h11, h12]
  funext i
  refine (congrArg _ (ValueIdx.eq_ix3 i)).trans (Cert.MixRefRow.result _ _ _ _ _ _ _ _ _ _ _ _ _ _ _ _)

end Cert.MixClaims

end
-- ==== Proof.Sample.Host.lean ====
/- What the mixing kernel's windows hold when the kernel is entered: the host's reshapes, casts, gates and rows, read at
   an index, as the arguments. -/
module

public import proofs.«01_k».proof.Proof.Layout
public import Idealize.ShloMosaic.Lib.IdealHost
public import proofs.«01_k».proof.Proof.Gen.SampleIdeal.Frame

@[expose] public section

noncomputable section

namespace Cert.SampleHost

open Cert.SampleIdeal Cert.SampleIdeal.Gen Cert.Layout Idealize.ShloMosaic Idealize.ShloMosaic.TcCoe Idealize.ShloMosaic.ValueIdx

variable (m : (ℓ : Loc nD τ sig) → Buf (Elt Ideal) ℓ) (c : Dev nD)

/-- The Hyena output's slabs: lane `l` of slab `s` is lane `128 * s + l` of the argument. -/
theorem yh_eq (b : Fin 12) (s : Fin 4) (q : Fin 4096) (l : Fin 128) :
    V m c main_v2 (ix4 b s q l) = m ((c : Thread nD τ).loc main_arg1) (ix3 b q ⟨128 * s.val + l.val, by omega⟩) := by
  have e : V m c main_v2 = (truncf .bf16 (transpose S12x4x4096x128 [0, 2, 1, 3]
      (shapeCast S12x4096x4x128 (m ((c : Thread nD τ).loc main_arg1)) shapeCasts_S12x4096x512_S12x4096x4x128)
      transposes_S12x4096x4x128_S12x4x4096x128_0_2_1_3) bitsLt_bf16_f32 : FVec Ideal S12x4x4096x128 .bf16) := by
    rfl
  rw [e]
  refine (transpose_apply _ _ _ _ (ix4 b q s l) (fun a => ?_)).trans (shapeCast_apply _ _ _ _ ?_)
  · match a with
    | ⟨0, _⟩ => rfl
    | ⟨1, _⟩ => rfl
    | ⟨2, _⟩ => rfl
    | ⟨3, _⟩ => rfl
  · refine (Shape.rowMajor_val_three (d := ![12, 4096, 512]) _).trans (Eq.trans ?_ (Shape.rowMajor_val_four _).symm)
    show (b.val * 4096 + q.val) * 512 + (128 * s.val + l.val) = ((b.val * 4096 + q.val) * 4 + s.val) * 128 + l.val
    omega

/-- The attention output. -/
theorem ya_eq (b : Fin 12) (q : Fin 4096) (k : Fin 512) :
    V m c main_v29 (ix3 b q k) = m ((c : Thread nD τ).loc main_arg2) (ix3 b q k) := by
  have e : V m c main_v29 = (truncf .bf16 (m ((c : Thread nD τ).loc main_arg2)) bitsLt_bf16_f32 : FVec Ideal S12x4096x512 .bf16) := by
    rfl
  rw [e]
  rfl

/-- The sigmoid of an array, as the host spells it. -/
abbrev sigm (x : FVec Ideal S12x4096x1024 .f32) : FVec Ideal S12x4096x1024 .f32 :=
  Host.divf (broadcastInDim S12x4096x1024 ![] bcast_S_S12x4096x1024 (constant (F := Ideal) S_ .f32 0x3F800000#32))
    (addf (broadcastInDim S12x4096x1024 ![] bcast_S_S12x4096x1024 (constant (F := Ideal) S_ .f32 0x3F800000#32)) (Host.exp (Host.negf x)))

theorem one_bits : Ideal.ofBits .f32 0x3F800000#32 = 1 := Ideal.ofBits_one_f32

theorem sigm_apply (x : FVec Ideal S12x4096x1024 .f32) (i : S12x4096x1024.Idx) : sigm x i = Ideal.logistic (x i) := by
  show Ideal.div (Ideal.ofBits .f32 0x3F800000#32) (Ideal.ofBits .f32 0x3F800000#32 + Ideal.exp (-(x i))) = _
  rw [one_bits]
  rfl

theorem gates_eq : V m c main_v16 = (truncf .bf16 (concatenate S12x4096x2048 2 [⟨S12x4096x1024, sigm (m ((c : Thread nD τ).loc main_arg3))⟩,
      ⟨S12x4096x1024, sigm (m ((c : Thread nD τ).loc main_arg4))⟩] concatenates_S12x4096x1024_S12x4096x1024_S12x4096x2048_d2) bitsLt_bf16_f32 : FVec Ideal S12x4096x2048 .bf16) := by
  rfl

/-- The gates: the two sigmoids side by side. -/
theorem gh_eq (b : Fin 12) (q : Fin 4096) (k : Fin 1024) :
    V m c main_v16 (ix3 b q ⟨1024 * 0 + k.val, by omega⟩) = Ideal.logistic (m ((c : Thread nD τ).loc main_arg3) (ix3 b q k)) := by
  rw [gates_eq]
  refine (concatenate_pair_apply_left (t := S12x4096x2048) (s₁ := S12x4096x1024) (s₂ := S12x4096x1024) 2 (sigm _) _ concatenates_S12x4096x1024_S12x4096x1024_S12x4096x2048_d2 _ rfl (ix3 b q k) (fun a => ?_)).trans (sigm_apply _ _)
  match a with
  | ⟨0, _⟩ => rfl
  | ⟨1, _⟩ => rfl
  | ⟨2, _⟩ =>
    show k.val = 1024 * 0 + k.val
    omega

theorem ga_eq (b : Fin 12) (q : Fin 4096) (k : Fin 1024) :
    V m c main_v16 (ix3 b q ⟨1024 * 1 + k.val, by omega⟩) = Ideal.logistic (m ((c : Thread nD τ).loc main_arg4) (ix3 b q k)) := by
  rw [gates_eq]
  refine (concatenate_pair_apply_right (t := S12x4096x2048) (s₁ := S12x4096x1024) (s₂ := S12x4096x1024) 2 _ (sigm _) concatenates_S12x4096x1024_S12x4096x1024_S12x4096x2048_d2 _ rfl rfl (ix3 b q k) (fun a ha => ?_) ?_).trans (sigm_apply _ _)
  · match a, ha with
    | ⟨0, _⟩, _ => rfl
    | ⟨1, _⟩, _ => rfl
    | ⟨2, _⟩, ha => exact absurd rfl ha
  · show k.val + 1024 = 1024 * 1 + k.val
    omega

theorem wh_eq (k : Fin 512) (j : Fin 1024) : V m c main_v18 (ix2 k j) = m ((c : Thread nD τ).loc main_arg5) (ix3 0 k j) := by
  have e : V m c main_v18 = (truncf .bf16 (shapeCast S512x1024 (m ((c : Thread nD τ).loc main_arg5)) shapeCasts_S1x512x1024_S512x1024) bitsLt_bf16_f32 : FVec Ideal S512x1024 .bf16) := by
    rfl
  rw [e]
  exact cast_drop1 _ _ k j

theorem wa_eq (k : Fin 512) (j : Fin 1024) : V m c main_v20 (ix2 k j) = m ((c : Thread nD τ).loc main_arg6) (ix3 0 k j) := by
  have e : V m c main_v20 = (truncf .bf16 (shapeCast S512x1024 (m ((c : Thread nD τ).loc main_arg6)) shapeCasts_S1x512x1024_S512x1024) bitsLt_bf16_f32 : FVec Ideal S512x1024 .bf16) := by
    rfl
  rw [e]
  exact cast_drop1 _ _ k j

theorem wo_eq (k : Fin 1024) (j : Fin 1024) : V m c main_v22 (ix2 k j) = m ((c : Thread nD τ).loc main_arg7) (ix3 0 k j) := by
  have e : V m c main_v22 = (truncf .bf16 (shapeCast S1024x1024 (m ((c : Thread nD τ).loc main_arg7)) shapeCasts_S1x1024x1024_S1024x1024) bitsLt_bf16_f32 : FVec Ideal S1024x1024 .bf16) := by
    rfl
  rw [e]
  exact cast_drop1 _ _ k j

theorem wg_eq (k : Fin 1024) (j : Fin 2816) : V m c main_v24 (ix2 k j) = m ((c : Thread nD τ).loc main_arg9) (ix3 0 k j) := by
  have e : V m c main_v24 = (truncf .bf16 (shapeCast S1024x2816 (m ((c : Thread nD τ).loc main_arg9)) shapeCasts_S1x1024x2816_S1024x2816) bitsLt_bf16_f32 : FVec Ideal S1024x2816 .bf16) := by
    rfl
  rw [e]
  exact cast_drop1 _ _ k j

theorem wu_eq (k : Fin 1024) (j : Fin 2816) : V m c main_v26 (ix2 k j) = m ((c : Thread nD τ).loc main_arg10) (ix3 0 k j) := by
  have e : V m c main_v26 = (truncf .bf16 (shapeCast S1024x2816 (m ((c : Thread nD τ).loc main_arg10)) shapeCasts_S1x1024x2816_S1024x2816) bitsLt_bf16_f32 : FVec Ideal S1024x2816 .bf16) := by
    rfl
  rw [e]
  exact cast_drop1 _ _ k j

theorem wd_eq (k : Fin 2816) (j : Fin 1024) : V m c main_v28 (ix2 k j) = m ((c : Thread nD τ).loc main_arg11) (ix3 0 k j) := by
  have e : V m c main_v28 = (truncf .bf16 (shapeCast S2816x1024 (m ((c : Thread nD τ).loc main_arg11)) shapeCasts_S1x2816x1024_S2816x1024) bitsLt_bf16_f32 : FVec Ideal S2816x1024 .bf16) := by
    rfl
  rw [e]
  exact cast_drop1 _ _ k j

/-- The gains, as rows. -/
theorem g2_eq (k : Fin 1024) : V m c main_v31 (ix2 0 k) = m ((c : Thread nD τ).loc main_arg8) (ix2 0 k) := by
  have e : V m c main_v31 = (broadcastInDim S1x1024 ![1] bcast_S1024_S1x1024_1 (shapeCast S1024 (m ((c : Thread nD τ).loc main_arg8)) shapeCasts_S1x1024_S1024) : FVec Ideal S1x1024 .f32) := by
    rfl
  rw [e]
  refine (broadcastInDim_apply _ _ _ _ (ix1 k) (fun a => ?_)).trans (shapeCast_apply _ _ _ _ ?_)
  · match a with
    | ⟨0, _⟩ => rfl
  · refine (Shape.rowMajor_val_two (d := ![1, 1024]) _).trans (Eq.trans ?_ (Shape.rowMajor_val_one _).symm)
    show 0 * 1024 + k.val = k.val
    omega

theorem gf_eq (k : Fin 1024) : V m c main_v32 (ix2 0 k) = m ((c : Thread nD τ).loc main_arg12) (ix1 k) := by
  have e : V m c main_v32 = (broadcastInDim S1x1024 ![1] bcast_S1024_S1x1024_1 (m ((c : Thread nD τ).loc main_arg12)) : FVec Ideal S1x1024 .f32) := by
    rfl
  rw [e]
  exact broadcastInDim_apply _ _ _ _ (ix1 k) (fun a => by
    match a with
    | ⟨0, _⟩ => rfl)

end Cert.SampleHost

end
-- ==== Proof.Sample.Array.lean ====
/- The mixing kernel's whole result array: at every batch row and token, the token's row of the arguments. -/
module

public import proofs.«01_k».proof.Proof.Mix.Block
public import proofs.«01_k».proof.Proof.Sample.Host
public import proofs.«01_k».proof.Proof.Gen.SampleIdeal.Value
public import Idealize.ShloMosaic.Lib.Pipeline.ValueKit

@[expose] public section

noncomputable section

namespace Cert.SampleArray

open Cert.SampleIdeal Cert.SampleIdeal.Gen Cert.Layout Cert.MixRow Cert.SampleHost Idealize.ShloMosaic.TcCoe Idealize.ShloMosaic.ValueIdx
open Idealize.ShloMosaic hiding ix1 ix2 ix3 ix4
open Idealize.ShloMosaic.Pipeline (Dat)

variable (m : (ℓ : Loc nD τ sig) → Buf (Elt Ideal) ℓ) (c : Dev nD)

/-- A batch row of the eight as one of the twelve of the branches' arrays. -/
abbrev up (b : Fin 4) : Fin 12 := ⟨8 + b.val, by omega⟩

/-- The result at batch row `b`, token `q`, lane `k`, from the arguments. -/
def out (x : S4x4096x1024.Idx → EReal) (yh ya : S12x4096x512.Idx → EReal) (gh ga : S12x4096x1024.Idx → EReal)
    (wh wa : S1x512x1024.Idx → EReal) (wo : S1x1024x1024.Idx → EReal) (g2 : S1x1024.Idx → EReal) (wg wu : S1x1024x2816.Idx → EReal)
    (wd : S1x2816x1024.Idx → EReal) (gf : S1024.Idx → EReal) (b : Fin 4) (q : Fin 4096) : Fin 1024 → EReal :=
  token (fun k => x (ix3 b q k)) (fun k => yh (ix3 (up b) q k)) (fun k => ya (ix3 (up b) q k))
    (fun k => Ideal.logistic (gh (ix3 (up b) q k))) (fun k => Ideal.logistic (ga (ix3 (up b) q k)))
    (fun k j => wh (ix3 0 k j)) (fun k j => wa (ix3 0 k j)) (fun k j => wo (ix3 0 k j)) (fun k => g2 (ix2 0 k))
    (fun k j => wg (ix3 0 k j)) (fun k j => wu (ix3 0 k j)) (fun k j => wd (ix3 0 k j)) (fun k => gf (ix1 k))

/-! ## The blocks of a point -/

/-- The batch row and the first-token block of a grid point. -/
abbrev bt (t : Fin cfg0.N) : Fin 4 := ⟨(grid0.coords t 0).val, (grid0.coords t 0).isLt⟩
abbrev tok (t : Fin cfg0.N) (q : Fin 512) : Fin 4096 := ⟨(grid0.coords t 1).val * 512 + q.val, by
  have h : (grid0.coords t 1).val < 8 := (grid0.coords t 1).isLt
  omega⟩

theorem at0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem at1 : ∀ t : Fin cfg0.N, win0_1.index t = ![8 + (grid0.coords t 0).val, 0, (grid0.coords t 1).val, 0] :=
  (by decide +kernel : ∀ t : Fin grid0.N, win0_1.index t = ![8 + (grid0.coords t 0).val, 0, (grid0.coords t 1).val, 0])
theorem at2 : ∀ t : Fin cfg0.N, win0_2.index t = ![8 + (grid0.coords t 0).val, (grid0.coords t 1).val, 0] :=
  (by decide +kernel : ∀ t : Fin grid0.N, win0_2.index t = ![8 + (grid0.coords t 0).val, (grid0.coords t 1).val, 0])
theorem at3 : ∀ t : Fin cfg0.N, win0_3.index t = ![8 + (grid0.coords t 0).val, (grid0.coords t 1).val, 0] :=
  (by decide +kernel : ∀ t : Fin grid0.N, win0_3.index t = ![8 + (grid0.coords t 0).val, (grid0.coords t 1).val, 0])
theorem at12 : ∀ t : Fin cfg0.N, win0_12.index t = ![(grid0.coords t 0).val, (grid0.coords t 1).val, 0] :=
  (by decide +kernel : ∀ t : Fin grid0.N, win0_12.index t = ![(grid0.coords t 0).val, (grid0.coords t 1).val, 0])
theorem at4 : ∀ t : Fin cfg0.N, win0_4.index t = ![0, 0] :=
  (by decide +kernel : ∀ t : Fin grid0.N, win0_4.index t = ![0, 0])
theorem at5 : ∀ t : Fin cfg0.N, win0_5.index t = ![0, 0] :=
  (by decide +kernel : ∀ t : Fin grid0.N, win0_5.index t = ![0, 0])
theorem at6 : ∀ t : Fin cfg0.N, win0_6.index t = ![0, 0] :=
  (by decide +kernel : ∀ t : Fin grid0.N, win0_6.index t = ![0, 0])
theorem at7 : ∀ t : Fin cfg0.N, win0_7.index t = ![0, 0] :=
  (by decide +kernel : ∀ t : Fin grid0.N, win0_7.index t = ![0, 0])
theorem at8 : ∀ t : Fin cfg0.N, win0_8.index t = ![0, 0] :=
  (by decide +kernel : ∀ t : Fin grid0.N, win0_8.index t = ![0, 0])
theorem at9 : ∀ t : Fin cfg0.N, win0_9.index t = ![0, 0] :=
  (by decide +kernel : ∀ t : Fin grid0.N, win0_9.index t = ![0, 0])
theorem at10 : ∀ t : Fin cfg0.N, win0_10.index t = ![0, 0] :=
  (by decide +kernel : ∀ t : Fin grid0.N, win0_10.index t = ![0, 0])
theorem at11 : ∀ t : Fin cfg0.N, win0_11.index t = ![0, 0] :=
  (by decide +kernel : ∀ t : Fin grid0.N, win0_11.index t = ![0, 0])

theorem blk0 (t : Fin cfg0.N) (q : Fin 512) (k : Fin 1024) : iblk m c 0 t (ix3 0 q k) = V m c main_arg0 (ix3 (bt t) (tok t q) k) := by
  refine congrArg (V m c main_arg0) ?_
  blk_ext [at0]

theorem blk1 (t : Fin cfg0.N) (s : Fin 4) (q : Fin 512) (l : Fin 128) : iblk m c 1 t (ix4 0 s q l) = V m c main_v2 (ix4 (up (bt t)) s (tok t q) l) := by
  refine congrArg (V m c main_v2) ?_
  blk_ext [at1]

theorem blk2 (t : Fin cfg0.N) (q : Fin 512) (k : Fin 512) : iblk m c 2 t (ix3 0 q k) = V m c main_v29 (ix3 (up (bt t)) (tok t q) k) := by
  refine congrArg (V m c main_v29) ?_
  blk_ext [at2]

theorem blk3 (t : Fin cfg0.N) (q : Fin 512) (k : Fin 2048) : iblk m c 3 t (ix3 0 q k) = V m c main_v16 (ix3 (up (bt t)) (tok t q) k) := by
  refine congrArg (V m c main_v16) ?_
  blk_ext [at3]

theorem blk4 (t : Fin cfg0.N) (k : Fin 512) (j : Fin 1024) : iblk m c 4 t (ix2 k j) = V m c main_v18 (ix2 k j) := by
  refine congrArg (V m c main_v18) ?_
  blk_ext [at4]

theorem blk5 (t : Fin cfg0.N) (k : Fin 512) (j : Fin 1024) : iblk m c 5 t (ix2 k j) = V m c main_v20 (ix2 k j) := by
  refine congrArg (V m c main_v20) ?_
  blk_ext [at5]

theorem blk6 (t : Fin cfg0.N) (k : Fin 1024) (j : Fin 1024) : iblk m c 6 t (ix2 k j) = V m c main_v22 (ix2 k j) := by
  refine congrArg (V m c main_v22) ?_
  blk_ext [at6]

theorem blk7 (t : Fin cfg0.N) (k : Fin 1) (j : Fin 1024) : iblk m c 7 t (ix2 k j) = V m c main_v31 (ix2 k j) := by
  refine congrArg (V m c main_v31) ?_
  blk_ext [at7]

theorem blk8 (t : Fin cfg0.N) (k : Fin 1024) (j : Fin 2816) : iblk m c 8 t (ix2 k j) = V m c main_v24 (ix2 k j) := by
  refine congrArg (V m c main_v24) ?_
  blk_ext [at8]

theorem blk9 (t : Fin cfg0.N) (k : Fin 1024) (j : Fin 2816) : iblk m c 9 t (ix2 k j) = V m c main_v26 (ix2 k j) := by
  refine congrArg (V m c main_v26) ?_
  blk_ext [at9]

theorem blk10 (t : Fin cfg0.N) (k : Fin 2816) (j : Fin 1024) : iblk m c 10 t (ix2 k j) = V m c main_v28 (ix2 k j) := by
  refine congrArg (V m c main_v28) ?_
  blk_ext [at10]

theorem blk11 (t : Fin cfg0.N) (k : Fin 1) (j : Fin 1024) : iblk m c 11 t (ix2 k j) = V m c main_v32 (ix2 k j) := by
  refine congrArg (V m c main_v32) ?_
  blk_ext [at11]

/-! ## The rows a point computes from -/

/-- The result array, whole. -/
abbrev whole : S4x4096x1024.Idx → EReal := fun i => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (i 0) (i 1) (i 2)

theorem tokenRow_eq (t : Fin cfg0.N) (q : Fin 512) :
    MixBlock.tokenRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) q
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (bt t) (tok t q) := by
  have h0 : MixBlock.xRow (iblk m c 0 t) q = fun k => (m ((c : Thread nD τ).loc main_arg0)) (ix3 (bt t) (tok t q) k) :=
    funext fun k => (blk0 m c t q k).trans (congrFun (V_main_arg0 m c) _)
  have h1 : MixBlock.hRow (iblk m c 1 t) q = fun k => (m ((c : Thread nD τ).loc main_arg1)) (ix3 (up (bt t)) (tok t q) k) :=
    funext fun k => ((blk1 m c t _ q _).trans (yh_eq m c _ _ _ _)).trans
      (congrArg (fun k' => (m ((c : Thread nD τ).loc main_arg1)) (ix3 (up (bt t)) (tok t q) k')) (Fin.ext (Nat.div_add_mod k.val 128)))
  have h2 : MixBlock.aRow (iblk m c 2 t) q = fun k => (m ((c : Thread nD τ).loc main_arg2)) (ix3 (up (bt t)) (tok t q) k) :=
    funext fun k => (blk2 m c t q k).trans (ya_eq m c _ _ _)
  have h3 : MixBlock.gRow (iblk m c 3 t) 0 q = fun k => Ideal.logistic ((m ((c : Thread nD τ).loc main_arg3)) (ix3 (up (bt t)) (tok t q) k)) :=
    funext fun k => (blk3 m c t q _).trans (gh_eq m c _ _ k)
  have h3' : MixBlock.gRow (iblk m c 3 t) 1 q = fun k => Ideal.logistic ((m ((c : Thread nD τ).loc main_arg4)) (ix3 (up (bt t)) (tok t q) k)) :=
    funext fun k => (blk3 m c t q _).trans (ga_eq m c _ _ k)
  have h4 : MixBlock.mat (iblk m c 4 t) = fun k j => (m ((c : Thread nD τ).loc main_arg5)) (ix3 0 k j) :=
    funext fun k => funext fun j => (blk4 m c t k j).trans (wh_eq m c k j)
  have h5 : MixBlock.mat (iblk m c 5 t) = fun k j => (m ((c : Thread nD τ).loc main_arg6)) (ix3 0 k j) :=
    funext fun k => funext fun j => (blk5 m c t k j).trans (wa_eq m c k j)
  have h6 : MixBlock.mat (iblk m c 6 t) = fun k j => (m ((c : Thread nD τ).loc main_arg7)) (ix3 0 k j) :=
    funext fun k => funext fun j => (blk6 m c t k j).trans (wo_eq m c k j)
  have h8 : MixBlock.mat (iblk m c 8 t) = fun k j => (m ((c : Thread nD τ).loc main_arg9)) (ix3 0 k j) :=
    funext fun k => funext fun j => (blk8 m c t k j).trans (wg_eq m c k j)
  have h9 : MixBlock.mat (iblk m c 9 t) = fun k j => (m ((c : Thread nD τ).loc main_arg10)) (ix3 0 k j) :=
    funext fun k => funext fun j => (blk9 m c t k j).trans (wu_eq m c k j)
  have h10 : MixBlock.mat (iblk m c 10 t) = fun k j => (m ((c : Thread nD τ).loc main_arg11)) (ix3 0 k j) :=
    funext fun k => funext fun j => (blk10 m c t k j).trans (wd_eq m c k j)
  have h7 : MixBlock.rowOf (iblk m c 7 t) 0 = fun k => (m ((c : Thread nD τ).loc main_arg8)) (ix2 0 k) :=
    funext fun k => (blk7 m c t 0 k).trans (g2_eq m c k)
  have h11 : MixBlock.rowOf (iblk m c 11 t) 0 = fun k => (m ((c : Thread nD τ).loc main_arg12)) (ix1 k) :=
    funext fun k => (blk11 m c t 0 k).trans (gf_eq m c k)
  unfold MixBlock.tokenRow out
  rw [h0, h1, h2, h3, h3', h4, h5, h6, h7, h8, h9, h10, h11]

/-- The result array after the run. -/
theorem final : (dats m 0 c).arrAt 12 cfg0.N = whole m c := by
  refine (dats m 0 c).arrAt_eq_of_covers 12 _ (by decide +kernel) fun t hf y => ?_
  blk_simp
  rw [after0_12]
  have hy : ∀ y : S1x512x1024.Idx, y = ix3 0 (y 1) (y 2) := fun y => (ValueIdx.eq_ix3 y).trans (by
    have h0 : (y 0 : Fin 1) = (0 : Fin 1) := Fin.ext (by have h : (y 0).val < 1 := (y 0).isLt; show (y 0).val = 0; omega)
    exact congrArg (fun u => (ix3 u (y 1) (y 2) : S1x512x1024.Idx)) h0)
  have e : (win0_12.blk t).view.emb y = (ix3 (bt t) (tok t (y 1)) (y 2) : S4x4096x1024.Idx) := by
    blk_ext [at12]
  rw [e]
  refine (congrArg (out0_12 (F := Ideal) _ _ _ _ _ _ _ _ _ _ _ _) (hy y)).trans ((MixBlock.block _ _ _ _ _ _ _ _ _ _ _ _ (y 1) (y 2)).trans ?_)
  exact congrFun (tokenRow_eq m c t (y 1)) (y 2)

end Cert.SampleArray

end
-- ==== Proof.Sample.Ref.lean ====
/- The reference's result, read row by row: at every batch row and token it is the token's row of the arguments. -/
module

public import proofs.«01_k».proof.Proof.Sample.Array
public import proofs.«01_k».proof.Proof.Gen.SampleRefIdeal.Read
public import Idealize.ShloMosaic.Lib.IdealHost

@[expose] public section

noncomputable section

namespace Cert.SampleRefRow

open Cert.SampleRefIdeal Cert.SampleRefIdeal.Read Cert.MixRow Idealize.ShloMosaic.ValueIdx
open Cert.SampleArray (up out)
open Idealize.ShloMosaic hiding ix1 ix2 ix3 ix4

variable (x0 : (⟨S4x4096x1024, .f32⟩ : BufTy).Contents (Elt Ideal)) (x1 : (⟨S12x4096x512, .f32⟩ : BufTy).Contents (Elt Ideal)) (x2 : (⟨S12x4096x512, .f32⟩ : BufTy).Contents (Elt Ideal)) (x3 : (⟨S12x4096x1024, .f32⟩ : BufTy).Contents (Elt Ideal)) (x4 : (⟨S12x4096x1024, .f32⟩ : BufTy).Contents (Elt Ideal)) (x5 : (⟨S1x512x1024, .f32⟩ : BufTy).Contents (Elt Ideal)) (x6 : (⟨S1x512x1024, .f32⟩ : BufTy).Contents (Elt Ideal)) (x7 : (⟨S1x1024x1024, .f32⟩ : BufTy).Contents (Elt Ideal)) (x8 : (⟨S1x1024, .f32⟩ : BufTy).Contents (Elt Ideal)) (x9 : (⟨S1x1024x2816, .f32⟩ : BufTy).Contents (Elt Ideal)) (x10 : (⟨S1x1024x2816, .f32⟩ : BufTy).Contents (Elt Ideal)) (x11 : (⟨S1x2816x1024, .f32⟩ : BufTy).Contents (Elt Ideal)) (x12 : (⟨S1024, .f32⟩ : BufTy).Contents (Elt Ideal))
variable (b : Fin 4) (q : Fin 4096)

theorem w10 (k : Fin 512) (j : Fin 1024) : val_main_v10 (F := Ideal) x5 (ix2 k j) = x5 (ix3 0 k j) :=
  (val_main_v10_apply x5 _).trans (congrArg x5 (funext fun a => Fin.ext (by
    match a with
    | ⟨0, _⟩ => rfl
    | ⟨1, _⟩ =>
      show (k.val * 1024 + j.val) / 1024 % 512 = k.val
      omega
    | ⟨2, _⟩ =>
      show (k.val * 1024 + j.val) % 1024 = j.val
      omega)))

theorem w19 (k : Fin 512) (j : Fin 1024) : val_main_v19 (F := Ideal) x6 (ix2 k j) = x6 (ix3 0 k j) :=
  (val_main_v19_apply x6 _).trans (congrArg x6 (funext fun a => Fin.ext (by
    match a with
    | ⟨0, _⟩ => rfl
    | ⟨1, _⟩ =>
      show (k.val * 1024 + j.val) / 1024 % 512 = k.val
      omega
    | ⟨2, _⟩ =>
      show (k.val * 1024 + j.val) % 1024 = j.val
      omega)))

theorem w23 (k : Fin 1024) (j : Fin 1024) : val_main_v23 (F := Ideal) x7 (ix2 k j) = x7 (ix3 0 k j) :=
  (val_main_v23_apply x7 _).trans (congrArg x7 (funext fun a => Fin.ext (by
    match a with
    | ⟨0, _⟩ => rfl
    | ⟨1, _⟩ =>
      show (k.val * 1024 + j.val) / 1024 % 1024 = k.val
      omega
    | ⟨2, _⟩ =>
      show (k.val * 1024 + j.val) % 1024 = j.val
      omega)))

theorem w40 (k : Fin 1024) (j : Fin 2816) : val_main_v40 (F := Ideal) x9 (ix2 k j) = x9 (ix3 0 k j) :=
  (val_main_v40_apply x9 _).trans (congrArg x9 (funext fun a => Fin.ext (by
    match a with
    | ⟨0, _⟩ => rfl
    | ⟨1, _⟩ =>
      show (k.val * 2816 + j.val) / 2816 % 1024 = k.val
      omega
    | ⟨2, _⟩ =>
      show (k.val * 2816 + j.val) % 2816 = j.val
      omega)))

theorem w43 (k : Fin 1024) (j : Fin 2816) : val_main_v43 (F := Ideal) x10 (ix2 k j) = x10 (ix3 0 k j) :=
  (val_main_v43_apply x10 _).trans (congrArg x10 (funext fun a => Fin.ext (by
    match a with
    | ⟨0, _⟩ => rfl
    | ⟨1, _⟩ =>
      show (k.val * 2816 + j.val) / 2816 % 1024 = k.val
      omega
    | ⟨2, _⟩ =>
      show (k.val * 2816 + j.val) % 2816 = j.val
      omega)))

theorem w46 (k : Fin 2816) (j : Fin 1024) : val_main_v46 (F := Ideal) x11 (ix2 k j) = x11 (ix3 0 k j) :=
  (val_main_v46_apply x11 _).trans (congrArg x11 (funext fun a => Fin.ext (by
    match a with
    | ⟨0, _⟩ => rfl
    | ⟨1, _⟩ =>
      show (k.val * 1024 + j.val) / 1024 % 2816 = k.val
      omega
    | ⟨2, _⟩ =>
      show (k.val * 1024 + j.val) % 1024 = j.val
      omega)))

theorem s0 (k : Fin 512) : val_main_v0 (F := Ideal) x1 (ix3 b q k) = x1 (ix3 (up b) q k) :=
  (val_main_v0_apply x1 _).trans (congrArg x1 (funext fun a => by
    match a with
    | ⟨0, _⟩ => rfl
    | ⟨1, _⟩ => rfl
    | ⟨2, _⟩ => rfl))

theorem s1 (k : Fin 512) : val_main_v1 (F := Ideal) x2 (ix3 b q k) = x2 (ix3 (up b) q k) :=
  (val_main_v1_apply x2 _).trans (congrArg x2 (funext fun a => by
    match a with
    | ⟨0, _⟩ => rfl
    | ⟨1, _⟩ => rfl
    | ⟨2, _⟩ => rfl))

theorem s2 (k : Fin 1024) : val_main_v2 (F := Ideal) x3 (ix3 b q k) = x3 (ix3 (up b) q k) :=
  (val_main_v2_apply x3 _).trans (congrArg x3 (funext fun a => by
    match a with
    | ⟨0, _⟩ => rfl
    | ⟨1, _⟩ => rfl
    | ⟨2, _⟩ => rfl))

theorem s3 (k : Fin 1024) : val_main_v3 (F := Ideal) x4 (ix3 b q k) = x4 (ix3 (up b) q k) :=
  (val_main_v3_apply x4 _).trans (congrArg x4 (funext fun a => by
    match a with
    | ⟨0, _⟩ => rfl
    | ⟨1, _⟩ => rfl
    | ⟨2, _⟩ => rfl))

theorem gate9 (k : Fin 1024) : val_main_v9 (F := Ideal) x3 (ix3 b q k) = Ideal.logistic (x3 (ix3 (up b) q k)) := by
  rw [← s2 x3 b q k]
  show Ideal.div (Ideal.ofBits .f32 0x3F800000#32) (Ideal.ofBits .f32 0x3F800000#32 + Ideal.exp (-(val_main_v2 (F := Ideal) x3 (ix3 b q k)))) = _
  rw [Ideal.ofBits_one_f32]
  rfl

theorem gate18 (k : Fin 1024) : val_main_v18 (F := Ideal) x4 (ix3 b q k) = Ideal.logistic (x4 (ix3 (up b) q k)) := by
  rw [← s3 x4 b q k]
  show Ideal.div (Ideal.ofBits .f32 0x3F800000#32) (Ideal.ofBits .f32 0x3F800000#32 + Ideal.exp (-(val_main_v3 (F := Ideal) x4 (ix3 b q k)))) = _
  rw [Ideal.ofBits_one_f32]
  rfl

theorem up_h (c : Fin 1024) : val_main_v11 (F := Ideal) x1 x5 (ix3 b q c) = ∑ k : Fin 512, val_main_v0 (F := Ideal) x1 (ix3 b q k) * x5 (ix3 0 k c) := by
  rw [val_main_v11_apply]
  refine Finset.sum_congr rfl fun k _ => congrArg₂ (· * ·) (congrArg (val_main_v0 (F := Ideal) x1) (funext fun a => by
    match a with
    | ⟨0, _⟩ => rfl
    | ⟨1, _⟩ => rfl
    | ⟨2, _⟩ => rfl))
    ((congrArg (val_main_v10 (F := Ideal) x5) (funext fun a => by
    match a with
    | ⟨0, _⟩ => rfl
    | ⟨1, _⟩ => rfl)).trans (w10 x5 k c))

theorem up_a (c : Fin 1024) : val_main_v20 (F := Ideal) x2 x6 (ix3 b q c) = ∑ k : Fin 512, val_main_v1 (F := Ideal) x2 (ix3 b q k) * x6 (ix3 0 k c) := by
  rw [val_main_v20_apply]
  refine Finset.sum_congr rfl fun k _ => congrArg₂ (· * ·) (congrArg (val_main_v1 (F := Ideal) x2) (funext fun a => by
    match a with
    | ⟨0, _⟩ => rfl
    | ⟨1, _⟩ => rfl
    | ⟨2, _⟩ => rfl))
    ((congrArg (val_main_v19 (F := Ideal) x6) (funext fun a => by
    match a with
    | ⟨0, _⟩ => rfl
    | ⟨1, _⟩ => rfl)).trans (w19 x6 k c))

theorem proj (c : Fin 1024) : val_main_v24 (F := Ideal) x1 x2 x3 x4 x5 x6 x7 (ix3 b q c) = ∑ k : Fin 1024, val_main_v22 (F := Ideal) x1 x2 x3 x4 x5 x6 (ix3 b q k) * x7 (ix3 0 k c) := by
  rw [val_main_v24_apply]
  refine Finset.sum_congr rfl fun k _ => congrArg₂ (· * ·) (congrArg (val_main_v22 (F := Ideal) x1 x2 x3 x4 x5 x6) (funext fun a => by
    match a with
    | ⟨0, _⟩ => rfl
    | ⟨1, _⟩ => rfl
    | ⟨2, _⟩ => rfl))
    ((congrArg (val_main_v23 (F := Ideal) x7) (funext fun a => by
    match a with
    | ⟨0, _⟩ => rfl
    | ⟨1, _⟩ => rfl)).trans (w23 x7 k c))

theorem gate_up (c : Fin 2816) : val_main_v41 (F := Ideal) x0 x1 x2 x3 x4 x5 x6 x7 x8 x9 (ix3 b q c) = ∑ k : Fin 1024, val_main_v39 (F := Ideal) x0 x1 x2 x3 x4 x5 x6 x7 x8 (ix3 b q k) * x9 (ix3 0 k c) := by
  rw [val_main_v41_apply]
  refine Finset.sum_congr rfl fun k _ => congrArg₂ (· * ·) (congrArg (val_main_v39 (F := Ideal) x0 x1 x2 x3 x4 x5 x6 x7 x8) (funext fun a => by
    match a with
    | ⟨0, _⟩ => rfl
    | ⟨1, _⟩ => rfl
    | ⟨2, _⟩ => rfl))
    ((congrArg (val_main_v40 (F := Ideal) x9) (funext fun a => by
    match a with
    | ⟨0, _⟩ => rfl
    | ⟨1, _⟩ => rfl)).trans (w40 x9 k c))

theorem lin_up (c : Fin 2816) : val_main_v44 (F := Ideal) x0 x1 x2 x3 x4 x5 x6 x7 x8 x10 (ix3 b q c) = ∑ k : Fin 1024, val_main_v39 (F := Ideal) x0 x1 x2 x3 x4 x5 x6 x7 x8 (ix3 b q k) * x10 (ix3 0 k c) := by
  rw [val_main_v44_apply]
  refine Finset.sum_congr rfl fun k _ => congrArg₂ (· * ·) (congrArg (val_main_v39 (F := Ideal) x0 x1 x2 x3 x4 x5 x6 x7 x8) (funext fun a => by
    match a with
    | ⟨0, _⟩ => rfl
    | ⟨1, _⟩ => rfl
    | ⟨2, _⟩ => rfl))
    ((congrArg (val_main_v43 (F := Ideal) x10) (funext fun a => by
    match a with
    | ⟨0, _⟩ => rfl
    | ⟨1, _⟩ => rfl)).trans (w43 x10 k c))

theorem down (c : Fin 1024) : val_main_v47 (F := Ideal) x0 x1 x2 x3 x4 x5 x6 x7 x8 x9 x10 x11 (ix3 b q c) = ∑ k : Fin 2816, val_main_v45 (F := Ideal) x0 x1 x2 x3 x4 x5 x6 x7 x8 x9 x10 (ix3 b q k) * x11 (ix3 0 k c) := by
  rw [val_main_v47_apply]
  refine Finset.sum_congr rfl fun k _ => congrArg₂ (· * ·) (congrArg (val_main_v45 (F := Ideal) x0 x1 x2 x3 x4 x5 x6 x7 x8 x9 x10) (funext fun a => by
    match a with
    | ⟨0, _⟩ => rfl
    | ⟨1, _⟩ => rfl
    | ⟨2, _⟩ => rfl))
    ((congrArg (val_main_v46 (F := Ideal) x11) (funext fun a => by
    match a with
    | ⟨0, _⟩ => rfl
    | ⟨1, _⟩ => rfl)).trans (w46 x11 k c))

/-- A norm, over any rows. -/
theorem norm2 (c : Fin 1024) : val_main_v39 (F := Ideal) x0 x1 x2 x3 x4 x5 x6 x7 x8 (ix3 b q c)
    = norm (fun k => val_main_v25 (F := Ideal) x0 x1 x2 x3 x4 x5 x6 x7 (ix3 b q k)) (fun k => x8 (ix2 0 k)) c := by
  have hs : val_main_v28 (F := Ideal) x0 x1 x2 x3 x4 x5 x6 x7 (ix2 b q) = ∑ k : Fin 1024, val_main_v25 (F := Ideal) x0 x1 x2 x3 x4 x5 x6 x7 (ix3 b q k) * val_main_v25 (F := Ideal) x0 x1 x2 x3 x4 x5 x6 x7 (ix3 b q k) := by
    rw [val_main_v28_apply]
    refine (congrArg (· + _) Ideal.ofBits_zero_f32).trans ((zero_add _).trans (Finset.sum_congr rfl fun k _ => ?_))
    exact congrArg (fun i => val_main_v25 (F := Ideal) x0 x1 x2 x3 x4 x5 x6 x7 i * val_main_v25 (F := Ideal) x0 x1 x2 x3 x4 x5 x6 x7 i) (funext fun a => by
    match a with
    | ⟨0, _⟩ => rfl
    | ⟨1, _⟩ => rfl
    | ⟨2, _⟩ => rfl)
  rw [val_main_v39_apply, val_main_v36_apply, val_main_v35_apply, val_main_v34_apply, val_main_v33_apply, val_main_v31_apply, val_main_v29_apply, val_main_v38_apply, val_main_v37_apply, val_main_v26_apply, val_main_v32_apply, val_main_v30_apply]
  refine congrArg₂ (· * ·) (congrArg₂ (· * ·) rfl (congrArg Ideal.rsqrt (congrArg₂ (· + ·) (congrArg₂ Ideal.div ?_ rfl) rfl))) ?_
  · exact (congrArg (val_main_v28 (F := Ideal) x0 x1 x2 x3 x4 x5 x6 x7) (funext fun a => by
    match a with
    | ⟨0, _⟩ => rfl
    | ⟨1, _⟩ => rfl)).trans hs
  · exact congrArg x8 (funext fun a => Fin.ext (by
      match a with
      | ⟨0, _⟩ => rfl
      | ⟨1, _⟩ =>
        show c.val % 1024 = c.val
        omega))

/-- A norm, over any rows. -/
theorem normf (c : Fin 1024) : val_main_v61 (F := Ideal) x0 x1 x2 x3 x4 x5 x6 x7 x8 x9 x10 x11 x12 (ix3 b q c)
    = norm (fun k => val_main_v48 (F := Ideal) x0 x1 x2 x3 x4 x5 x6 x7 x8 x9 x10 x11 (ix3 b q k)) (fun k => x12 (ix1 k)) c := by
  have hs : val_main_v50 (F := Ideal) x0 x1 x2 x3 x4 x5 x6 x7 x8 x9 x10 x11 (ix2 b q) = ∑ k : Fin 1024, val_main_v48 (F := Ideal) x0 x1 x2 x3 x4 x5 x6 x7 x8 x9 x10 x11 (ix3 b q k) * val_main_v48 (F := Ideal) x0 x1 x2 x3 x4 x5 x6 x7 x8 x9 x10 x11 (ix3 b q k) := by
    rw [val_main_v50_apply]
    refine (congrArg (· + _) Ideal.ofBits_zero_f32).trans ((zero_add _).trans (Finset.sum_congr rfl fun k _ => ?_))
    exact congrArg (fun i => val_main_v48 (F := Ideal) x0 x1 x2 x3 x4 x5 x6 x7 x8 x9 x10 x11 i * val_main_v48 (F := Ideal) x0 x1 x2 x3 x4 x5 x6 x7 x8 x9 x10 x11 i) (funext fun a => by
    match a with
    | ⟨0, _⟩ => rfl
    | ⟨1, _⟩ => rfl
    | ⟨2, _⟩ => rfl)
  rw [val_main_v61_apply, val_main_v58_apply, val_main_v57_apply, val_main_v56_apply, val_main_v55_apply, val_main_v53_apply, val_main_v51_apply, val_main_v60_apply, val_main_v59_apply, val_main_v54_apply, val_main_v52_apply]
  refine congrArg₂ (· * ·) (congrArg₂ (· * ·) rfl (congrArg Ideal.rsqrt (congrArg₂ (· + ·) (congrArg₂ Ideal.div ?_ rfl) rfl))) ?_
  · exact (congrArg (val_main_v50 (F := Ideal) x0 x1 x2 x3 x4 x5 x6 x7 x8 x9 x10 x11) (funext fun a => by
    match a with
    | ⟨0, _⟩ => rfl
    | ⟨1, _⟩ => rfl)).trans hs
  · exact congrArg x12 (funext fun a => by
      match a with
      | ⟨0, _⟩ => rfl)

/-- The stages, chained. -/
theorem merged_row : (fun c => val_main_v22 (F := Ideal) x1 x2 x3 x4 x5 x6 (ix3 b q c))
    = merged (fun k => x1 (ix3 (up b) q k)) (fun k => x2 (ix3 (up b) q k)) (fun k => Ideal.logistic (x3 (ix3 (up b) q k))) (fun k => Ideal.logistic (x4 (ix3 (up b) q k))) (fun k j => x5 (ix3 0 k j)) (fun k j => x6 (ix3 0 k j)) := by
  funext c
  rw [val_main_v22_apply, val_main_v12_apply, val_main_v21_apply]
  refine congrArg₂ (· + ·) (congrArg₂ (· * ·) (gate9 x3 b q c) ((up_h x1 x5 b q c).trans ?_)) (congrArg₂ (· * ·) (gate18 x4 b q c) ((up_a x2 x6 b q c).trans ?_))
  · exact Finset.sum_congr rfl fun k _ => congrArg (· * _) (s0 x1 b q k)
  · exact Finset.sum_congr rfl fun k _ => congrArg (· * _) (s1 x2 b q k)

theorem resid_row : (fun c => val_main_v25 (F := Ideal) x0 x1 x2 x3 x4 x5 x6 x7 (ix3 b q c)) = resid (fun k => x0 (ix3 b q k)) (merged (fun k => x1 (ix3 (up b) q k)) (fun k => x2 (ix3 (up b) q k)) (fun k => Ideal.logistic (x3 (ix3 (up b) q k))) (fun k => Ideal.logistic (x4 (ix3 (up b) q k))) (fun k j => x5 (ix3 0 k j)) (fun k j => x6 (ix3 0 k j))) (fun k j => x7 (ix3 0 k j)) := by
  funext c
  rw [val_main_v25_apply, ← merged_row x1 x2 x3 x4 x5 x6 b q]
  exact congrArg (x0 (ix3 b q c) + ·) (proj x1 x2 x3 x4 x5 x6 x7 b q c)

theorem act_row (j : Fin 2816) : val_main_v45 (F := Ideal) x0 x1 x2 x3 x4 x5 x6 x7 x8 x9 x10 (ix3 b q j)
    = act (fun k => val_main_v39 (F := Ideal) x0 x1 x2 x3 x4 x5 x6 x7 x8 (ix3 b q k)) (fun k j => x9 (ix3 0 k j)) (fun k j => x10 (ix3 0 k j)) j := by
  rw [val_main_v45_apply, val_main_v42_apply]
  refine congrArg₂ (· * ·) (congrArg₂ (· * ·) (gate_up x0 x1 x2 x3 x4 x5 x6 x7 x8 x9 b q j) ?_) (lin_up x0 x1 x2 x3 x4 x5 x6 x7 x8 x10 b q j)
  rw [← gate_up x0 x1 x2 x3 x4 x5 x6 x7 x8 x9 b q j]
  show Ideal.div (Ideal.ofBits .f32 0x3F800000#32) (Ideal.ofBits .f32 0x3F800000#32 + Ideal.exp (-(val_main_v41 (F := Ideal) x0 x1 x2 x3 x4 x5 x6 x7 x8 x9 (ix3 b q j)))) = _
  rw [Ideal.ofBits_one_f32]
  rfl

theorem ffn_row : (fun c => val_main_v48 (F := Ideal) x0 x1 x2 x3 x4 x5 x6 x7 x8 x9 x10 x11 (ix3 b q c))
    = ffn (fun c => val_main_v25 (F := Ideal) x0 x1 x2 x3 x4 x5 x6 x7 (ix3 b q c)) (fun k => val_main_v39 (F := Ideal) x0 x1 x2 x3 x4 x5 x6 x7 x8 (ix3 b q k)) (fun k j => x9 (ix3 0 k j)) (fun k j => x10 (ix3 0 k j)) (fun k j => x11 (ix3 0 k j)) := by
  funext c
  rw [val_main_v48_apply]
  exact congrArg (_ + ·) ((down x0 x1 x2 x3 x4 x5 x6 x7 x8 x9 x10 x11 b q c).trans (Finset.sum_congr rfl fun j _ => congrArg (· * _) (act_row x0 x1 x2 x3 x4 x5 x6 x7 x8 x9 x10 b q j)))

/-- The reference's result. -/
theorem result (c : Fin 1024) : val_main_v61 (F := Ideal) x0 x1 x2 x3 x4 x5 x6 x7 x8 x9 x10 x11 x12 (ix3 b q c) = out x0 x1 x2 x3 x4 x5 x6 x7 x8 x9 x10 x11 x12 b q c := by
  have hn : (fun k => val_main_v39 (F := Ideal) x0 x1 x2 x3 x4 x5 x6 x7 x8 (ix3 b q k)) = norm (resid (fun k => x0 (ix3 b q k)) (merged (fun k => x1 (ix3 (up b) q k)) (fun k => x2 (ix3 (up b) q k)) (fun k => Ideal.logistic (x3 (ix3 (up b) q k))) (fun k => Ideal.logistic (x4 (ix3 (up b) q k))) (fun k j => x5 (ix3 0 k j)) (fun k j => x6 (ix3 0 k j))) (fun k j => x7 (ix3 0 k j))) (fun k => x8 (ix2 0 k)) := by
    funext k
    rw [norm2 x0 x1 x2 x3 x4 x5 x6 x7 x8 b q k, resid_row x0 x1 x2 x3 x4 x5 x6 x7 b q]
  rw [normf x0 x1 x2 x3 x4 x5 x6 x7 x8 x9 x10 x11 x12 b q c, ffn_row x0 x1 x2 x3 x4 x5 x6 x7 x8 x9 x10 x11 b q, hn, resid_row x0 x1 x2 x3 x4 x5 x6 x7 b q]
  rfl

end Cert.SampleRefRow

end
-- ==== Proof.Sample.Claims.lean ====
/- The mixing kernel's claims on the sample batch: its frames, and that over the reals its result array is the layer's own. -/
module

public import proofs.«01_k».proof.Defs
public import proofs.«01_k».proof.Proof.Sample.Ref
public import proofs.«01_k».proof.Proof.Gen.Sample.Frame

@[expose] public section

noncomputable section

namespace Cert.SampleClaims

open Idealize.ShloMosaic Idealize.ShloMosaic.ValueIdx

theorem frame : Cert.quiescent_Sample := fun m ρ _ => Cert.Sample.Gen.frame m ρ
theorem frame_ideal : Cert.quiescent_SampleIdeal := fun m ρ _ => Cert.SampleIdeal.Gen.frame m ρ
theorem frame_ref : Cert.quiescent_SampleRefIdeal := fun m ρ _ =>
  (θ_run Cert.SampleRefIdeal.defs _ _).mono (fun r h => ⟨fun c => (h c).2, sem_eq_zero_of_no_sems (by decide) r.2⟩)
    (Cert.SampleRefIdeal.Value.run (F := Ideal) m ρ)

/-- The kernel's array is `MixArray.whole` of the arguments, and so is the reference's of arguments that agree. -/
theorem algebraic : Cert.algebraic_SampleIdeal_SampleRefIdeal := by
  intro m ρ m' ρ' _ hagree
  refine ⟨fun c => Cert.SampleArray.whole m c, ?_, ?_⟩
  · exact (θ_run Cert.SampleIdeal.defs _ _).mono (fun _ h c => ⟨(h c).1.trans (Cert.SampleArray.final m c), (h c).2⟩)
      (Cert.SampleIdeal.Value.run_blocks (F := Ideal) m ρ)
  refine (θ_run Cert.SampleRefIdeal.defs _ _).mono (fun _ h c => ⟨(h c).1.trans ?_, (h c).2⟩)
    (Cert.SampleRefIdeal.Value.run (F := Ideal) m' ρ')
  obtain ⟨h0, h1, h2, h3, h4, h5, h6, h7, h8, h9, h10, h11, h12⟩ := hagree c
  rw [Cert.SampleRefIdeal.Read.val_main_v61_eq, h0, h1, h2, h3, h4, h5, h6, h7, h8, h9, h10, h11, h12]
  funext i
  refine (congrArg _ (ValueIdx.eq_ix3 i)).trans (Cert.SampleRefRow.result _ _ _ _ _ _ _ _ _ _ _ _ _ _ _ _)

end Cert.SampleClaims

end
-- ==== Proof.Proj.Layout.lean ====
/- Reading the projection kernel's own layout operations at an index: strips and row runs of a matrix, rotations of its
   rows and of its lanes, and rows stacked in three runs. -/
module

public import proofs.«01_k».proof.Proof.Layout
public import Idealize.ShloMosaic.Lib.KernelVsHost

@[expose] public section

noncomputable section

namespace Cert.ProjLayout

open Cert.Layout Idealize.ShloMosaic Idealize.ShloMosaic.ValueIdx

variable {α : Type}

theorem cast_add2 {n m : Nat} (x : (⟨2, ![n, m]⟩ : Shape).Idx → α) (h : (⟨2, ![n, m]⟩ : Shape).ShapeCasts ⟨4, ![1, 1, n, m]⟩)
    (u v : Fin 1) (r : Fin n) (c : Fin m) : shapeCast ⟨4, ![1, 1, n, m]⟩ x h (ix4 u v r c) = x (ix2 r c) :=
  shapeCast_apply x h _ _ (by
    rw [Shape.rowMajor_val_four, Shape.rowMajor_val_two]
    show r.val * m + c.val = ((u.val * 1 + v.val) * n + r.val) * m + c.val
    have hu : u.val = 0 := by omega
    have hv : v.val = 0 := by omega
    rw [hu, hv]
    simp)

/-- A block of a matrix, read at an index. -/
theorem slice2 {n m n' m' : Nat} (o p : Nat) (x : (⟨2, ![n, m]⟩ : Shape).Idx → α)
    (h : (⟨2, ![n, m]⟩ : Shape).Slices ![o, p] ⟨2, ![n', m']⟩) (r : Fin n') (c : Fin m') (r' : Fin n) (c' : Fin m)
    (hr : r'.val = o + r.val) (hc : c'.val = p + c.val) :
    extractStridedSlice ⟨2, ![n', m']⟩ ![o, p] x h (ix2 r c) = x (ix2 r' c') :=
  extractStridedSlice_apply _ x h _ _ fun a => by
    match a with
    | ⟨0, _⟩ => exact hr
    | ⟨1, _⟩ => exact hc

/-- The rows of a matrix turned around by an amount. -/
theorem turnRows {n m : Nat} (s : BitVec 32) (x : (⟨2, ![n, m]⟩ : Shape).Idx → α)
    (h : (⟨2, ![n, m]⟩ : Shape).Rotates 0 none) (r r' : Fin n) (c : Fin m) (hr : r'.val = (r.val + n - s.toNat % n) % n) :
    dynamicRotate 0 s none x h (ix2 r c) = x (ix2 r' c) :=
  dynamicRotate_apply (s := ⟨2, ![n, m]⟩) 0 s x h _ _ fun b => by
    match b with
    | ⟨0, _⟩ => exact hr
    | ⟨1, _⟩ => rfl

/-- The lanes of a matrix turned around by an amount. -/
theorem turnLanes {n m : Nat} (s : BitVec 32) (x : (⟨2, ![n, m]⟩ : Shape).Idx → α)
    (h : (⟨2, ![n, m]⟩ : Shape).Rotates 1 none) (r : Fin n) (c c' : Fin m) (hc : c'.val = (c.val + m - s.toNat % m) % m) :
    dynamicRotate 1 s none x h (ix2 r c) = x (ix2 r c') :=
  dynamicRotate_apply (s := ⟨2, ![n, m]⟩) 1 s x h _ _ fun b => by
    match b with
    | ⟨0, _⟩ => rfl
    | ⟨1, _⟩ => exact hc

/-- Three runs of rows stacked, read in each. -/
theorem stack_first {a b d n m : Nat} (x : (⟨2, ![a, m]⟩ : Shape).Idx → α) (y : (⟨2, ![b, m]⟩ : Shape).Idx → α)
    (z : (⟨2, ![d, m]⟩ : Shape).Idx → α) (h : Shape.Concatenates [⟨2, ![a, m]⟩, ⟨2, ![b, m]⟩, ⟨2, ![d, m]⟩] ⟨2, ![n, m]⟩ 0)
    (r : Fin n) (k : Fin m) (i : Fin a) (hi : i.val = r.val) :
    concatenate ⟨2, ![n, m]⟩ 0 [⟨⟨2, ![a, m]⟩, x⟩, ⟨⟨2, ![b, m]⟩, y⟩, ⟨⟨2, ![d, m]⟩, z⟩] h (ix2 r k) = x (ix2 i k) :=
  concatenate_apply_piece (t := ⟨2, ![n, m]⟩) 0 [⟨⟨2, ![a, m]⟩, x⟩, ⟨⟨2, ![b, m]⟩, y⟩, ⟨⟨2, ![d, m]⟩, z⟩] h (ix2 r k) 0 (by simp)
    ⟨2, ![a, m]⟩ x rfl rfl 0 rfl (ix2 i k) (fun b hb => by
      match b with
      | ⟨0, _⟩ => exact absurd rfl hb
      | ⟨1, _⟩ => rfl) (by show 0 + i.val = r.val; omega)

theorem stack_second {a b d n m : Nat} (x : (⟨2, ![a, m]⟩ : Shape).Idx → α) (y : (⟨2, ![b, m]⟩ : Shape).Idx → α)
    (z : (⟨2, ![d, m]⟩ : Shape).Idx → α) (h : Shape.Concatenates [⟨2, ![a, m]⟩, ⟨2, ![b, m]⟩, ⟨2, ![d, m]⟩] ⟨2, ![n, m]⟩ 0)
    (r : Fin n) (k : Fin m) (i : Fin b) (hi : a + i.val = r.val) :
    concatenate ⟨2, ![n, m]⟩ 0 [⟨⟨2, ![a, m]⟩, x⟩, ⟨⟨2, ![b, m]⟩, y⟩, ⟨⟨2, ![d, m]⟩, z⟩] h (ix2 r k) = y (ix2 i k) :=
  concatenate_apply_piece (t := ⟨2, ![n, m]⟩) 0 [⟨⟨2, ![a, m]⟩, x⟩, ⟨⟨2, ![b, m]⟩, y⟩, ⟨⟨2, ![d, m]⟩, z⟩] h (ix2 r k) 1 (by simp)
    ⟨2, ![b, m]⟩ y rfl rfl a rfl (ix2 i k) (fun b hb => by
      match b with
      | ⟨0, _⟩ => exact absurd rfl hb
      | ⟨1, _⟩ => rfl) hi

theorem stack_third {a b d n m : Nat} (x : (⟨2, ![a, m]⟩ : Shape).Idx → α) (y : (⟨2, ![b, m]⟩ : Shape).Idx → α)
    (z : (⟨2, ![d, m]⟩ : Shape).Idx → α) (h : Shape.Concatenates [⟨2, ![a, m]⟩, ⟨2, ![b, m]⟩, ⟨2, ![d, m]⟩] ⟨2, ![n, m]⟩ 0)
    (r : Fin n) (k : Fin m) (i : Fin d) (hi : a + b + i.val = r.val) :
    concatenate ⟨2, ![n, m]⟩ 0 [⟨⟨2, ![a, m]⟩, x⟩, ⟨⟨2, ![b, m]⟩, y⟩, ⟨⟨2, ![d, m]⟩, z⟩] h (ix2 r k) = z (ix2 i k) :=
  concatenate_apply_piece (t := ⟨2, ![n, m]⟩) 0 [⟨⟨2, ![a, m]⟩, x⟩, ⟨⟨2, ![b, m]⟩, y⟩, ⟨⟨2, ![d, m]⟩, z⟩] h (ix2 r k) 2 (by simp)
    ⟨2, ![d, m]⟩ z rfl rfl (a + b) rfl (ix2 i k) (fun b hb => by
      match b with
      | ⟨0, _⟩ => exact absurd rfl hb
      | ⟨1, _⟩ => rfl) hi

/-- Three strips of columns side by side, read in each. -/
theorem beside_first {a b d n m : Nat} (x : (⟨2, ![n, a]⟩ : Shape).Idx → α) (y : (⟨2, ![n, b]⟩ : Shape).Idx → α)
    (z : (⟨2, ![n, d]⟩ : Shape).Idx → α) (h : Shape.Concatenates [⟨2, ![n, a]⟩, ⟨2, ![n, b]⟩, ⟨2, ![n, d]⟩] ⟨2, ![n, m]⟩ 1)
    (k : Fin n) (r : Fin m) (i : Fin a) (hi : i.val = r.val) :
    concatenate ⟨2, ![n, m]⟩ 1 [⟨⟨2, ![n, a]⟩, x⟩, ⟨⟨2, ![n, b]⟩, y⟩, ⟨⟨2, ![n, d]⟩, z⟩] h (ix2 k r) = x (ix2 k i) :=
  concatenate_apply_piece (t := ⟨2, ![n, m]⟩) 1 [⟨⟨2, ![n, a]⟩, x⟩, ⟨⟨2, ![n, b]⟩, y⟩, ⟨⟨2, ![n, d]⟩, z⟩] h (ix2 k r) 0 (by simp)
    ⟨2, ![n, a]⟩ x rfl rfl 0 rfl (ix2 k i) (fun b hb => by
      match b with
      | ⟨0, _⟩ => rfl
      | ⟨1, _⟩ => exact absurd rfl hb) (by show 0 + i.val = r.val; omega)

theorem beside_second {a b d n m : Nat} (x : (⟨2, ![n, a]⟩ : Shape).Idx → α) (y : (⟨2, ![n, b]⟩ : Shape).Idx → α)
    (z : (⟨2, ![n, d]⟩ : Shape).Idx → α) (h : Shape.Concatenates [⟨2, ![n, a]⟩, ⟨2, ![n, b]⟩, ⟨2, ![n, d]⟩] ⟨2, ![n, m]⟩ 1)
    (k : Fin n) (r : Fin m) (i : Fin b) (hi : a + i.val = r.val) :
    concatenate ⟨2, ![n, m]⟩ 1 [⟨⟨2, ![n, a]⟩, x⟩, ⟨⟨2, ![n, b]⟩, y⟩, ⟨⟨2, ![n, d]⟩, z⟩] h (ix2 k r) = y (ix2 k i) :=
  concatenate_apply_piece (t := ⟨2, ![n, m]⟩) 1 [⟨⟨2, ![n, a]⟩, x⟩, ⟨⟨2, ![n, b]⟩, y⟩, ⟨⟨2, ![n, d]⟩, z⟩] h (ix2 k r) 1 (by simp)
    ⟨2, ![n, b]⟩ y rfl rfl a rfl (ix2 k i) (fun b hb => by
      match b with
      | ⟨0, _⟩ => rfl
      | ⟨1, _⟩ => exact absurd rfl hb) hi

theorem beside_third {a b d n m : Nat} (x : (⟨2, ![n, a]⟩ : Shape).Idx → α) (y : (⟨2, ![n, b]⟩ : Shape).Idx → α)
    (z : (⟨2, ![n, d]⟩ : Shape).Idx → α) (h : Shape.Concatenates [⟨2, ![n, a]⟩, ⟨2, ![n, b]⟩, ⟨2, ![n, d]⟩] ⟨2, ![n, m]⟩ 1)
    (k : Fin n) (r : Fin m) (i : Fin d) (hi : a + b + i.val = r.val) :
    concatenate ⟨2, ![n, m]⟩ 1 [⟨⟨2, ![n, a]⟩, x⟩, ⟨⟨2, ![n, b]⟩, y⟩, ⟨⟨2, ![n, d]⟩, z⟩] h (ix2 k r) = z (ix2 k i) :=
  concatenate_apply_piece (t := ⟨2, ![n, m]⟩) 1 [⟨⟨2, ![n, a]⟩, x⟩, ⟨⟨2, ![n, b]⟩, y⟩, ⟨⟨2, ![n, d]⟩, z⟩] h (ix2 k r) 2 (by simp)
    ⟨2, ![n, d]⟩ z rfl rfl (a + b) rfl (ix2 k i) (fun b hb => by
      match b with
      | ⟨0, _⟩ => rfl
      | ⟨1, _⟩ => exact absurd rfl hb) hi

/-- A block of a matrix loaded, read at an index. -/
theorem ld2 {n m n' m' : Nat} {e : EltTy} (o p : Nat) (x : Vec Ideal ⟨2, ![n, m]⟩ e)
    (inb : ∀ a, (![o, p] : Fin 2 → Nat) a + (⟨2, ![n', m']⟩ : Shape).size a ≤ (⟨2, ![n, m]⟩ : Shape).size a)
    (r : Fin n') (c : Fin m') (r' : Fin n) (c' : Fin m) (hr : r'.val = o + r.val) (hc : c'.val = p + c.val) :
    View.ld x (Rect.unit (s := ⟨2, ![n, m]⟩) ![o, p] (⟨2, ![n', m']⟩ : Shape).size inb) (ix2 r c) = x (ix2 r' c') :=
  congrArg x (funext fun a => Fin.ext (by
    match a with
    | ⟨0, _⟩ => simp [Rect.emb_apply, hr]
    | ⟨1, _⟩ => simp [Rect.emb_apply, hc]))

end Cert.ProjLayout

end
-- ==== Proof.Proj.Row.lean ====
/- The projection of one token, as arithmetic over its row: the normed row's products with the weight's columns, the
   short convolution over the neighbouring tokens, the partial rotary turn of a head, and the gates. -/
module

public import proofs.«01_k».proof.Proof.Mix.Row

@[expose] public section

noncomputable section

namespace Cert.ProjRow

open Cert.MixRow Idealize.ShloMosaic

/-- One column of a row's product. -/
def dot (h w : Fin 1024 → EReal) : EReal := ∑ k, h k * w k

/-- A product of zeros is zero, whatever the weight. -/
theorem dot_masked (h w : Fin 1024 → EReal) : dot (fun k => h k * 0) w = 0 :=
  Finset.sum_eq_zero fun k _ => by show h k * 0 * w k = 0; rw [mul_zero, zero_mul]

/-- The three-tap convolution of a column: the token before, the token, the token after, and the bias. -/
def taps (p c n w0 w1 w2 b : EReal) : EReal := p * w0 + c * w1 + n * w2 + b

/-- A head's 64 lanes turned by the position's angles: the first sixteen in two halves of eight, the rest as they are. -/
def turn (x : Fin 64 → EReal) (co si : Fin 8 → EReal) (l : Fin 64) : EReal :=
  if h : l.val < 8 then x l * co ⟨l.val, h⟩ - x ⟨l.val + 8, by omega⟩ * si ⟨l.val, h⟩
  else if h' : l.val < 16 then x l * co ⟨l.val - 8, by omega⟩ + x ⟨l.val - 8, by omega⟩ * si ⟨l.val - 8, by omega⟩
  else x l

/-- The tables the turn is spelt with: a factor for the lane itself, one for the lane eight above, one for the lane
    eight below. -/
def here (co : Fin 8 → EReal) (l : Fin 64) : EReal :=
  if h : l.val < 8 then co ⟨l.val, h⟩ else if h' : l.val < 16 then co ⟨l.val - 8, by omega⟩ else 1
def above (si : Fin 8 → EReal) (l : Fin 64) : EReal := if h : l.val < 8 then -si ⟨l.val, h⟩ else 0
def below (si : Fin 8 → EReal) (l : Fin 64) : EReal :=
  if h : 8 ≤ l.val ∧ l.val < 16 then si ⟨l.val - 8, by omega⟩ else 0

/-- The turn as three products, the neighbours taken from anything that agrees with the head where the tables are not
    zero. -/
theorem turn_tables (x : Fin 64 → EReal) (co si : Fin 8 → EReal) (l : Fin 64) (u d : EReal)
    (hu : ∀ h : l.val < 8, u = x ⟨l.val + 8, by omega⟩) (hd : ∀ h : 8 ≤ l.val ∧ l.val < 16, d = x ⟨l.val - 8, by omega⟩) :
    x l * here co l + u * above si l + d * below si l = turn x co si l := by
  unfold turn here above below
  by_cases h : l.val < 8
  · have h8 : ¬(8 ≤ l.val ∧ l.val < 16) := by omega
    simp only [dif_pos h, dif_neg h8, hu h, mul_zero, add_zero]
    rw [mul_neg, sub_eq_add_neg]
  · by_cases h' : l.val < 16
    · have h8 : 8 ≤ l.val ∧ l.val < 16 := ⟨by omega, h'⟩
      simp only [dif_neg h, dif_pos h', dif_pos h8, hd h8, mul_zero, add_zero]
    · have h8 : ¬(8 ≤ l.val ∧ l.val < 16) := by omega
      simp only [dif_neg h, dif_neg h', dif_neg h8, mul_zero, add_zero, mul_one]

/-- The half of a 128-lane strip a lane lies in, and its place there. -/
abbrev half (l : Fin 128) : Fin 2 := ⟨l.val / 64, by omega⟩
abbrev place (l : Fin 128) : Fin 64 := ⟨l.val % 64, by omega⟩

/-- Lane `l` of slab `s`: of the four slabs the even ones hold a head in the lower 64 lanes, the odd ones in the upper,
    slabs 0 and 1 the first head, 2 and 3 the second; the other half is zero. -/
def slabLane (x : Fin 2 → Fin 64 → EReal) (s : Fin 4) (l : Fin 128) : EReal :=
  if s.val % 2 = l.val / 64 then x ⟨s.val / 2, by omega⟩ ⟨l.val % 64, by omega⟩ else 0

end Cert.ProjRow

end
-- ==== Proof.Proj.Block.lean ====
/- What the projection kernel computes for one block of 1024 tokens, each value it leaves read at an index from the
   normed rows of the block and of its two neighbours. -/
module

public import proofs.«01_k».proof.Proof.Proj.Layout
public import proofs.«01_k».proof.Proof.Proj.Row
public import proofs.«01_k».proof.Proof.Gen.ProjIdeal.Frame

@[expose] public section

noncomputable section

namespace Cert.ProjBlock

open Cert.ProjIdeal Cert.ProjIdeal.Gen Cert.Layout Cert.ProjLayout Cert.MixRow Cert.ProjRow Idealize.ShloMosaic Idealize.ShloMosaic.ValueIdx

abbrev rowOf {n m : Nat} (a : (⟨2, ![n, m]⟩ : Shape).Idx → EReal) (r : Fin n) : Fin m → EReal := fun c => a (ix2 r c)
abbrev colOf {n m : Nat} (a : (⟨2, ![n, m]⟩ : Shape).Idx → EReal) (c : Fin m) : Fin n → EReal := fun r => a (ix2 r c)

/-! ## The normed rows -/

/-- The root-mean-square norm of a block's rows, at a row. -/
theorem norm_rows {n : Nat} (hn : n ≠ 1) (h : FVec Ideal ⟨2, ![n, 1024]⟩ .f32) (g : FVec Ideal S1x1024 .f32)
    (hr : (⟨2, ![n, 1024]⟩ : Shape).Reduces [1] ⟨1, ![n]⟩) (hφ : FKind.Formats .f32) (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, 1024]⟩)
    (hg : S1x1024.Broadcasts ⟨2, ![n, 1024]⟩) (r : Fin n) (c : Fin 1024) :
    mulf (mulf h (broadcastTo ⟨2, ![n, 1024]⟩ (rsqrt (addf (divf (shapeCast ⟨2, ![n, 1]⟩ (multiReduction .add [1] ⟨1, ![n]⟩ (mulf h h) 0x00000000#32 hr hφ hacc) hc)
        (broadcast ⟨2, ![n, 1]⟩ (Scalar.ofBits (F := Ideal) .f32 0x44800000#32))) (broadcast ⟨2, ![n, 1]⟩ (Scalar.ofBits (F := Ideal) .f32 0x358637BD#32)))) hb))
      (broadcastTo ⟨2, ![n, 1024]⟩ g hg) (ix2 r c) = norm (rowOf h r) (rowOf g 0) c := by
  rw [mulf_apply, mulf_apply, spread_col hn, spread_row (by decide)]
  show h (ix2 r c) * Ideal.rsqrt (Ideal.div (shapeCast ⟨2, ![n, 1]⟩ (multiReduction .add [1] ⟨1, ![n]⟩ (mulf h h) 0x00000000#32 hr hφ hacc) hc (ix2 r 0)) (Ideal.ofBits .f32 0x44800000#32) + Ideal.ofBits .f32 0x358637BD#32) * g (ix2 0 c) = _
  exact congrArg (fun s => h (ix2 r c) * Ideal.rsqrt (Ideal.div s (Ideal.ofBits .f32 0x44800000#32) + Ideal.ofBits .f32 0x358637BD#32) * g (ix2 0 c))
    ((cast_col _ _ r 0).trans (row_sum (mulf h h) _ _ _ r))

theorem ld_r0_0 (x : Vec Ideal S1x1024x1024 .f32) : View.ld x r0_0 = x :=
  View.ld_unit_zero (funext fun a => by fin_cases a <;> rfl) _ x
theorem ld_r0_1 (x : Vec Ideal S1x1024 .f32) : View.ld x r0_1 = x :=
  View.ld_unit_zero (funext fun a => by fin_cases a <;> rfl) _ x
theorem ld_r0_2 (x : Vec Ideal S1x16x1024 .f32) : View.ld x r0_2 = x :=
  View.ld_unit_zero (funext fun a => by fin_cases a <;> rfl) _ x
theorem ld_r0_31 (x : Vec Ideal S1024x128 .f32) : View.ld x r0_31 = x :=
  View.ld_unit_zero (funext fun a => by fin_cases a <;> rfl) _ x

/-- The factor a halo row is masked with. -/
abbrev flag (b : BitVec 1) : EReal := Scalar.sitofp (F := Ideal) .f32 (Scalar.extui b : BitVec 32)

theorem flag_true (b : BitVec 1) (h : b = 1#1) : flag b = 1 := by
  subst h
  show ((((Scalar.extui 1#1 : BitVec 32).toInt : ℝ)) : EReal) = 1
  have : (Scalar.extui 1#1 : BitVec 32).toInt = 1 := by decide
  rw [this]; simp

theorem flag_false (b : BitVec 1) (h : b = 0#1) : flag b = 0 := by
  subst h
  show ((((Scalar.extui 0#1 : BitVec 32).toInt : ℝ)) : EReal) = 0
  have : (Scalar.extui 0#1 : BitVec 32).toInt = 0 := by decide
  rw [this]; simp

abbrev hasPrev (i : grid0.Coords) : BitVec 1 := Scalar.cmpi .sgt (BitVec.ofNat 32 (i 1).val) 0#32
abbrev hasNext (i : grid0.Coords) : BitVec 1 := Scalar.cmpi .slt (BitVec.ofNat 32 (i 1).val) 3#32

theorem pay2_row (x0 : Vec Ideal S1x1024x1024 .f32) (g : Vec Ideal S1x1024 .f32) (r c : Fin 1024) :
    k0_pay2 x0 g (ix2 r c) = norm (fun k => x0 (ix3 0 r k)) (rowOf g 0) c := by
  unfold k0_pay2
  simp only [truncf_apply, shapeCast_self]
  refine (norm_rows (n := 1024) (by decide) _ g _ _ _ _ _ _ r c).trans ?_
  exact congrArg (fun f => norm f (rowOf g 0) c) (funext fun k => cast_drop1 x0 _ r k)

theorem pay3_row (i : grid0.Coords) (x1 : Vec Ideal S1x16x1024 .f32) (g : Vec Ideal S1x1024 .f32) (r : Fin 16) (c : Fin 1024) :
    k0_pay3 i x1 g (ix2 r c) = norm (fun k => x1 (ix3 0 r k)) (rowOf g 0) c * flag (hasPrev i) := by
  unfold k0_pay3
  simp only [truncf_apply, shapeCast_self]
  refine (mulf_apply _ _ _).trans (congrArg₂ (· * ·) ((norm_rows (n := 16) (by decide) _ g _ _ _ _ _ _ r c).trans ?_) rfl)
  exact congrArg (fun f => norm f (rowOf g 0) c) (funext fun k => cast_drop1 x1 _ r k)

section Extended

variable (i : grid0.Coords) (a : FVec Ideal S1024x1024 .bf16) (p : FVec Ideal S16x1024 .bf16) (x2 : Vec Ideal S1x16x1024 .f32) (g : Vec Ideal S1x1024 .f32)

theorem ext_prev (c : Fin 1024) : k0_pay4 (BitVec.ofNat 32 (i 1).val) a p x2 g (ix2 ⟨15, by decide⟩ c) = p (ix2 ⟨15, by decide⟩ c) :=
  stack_first p a _ concatenates_S16x1024_S1024x1024_S16x1024_S1056x1024_d0 _ c ⟨15, by decide⟩ rfl

theorem ext_here (q c : Fin 1024) : k0_pay4 (BitVec.ofNat 32 (i 1).val) a p x2 g (ix2 ⟨16 + q.val, by omega⟩ c) = a (ix2 q c) :=
  stack_second p a _ concatenates_S16x1024_S1024x1024_S16x1024_S1056x1024_d0 _ c q rfl

theorem ext_next (c : Fin 1024) : k0_pay4 (BitVec.ofNat 32 (i 1).val) a p x2 g (ix2 ⟨1040, by decide⟩ c)
    = norm (fun k => x2 (ix3 0 0 k)) (rowOf g 0) c * flag (hasNext i) := by
  refine (stack_third p a _ concatenates_S16x1024_S1024x1024_S16x1024_S1056x1024_d0 _ c 0 rfl).trans ?_
  simp only [truncf_apply, shapeCast_self]
  refine (mulf_apply _ _ _).trans (congrArg₂ (· * ·) ((norm_rows (n := 16) (by decide) _ g _ _ _ _ _ _ 0 c).trans ?_) rfl)
  exact congrArg (fun f => norm f (rowOf g 0) c) (funext fun k => cast_drop1 x2 _ 0 k)

end Extended

/-! ## The convolution -/

theorem mm_ext (E : FVec Ideal S1056x1024 .bf16) (W : FVec Ideal S1024x512 .bf16) (r : Fin 1056) (c : Fin 512) :
    matmul dot_S1056x1024_S1024x512_S1056x512_1_0_0_1_n_n none E W (constant S1056x512 .f32 0x00000000#32) (ix2 r c)
      = dot (rowOf E r) (colOf W c) := matmul_rows _ rfl E W r c

/-- A strip of the convolution. -/
theorem conv_apply (E : FVec Ideal S1056x1024 .bf16) (W : Vec Ideal S1024x512 .bf16) (c0 c1 c2 c3 : Vec Ideal S1x512 .f32)
    (q : Fin 1024) (j : Fin 512) :
    k0_pay23 E W c0 c1 c2 c3 (ix2 q j) = taps (dot (rowOf E ⟨q.val + 15, by omega⟩) (colOf W j)) (dot (rowOf E ⟨16 + q.val, by omega⟩) (colOf W j))
      (dot (rowOf E ⟨q.val + 17, by omega⟩) (colOf W j)) (c0 (ix2 0 j)) (c1 (ix2 0 j)) (c2 (ix2 0 j)) (c3 (ix2 0 j)) := by
  unfold k0_pay23 taps
  simp only [shapeCast_self]
  have hM := fun r => mm_ext E W r j
  generalize matmul dot_S1056x1024_S1024x512_S1056x512_1_0_0_1_n_n none E W (constant S1056x512 .f32 0x00000000#32) = M at hM ⊢
  have hp := (slice2 16 0 (dynamicRotate 0 1#32 none M rotates_S1056x512_d0) slices_S1056x512_o16_0_S1024x512 q j ⟨16 + q.val, by omega⟩ j rfl (Nat.zero_add _).symm).trans
    (turnRows 1#32 M rotates_S1056x512_d0 ⟨16 + q.val, by omega⟩ ⟨q.val + 15, by omega⟩ j (by
      show q.val + 15 = (16 + q.val + 1056 - 1 % 1056) % 1056
      omega))
  have hn := (slice2 16 0 (dynamicRotate 0 1055#32 none M rotates_S1056x512_d0) slices_S1056x512_o16_0_S1024x512 q j ⟨16 + q.val, by omega⟩ j rfl (Nat.zero_add _).symm).trans
    (turnRows 1055#32 M rotates_S1056x512_d0 ⟨16 + q.val, by omega⟩ ⟨q.val + 17, by omega⟩ j (by
      show q.val + 17 = (16 + q.val + 1056 - 1055 % 1056) % 1056
      omega))
  have hc := slice2 16 0 M slices_S1056x512_o16_0_S1024x512 q j ⟨16 + q.val, by omega⟩ j rfl (Nat.zero_add _).symm
  simp only [addf_apply, mulf_apply, spread_row (show (512 : Nat) ≠ 1 by decide)]
  exact congrArg₂ (· + ·) (congrArg₂ (· + ·) (congrArg₂ (· + ·) (congrArg₂ (· * ·) (hp.trans (hM _)) rfl)
    (congrArg₂ (· * ·) (hc.trans (hM _)) rfl)) (congrArg₂ (· * ·) (hn.trans (hM _)) rfl)) rfl

/-- A slab of a strip. -/
theorem slab_apply (x : FVec Ideal S1024x512 .f32) (o : Nat) (h : S1024x512.Slices ![0, o] S1024x128) (hb : FTy.bits .bf16 < FTy.bits .f32)
    (hc : S1024x128.ShapeCasts S1x1x1024x128) (u v : Fin 1) (q : Fin 1024) (l : Fin 128) (j : Fin 512) (hj : j.val = o + l.val) :
    shapeCast S1x1x1024x128 (truncf .bf16 (extractStridedSlice S1024x128 ![0, o] x h) hb : FVec Ideal S1024x128 .bf16) hc (ix4 u v q l) = x (ix2 q j) :=
  (cast_add2 _ _ u v q l).trans (slice2 0 o x h q l q j (Nat.zero_add _).symm hj)

end Cert.ProjBlock

end
-- ==== Proof.Proj.Heads.lean ====
/- The query, key, value and gate strips of the projection kernel, each read at an index: the rotary turn of a head
   spelt with the three tables, the slabs a head is spread into, the gates' sigmoid. -/
module

public import proofs.«01_k».proof.Proof.Proj.Block

@[expose] public section

noncomputable section

namespace Cert.ProjBlock

open Cert.ProjIdeal Cert.ProjIdeal.Gen Cert.Layout Cert.ProjLayout Cert.MixRow Cert.ProjRow Idealize.ShloMosaic Idealize.ShloMosaic.ValueIdx

/-! ## The turn -/

/-- A strip of 128 lanes holds two heads; the neighbours eight lanes off, taken around the strip's end, are the head's
    own wherever their table is not zero. -/
theorem strip_turn (Y : Fin 128 → EReal) (co si : Fin 8 → EReal) (l a b : Fin 128) (c su sd : EReal)
    (hc : c = here co ⟨l.val % 64, by omega⟩) (hu : su = above si ⟨l.val % 64, by omega⟩) (hd : sd = below si ⟨l.val % 64, by omega⟩)
    (ha : a.val = (l.val + 8) % 128) (hb : b.val = (l.val + 120) % 128) :
    Y l * c + Y a * su + Y b * sd = turn (fun e => Y ⟨64 * (l.val / 64) + e.val, by omega⟩) co si ⟨l.val % 64, by omega⟩ := by
  subst hc hu hd
  refine Eq.trans ?_ (turn_tables (fun e => Y ⟨64 * (l.val / 64) + e.val, by omega⟩) co si ⟨l.val % 64, by omega⟩ (Y a) (Y b) ?_ ?_)
  · refine congrArg (fun z => Y z * here co ⟨l.val % 64, by omega⟩ + Y a * above si ⟨l.val % 64, by omega⟩ + Y b * below si ⟨l.val % 64, by omega⟩) (Fin.ext ?_)
    show l.val = 64 * (l.val / 64) + l.val % 64
    omega
  · intro h
    have h : l.val % 64 < 8 := h
    refine congrArg Y (Fin.ext ?_)
    show a.val = 64 * (l.val / 64) + (l.val % 64 + 8)
    omega
  · intro h
    have h : 8 ≤ l.val % 64 ∧ l.val % 64 < 16 := h
    refine congrArg Y (Fin.ext ?_)
    show b.val = 64 * (l.val / 64) + (l.val % 64 - 8)
    omega

/-- The turn of a strip as the body spells it. -/
abbrev turned (x c su sd : FVec Ideal S1024x128 .f32) : FVec Ideal S1024x128 .f32 :=
  addf (addf (mulf x c) (mulf (dynamicRotate 1 120#32 none x rotates_S1024x128_d1) su)) (mulf (dynamicRotate 1 8#32 none x rotates_S1024x128_d1) sd)

theorem turned_apply (x c su sd : FVec Ideal S1024x128 .f32) (Y : Fin 128 → EReal) (co si : Fin 8 → EReal) (q : Fin 1024) (l : Fin 128)
    (hx : ∀ l, x (ix2 q l) = Y l)
    (hc : c (ix2 q l) = here co ⟨l.val % 64, by omega⟩) (hu : su (ix2 q l) = above si ⟨l.val % 64, by omega⟩)
    (hd : sd (ix2 q l) = below si ⟨l.val % 64, by omega⟩) :
    turned x c su sd (ix2 q l) = turn (fun e => Y ⟨64 * (l.val / 64) + e.val, by omega⟩) co si ⟨l.val % 64, by omega⟩ := by
  refine Eq.trans ?_ (strip_turn Y co si l ⟨(l.val + 8) % 128, by omega⟩ ⟨(l.val + 120) % 128, by omega⟩ _ _ _ hc hu hd rfl rfl)
  have h1 := (turnLanes 120#32 x rotates_S1024x128_d1 q l ⟨(l.val + 8) % 128, by omega⟩ (by
    show (l.val + 8) % 128 = (l.val + 128 - 120 % 128) % 128
    omega)).trans (hx _)
  have h2 := (turnLanes 8#32 x rotates_S1024x128_d1 q l ⟨(l.val + 120) % 128, by omega⟩ (by
    show (l.val + 120) % 128 = (l.val + 128 - 8 % 128) % 128
    omega)).trans (hx _)
  exact congrArg₂ (· + ·) (congrArg₂ (· + ·) (congrArg₂ (· * ·) (hx l) rfl) (congrArg₂ (· * ·) h1 rfl)) (congrArg₂ (· * ·) h2 rfl)

/-- A strip of the projection's columns. -/
theorem strip_apply (Y : FVec Ideal S1024x768 .f32) (o : Nat) (h : S1024x768.Slices ![0, o] S1024x128) (ho : o + 128 ≤ 768) (q : Fin 1024) (l : Fin 128) :
    extractStridedSlice S1024x128 ![0, o] Y h (ix2 q l) = Y (ix2 q ⟨o + l.val, by omega⟩) :=
  slice2 0 o Y h q l q _ (Nat.zero_add _).symm rfl

/-! ## The slabs -/

theorem lower_lane : ∀ l : Fin 128, Scalar.cmpi .slt (BitVec.ofNat 32 l.val) 64#32 = if l.val < 64 then 1#1 else 0#1 := by
  decide +kernel

theorem mask_apply (a b : FVec Ideal S1024x128 .f32) (q : Fin 1024) (l : Fin 128) :
    select k0_pay38 a b (ix2 q l) = if l.val < 64 then a (ix2 q l) else b (ix2 q l) := by
  rw [select_apply]
  have e : k0_pay38 (ix2 q l) = if l.val < 64 then 1#1 else 0#1 := by
    show Scalar.cmpi .slt (iota .tc S1024x128 32 [1] iota_S1024x128_d1_w32 (ix2 q l)) 64#32 = _
    rw [iota_single_apply]
    exact lower_lane l
  rw [e]
  by_cases h : l.val < 64
  · rw [if_pos h, if_pos h]; rfl
  · rw [if_neg h, if_neg h]; rfl

theorem zero_bits : Ideal.ofBits .f32 0x00000000#32 = 0 := Ideal.ofBits_zero_f32

abbrev zeros : FVec Ideal S1024x128 .f32 := broadcast S1024x128 (Scalar.ofBits (F := Ideal) .f32 0x00000000#32)
abbrev swapped (R : FVec Ideal S1024x128 .f32) : FVec Ideal S1024x128 .f32 := dynamicRotate 1 64#32 none R rotates_S1024x128_d1

theorem zeros_apply (i : S1024x128.Idx) : zeros i = 0 := zero_bits

section Slabs

variable (R : FVec Ideal S1024x128 .f32) (x : Fin 2 → Fin 64 → EReal) (q : Fin 1024)
  (hR : ∀ l : Fin 128, R (ix2 q l) = x (half l) (place l)) (l : Fin 128)
include hR

theorem swapped_apply : swapped R (ix2 q l) = x ⟨1 - l.val / 64, by omega⟩ (place l) := by
  refine (turnLanes 64#32 R rotates_S1024x128_d1 q l ⟨(l.val + 64) % 128, by omega⟩ (by
    show (l.val + 64) % 128 = (l.val + 128 - 64 % 128) % 128
    omega)).trans ((hR _).trans (congrArg₂ x (Fin.ext ?_) (Fin.ext ?_)))
  · show (l.val + 64) % 128 / 64 = 1 - l.val / 64
    omega
  · show (l.val + 64) % 128 % 64 = l.val % 64
    omega

theorem slab0 : select k0_pay38 R zeros (ix2 q l) = slabLane x 0 l := by
  rw [mask_apply, zeros_apply, hR]
  unfold slabLane
  by_cases h : l.val < 64
  · rw [if_pos h, if_pos (show (0 : Fin 4).val % 2 = l.val / 64 by show 0 = l.val / 64; omega)]
    exact congrArg₂ x (Fin.ext (by show l.val / 64 = 0; omega)) rfl
  · rw [if_neg h, if_neg (show ¬(0 : Fin 4).val % 2 = l.val / 64 by show ¬0 = l.val / 64; omega)]

theorem slab1 : select k0_pay38 zeros (swapped R) (ix2 q l) = slabLane x 1 l := by
  rw [mask_apply, zeros_apply, swapped_apply R x q hR]
  unfold slabLane
  by_cases h : l.val < 64
  · rw [if_pos h, if_neg (show ¬(1 : Fin 4).val % 2 = l.val / 64 by show ¬1 = l.val / 64; omega)]
  · rw [if_neg h, if_pos (show (1 : Fin 4).val % 2 = l.val / 64 by show 1 = l.val / 64; omega)]
    exact congrArg₂ x (Fin.ext (by show 1 - l.val / 64 = 0; omega)) rfl

theorem slab2 : select k0_pay38 (swapped R) zeros (ix2 q l) = slabLane x 2 l := by
  rw [mask_apply, zeros_apply, swapped_apply R x q hR]
  unfold slabLane
  by_cases h : l.val < 64
  · rw [if_pos h, if_pos (show (2 : Fin 4).val % 2 = l.val / 64 by show 0 = l.val / 64; omega)]
    exact congrArg₂ x (Fin.ext (by show 1 - l.val / 64 = 1; omega)) rfl
  · rw [if_neg h, if_neg (show ¬(2 : Fin 4).val % 2 = l.val / 64 by show ¬0 = l.val / 64; omega)]

theorem slab3 : select k0_pay38 zeros R (ix2 q l) = slabLane x 3 l := by
  rw [mask_apply, zeros_apply, hR]
  unfold slabLane
  by_cases h : l.val < 64
  · rw [if_pos h, if_neg (show ¬(3 : Fin 4).val % 2 = l.val / 64 by show ¬1 = l.val / 64; omega)]
  · rw [if_neg h, if_pos (show (3 : Fin 4).val % 2 = l.val / 64 by show 1 = l.val / 64; omega)]
    exact congrArg₂ x (Fin.ext (by show l.val / 64 = 1; omega)) rfl

end Slabs

/-! ## The products -/

theorem mm_heads (a : FVec Ideal S1024x1024 .bf16) (W : FVec Ideal S1024x768 .bf16) (r : Fin 1024) (c : Fin 768) :
    matmul dot_S1024x1024_S1024x768_S1024x768_1_0_0_1_n_n none a W (constant S1024x768 .f32 0x00000000#32) (ix2 r c)
      = dot (rowOf a r) (colOf W c) := matmul_rows _ rfl a W r c

theorem mm_gates (a : FVec Ideal S1024x1024 .bf16) (W : FVec Ideal S1024x512 .bf16) (r : Fin 1024) (c : Fin 512) :
    matmul dot_S1024x1024_S1024x512_S1024x512_1_0_0_1_n_n none a W (constant S1024x512 .f32 0x00000000#32) (ix2 r c)
      = dot (rowOf a r) (colOf W c) := matmul_rows _ rfl a W r c

/-- The heads' columns of the projection. -/
theorem heads_apply (a : FVec Ideal S1024x1024 .bf16) (x4 : Vec Ideal S1024x4352 .bf16) (q : Fin 1024) (j : Fin 768) :
    k0_pay29 a (View.ld x4 r0_30) (ix2 q j) = dot (rowOf a q) (colOf x4 ⟨1536 + j.val, by omega⟩) := by
  unfold k0_pay29
  simp only [shapeCast_self]
  refine (mm_heads a _ q j).trans (congrArg (dot _) (funext fun k => ?_))
  exact ld2 0 1536 x4 _ k j k ⟨1536 + j.val, by omega⟩ (Nat.zero_add _).symm rfl

/-- A strip of the gates. -/
theorem gate_apply (a : FVec Ideal S1024x1024 .bf16) (x4 : Vec Ideal S1024x4352 .bf16) (o : Nat) (ho : o + 512 ≤ 4352)
    (inb : ∀ i, (![0, o] : Fin 2 → Nat) i + S1024x512.size i ≤ S1024x4352.size i) (u : Fin 1) (q : Fin 1024) (j : Fin 512) :
    k0_pay57 a (View.ld x4 (Rect.unit (s := S1024x4352) ![0, o] S1024x512.size inb)) (ix3 u q j)
      = Ideal.logistic (dot (rowOf a q) (colOf x4 ⟨o + j.val, by omega⟩)) := by
  unfold k0_pay57
  simp only [shapeCast_self]
  refine (cast_add1 _ _ u q j).trans (congrArg Ideal.logistic ?_)
  refine (mm_gates a _ q j).trans (congrArg (dot _) (funext fun k => ?_))
  exact ld2 0 o x4 _ k j k ⟨o + j.val, by omega⟩ (Nat.zero_add _).symm rfl

end Cert.ProjBlock

end
-- ==== Proof.Proj.Leaves.lean ====
/- What the projection kernel's body leaves in each of its five output blocks, at every place, from its loaded blocks. -/
module

public import proofs.«01_k».proof.Proof.Proj.Heads

@[expose] public section

noncomputable section

namespace Cert.ProjBlock

open Cert.ProjIdeal Cert.ProjIdeal.Gen Cert.Layout Cert.ProjLayout Cert.MixRow Cert.ProjRow Idealize.ShloMosaic Idealize.ShloMosaic.ValueIdx

/-! ## Placing a piece -/

/-- A slab of a block. -/
theorem at_slab {n : Nat} (s : Nat) (hs : s < n)
    (inb : ∀ a, (![0, s, 0, 0] : Fin 4 → Nat) a + S1x1x1024x128.size a ≤ (⟨4, ![1, n, 1024, 128]⟩ : Shape).size a)
    (P : S1x1x1024x128.Idx → EReal) (G : Fin n → Fin 1024 → Fin 128 → EReal) (hP : ∀ u v q l, P (ix4 u v q l) = G ⟨s, hs⟩ q l)
    (y : S1x1x1024x128.Idx) :
    P y = (fun z : (⟨4, ![1, n, 1024, 128]⟩ : Shape).Idx => G (z 1) (z 2) (z 3))
      ((Rect.unit (s := ⟨4, ![1, n, 1024, 128]⟩) ![0, s, 0, 0] S1x1x1024x128.size inb).emb y) := by
  refine (congrArg P (eq_ix4 y)).trans ((hP _ _ _ _).trans ?_)
  have h1 : (y 1).val < 1 := (y 1).isLt
  have e1 : (⟨s, hs⟩ : Fin n) = (Rect.unit (s := ⟨4, ![1, n, 1024, 128]⟩) ![0, s, 0, 0] S1x1x1024x128.size inb).emb y 1 :=
    Fin.ext (by rw [Rect.emb_apply]; show s = s + 1 * (y 1).val; omega)
  have e2 : (y 2 : Fin 1024) = (Rect.unit (s := ⟨4, ![1, n, 1024, 128]⟩) ![0, s, 0, 0] S1x1x1024x128.size inb).emb y 2 :=
    Fin.ext (by rw [Rect.emb_apply]; show (y 2).val = 0 + 1 * (y 2).val; omega)
  have e3 : (y 3 : Fin 128) = (Rect.unit (s := ⟨4, ![1, n, 1024, 128]⟩) ![0, s, 0, 0] S1x1x1024x128.size inb).emb y 3 :=
    Fin.ext (by rw [Rect.emb_apply]; show (y 3).val = 0 + 1 * (y 3).val; omega)
  exact (congrArg (fun z => G z _ _) e1).trans ((congrArg (fun z => G _ z _) e2).trans (congrArg (fun z => G _ _ z) e3))

/-- A strip of columns of a block. -/
theorem at_strip {w W : Nat} (o : Nat) (ho : o + w ≤ W)
    (inb : ∀ a, (![0, 0, o] : Fin 3 → Nat) a + (⟨3, ![1, 1024, w]⟩ : Shape).size a ≤ (⟨3, ![1, 1024, W]⟩ : Shape).size a)
    (P : (⟨3, ![1, 1024, w]⟩ : Shape).Idx → EReal) (G : Fin 1024 → Fin W → EReal) (hP : ∀ u q l, P (ix3 u q l) = G q ⟨o + l.val, by omega⟩)
    (y : (⟨3, ![1, 1024, w]⟩ : Shape).Idx) :
    P y = (fun z : (⟨3, ![1, 1024, W]⟩ : Shape).Idx => G (z 1) (z 2))
      ((Rect.unit (s := ⟨3, ![1, 1024, W]⟩) ![0, 0, o] (⟨3, ![1, 1024, w]⟩ : Shape).size inb).emb y) := by
  refine (congrArg P (eq_ix3 y)).trans ((hP _ _ _).trans ?_)
  have e1 : (y 1 : Fin 1024) = (Rect.unit (s := ⟨3, ![1, 1024, W]⟩) ![0, 0, o] (⟨3, ![1, 1024, w]⟩ : Shape).size inb).emb y 1 :=
    Fin.ext (by rw [Rect.emb_apply]; show (y 1).val = 0 + 1 * (y 1).val; omega)
  have e2 : (⟨o + (y 2).val, by have h : (y 2).val < w := (y 2).isLt; omega⟩ : Fin W) = (Rect.unit (s := ⟨3, ![1, 1024, W]⟩) ![0, 0, o] (⟨3, ![1, 1024, w]⟩ : Shape).size inb).emb y 2 :=
    Fin.ext (by rw [Rect.emb_apply]; show o + (y 2).val = o + 1 * (y 2).val; omega)
  exact (congrArg (fun z => G z _) e1).trans (congrArg (fun z => G _ z) e2)

section Block

variable (i : grid0.Coords) (x0 : Vec Ideal S1x1024x1024 .f32) (x1 x2 : Vec Ideal S1x16x1024 .f32) (x3 : Vec Ideal S1x1024 .f32)
  (x4 : Vec Ideal S1024x4352 .bf16) (x5 : Vec Ideal S8x1536 .f32) (x6 x7 x8 : Vec Ideal S1024x128 .f32)

/-- The normed row of the block's token, of the token before it, and of the token after it. -/
def own (q : Fin 1024) : Fin 1024 → EReal := norm (fun k => x0 (ix3 0 q k)) (rowOf x3 0)
def prior (q : Fin 1024) : Fin 1024 → EReal :=
  if h : q.val = 0 then fun c => norm (fun k => x1 (ix3 0 ⟨15, by decide⟩ k)) (rowOf x3 0) c * flag (hasPrev i)
  else own x0 x3 ⟨q.val - 1, by omega⟩
def later (q : Fin 1024) : Fin 1024 → EReal :=
  if h : q.val = 1023 then fun c => norm (fun k => x2 (ix3 0 0 k)) (rowOf x3 0) c * flag (hasNext i)
  else own x0 x3 ⟨q.val + 1, by omega⟩

theorem own_row (q : Fin 1024) : rowOf (k0_pay60 i x0 x1 x2 x3 x4 x5 x6 x7 x8) q = own x0 x3 q := by
  funext c
  unfold rowOf k0_pay60
  rw [ld_r0_0, ld_r0_1]
  exact pay2_row x0 x3 q c

abbrev ext : FVec Ideal S1056x1024 .bf16 := k0_pay62 i x0 x1 x2 x3 x4 x5 x6 x7 x8

theorem ext_own (q : Fin 1024) : rowOf (ext i x0 x1 x2 x3 x4 x5 x6 x7 x8) ⟨16 + q.val, by omega⟩ = own x0 x3 q := by
  funext c
  exact (ext_here i _ _ _ _ q c).trans (congrFun (own_row i x0 x1 x2 x3 x4 x5 x6 x7 x8 q) c)

theorem ext_prior (q : Fin 1024) : rowOf (ext i x0 x1 x2 x3 x4 x5 x6 x7 x8) ⟨q.val + 15, by omega⟩ = prior i x0 x1 x3 q := by
  unfold prior
  by_cases h : q.val = 0
  · rw [dif_pos h]
    funext c
    have e : (⟨q.val + 15, by omega⟩ : Fin 1056) = ⟨15, by decide⟩ := Fin.ext (by show q.val + 15 = 15; omega)
    rw [e]
    refine (ext_prev i _ _ _ _ c).trans ?_
    unfold k0_pay61
    rw [ld_r0_1, ld_r0_2]
    exact pay3_row i x1 x3 ⟨15, by decide⟩ c
  · rw [dif_neg h]
    have e : (⟨q.val + 15, by omega⟩ : Fin 1056) = ⟨16 + (⟨q.val - 1, by omega⟩ : Fin 1024).val, by show 16 + (q.val - 1) < 1056; omega⟩ :=
      Fin.ext (by show q.val + 15 = 16 + (q.val - 1); omega)
    rw [e]
    exact ext_own i x0 x1 x2 x3 x4 x5 x6 x7 x8 ⟨q.val - 1, by omega⟩

theorem ext_later (q : Fin 1024) : rowOf (ext i x0 x1 x2 x3 x4 x5 x6 x7 x8) ⟨q.val + 17, by omega⟩ = later i x0 x2 x3 q := by
  unfold later
  by_cases h : q.val = 1023
  · rw [dif_pos h]
    funext c
    have e : (⟨q.val + 17, by omega⟩ : Fin 1056) = ⟨1040, by decide⟩ := Fin.ext (by show q.val + 17 = 1040; omega)
    rw [e]
    unfold ext k0_pay62
    rw [ld_r0_1, ld_r0_2]
    exact ext_next i _ _ x2 x3 c
  · rw [dif_neg h]
    have e : (⟨q.val + 17, by omega⟩ : Fin 1056) = ⟨16 + (⟨q.val + 1, by omega⟩ : Fin 1024).val, by show 16 + (q.val + 1) < 1056; omega⟩ :=
      Fin.ext (by show q.val + 17 = 16 + (q.val + 1); omega)
    rw [e]
    exact ext_own i x0 x1 x2 x3 x4 x5 x6 x7 x8 ⟨q.val + 1, by omega⟩

/-! ## The convolved columns -/

/-- Column `j` of the convolved projection at a token of the block. -/
def convAt (q : Fin 1024) (j : Fin 1536) : EReal :=
  taps (dot (prior i x0 x1 x3 q) (colOf x4 ⟨j.val, by omega⟩)) (dot (own x0 x3 q) (colOf x4 ⟨j.val, by omega⟩)) (dot (later i x0 x2 x3 q) (colOf x4 ⟨j.val, by omega⟩))
    (x5 (ix2 0 j)) (x5 (ix2 1 j)) (x5 (ix2 2 j)) (x5 (ix2 3 j))

theorem conv_strip (o : Nat) (ho : o + 512 ≤ 1536)
    (iw : ∀ a, (![0, o] : Fin 2 → Nat) a + S1024x512.size a ≤ S1024x4352.size a)
    (i0 : ∀ a, (![0, o] : Fin 2 → Nat) a + S1x512.size a ≤ S8x1536.size a) (i1 : ∀ a, (![1, o] : Fin 2 → Nat) a + S1x512.size a ≤ S8x1536.size a)
    (i2 : ∀ a, (![2, o] : Fin 2 → Nat) a + S1x512.size a ≤ S8x1536.size a) (i3 : ∀ a, (![3, o] : Fin 2 → Nat) a + S1x512.size a ≤ S8x1536.size a)
    (q : Fin 1024) (j : Fin 512) :
    k0_pay23 (ext i x0 x1 x2 x3 x4 x5 x6 x7 x8) (View.ld x4 (Rect.unit (s := S1024x4352) ![0, o] S1024x512.size iw)) (View.ld x5 (Rect.unit (s := S8x1536) ![0, o] S1x512.size i0))
        (View.ld x5 (Rect.unit (s := S8x1536) ![1, o] S1x512.size i1)) (View.ld x5 (Rect.unit (s := S8x1536) ![2, o] S1x512.size i2))
        (View.ld x5 (Rect.unit (s := S8x1536) ![3, o] S1x512.size i3)) (ix2 q j)
      = convAt i x0 x1 x2 x3 x4 x5 q ⟨o + j.val, by omega⟩ := by
  refine (conv_apply _ _ _ _ _ _ q j).trans ?_
  have hw : colOf (View.ld x4 (Rect.unit (s := S1024x4352) ![0, o] S1024x512.size iw)) j = colOf x4 ⟨o + j.val, by omega⟩ :=
    funext fun k => ld2 0 o x4 _ k j k ⟨o + j.val, by omega⟩ (Nat.zero_add _).symm rfl
  have h0 := ld2 0 o x5 i0 (0 : Fin 1) j 0 ⟨o + j.val, by omega⟩ rfl rfl
  have h1 := ld2 1 o x5 i1 (0 : Fin 1) j 1 ⟨o + j.val, by omega⟩ rfl rfl
  have h2 := ld2 2 o x5 i2 (0 : Fin 1) j 2 ⟨o + j.val, by omega⟩ rfl rfl
  have h3 := ld2 3 o x5 i3 (0 : Fin 1) j 3 ⟨o + j.val, by omega⟩ rfl rfl
  rw [ext_own, ext_prior, ext_later]
  unfold convAt
  exact congr (congr (congr (congr (congr (congr (congrArg taps (congrArg (dot _) hw)) (congrArg (dot _) hw)) (congrArg (dot _) hw)) h0) h1) h2) h3

/-- Slab `4 * p + r` of the convolved columns, from strip `p`. -/
theorem conv_slab (x : FVec Ideal S1024x512 .f32) (p o : Nat) (hp : p + 512 ≤ 1536) (ho : o + 128 ≤ 512)
    (hx : ∀ q j, x (ix2 q j) = convAt i x0 x1 x2 x3 x4 x5 q ⟨p + j.val, by omega⟩)
    (h : S1024x512.Slices ![0, o] S1024x128) (hb : FTy.bits .bf16 < FTy.bits .f32) (hc : S1024x128.ShapeCasts S1x1x1024x128)
    (s : Nat) (hs : s < 12) (e : 128 * s = p + o) (u v : Fin 1) (q : Fin 1024) (l : Fin 128) :
    shapeCast S1x1x1024x128 (truncf .bf16 (extractStridedSlice S1024x128 ![0, o] x h) hb : FVec Ideal S1024x128 .bf16) hc (ix4 u v q l)
      = convAt i x0 x1 x2 x3 x4 x5 q ⟨128 * s + l.val, by omega⟩ :=
  (slab_apply x o h hb hc u v q l ⟨o + l.val, by omega⟩ rfl).trans ((hx q _).trans (congrArg (convAt i x0 x1 x2 x3 x4 x5 q) (Fin.ext (by
    show p + (o + l.val) = 128 * s + l.val
    omega))))

/-- What the body leaves in the convolved columns' block. -/
theorem block9 (s : Fin 12) (q : Fin 1024) (l : Fin 128) :
    out0_9 i x0 x1 x2 x3 x4 x5 x6 x7 x8 (ix4 0 s q l) = convAt i x0 x1 x2 x3 x4 x5 q ⟨128 * s.val + l.val, by omega⟩ := by
  refine (View.canon_apply_of_pieces (Val := Elt Ideal) (e := .bf16)
    (fun z : S1x12x1024x128.Idx => (fun (s : Fin 12) (q : Fin 1024) (l : Fin 128) => convAt i x0 x1 x2 x3 x4 x5 q ⟨128 * s.val + l.val, by omega⟩) (z 1) (z 2) (z 3)) _ ?_
    (ix4 0 s q l) (cover0_9 _ _ _ _ _ _ _ _ _ _ _ _ _))
  intro p hp
  have c0 := conv_strip i x0 x1 x2 x3 x4 x5 x6 x7 x8 0 (by decide) inb_S1024x4352_S1024x512_0_0 inb_S8x1536_S1x512_0_0 inb_S8x1536_S1x512_1_0 inb_S8x1536_S1x512_2_0 inb_S8x1536_S1x512_3_0
  have c1 := conv_strip i x0 x1 x2 x3 x4 x5 x6 x7 x8 512 (by decide) inb_S1024x4352_S1024x512_0_512 inb_S8x1536_S1x512_0_512 inb_S8x1536_S1x512_1_512 inb_S8x1536_S1x512_2_512 inb_S8x1536_S1x512_3_512
  have c2 := conv_strip i x0 x1 x2 x3 x4 x5 x6 x7 x8 1024 (by decide) inb_S1024x4352_S1024x512_0_1024 inb_S8x1536_S1x512_0_1024 inb_S8x1536_S1x512_1_1024 inb_S8x1536_S1x512_2_1024 inb_S8x1536_S1x512_3_1024
  simp only [List.mem_cons, List.not_mem_nil, or_false] at hp
  rcases hp with rfl | rfl | rfl | rfl | rfl | rfl | rfl | rfl | rfl | rfl | rfl | rfl
  · exact at_slab (n := 12) 11 (by decide) inb_S1x12x1024x128_S1x1x1024x128_0_11_0_0 _ (fun s q l => convAt i x0 x1 x2 x3 x4 x5 q ⟨128 * s.val + l.val, by omega⟩) fun u v q l => conv_slab i x0 x1 x2 x3 x4 x5 _ 1024 384 (by decide) (by decide) c2 _ _ _ 11 (by decide) rfl u v q l
  · exact at_slab (n := 12) 10 (by decide) inb_S1x12x1024x128_S1x1x1024x128_0_10_0_0 _ (fun s q l => convAt i x0 x1 x2 x3 x4 x5 q ⟨128 * s.val + l.val, by omega⟩) fun u v q l => conv_slab i x0 x1 x2 x3 x4 x5 _ 1024 256 (by decide) (by decide) c2 _ _ _ 10 (by decide) rfl u v q l
  · exact at_slab (n := 12) 9 (by decide) inb_S1x12x1024x128_S1x1x1024x128_0_9_0_0 _ (fun s q l => convAt i x0 x1 x2 x3 x4 x5 q ⟨128 * s.val + l.val, by omega⟩) fun u v q l => conv_slab i x0 x1 x2 x3 x4 x5 _ 1024 128 (by decide) (by decide) c2 _ _ _ 9 (by decide) rfl u v q l
  · exact at_slab (n := 12) 8 (by decide) inb_S1x12x1024x128_S1x1x1024x128_0_8_0_0 _ (fun s q l => convAt i x0 x1 x2 x3 x4 x5 q ⟨128 * s.val + l.val, by omega⟩) fun u v q l => conv_slab i x0 x1 x2 x3 x4 x5 _ 1024 0 (by decide) (by decide) c2 _ _ _ 8 (by decide) rfl u v q l
  · exact at_slab (n := 12) 7 (by decide) inb_S1x12x1024x128_S1x1x1024x128_0_7_0_0 _ (fun s q l => convAt i x0 x1 x2 x3 x4 x5 q ⟨128 * s.val + l.val, by omega⟩) fun u v q l => conv_slab i x0 x1 x2 x3 x4 x5 _ 512 384 (by decide) (by decide) c1 _ _ _ 7 (by decide) rfl u v q l
  · exact at_slab (n := 12) 6 (by decide) inb_S1x12x1024x128_S1x1x1024x128_0_6_0_0 _ (fun s q l => convAt i x0 x1 x2 x3 x4 x5 q ⟨128 * s.val + l.val, by omega⟩) fun u v q l => conv_slab i x0 x1 x2 x3 x4 x5 _ 512 256 (by decide) (by decide) c1 _ _ _ 6 (by decide) rfl u v q l
  · exact at_slab (n := 12) 5 (by decide) inb_S1x12x1024x128_S1x1x1024x128_0_5_0_0 _ (fun s q l => convAt i x0 x1 x2 x3 x4 x5 q ⟨128 * s.val + l.val, by omega⟩) fun u v q l => conv_slab i x0 x1 x2 x3 x4 x5 _ 512 128 (by decide) (by decide) c1 _ _ _ 5 (by decide) rfl u v q l
  · exact at_slab (n := 12) 4 (by decide) inb_S1x12x1024x128_S1x1x1024x128_0_4_0_0 _ (fun s q l => convAt i x0 x1 x2 x3 x4 x5 q ⟨128 * s.val + l.val, by omega⟩) fun u v q l => conv_slab i x0 x1 x2 x3 x4 x5 _ 512 0 (by decide) (by decide) c1 _ _ _ 4 (by decide) rfl u v q l
  · exact at_slab (n := 12) 3 (by decide) inb_S1x12x1024x128_S1x1x1024x128_0_3_0_0 _ (fun s q l => convAt i x0 x1 x2 x3 x4 x5 q ⟨128 * s.val + l.val, by omega⟩) fun u v q l => conv_slab i x0 x1 x2 x3 x4 x5 _ 0 384 (by decide) (by decide) c0 _ _ _ 3 (by decide) rfl u v q l
  · exact at_slab (n := 12) 2 (by decide) inb_S1x12x1024x128_S1x1x1024x128_0_2_0_0 _ (fun s q l => convAt i x0 x1 x2 x3 x4 x5 q ⟨128 * s.val + l.val, by omega⟩) fun u v q l => conv_slab i x0 x1 x2 x3 x4 x5 _ 0 256 (by decide) (by decide) c0 _ _ _ 2 (by decide) rfl u v q l
  · exact at_slab (n := 12) 1 (by decide) inb_S1x12x1024x128_S1x1x1024x128_0_1_0_0 _ (fun s q l => convAt i x0 x1 x2 x3 x4 x5 q ⟨128 * s.val + l.val, by omega⟩) fun u v q l => conv_slab i x0 x1 x2 x3 x4 x5 _ 0 128 (by decide) (by decide) c0 _ _ _ 1 (by decide) rfl u v q l
  · exact at_slab (n := 12) 0 (by decide) inb_S1x12x1024x128_S1x1x1024x128_0_0_0_0 _ (fun s q l => convAt i x0 x1 x2 x3 x4 x5 q ⟨128 * s.val + l.val, by omega⟩) fun u v q l => conv_slab i x0 x1 x2 x3 x4 x5 _ 0 0 (by decide) (by decide) c0 _ _ _ 0 (by decide) rfl u v q l

/-! ## The heads -/

variable (co si : Fin 1024 → Fin 8 → EReal)

/-- Lane `e` of a head whose columns start at `o`, before the turn. -/
def lane (o : Nat) (ho : o + 64 ≤ 4352) (q : Fin 1024) (e : Fin 64) : EReal := dot (own x0 x3 q) (colOf x4 ⟨o + e.val, by omega⟩)

/-- Lane `j` of the queries, turned and scaled. -/
def queryAt (q : Fin 1024) (j : Fin 512) : EReal :=
  turn (lane x0 x3 x4 (1536 + 64 * (j.val / 64)) (by omega) q) (co q) (si q) ⟨j.val % 64, by omega⟩ * Ideal.ofBits .f32 0x3E38AA3B#32

/-- The two heads of keys, turned, and of values. -/
def keyAt (q : Fin 1024) (h : Fin 2) (e : Fin 64) : EReal := turn (lane x0 x3 x4 (2048 + 64 * h.val) (by omega) q) (co q) (si q) e
def valueAt (q : Fin 1024) (h : Fin 2) (e : Fin 64) : EReal := lane x0 x3 x4 (2176 + 64 * h.val) (by omega) q e

theorem cols (q : Fin 1024) (j : Fin 768) :
    k0_pay70 i x0 x1 x2 x3 x4 x5 x6 x7 x8 (ix2 q j) = dot (own x0 x3 q) (colOf x4 ⟨1536 + j.val, by omega⟩) :=
  (heads_apply _ x4 q j).trans (congrArg (fun r => dot r _) (own_row i x0 x1 x2 x3 x4 x5 x6 x7 x8 q))

section Turned

variable (hc : ∀ (q : Fin 1024) (l : Fin 128), x6 (ix2 q l) = here (co q) (place l))
  (hu : ∀ (q : Fin 1024) (l : Fin 128), x7 (ix2 q l) = above (si q) (place l))
  (hd : ∀ (q : Fin 1024) (l : Fin 128), x8 (ix2 q l) = below (si q) (place l))
include hc hu hd

theorem strip_turned (o : Nat) (h : S1024x768.Slices ![0, o] S1024x128) (ho : o + 128 ≤ 768) (q : Fin 1024) (l : Fin 128) :
    turned (extractStridedSlice S1024x128 ![0, o] (k0_pay70 i x0 x1 x2 x3 x4 x5 x6 x7 x8) h) x6 x7 x8 (ix2 q l)
      = turn (lane x0 x3 x4 (1536 + o + 64 * (l.val / 64)) (by omega) q) (co q) (si q) ⟨l.val % 64, by omega⟩ := by
  refine (turned_apply _ x6 x7 x8 (fun l => dot (own x0 x3 q) (colOf x4 ⟨1536 + (o + l.val), by omega⟩)) (co q) (si q) q l
    (fun l => (strip_apply _ o h ho q l).trans (cols i x0 x1 x2 x3 x4 x5 x6 x7 x8 q _)) (hc q l) (hu q l) (hd q l)).trans ?_
  refine congrArg (fun f => turn f (co q) (si q) _) (funext fun e => ?_)
  unfold lane
  refine congrArg (fun z => dot (own x0 x3 q) (colOf x4 z)) (Fin.ext ?_)
  show 1536 + (o + (64 * (l.val / 64) + e.val)) = 1536 + o + 64 * (l.val / 64) + e.val
  omega

theorem query_strip (o : Nat) (h : S1024x768.Slices ![0, o] S1024x128) (ho : o + 128 ≤ 512) (h64 : o % 64 = 0) (hb : FTy.bits .bf16 < FTy.bits .f32)
    (hs : S1024x128.ShapeCasts S1x1024x128) (u : Fin 1) (q : Fin 1024) (l : Fin 128) :
    shapeCast S1x1024x128 (truncf .bf16 (mulf (turned (extractStridedSlice S1024x128 ![0, o] (k0_pay70 i x0 x1 x2 x3 x4 x5 x6 x7 x8) h) x6 x7 x8)
        (broadcast S1024x128 (Scalar.ofBits (F := Ideal) .f32 0x3E38AA3B#32))) hb : FVec Ideal S1024x128 .bf16) hs (ix3 u q l)
      = queryAt x0 x3 x4 co si q ⟨o + l.val, by omega⟩ := by
  refine (cast_add1 _ _ u q l).trans ?_
  unfold queryAt
  refine congrArg (· * Ideal.ofBits .f32 0x3E38AA3B#32) ((strip_turned i x0 x1 x2 x3 x4 x5 x6 x7 x8 co si hc hu hd o h (by omega) q l).trans ?_)
  have e1 : (⟨(o + l.val) % 64, by omega⟩ : Fin 64) = ⟨l.val % 64, by omega⟩ := Fin.ext (by show (o + l.val) % 64 = l.val % 64; omega)
  show _ = turn (lane x0 x3 x4 (1536 + 64 * ((o + l.val) / 64)) _ q) (co q) (si q) ⟨(o + l.val) % 64, _⟩
  rw [e1]
  refine congrArg (fun f => turn f (co q) (si q) _) (funext fun e => ?_)
  unfold lane
  refine congrArg (fun z => dot (own x0 x3 q) (colOf x4 z)) (Fin.ext ?_)
  show 1536 + o + 64 * (l.val / 64) + e.val = 1536 + 64 * ((o + l.val) / 64) + e.val
  omega

/-- What the body leaves in the queries' block. -/
theorem block10 (q : Fin 1024) (j : Fin 512) :
    out0_10 i x0 x1 x2 x3 x4 x5 x6 x7 x8 (ix3 0 q j) = queryAt x0 x3 x4 co si q j := by
  refine (View.canon_apply_of_pieces (Val := Elt Ideal) (e := .bf16)
    (fun z : S1x1024x512.Idx => queryAt x0 x3 x4 co si (z 1) (z 2)) _ ?_ (ix3 0 q j) (cover0_10 _ _ _ _ _))
  intro p hp
  have hq := query_strip i x0 x1 x2 x3 x4 x5 x6 x7 x8 co si hc hu hd
  simp only [List.mem_cons, List.not_mem_nil, or_false] at hp
  rcases hp with rfl | rfl | rfl | rfl
  · refine at_strip (w := 128) (W := 512) 384 (by decide) inb_S1x1024x512_S1x1024x128_0_0_384 _ (queryAt x0 x3 x4 co si) fun u q l => ?_
    unfold k0_pay37
    simp only [shapeCast_self, ld_r0_31]
    exact hq 384 _ (by decide) rfl _ _ u q l
  · refine at_strip (w := 128) (W := 512) 256 (by decide) inb_S1x1024x512_S1x1024x128_0_0_256 _ (queryAt x0 x3 x4 co si) fun u q l => ?_
    unfold k0_pay36 k0_pay35 k0_pay34 k0_pay33
    simp only [shapeCast_self, ld_r0_31]
    exact hq 256 _ (by decide) rfl _ _ u q l
  · refine at_strip (w := 128) (W := 512) 128 (by decide) inb_S1x1024x512_S1x1024x128_0_0_128 _ (queryAt x0 x3 x4 co si) fun u q l => ?_
    unfold k0_pay32
    simp only [shapeCast_self, ld_r0_31]
    exact hq 128 _ (by decide) rfl _ _ u q l
  · refine at_strip (w := 128) (W := 512) 0 (by decide) inb_S1x1024x512_S1x1024x128_0_0_0 _ (queryAt x0 x3 x4 co si) fun u q l => ?_
    unfold k0_pay31 k0_pay30
    simp only [shapeCast_self, ld_r0_31]
    exact hq 0 _ (by decide) rfl _ _ u q l

/-- The turned keys as the body spells them. -/
theorem keys_apply (q : Fin 1024) (l : Fin 128) :
    k0_pay42 (k0_pay72 i x0 x1 x2 x3 x4 x5 x6 x7 x8) (k0_pay73 i x0 x1 x2 x3 x4 x5 x6 x7 x8) (k0_pay74 i x0 x1 x2 x3 x4 x5 x6 x7 x8)
        (View.ld x7 r0_31) (View.ld x8 r0_31) (ix2 q l)
      = keyAt x0 x3 x4 co si q ⟨l.val / 64, by omega⟩ ⟨l.val % 64, by omega⟩ := by
  unfold k0_pay42 k0_pay72 k0_pay73 k0_pay74 k0_pay41 k0_pay40 k0_pay39
  simp only [shapeCast_self, ld_r0_31]
  exact strip_turned i x0 x1 x2 x3 x4 x5 x6 x7 x8 co si hc hu hd 512 _ (by decide) q l

/-- What the body leaves in the keys' block. -/
theorem block11 (s : Fin 4) (q : Fin 1024) (l : Fin 128) :
    out0_11 i x0 x1 x2 x3 x4 x5 x6 x7 x8 (ix4 0 s q l) = slabLane (keyAt x0 x3 x4 co si q) s l := by
  refine (View.canon_apply_of_pieces (Val := Elt Ideal) (e := .bf16)
    (fun z : S1x4x1024x128.Idx => (fun (s : Fin 4) (q : Fin 1024) (l : Fin 128) => slabLane (keyAt x0 x3 x4 co si q) s l) (z 1) (z 2) (z 3)) _ ?_
    (ix4 0 s q l) (cover0_11 _ _ _ _ _))
  intro p hp
  have hk := keys_apply i x0 x1 x2 x3 x4 x5 x6 x7 x8 co si hc hu hd
  simp only [List.mem_cons, List.not_mem_nil, or_false] at hp
  rcases hp with rfl | rfl | rfl | rfl
  · exact at_slab (n := 4) 3 (by decide) inb_S1x4x1024x128_S1x1x1024x128_0_3_0_0 _ (fun s q l => slabLane (keyAt x0 x3 x4 co si q) s l) fun u v q l =>
      (cast_add2 _ _ u v q l).trans (slab3 _ (keyAt x0 x3 x4 co si q) q (hk q) l)
  · exact at_slab (n := 4) 2 (by decide) inb_S1x4x1024x128_S1x1x1024x128_0_2_0_0 _ (fun s q l => slabLane (keyAt x0 x3 x4 co si q) s l) fun u v q l =>
      (cast_add2 _ _ u v q l).trans (slab2 _ (keyAt x0 x3 x4 co si q) q (hk q) l)
  · exact at_slab (n := 4) 1 (by decide) inb_S1x4x1024x128_S1x1x1024x128_0_1_0_0 _ (fun s q l => slabLane (keyAt x0 x3 x4 co si q) s l) fun u v q l =>
      (cast_add2 _ _ u v q l).trans (slab1 _ (keyAt x0 x3 x4 co si q) q (hk q) l)
  · exact at_slab (n := 4) 0 (by decide) inb_S1x4x1024x128_S1x1x1024x128_0_0_0_0 _ (fun s q l => slabLane (keyAt x0 x3 x4 co si q) s l) fun u v q l =>
      (cast_add2 _ _ u v q l).trans (slab0 _ (keyAt x0 x3 x4 co si q) q (hk q) l)

end Turned

theorem values_apply (q : Fin 1024) (l : Fin 128) :
    k0_pay75 i x0 x1 x2 x3 x4 x5 x6 x7 x8 (ix2 q l) = valueAt x0 x3 x4 q ⟨l.val / 64, by omega⟩ ⟨l.val % 64, by omega⟩ := by
  unfold k0_pay75 k0_pay43 valueAt lane
  refine (strip_apply _ 640 _ (by decide) q l).trans ((cols i x0 x1 x2 x3 x4 x5 x6 x7 x8 q _).trans ?_)
  refine congrArg (fun z => dot (own x0 x3 q) (colOf x4 z)) (Fin.ext ?_)
  show 1536 + (640 + l.val) = 2176 + 64 * (l.val / 64) + l.val % 64
  omega

/-- What the body leaves in the values' block. -/
theorem block12 (s : Fin 4) (q : Fin 1024) (l : Fin 128) :
    out0_12 i x0 x1 x2 x3 x4 x5 x6 x7 x8 (ix4 0 s q l) = slabLane (valueAt x0 x3 x4 q) s l := by
  refine (View.canon_apply_of_pieces (Val := Elt Ideal) (e := .bf16)
    (fun z : S1x4x1024x128.Idx => (fun (s : Fin 4) (q : Fin 1024) (l : Fin 128) => slabLane (valueAt x0 x3 x4 q) s l) (z 1) (z 2) (z 3)) _ ?_
    (ix4 0 s q l) (cover0_12 _ _ _ _ _))
  intro p hp
  have hv := values_apply i x0 x1 x2 x3 x4 x5 x6 x7 x8
  simp only [List.mem_cons, List.not_mem_nil, or_false] at hp
  rcases hp with rfl | rfl | rfl | rfl
  · exact at_slab (n := 4) 3 (by decide) inb_S1x4x1024x128_S1x1x1024x128_0_3_0_0 _ (fun s q l => slabLane (valueAt x0 x3 x4 q) s l) fun u v q l =>
      (cast_add2 _ _ u v q l).trans (slab3 _ (valueAt x0 x3 x4 q) q (hv q) l)
  · exact at_slab (n := 4) 2 (by decide) inb_S1x4x1024x128_S1x1x1024x128_0_2_0_0 _ (fun s q l => slabLane (valueAt x0 x3 x4 q) s l) fun u v q l =>
      (cast_add2 _ _ u v q l).trans (slab2 _ (valueAt x0 x3 x4 q) q (hv q) l)
  · exact at_slab (n := 4) 1 (by decide) inb_S1x4x1024x128_S1x1x1024x128_0_1_0_0 _ (fun s q l => slabLane (valueAt x0 x3 x4 q) s l) fun u v q l =>
      (cast_add2 _ _ u v q l).trans (slab1 _ (valueAt x0 x3 x4 q) q (hv q) l)
  · exact at_slab (n := 4) 0 (by decide) inb_S1x4x1024x128_S1x1x1024x128_0_0_0_0 _ (fun s q l => slabLane (valueAt x0 x3 x4 q) s l) fun u v q l =>
      (cast_add2 _ _ u v q l).trans (slab0 _ (valueAt x0 x3 x4 q) q (hv q) l)

/-! ## The gates -/

def gateAt (q : Fin 1024) (j : Fin 2048) : EReal := Ideal.logistic (dot (own x0 x3 q) (colOf x4 ⟨2304 + j.val, by omega⟩))

theorem gate_strip (o : Nat) (ho : o + 512 ≤ 2048)
    (inb : ∀ a, (![0, 2304 + o] : Fin 2 → Nat) a + S1024x512.size a ≤ S1024x4352.size a) (u : Fin 1) (q : Fin 1024) (j : Fin 512) :
    k0_pay57 (k0_pay60 i x0 x1 x2 x3 x4 x5 x6 x7 x8) (View.ld x4 (Rect.unit (s := S1024x4352) ![0, 2304 + o] S1024x512.size inb)) (ix3 u q j)
      = gateAt x0 x3 x4 q ⟨o + j.val, by omega⟩ := by
  refine (gate_apply _ x4 (2304 + o) (by omega) inb u q j).trans ?_
  rw [own_row]
  unfold gateAt
  refine congrArg (fun z => Ideal.logistic (dot (own x0 x3 q) (colOf x4 z))) (Fin.ext ?_)
  show 2304 + o + j.val = 2304 + (o + j.val)
  omega

/-- What the body leaves in the gates' block. -/
theorem block13 (q : Fin 1024) (j : Fin 2048) :
    out0_13 i x0 x1 x2 x3 x4 x5 x6 x7 x8 (ix3 0 q j) = gateAt x0 x3 x4 q j := by
  refine (View.canon_apply_of_pieces (Val := Elt Ideal) (e := .bf16)
    (fun z : S1x1024x2048.Idx => gateAt x0 x3 x4 (z 1) (z 2)) _ ?_ (ix3 0 q j) (cover0_13 _ _ _ _ _))
  intro p hp
  have hg := gate_strip i x0 x1 x2 x3 x4 x5 x6 x7 x8
  simp only [List.mem_cons, List.not_mem_nil, or_false] at hp
  rcases hp with rfl | rfl | rfl | rfl
  · exact at_strip (w := 512) (W := 2048) 1536 (by decide) inb_S1x1024x2048_S1x1024x512_0_0_1536 _ (gateAt x0 x3 x4) fun u q j => hg 1536 (by decide) inb_S1024x4352_S1024x512_0_3840 u q j
  · exact at_strip (w := 512) (W := 2048) 1024 (by decide) inb_S1x1024x2048_S1x1024x512_0_0_1024 _ (gateAt x0 x3 x4) fun u q j => hg 1024 (by decide) inb_S1024x4352_S1024x512_0_3328 u q j
  · exact at_strip (w := 512) (W := 2048) 512 (by decide) inb_S1x1024x2048_S1x1024x512_0_0_512 _ (gateAt x0 x3 x4) fun u q j => hg 512 (by decide) inb_S1024x4352_S1024x512_0_2816 u q j
  · exact at_strip (w := 512) (W := 2048) 0 (by decide) inb_S1x1024x2048_S1x1024x512_0_0_0 _ (gateAt x0 x3 x4) fun u q j => hg 0 (by decide) inb_S1024x4352_S1024x512_0_2304 u q j

end Block

end Cert.ProjBlock

end
-- ==== Proof.Proj.Host.lean ====
/- What the projection kernel's windows hold when the kernel is entered: the norm's gain, the weight, the convolution's
   taps and bias, and the three tables of the rotary turn, read at an index. -/
module

public import proofs.«01_k».proof.Proof.Proj.Layout
public import proofs.«01_k».proof.Proof.Proj.Row
public import Idealize.ShloMosaic.Lib.IdealHost
public import proofs.«01_k».proof.Proof.Gen.ProjIdeal.Frame

@[expose] public section

noncomputable section

namespace Cert.ProjHost

open Cert.ProjIdeal Cert.ProjIdeal.Gen Cert.Layout Cert.ProjLayout Cert.ProjRow Idealize.ShloMosaic Idealize.ShloMosaic.TcCoe Idealize.ShloMosaic.ValueIdx

variable (m : (ℓ : Loc nD τ sig) → Buf (Elt Ideal) ℓ) (c : Dev nD)

/-- The norm's gain. -/
theorem gain_eq (k : Fin 1024) : V m c main_v6 (ix2 0 k) = m ((c : Thread nD τ).loc main_arg1) (ix2 0 k) := by
  have e : V m c main_v6 = (broadcastInDim S1x1024 ![1] bcast_S1024_S1x1024_1 (shapeCast S1024 (m ((c : Thread nD τ).loc main_arg1)) shapeCasts_S1x1024_S1024) : FVec Ideal S1x1024 .f32) := by
    rfl
  rw [e]
  refine (broadcastInDim_apply _ _ _ _ (ix1 k) (fun a => ?_)).trans (shapeCast_apply _ _ _ _ ?_)
  · match a with
    | ⟨0, _⟩ => rfl
  · refine (Shape.rowMajor_val_two (d := ![1, 1024]) _).trans (Eq.trans ?_ (Shape.rowMajor_val_one _).symm)
    show 0 * 1024 + k.val = k.val
    omega

/-- The weight. -/
theorem weight_eq (k : Fin 1024) (j : Fin 4352) : V m c main_v8 (ix2 k j) = m ((c : Thread nD τ).loc main_arg2) (ix3 0 k j) := by
  have e : V m c main_v8 = (truncf .bf16 (shapeCast S1024x4352 (m ((c : Thread nD τ).loc main_arg2)) shapeCasts_S1x1024x4352_S1024x4352) bitsLt_bf16_f32 : FVec Ideal S1024x4352 .bf16) := by
    rfl
  rw [e]
  exact cast_drop1 _ _ k j

/-- The convolution's rows: three taps, the bias, and rows nothing reads. -/
theorem conv_eq : V m c main_v4 = (concatenate S8x1536 0 [⟨S3x1536, shapeCast S3x1536 (m ((c : Thread nD τ).loc main_arg3)) shapeCasts_S1x3x1536_S3x1536⟩,
    ⟨S1x1536, broadcastInDim S1x1536 ![1] bcast_S1536_S1x1536_1 (shapeCast S1536 (m ((c : Thread nD τ).loc main_arg4)) shapeCasts_S1x1536_S1536)⟩,
    ⟨S4x1536, broadcastInDim S4x1536 ![] bcast_S_S4x1536 (constant (F := Ideal) S_ .f32 0x00000000#32)⟩] concatenates_S3x1536_S1x1536_S4x1536_S8x1536_d0 : FVec Ideal S8x1536 .f32) := by
  rfl

theorem tap_eq (r : Fin 8) (r' : Fin 3) (hr : r'.val = r.val) (j : Fin 1536) : V m c main_v4 (ix2 r j) = m ((c : Thread nD τ).loc main_arg3) (ix3 0 r' j) := by
  rw [conv_eq]
  exact (stack_first (n := 8) (m := 1536) (shapeCast S3x1536 (m ((c : Thread nD τ).loc main_arg3)) shapeCasts_S1x3x1536_S3x1536) _ _ concatenates_S3x1536_S1x1536_S4x1536_S8x1536_d0 r j r' hr).trans
    (cast_drop1 _ _ r' j)

theorem bias_eq (j : Fin 1536) : V m c main_v4 (ix2 3 j) = m ((c : Thread nD τ).loc main_arg4) (ix2 0 j) := by
  rw [conv_eq]
  refine (stack_second (n := 8) (m := 1536) _ (broadcastInDim S1x1536 ![1] bcast_S1536_S1x1536_1 (shapeCast S1536 (m ((c : Thread nD τ).loc main_arg4)) shapeCasts_S1x1536_S1536)) _
    concatenates_S3x1536_S1x1536_S4x1536_S8x1536_d0 3 j 0 rfl).trans ?_
  refine (broadcastInDim_apply _ _ _ _ (ix1 j) (fun a => ?_)).trans (shapeCast_apply _ _ _ _ ?_)
  · match a with
    | ⟨0, _⟩ => rfl
  · refine (Shape.rowMajor_val_two (d := ![1, 1536]) _).trans (Eq.trans ?_ (Shape.rowMajor_val_one _).symm)
    show 0 * 1536 + j.val = j.val
    omega

/-! ## The tables -/

/-- A position's eight angles, as the host spells them. -/
abbrev angles : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1
      (Host.divf (broadcastInDim S8 ![] bcast_S_S8 (constant (F := Ideal) S_ .f32 0x3F800000#32))
        (Host.powf (broadcastInDim S8 ![] bcast_S_S8 (constant (F := Ideal) S_ .f32 0x48F42400#32))
          (Host.divf (addf (broadcastInDim S8 ![] bcast_S_S8 (constant (F := Ideal) S_ .f32 0x00000000#32))
              (mulf (broadcastInDim S8 ![] bcast_S_S8 (constant (F := Ideal) S_ .f32 0x40000000#32)) (sitofp .f32 (iotaInDim S8 32 0))))
            (broadcastInDim S8 ![] bcast_S_S8 (constant (F := Ideal) S_ .f32 0x41800000#32)))))))
abbrev cosines : FVec Ideal S4096x8 .f32 := Host.cos angles
abbrev sines : FVec Ideal S4096x8 .f32 := Host.sin angles

/-- The cosines and sines of a position. -/
def co (t : Fin 4096) (j : Fin 8) : EReal := cosines (ix2 t j)
def si (t : Fin 4096) (j : Fin 8) : EReal := sines (ix2 t j)

/-- A table of one head's lanes repeated for the two heads of a strip. -/
abbrev twice (T : FVec Ideal S4096x64 .f32) : FVec Ideal S4096x128 .f32 :=
  shapeCast S4096x128 (broadcastInDim S1x4096x2x64 ![0, 1, 2, 3] bcast_S1x4096x1x64_S1x4096x2x64_0_1_2_3 (shapeCast S1x4096x1x64 T shapeCasts_S4096x64_S1x4096x1x64)) shapeCasts_S1x4096x2x64_S4096x128

theorem twice_apply (T : FVec Ideal S4096x64 .f32) (t : Fin 4096) (l : Fin 128) : twice T (ix2 t l) = T (ix2 t (place l)) := by
  refine (shapeCast_apply _ _ _ (ix4 0 t (half l) (place l)) ?_).trans ((broadcastInDim_apply _ _ _ _ (ix4 0 t 0 (place l)) (fun a => ?_)).trans
    (shapeCast_apply _ _ _ _ ?_))
  · refine (Shape.rowMajor_val_four (d := ![1, 4096, 2, 64]) _).trans (Eq.trans ?_ (Shape.rowMajor_val_two _).symm)
    show ((0 * 4096 + t.val) * 2 + l.val / 64) * 64 + l.val % 64 = t.val * 128 + l.val
    omega
  · match a with
    | ⟨0, _⟩ => rfl
    | ⟨1, _⟩ => rfl
    | ⟨2, _⟩ => rfl
    | ⟨3, _⟩ => rfl
  · refine (Shape.rowMajor_val_two (d := ![4096, 64]) _).trans (Eq.trans ?_ (Shape.rowMajor_val_four _).symm)
    show t.val * 64 + l.val % 64 = ((0 * 4096 + t.val) * 1 + 0) * 64 + l.val % 64
    omega

abbrev ones48 : FVec Ideal S4096x48 .f32 := broadcastInDim S4096x48 ![] bcast_S_S4096x48 (constant (F := Ideal) S_ .f32 0x3F800000#32)
abbrev zeros48 : FVec Ideal S4096x48 .f32 := broadcastInDim S4096x48 ![] bcast_S_S4096x48 (constant (F := Ideal) S_ .f32 0x00000000#32)
abbrev zeros8 : FVec Ideal S4096x8 .f32 := broadcastInDim S4096x8 ![] bcast_S_S4096x8 (constant (F := Ideal) S_ .f32 0x00000000#32)

theorem ones48_apply (i : S4096x48.Idx) : ones48 i = 1 := Ideal.ofBits_one_f32
theorem zeros48_apply (i : S4096x48.Idx) : zeros48 i = 0 := Ideal.ofBits_zero_f32
theorem zeros8_apply (i : S4096x8.Idx) : zeros8 i = 0 := Ideal.ofBits_zero_f32

/-- Two runs of eight lanes and one of forty-eight. -/
abbrev lanes (x y : FVec Ideal S4096x8 .f32) (z : FVec Ideal S4096x48 .f32) : FVec Ideal S4096x64 .f32 :=
  concatenate S4096x64 1 [⟨S4096x8, x⟩, ⟨S4096x8, y⟩, ⟨S4096x48, z⟩] concatenates_S4096x8_S4096x8_S4096x48_S4096x64_d1

theorem lanes_apply (x y : FVec Ideal S4096x8 .f32) (z : FVec Ideal S4096x48 .f32) (t : Fin 4096) (l : Fin 64) :
    lanes x y z (ix2 t l) = if h : l.val < 8 then x (ix2 t ⟨l.val, h⟩) else if h' : l.val < 16 then y (ix2 t ⟨l.val - 8, by omega⟩)
      else z (ix2 t ⟨l.val - 16, by omega⟩) := by
  by_cases h : l.val < 8
  · rw [dif_pos h]
    exact beside_first x y z concatenates_S4096x8_S4096x8_S4096x48_S4096x64_d1 t l ⟨l.val, h⟩ rfl
  · rw [dif_neg h]
    by_cases h' : l.val < 16
    · rw [dif_pos h']
      exact beside_second x y z concatenates_S4096x8_S4096x8_S4096x48_S4096x64_d1 t l ⟨l.val - 8, by omega⟩ (by show 8 + (l.val - 8) = l.val; omega)
    · rw [dif_neg h']
      exact beside_third x y z concatenates_S4096x8_S4096x8_S4096x48_S4096x64_d1 t l ⟨l.val - 16, by omega⟩ (by show 8 + 8 + (l.val - 16) = l.val; omega)

theorem here_eq (t : Fin 4096) (l : Fin 128) : V m c main_v37 (ix2 t l) = here (co t) (place l) := by
  have e : V m c main_v37 = twice (lanes cosines cosines ones48) := by
    rfl
  rw [e, twice_apply, lanes_apply]
  unfold here
  by_cases h : (place l).val < 8
  · rw [dif_pos h, dif_pos h]
    rfl
  · rw [dif_neg h, dif_neg h]
    by_cases h' : (place l).val < 16
    · rw [dif_pos h', dif_pos h']
      rfl
    · rw [dif_neg h', dif_neg h']
      exact ones48_apply _

theorem above_eq (t : Fin 4096) (l : Fin 128) : V m c main_v40 (ix2 t l) = above (si t) (place l) := by
  have e : V m c main_v40 = twice (lanes (Host.negf sines) zeros8 zeros48) := by
    rfl
  rw [e, twice_apply, lanes_apply]
  unfold above
  by_cases h : (place l).val < 8
  · rw [dif_pos h, dif_pos h]
    rfl
  · rw [dif_neg h, dif_neg h]
    by_cases h' : (place l).val < 16
    · rw [dif_pos h']
      exact zeros8_apply _
    · rw [dif_neg h']
      exact zeros48_apply _

theorem below_eq (t : Fin 4096) (l : Fin 128) : V m c main_v43 (ix2 t l) = below (si t) (place l) := by
  have e : V m c main_v43 = twice (lanes zeros8 sines zeros48) := by
    rfl
  rw [e, twice_apply, lanes_apply]
  unfold below
  by_cases h : (place l).val < 8
  · rw [dif_pos h, dif_neg (by omega)]
    exact zeros8_apply _
  · rw [dif_neg h]
    by_cases h' : (place l).val < 16
    · rw [dif_pos h', dif_pos ⟨by omega, h'⟩]
      rfl
    · rw [dif_neg h', dif_neg (by omega)]
      exact zeros48_apply _

end Cert.ProjHost

end
-- ==== Proof.Proj.Token.lean ====
/- What the projection gives at a token: the normed row through the weight's columns, the short convolution over three
   neighbouring tokens, the turned queries and keys, the values and the gates. -/
module

public import proofs.«01_k».proof.Proof.Layout
public import proofs.«01_k».proof.Proof.Proj.Row
public import proofs.«01_k».proof.Proof.Mix.Row

@[expose] public section

noncomputable section

namespace Cert.ProjToken

open Cert.MixRow Cert.ProjRow Idealize.ShloMosaic Idealize.ShloMosaic.ValueIdx

variable (x : (⟨3, ![8, 4096, 1024]⟩ : Shape).Idx → EReal) (g : (⟨2, ![1, 1024]⟩ : Shape).Idx → EReal)
  (w : (⟨3, ![1, 1024, 4352]⟩ : Shape).Idx → EReal) (sw : (⟨3, ![1, 3, 1536]⟩ : Shape).Idx → EReal)
  (sb : (⟨2, ![1, 1536]⟩ : Shape).Idx → EReal) (co si : Fin 4096 → Fin 8 → EReal)

/-- The normed row of a token. -/
def row (b : Fin 8) (t : Fin 4096) : Fin 1024 → EReal := norm (fun k => x (ix3 b t k)) (fun k => g (ix2 0 k))

/-- Column `j` of the projection. -/
def proj (b : Fin 8) (t : Fin 4096) (j : Fin 4352) : EReal := dot (row x g b t) (fun k => w (ix3 0 k j))

/-- The token before (nothing before the first) and the token after (nothing after the last). -/
def before (b : Fin 8) (t : Fin 4096) (j : Fin 4352) : EReal := if h : t.val = 0 then 0 else proj x g w b ⟨t.val - 1, by omega⟩ j
def behind (b : Fin 8) (t : Fin 4096) (j : Fin 4352) : EReal := if h : t.val = 4095 then 0 else proj x g w b ⟨t.val + 1, by omega⟩ j

/-- The short convolution's column `j`. -/
def conv (b : Fin 8) (t : Fin 4096) (j : Fin 1536) : EReal :=
  taps (before x g w b t ⟨j.val, by omega⟩) (proj x g w b t ⟨j.val, by omega⟩) (behind x g w b t ⟨j.val, by omega⟩)
    (sw (ix3 0 0 j)) (sw (ix3 0 1 j)) (sw (ix3 0 2 j)) (sb (ix2 0 j))

/-- Sixty-four columns from `o`. -/
def head (b : Fin 8) (t : Fin 4096) (o : Nat) (ho : o + 64 ≤ 4352) (e : Fin 64) : EReal := proj x g w b t ⟨o + e.val, by omega⟩

/-- Column `j` of the turned and scaled queries. -/
def query (b : Fin 8) (t : Fin 4096) (j : Fin 512) : EReal :=
  turn (head x g w b t (1536 + 64 * (j.val / 64)) (by omega)) (co t) (si t) ⟨j.val % 64, by omega⟩ * Ideal.ofBits .f32 0x3E38AA3B#32

/-- The turned key and the value of head `h`. -/
def key (b : Fin 8) (t : Fin 4096) (h : Fin 2) (e : Fin 64) : EReal := turn (head x g w b t (2048 + 64 * h.val) (by omega)) (co t) (si t) e
def value (b : Fin 8) (t : Fin 4096) (h : Fin 2) (e : Fin 64) : EReal := head x g w b t (2176 + 64 * h.val) (by omega) e

/-- Column `j` of the gates. -/
def gate (b : Fin 8) (t : Fin 4096) (j : Fin 2048) : EReal := Ideal.logistic (proj x g w b t ⟨2304 + j.val, by omega⟩)

/-- Column `128 s + l` of the convolution, as slab `s` holds it. -/
def stream (b : Fin 8) (s : Fin 12) (t : Fin 4096) (l : Fin 128) : EReal := conv x g w sw sb b t ⟨128 * s.val + l.val, by omega⟩

end Cert.ProjToken

end
-- ==== Proof.Proj.Tile.lean ====
/- The blocks a grid point of the projection kernel loads, and what its token rows are of the arguments. -/
module

public import proofs.«01_k».proof.Proof.Proj.Leaves
public import proofs.«01_k».proof.Proof.Proj.Host
public import proofs.«01_k».proof.Proof.Proj.Token
public import Idealize.ShloMosaic.Lib.Pipeline.ValueKit

@[expose] public section

noncomputable section

namespace Cert.ProjArray

open Cert.ProjIdeal Cert.ProjIdeal.Gen Cert.Layout Cert.MixRow Cert.ProjRow Cert.ProjHost Cert.ProjBlock Cert.ProjToken Idealize.ShloMosaic.TcCoe Idealize.ShloMosaic.ValueIdx
open Idealize.ShloMosaic hiding ix1 ix2 ix3 ix4
open Idealize.ShloMosaic.Pipeline (Dat)

variable (m : (ℓ : Loc nD τ sig) → Buf (Elt Ideal) ℓ) (c : Dev nD)

/-- The batch row of a grid point, its tile of 1024 tokens, and a token of the tile. -/
abbrev bt (t : Fin cfg0.N) : Fin 8 := ⟨(grid0.coords t 0).val, (grid0.coords t 0).isLt⟩
abbrev tile (t : Fin cfg0.N) : Fin 4 := ⟨(grid0.coords t 1).val, (grid0.coords t 1).isLt⟩
abbrev tok (t : Fin cfg0.N) (q : Fin 1024) : Fin 4096 := ⟨(tile t).val * 1024 + q.val, by omega⟩

theorem at0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem at1 : ∀ t : Fin cfg0.N, win0_1.index t = ![(grid0.coords t 0).val, (grid0.coords t 1).val * 64 - 1, 0] :=
  (by decide +kernel : ∀ t : Fin grid0.N, win0_1.index t = ![(grid0.coords t 0).val, (grid0.coords t 1).val * 64 - 1, 0])
theorem at2 : ∀ t : Fin cfg0.N, win0_2.index t = ![(grid0.coords t 0).val, min ((grid0.coords t 1).val * 64 + 64) 255, 0] :=
  (by decide +kernel : ∀ t : Fin grid0.N, win0_2.index t = ![(grid0.coords t 0).val, min ((grid0.coords t 1).val * 64 + 64) 255, 0])
theorem at3 : ∀ t : Fin cfg0.N, win0_3.index t = ![0, 0] :=
  (by decide +kernel : ∀ t : Fin grid0.N, win0_3.index t = ![0, 0])
theorem at4 : ∀ t : Fin cfg0.N, win0_4.index t = ![0, 0] :=
  (by decide +kernel : ∀ t : Fin grid0.N, win0_4.index t = ![0, 0])
theorem at5 : ∀ t : Fin cfg0.N, win0_5.index t = ![0, 0] :=
  (by decide +kernel : ∀ t : Fin grid0.N, win0_5.index t = ![0, 0])
theorem at6 : ∀ t : Fin cfg0.N, win0_6.index t = ![(grid0.coords t 1).val, 0] :=
  (by decide +kernel : ∀ t : Fin grid0.N, win0_6.index t = ![(grid0.coords t 1).val, 0])
theorem at7 : ∀ t : Fin cfg0.N, win0_7.index t = ![(grid0.coords t 1).val, 0] :=
  (by decide +kernel : ∀ t : Fin grid0.N, win0_7.index t = ![(grid0.coords t 1).val, 0])
theorem at8 : ∀ t : Fin cfg0.N, win0_8.index t = ![(grid0.coords t 1).val, 0] :=
  (by decide +kernel : ∀ t : Fin grid0.N, win0_8.index t = ![(grid0.coords t 1).val, 0])

/-- Whether a tile has one before it, and one after it. -/
theorem flag_before : ∀ t : Fin cfg0.N, (grid0.coords t 1).val = 0 → hasPrev (grid0.coords t) = 0#1 :=
  (by decide +kernel : ∀ t : Fin grid0.N, (grid0.coords t 1).val = 0 → hasPrev (grid0.coords t) = 0#1)
theorem flag_within : ∀ t : Fin cfg0.N, (grid0.coords t 1).val ≠ 0 → hasPrev (grid0.coords t) = 1#1 :=
  (by decide +kernel : ∀ t : Fin grid0.N, (grid0.coords t 1).val ≠ 0 → hasPrev (grid0.coords t) = 1#1)
theorem flag_last : ∀ t : Fin cfg0.N, (grid0.coords t 1).val = 3 → hasNext (grid0.coords t) = 0#1 :=
  (by decide +kernel : ∀ t : Fin grid0.N, (grid0.coords t 1).val = 3 → hasNext (grid0.coords t) = 0#1)
theorem flag_inside : ∀ t : Fin cfg0.N, (grid0.coords t 1).val ≠ 3 → hasNext (grid0.coords t) = 1#1 :=
  (by decide +kernel : ∀ t : Fin grid0.N, (grid0.coords t 1).val ≠ 3 → hasNext (grid0.coords t) = 1#1)

theorem blk0 (t : Fin cfg0.N) (q : Fin 1024) (k : Fin 1024) : iblk m c 0 t (ix3 0 q k) = V m c main_arg0 (ix3 (bt t) (tok t q) k) := by
  refine congrArg (V m c main_arg0) ?_
  blk_ext [at0]

theorem blk1 (t : Fin cfg0.N) (q : Fin 16) (k : Fin 1024) (r : Fin 4096) (hr : ((grid0.coords t 1).val * 64 - 1) * 16 + q.val = r.val) :
    iblk m c 1 t (ix3 0 q k) = V m c main_arg0 (ix3 (bt t) r k) := by
  refine congrArg (V m c main_arg0) ?_
  blk_ext [at1]

theorem blk2 (t : Fin cfg0.N) (q : Fin 16) (k : Fin 1024) (r : Fin 4096) (hr : min ((grid0.coords t 1).val * 64 + 64) 255 * 16 + q.val = r.val) :
    iblk m c 2 t (ix3 0 q k) = V m c main_arg0 (ix3 (bt t) r k) := by
  refine congrArg (V m c main_arg0) ?_
  blk_ext [at2]

theorem blk3 (t : Fin cfg0.N) (q : Fin 1) (k : Fin 1024) : iblk m c 3 t (ix2 q k) = V m c main_v6 (ix2 q k) := by
  refine congrArg (V m c main_v6) ?_
  blk_ext [at3]

theorem blk4 (t : Fin cfg0.N) (k : Fin 1024) (j : Fin 4352) : iblk m c 4 t (ix2 k j) = V m c main_v8 (ix2 k j) := by
  refine congrArg (V m c main_v8) ?_
  blk_ext [at4]

theorem blk5 (t : Fin cfg0.N) (r : Fin 8) (j : Fin 1536) : iblk m c 5 t (ix2 r j) = V m c main_v4 (ix2 r j) := by
  refine congrArg (V m c main_v4) ?_
  blk_ext [at5]

theorem blk6 (t : Fin cfg0.N) (q : Fin 1024) (l : Fin 128) : iblk m c 6 t (ix2 q l) = V m c main_v37 (ix2 (tok t q) l) := by
  refine congrArg (V m c main_v37) ?_
  blk_ext [at6]

theorem blk7 (t : Fin cfg0.N) (q : Fin 1024) (l : Fin 128) : iblk m c 7 t (ix2 q l) = V m c main_v40 (ix2 (tok t q) l) := by
  refine congrArg (V m c main_v40) ?_
  blk_ext [at7]

theorem blk8 (t : Fin cfg0.N) (q : Fin 1024) (l : Fin 128) : iblk m c 8 t (ix2 q l) = V m c main_v43 (ix2 (tok t q) l) := by
  refine congrArg (V m c main_v43) ?_
  blk_ext [at8]

/-! ## The rows a point computes from -/

/-- The arguments. -/
abbrev X : S8x4096x1024.Idx → EReal := m ((c : Thread nD τ).loc main_arg0)
abbrev G : S1x1024.Idx → EReal := m ((c : Thread nD τ).loc main_arg1)
abbrev W : S1x1024x4352.Idx → EReal := m ((c : Thread nD τ).loc main_arg2)
abbrev SW : S1x3x1536.Idx → EReal := m ((c : Thread nD τ).loc main_arg3)
abbrev SB : S1x1536.Idx → EReal := m ((c : Thread nD τ).loc main_arg4)

theorem gain_row (t : Fin cfg0.N) : rowOf (iblk m c 3 t) 0 = fun k => G m c (ix2 0 k) :=
  funext fun k => (blk3 m c t 0 k).trans (gain_eq m c k)

theorem column (t : Fin cfg0.N) (j : Fin 4352) : colOf (iblk m c 4 t) j = fun k => W m c (ix3 0 k j) :=
  funext fun k => (blk4 m c t k j).trans (weight_eq m c k j)

theorem own_eq (t : Fin cfg0.N) (q : Fin 1024) : own (iblk m c 0 t) (iblk m c 3 t) q = row (X m c) (G m c) (bt t) (tok t q) := by
  unfold own row
  rw [gain_row]
  exact congrArg (fun h => norm h _) (funext fun k => (blk0 m c t q k).trans (congrFun (V_main_arg0 m c) _))

theorem dot_own (t : Fin cfg0.N) (q : Fin 1024) (j : Fin 4352) :
    dot (own (iblk m c 0 t) (iblk m c 3 t) q) (colOf (iblk m c 4 t) j) = proj (X m c) (G m c) (W m c) (bt t) (tok t q) j := by
  rw [own_eq, column]
  rfl

theorem proj_at (b : Fin 8) (r r' : Fin 4096) (h : r.val = r'.val) (j : Fin 4352) :
    proj (X m c) (G m c) (W m c) b r j = proj (X m c) (G m c) (W m c) b r' j := by
  rw [Fin.ext h]

theorem dot_prior (t : Fin cfg0.N) (q : Fin 1024) (j : Fin 4352) :
    dot (prior (grid0.coords t) (iblk m c 0 t) (iblk m c 1 t) (iblk m c 3 t) q) (colOf (iblk m c 4 t) j)
      = before (X m c) (G m c) (W m c) (bt t) (tok t q) j := by
  unfold prior before
  by_cases hq : q.val = 0
  · rw [dif_pos hq]
    by_cases ht : (grid0.coords t 1).val = 0
    · rw [flag_before t ht, flag_false _ rfl, dif_pos (by show (grid0.coords t 1).val * 1024 + q.val = 0; omega)]
      exact dot_masked _ _
    · rw [flag_within t ht, flag_true _ rfl, dif_neg (by show ¬ (grid0.coords t 1).val * 1024 + q.val = 0; omega)]
      unfold proj row
      rw [column, gain_row]
      refine congrArg (fun h => dot h _) (funext fun k => (mul_one _).trans (congrFun (congrArg (fun h => norm h _) (funext fun k => ?_)) k))
      refine (blk1 m c t ⟨15, by decide⟩ k _ ?_).trans (congrFun (V_main_arg0 m c) _)
      show ((grid0.coords t 1).val * 64 - 1) * 16 + 15 = (grid0.coords t 1).val * 1024 + q.val - 1
      omega
  · rw [dif_neg hq, dif_neg (by show ¬ (grid0.coords t 1).val * 1024 + q.val = 0; omega)]
    refine (dot_own m c t _ j).trans (proj_at m c _ _ _ ?_ j)
    show (grid0.coords t 1).val * 1024 + (q.val - 1) = (grid0.coords t 1).val * 1024 + q.val - 1
    omega

theorem dot_later (t : Fin cfg0.N) (q : Fin 1024) (j : Fin 4352) :
    dot (later (grid0.coords t) (iblk m c 0 t) (iblk m c 2 t) (iblk m c 3 t) q) (colOf (iblk m c 4 t) j)
      = behind (X m c) (G m c) (W m c) (bt t) (tok t q) j := by
  have h4 : (grid0.coords t 1).val < 4 := (grid0.coords t 1).isLt
  unfold later behind
  by_cases hq : q.val = 1023
  · rw [dif_pos hq]
    by_cases ht : (grid0.coords t 1).val = 3
    · rw [flag_last t ht, flag_false _ rfl, dif_pos (by show (grid0.coords t 1).val * 1024 + q.val = 4095; omega)]
      exact dot_masked _ _
    · rw [flag_inside t ht, flag_true _ rfl, dif_neg (by show ¬ (grid0.coords t 1).val * 1024 + q.val = 4095; omega)]
      unfold proj row
      rw [column, gain_row]
      refine congrArg (fun h => dot h _) (funext fun k => (mul_one _).trans (congrFun (congrArg (fun h => norm h _) (funext fun k => ?_)) k))
      refine (blk2 m c t 0 k _ ?_).trans (congrFun (V_main_arg0 m c) _)
      show min ((grid0.coords t 1).val * 64 + 64) 255 * 16 + 0 = (grid0.coords t 1).val * 1024 + q.val + 1
      omega
  · rw [dif_neg hq, dif_neg (by show ¬ (grid0.coords t 1).val * 1024 + q.val = 4095; omega)]
    refine (dot_own m c t _ j).trans (proj_at m c _ _ _ ?_ j)
    show (grid0.coords t 1).val * 1024 + (q.val + 1) = (grid0.coords t 1).val * 1024 + q.val + 1
    omega

/-! ## What a point's blocks hold, from the arguments -/

theorem conv_at (t : Fin cfg0.N) (q : Fin 1024) (j : Fin 1536) :
    convAt (grid0.coords t) (iblk m c 0 t) (iblk m c 1 t) (iblk m c 2 t) (iblk m c 3 t) (iblk m c 4 t) (iblk m c 5 t) q j
      = conv (X m c) (G m c) (W m c) (SW m c) (SB m c) (bt t) (tok t q) j := by
  unfold convAt conv
  rw [dot_prior, dot_own, dot_later, blk5, blk5, blk5, blk5, tap_eq m c 0 0 rfl, tap_eq m c 1 1 rfl, tap_eq m c 2 2 rfl, bias_eq]

theorem lane_eq (t : Fin cfg0.N) (q : Fin 1024) (o : Nat) (ho : o + 64 ≤ 4352) :
    lane (iblk m c 0 t) (iblk m c 3 t) (iblk m c 4 t) o ho q = head (X m c) (G m c) (W m c) (bt t) (tok t q) o ho :=
  funext fun _ => dot_own m c t q _

theorem query_at (t : Fin cfg0.N) (q : Fin 1024) (j : Fin 512) :
    queryAt (iblk m c 0 t) (iblk m c 3 t) (iblk m c 4 t) (fun q => co (tok t q)) (fun q => si (tok t q)) q j
      = query (X m c) (G m c) (W m c) co si (bt t) (tok t q) j := by
  unfold queryAt query
  rw [lane_eq]

theorem key_at (t : Fin cfg0.N) (q : Fin 1024) :
    keyAt (iblk m c 0 t) (iblk m c 3 t) (iblk m c 4 t) (fun q => co (tok t q)) (fun q => si (tok t q)) q
      = key (X m c) (G m c) (W m c) co si (bt t) (tok t q) := by
  funext h e
  unfold keyAt key
  rw [lane_eq]

theorem value_at (t : Fin cfg0.N) (q : Fin 1024) :
    valueAt (iblk m c 0 t) (iblk m c 3 t) (iblk m c 4 t) q = value (X m c) (G m c) (W m c) (bt t) (tok t q) := by
  funext h e
  unfold valueAt value
  rw [lane_eq]

theorem gate_at (t : Fin cfg0.N) (q : Fin 1024) (j : Fin 2048) :
    gateAt (iblk m c 0 t) (iblk m c 3 t) (iblk m c 4 t) q j = gate (X m c) (G m c) (W m c) (bt t) (tok t q) j := by
  unfold gateAt gate
  rw [dot_own]

end Cert.ProjArray

end
-- ==== Proof.Proj.Array.lean ====
/- The projection kernel's five result arrays after the run, and the slices of their first eight batch rows. -/
module

public import proofs.«01_k».proof.Proof.Proj.Tile

@[expose] public section

noncomputable section

namespace Cert.ProjArray

open Cert.ProjIdeal Cert.ProjIdeal.Gen Cert.Layout Cert.MixRow Cert.ProjRow Cert.ProjHost Cert.ProjBlock Cert.ProjToken Idealize.ShloMosaic.TcCoe Idealize.ShloMosaic.ValueIdx
open Idealize.ShloMosaic hiding ix1 ix2 ix3 ix4
open Idealize.ShloMosaic.Pipeline (Dat)

variable (m : (ℓ : Loc nD τ sig) → Buf (Elt Ideal) ℓ) (c : Dev nD)

/-- A batch row of the eight as one of the twelve of the result arrays, and back. -/
abbrev up (b : Fin 8) : Fin 12 := ⟨b.val, by omega⟩
abbrev down (b : Fin 12) : Fin 8 := ⟨b.val % 8, by omega⟩
theorem down_up (b : Fin 8) : down (up b) = b := Fin.ext (Nat.mod_eq_of_lt b.isLt)

theorem first3 {a b : Nat} (y : (⟨3, ![1, a, b]⟩ : Shape).Idx) : y = ix3 0 (y 1) (y 2) := (ValueIdx.eq_ix3 y).trans (by
  have h0 : (y 0 : Fin 1) = (0 : Fin 1) := Fin.ext (by have h : (y 0).val < 1 := (y 0).isLt; show (y 0).val = 0; omega)
  exact congrArg (fun u => (ix3 u (y 1) (y 2) : (⟨3, ![1, a, b]⟩ : Shape).Idx)) h0)
theorem first4 {n a b : Nat} (y : (⟨4, ![1, n, a, b]⟩ : Shape).Idx) : y = ix4 0 (y 1) (y 2) (y 3) := (ValueIdx.eq_ix4 y).trans (by
  have h0 : (y 0 : Fin 1) = (0 : Fin 1) := Fin.ext (by have h : (y 0).val < 1 := (y 0).isLt; show (y 0).val = 0; omega)
  exact congrArg (fun u => (ix4 u (y 1) (y 2) (y 3) : (⟨4, ![1, n, a, b]⟩ : Shape).Idx)) h0)

/-- The tables of a point's tile. -/
theorem tables_here (t : Fin cfg0.N) (q : Fin 1024) (l : Fin 128) : iblk m c 6 t (ix2 q l) = here (co (tok t q)) (place l) :=
  (blk6 m c t q l).trans (here_eq m c _ l)
theorem tables_above (t : Fin cfg0.N) (q : Fin 1024) (l : Fin 128) : iblk m c 7 t (ix2 q l) = above (si (tok t q)) (place l) :=
  (blk7 m c t q l).trans (above_eq m c _ l)
theorem tables_below (t : Fin cfg0.N) (q : Fin 1024) (l : Fin 128) : iblk m c 8 t (ix2 q l) = below (si (tok t q)) (place l) :=
  (blk8 m c t q l).trans (below_eq m c _ l)

theorem at9 : ∀ t : Fin cfg0.N, win0_9.index t = ![(grid0.coords t 0).val, 0, (grid0.coords t 1).val, 0] :=
  (by decide +kernel : ∀ t : Fin grid0.N, win0_9.index t = ![(grid0.coords t 0).val, 0, (grid0.coords t 1).val, 0])

/-- The stream array: the rows the points write. -/
abbrev whole9 : S12x12x4096x128.Idx → EReal := fun i => stream (X m c) (G m c) (W m c) (SW m c) (SB m c) (down (i 0)) (i 1) (i 2) (i 3)

theorem final9 (b : Fin 8) (s : Fin 12) (t : Fin 4096) (l : Fin 128) : (dats m 0 c).arrAt 9 cfg0.N (ix4 (up b) s t l : S12x12x4096x128.Idx) = stream (X m c) (G m c) (W m c) (SW m c) (SB m c) b s t l := by
  refine ((dats m 0 c).arrAt_apply_of_coversWhere 9 (whole9 m c) (fun β => β 0 < 8) (by decide +kernel) (fun t hf y => ?_)
    (P := fun j => (j 0).val < 8) (fun j => ?_) (ix4 (up b) s t l : S12x12x4096x128.Idx)).trans ((if_pos b.isLt).trans ?_)
  · blk_simp
    rw [after0_9]
    have e : (win0_9.blk t).view.emb y = (ix4 (up (bt t)) (y 1) (tok t (y 2)) (y 3) : S12x12x4096x128.Idx) := by
      blk_ext [at9]
    rw [e]
    refine (congrArg (out0_9 (F := Ideal) (grid0.coords t) _ _ _ _ _ _ _ _ _) (first4 y)).trans ((block9 _ _ _ _ _ _ _ _ _ _ (y 1) (y 2) (y 3)).trans ?_)
    refine (conv_at m c t (y 2) _).trans ?_
    show _ = whole9 m c _
    unfold whole9
    rw [down_up]
    rfl
  · blk_simp [Pipeline.Window.cell_apply]
    rw [Nat.div_one]
  · show whole9 m c _ = _
    unfold whole9
    rw [down_up]

theorem at10 : ∀ t : Fin cfg0.N, win0_10.index t = ![(grid0.coords t 0).val, (grid0.coords t 1).val, 0] :=
  (by decide +kernel : ∀ t : Fin grid0.N, win0_10.index t = ![(grid0.coords t 0).val, (grid0.coords t 1).val, 0])

/-- The query array: the rows the points write. -/
abbrev whole10 : S12x4096x512.Idx → EReal := fun i => query (X m c) (G m c) (W m c) co si (down (i 0)) (i 1) (i 2)

theorem final10 (b : Fin 8) (t : Fin 4096) (j : Fin 512) : (dats m 0 c).arrAt 10 cfg0.N (ix3 (up b) t j : S12x4096x512.Idx) = query (X m c) (G m c) (W m c) co si b t j := by
  refine ((dats m 0 c).arrAt_apply_of_coversWhere 10 (whole10 m c) (fun β => β 0 < 8) (by decide +kernel) (fun t hf y => ?_)
    (P := fun j => (j 0).val < 8) (fun j => ?_) (ix3 (up b) t j : S12x4096x512.Idx)).trans ((if_pos b.isLt).trans ?_)
  · blk_simp
    rw [after0_10]
    have e : (win0_10.blk t).view.emb y = (ix3 (up (bt t)) (tok t (y 1)) (y 2) : S12x4096x512.Idx) := by
      blk_ext [at10]
    rw [e]
    refine (congrArg (out0_10 (F := Ideal) (grid0.coords t) _ _ _ _ _ _ _ _ _) (first3 y)).trans ((block10 _ _ _ _ _ _ _ _ _ _ (fun q => co (tok t q)) (fun q => si (tok t q)) (tables_here m c t) (tables_above m c t) (tables_below m c t) (y 1) (y 2)).trans ?_)
    refine (query_at m c t (y 1) (y 2)).trans ?_
    show _ = whole10 m c _
    unfold whole10
    rw [down_up]
  · blk_simp [Pipeline.Window.cell_apply]
    rw [Nat.div_one]
  · show whole10 m c _ = _
    unfold whole10
    rw [down_up]

theorem at11 : ∀ t : Fin cfg0.N, win0_11.index t = ![(grid0.coords t 0).val, 0, (grid0.coords t 1).val, 0] :=
  (by decide +kernel : ∀ t : Fin grid0.N, win0_11.index t = ![(grid0.coords t 0).val, 0, (grid0.coords t 1).val, 0])

/-- The key array: the rows the points write. -/
abbrev whole11 : S12x4x4096x128.Idx → EReal := fun i => slabLane (key (X m c) (G m c) (W m c) co si (down (i 0)) (i 2)) (i 1) (i 3)

theorem final11 (b : Fin 8) (s : Fin 4) (t : Fin 4096) (l : Fin 128) : (dats m 0 c).arrAt 11 cfg0.N (ix4 (up b) s t l : S12x4x4096x128.Idx) = slabLane (key (X m c) (G m c) (W m c) co si b t) s l := by
  refine ((dats m 0 c).arrAt_apply_of_coversWhere 11 (whole11 m c) (fun β => β 0 < 8) (by decide +kernel) (fun t hf y => ?_)
    (P := fun j => (j 0).val < 8) (fun j => ?_) (ix4 (up b) s t l : S12x4x4096x128.Idx)).trans ((if_pos b.isLt).trans ?_)
  · blk_simp
    rw [after0_11]
    have e : (win0_11.blk t).view.emb y = (ix4 (up (bt t)) (y 1) (tok t (y 2)) (y 3) : S12x4x4096x128.Idx) := by
      blk_ext [at11]
    rw [e]
    refine (congrArg (out0_11 (F := Ideal) (grid0.coords t) _ _ _ _ _ _ _ _ _) (first4 y)).trans ((block11 _ _ _ _ _ _ _ _ _ _ (fun q => co (tok t q)) (fun q => si (tok t q)) (tables_here m c t) (tables_above m c t) (tables_below m c t) (y 1) (y 2) (y 3)).trans ?_)
    refine (congrArg (fun z => slabLane z (y 1) (y 3)) (key_at m c t (y 2))).trans ?_
    show _ = whole11 m c _
    unfold whole11
    rw [down_up]
  · blk_simp [Pipeline.Window.cell_apply]
    rw [Nat.div_one]
  · show whole11 m c _ = _
    unfold whole11
    rw [down_up]

theorem at12 : ∀ t : Fin cfg0.N, win0_12.index t = ![(grid0.coords t 0).val, 0, (grid0.coords t 1).val, 0] :=
  (by decide +kernel : ∀ t : Fin grid0.N, win0_12.index t = ![(grid0.coords t 0).val, 0, (grid0.coords t 1).val, 0])

/-- The value array: the rows the points write. -/
abbrev whole12 : S12x4x4096x128.Idx → EReal := fun i => slabLane (value (X m c) (G m c) (W m c) (down (i 0)) (i 2)) (i 1) (i 3)

theorem final12 (b : Fin 8) (s : Fin 4) (t : Fin 4096) (l : Fin 128) : (dats m 0 c).arrAt 12 cfg0.N (ix4 (up b) s t l : S12x4x4096x128.Idx) = slabLane (value (X m c) (G m c) (W m c) b t) s l := by
  refine ((dats m 0 c).arrAt_apply_of_coversWhere 12 (whole12 m c) (fun β => β 0 < 8) (by decide +kernel) (fun t hf y => ?_)
    (P := fun j => (j 0).val < 8) (fun j => ?_) (ix4 (up b) s t l : S12x4x4096x128.Idx)).trans ((if_pos b.isLt).trans ?_)
  · blk_simp
    rw [after0_12]
    have e : (win0_12.blk t).view.emb y = (ix4 (up (bt t)) (y 1) (tok t (y 2)) (y 3) : S12x4x4096x128.Idx) := by
      blk_ext [at12]
    rw [e]
    refine (congrArg (out0_12 (F := Ideal) (grid0.coords t) _ _ _ _ _ _ _ _ _) (first4 y)).trans ((block12 _ _ _ _ _ _ _ _ _ _ (y 1) (y 2) (y 3)).trans ?_)
    refine (congrArg (fun z => slabLane z (y 1) (y 3)) (value_at m c t (y 2))).trans ?_
    show _ = whole12 m c _
    unfold whole12
    rw [down_up]
  · blk_simp [Pipeline.Window.cell_apply]
    rw [Nat.div_one]
  · show whole12 m c _ = _
    unfold whole12
    rw [down_up]

theorem at13 : ∀ t : Fin cfg0.N, win0_13.index t = ![(grid0.coords t 0).val, (grid0.coords t 1).val, 0] :=
  (by decide +kernel : ∀ t : Fin grid0.N, win0_13.index t = ![(grid0.coords t 0).val, (grid0.coords t 1).val, 0])

/-- The gate array: the rows the points write. -/
abbrev whole13 : S12x4096x2048.Idx → EReal := fun i => gate (X m c) (G m c) (W m c) (down (i 0)) (i 1) (i 2)

theorem final13 (b : Fin 8) (t : Fin 4096) (j : Fin 2048) : (dats m 0 c).arrAt 13 cfg0.N (ix3 (up b) t j : S12x4096x2048.Idx) = gate (X m c) (G m c) (W m c) b t j := by
  refine ((dats m 0 c).arrAt_apply_of_coversWhere 13 (whole13 m c) (fun β => β 0 < 8) (by decide +kernel) (fun t hf y => ?_)
    (P := fun j => (j 0).val < 8) (fun j => ?_) (ix3 (up b) t j : S12x4096x2048.Idx)).trans ((if_pos b.isLt).trans ?_)
  · blk_simp
    rw [after0_13]
    have e : (win0_13.blk t).view.emb y = (ix3 (up (bt t)) (tok t (y 1)) (y 2) : S12x4096x2048.Idx) := by
      blk_ext [at13]
    rw [e]
    refine (congrArg (out0_13 (F := Ideal) (grid0.coords t) _ _ _ _ _ _ _ _ _) (first3 y)).trans ((block13 _ _ _ _ _ _ _ _ _ _ (y 1) (y 2)).trans ?_)
    refine (gate_at m c t (y 1) (y 2)).trans ?_
    show _ = whole13 m c _
    unfold whole13
    rw [down_up]
  · blk_simp [Pipeline.Window.cell_apply]
    rw [Nat.div_one]
  · show whole13 m c _ = _
    unfold whole13
    rw [down_up]

end Cert.ProjArray

end
-- ==== Proof.Proj.Run.lean ====
/- The projection kernel's run: its five results, at every index, and its arguments unchanged. -/
module

public import proofs.«01_k».proof.Proof.Proj.Array

@[expose] public section

noncomputable section

namespace Cert.ProjArray

open Cert.ProjIdeal Cert.ProjIdeal.Gen Cert.ProjRow Cert.ProjHost Cert.ProjToken Idealize.ShloMosaic.TcCoe Idealize.ShloMosaic.ValueIdx
open Idealize.ShloMosaic hiding ix1 ix2 ix3 ix4
open Idealize.ShloMosaic.Pipeline (Dat)

variable (m : (ℓ : Loc nD τ sig) → Buf (Elt Ideal) ℓ) (c : Dev nD)

/-- What the lines after the call leave in a buffer. -/
abbrev after (b : Ref sig .tc) := Pipeline.afterTail₀ cfgs (dats m) 0 (V0 m) [hostOps1] c b

theorem tail9 : after m c main_v45 = (extractStridedSlice S8x12x4096x128 ![0, 0, 0, 0] ((dats m 0 c).arrAt 9 cfg0.N : FVec Ideal S12x12x4096x128 .bf16) slices_S12x12x4096x128_S8x12x4096x128_0_0_0_0 : FVec Ideal S8x12x4096x128 .bf16) := by
  have h := (dats m 0 c).withArrays_arrAt sharedIn0 (V0 m c) (A_eq m c) 9
  refine Eq.trans ?_ (congrArg (fun x : FVec Ideal S12x12x4096x128 .bf16 => (extractStridedSlice S8x12x4096x128 ![0, 0, 0, 0] x slices_S12x12x4096x128_S8x12x4096x128_0_0_0_0 : FVec Ideal S8x12x4096x128 .bf16)) h)
  rfl

theorem result9 (b : Fin 8) (s : Fin 12) (t : Fin 4096) (l : Fin 128) : after m c main_v45 (ix4 b s t l : S8x12x4096x128.Idx) = stream (X m c) (G m c) (W m c) (SW m c) (SB m c) b s t l := by
  rw [tail9]
  refine (extractStridedSlice_apply _ _ _ _ (ix4 (up b) s t l : S12x12x4096x128.Idx) (fun a => ?_)).trans (final9 m c b s t l)
  match a with
    | ⟨0, _⟩ => exact (Nat.zero_add _).symm
    | ⟨1, _⟩ => exact (Nat.zero_add _).symm
    | ⟨2, _⟩ => exact (Nat.zero_add _).symm
    | ⟨3, _⟩ => exact (Nat.zero_add _).symm

theorem tail10 : after m c main_v46 = (extractStridedSlice S8x4096x512 ![0, 0, 0] ((dats m 0 c).arrAt 10 cfg0.N : FVec Ideal S12x4096x512 .bf16) slices_S12x4096x512_S8x4096x512_0_0_0 : FVec Ideal S8x4096x512 .bf16) := by
  have h := (dats m 0 c).withArrays_arrAt sharedIn0 (V0 m c) (A_eq m c) 10
  refine Eq.trans ?_ (congrArg (fun x : FVec Ideal S12x4096x512 .bf16 => (extractStridedSlice S8x4096x512 ![0, 0, 0] x slices_S12x4096x512_S8x4096x512_0_0_0 : FVec Ideal S8x4096x512 .bf16)) h)
  rfl

theorem result10 (b : Fin 8) (t : Fin 4096) (j : Fin 512) : after m c main_v46 (ix3 b t j : S8x4096x512.Idx) = query (X m c) (G m c) (W m c) co si b t j := by
  rw [tail10]
  refine (extractStridedSlice_apply _ _ _ _ (ix3 (up b) t j : S12x4096x512.Idx) (fun a => ?_)).trans (final10 m c b t j)
  match a with
    | ⟨0, _⟩ => exact (Nat.zero_add _).symm
    | ⟨1, _⟩ => exact (Nat.zero_add _).symm
    | ⟨2, _⟩ => exact (Nat.zero_add _).symm

theorem tail11 : after m c main_v47 = (extractStridedSlice S8x4x4096x128 ![0, 0, 0, 0] ((dats m 0 c).arrAt 11 cfg0.N : FVec Ideal S12x4x4096x128 .bf16) slices_S12x4x4096x128_S8x4x4096x128_0_0_0_0 : FVec Ideal S8x4x4096x128 .bf16) := by
  have h := (dats m 0 c).withArrays_arrAt sharedIn0 (V0 m c) (A_eq m c) 11
  refine Eq.trans ?_ (congrArg (fun x : FVec Ideal S12x4x4096x128 .bf16 => (extractStridedSlice S8x4x4096x128 ![0, 0, 0, 0] x slices_S12x4x4096x128_S8x4x4096x128_0_0_0_0 : FVec Ideal S8x4x4096x128 .bf16)) h)
  rfl

theorem result11 (b : Fin 8) (s : Fin 4) (t : Fin 4096) (l : Fin 128) : after m c main_v47 (ix4 b s t l : S8x4x4096x128.Idx) = slabLane (key (X m c) (G m c) (W m c) co si b t) s l := by
  rw [tail11]
  refine (extractStridedSlice_apply _ _ _ _ (ix4 (up b) s t l : S12x4x4096x128.Idx) (fun a => ?_)).trans (final11 m c b s t l)
  match a with
    | ⟨0, _⟩ => exact (Nat.zero_add _).symm
    | ⟨1, _⟩ => exact (Nat.zero_add _).symm
    | ⟨2, _⟩ => exact (Nat.zero_add _).symm
    | ⟨3, _⟩ => exact (Nat.zero_add _).symm

theorem tail12 : after m c main_v48 = (extractStridedSlice S8x4x4096x128 ![0, 0, 0, 0] ((dats m 0 c).arrAt 12 cfg0.N : FVec Ideal S12x4x4096x128 .bf16) slices_S12x4x4096x128_S8x4x4096x128_0_0_0_0 : FVec Ideal S8x4x4096x128 .bf16) := by
  have h := (dats m 0 c).withArrays_arrAt sharedIn0 (V0 m c) (A_eq m c) 12
  refine Eq.trans ?_ (congrArg (fun x : FVec Ideal S12x4x4096x128 .bf16 => (extractStridedSlice S8x4x4096x128 ![0, 0, 0, 0] x slices_S12x4x4096x128_S8x4x4096x128_0_0_0_0 : FVec Ideal S8x4x4096x128 .bf16)) h)
  rfl

theorem result12 (b : Fin 8) (s : Fin 4) (t : Fin 4096) (l : Fin 128) : after m c main_v48 (ix4 b s t l : S8x4x4096x128.Idx) = slabLane (value (X m c) (G m c) (W m c) b t) s l := by
  rw [tail12]
  refine (extractStridedSlice_apply _ _ _ _ (ix4 (up b) s t l : S12x4x4096x128.Idx) (fun a => ?_)).trans (final12 m c b s t l)
  match a with
    | ⟨0, _⟩ => exact (Nat.zero_add _).symm
    | ⟨1, _⟩ => exact (Nat.zero_add _).symm
    | ⟨2, _⟩ => exact (Nat.zero_add _).symm
    | ⟨3, _⟩ => exact (Nat.zero_add _).symm

theorem tail13 : after m c main_v49 = (extractStridedSlice S8x4096x2048 ![0, 0, 0] ((dats m 0 c).arrAt 13 cfg0.N : FVec Ideal S12x4096x2048 .bf16) slices_S12x4096x2048_S8x4096x2048_0_0_0 : FVec Ideal S8x4096x2048 .bf16) := by
  have h := (dats m 0 c).withArrays_arrAt sharedIn0 (V0 m c) (A_eq m c) 13
  refine Eq.trans ?_ (congrArg (fun x : FVec Ideal S12x4096x2048 .bf16 => (extractStridedSlice S8x4096x2048 ![0, 0, 0] x slices_S12x4096x2048_S8x4096x2048_0_0_0 : FVec Ideal S8x4096x2048 .bf16)) h)
  rfl

theorem result13 (b : Fin 8) (t : Fin 4096) (j : Fin 2048) : after m c main_v49 (ix3 b t j : S8x4096x2048.Idx) = gate (X m c) (G m c) (W m c) b t j := by
  rw [tail13]
  refine (extractStridedSlice_apply _ _ _ _ (ix3 (up b) t j : S12x4096x2048.Idx) (fun a => ?_)).trans (final13 m c b t j)
  match a with
    | ⟨0, _⟩ => exact (Nat.zero_add _).symm
    | ⟨1, _⟩ => exact (Nat.zero_add _).symm
    | ⟨2, _⟩ => exact (Nat.zero_add _).symm

end Cert.ProjArray

end
-- ==== Proof.Proj.Strips.lean ====
/- How the projection's reference lays out heads: cutting a head's lanes, turning them, joining them again, and setting a
   head's lanes beside zeros in a strip of a slab. -/
module

public import proofs.«01_k».proof.Proof.Proj.Layout
public import proofs.«01_k».proof.Proof.Proj.Row

@[expose] public section

noncomputable section

namespace Cert.ProjStrips

open Cert.ProjRow Idealize.ShloMosaic Idealize.ShloMosaic.ValueIdx

variable {α : Type}

/-- Some of the lanes of a rank-4 array. -/
theorem cut4 {a b n w v : Nat} (o : Nat) (x : (⟨4, ![a, b, n, v]⟩ : Shape).Idx → α)
    (h : (⟨4, ![a, b, n, v]⟩ : Shape).Slices ![0, 0, 0, o] ⟨4, ![a, b, n, w]⟩) (i : Fin a) (j : Fin b) (k : Fin n) (l : Fin w) (l' : Fin v)
    (hl : l'.val = o + l.val) : extractStridedSlice ⟨4, ![a, b, n, w]⟩ ![0, 0, 0, o] x h (ix4 i j k l) = x (ix4 i j k l') :=
  extractStridedSlice_apply _ x h _ _ fun e => by
    match e with
    | ⟨0, _⟩ => exact (Nat.zero_add _).symm
    | ⟨1, _⟩ => exact (Nat.zero_add _).symm
    | ⟨2, _⟩ => exact (Nat.zero_add _).symm
    | ⟨3, _⟩ => exact hl

/-- Some of the columns, and some of the rows, of a rank-3 array. -/
theorem cut3 {a b w v : Nat} (o : Nat) (x : (⟨3, ![a, b, v]⟩ : Shape).Idx → α)
    (h : (⟨3, ![a, b, v]⟩ : Shape).Slices ![0, 0, o] ⟨3, ![a, b, w]⟩) (i : Fin a) (j : Fin b) (l : Fin w) (l' : Fin v)
    (hl : l'.val = o + l.val) : extractStridedSlice ⟨3, ![a, b, w]⟩ ![0, 0, o] x h (ix3 i j l) = x (ix3 i j l') :=
  extractStridedSlice_apply _ x h _ _ fun e => by
    match e with
    | ⟨0, _⟩ => exact (Nat.zero_add _).symm
    | ⟨1, _⟩ => exact (Nat.zero_add _).symm
    | ⟨2, _⟩ => exact hl

theorem cutRows3 {a b w v : Nat} (o : Nat) (x : (⟨3, ![a, v, b]⟩ : Shape).Idx → α)
    (h : (⟨3, ![a, v, b]⟩ : Shape).Slices ![0, o, 0] ⟨3, ![a, w, b]⟩) (i : Fin a) (l : Fin w) (j : Fin b) (l' : Fin v)
    (hl : l'.val = o + l.val) : extractStridedSlice ⟨3, ![a, w, b]⟩ ![0, o, 0] x h (ix3 i l j) = x (ix3 i l' j) :=
  extractStridedSlice_apply _ x h _ _ fun e => by
    match e with
    | ⟨0, _⟩ => exact (Nat.zero_add _).symm
    | ⟨1, _⟩ => exact hl
    | ⟨2, _⟩ => exact (Nat.zero_add _).symm

/-- Two runs of lanes side by side. -/
theorem join4_left {a b n p q s : Nat} (x : (⟨4, ![a, b, n, p]⟩ : Shape).Idx → α) (y : (⟨4, ![a, b, n, q]⟩ : Shape).Idx → α)
    (h : Shape.Concatenates [⟨4, ![a, b, n, p]⟩, ⟨4, ![a, b, n, q]⟩] ⟨4, ![a, b, n, s]⟩ 3) (i : Fin a) (j : Fin b) (k : Fin n) (l : Fin s)
    (l' : Fin p) (hl : l'.val = l.val) :
    concatenate ⟨4, ![a, b, n, s]⟩ 3 [⟨⟨4, ![a, b, n, p]⟩, x⟩, ⟨⟨4, ![a, b, n, q]⟩, y⟩] h (ix4 i j k l) = x (ix4 i j k l') :=
  concatenate_apply_piece (t := ⟨4, ![a, b, n, s]⟩) 3 [⟨⟨4, ![a, b, n, p]⟩, x⟩, ⟨⟨4, ![a, b, n, q]⟩, y⟩] h (ix4 i j k l) 0 (by simp)
    ⟨4, ![a, b, n, p]⟩ x rfl rfl 0 rfl (ix4 i j k l') (fun e he => by
      match e with
      | ⟨0, _⟩ => rfl
      | ⟨1, _⟩ => rfl
      | ⟨2, _⟩ => rfl
      | ⟨3, _⟩ => exact absurd rfl he) (by show 0 + l'.val = l.val; omega)

theorem join4_right {a b n p q s : Nat} (x : (⟨4, ![a, b, n, p]⟩ : Shape).Idx → α) (y : (⟨4, ![a, b, n, q]⟩ : Shape).Idx → α)
    (h : Shape.Concatenates [⟨4, ![a, b, n, p]⟩, ⟨4, ![a, b, n, q]⟩] ⟨4, ![a, b, n, s]⟩ 3) (i : Fin a) (j : Fin b) (k : Fin n) (l : Fin s)
    (l' : Fin q) (hl : p + l'.val = l.val) :
    concatenate ⟨4, ![a, b, n, s]⟩ 3 [⟨⟨4, ![a, b, n, p]⟩, x⟩, ⟨⟨4, ![a, b, n, q]⟩, y⟩] h (ix4 i j k l) = y (ix4 i j k l') :=
  concatenate_apply_piece (t := ⟨4, ![a, b, n, s]⟩) 3 [⟨⟨4, ![a, b, n, p]⟩, x⟩, ⟨⟨4, ![a, b, n, q]⟩, y⟩] h (ix4 i j k l) 1 (by simp)
    ⟨4, ![a, b, n, q]⟩ y rfl rfl p rfl (ix4 i j k l') (fun e he => by
      match e with
      | ⟨0, _⟩ => rfl
      | ⟨1, _⟩ => rfl
      | ⟨2, _⟩ => rfl
      | ⟨3, _⟩ => exact absurd rfl he) hl

/-- Two runs of columns side by side. -/
theorem join3_left {a b p q s : Nat} (x : (⟨3, ![a, b, p]⟩ : Shape).Idx → α) (y : (⟨3, ![a, b, q]⟩ : Shape).Idx → α)
    (h : Shape.Concatenates [⟨3, ![a, b, p]⟩, ⟨3, ![a, b, q]⟩] ⟨3, ![a, b, s]⟩ 2) (i : Fin a) (j : Fin b) (l : Fin s)
    (l' : Fin p) (hl : l'.val = l.val) :
    concatenate ⟨3, ![a, b, s]⟩ 2 [⟨⟨3, ![a, b, p]⟩, x⟩, ⟨⟨3, ![a, b, q]⟩, y⟩] h (ix3 i j l) = x (ix3 i j l') :=
  concatenate_apply_piece (t := ⟨3, ![a, b, s]⟩) 2 [⟨⟨3, ![a, b, p]⟩, x⟩, ⟨⟨3, ![a, b, q]⟩, y⟩] h (ix3 i j l) 0 (by simp)
    ⟨3, ![a, b, p]⟩ x rfl rfl 0 rfl (ix3 i j l') (fun e he => by
      match e with
      | ⟨0, _⟩ => rfl
      | ⟨1, _⟩ => rfl
      | ⟨2, _⟩ => exact absurd rfl he) (by show 0 + l'.val = l.val; omega)

theorem join3_right {a b p q s : Nat} (x : (⟨3, ![a, b, p]⟩ : Shape).Idx → α) (y : (⟨3, ![a, b, q]⟩ : Shape).Idx → α)
    (h : Shape.Concatenates [⟨3, ![a, b, p]⟩, ⟨3, ![a, b, q]⟩] ⟨3, ![a, b, s]⟩ 2) (i : Fin a) (j : Fin b) (l : Fin s)
    (l' : Fin q) (hl : p + l'.val = l.val) :
    concatenate ⟨3, ![a, b, s]⟩ 2 [⟨⟨3, ![a, b, p]⟩, x⟩, ⟨⟨3, ![a, b, q]⟩, y⟩] h (ix3 i j l) = y (ix3 i j l') :=
  concatenate_apply_piece (t := ⟨3, ![a, b, s]⟩) 2 [⟨⟨3, ![a, b, p]⟩, x⟩, ⟨⟨3, ![a, b, q]⟩, y⟩] h (ix3 i j l) 1 (by simp)
    ⟨3, ![a, b, q]⟩ y rfl rfl p rfl (ix3 i j l') (fun e he => by
      match e with
      | ⟨0, _⟩ => rfl
      | ⟨1, _⟩ => rfl
      | ⟨2, _⟩ => exact absurd rfl he) hl

/-! ## The rotary turn -/

section Turn

variable {n : Nat} (hb : (⟨2, ![4096, 8]⟩ : Shape).BroadcastsInDim ⟨4, ![1, 4096, 1, 8]⟩ ![1, 3])
  (hb' : (⟨4, ![1, 4096, 1, 8]⟩ : Shape).BroadcastsInDim ⟨4, ![8, 4096, n, 8]⟩ ![0, 1, 2, 3])
  (h16 : (⟨4, ![8, 4096, n, 64]⟩ : Shape).Slices ![0, 0, 0, 0] ⟨4, ![8, 4096, n, 16]⟩)
  (h0 : (⟨4, ![8, 4096, n, 16]⟩ : Shape).Slices ![0, 0, 0, 0] ⟨4, ![8, 4096, n, 8]⟩)
  (h8 : (⟨4, ![8, 4096, n, 16]⟩ : Shape).Slices ![0, 0, 0, 8] ⟨4, ![8, 4096, n, 8]⟩)
  (h48 : (⟨4, ![8, 4096, n, 64]⟩ : Shape).Slices ![0, 0, 0, 16] ⟨4, ![8, 4096, n, 48]⟩)
  (hc : Shape.Concatenates [⟨4, ![8, 4096, n, 8]⟩, ⟨4, ![8, 4096, n, 8]⟩] ⟨4, ![8, 4096, n, 16]⟩ 3)
  (hc' : Shape.Concatenates [⟨4, ![8, 4096, n, 16]⟩, ⟨4, ![8, 4096, n, 48]⟩] ⟨4, ![8, 4096, n, 64]⟩ 3)

/-- A table of eight lanes a token, for every batch row and head. -/
abbrev table (T : FVec Ideal ⟨2, ![4096, 8]⟩ .f32) : FVec Ideal ⟨4, ![8, 4096, n, 8]⟩ .f32 :=
  broadcastInDim ⟨4, ![8, 4096, n, 8]⟩ ![0, 1, 2, 3] hb' (broadcastInDim ⟨4, ![1, 4096, 1, 8]⟩ ![1, 3] hb T)

theorem table_apply (T : FVec Ideal ⟨2, ![4096, 8]⟩ .f32) (b : Fin 8) (t : Fin 4096) (k : Fin n) (j : Fin 8) :
    table hb hb' T (ix4 b t k j) = T (ix2 t j) :=
  (broadcastInDim_apply _ _ _ _ (ix4 0 t 0 j) (fun a => by
    match a with
    | ⟨0, _⟩ => rfl
    | ⟨1, _⟩ => rfl
    | ⟨2, _⟩ => rfl
    | ⟨3, _⟩ => rfl)).trans (broadcastInDim_apply _ _ _ _ (ix2 t j) (fun a => by
    match a with
    | ⟨0, _⟩ => rfl
    | ⟨1, _⟩ => rfl))

abbrev low (x : FVec Ideal ⟨4, ![8, 4096, n, 64]⟩ .f32) : FVec Ideal ⟨4, ![8, 4096, n, 8]⟩ .f32 :=
  extractStridedSlice ⟨4, ![8, 4096, n, 8]⟩ ![0, 0, 0, 0] (extractStridedSlice ⟨4, ![8, 4096, n, 16]⟩ ![0, 0, 0, 0] x h16) h0
abbrev high (x : FVec Ideal ⟨4, ![8, 4096, n, 64]⟩ .f32) : FVec Ideal ⟨4, ![8, 4096, n, 8]⟩ .f32 :=
  extractStridedSlice ⟨4, ![8, 4096, n, 8]⟩ ![0, 0, 0, 8] (extractStridedSlice ⟨4, ![8, 4096, n, 16]⟩ ![0, 0, 0, 0] x h16) h8

theorem low_apply (x : FVec Ideal ⟨4, ![8, 4096, n, 64]⟩ .f32) (b : Fin 8) (t : Fin 4096) (k : Fin n) (j : Fin 8) (e : Fin 64) (he : e.val = j.val) :
    low h16 h0 x (ix4 b t k j) = x (ix4 b t k e) :=
  (cut4 0 _ h0 b t k j ⟨j.val, by omega⟩ (Nat.zero_add _).symm).trans (cut4 0 x h16 b t k _ e (he.trans (Nat.zero_add _).symm))
theorem high_apply (x : FVec Ideal ⟨4, ![8, 4096, n, 64]⟩ .f32) (b : Fin 8) (t : Fin 4096) (k : Fin n) (j : Fin 8) (e : Fin 64) (he : e.val = j.val + 8) :
    high h16 h8 x (ix4 b t k j) = x (ix4 b t k e) :=
  (cut4 8 _ h8 b t k j ⟨8 + j.val, by omega⟩ rfl).trans (cut4 0 x h16 b t k _ e (by show e.val = 0 + (8 + j.val); omega))

/-- A head's first sixteen lanes turned by the tables, its others kept. -/
abbrev turnHeads (x : FVec Ideal ⟨4, ![8, 4096, n, 64]⟩ .f32) (C S : FVec Ideal ⟨2, ![4096, 8]⟩ .f32) : FVec Ideal ⟨4, ![8, 4096, n, 64]⟩ .f32 :=
  concatenate ⟨4, ![8, 4096, n, 64]⟩ 3 [⟨⟨4, ![8, 4096, n, 16]⟩, concatenate ⟨4, ![8, 4096, n, 16]⟩ 3
      [⟨⟨4, ![8, 4096, n, 8]⟩, subf (mulf (low h16 h0 x) (table hb hb' C)) (mulf (high h16 h8 x) (table hb hb' S))⟩,
       ⟨⟨4, ![8, 4096, n, 8]⟩, addf (mulf (high h16 h8 x) (table hb hb' C)) (mulf (low h16 h0 x) (table hb hb' S))⟩] hc⟩,
    ⟨⟨4, ![8, 4096, n, 48]⟩, extractStridedSlice ⟨4, ![8, 4096, n, 48]⟩ ![0, 0, 0, 16] x h48⟩] hc'

theorem turnHeads_apply (x : FVec Ideal ⟨4, ![8, 4096, n, 64]⟩ .f32) (C S : FVec Ideal ⟨2, ![4096, 8]⟩ .f32)
    (b : Fin 8) (t : Fin 4096) (k : Fin n) (e : Fin 64) :
    turnHeads hb hb' h16 h0 h8 h48 hc hc' x C S (ix4 b t k e)
      = turn (fun e => x (ix4 b t k e)) (fun j => C (ix2 t j)) (fun j => S (ix2 t j)) e := by
  unfold turn
  by_cases h : e.val < 8
  · rw [dif_pos h]
    refine (join4_left _ _ hc' b t k e ⟨e.val, by omega⟩ rfl).trans ((join4_left _ _ hc b t k ⟨e.val, by omega⟩ ⟨e.val, h⟩ rfl).trans ?_)
    exact congrArg₂ (· - ·) (congrArg₂ (· * ·) (low_apply h16 h0 x b t k _ _ rfl) (table_apply hb hb' C b t k _))
      (congrArg₂ (· * ·) (high_apply h16 h8 x b t k _ _ rfl) (table_apply hb hb' S b t k _))
  · rw [dif_neg h]
    by_cases h' : e.val < 16
    · rw [dif_pos h']
      refine (join4_left _ _ hc' b t k e ⟨e.val, h'⟩ rfl).trans
        ((join4_right _ _ hc b t k ⟨e.val, h'⟩ ⟨e.val - 8, by omega⟩ (by show 8 + (e.val - 8) = e.val; omega)).trans ?_)
      exact congrArg₂ (· + ·) (congrArg₂ (· * ·) (high_apply h16 h8 x b t k _ _ (by show e.val = e.val - 8 + 8; omega)) (table_apply hb hb' C b t k _))
        (congrArg₂ (· * ·) (low_apply h16 h0 x b t k _ _ rfl) (table_apply hb hb' S b t k _))
    · rw [dif_neg h']
      exact (join4_right _ _ hc' b t k e ⟨e.val - 16, by omega⟩ (by show 16 + (e.val - 16) = e.val; omega)).trans
        (cut4 16 x h48 b t k _ e (by show e.val = 16 + (e.val - 16); omega))

end Turn

/-! ## The slabs -/

section Slabs

variable (hc : Shape.Concatenates [⟨4, ![8, 4096, 2, 64]⟩, ⟨4, ![8, 4096, 2, 64]⟩] ⟨4, ![8, 4096, 2, 128]⟩ 3)
  (hb : (⟨4, ![8, 4096, 2, 128]⟩ : Shape).BroadcastsInDim ⟨5, ![8, 4096, 2, 1, 128]⟩ ![0, 1, 2, 4])
  (hc' : Shape.Concatenates [⟨5, ![8, 4096, 2, 1, 128]⟩, ⟨5, ![8, 4096, 2, 1, 128]⟩] ⟨5, ![8, 4096, 2, 2, 128]⟩ 3)
  (hs : (⟨5, ![8, 4096, 2, 2, 128]⟩ : Shape).ShapeCasts ⟨4, ![8, 4096, 4, 128]⟩)
  (ht : (⟨4, ![8, 4096, 4, 128]⟩ : Shape).Transposes [0, 2, 1, 3] ⟨4, ![8, 4, 4096, 128]⟩)

abbrev spread (x : FVec Ideal ⟨4, ![8, 4096, 2, 128]⟩ .f32) : FVec Ideal ⟨5, ![8, 4096, 2, 1, 128]⟩ .f32 :=
  broadcastInDim ⟨5, ![8, 4096, 2, 1, 128]⟩ ![0, 1, 2, 4] hb x

theorem spread_apply (x : FVec Ideal ⟨4, ![8, 4096, 2, 128]⟩ .f32) (b : Fin 8) (t : Fin 4096) (k : Fin 2) (u : Fin 1) (l : Fin 128) :
    spread hb x (ix5 b t k u l) = x (ix4 b t k l) :=
  broadcastInDim_apply _ _ _ _ (ix4 b t k l) (fun a => by
    match a with
    | ⟨0, _⟩ => rfl
    | ⟨1, _⟩ => rfl
    | ⟨2, _⟩ => rfl
    | ⟨3, _⟩ => rfl)

abbrev pair (x y : FVec Ideal ⟨5, ![8, 4096, 2, 1, 128]⟩ .f32) : FVec Ideal ⟨5, ![8, 4096, 2, 2, 128]⟩ .f32 :=
  concatenate ⟨5, ![8, 4096, 2, 2, 128]⟩ 3 [⟨⟨5, ![8, 4096, 2, 1, 128]⟩, x⟩, ⟨⟨5, ![8, 4096, 2, 1, 128]⟩, y⟩] hc'

theorem pair_first (x y : FVec Ideal ⟨5, ![8, 4096, 2, 1, 128]⟩ .f32) (b : Fin 8) (t : Fin 4096) (k r : Fin 2) (hr : r.val = 0) (l : Fin 128) :
    pair hc' x y (ix5 b t k r l) = x (ix5 b t k 0 l) :=
  concatenate_apply_piece (t := ⟨5, ![8, 4096, 2, 2, 128]⟩) 3 [⟨⟨5, ![8, 4096, 2, 1, 128]⟩, x⟩, ⟨⟨5, ![8, 4096, 2, 1, 128]⟩, y⟩] hc' (ix5 b t k r l) 0 (by simp)
    ⟨5, ![8, 4096, 2, 1, 128]⟩ x rfl rfl 0 rfl (ix5 b t k 0 l) (fun e he => by
      match e with
      | ⟨0, _⟩ => rfl
      | ⟨1, _⟩ => rfl
      | ⟨2, _⟩ => rfl
      | ⟨3, _⟩ => exact absurd rfl he
      | ⟨4, _⟩ => rfl) (by show 0 + 0 = r.val; omega)

theorem pair_second (x y : FVec Ideal ⟨5, ![8, 4096, 2, 1, 128]⟩ .f32) (b : Fin 8) (t : Fin 4096) (k r : Fin 2) (hr : r.val = 1) (l : Fin 128) :
    pair hc' x y (ix5 b t k r l) = y (ix5 b t k 0 l) :=
  concatenate_apply_piece (t := ⟨5, ![8, 4096, 2, 2, 128]⟩) 3 [⟨⟨5, ![8, 4096, 2, 1, 128]⟩, x⟩, ⟨⟨5, ![8, 4096, 2, 1, 128]⟩, y⟩] hc' (ix5 b t k r l) 1 (by simp)
    ⟨5, ![8, 4096, 2, 1, 128]⟩ y rfl rfl 1 rfl (ix5 b t k 0 l) (fun e he => by
      match e with
      | ⟨0, _⟩ => rfl
      | ⟨1, _⟩ => rfl
      | ⟨2, _⟩ => rfl
      | ⟨3, _⟩ => exact absurd rfl he
      | ⟨4, _⟩ => rfl) (by show 1 + 0 = r.val; omega)

/-- A head's lanes beside zeros. -/
abbrev beside (x y : FVec Ideal ⟨4, ![8, 4096, 2, 64]⟩ .f32) : FVec Ideal ⟨4, ![8, 4096, 2, 128]⟩ .f32 :=
  concatenate ⟨4, ![8, 4096, 2, 128]⟩ 3 [⟨⟨4, ![8, 4096, 2, 64]⟩, x⟩, ⟨⟨4, ![8, 4096, 2, 64]⟩, y⟩] hc

/-- The four slabs: each head twice, in a strip's low lanes and in its high lanes. -/
abbrev slabs (x z : FVec Ideal ⟨4, ![8, 4096, 2, 64]⟩ .f32) : FVec Ideal ⟨4, ![8, 4, 4096, 128]⟩ .f32 :=
  transpose ⟨4, ![8, 4, 4096, 128]⟩ [0, 2, 1, 3] (shapeCast ⟨4, ![8, 4096, 4, 128]⟩ (pair hc' (spread hb (beside hc x z)) (spread hb (beside hc z x))) hs) ht

theorem slabs_apply (x z : FVec Ideal ⟨4, ![8, 4096, 2, 64]⟩ .f32) (hz : ∀ i, z i = 0) (b : Fin 8) (s : Fin 4) (t : Fin 4096) (l : Fin 128) :
    slabs hc hb hc' hs ht x z (ix4 b s t l) = slabLane (fun h e => x (ix4 b t h e)) s l := by
  refine (transpose_apply (t := ⟨4, ![8, 4, 4096, 128]⟩) _ _ ht _ (ix4 b t s l) (fun a => by
    match a with
    | ⟨0, _⟩ => rfl
    | ⟨1, _⟩ => rfl
    | ⟨2, _⟩ => rfl
    | ⟨3, _⟩ => rfl)).trans ((shapeCast_apply _ hs _ (ix5 b t ⟨s.val / 2, by omega⟩ ⟨s.val % 2, by omega⟩ l) ?_).trans ?_)
  · refine (Shape.rowMajor_val_five (d := ![8, 4096, 2, 2, 128]) _).trans (Eq.trans ?_ (Shape.rowMajor_val_four _).symm)
    show (((b.val * 4096 + t.val) * 2 + s.val / 2) * 2 + s.val % 2) * 128 + l.val = ((b.val * 4096 + t.val) * 4 + s.val) * 128 + l.val
    omega
  unfold slabLane
  by_cases h : s.val % 2 = 0
  · refine (pair_first hc' _ _ b t _ _ h l).trans ((spread_apply hb _ b t _ 0 l).trans ?_)
    by_cases hl : l.val < 64
    · rw [if_pos (by omega)]
      exact join4_left x z hc b t _ l ⟨l.val % 64, by omega⟩ (by show l.val % 64 = l.val; omega)
    · rw [if_neg (by omega)]
      exact (join4_right x z hc b t _ l ⟨l.val - 64, by omega⟩ (by show 64 + (l.val - 64) = l.val; omega)).trans (hz _)
  · refine (pair_second hc' _ _ b t _ _ (by show s.val % 2 = 1; omega) l).trans ((spread_apply hb _ b t _ 0 l).trans ?_)
    by_cases hl : l.val < 64
    · rw [if_neg (by omega)]
      exact (join4_left z x hc b t _ l ⟨l.val, hl⟩ rfl).trans (hz _)
    · rw [if_pos (by omega)]
      exact join4_right z x hc b t _ l ⟨l.val % 64, by omega⟩ (by show 64 + l.val % 64 = l.val; omega)

end Slabs

end Cert.ProjStrips

end
-- ==== Proof.Proj.RefRow.lean ====
/- The projection's reference, read at a token: the normed row through the weight, cut into its strips. -/
module

public import proofs.«01_k».proof.Proof.Proj.Strips
public import proofs.«01_k».proof.Proof.Proj.Token
public import proofs.«01_k».proof.Proof.Gen.ProjRefIdeal.Read
public import Idealize.ShloMosaic.Lib.IdealHost

@[expose] public section

noncomputable section

namespace Cert.ProjRefRow

open Cert.ProjRefIdeal Cert.ProjRefIdeal.Gen Cert.ProjRefIdeal.Read Cert.MixRow Cert.ProjRow Cert.ProjToken Cert.ProjStrips Idealize.ShloMosaic.ValueIdx
open Idealize.ShloMosaic

variable (x0 : (⟨S8x4096x1024, .f32⟩ : BufTy).Contents (Elt Ideal)) (x1 : (⟨S1x1024, .f32⟩ : BufTy).Contents (Elt Ideal))
  (x2 : (⟨S1x1024x4352, .f32⟩ : BufTy).Contents (Elt Ideal)) (x3 : (⟨S1x3x1536, .f32⟩ : BufTy).Contents (Elt Ideal))
  (x4 : (⟨S1x1536, .f32⟩ : BufTy).Contents (Elt Ideal))
variable (b : Fin 8) (t : Fin 4096)

/-! ## The projection -/

theorem row_eq (k : Fin 1024) : val_main_v13 (F := Ideal) x0 x1 (ix3 b t k) = row x0 x1 b t k := by
  have hs : val_main_v2 (F := Ideal) x0 (ix2 b t) = ∑ k : Fin 1024, x0 (ix3 b t k) * x0 (ix3 b t k) := by
    rw [val_main_v2_apply]
    refine (congrArg (· + _) Ideal.ofBits_zero_f32).trans ((zero_add _).trans (Finset.sum_congr rfl fun k _ => ?_))
    exact congrArg (fun i => x0 i * x0 i) (funext fun a => by
    match a with
    | ⟨0, _⟩ => rfl
    | ⟨1, _⟩ => rfl
    | ⟨2, _⟩ => rfl)
  rw [val_main_v13_apply, val_main_v10_apply, val_main_v9_apply, val_main_v8_apply, val_main_v7_apply, val_main_v5_apply, val_main_v3_apply, val_main_v12_apply, val_main_v11_apply, val_main_v0_apply, val_main_v6_apply, val_main_v4_apply]
  unfold row
  refine congrArg₂ (· * ·) (congrArg₂ (· * ·) rfl (congrArg Ideal.rsqrt (congrArg₂ (· + ·) (congrArg₂ Ideal.div ?_ rfl) rfl))) ?_
  · exact (congrArg (val_main_v2 (F := Ideal) x0) (funext fun a => by
    match a with
    | ⟨0, _⟩ => rfl
    | ⟨1, _⟩ => rfl)).trans hs
  · exact congrArg x1 (funext fun a => Fin.ext (by
      match a with
      | ⟨0, _⟩ => rfl
      | ⟨1, _⟩ =>
        show k.val % 1024 = k.val
        omega))

theorem weight (k : Fin 1024) (j : Fin 4352) : val_main_v14 (F := Ideal) x2 (ix2 k j) = x2 (ix3 0 k j) :=
  Cert.Layout.cast_drop1 _ _ k j

theorem proj_eq (j : Fin 4352) : val_main_v15 (F := Ideal) x0 x1 x2 (ix3 b t j) = proj x0 x1 x2 b t j := by
  rw [val_main_v15_apply]
  refine Finset.sum_congr rfl fun k _ => congrArg₂ (· * ·) ((congrArg (val_main_v13 (F := Ideal) x0 x1) (funext fun a => by
    match a with
    | ⟨0, _⟩ => rfl
    | ⟨1, _⟩ => rfl
    | ⟨2, _⟩ => rfl)).trans (row_eq x0 x1 b t k))
    ((congrArg (val_main_v14 (F := Ideal) x2) (funext fun a => by
    match a with
    | ⟨0, _⟩ => rfl
    | ⟨1, _⟩ => rfl)).trans (weight x2 k j))

theorem streams (j : Fin 1536) : val_main_v16 (F := Ideal) x0 x1 x2 (ix3 b t j) = proj x0 x1 x2 b t ⟨j.val, by omega⟩ :=
  (cut3 0 _ slices_S8x4096x4352_S8x4096x1536_0_0_0 b t j ⟨j.val, by omega⟩ (Nat.zero_add _).symm).trans (proj_eq x0 x1 x2 b t _)
theorem queries (j : Fin 512) : val_main_v17 (F := Ideal) x0 x1 x2 (ix3 b t j) = proj x0 x1 x2 b t ⟨1536 + j.val, by omega⟩ :=
  (cut3 1536 _ slices_S8x4096x4352_S8x4096x512_0_0_1536 b t j ⟨1536 + j.val, by omega⟩ rfl).trans (proj_eq x0 x1 x2 b t _)
theorem keys (j : Fin 128) : val_main_v18 (F := Ideal) x0 x1 x2 (ix3 b t j) = proj x0 x1 x2 b t ⟨2048 + j.val, by omega⟩ :=
  (cut3 2048 _ slices_S8x4096x4352_S8x4096x128_0_0_2048 b t j ⟨2048 + j.val, by omega⟩ rfl).trans (proj_eq x0 x1 x2 b t _)
theorem values (j : Fin 128) : val_main_v19 (F := Ideal) x0 x1 x2 (ix3 b t j) = proj x0 x1 x2 b t ⟨2176 + j.val, by omega⟩ :=
  (cut3 2176 _ slices_S8x4096x4352_S8x4096x128_0_0_2176 b t j ⟨2176 + j.val, by omega⟩ rfl).trans (proj_eq x0 x1 x2 b t _)
theorem gates_h (j : Fin 1024) : val_main_v20 (F := Ideal) x0 x1 x2 (ix3 b t j) = proj x0 x1 x2 b t ⟨2304 + j.val, by omega⟩ :=
  (cut3 2304 _ slices_S8x4096x4352_S8x4096x1024_0_0_2304 b t j ⟨2304 + j.val, by omega⟩ rfl).trans (proj_eq x0 x1 x2 b t _)
theorem gates_a (j : Fin 1024) : val_main_v21 (F := Ideal) x0 x1 x2 (ix3 b t j) = proj x0 x1 x2 b t ⟨3328 + j.val, by omega⟩ :=
  (cut3 3328 _ slices_S8x4096x4352_S8x4096x1024_0_0_3328 b t j ⟨3328 + j.val, by omega⟩ rfl).trans (proj_eq x0 x1 x2 b t _)

end Cert.ProjRefRow

end
-- ==== Proof.Proj.RefConv.lean ====
/- The projection's reference, read at a token: the short convolution's streams. -/
module

public import proofs.«01_k».proof.Proof.Proj.Strips
public import proofs.«01_k».proof.Proof.Proj.Token
public import proofs.«01_k».proof.Proof.Gen.ProjRefIdeal.Read
public import proofs.«01_k».proof.Proof.Proj.RefRow
public import Idealize.ShloMosaic.Lib.IdealHost

@[expose] public section

noncomputable section

namespace Cert.ProjRefRow

open Cert.ProjRefIdeal Cert.ProjRefIdeal.Gen Cert.ProjRefIdeal.Read Cert.MixRow Cert.ProjRow Cert.ProjToken Cert.ProjStrips Idealize.ShloMosaic.ValueIdx
open Idealize.ShloMosaic

variable (x0 : (⟨S8x4096x1024, .f32⟩ : BufTy).Contents (Elt Ideal)) (x1 : (⟨S1x1024, .f32⟩ : BufTy).Contents (Elt Ideal))
  (x2 : (⟨S1x1024x4352, .f32⟩ : BufTy).Contents (Elt Ideal)) (x3 : (⟨S1x3x1536, .f32⟩ : BufTy).Contents (Elt Ideal))
  (x4 : (⟨S1x1536, .f32⟩ : BufTy).Contents (Elt Ideal))
variable (b : Fin 8) (t : Fin 4096)

/-! ## The short convolution -/

/-- A row of the padded streams: a token one place on, and nothing at either end. -/
theorem padded_inside (r : Fin 4098) (t : Fin 4096) (h : r.val = 1 + t.val) (j : Fin 1536) :
    val_main_v22 (F := Ideal) x0 x1 x2 (ix3 b r j) = proj x0 x1 x2 b t ⟨j.val, by omega⟩ := by
  unfold val_main_v22
  refine (pad_apply_of_inside (s := S8x4096x1536) (t := S8x4098x1536) _ _ _ _ _ pads_S8x4096x1536_S8x4098x1536_000_110_000 h_S_ (ix3 b r j) (ix3 b t j) (fun a => ?_)).trans
    (streams x0 x1 x2 b t j)
  match a with
  | ⟨0, _⟩ =>
    show b.val = 0 + b.val * (0 + 1)
    omega
  | ⟨1, _⟩ =>
    show r.val = 1 + t.val * (0 + 1)
    omega
  | ⟨2, _⟩ =>
    show j.val = 0 + j.val * (0 + 1)
    omega

theorem padded_outside (r : Fin 4098) (h : r.val = 0 ∨ r.val = 4097) (j : Fin 1536) :
    val_main_v22 (F := Ideal) x0 x1 x2 (ix3 b r j) = 0 := by
  unfold val_main_v22
  refine (pad_apply_of_not_inside (s := S8x4096x1536) (t := S8x4098x1536) _ _ _ _ _ pads_S8x4096x1536_S8x4098x1536_000_110_000 h_S_ (ix3 b r j) (1 : Fin 3) (fun hin => ?_)).trans ?_
  · have h1 : 1 ≤ r.val := hin.1
    have h2 : (r.val - 1) / (0 + 1) < 4096 := hin.2.2
    omega
  · show (((0#32 : BitVec 32).toInt : ℝ) : EReal) = 0
    simp

theorem before_eq (r : Fin 4098) (h : r.val = t.val) (j : Fin 1536) :
    val_main_v22 (F := Ideal) x0 x1 x2 (ix3 b r j) = before x0 x1 x2 b t ⟨j.val, by omega⟩ := by
  unfold before
  by_cases h0 : t.val = 0
  · rw [dif_pos h0]
    exact padded_outside x0 x1 x2 b r (Or.inl (by omega)) j
  · rw [dif_neg h0]
    exact padded_inside x0 x1 x2 b r ⟨t.val - 1, by omega⟩ (by show r.val = 1 + (t.val - 1); omega) j

theorem behind_eq (r : Fin 4098) (h : r.val = 2 + t.val) (j : Fin 1536) :
    val_main_v22 (F := Ideal) x0 x1 x2 (ix3 b r j) = behind x0 x1 x2 b t ⟨j.val, by omega⟩ := by
  unfold behind
  by_cases h0 : t.val = 4095
  · rw [dif_pos h0]
    exact padded_outside x0 x1 x2 b r (Or.inr (by omega)) j
  · rw [dif_neg h0]
    exact padded_inside x0 x1 x2 b r ⟨t.val + 1, by omega⟩ (by show r.val = 1 + (t.val + 1); omega) j

/-- A row of numbers set at every token. -/
theorem rowEverywhere (y : (⟨S1536, .f32⟩ : BufTy).Contents (Elt Ideal)) (j : Fin 1536) :
    broadcastInDim S8x4096x1536 ![0, 1, 2] bcast_S1x1x1536_S8x4096x1536_0_1_2 (broadcastInDim S1x1x1536 ![2] bcast_S1536_S1x1x1536_2 y) (ix3 b t j) = y (ix1 j) :=
  (broadcastInDim_apply _ _ _ _ (ix3 0 0 j) (fun a => by
    match a with
    | ⟨0, _⟩ => rfl
    | ⟨1, _⟩ => rfl
    | ⟨2, _⟩ => rfl)).trans (broadcastInDim_apply _ _ _ _ (ix1 j) (fun a => by
    match a with
    | ⟨0, _⟩ => rfl))

theorem lineOf (y : (⟨S1x1536, .f32⟩ : BufTy).Contents (Elt Ideal)) (j : Fin 1536) : shapeCast S1536 y shapeCasts_S1x1536_S1536 (ix1 j) = y (ix2 0 j) :=
  shapeCast_apply _ _ _ _ (by
    refine (Shape.rowMajor_val_two (d := ![1, 1536]) _).trans (Eq.trans ?_ (Shape.rowMajor_val_one _).symm)
    show 0 * 1536 + j.val = j.val
    omega)

theorem tap (o : Nat) (r : Fin 3) (hr : r.val = o) (h : S3x1536.Slices ![o, 0] S1x1536) (j : Fin 1536) :
    shapeCast S1536 (extractStridedSlice S1x1536 ![o, 0] (shapeCast S3x1536 x3 shapeCasts_S1x3x1536_S3x1536) h) shapeCasts_S1x1536_S1536 (ix1 j) = x3 (ix3 0 r j) :=
  (lineOf _ j).trans ((Cert.ProjLayout.slice2 o 0 _ h 0 j r j (by show r.val = o + 0; omega) (by omega)).trans (Cert.Layout.cast_drop1 _ _ r j))

theorem conv_eq (j : Fin 1536) : val_main_v51 (F := Ideal) x0 x1 x2 x3 x4 (ix3 b t j) = conv x0 x1 x2 x3 x4 b t j := by
  have h0 : val_main_v31 (F := Ideal) x0 x1 x2 x3 (ix3 b t j) = before x0 x1 x2 b t ⟨j.val, by omega⟩ * x3 (ix3 0 0 j) := by
    refine (congrArg (· + _) Ideal.ofBits_zero_f32).trans ((zero_add _).trans (congrArg₂ (· * ·) ?_ ?_))
    · exact (cutRows3 0 _ slices_S8x4098x1536_S8x4096x1536_0_0_0 b t j ⟨t.val, by omega⟩ (Nat.zero_add _).symm).trans (before_eq x0 x1 x2 b t _ rfl j)
    · exact (rowEverywhere b t _ j).trans (tap x3 0 0 rfl _ j)
  have h1 : val_main_v38 (F := Ideal) x0 x1 x2 x3 (ix3 b t j) = proj x0 x1 x2 b t ⟨j.val, by omega⟩ * x3 (ix3 0 1 j) := by
    refine congrArg₂ (· * ·) ?_ ?_
    · exact (cutRows3 1 _ slices_S8x4098x1536_S8x4096x1536_0_1_0 b t j ⟨1 + t.val, by omega⟩ rfl).trans (padded_inside x0 x1 x2 b _ t rfl j)
    · exact (rowEverywhere b t _ j).trans (tap x3 1 1 rfl _ j)
  have h2 : val_main_v46 (F := Ideal) x0 x1 x2 x3 (ix3 b t j) = behind x0 x1 x2 b t ⟨j.val, by omega⟩ * x3 (ix3 0 2 j) := by
    refine congrArg₂ (· * ·) ?_ ?_
    · exact (cutRows3 2 _ slices_S8x4098x1536_S8x4096x1536_0_2_0 b t j ⟨2 + t.val, by omega⟩ rfl).trans (behind_eq x0 x1 x2 b t _ rfl j)
    · exact (rowEverywhere b t _ j).trans (tap x3 2 2 rfl _ j)
  have h3 : val_main_v50 (F := Ideal) x4 (ix3 b t j) = x4 (ix2 0 j) := (rowEverywhere b t _ j).trans (lineOf x4 j)
  exact congrArg₂ (· + ·) (congrArg₂ (· + ·) (congrArg₂ (· + ·) h0 h1) h2) h3

theorem stream_eq (s : Fin 12) (l : Fin 128) : val_main_v132 (F := Ideal) x0 x1 x2 x3 x4 (ix4 b s t l) = stream x0 x1 x2 x3 x4 b s t l := by
  refine (transpose_apply (t := S8x12x4096x128) _ _ transposes_S8x4096x12x128_S8x12x4096x128_0_2_1_3 _ (ix4 b t s l) (fun a => by
    match a with
    | ⟨0, _⟩ => rfl
    | ⟨1, _⟩ => rfl
    | ⟨2, _⟩ => rfl
    | ⟨3, _⟩ => rfl)).trans ((shapeCast_apply _ shapeCasts_S8x4096x1536_S8x4096x12x128 _ (ix3 b t ⟨128 * s.val + l.val, by omega⟩) ?_).trans
      (conv_eq x0 x1 x2 x3 x4 b t _))
  refine (Shape.rowMajor_val_three (d := ![8, 4096, 1536]) _).trans (Eq.trans ?_ (Shape.rowMajor_val_four _).symm)
  show (b.val * 4096 + t.val) * 1536 + (128 * s.val + l.val) = ((b.val * 4096 + t.val) * 12 + s.val) * 128 + l.val
  omega

end Cert.ProjRefRow

end
-- ==== Proof.Proj.RefTables.lean ====
/- The reference's rotary tables are the kernel's. -/
module

public import proofs.«01_k».proof.Proof.Proj.Strips
public import proofs.«01_k».proof.Proof.Proj.Token
public import proofs.«01_k».proof.Proof.Proj.Host
public import proofs.«01_k».proof.Proof.Gen.ProjRefIdeal.Read
public import proofs.«01_k».proof.Proof.Proj.RefRow
public import Idealize.ShloMosaic.Lib.IdealHost

@[expose] public section

noncomputable section

namespace Cert.ProjRefRow

open Cert.ProjRefIdeal Cert.ProjRefIdeal.Gen Cert.ProjRefIdeal.Read Cert.MixRow Cert.ProjRow Cert.ProjToken Cert.ProjStrips Idealize.ShloMosaic.ValueIdx
open Cert.ProjHost (co si)
open Idealize.ShloMosaic

variable (x0 : (⟨S8x4096x1024, .f32⟩ : BufTy).Contents (Elt Ideal)) (x1 : (⟨S1x1024, .f32⟩ : BufTy).Contents (Elt Ideal))
  (x2 : (⟨S1x1024x4352, .f32⟩ : BufTy).Contents (Elt Ideal)) (x3 : (⟨S1x3x1536, .f32⟩ : BufTy).Contents (Elt Ideal))
  (x4 : (⟨S1x1536, .f32⟩ : BufTy).Contents (Elt Ideal))
variable (b : Fin 8) (t : Fin 4096)

/-- The queries' angles and the keys' angles. -/
theorem angle_eq : val_main_v69 (F := Ideal) = Cert.ProjHost.angles := by
  unfold val_main_v69 val_main_v68 val_main_v67 val_main_v66 val_main_v65 val_main_v64 val_main_v63 val_main_v62 val_main_v61 val_main_v60 val_main_v59 val_main_v58 val_main_v57 val_main_v56 val_main_v55 val_main_v54 val_main_v52
  rfl
theorem angle_eq' : val_main_v108 (F := Ideal) = val_main_v69 (F := Ideal) := rfl

theorem co_eq (j : Fin 8) : val_main_v70 (F := Ideal) (ix2 t j) = co t j := congrArg (fun y : FVec Ideal S4096x8 .f32 => Host.cos y (ix2 t j)) angle_eq
theorem si_eq (j : Fin 8) : val_main_v72 (F := Ideal) (ix2 t j) = si t j := congrArg (fun y : FVec Ideal S4096x8 .f32 => Host.sin y (ix2 t j)) angle_eq
theorem co_eq' (j : Fin 8) : val_main_v109 (F := Ideal) (ix2 t j) = co t j := congrArg (fun y : FVec Ideal S4096x8 .f32 => Host.cos y (ix2 t j)) (angle_eq'.trans angle_eq)
theorem si_eq' (j : Fin 8) : val_main_v111 (F := Ideal) (ix2 t j) = si t j := congrArg (fun y : FVec Ideal S4096x8 .f32 => Host.sin y (ix2 t j)) (angle_eq'.trans angle_eq)

end Cert.ProjRefRow

end
-- ==== Proof.Proj.RefTurn.lean ====
/- The reference's turned queries and keys are heads turned by the tables. -/
module

public import proofs.«01_k».proof.Proof.Proj.Strips
public import proofs.«01_k».proof.Proof.Proj.Token
public import proofs.«01_k».proof.Proof.Gen.ProjRefIdeal.Read
public import proofs.«01_k».proof.Proof.Proj.RefRow
public import Idealize.ShloMosaic.Lib.IdealHost

@[expose] public section

noncomputable section

namespace Cert.ProjRefRow

open Cert.ProjRefIdeal Cert.ProjRefIdeal.Gen Cert.ProjRefIdeal.Read Cert.MixRow Cert.ProjRow Cert.ProjToken Cert.ProjStrips Idealize.ShloMosaic.ValueIdx
open Idealize.ShloMosaic

variable (x0 : (⟨S8x4096x1024, .f32⟩ : BufTy).Contents (Elt Ideal)) (x1 : (⟨S1x1024, .f32⟩ : BufTy).Contents (Elt Ideal))
  (x2 : (⟨S1x1024x4352, .f32⟩ : BufTy).Contents (Elt Ideal)) (x3 : (⟨S1x3x1536, .f32⟩ : BufTy).Contents (Elt Ideal))
  (x4 : (⟨S1x1536, .f32⟩ : BufTy).Contents (Elt Ideal))
variable (b : Fin 8) (t : Fin 4096)

/-- The queries, turned. -/
theorem turnedQ : val_main_v89 (F := Ideal) x0 x1 x2 = turnHeads (n := 8) bcast_S4096x8_S1x4096x1x8_1_3 bcast_S1x4096x1x8_S8x4096x8x8_0_1_2_3 slices_S8x4096x8x64_S8x4096x8x16_0_0_0_0
      slices_S8x4096x8x16_S8x4096x8x8_0_0_0_0 slices_S8x4096x8x16_S8x4096x8x8_0_0_0_8 slices_S8x4096x8x64_S8x4096x8x48_0_0_0_16
      concatenates_S8x4096x8x8_S8x4096x8x8_S8x4096x8x16_d3 concatenates_S8x4096x8x16_S8x4096x8x48_S8x4096x8x64_d3
      (val_main_v53 (F := Ideal) x0 x1 x2) (val_main_v70 (F := Ideal)) (val_main_v72 (F := Ideal)) := by
  unfold val_main_v89 val_main_v88 val_main_v87 val_main_v86 val_main_v85 val_main_v84 val_main_v83 val_main_v82 val_main_v81 val_main_v80 val_main_v79 val_main_v78 val_main_v77 val_main_v76 val_main_v75 val_main_v74 val_main_v73 val_main_v71
  generalize val_main_v53 (F := Ideal) x0 x1 x2 = y
  generalize val_main_v70 (F := Ideal) = C
  generalize val_main_v72 (F := Ideal) = S
  rfl

/-- The keys, turned. -/
theorem turnedK : val_main_v128 (F := Ideal) x0 x1 x2 = turnHeads (n := 2) bcast_S4096x8_S1x4096x1x8_1_3 bcast_S1x4096x1x8_S8x4096x2x8_0_1_2_3 slices_S8x4096x2x64_S8x4096x2x16_0_0_0_0
      slices_S8x4096x2x16_S8x4096x2x8_0_0_0_0 slices_S8x4096x2x16_S8x4096x2x8_0_0_0_8 slices_S8x4096x2x64_S8x4096x2x48_0_0_0_16
      concatenates_S8x4096x2x8_S8x4096x2x8_S8x4096x2x16_d3 concatenates_S8x4096x2x16_S8x4096x2x48_S8x4096x2x64_d3
      (val_main_v92 (F := Ideal) x0 x1 x2) (val_main_v109 (F := Ideal)) (val_main_v111 (F := Ideal)) := by
  unfold val_main_v128 val_main_v127 val_main_v126 val_main_v125 val_main_v124 val_main_v123 val_main_v122 val_main_v121 val_main_v120 val_main_v119 val_main_v118 val_main_v117 val_main_v116 val_main_v115 val_main_v114 val_main_v113 val_main_v112 val_main_v110
  generalize val_main_v92 (F := Ideal) x0 x1 x2 = y
  generalize val_main_v109 (F := Ideal) = C
  generalize val_main_v111 (F := Ideal) = S
  rfl

end Cert.ProjRefRow

end
-- ==== Proof.Proj.RefSlabs.lean ====
/- The reference's key and value slabs are heads set beside zeros. -/
module

public import proofs.«01_k».proof.Proof.Proj.Strips
public import proofs.«01_k».proof.Proof.Proj.Token
public import proofs.«01_k».proof.Proof.Gen.ProjRefIdeal.Read
public import proofs.«01_k».proof.Proof.Proj.RefRow
public import Idealize.ShloMosaic.Lib.IdealHost

@[expose] public section

noncomputable section

namespace Cert.ProjRefRow

open Cert.ProjRefIdeal Cert.ProjRefIdeal.Gen Cert.ProjRefIdeal.Read Cert.MixRow Cert.ProjRow Cert.ProjToken Cert.ProjStrips Idealize.ShloMosaic.ValueIdx
open Idealize.ShloMosaic

variable (x0 : (⟨S8x4096x1024, .f32⟩ : BufTy).Contents (Elt Ideal)) (x1 : (⟨S1x1024, .f32⟩ : BufTy).Contents (Elt Ideal))
  (x2 : (⟨S1x1024x4352, .f32⟩ : BufTy).Contents (Elt Ideal)) (x3 : (⟨S1x3x1536, .f32⟩ : BufTy).Contents (Elt Ideal))
  (x4 : (⟨S1x1536, .f32⟩ : BufTy).Contents (Elt Ideal))
variable (b : Fin 8) (t : Fin 4096)

/-- The keys' slabs. -/
theorem slabbedK : val_main_v142 (F := Ideal) x0 x1 x2 = slabs concatenates_S8x4096x2x64_S8x4096x2x64_S8x4096x2x128_d3 bcast_S8x4096x2x128_S8x4096x2x1x128_0_1_2_4
    concatenates_S8x4096x2x1x128_S8x4096x2x1x128_S8x4096x2x2x128_d3 shapeCasts_S8x4096x2x2x128_S8x4096x4x128 transposes_S8x4096x4x128_S8x4x4096x128_0_2_1_3
    (val_main_v128 (F := Ideal) x0 x1 x2) (val_main_v135 (F := Ideal)) := by
  unfold val_main_v142 val_main_v141 val_main_v140 val_main_v139 val_main_v138 val_main_v137 val_main_v136
  generalize val_main_v128 (F := Ideal) x0 x1 x2 = y
  generalize val_main_v135 (F := Ideal) = z
  rfl

/-- The values' slabs. -/
theorem slabbedV : val_main_v151 (F := Ideal) x0 x1 x2 = slabs concatenates_S8x4096x2x64_S8x4096x2x64_S8x4096x2x128_d3 bcast_S8x4096x2x128_S8x4096x2x1x128_0_1_2_4
    concatenates_S8x4096x2x1x128_S8x4096x2x1x128_S8x4096x2x2x128_d3 shapeCasts_S8x4096x2x2x128_S8x4096x4x128 transposes_S8x4096x4x128_S8x4x4096x128_0_2_1_3
    (val_main_v129 (F := Ideal) x0 x1 x2) (val_main_v144 (F := Ideal)) := by
  unfold val_main_v151 val_main_v150 val_main_v149 val_main_v148 val_main_v147 val_main_v146 val_main_v145
  generalize val_main_v129 (F := Ideal) x0 x1 x2 = y
  generalize val_main_v144 (F := Ideal) = z
  rfl

end Cert.ProjRefRow

end
-- ==== Proof.Proj.RefHeads.lean ====
/- The projection's reference, read at a token: the turned queries and keys, and the values. -/
module

public import proofs.«01_k».proof.Proof.Proj.Strips
public import proofs.«01_k».proof.Proof.Proj.Token
public import proofs.«01_k».proof.Proof.Proj.Host
public import proofs.«01_k».proof.Proof.Gen.ProjRefIdeal.Read
public import proofs.«01_k».proof.Proof.Proj.RefRow
public import proofs.«01_k».proof.Proof.Proj.RefTables
public import proofs.«01_k».proof.Proof.Proj.RefTurn
public import proofs.«01_k».proof.Proof.Proj.RefSlabs
public import Idealize.ShloMosaic.Lib.IdealHost

@[expose] public section

noncomputable section

namespace Cert.ProjRefRow

open Cert.ProjRefIdeal Cert.ProjRefIdeal.Gen Cert.ProjRefIdeal.Read Cert.MixRow Cert.ProjRow Cert.ProjToken Cert.ProjStrips Idealize.ShloMosaic.ValueIdx
open Cert.ProjHost (co si)
open Idealize.ShloMosaic

variable (x0 : (⟨S8x4096x1024, .f32⟩ : BufTy).Contents (Elt Ideal)) (x1 : (⟨S1x1024, .f32⟩ : BufTy).Contents (Elt Ideal))
  (x2 : (⟨S1x1024x4352, .f32⟩ : BufTy).Contents (Elt Ideal)) (x3 : (⟨S1x3x1536, .f32⟩ : BufTy).Contents (Elt Ideal))
  (x4 : (⟨S1x1536, .f32⟩ : BufTy).Contents (Elt Ideal))
variable (b : Fin 8) (t : Fin 4096)

/-! ## Queries, keys, values -/

theorem headOf (k : Fin 8) (e : Fin 64) : val_main_v53 (F := Ideal) x0 x1 x2 (ix4 b t k e) = proj x0 x1 x2 b t ⟨1536 + (64 * k.val + e.val), by omega⟩ := by
  refine (shapeCast_apply _ shapeCasts_S8x4096x512_S8x4096x8x64 _ (ix3 b t ⟨64 * k.val + e.val, by omega⟩) ?_).trans (queries x0 x1 x2 b t _)
  refine (Shape.rowMajor_val_three (d := ![8, 4096, 512]) _).trans (Eq.trans ?_ (Shape.rowMajor_val_four _).symm)
  show (b.val * 4096 + t.val) * 512 + (64 * k.val + e.val) = ((b.val * 4096 + t.val) * 8 + k.val) * 64 + e.val
  omega

theorem pairOf (y : (⟨S8x4096x128, .f32⟩ : BufTy).Contents (Elt Ideal)) (k : Fin 2) (e : Fin 64) :
    shapeCast S8x4096x2x64 y shapeCasts_S8x4096x128_S8x4096x2x64 (ix4 b t k e) = y (ix3 b t ⟨64 * k.val + e.val, by omega⟩) :=
  shapeCast_apply _ _ _ _ (by
    refine (Shape.rowMajor_val_three (d := ![8, 4096, 128]) _).trans (Eq.trans ?_ (Shape.rowMajor_val_four _).symm)
    show (b.val * 4096 + t.val) * 128 + (64 * k.val + e.val) = ((b.val * 4096 + t.val) * 2 + k.val) * 64 + e.val
    omega)

theorem turnQ (k : Fin 8) (e : Fin 64) : val_main_v89 (F := Ideal) x0 x1 x2 (ix4 b t k e)
    = turn (head x0 x1 x2 b t (1536 + 64 * k.val) (by omega)) (co t) (si t) e := by
  have hh : (fun e => val_main_v53 (F := Ideal) x0 x1 x2 (ix4 b t k e)) = head x0 x1 x2 b t (1536 + 64 * k.val) (by omega) :=
    funext fun e => (headOf x0 x1 x2 b t _ e).trans (congrArg (proj x0 x1 x2 b t) (Fin.ext (Nat.add_assoc _ _ _).symm))
  have hc : (fun j => val_main_v70 (F := Ideal) (ix2 t j)) = co t := funext fun j => co_eq t j
  have hs : (fun j => val_main_v72 (F := Ideal) (ix2 t j)) = si t := funext fun j => si_eq t j
  rw [turnedQ, turnHeads_apply, hh, hc, hs]

theorem turnK (k : Fin 2) (e : Fin 64) : val_main_v128 (F := Ideal) x0 x1 x2 (ix4 b t k e) = key x0 x1 x2 co si b t k e := by
  have hh : (fun e => val_main_v92 (F := Ideal) x0 x1 x2 (ix4 b t k e)) = head x0 x1 x2 b t (2048 + 64 * k.val) (by omega) :=
    funext fun e => (pairOf b t _ k e).trans ((keys x0 x1 x2 b t _).trans (congrArg (proj x0 x1 x2 b t) (Fin.ext (Nat.add_assoc _ _ _).symm)))
  have hc : (fun j => val_main_v109 (F := Ideal) (ix2 t j)) = co t := funext fun j => co_eq' t j
  have hs : (fun j => val_main_v111 (F := Ideal) (ix2 t j)) = si t := funext fun j => si_eq' t j
  rw [turnedK, turnHeads_apply, hh, hc, hs]
  unfold key
  rfl

theorem valueOf (k : Fin 2) (e : Fin 64) : val_main_v129 (F := Ideal) x0 x1 x2 (ix4 b t k e) = value x0 x1 x2 b t k e :=
  (pairOf b t _ k e).trans ((values x0 x1 x2 b t _).trans (congrArg (proj x0 x1 x2 b t) (Fin.ext (Nat.add_assoc _ _ _).symm)))

theorem joinHeads (y : (⟨S8x4096x8x64, .f32⟩ : BufTy).Contents (Elt Ideal)) (j : Fin 512) :
    shapeCast S8x4096x512 y shapeCasts_S8x4096x8x64_S8x4096x512 (ix3 b t j) = y (ix4 b t ⟨j.val / 64, by omega⟩ ⟨j.val % 64, by omega⟩) :=
  shapeCast_apply _ _ _ _ (by
    refine (Shape.rowMajor_val_four (d := ![8, 4096, 8, 64]) _).trans (Eq.trans ?_ (Shape.rowMajor_val_three _).symm)
    show ((b.val * 4096 + t.val) * 8 + j.val / 64) * 64 + j.val % 64 = (b.val * 4096 + t.val) * 512 + j.val
    omega)

theorem query_eq (j : Fin 512) : val_main_v134 (F := Ideal) x0 x1 x2 (ix3 b t j) = query x0 x1 x2 co si b t j := by
  have h : val_main_v134 (F := Ideal) x0 x1 x2 (ix3 b t j) = shapeCast S8x4096x512 (val_main_v91 (F := Ideal) x0 x1 x2) shapeCasts_S8x4096x8x64_S8x4096x512 (ix3 b t j) := rfl
  rw [h, joinHeads, val_main_v91_apply, turnQ]
  rfl

theorem key_eq (s : Fin 4) (l : Fin 128) : val_main_v143 (F := Ideal) x0 x1 x2 (ix4 b s t l) = slabLane (key x0 x1 x2 co si b t) s l := by
  have h : val_main_v143 (F := Ideal) x0 x1 x2 (ix4 b s t l) = val_main_v142 (F := Ideal) x0 x1 x2 (ix4 b s t l) := by
    rw [val_main_v143_apply]
    rfl
  have hz : ∀ i, val_main_v135 (F := Ideal) i = 0 := fun _ => Ideal.ofBits_zero_f32
  rw [h, slabbedK, slabs_apply _ _ _ _ _ _ _ hz]
  exact congrArg (fun z => slabLane z s l) (funext fun k => funext fun e => turnK x0 x1 x2 b t k e)

theorem value_eq (s : Fin 4) (l : Fin 128) : val_main_v152 (F := Ideal) x0 x1 x2 (ix4 b s t l) = slabLane (value x0 x1 x2 b t) s l := by
  have h : val_main_v152 (F := Ideal) x0 x1 x2 (ix4 b s t l) = val_main_v151 (F := Ideal) x0 x1 x2 (ix4 b s t l) := by
    rw [val_main_v152_apply]
    rfl
  have hz : ∀ i, val_main_v144 (F := Ideal) i = 0 := fun _ => Ideal.ofBits_zero_f32
  rw [h, slabbedV, slabs_apply _ _ _ _ _ _ _ hz]
  exact congrArg (fun z => slabLane z s l) (funext fun k => funext fun e => valueOf x0 x1 x2 b t k e)

end Cert.ProjRefRow

end
-- ==== Proof.Proj.RefGates.lean ====
/- The projection's reference, read at a token: the gates. -/
module

public import proofs.«01_k».proof.Proof.Proj.Strips
public import proofs.«01_k».proof.Proof.Proj.Token
public import proofs.«01_k».proof.Proof.Gen.ProjRefIdeal.Read
public import proofs.«01_k».proof.Proof.Proj.RefRow
public import Idealize.ShloMosaic.Lib.IdealHost

@[expose] public section

noncomputable section

namespace Cert.ProjRefRow

open Cert.ProjRefIdeal Cert.ProjRefIdeal.Gen Cert.ProjRefIdeal.Read Cert.MixRow Cert.ProjRow Cert.ProjToken Cert.ProjStrips Idealize.ShloMosaic.ValueIdx
open Idealize.ShloMosaic

variable (x0 : (⟨S8x4096x1024, .f32⟩ : BufTy).Contents (Elt Ideal)) (x1 : (⟨S1x1024, .f32⟩ : BufTy).Contents (Elt Ideal))
  (x2 : (⟨S1x1024x4352, .f32⟩ : BufTy).Contents (Elt Ideal)) (x3 : (⟨S1x3x1536, .f32⟩ : BufTy).Contents (Elt Ideal))
  (x4 : (⟨S1x1536, .f32⟩ : BufTy).Contents (Elt Ideal))
variable (b : Fin 8) (t : Fin 4096)

/-! ## The gates -/

theorem sigmoid (y : EReal) : Ideal.div (Ideal.ofBits .f32 0x3F800000#32) (Ideal.ofBits .f32 0x3F800000#32 + Ideal.exp (-y)) = Ideal.logistic y := by
  rw [Ideal.ofBits_one_f32]
  rfl

theorem gate_eq (j : Fin 2048) : val_main_v166 (F := Ideal) x0 x1 x2 (ix3 b t j) = gate x0 x1 x2 b t j := by
  unfold gate
  by_cases h : j.val < 1024
  · refine (join3_left (val_main_v158 (F := Ideal) x0 x1 x2) (val_main_v164 (F := Ideal) x0 x1 x2) concatenates_S8x4096x1024_S8x4096x1024_S8x4096x2048_d2 b t j ⟨j.val, h⟩ rfl).trans ?_
    exact (sigmoid _).trans (congrArg Ideal.logistic (gates_h x0 x1 x2 b t ⟨j.val, h⟩))
  · refine (join3_right (val_main_v158 (F := Ideal) x0 x1 x2) (val_main_v164 (F := Ideal) x0 x1 x2) concatenates_S8x4096x1024_S8x4096x1024_S8x4096x2048_d2 b t j ⟨j.val - 1024, by omega⟩
      (by show 1024 + (j.val - 1024) = j.val; omega)).trans ?_
    refine (sigmoid _).trans (congrArg Ideal.logistic ((gates_a x0 x1 x2 b t ⟨j.val - 1024, by omega⟩).trans (congrArg (proj x0 x1 x2 b t) (Fin.ext ?_))))
    show 3328 + (j.val - 1024) = 2304 + j.val
    omega

end Cert.ProjRefRow

end
-- ==== Proof.Proj.RefRun.lean ====
/- The projection's reference, run: its five results as values of the arguments, and the arguments unchanged. -/
module

public import proofs.«01_k».proof.Proof.Gen.ProjRefIdeal.Read

@[expose] public section

noncomputable section

namespace Cert.ProjRefRun

open Cert.ProjRefIdeal Cert.ProjRefIdeal.Gen Cert.ProjRefIdeal.Read Idealize.ShloMosaic Idealize.ShloMosaic.TcCoe Idealize.ShloMosaic.StableHlo

variable (m : (ℓ : Loc nD τ sig) → Buf (Elt Ideal) ℓ) (ρ : Dev nD → PrngReg)

/-- An argument of the reference. -/
abbrev arg (c : Dev nD) (b : Ref sig .tc) := m ((c.tc : Thread nD τ).loc b)

theorem run : θ_run defs (onTc (τ := τ) (main (F := Ideal))) ⟨m, fun _ => 0, ρ⟩ (fun r => ∀ c : Dev nD,
      r.2.mem ((c.tc : Thread nD τ).loc main_v132) = val_main_v132 (F := Ideal) (arg m c main_arg0) (arg m c main_arg1) (arg m c main_arg2) (arg m c main_arg3) (arg m c main_arg4)
      ∧ r.2.mem ((c.tc : Thread nD τ).loc main_v134) = val_main_v134 (F := Ideal) (arg m c main_arg0) (arg m c main_arg1) (arg m c main_arg2)
      ∧ r.2.mem ((c.tc : Thread nD τ).loc main_v143) = val_main_v143 (F := Ideal) (arg m c main_arg0) (arg m c main_arg1) (arg m c main_arg2)
      ∧ r.2.mem ((c.tc : Thread nD τ).loc main_v152) = val_main_v152 (F := Ideal) (arg m c main_arg0) (arg m c main_arg1) (arg m c main_arg2)
      ∧ r.2.mem ((c.tc : Thread nD τ).loc main_v166) = val_main_v166 (F := Ideal) (arg m c main_arg0) (arg m c main_arg1) (arg m c main_arg2)
      ∧ r.2.mem ((c.tc : Thread nD τ).loc main_arg0) = arg m c main_arg0
      ∧ r.2.mem ((c.tc : Thread nD τ).loc main_arg1) = arg m c main_arg1
      ∧ r.2.mem ((c.tc : Thread nD τ).loc main_arg2) = arg m c main_arg2
      ∧ r.2.mem ((c.tc : Thread nD τ).loc main_arg3) = arg m c main_arg3
      ∧ r.2.mem ((c.tc : Thread nD τ).loc main_arg4) = arg m c main_arg4) := by
  refine (θ_run defs _ _).mono (fun r h c => ?_) (Cert.ProjRefIdeal.Value.run (F := Ideal) m ρ)
  obtain ⟨h1, h2, h3, h4, h5, h6⟩ := h c
  exact ⟨h1.trans (val_main_v132_eq (launchContents m c)), h2.trans (val_main_v134_eq (launchContents m c)), h3.trans (val_main_v143_eq (launchContents m c)),
    h4.trans (val_main_v152_eq (launchContents m c)), h5.trans (val_main_v166_eq (launchContents m c)), h6⟩

end Cert.ProjRefRun

end
-- ==== Proof.Proj.Claims.lean ====
/- The projection kernel's claims: its frames, and that over the reals its five result arrays are the layer's own. -/
module

public import proofs.«01_k».proof.Defs
public import proofs.«01_k».proof.Proof.Proj.Run
public import proofs.«01_k».proof.Proof.Proj.RefConv
public import proofs.«01_k».proof.Proof.Proj.RefHeads
public import proofs.«01_k».proof.Proof.Proj.RefGates
public import proofs.«01_k».proof.Proof.Proj.RefRun
public import proofs.«01_k».proof.Proof.Gen.Proj.Frame

@[expose] public section

noncomputable section

namespace Cert.ProjClaims

open Idealize.ShloMosaic Idealize.ShloMosaic.TcCoe Idealize.ShloMosaic.ValueIdx
open Cert.ProjArray (after X G W SW SB)

theorem frame : Cert.quiescent_Proj := fun m ρ _ => Cert.Proj.Gen.frame m ρ
theorem frame_ideal : Cert.quiescent_ProjIdeal := fun m ρ _ => Cert.ProjIdeal.Gen.frame m ρ
theorem frame_ref : Cert.quiescent_ProjRefIdeal := fun m ρ _ =>
  (θ_run Cert.ProjRefIdeal.defs _ _).mono (fun r h => ⟨fun c => (h c).2.2.2.2.2, sem_eq_zero_of_no_sems (by decide) r.2⟩)
    (Cert.ProjRefIdeal.Value.run (F := Ideal) m ρ)

section

open Cert.ProjIdeal Cert.ProjIdeal.Gen

variable (m : (ℓ : Loc nD τ sig) → Buf (Elt Ideal) ℓ) (ρ : Dev nD → PrngReg)

/-- The reference's five values of the arguments are what the kernel leaves. -/
theorem streams (c : Dev nD) : Cert.ProjRefIdeal.Read.val_main_v132 (F := Ideal) (X m c) (G m c) (W m c) (SW m c) (SB m c) = after m c main_v45 := by
  funext i
  rw [ValueIdx.eq_ix4 i]
  exact (Cert.ProjRefRow.stream_eq _ _ _ _ _ _ _ _ _).trans (Cert.ProjArray.result9 m c _ _ _ _).symm
theorem queries (c : Dev nD) : Cert.ProjRefIdeal.Read.val_main_v134 (F := Ideal) (X m c) (G m c) (W m c) = after m c main_v46 := by
  funext i
  rw [ValueIdx.eq_ix3 i]
  exact (Cert.ProjRefRow.query_eq _ _ _ _ _ _).trans (Cert.ProjArray.result10 m c _ _ _).symm
theorem keys (c : Dev nD) : Cert.ProjRefIdeal.Read.val_main_v143 (F := Ideal) (X m c) (G m c) (W m c) = after m c main_v47 := by
  funext i
  rw [ValueIdx.eq_ix4 i]
  exact (Cert.ProjRefRow.key_eq _ _ _ _ _ _ _).trans (Cert.ProjArray.result11 m c _ _ _ _).symm
theorem values (c : Dev nD) : Cert.ProjRefIdeal.Read.val_main_v152 (F := Ideal) (X m c) (G m c) (W m c) = after m c main_v48 := by
  funext i
  rw [ValueIdx.eq_ix4 i]
  exact (Cert.ProjRefRow.value_eq _ _ _ _ _ _ _).trans (Cert.ProjArray.result12 m c _ _ _ _).symm
theorem gates (c : Dev nD) : Cert.ProjRefIdeal.Read.val_main_v166 (F := Ideal) (X m c) (G m c) (W m c) = after m c main_v49 := by
  funext i
  rw [ValueIdx.eq_ix3 i]
  exact (Cert.ProjRefRow.gate_eq _ _ _ _ _ _).trans (Cert.ProjArray.result13 m c _ _ _).symm

/-- The kernel's run: the five results as the lines after the call leave them, and the arguments unchanged. -/
theorem run : θ_run defs (onTc (τ := τ) (main (F := Ideal))) ⟨m, fun _ => 0, ρ⟩ (fun r => ∀ c : Dev nD,
      r.2.mem ((c.tc : Thread nD τ).loc main_v45) = after m c main_v45
      ∧ r.2.mem ((c.tc : Thread nD τ).loc main_v46) = after m c main_v46
      ∧ r.2.mem ((c.tc : Thread nD τ).loc main_v47) = after m c main_v47
      ∧ r.2.mem ((c.tc : Thread nD τ).loc main_v48) = after m c main_v48
      ∧ r.2.mem ((c.tc : Thread nD τ).loc main_v49) = after m c main_v49
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h.1 c).2 main_v45 (Pipeline.mem_restRefs_of main_v45 (by decide) (by decide)),
     (h.1 c).2 main_v46 (Pipeline.mem_restRefs_of main_v46 (by decide) (by decide)),
     (h.1 c).2 main_v47 (Pipeline.mem_restRefs_of main_v47 (by decide) (by decide)),
     (h.1 c).2 main_v48 (Pipeline.mem_restRefs_of main_v48 (by decide) (by decide)),
     (h.1 c).2 main_v49 (Pipeline.mem_restRefs_of main_v49 (by decide) (by decide)), h.2 c⟩)
    (θ_run_and (run_main m ρ) (unchanged m ρ))

end

/-- The kernel's arrays are the tokens' functions of the arguments, and so are the reference's of arguments that agree. -/
theorem algebraic : Cert.algebraic_ProjIdeal_ProjRefIdeal := by
  intro m ρ m' ρ' _ hagree
  refine ⟨fun c => after m c Cert.ProjIdeal.main_v45, fun c => after m c Cert.ProjIdeal.main_v46, fun c => after m c Cert.ProjIdeal.main_v47,
    fun c => after m c Cert.ProjIdeal.main_v48, fun c => after m c Cert.ProjIdeal.main_v49, run m ρ, ?_⟩
  refine (θ_run Cert.ProjRefIdeal.defs _ _).mono (fun r h c => ?_) (Cert.ProjRefRun.run m' ρ')
  obtain ⟨a0, a1, a2, a3, a4⟩ := hagree c
  obtain ⟨h1, h2, h3, h4, h5, h6⟩ := h c
  rw [Cert.ProjRefRun.arg, Cert.ProjRefRun.arg, Cert.ProjRefRun.arg, a0, a1, a2] at h2 h3 h4 h5
  rw [Cert.ProjRefRun.arg, Cert.ProjRefRun.arg, Cert.ProjRefRun.arg, Cert.ProjRefRun.arg, Cert.ProjRefRun.arg, a0, a1, a2, a3, a4] at h1
  exact ⟨h1.trans (streams m c), h2.trans (queries m c), h3.trans (keys m c), h4.trans (values m c), h5.trans (gates m c), h6⟩

end Cert.ProjClaims

end
-- ==== Proof.Attn.Tile.lean ====
/- The attention kernel's work on one tile — one block of 128 queries, one pair of heads —, as one function of what it loads. -/
module

public import proofs.«01_k».proof.Proof.Gen.AttnIdeal.Frame.RunA

@[expose] public section

noncomputable section

namespace Cert.AttnTile

open Cert.AttnIdeal Cert.AttnIdeal.Gen Idealize.ShloMosaic Idealize.ShloMosaic.TcCoe

/-! ## One tile -/

/-- The number of a point's query block, from the block's place in the point. -/
def number (i : grid0.Coords) (n : BitVec 32) : BitVec 32 := Scalar.addi (Scalar.muli (BitVec.ofNat 32 (i 1).val) 16#32) n
/-- The first key of its window. -/
def start (i : grid0.Coords) (n : BitVec 32) : BitVec 32 :=
  Scalar.minsi 3712#32 (Scalar.maxsi 0#32 (Scalar.subi (Scalar.muli (number i n) 128#32) 128#32))

/-- Nothing where query and key are within the window, the mask elsewhere. -/
def bias (i : grid0.Coords) (n : BitVec 32) : FVec Ideal S128x384 .bf16 :=
  truncf .bf16 (select (cmpi .sle (absi (subi
      (addi (broadcast S128x384 (Scalar.muli (number i n) 128#32)) (iota .tc S128x384 32 [0] iota_S128x384_d0_w32))
      (addi (broadcast S128x384 (start i n)) (iota .tc S128x384 32 [1] iota_S128x384_d1_w32)))) (broadcast S128x384 128#32))
    (broadcast S128x384 (Scalar.ofBits .f32 0x00000000#32 : Ideal .f32)) (broadcast S128x384 (Named.named κ "mask" 0xF149F2CA#32 : Ideal .f32))) bitsLt_bf16_f32

/-- The scores of the pair's two heads, side by side. -/
def scores (q : FVec Ideal S1x128x128 .f32) (k0 k1 : FVec Ideal S1x1x384x128 .bf16) : FVec Ideal S128x768 .f32 :=
  matmul dot_S128x128_S768x128_S128x768_1_1_0_0_n_n none
    (truncf .bf16 (mulf (shapeCast S128x128 q shapeCasts_S1x128x128_S128x128) (broadcast S128x128 (Named.named κ "q_scale" 0x3E38AA3B#32 : Ideal .f32))) bitsLt_bf16_f32)
    (concatenate S768x128 0 [⟨S384x128, shapeCast S384x128 k0 shapeCasts_S1x1x384x128_S384x128⟩, ⟨S384x128, shapeCast S384x128 k1 shapeCasts_S1x1x384x128_S384x128⟩]
      concatenates_S384x128_S384x128_S768x128_d0) (constant S128x768 .f32 0x00000000#32)

/-- One head's masked scores. -/
def masked (o : Nat) (h : S128x768.Slices ![0, o] S128x384) (b : FVec Ideal S128x384 .bf16) (s : FVec Ideal S128x768 .f32) : FVec Ideal S128x384 .bf16 :=
  addf (truncf .bf16 (extractStridedSlice S128x384 ![0, o] s h) bitsLt_bf16_f32) b

/-- The sink's logit in powers of two. -/
def sinkOf (s : Ideal .f32) : Ideal .f32 := Scalar.mulf s (Named.named κ "log2e" 0x3FB8AA3B#32)

/-- The greatest score of each row, the sink among them. -/
def crest (x : FVec Ideal S128x384 .bf16) (k : Ideal .f32) : FVec Ideal S128x1 .f32 :=
  maximumf (extf .f32 (shapeCast S128x1 (multiReduction .maximumf [1] S128 x 0xFF80#16 reduces_S128x384_S128 (.inr rfl) rfl) shapeCasts_S128_S128x1) bitsLt_bf16_f32)
    (broadcast S128x1 k)

/-- The weights before they are divided by their sum. -/
def weights (x : FVec Ideal S128x384 .bf16) (k : Ideal .f32) : FVec Ideal S128x384 .bf16 :=
  exp2 (subf x (broadcastTo S128x384 (truncf .bf16 (crest x k) bitsLt_bf16_f32) broadcasts_S128x1_S128x384))

/-- One over the sum of the weights, the sink's among them. -/
def inverse (x : FVec Ideal S128x384 .bf16) (k : Ideal .f32) : FVec Ideal S128x1 .f32 :=
  divf (broadcast S128x1 (Scalar.ofBits .f32 0x3F800000#32 : Ideal .f32))
    (addf (shapeCast S128x1 (multiReduction .add [1] S128 (extf .f32 (addf (addf (extractStridedSlice S128x128 ![0, 0] (weights x k) slices_S128x384_o0_0_S128x128)
        (extractStridedSlice S128x128 ![0, 128] (weights x k) slices_S128x384_o0_128_S128x128))
        (extractStridedSlice S128x128 ![0, 256] (weights x k) slices_S128x384_o0_256_S128x128) : FVec Ideal S128x128 .bf16) bitsLt_bf16_f32)
        0x00000000#32 reduces_S128x128_S128 (.inl rfl) rfl) shapeCasts_S128_S128x1)
      (exp2 (subf (broadcast S128x1 k) (crest x k))))

/-- The lanes of the pair's first head. -/
def firstHead : IVec S128x128 1 := cmpi .slt (iota .tc S128x128 32 [1] iota_S128x128_d1_w32) (broadcast S128x128 64#32)

/-- The tile's result, from its masked scores, its sinks and its values. -/
def mixed (x0 x1 : FVec Ideal S128x384 .bf16) (k0 k1 : Ideal .f32) (v0 v1 : FVec Ideal S1x1x384x128 .bf16) : FVec Ideal S128x128 .f32 :=
  mulf (matmul dot_S128x768_S768x128_S128x128_1_0_0_1_n_n none
      (concatenate S128x768 1 [⟨S128x384, weights x0 k0⟩, ⟨S128x384, weights x1 k1⟩] concatenates_S128x384_S128x384_S128x768_d1)
      (concatenate S768x128 0 [⟨S384x128, shapeCast S384x128 v0 shapeCasts_S1x1x384x128_S384x128⟩, ⟨S384x128, shapeCast S384x128 v1 shapeCasts_S1x1x384x128_S384x128⟩]
        concatenates_S384x128_S384x128_S768x128_d0) (constant S128x128 .f32 0x00000000#32))
    (select firstHead (broadcastTo S128x128 (shapeCast S128x1 (inverse x0 k0) shapeCasts_S128x1_S128x1) broadcasts_S128x1_S128x128)
      (broadcastTo S128x128 (shapeCast S128x1 (inverse x1 k1) shapeCasts_S128x1_S128x1) broadcasts_S128x1_S128x128))

/-- The tile's result, from what the kernel loads. -/
def tile (i : grid0.Coords) (n : BitVec 32) (s0 s1 : Ideal .f32) (q : FVec Ideal S1x128x128 .f32) (k0 k1 v0 v1 : FVec Ideal S1x1x384x128 .bf16) :
    FVec Ideal S1x128x128 .bf16 :=
  shapeCast S1x128x128 (truncf .bf16 (mixed (masked 0 slices_S128x768_o0_0_S128x384 (bias i n) (scores q k0 k1))
    (masked 384 slices_S128x768_o0_384_S128x384 (bias i n) (scores q k0 k1)) (sinkOf s0) (sinkOf s1) v0 v1) bitsLt_bf16_f32 : FVec Ideal S128x128 .bf16) shapeCasts_S128x128_S1x128x128

end Cert.AttnTile

end
-- ==== Proof.Attn.Pieces.lean ====
/- Each of the sixty-four tiles the attention kernel stores at a point is the one function of what it loads. -/
module

public import proofs.«01_k».proof.Proof.Attn.Tile
public import proofs.«01_k».proof.Proof.Gen.AttnIdeal.Frame
public import proofs.«01_k».proof.Proof.Proj.Array

@[expose] public section

noncomputable section

namespace Cert.AttnTile

open Cert.AttnIdeal Cert.AttnIdeal.Gen Idealize.ShloMosaic.TcCoe Idealize.ShloMosaic.ValueIdx
open Idealize.ShloMosaic hiding ix1 ix2 ix3 ix4

section Pieces

variable (c : Dev nD) (i : grid0.Coords) (arg2 : Memref sig .tc .smem S8 .f32) (harg2 : arg2.IsWhole) (arg3 : Memref sig .tc .vmem S1x2048x512 .f32) (harg3 : arg3.IsWhole)
  (arg4 : Memref sig .tc .vmem S1x4x4096x128 .bf16) (harg4 : arg4.IsWhole) (arg5 : Memref sig .tc .vmem S1x4x4096x128 .bf16) (harg5 : arg5.IsWhole)
  (arg6 : Memref sig .tc .vmem S1x2048x512 .bf16) (harg6 : arg6.IsWhole)
  (x0 : Vec Ideal S8 .f32) (x1 : Vec Ideal S1x2048x512 .f32) (x2 x3 : Vec Ideal S1x4x4096x128 .bf16)

/-- What a tile reads: the two sinks, the queries, the keys and the values. -/
def sinkAt (s : Nat) (hs : ∀ a, (![s] : Fin 1 → Nat) a + S1.size a ≤ S8.size a) : Ideal .f32 :=
  View.readAt (Elt Ideal) arg2.view (Rect.unit (s := S8) ![s] S1.size hs).toLoadRect (harg2.unread x0) (Shape.Idx.first (show 0 < S1.numel by decide))
def queriesAt (r o : Nat) (h : ∀ a, (![0, r, o] : Fin 3 → Nat) a + S1x128x128.size a ≤ S1x2048x512.size a) : FVec Ideal S1x128x128 .f32 :=
  View.readAt (Elt Ideal) arg3.view (Rect.unit (s := S1x2048x512) ![0, r, o] S1x128x128.size h).toLoadRect (harg3.unread x1)
def windowAt (arg : Memref sig .tc .vmem S1x4x4096x128 .bf16) (harg : arg.IsWhole) (x : Vec Ideal S1x4x4096x128 .bf16) (off : Fin 4 → Nat)
    (h : ∀ a, off a + S1x1x384x128.size a ≤ S1x4x4096x128.size a) : FVec Ideal S1x1x384x128 .bf16 :=
  View.readAt (Elt Ideal) arg.view (Rect.unit (s := S1x4x4096x128) off S1x1x384x128.size h).toLoadRect (harg.unread x)

/-- A window of 384 keys in a slab of the four. -/
theorem window_inb (i : grid0.Coords) (n s : Nat) (hn : n < 16) (hs : s < 4) :
    ∀ a, (![0, s, (start i (BitVec.ofNat 32 n)).toNat, 0] : Fin 4 → Nat) a + S1x1x384x128.size a ≤ S1x4x4096x128.size a := fun a => by
  have h : (start i (BitVec.ofNat 32 n)).toNat + 384 ≤ 4096 := k0_off1_inb i ⟨n, hn⟩ 2
  match a with
  | ⟨0, _⟩ => exact Nat.le_refl 1
  | ⟨1, _⟩ => show s + 1 ≤ 4; omega
  | ⟨2, _⟩ => exact h
  | ⟨3, _⟩ => exact Nat.le_refl 128

theorem sink_inb (s : Nat) (hs : s < 8) : ∀ a, (![s] : Fin 1 → Nat) a + S1.size a ≤ S8.size a := fun a => by
  match a with
  | ⟨0, _⟩ => show s + 1 ≤ 8; omega

theorem tile_inb (n p : Nat) (hn : n < 16) (hp : p < 4) : ∀ a, (![0, 128 * n, 128 * p] : Fin 3 → Nat) a + S1x128x128.size a ≤ S1x2048x512.size a := fun a => by
  match a with
  | ⟨0, _⟩ => exact Nat.le_refl 1
  | ⟨1, _⟩ => show 128 * n + 128 ≤ 2048; omega
  | ⟨2, _⟩ => show 128 * p + 128 ≤ 512; omega

/-- The tile of block `n` and pair `p`, and the piece that stores it. -/
def tileOf (n p : Nat) (hn : n < 16) (hp : p < 4) : FVec Ideal S1x128x128 .bf16 :=
  tile i (BitVec.ofNat 32 n) (sinkAt arg2 harg2 x0 (2 * p) (sink_inb _ (by omega))) (sinkAt arg2 harg2 x0 (2 * p + 1) (sink_inb _ (by omega)))
    (queriesAt arg3 harg3 x1 (128 * n) (128 * p) (tile_inb n p hn hp))
    (windowAt arg4 harg4 x2 _ (window_inb i n (2 * (p / 2)) hn (by omega))) (windowAt arg4 harg4 x2 _ (window_inb i n (2 * (p / 2) + 1) hn (by omega)))
    (windowAt arg5 harg5 x3 _ (window_inb i n (2 * (p / 2)) hn (by omega))) (windowAt arg5 harg5 x3 _ (window_inb i n (2 * (p / 2) + 1) hn (by omega)))

def pieceOf (n p : Nat) (hn : n < 16) (hp : p < 4) : View.Piece (Elt Ideal) S1x2048x512 .bf16 :=
  ⟨Rect.unit (s := S1x2048x512) ![0, 128 * n, 128 * p] S1x128x128.size (tile_inb n p hn hp),
    tileOf i arg2 harg2 arg3 harg3 arg4 harg4 arg5 harg5 x0 x1 x2 x3 n p hn hp⟩

/-- The four pieces of a block, the last first, before the rest. -/
def blockPieces (n : Nat) (hn : n < 16) (rest : List (View.Piece (Elt Ideal) S1x2048x512 .bf16)) : List (View.Piece (Elt Ideal) S1x2048x512 .bf16) :=
  pieceOf i arg2 harg2 arg3 harg3 arg4 harg4 arg5 harg5 x0 x1 x2 x3 n 3 hn (by decide) ::
  pieceOf i arg2 harg2 arg3 harg3 arg4 harg4 arg5 harg5 x0 x1 x2 x3 n 2 hn (by decide) ::
  pieceOf i arg2 harg2 arg3 harg3 arg4 harg4 arg5 harg5 x0 x1 x2 x3 n 1 hn (by decide) ::
  pieceOf i arg2 harg2 arg3 harg3 arg4 harg4 arg5 harg5 x0 x1 x2 x3 n 0 hn (by decide) :: rest

/-- The pieces of the first `n` blocks, the last first. -/
def firstPieces : (n : Nat) → n ≤ 16 → List (View.Piece (Elt Ideal) S1x2048x512 .bf16)
  | 0, _ => []
  | n + 1, h => blockPieces i arg2 harg2 arg3 harg3 arg4 harg4 arg5 harg5 x0 x1 x2 x3 n h (firstPieces n (by omega))

/-- The body's stores are these. -/
theorem pieces_eq : (kernelRun0_A c i arg2 harg2 arg3 harg3 arg4 harg4 arg5 harg5 arg6 harg6 x0 x1 x2 x3).1
    = firstPieces i arg2 harg2 arg3 harg3 arg4 harg4 arg5 harg5 x0 x1 x2 x3 16 (Nat.le_refl _) := by sl_kernel_rfl

theorem mem_first (n : Nat) (h : n ≤ 16) (q : View.Piece (Elt Ideal) S1x2048x512 .bf16)
    (hq : q ∈ firstPieces i arg2 harg2 arg3 harg3 arg4 harg4 arg5 harg5 x0 x1 x2 x3 n h) :
    ∃ (k p : Nat) (hk : k < 16) (hp : p < 4), q = pieceOf i arg2 harg2 arg3 harg3 arg4 harg4 arg5 harg5 x0 x1 x2 x3 k p hk hp := by
  induction n with
  | zero => exact absurd hq List.not_mem_nil
  | succ n ih =>
    simp only [firstPieces, blockPieces, List.mem_cons] at hq
    rcases hq with e | e | e | e | e
    · exact ⟨n, 3, by omega, by decide, e⟩
    · exact ⟨n, 2, by omega, by decide, e⟩
    · exact ⟨n, 1, by omega, by decide, e⟩
    · exact ⟨n, 0, by omega, by decide, e⟩
    · exact ih (by omega) e

/-- What the body leaves in the result's block, at every place. -/
theorem out_apply (G : S1x2048x512.Idx → EReal)
    (hG : ∀ (n p : Nat) (hn : n < 16) (hp : p < 4) (q l : Fin 128), tileOf i arg2 harg2 arg3 harg3 arg4 harg4 arg5 harg5 x0 x1 x2 x3 n p hn hp (ix3 0 q l)
      = G (ix3 0 ⟨128 * n + q.val, by omega⟩ ⟨128 * p + l.val, by omega⟩)) (y : S1x2048x512.Idx) :
    out0_A_4 c i arg2 harg2 arg3 harg3 arg4 harg4 arg5 harg5 arg6 harg6 x0 x1 x2 x3 y = G y := by
  unfold out0_A_4
  refine View.read_writes_apply_of_pieces _ _ G _ (fun q hq x => ?_) y (cover0_A_4 c i arg2 harg2 arg3 harg3 arg4 harg4 arg5 harg5 arg6 harg6 x0 x1 x2 x3 y)
  rw [pieces_eq] at hq
  obtain ⟨n, p, hn, hp, rfl⟩ := mem_first i arg2 harg2 arg3 harg3 arg4 harg4 arg5 harg5 x0 x1 x2 x3 16 _ q hq
  have hx : (x : S1x128x128.Idx) = ix3 0 (x 1) (x 2) := Cert.ProjArray.first3 x
  refine (congrArg (tileOf i arg2 harg2 arg3 harg3 arg4 harg4 arg5 harg5 x0 x1 x2 x3 n p hn hp) hx).trans ((hG n p hn hp (x 1) (x 2)).trans (congrArg G ?_))
  funext a
  have h0 : (x 0).val < 1 := (x 0).isLt
  refine Fin.ext ?_
  match a with
  | ⟨0, _⟩ => show 0 = 0 + 1 * (x 0).val; omega
  | ⟨1, _⟩ => show 128 * n + (x 1).val = 128 * n + 1 * (x 1).val; omega
  | ⟨2, _⟩ => show 128 * p + (x 2).val = 128 * p + 1 * (x 2).val; omega

end Pieces

end Cert.AttnTile

end
-- ==== Proof.Attn.Place.lean ====
/- Where a block of 128 queries stands among the tokens, where its window of keys begins, and which of the window's
   keys each of its queries sees. -/
module

public import proofs.«01_k».proof.Proof.Attn.Tile
public import proofs.«01_k».proof.Proof.Proj.Array

@[expose] public section

noncomputable section

namespace Cert.AttnTile

open Cert.AttnIdeal Cert.AttnIdeal.Gen Idealize.ShloMosaic.TcCoe Idealize.ShloMosaic.ValueIdx
open Idealize.ShloMosaic hiding ix1 ix2 ix3 ix4

theorem number_eq (i : grid0.Coords) (n : Nat) : number i (BitVec.ofNat 32 n) = BitVec.ofNat 32 (16 * (i 1).val + n) := by
  unfold number Scalar.addi Scalar.muli
  show BitVec.ofNat 32 (i 1).val * BitVec.ofNat 32 16 + BitVec.ofNat 32 n = _
  rw [← BitVec.ofNat_mul, ← BitVec.ofNat_add, Nat.mul_comm]

theorem start_of : ∀ w : Fin 32, (Scalar.minsi 3712#32 (Scalar.maxsi 0#32 (Scalar.subi (Scalar.muli (BitVec.ofNat 32 w.val) 128#32) 128#32)))
    = BitVec.ofNat 32 (min 3712 (128 * w.val - 128)) := by decide +kernel

theorem start_eq (i : grid0.Coords) (n w : Nat) (hw : w = 16 * (i 1).val + n) (h : w < 32) :
    start i (BitVec.ofNat 32 n) = BitVec.ofNat 32 (min 3712 (128 * w - 128)) := by
  unfold start
  rw [number_eq, ← hw]
  exact start_of ⟨w, h⟩

theorem start_toNat (i : grid0.Coords) (n w : Nat) (hw : w = 16 * (i 1).val + n) (h : w < 32) :
    (start i (BitVec.ofNat 32 n)).toNat = min 3712 (128 * w - 128) := by
  rw [start_eq i n w hw h, BitVec.toNat_ofNat]
  omega

/-- The distance of two places, compared in words. -/
theorem near_iff (a b : Nat) (ha : a < 8192) (hb : b < 8192) :
    IntOp.cmpi .sle (IntOp.absi (BitVec.ofNat 32 a - BitVec.ofNat 32 b)) 128#32 = if a ≤ b + 128 ∧ b ≤ a + 128 then 1#1 else 0#1 := by
  have e1 : (BitVec.ofNat 32 a).toNat = a := by rw [BitVec.toNat_ofNat]; omega
  have e2 : (BitVec.ofNat 32 b).toNat = b := by rw [BitVec.toNat_ofNat]; omega
  have key : (IntOp.absi (BitVec.ofNat 32 a - BitVec.ofNat 32 b)).toNat = if b ≤ a then a - b else b - a := by
    unfold IntOp.absi
    rw [BitVec.msb_eq_decide]
    split
    · next h =>
      rw [decide_eq_true_eq, BitVec.toNat_sub, e1, e2] at h
      rw [BitVec.toNat_neg, BitVec.toNat_sub, e1, e2]
      split <;> omega
    · next h =>
      rw [decide_eq_true_eq, BitVec.toNat_sub, e1, e2] at h
      rw [BitVec.toNat_sub, e1, e2]
      split <;> omega
  have hi : (IntOp.absi (BitVec.ofNat 32 a - BitVec.ofNat 32 b)).toInt = ((if b ≤ a then a - b else b - a : Nat) : Int) := by
    rw [BitVec.toInt_eq_toNat_of_lt (by rw [key]; split <;> omega), key]
  show BitVec.ofBool (BitVec.sle _ _) = _
  have e : BitVec.sle (IntOp.absi (BitVec.ofNat 32 a - BitVec.ofNat 32 b)) 128#32 = decide (a ≤ b + 128 ∧ b ≤ a + 128) := by
    rw [BitVec.sle_eq_decide, hi]
    have : (128#32 : BitVec 32).toInt = 128 := by decide
    rw [this]
    refine decide_eq_decide.2 ?_
    split <;> omega
  rw [e]
  split
  · next h => rw [decide_eq_true h]; rfl
  · next h => rw [decide_eq_false h]; rfl

/-- The window's mask at a query and a key: nothing where they are at most 128 apart, −∞ elsewhere. -/
theorem bias_apply (i : grid0.Coords) (n w : Nat) (hw : w = 16 * (i 1).val + n) (h : w < 32) (q : Fin 128) (j : Fin 384) :
    bias i (BitVec.ofNat 32 n) (ix2 q j)
      = if 128 * w + q.val ≤ min 3712 (128 * w - 128) + j.val + 128 ∧ min 3712 (128 * w - 128) + j.val ≤ 128 * w + q.val + 128 then 0 else ⊥ := by
  have e1 : (addi (broadcast S128x384 (Scalar.muli (number i (BitVec.ofNat 32 n)) 128#32)) (iota .tc S128x384 32 [0] iota_S128x384_d0_w32)) (ix2 q j)
      = BitVec.ofNat 32 (128 * w + q.val) := by
    rw [number_eq, ← hw]
    show BitVec.ofNat 32 w * BitVec.ofNat 32 128 + BitVec.ofNat 32 (0 * 128 + q.val) = _
    rw [← BitVec.ofNat_mul, ← BitVec.ofNat_add]
    congr 1
    omega
  have e2 : (addi (broadcast S128x384 (start i (BitVec.ofNat 32 n))) (iota .tc S128x384 32 [1] iota_S128x384_d1_w32)) (ix2 q j)
      = BitVec.ofNat 32 (min 3712 (128 * w - 128) + j.val) := by
    rw [start_eq i n w hw h]
    show BitVec.ofNat 32 (min 3712 (128 * w - 128)) + BitVec.ofNat 32 (0 * 384 + j.val) = _
    rw [← BitVec.ofNat_add]
    congr 1
    omega
  show Scalar.select (IntOp.cmpi .sle (IntOp.absi (_ - _)) 128#32) (Ideal.ofBits .f32 0x00000000#32) (Named.named κ "mask" 0xF149F2CA#32 : Ideal .f32) = _
  rw [e1, e2, near_iff _ _ (by omega) (by omega), Ideal.ofBits_zero_f32]
  split <;> rfl

end Cert.AttnTile

end
-- ==== Proof.Attn.Row.lean ====
/- The attention of one query, as arithmetic over all keys: the keys outside its window carry the score −∞, the sink adds its weight
   to the sum alone. A window of 384 keys, wherever it lies, gives the same greatest score and the same sums. -/
module

public import proofs.«01_k».proof.Proof.Mix.Row

@[expose] public section

noncomputable section

namespace Cert.AttnRow

open Idealize.ShloMosaic

/-! ## The greatest score -/

/-- The greatest of the scores, and of the scores and the sink. -/
def highest {n : Nat} (x : Fin n → EReal) : EReal := Finset.univ.fold max ⊥ x
def top {n : Nat} (x : Fin n → EReal) (s : EReal) : EReal := max (highest x) s

theorem highest_le {n : Nat} (x : Fin n → EReal) (b : EReal) : highest x ≤ b ↔ ∀ k, x k ≤ b :=
  (Finset.fold_max_le b).trans ⟨fun h k => h.2 k (Finset.mem_univ k), fun h => ⟨bot_le, fun k _ => h k⟩⟩

/-- A window of the keys: place `j` of the window is key `u` where `u + 128 = off + j`. -/
theorem highest_window {n m : Nat} (off : Nat) (y : Fin n → EReal) (x : Fin m → EReal)
    (hin : ∀ (j : Fin n) (u : Fin m), u.val + 128 = off + j.val → y j = x u)
    (hout : ∀ j : Fin n, (∀ u : Fin m, u.val + 128 ≠ off + j.val) → y j = ⊥)
    (hfar : ∀ u : Fin m, (∀ j : Fin n, u.val + 128 ≠ off + j.val) → x u = ⊥) : highest y = highest x := by
  apply le_antisymm
  · rw [highest_le]
    intro j
    by_cases h : ∃ u : Fin m, u.val + 128 = off + j.val
    · obtain ⟨u, hu⟩ := h
      rw [hin j u hu]
      exact (highest_le x _).1 le_rfl u
    · rw [hout j fun u hu => h ⟨u, hu⟩]
      exact bot_le
  · rw [highest_le]
    intro u
    by_cases h : ∃ j : Fin n, u.val + 128 = off + j.val
    · obtain ⟨j, hj⟩ := h
      rw [← hin j u hj]
      exact (highest_le y _).1 le_rfl j
    · rw [hfar u fun j hj => h ⟨j, hj⟩]
      exact bot_le

/-- The same of a sum. -/
theorem sum_window {n m : Nat} (off : Nat) (y : Fin n → EReal) (x : Fin m → EReal)
    (hin : ∀ (j : Fin n) (u : Fin m), u.val + 128 = off + j.val → y j = x u)
    (hout : ∀ j : Fin n, (∀ u : Fin m, u.val + 128 ≠ off + j.val) → y j = 0)
    (hfar : ∀ u : Fin m, (∀ j : Fin n, u.val + 128 ≠ off + j.val) → x u = 0) : ∑ j, y j = ∑ u, x u := by
  have key : ∀ j : Fin n, y j ≠ 0 → ∃ u : Fin m, u.val + 128 = off + j.val := fun j h => by
    by_contra hn
    exact h (hout j fun u hu => hn ⟨u, hu⟩)
  refine Finset.sum_bij_ne_zero (fun j _ h => (key j h).choose) (fun _ _ _ => Finset.mem_univ _) (fun j _ h j' _ h' e => ?_) (fun u _ h => ?_) (fun j _ h => ?_)
  · have a := (key j h).choose_spec
    have b := (key j' h').choose_spec
    rw [e] at a
    exact Fin.ext (by omega)
  · have hj : ∃ j : Fin n, u.val + 128 = off + j.val := by
      by_contra hn
      exact h (hfar u fun j hj => hn ⟨j, hj⟩)
    obtain ⟨j, hj⟩ := hj
    have hy : y j ≠ 0 := by rw [hin j u hj]; exact h
    refine ⟨j, Finset.mem_univ _, hy, Fin.ext ?_⟩
    have b := (key j hy).choose_spec
    omega
  · exact hin j _ (key j h).choose_spec

/-! ## One query -/

/-- The sum of the weights, the sink's among them. -/
def whole {n : Nat} (x : Fin n → EReal) (s : EReal) : EReal := (∑ k, Ideal.exp (x k - top x s)) + Ideal.exp (s - top x s)
/-- The values weighted by their shares. -/
def attend {n : Nat} (x : Fin n → EReal) (s : EReal) (v : Fin n → EReal) : EReal :=
  ∑ k, v k * Ideal.div (Ideal.exp (x k - top x s)) (whole x s)

/-- Of a window: the same. -/
theorem attend_window {n m : Nat} (off : Nat) (y : Fin n → EReal) (x : Fin m → EReal) (s : EReal) (v : Fin n → EReal) (w : Fin m → EReal)
    (hin : ∀ (j : Fin n) (u : Fin m), u.val + 128 = off + j.val → y j = x u)
    (hval : ∀ (j : Fin n) (u : Fin m), u.val + 128 = off + j.val → v j = w u)
    (hout : ∀ j : Fin n, (∀ u : Fin m, u.val + 128 ≠ off + j.val) → y j = ⊥)
    (hfar : ∀ u : Fin m, (∀ j : Fin n, u.val + 128 ≠ off + j.val) → x u = ⊥) (hw : whole x s ≠ 0) : attend y s v = attend x s w := by
  have ht : top y s = top x s := congrArg (fun z => max z s) (highest_window off y x hin hout hfar)
  have hb : ∀ z : EReal, Ideal.exp (⊥ - z) = 0 := fun z => by rw [EReal.bot_sub]; rfl
  have hs : whole y s = whole x s := by
    unfold whole
    rw [ht]
    refine congrArg (fun z => z + _) (sum_window off _ _ (fun j u h => ?_) (fun j h => ?_) (fun u h => ?_))
    · rw [hin j u h]
    · rw [hout j h, hb]
    · rw [hfar u h, hb]
  have hz : Ideal.div 0 (whole x s) = 0 := by
    rw [Ideal.div, if_neg hw, zero_mul]
  unfold attend
  rw [hs, ht]
  refine sum_window off _ _ (fun j u h => ?_) (fun j h => ?_) (fun u h => ?_)
  · rw [hin j u h, hval j u h]
  · rw [hout j h, hb, hz, mul_zero]
  · rw [hfar u h, hb, hz, mul_zero]

/-! ## Real weights -/

theorem exp_nonneg (x : EReal) : 0 ≤ Ideal.exp x := by
  induction x with
  | bot => exact le_rfl
  | top => exact le_top
  | coe r => exact EReal.coe_nonneg.2 (Real.exp_pos r).le

theorem exp_real {x : EReal} (h : x ≠ ⊤) : ∃ r : ℝ, Ideal.exp x = (r : EReal) := by
  induction x with
  | bot => exact ⟨0, rfl⟩
  | top => exact absurd rfl h
  | coe r => exact ⟨Real.exp r, rfl⟩

theorem sum_real {n : Nat} (f : Fin n → EReal) (h : ∀ k, ∃ r : ℝ, f k = (r : EReal)) : ∃ r : ℝ, ∑ k, f k = (r : EReal) := by
  induction n with
  | zero => exact ⟨0, by simp⟩
  | succ n ih =>
    obtain ⟨a, ha⟩ := ih (fun k => f k.castSucc) fun k => h _
    obtain ⟨b, hb⟩ := h (Fin.last n)
    exact ⟨a + b, by rw [Fin.sum_univ_castSucc, ha, hb]; exact (EReal.coe_add a b).symm⟩

/-- The greatest score is real where the sink is and no score is +∞. -/
theorem top_real {n : Nat} (x : Fin n → EReal) (t : ℝ) (hx : ∀ k, x k ≠ ⊤) : ∃ r : ℝ, top x (t : EReal) = (r : EReal) := by
  have h : highest x ≠ ⊤ := by
    unfold highest
    induction (Finset.univ : Finset (Fin n)) using Finset.induction_on with
    | empty => simp
    | insert a s ha ih =>
      rw [Finset.fold_insert ha]
      rcases max_choice (x a) (s.fold max ⊥ x) with e | e
      · rw [e]; exact hx a
      · rw [e]; exact ih
  rcases max_choice (highest x) (t : EReal) with e | e
  · refine ⟨(highest x).toReal, ?_⟩
    unfold top
    rw [e]
    refine (EReal.coe_toReal h fun hb => ?_).symm
    have : (t : EReal) ≤ highest x := max_eq_left_iff.1 e
    rw [hb, le_bot_iff] at this
    exact EReal.coe_ne_bot t this
  · exact ⟨t, e⟩

theorem sub_real {x : EReal} (hx : x ≠ ⊤) (r : ℝ) : x - (r : EReal) ≠ ⊤ := by
  induction x with
  | bot => rw [EReal.bot_sub]; decide
  | top => exact absurd rfl hx
  | coe a => rw [← EReal.coe_sub]; exact EReal.coe_ne_top _

/-- The sum of the weights is a positive real. -/
theorem whole_real {n : Nat} (x : Fin n → EReal) (t : ℝ) (hx : ∀ k, x k ≠ ⊤) : ∃ r : ℝ, 0 < r ∧ whole x (t : EReal) = (r : EReal) := by
  obtain ⟨m, hm⟩ := top_real x t hx
  obtain ⟨a, ha⟩ := sum_real (fun k => Ideal.exp (x k - top x (t : EReal))) fun k => exp_real (by rw [hm]; exact sub_real (hx k) m)
  have ha0 : 0 ≤ a := by
    have : (0 : EReal) ≤ (a : EReal) := ha ▸ Finset.sum_nonneg fun k _ => exp_nonneg _
    exact EReal.coe_nonneg.1 this
  refine ⟨a + Real.exp (t - m), add_pos_of_nonneg_of_pos ha0 (Real.exp_pos _), ?_⟩
  unfold whole
  rw [ha, hm, ← EReal.coe_sub, Ideal.exp_coe, ← EReal.coe_add]

/-! ## The kernel's form -/

/-- A factor that is a nonnegative real goes through a sum. -/
theorem sum_mul {n : Nat} (f : Fin n → EReal) (r : ℝ) (hr : 0 ≤ r) : (∑ k, f k) * (r : EReal) = ∑ k, f k * (r : EReal) := by
  induction n with
  | zero => simp
  | succ n ih =>
    rw [Fin.sum_univ_castSucc, Fin.sum_univ_castSucc, EReal.right_distrib_of_nonneg_of_ne_top (EReal.coe_nonneg.2 hr) (EReal.coe_ne_top r), ih]

/-- One over the logarithm of two, and a score in powers of two. -/
def perTwo : ℝ := (Real.log 2)⁻¹
theorem perTwo_pos : 0 < perTwo := inv_pos.2 (Real.log_pos (by norm_num))

theorem exp2_scaled {x : EReal} (hx : x ≠ ⊤) (m : ℝ) : Ideal.exp2 (x * (perTwo : EReal) - (m : EReal) * (perTwo : EReal)) = Ideal.exp (x - (m : EReal)) := by
  induction x with
  | bot =>
    rw [EReal.bot_mul_coe_of_pos perTwo_pos, EReal.bot_sub, EReal.bot_sub]
    rfl
  | top => exact absurd rfl hx
  | coe a =>
    rw [← EReal.coe_mul, ← EReal.coe_mul, ← EReal.coe_sub, ← EReal.coe_sub, Ideal.exp2_coe, Ideal.exp_coe]
    refine congrArg _ ((Real.rpow_def_of_pos (by norm_num) _).trans (congrArg Real.exp ?_))
    unfold perTwo
    have h : Real.log 2 ≠ 0 := (Real.log_pos (by norm_num)).ne'
    field_simp

theorem scaled_mono : Monotone fun z : EReal => z * (perTwo : EReal) := fun _ _ h =>
  mul_le_mul_of_nonneg_right h (EReal.coe_nonneg.2 perTwo_pos.le)

theorem highest_scaled {n : Nat} (x : Fin n → EReal) : highest (fun k => x k * (perTwo : EReal)) = highest x * (perTwo : EReal) := by
  unfold highest
  induction (Finset.univ : Finset (Fin n)) using Finset.induction_on with
  | empty => rw [Finset.fold_empty, Finset.fold_empty, EReal.bot_mul_coe_of_pos perTwo_pos]
  | insert a s ha ih =>
    rw [Finset.fold_insert ha, Finset.fold_insert ha, ih]
    exact (scaled_mono.map_max).symm

theorem top_scaled {n : Nat} (x : Fin n → EReal) (s : EReal) : top (fun k => x k * (perTwo : EReal)) (s * (perTwo : EReal)) = top x s * (perTwo : EReal) := by
  unfold top
  rw [highest_scaled]
  exact (scaled_mono.map_max).symm

/-- What the kernel computes of scores in powers of two: the weights' sum apart, its reciprocal once. -/
def whole2 {n : Nat} (x : Fin n → EReal) (s : EReal) : EReal := (∑ k, Ideal.exp2 (x k - top x s)) + Ideal.exp2 (s - top x s)
def attend2 {n : Nat} (x : Fin n → EReal) (s : EReal) (v : Fin n → EReal) : EReal :=
  (∑ k, Ideal.exp2 (x k - top x s) * v k) * Ideal.div 1 (whole2 x s)

/-- The two are equal where the sink is real and no score is +∞. -/
theorem attend_eq {n : Nat} (x : Fin n → EReal) (t : ℝ) (v : Fin n → EReal) (hx : ∀ k, x k ≠ ⊤) :
    attend2 (fun k => x k * (perTwo : EReal)) ((t : EReal) * (perTwo : EReal)) v = attend x (t : EReal) v := by
  obtain ⟨m, hm⟩ := top_real x t hx
  obtain ⟨r, hr, hw⟩ := whole_real x t hx
  have hk : ∀ k, Ideal.exp2 (x k * (perTwo : EReal) - top (fun k => x k * (perTwo : EReal)) ((t : EReal) * (perTwo : EReal))) = Ideal.exp (x k - top x (t : EReal)) := fun k => by
    rw [top_scaled, hm, exp2_scaled (hx k)]
  have hs : Ideal.exp2 ((t : EReal) * (perTwo : EReal) - top (fun k => x k * (perTwo : EReal)) ((t : EReal) * (perTwo : EReal))) = Ideal.exp ((t : EReal) - top x (t : EReal)) := by
    rw [top_scaled, hm, exp2_scaled (EReal.coe_ne_top t)]
  have e : whole2 (fun k => x k * (perTwo : EReal)) ((t : EReal) * (perTwo : EReal)) = whole x (t : EReal) := by
    unfold whole2 whole
    rw [hs]
    exact congrArg (fun z => z + _) (Finset.sum_congr rfl fun k _ => hk k)
  unfold attend2 attend
  rw [e, hw, Ideal.div_coe hr.ne', one_mul, sum_mul _ _ (by positivity)]
  refine Finset.sum_congr rfl fun k _ => ?_
  rw [hk, Ideal.div_coe hr.ne', mul_comm (Ideal.exp _) (v k), mul_assoc]

/-! ## Splitting sums -/

theorem sum_two {M : Type} [AddCommMonoid M] {n w : Nat} (hn : n = w + w) (f : Fin n → M) :
    ∑ k, f k = (∑ k : Fin w, f ⟨k.val, by omega⟩) + ∑ k : Fin w, f ⟨w + k.val, by omega⟩ := by
  subst hn
  exact Fin.sum_univ_add f

theorem sum_three {M : Type} [AddCommMonoid M] {n w : Nat} (hn : n = w + w + w) (f : Fin n → M) :
    ∑ k, f k = ∑ k : Fin w, (f ⟨k.val, by omega⟩ + f ⟨w + k.val, by omega⟩ + f ⟨w + w + k.val, by omega⟩) := by
  subst hn
  rw [Fin.sum_univ_add, Fin.sum_univ_add, Finset.sum_add_distrib, Finset.sum_add_distrib]
  rfl

end Cert.AttnRow

end
-- ==== Proof.Attn.TileRead.lean ====
/- A tile's result at a query and a lane: the two heads' weighted values, times one over their weights' sums. -/
module

public import proofs.«01_k».proof.Proof.Attn.Place
public import proofs.«01_k».proof.Proof.Attn.Row
public import proofs.«01_k».proof.Proof.Proj.Layout
public import Idealize.ShloMosaic.Lib.MatmulPlain

@[expose] public section

noncomputable section

namespace Cert.AttnTile

open Cert.AttnIdeal Cert.AttnIdeal.Gen Cert.Layout Cert.ProjLayout Cert.AttnRow Idealize.ShloMosaic.TcCoe Idealize.ShloMosaic.ValueIdx
open Idealize.ShloMosaic hiding ix1 ix2 ix3 ix4

variable {α : Type}

/-! ## Layout -/

/-- A product with the second factor turned over, into zeros. -/
theorem matmul_across {M K N : Nat} {φ₁ φ₂ : FTy} (d : DotDims ⟨2, ![M, K]⟩ ⟨2, ![N, K]⟩ ⟨2, ![M, N]⟩)
    (hd : d = DotDims.transposedRhs M K N) (a : FVec Ideal ⟨2, ![M, K]⟩ φ₁) (b : FVec Ideal ⟨2, ![N, K]⟩ φ₂) (r : Fin M) (c : Fin N) :
    matmul d none a b (constant ⟨2, ![M, N]⟩ .f32 0x00000000#32) (ix2 r c) = ∑ k : Fin K, a (ix2 r k) * b (ix2 c k) := by
  subst hd
  refine (Ideal.matmul_transposedRhs_apply none a b _ r c).trans ?_
  show Ideal.ofBits .f32 0x00000000#32 + _ = _
  rw [Ideal.ofBits_zero_f32, zero_add]

/-- Two runs of rows stacked, read in each. -/
theorem over_first {a b n m : Nat} (x : (⟨2, ![a, m]⟩ : Shape).Idx → α) (y : (⟨2, ![b, m]⟩ : Shape).Idx → α)
    (h : Shape.Concatenates [⟨2, ![a, m]⟩, ⟨2, ![b, m]⟩] ⟨2, ![n, m]⟩ 0) (r : Fin n) (k : Fin m) (i : Fin a) (hi : i.val = r.val) :
    concatenate ⟨2, ![n, m]⟩ 0 [⟨⟨2, ![a, m]⟩, x⟩, ⟨⟨2, ![b, m]⟩, y⟩] h (ix2 r k) = x (ix2 i k) :=
  concatenate_apply_piece (t := ⟨2, ![n, m]⟩) 0 [⟨⟨2, ![a, m]⟩, x⟩, ⟨⟨2, ![b, m]⟩, y⟩] h (ix2 r k) 0 (by simp)
    ⟨2, ![a, m]⟩ x rfl rfl 0 rfl (ix2 i k) (fun b hb => by
      match b with
      | ⟨0, _⟩ => exact absurd rfl hb
      | ⟨1, _⟩ => rfl) (by show 0 + i.val = r.val; omega)

theorem over_second {a b n m : Nat} (x : (⟨2, ![a, m]⟩ : Shape).Idx → α) (y : (⟨2, ![b, m]⟩ : Shape).Idx → α)
    (h : Shape.Concatenates [⟨2, ![a, m]⟩, ⟨2, ![b, m]⟩] ⟨2, ![n, m]⟩ 0) (r : Fin n) (k : Fin m) (i : Fin b) (hi : a + i.val = r.val) :
    concatenate ⟨2, ![n, m]⟩ 0 [⟨⟨2, ![a, m]⟩, x⟩, ⟨⟨2, ![b, m]⟩, y⟩] h (ix2 r k) = y (ix2 i k) :=
  concatenate_apply_piece (t := ⟨2, ![n, m]⟩) 0 [⟨⟨2, ![a, m]⟩, x⟩, ⟨⟨2, ![b, m]⟩, y⟩] h (ix2 r k) 1 (by simp)
    ⟨2, ![b, m]⟩ y rfl rfl a rfl (ix2 i k) (fun b hb => by
      match b with
      | ⟨0, _⟩ => exact absurd rfl hb
      | ⟨1, _⟩ => rfl) hi

/-- Two strips of columns side by side, read in each. -/
theorem next_first {a b n m : Nat} (x : (⟨2, ![n, a]⟩ : Shape).Idx → α) (y : (⟨2, ![n, b]⟩ : Shape).Idx → α)
    (h : Shape.Concatenates [⟨2, ![n, a]⟩, ⟨2, ![n, b]⟩] ⟨2, ![n, m]⟩ 1) (r : Fin n) (k : Fin m) (i : Fin a) (hi : i.val = k.val) :
    concatenate ⟨2, ![n, m]⟩ 1 [⟨⟨2, ![n, a]⟩, x⟩, ⟨⟨2, ![n, b]⟩, y⟩] h (ix2 r k) = x (ix2 r i) :=
  concatenate_apply_piece (t := ⟨2, ![n, m]⟩) 1 [⟨⟨2, ![n, a]⟩, x⟩, ⟨⟨2, ![n, b]⟩, y⟩] h (ix2 r k) 0 (by simp)
    ⟨2, ![n, a]⟩ x rfl rfl 0 rfl (ix2 r i) (fun b hb => by
      match b with
      | ⟨0, _⟩ => rfl
      | ⟨1, _⟩ => exact absurd rfl hb) (by show 0 + i.val = k.val; omega)

theorem next_second {a b n m : Nat} (x : (⟨2, ![n, a]⟩ : Shape).Idx → α) (y : (⟨2, ![n, b]⟩ : Shape).Idx → α)
    (h : Shape.Concatenates [⟨2, ![n, a]⟩, ⟨2, ![n, b]⟩] ⟨2, ![n, m]⟩ 1) (r : Fin n) (k : Fin m) (i : Fin b) (hi : a + i.val = k.val) :
    concatenate ⟨2, ![n, m]⟩ 1 [⟨⟨2, ![n, a]⟩, x⟩, ⟨⟨2, ![n, b]⟩, y⟩] h (ix2 r k) = y (ix2 r i) :=
  concatenate_apply_piece (t := ⟨2, ![n, m]⟩) 1 [⟨⟨2, ![n, a]⟩, x⟩, ⟨⟨2, ![n, b]⟩, y⟩] h (ix2 r k) 1 (by simp)
    ⟨2, ![n, b]⟩ y rfl rfl a rfl (ix2 r i) (fun b hb => by
      match b with
      | ⟨0, _⟩ => rfl
      | ⟨1, _⟩ => exact absurd rfl hb) hi

/-- A row's greatest element. -/
theorem row_max {n m : Nat} (x : FVec Ideal ⟨2, ![n, m]⟩ .bf16)
    (h : (⟨2, ![n, m]⟩ : Shape).Reduces [1] ⟨1, ![n]⟩) (hφ : FKind.Formats .bf16)
    (hacc : (0xFF80#16 : BitVec 16) = FKind.maximumf.neutral .bf16 hφ) (r : Fin n) :
    multiReduction .maximumf [1] ⟨1, ![n]⟩ x 0xFF80#16 h hφ hacc (ix1 r) = highest fun k : Fin m => x (ix2 r k) := by
  rw [Ideal.multiReduction_maximumf_single]
  have e0 : (FloatOps.ofBits .bf16 0xFF80#16 : Ideal .bf16) = (⊥ : EReal) := by
    show Ideal.ofBits .bf16 0xFF80#16 = _
    simp [Ideal.ofBits, Ideal.ieee]
  rw [e0]
  unfold highest
  refine congrArg (fun f => Finset.univ.fold max ⊥ f) (funext fun k => congrArg x (funext fun a => Fin.ext ?_))
  match a with
  | ⟨0, _⟩ => rfl
  | ⟨1, _⟩ => rfl

/-! ## The tile -/

/-- The scale of the queries. -/
abbrev scale : EReal := (Named.named κ "q_scale" 0x3E38AA3B#32 : Ideal .f32)

/-- A query's scores over the window's keys, masked. -/
def scoreRow (i : grid0.Coords) (n : Nat) (q : FVec Ideal S1x128x128 .f32) (k : FVec Ideal S1x1x384x128 .bf16) (r : Fin 128) (j : Fin 384) : EReal :=
  (∑ c : Fin 128, q (ix3 0 r c) * scale * k (ix4 0 0 j c)) + bias i (BitVec.ofNat 32 n) (ix2 r j)

theorem scores_first (q : FVec Ideal S1x128x128 .f32) (k0 k1 : FVec Ideal S1x1x384x128 .bf16) (r : Fin 128) (c : Fin 768) (j : Fin 384) (hj : j.val = c.val) :
    scores q k0 k1 (ix2 r c) = ∑ k : Fin 128, q (ix3 0 r k) * scale * k0 (ix4 0 0 j k) := by
  refine (matmul_across _ rfl _ _ r c).trans (Finset.sum_congr rfl fun k _ => ?_)
  refine congrArg₂ (fun a b : EReal => a * b) (congrArg (fun z : EReal => z * scale) (cast_drop1 q _ r k)) ?_
  exact (over_first _ _ _ c k j hj).trans (cast_drop2 k0 _ j k)

theorem scores_second (q : FVec Ideal S1x128x128 .f32) (k0 k1 : FVec Ideal S1x1x384x128 .bf16) (r : Fin 128) (c : Fin 768) (j : Fin 384) (hj : 384 + j.val = c.val) :
    scores q k0 k1 (ix2 r c) = ∑ k : Fin 128, q (ix3 0 r k) * scale * k1 (ix4 0 0 j k) := by
  refine (matmul_across _ rfl _ _ r c).trans (Finset.sum_congr rfl fun k _ => ?_)
  refine congrArg₂ (fun a b : EReal => a * b) (congrArg (fun z : EReal => z * scale) (cast_drop1 q _ r k)) ?_
  exact (over_second _ _ _ c k j hj).trans (cast_drop2 k1 _ j k)

theorem masked_first (i : grid0.Coords) (n : Nat) (q : FVec Ideal S1x128x128 .f32) (k0 k1 : FVec Ideal S1x1x384x128 .bf16) (r : Fin 128) (j : Fin 384) :
    masked 0 slices_S128x768_o0_0_S128x384 (bias i (BitVec.ofNat 32 n)) (scores q k0 k1) (ix2 r j) = scoreRow i n q k0 r j := by
  refine congrArg (fun z : EReal => z + bias i (BitVec.ofNat 32 n) (ix2 r j)) ?_
  exact (slice2 0 0 (scores q k0 k1) slices_S128x768_o0_0_S128x384 r j r ⟨j.val, by omega⟩ (by omega) (by show j.val = 0 + j.val; omega)).trans (scores_first q k0 k1 r _ j rfl)

theorem masked_second (i : grid0.Coords) (n : Nat) (q : FVec Ideal S1x128x128 .f32) (k0 k1 : FVec Ideal S1x1x384x128 .bf16) (r : Fin 128) (j : Fin 384) :
    masked 384 slices_S128x768_o0_384_S128x384 (bias i (BitVec.ofNat 32 n)) (scores q k0 k1) (ix2 r j) = scoreRow i n q k1 r j := by
  refine congrArg (fun z : EReal => z + bias i (BitVec.ofNat 32 n) (ix2 r j)) ?_
  exact (slice2 0 384 (scores q k0 k1) slices_S128x768_o0_384_S128x384 r j r ⟨384 + j.val, by omega⟩ (by omega) rfl).trans (scores_second q k0 k1 r _ j rfl)

section Softmax

variable (x : FVec Ideal S128x384 .bf16) (s : Ideal .f32) (f : Fin 384 → EReal) (r : Fin 128) (hf : ∀ j, x (ix2 r j) = f j)

include hf

theorem crest_apply : crest x s (ix2 r 0) = top f s := by
  have e : shapeCast S128x1 (multiReduction .maximumf [1] S128 x 0xFF80#16 reduces_S128x384_S128 (.inr rfl) rfl) shapeCasts_S128_S128x1 (ix2 r 0) = highest f :=
    (cast_col (n := 128) _ _ r 0).trans ((row_max x _ _ _ r).trans (congrArg highest (funext hf)))
  unfold crest
  refine (ValueIdx.maximumf_apply _ _ _).trans ?_
  rw [ValueIdx.extf_apply, e]
  rfl

theorem weights_apply (j : Fin 384) : weights x s (ix2 r j) = Ideal.exp2 (f j - top f s) := by
  have e : broadcastTo S128x384 (truncf .bf16 (crest x s) bitsLt_bf16_f32 : FVec Ideal S128x1 .bf16) broadcasts_S128x1_S128x384 (ix2 r j) = top f s :=
    (spread_col (n := 128) (m := 384) (by decide) _ _ r j).trans (crest_apply x s f r hf)
  show Ideal.exp2 (x (ix2 r j) - broadcastTo S128x384 (truncf .bf16 (crest x s) bitsLt_bf16_f32 : FVec Ideal S128x1 .bf16) broadcasts_S128x1_S128x384 (ix2 r j)) = _
  rw [hf, e]

theorem inverse_apply : inverse x s (ix2 r 0) = Ideal.div 1 (whole2 f s) := by
  refine congrArg₂ Ideal.div Ideal.ofBits_one_f32 ?_
  unfold whole2
  refine congrArg₂ (fun a b : EReal => a + b) ?_ (congrArg Ideal.exp2 (congrArg (fun z : EReal => s - z) (crest_apply x s f r hf)))
  refine (cast_col _ _ r 0).trans ((row_sum _ _ _ _ r).trans ?_)
  refine Eq.trans ?_ (sum_three (w := 128) (n := 384) rfl fun j => Ideal.exp2 (f j - top f s)).symm
  refine Finset.sum_congr rfl fun j _ => ?_
  refine congrArg₂ (fun a b : EReal => a + b) (congrArg₂ (fun a b : EReal => a + b) ?_ ?_) ?_
  · exact (slice2 0 0 (weights x s) slices_S128x384_o0_0_S128x128 r j r ⟨j.val, by omega⟩ (by omega) (by show j.val = 0 + j.val; omega)).trans (weights_apply x s f r hf _)
  · exact (slice2 0 128 (weights x s) slices_S128x384_o0_128_S128x128 r j r ⟨128 + j.val, by omega⟩ (by omega) rfl).trans (weights_apply x s f r hf _)
  · exact (slice2 0 256 (weights x s) slices_S128x384_o0_256_S128x128 r j r ⟨128 + 128 + j.val, by omega⟩ (by omega) rfl).trans (weights_apply x s f r hf _)

end Softmax

theorem firstHead_apply (r l : Fin 128) : firstHead (ix2 r l) = if l.val < 64 then 1#1 else 0#1 := by
  have key : ∀ l : Fin 128, IntOp.cmpi .slt (BitVec.ofNat 32 (0 * 128 + l.val)) 64#32 = if l.val < 64 then 1#1 else 0#1 := by decide +kernel
  exact key l

theorem mixed_apply (x0 x1 : FVec Ideal S128x384 .bf16) (s0 s1 : Ideal .f32) (v0 v1 : FVec Ideal S1x1x384x128 .bf16) (f0 f1 : Fin 384 → EReal) (r l : Fin 128)
    (h0 : ∀ j, x0 (ix2 r j) = f0 j) (h1 : ∀ j, x1 (ix2 r j) = f1 j) :
    mixed x0 x1 s0 s1 v0 v1 (ix2 r l)
      = ((∑ j, Ideal.exp2 (f0 j - top f0 s0) * v0 (ix4 0 0 j l)) + ∑ j, Ideal.exp2 (f1 j - top f1 s1) * v1 (ix4 0 0 j l))
        * (if l.val < 64 then Ideal.div 1 (whole2 f0 s0) else Ideal.div 1 (whole2 f1 s1)) := by
  refine congrArg₂ (fun a b : EReal => a * b) ?_ ?_
  · refine (matmul_rows _ rfl _ _ r l).trans ((sum_two (w := 384) (n := 768) rfl _).trans (congrArg₂ (fun a b : EReal => a + b) ?_ ?_))
    · refine Finset.sum_congr rfl fun j _ => congrArg₂ (fun a b : EReal => a * b) ?_ ?_
      · exact (next_first _ _ concatenates_S128x384_S128x384_S128x768_d1 r ⟨j.val, by omega⟩ j rfl).trans (weights_apply x0 s0 f0 r h0 j)
      · exact (over_first _ _ concatenates_S384x128_S384x128_S768x128_d0 ⟨j.val, by omega⟩ l j rfl).trans (cast_drop2 v0 _ j l)
    · refine Finset.sum_congr rfl fun j _ => congrArg₂ (fun a b : EReal => a * b) ?_ ?_
      · exact (next_second _ _ concatenates_S128x384_S128x384_S128x768_d1 r ⟨384 + j.val, by omega⟩ j rfl).trans (weights_apply x1 s1 f1 r h1 j)
      · exact (over_second _ _ concatenates_S384x128_S384x128_S768x128_d0 ⟨384 + j.val, by omega⟩ l j rfl).trans (cast_drop2 v1 _ j l)
  · have e : ∀ (x : FVec Ideal S128x384 .bf16) (s : Ideal .f32) (f : Fin 384 → EReal), (∀ j, x (ix2 r j) = f j) →
        broadcastTo S128x128 (shapeCast S128x1 (inverse x s) shapeCasts_S128x1_S128x1) broadcasts_S128x1_S128x128 (ix2 r l) = Ideal.div 1 (whole2 f s) := fun x s f hf =>
      (spread_col (by decide) _ _ r l).trans ((shapeCast_apply _ _ _ (ix2 r 0) rfl).trans (inverse_apply x s f r hf))
    show Scalar.select (firstHead (ix2 r l)) _ _ = _
    rw [firstHead_apply, e x0 s0 f0 h0, e x1 s1 f1 h1]
    split <;> rfl

/-- The tile at a query and a lane. -/
theorem tile_apply (i : grid0.Coords) (n : Nat) (s0 s1 : Ideal .f32) (q : FVec Ideal S1x128x128 .f32) (k0 k1 v0 v1 : FVec Ideal S1x1x384x128 .bf16) (r l : Fin 128) :
    tile i (BitVec.ofNat 32 n) s0 s1 q k0 k1 v0 v1 (ix3 0 r l)
      = ((∑ j, Ideal.exp2 (scoreRow i n q k0 r j - top (scoreRow i n q k0 r) (sinkOf s0)) * v0 (ix4 0 0 j l))
          + ∑ j, Ideal.exp2 (scoreRow i n q k1 r j - top (scoreRow i n q k1 r) (sinkOf s1)) * v1 (ix4 0 0 j l))
        * (if l.val < 64 then Ideal.div 1 (whole2 (scoreRow i n q k0 r) (sinkOf s0)) else Ideal.div 1 (whole2 (scoreRow i n q k1 r) (sinkOf s1))) := by
  refine (cast_add1 _ _ 0 r l).trans ?_
  exact mixed_apply _ _ _ _ v0 v1 _ _ r l (masked_first i n q k0 k1 r) (masked_second i n q k0 k1 r)

end Cert.AttnTile

end
-- ==== Proof.Attn.Spec.lean ====
/- The attention as a function of its arguments, before any tiling: a head's query against every key, those farther than 128 tokens away
   masked. -/
module

public import proofs.«01_k».proof.Proof.Attn.Row

@[expose] public section

noncomputable section

namespace Cert.AttnSpec

open Cert.AttnRow Idealize.ShloMosaic

/-- The head of keys that a head of queries attends to. -/
def pairOf (g : Fin 8) : Fin 2 := ⟨g.val / 4, by omega⟩

variable (S : Fin 8 → EReal) (Q : Fin 12 → Fin 4096 → Fin 8 → Fin 64 → EReal) (K V : Fin 12 → Fin 4096 → Fin 2 → Fin 64 → EReal)

/-- A query against a key. -/
def product (b : Fin 12) (t : Fin 4096) (g : Fin 8) (u : Fin 4096) : EReal := (∑ d : Fin 64, K b u (pairOf g) d * Q b t g d) * ((1 / 8 : ℝ) : EReal)

/-- A query's scores. -/
def keyScores (b : Fin 12) (t : Fin 4096) (g : Fin 8) (u : Fin 4096) : EReal :=
  if u.val ≤ t.val + 128 ∧ t.val ≤ u.val + 128 then product Q K b t g u else ⊥

/-- The result. -/
def result (b : Fin 12) (t : Fin 4096) (g : Fin 8) (d : Fin 64) : EReal := attend (keyScores Q K b t g) (S g) (fun u => V b u (pairOf g) d)

/-! ## Real arguments -/

variable (hS : ∀ g, ∃ r : ℝ, S g = (r : EReal)) (hQ : ∀ b t g d, ∃ r : ℝ, Q b t g d = (r : EReal)) (hK : ∀ b u g d, ∃ r : ℝ, K b u g d = (r : EReal))

include hQ hK in
theorem product_real (b : Fin 12) (t : Fin 4096) (g : Fin 8) (u : Fin 4096) : ∃ r : ℝ, product Q K b t g u = (r : EReal) := by
  obtain ⟨r, hr⟩ := sum_real (fun d : Fin 64 => K b u (pairOf g) d * Q b t g d) fun d => by
    obtain ⟨x, hx⟩ := hK b u (pairOf g) d
    obtain ⟨y, hy⟩ := hQ b t g d
    exact ⟨x * y, by rw [hx, hy, EReal.coe_mul]⟩
  exact ⟨r * (1 / 8), by unfold product; rw [hr, EReal.coe_mul]⟩

include hQ hK in
theorem keyScores_ne (b : Fin 12) (t : Fin 4096) (g : Fin 8) (u : Fin 4096) : keyScores Q K b t g u ≠ ⊤ := by
  unfold keyScores
  split
  · obtain ⟨r, hr⟩ := product_real Q K hQ hK b t g u
    rw [hr]
    exact EReal.coe_ne_top r
  · exact bot_ne_top

include hS hQ hK in
theorem whole_ne (b : Fin 12) (t : Fin 4096) (g : Fin 8) : whole (keyScores Q K b t g) (S g) ≠ 0 := by
  obtain ⟨s, hs⟩ := hS g
  rw [hs]
  obtain ⟨r, hr, e⟩ := whole_real (keyScores Q K b t g) s (keyScores_ne Q K hQ hK b t g)
  rw [e]
  exact fun h => hr.ne' (EReal.coe_eq_zero.1 h)

end Cert.AttnSpec

end
-- ==== Proof.Attn.Token.lean ====
/- A tile of the attention kernel, over every key: where what it loads is the arguments', what it stores is the attention's result. -/
module

public import proofs.«01_k».proof.Proof.Attn.Place
public import proofs.«01_k».proof.Proof.Attn.TileRead
public import proofs.«01_k».proof.Proof.Attn.Spec

@[expose] public section

noncomputable section

namespace Cert.AttnTile

open Cert.AttnRow Cert.AttnSpec Cert.AttnIdeal Cert.AttnIdeal.Gen Idealize.ShloMosaic.TcCoe Idealize.ShloMosaic.ValueIdx
open Idealize.ShloMosaic hiding ix1 ix2 ix3 ix4

/-- The scale is an eighth, in powers of two. -/
theorem scale_eq : scale = ((1 / 8 : ℝ) : EReal) * (perTwo : EReal) := by
  rw [← EReal.coe_mul]
  rfl

/-- A sum of scaled products. -/
theorem scaled_sum {n : Nat} (x y : Fin n → EReal) :
    ∑ d, x d * scale * y d = (∑ d, y d * x d) * ((1 / 8 : ℝ) : EReal) * (perTwo : EReal) := by
  have e : scale = ((1 / 8 * perTwo : ℝ) : EReal) := by rw [scale_eq, ← EReal.coe_mul]
  rw [mul_assoc, ← EReal.coe_mul, sum_mul _ _ (mul_nonneg (by norm_num) perTwo_pos.le)]
  refine Finset.sum_congr rfl fun d _ => ?_
  rw [e, mul_comm (x d * _) (y d), mul_assoc]

/-- A place of a head in the lower lanes and in the upper, and back. -/
abbrev lo (d : Fin 64) : Fin 128 := ⟨d.val, by omega⟩
abbrev hi (d : Fin 64) : Fin 128 := ⟨64 + d.val, by omega⟩
abbrev back (l : Fin 128) : Fin 64 := ⟨l.val - 64, by omega⟩

/-- The key at a place of the window, and the query at a row. -/
def keyAt (w : Nat) (j : Fin 384) : Fin 4096 := ⟨min 3712 (128 * w - 128) + j.val, by omega⟩
def tokenAt (w : Nat) (hn : w < 32) (r : Fin 128) : Fin 4096 := ⟨128 * w + r.val, by omega⟩

variable (S : Fin 8 → EReal) (Q : Fin 12 → Fin 4096 → Fin 8 → Fin 64 → EReal) (K V : Fin 12 → Fin 4096 → Fin 2 → Fin 64 → EReal)
variable (i : grid0.Coords) (n w : Nat) (hw : w = 16 * (i 1).val + n) (hn : w < 32)

variable (q : FVec Ideal S1x128x128 .f32) (b : Fin 12) (e : Fin 8) (r : Fin 128)

include hw in
/-- A row's scores, from its products. -/
theorem row_eq (k : FVec Ideal S1x1x384x128 .bf16) (j : Fin 384)
    (hsum : ∑ c : Fin 128, q (ix3 0 r c) * scale * k (ix4 0 0 j c) = product Q K b (tokenAt w hn r) e (keyAt w j) * (perTwo : EReal)) :
    scoreRow i n q k r j = keyScores Q K b (tokenAt w hn r) e (keyAt w j) * (perTwo : EReal) := by
  unfold scoreRow keyScores
  rw [hsum, bias_apply i n w hw hn]
  by_cases h : 128 * w + r.val ≤ min 3712 (128 * w - 128) + j.val + 128 ∧ min 3712 (128 * w - 128) + j.val ≤ 128 * w + r.val + 128
  · rw [if_pos h, if_pos ⟨h.2, h.1⟩, add_zero]
  · rw [if_neg h, if_neg (fun hc => h ⟨hc.2, hc.1⟩), EReal.add_bot, EReal.bot_mul_coe_of_pos perTwo_pos]

/-- The products of the head in the lower lanes, and of the head in the upper. -/
theorem products_low (k : FVec Ideal S1x1x384x128 .bf16) (j : Fin 384)
    (hq : ∀ d : Fin 64, q (ix3 0 r (lo d)) = Q b (tokenAt w hn r) e d)
    (hk : ∀ l : Fin 128, k (ix4 0 0 j l) = if h : l.val < 64 then K b (keyAt w j) (pairOf e) ⟨l.val, h⟩ else 0) :
    ∑ c : Fin 128, q (ix3 0 r c) * scale * k (ix4 0 0 j c) = product Q K b (tokenAt w hn r) e (keyAt w j) * (perTwo : EReal) := by
  rw [sum_two (w := 64) rfl]
  have e1 : ∀ d : Fin 64, q (ix3 0 r (lo d)) * scale * k (ix4 0 0 j (lo d))
      = Q b (tokenAt w hn r) e d * scale * K b (keyAt w j) (pairOf e) d := fun d => by rw [hq, hk, dif_pos d.isLt]
  have e2 : ∀ d : Fin 64, q (ix3 0 r (hi d)) * scale * k (ix4 0 0 j (hi d)) = 0 := fun d => by
    rw [hk, dif_neg (by show ¬ 64 + d.val < 64; omega), mul_zero]
  rw [Finset.sum_congr rfl fun d _ => e1 d, Finset.sum_congr rfl fun d _ => e2 d, Finset.sum_const_zero, add_zero]
  exact scaled_sum _ _

theorem products_high (k : FVec Ideal S1x1x384x128 .bf16) (j : Fin 384)
    (hq : ∀ d : Fin 64, q (ix3 0 r (hi d)) = Q b (tokenAt w hn r) e d)
    (hk : ∀ l : Fin 128, k (ix4 0 0 j l) = if h : l.val < 64 then 0 else K b (keyAt w j) (pairOf e) (back l)) :
    ∑ c : Fin 128, q (ix3 0 r c) * scale * k (ix4 0 0 j c) = product Q K b (tokenAt w hn r) e (keyAt w j) * (perTwo : EReal) := by
  rw [sum_two (w := 64) rfl]
  have e1 : ∀ d : Fin 64, q (ix3 0 r (hi d)) * scale * k (ix4 0 0 j (hi d))
      = Q b (tokenAt w hn r) e d * scale * K b (keyAt w j) (pairOf e) d := fun d => by
    rw [hq, hk, dif_neg (by show ¬ 64 + d.val < 64; omega)]
    exact congrArg (fun z => Q b (tokenAt w hn r) e d * scale * K b (keyAt w j) (pairOf e) z) (Fin.ext (by show 64 + d.val - 64 = d.val; omega))
  have e2 : ∀ d : Fin 64, q (ix3 0 r (lo d)) * scale * k (ix4 0 0 j (lo d)) = 0 := fun d => by
    rw [hk, dif_pos d.isLt, mul_zero]
  rw [Finset.sum_congr rfl fun d _ => e1 d, Finset.sum_congr rfl fun d _ => e2 d, Finset.sum_const_zero, zero_add]
  exact scaled_sum _ _

variable (hS : ∀ g, ∃ r : ℝ, S g = (r : EReal)) (hQ : ∀ b t g d, ∃ r : ℝ, Q b t g d = (r : EReal)) (hK : ∀ b u g d, ∃ r : ℝ, K b u g d = (r : EReal))

include hS hQ hK in
/-- A row's attention over its window is its attention over every key. -/
theorem attended (y : Fin 384 → EReal) (s : Ideal .f32) (v : Fin 384 → EReal) (d : Fin 64)
    (hy : ∀ j, y j = keyScores Q K b (tokenAt w hn r) e (keyAt w j) * (perTwo : EReal)) (hs : s = S e)
    (hv : ∀ j, v j = V b (keyAt w j) (pairOf e) d) : attend2 y (sinkOf s) v = result S Q K V b (tokenAt w hn r) e d := by
  obtain ⟨z, hz⟩ := hS e
  have ey : y = fun j => keyScores Q K b (tokenAt w hn r) e (keyAt w j) * (perTwo : EReal) := funext hy
  have es : sinkOf s = (z : EReal) * (perTwo : EReal) := by rw [hs, hz]; rfl
  rw [ey, es]
  refine (attend_eq (fun j => keyScores Q K b (tokenAt w hn r) e (keyAt w j)) z v fun j => keyScores_ne Q K hQ hK b _ e _).trans ?_
  rw [← hz]
  unfold result
  refine attend_window (min 3712 (128 * w - 128) + 128) _ _ _ _ _ (fun j u hu => ?_) (fun j u hu => ?_) (fun j hj => ?_) (fun u hu => ?_) (whole_ne S Q K hS hQ hK b _ e)
  · exact congrArg (keyScores Q K b (tokenAt w hn r) e) (Fin.ext (by show min 3712 (128 * w - 128) + j.val = u.val; omega))
  · rw [hv]
    exact congrArg (fun u => V b u (pairOf e) d) (Fin.ext (by show min 3712 (128 * w - 128) + j.val = u.val; omega))
  · exact absurd (by show min 3712 (128 * w - 128) + j.val + 128 = min 3712 (128 * w - 128) + 128 + j.val; omega) (hj (keyAt w j))
  · unfold keyScores
    rw [if_neg]
    intro hc
    have hc' : u.val ≤ 128 * w + r.val + 128 ∧ 128 * w + r.val ≤ u.val + 128 := hc
    have hr : r.val < 128 := r.isLt
    exact hu ⟨u.val - min 3712 (128 * w - 128), by omega⟩ (by show u.val + 128 = min 3712 (128 * w - 128) + 128 + (u.val - min 3712 (128 * w - 128)); omega)

/-! ## A tile -/

variable (e0 e1 : Fin 8) (g : Fin 2) (h0 : pairOf e0 = g) (h1 : pairOf e1 = g) (s0 s1 : Ideal .f32) (k0 k1 v0 v1 : FVec Ideal S1x1x384x128 .bf16)
  (hs0 : s0 = S e0) (hs1 : s1 = S e1)
  (hq0 : ∀ d : Fin 64, q (ix3 0 r (lo d)) = Q b (tokenAt w hn r) e0 d) (hq1 : ∀ d : Fin 64, q (ix3 0 r (hi d)) = Q b (tokenAt w hn r) e1 d)
  (hk0 : ∀ (j : Fin 384) (l : Fin 128), k0 (ix4 0 0 j l) = if h : l.val < 64 then K b (keyAt w j) g ⟨l.val, h⟩ else 0)
  (hk1 : ∀ (j : Fin 384) (l : Fin 128), k1 (ix4 0 0 j l) = if h : l.val < 64 then 0 else K b (keyAt w j) g (back l))
  (hv0 : ∀ (j : Fin 384) (l : Fin 128), v0 (ix4 0 0 j l) = if h : l.val < 64 then V b (keyAt w j) g ⟨l.val, h⟩ else 0)
  (hv1 : ∀ (j : Fin 384) (l : Fin 128), v1 (ix4 0 0 j l) = if h : l.val < 64 then 0 else V b (keyAt w j) g (back l))

include hw hS hQ hK h0 hs0 hq0 hk0 hv0 hv1 in
theorem tile_low (d : Fin 64) (l : Fin 128) (hl : l.val = d.val) :
    tile i (BitVec.ofNat 32 n) s0 s1 q k0 k1 v0 v1 (ix3 0 r l) = result S Q K V b (tokenAt w hn r) e0 d := by
  have hlt : l.val < 64 := by omega
  rw [tile_apply, if_pos hlt]
  have ez : (∑ j, Ideal.exp2 (scoreRow i n q k1 r j - top (scoreRow i n q k1 r) (sinkOf s1)) * v1 (ix4 0 0 j l)) = 0 :=
    Finset.sum_eq_zero fun j _ => by rw [hv1, dif_pos hlt, mul_zero]
  rw [ez, add_zero]
  refine attended S Q K V w hn b e0 r hS hQ hK (scoreRow i n q k0 r) s0 (fun j => v0 (ix4 0 0 j l)) d (fun j => ?_) hs0 (fun j => ?_)
  · exact row_eq Q K i n w hw hn q b e0 r k0 j (products_low Q K w hn q b e0 r k0 j hq0 fun l => by rw [h0]; exact hk0 j l)
  · rw [hv0, dif_pos hlt, h0]
    exact congrArg (V b (keyAt w j) g) (Fin.ext hl)

include hw hS hQ hK h1 hs1 hq1 hk1 hv0 hv1 in
theorem tile_high (d : Fin 64) (l : Fin 128) (hl : l.val = 64 + d.val) :
    tile i (BitVec.ofNat 32 n) s0 s1 q k0 k1 v0 v1 (ix3 0 r l) = result S Q K V b (tokenAt w hn r) e1 d := by
  have hlt : ¬ l.val < 64 := by omega
  rw [tile_apply, if_neg hlt]
  have ez : (∑ j, Ideal.exp2 (scoreRow i n q k0 r j - top (scoreRow i n q k0 r) (sinkOf s0)) * v0 (ix4 0 0 j l)) = 0 :=
    Finset.sum_eq_zero fun j _ => by rw [hv0, dif_neg hlt, mul_zero]
  rw [ez, zero_add]
  refine attended S Q K V w hn b e1 r hS hQ hK (scoreRow i n q k1 r) s1 (fun j => v1 (ix4 0 0 j l)) d (fun j => ?_) hs1 (fun j => ?_)
  · exact row_eq Q K i n w hw hn q b e1 r k1 j (products_high Q K w hn q b e1 r k1 j hq1 fun l => by rw [h1]; exact hk1 j l)
  · rw [hv1, dif_neg hlt, h1]
    exact congrArg (V b (keyAt w j) g) (Fin.ext (by show l.val - 64 = d.val; omega))

end Cert.AttnTile

end
-- ==== Proof.Attn.Host.lean ====
/- What the attention kernel's windows hold when the kernel is entered: the queries with their heads side by side, and the
   four slabs of the keys and of the values — one of the two heads in one half of the lanes, zero in the other. -/
module

public import proofs.«01_k».proof.Proof.Proj.Layout
public import proofs.«01_k».proof.Proof.Proj.Array
public import proofs.«01_k».proof.Proof.Gen.AttnIdeal.Frame

@[expose] public section

noncomputable section

namespace Cert.AttnHost

open Cert.AttnIdeal Cert.AttnIdeal.Gen Cert.Layout Cert.ProjLayout Idealize.ShloMosaic.TcCoe Idealize.ShloMosaic.ValueIdx
open Idealize.ShloMosaic hiding ix1 ix2 ix3 ix4

variable (m : (ℓ : Loc nD τ sig) → Buf (Elt Ideal) ℓ) (c : Dev nD)

/-- The queries, a token's eight heads side by side. -/
theorem queries_eq (b : Fin 12) (t : Fin 4096) (g : Fin 8) (d : Fin 64) (l : Fin 512) (hl : l.val = 64 * g.val + d.val) :
    V m c main_v3 (ix3 b t l) = m ((c : Thread nD τ).loc main_arg1) (ix4 b t g d) := by
  have e : V m c main_v3 = (shapeCast S12x4096x512 (m ((c : Thread nD τ).loc main_arg1)) shapeCasts_S12x4096x8x64_S12x4096x512 : FVec Ideal S12x4096x512 .f32) := by
    rfl
  rw [e]
  refine shapeCast_apply (s := S12x4096x8x64) (t := S12x4096x512) _ _ _ _ ?_
  rw [Shape.rowMajor_val_four, Shape.rowMajor_val_three]
  show ((b.val * 4096 + t.val) * 8 + g.val) * 64 + d.val = (b.val * 4096 + t.val) * 512 + l.val
  omega

/-! ## The slabs -/

/-- The two heads side by side, as they are and changed over. -/
def side (x : FVec Ideal S12x4096x2x64 .f32) : FVec Ideal S12x4096x128 .f32 := shapeCast S12x4096x128 x shapeCasts_S12x4096x2x64_S12x4096x128
def upper (x : FVec Ideal S12x4096x2x64 .f32) : FVec Ideal S12x4096x64 .f32 := extractStridedSlice S12x4096x64 ![0, 0, 64] (side x) slices_S12x4096x128_S12x4096x64_0_0_64
def lower (x : FVec Ideal S12x4096x2x64 .f32) : FVec Ideal S12x4096x64 .f32 := extractStridedSlice S12x4096x64 ![0, 0, 0] (side x) slices_S12x4096x128_S12x4096x64_0_0_0
def turned (x : FVec Ideal S12x4096x2x64 .f32) : FVec Ideal S12x4096x128 .f32 :=
  concatenate S12x4096x128 2 [⟨S12x4096x64, upper x⟩,
    ⟨S12x4096x64, lower x⟩] concatenates_S12x4096x64_S12x4096x64_S12x4096x128_d2

/-- The first half of the lanes, and zeros. -/
def early : IVec S12x4096x128 1 := cmpi .slt (iotaInDim S12x4096x128 32 2) (broadcastInDim S12x4096x128 ![] bcast_S_S12x4096x128 (constantI S_ 32 64#32))
def nil : FVec Ideal S12x4096x128 .f32 := broadcastInDim S12x4096x128 ![] bcast_S_S12x4096x128 (constant (F := Ideal) S_ .f32 0x00000000#32)

def slab (x : FVec Ideal S12x4096x128 .f32) : FVec Ideal S12x1x4096x128 .f32 := broadcastInDim S12x1x4096x128 ![0, 2, 3] bcast_S12x4096x128_S12x1x4096x128_0_2_3 x
def slabs (x : FVec Ideal S12x4096x2x64 .f32) : FVec Ideal S12x4x4096x128 .f32 :=
  concatenate S12x4x4096x128 1 [⟨S12x1x4096x128, slab (select early (side x) nil)⟩, ⟨S12x1x4096x128, slab (select early nil (turned x))⟩,
    ⟨S12x1x4096x128, slab (select early (turned x) nil)⟩, ⟨S12x1x4096x128, slab (select early nil (side x))⟩]
    concatenates_S12x1x4096x128_S12x1x4096x128_S12x1x4096x128_S12x1x4096x128_S12x4x4096x128_d1

theorem keys_eq : V m c main_v15 = (truncf .bf16 (slabs (m ((c : Thread nD τ).loc main_arg2))) bitsLt_bf16_f32 : FVec Ideal S12x4x4096x128 .bf16) := by
  sl_kernel_rfl
theorem values_eq : V m c main_v27 = (truncf .bf16 (slabs (m ((c : Thread nD τ).loc main_arg3))) bitsLt_bf16_f32 : FVec Ideal S12x4x4096x128 .bf16) := by
  sl_kernel_rfl

variable (x : FVec Ideal S12x4096x2x64 .f32)

theorem side_apply (b : Fin 12) (u : Fin 4096) (g : Fin 2) (d : Fin 64) (l : Fin 128) (hl : l.val = 64 * g.val + d.val) :
    side x (ix3 b u l) = x (ix4 b u g d) := by
  refine shapeCast_apply (s := S12x4096x2x64) (t := S12x4096x128) _ _ _ _ ?_
  rw [Shape.rowMajor_val_four, Shape.rowMajor_val_three]
  show ((b.val * 4096 + u.val) * 2 + g.val) * 64 + d.val = (b.val * 4096 + u.val) * 128 + l.val
  omega

theorem turned_first (b : Fin 12) (u : Fin 4096) (d : Fin 64) (l : Fin 128) (hl : l.val = d.val) : turned x (ix3 b u l) = x (ix4 b u 1 d) := by
  refine (concatenate_apply_piece (t := S12x4096x128) 2 [⟨S12x4096x64, upper x⟩,
    ⟨S12x4096x64, lower x⟩] concatenates_S12x4096x64_S12x4096x64_S12x4096x128_d2 (ix3 b u l) 0 (by simp)
    S12x4096x64 (upper x) rfl rfl 0 rfl (ix3 b u d) (fun a ha => ?_) (by show 0 + d.val = l.val; omega)).trans ?_
  · match a with
    | ⟨0, _⟩ => rfl
    | ⟨1, _⟩ => rfl
    | ⟨2, _⟩ => exact absurd rfl ha
  · refine (extractStridedSlice_apply (s := S12x4096x128) _ (side x) slices_S12x4096x128_S12x4096x64_0_0_64 _ (ix3 b u ⟨64 + d.val, by omega⟩) fun a => ?_).trans (side_apply x b u 1 d _ rfl)
    match a with
    | ⟨0, _⟩ => show b.val = 0 + b.val; omega
    | ⟨1, _⟩ => show u.val = 0 + u.val; omega
    | ⟨2, _⟩ => rfl

theorem turned_second (b : Fin 12) (u : Fin 4096) (d : Fin 64) (l : Fin 128) (hl : l.val = 64 + d.val) : turned x (ix3 b u l) = x (ix4 b u 0 d) := by
  refine (concatenate_apply_piece (t := S12x4096x128) 2 [⟨S12x4096x64, upper x⟩,
    ⟨S12x4096x64, lower x⟩] concatenates_S12x4096x64_S12x4096x64_S12x4096x128_d2 (ix3 b u l) 1 (by simp)
    S12x4096x64 (lower x) rfl rfl 64 rfl (ix3 b u d) (fun a ha => ?_) (by show 64 + d.val = l.val; omega)).trans ?_
  · match a with
    | ⟨0, _⟩ => rfl
    | ⟨1, _⟩ => rfl
    | ⟨2, _⟩ => exact absurd rfl ha
  · refine (extractStridedSlice_apply (s := S12x4096x128) _ (side x) slices_S12x4096x128_S12x4096x64_0_0_0 _ (ix3 b u ⟨d.val, by omega⟩) fun a => ?_).trans
      (side_apply x b u 0 d _ (by show d.val = 64 * 0 + d.val; omega))
    match a with
    | ⟨0, _⟩ => show b.val = 0 + b.val; omega
    | ⟨1, _⟩ => show u.val = 0 + u.val; omega
    | ⟨2, _⟩ => show d.val = 0 + d.val; omega

theorem early_apply (b : Fin 12) (u : Fin 4096) (l : Fin 128) : early (ix3 b u l) = if l.val < 64 then 1#1 else 0#1 := by
  have key : ∀ l : Fin 128, IntOp.cmpi .slt (BitVec.ofNat 32 l.val) 64#32 = if l.val < 64 then 1#1 else 0#1 := by decide +kernel
  exact key l

theorem nil_apply (i : S12x4096x128.Idx) : nil i = 0 := Ideal.ofBits_zero_f32

theorem pick (y z : FVec Ideal S12x4096x128 .f32) (b : Fin 12) (u : Fin 4096) (l : Fin 128) :
    select early y z (ix3 b u l) = if l.val < 64 then y (ix3 b u l) else z (ix3 b u l) := by
  show Scalar.select (early (ix3 b u l)) _ _ = _
  rw [early_apply]
  split <;> rfl

theorem slab_apply (y : FVec Ideal S12x4096x128 .f32) (b : Fin 12) (u : Fin 4096) (l : Fin 128) : slab y (ix4 b 0 u l) = y (ix3 b u l) :=
  broadcastInDim_apply _ _ _ _ (ix3 b u l) (fun a => by
    match a with
    | ⟨0, _⟩ => rfl
    | ⟨1, _⟩ => rfl
    | ⟨2, _⟩ => rfl)

/-- A slab of the four. -/
theorem slabs_at (s : Fin 4) (b : Fin 12) (u : Fin 4096) (l : Fin 128) : slabs x (ix4 b s u l)
    = slab ((![select early (side x) nil, select early nil (turned x), select early (turned x) nil, select early nil (side x)] : Fin 4 → FVec Ideal S12x4096x128 .f32) s) (ix4 b 0 u l) := by
  match s with
  | ⟨0, _⟩ =>
    exact concatenate_apply_piece (t := S12x4x4096x128) 1 [⟨S12x1x4096x128, slab (select early (side x) nil)⟩, ⟨S12x1x4096x128, slab (select early nil (turned x))⟩,
    ⟨S12x1x4096x128, slab (select early (turned x) nil)⟩, ⟨S12x1x4096x128, slab (select early nil (side x))⟩]
      concatenates_S12x1x4096x128_S12x1x4096x128_S12x1x4096x128_S12x1x4096x128_S12x4x4096x128_d1 (ix4 b 0 u l) 0 (by simp)
      S12x1x4096x128 (slab (select early (side x) nil)) rfl rfl 0 rfl (ix4 b 0 u l) (fun a ha => by
        match a with
        | ⟨0, _⟩ => rfl
        | ⟨1, _⟩ => exact absurd rfl ha
        | ⟨2, _⟩ => rfl
        | ⟨3, _⟩ => rfl) rfl
  | ⟨1, _⟩ =>
    exact concatenate_apply_piece (t := S12x4x4096x128) 1 [⟨S12x1x4096x128, slab (select early (side x) nil)⟩, ⟨S12x1x4096x128, slab (select early nil (turned x))⟩,
    ⟨S12x1x4096x128, slab (select early (turned x) nil)⟩, ⟨S12x1x4096x128, slab (select early nil (side x))⟩]
      concatenates_S12x1x4096x128_S12x1x4096x128_S12x1x4096x128_S12x1x4096x128_S12x4x4096x128_d1 (ix4 b 1 u l) 1 (by simp)
      S12x1x4096x128 (slab (select early nil (turned x))) rfl rfl 1 rfl (ix4 b 0 u l) (fun a ha => by
        match a with
        | ⟨0, _⟩ => rfl
        | ⟨1, _⟩ => exact absurd rfl ha
        | ⟨2, _⟩ => rfl
        | ⟨3, _⟩ => rfl) rfl
  | ⟨2, _⟩ =>
    exact concatenate_apply_piece (t := S12x4x4096x128) 1 [⟨S12x1x4096x128, slab (select early (side x) nil)⟩, ⟨S12x1x4096x128, slab (select early nil (turned x))⟩,
    ⟨S12x1x4096x128, slab (select early (turned x) nil)⟩, ⟨S12x1x4096x128, slab (select early nil (side x))⟩]
      concatenates_S12x1x4096x128_S12x1x4096x128_S12x1x4096x128_S12x1x4096x128_S12x4x4096x128_d1 (ix4 b 2 u l) 2 (by simp)
      S12x1x4096x128 (slab (select early (turned x) nil)) rfl rfl 2 rfl (ix4 b 0 u l) (fun a ha => by
        match a with
        | ⟨0, _⟩ => rfl
        | ⟨1, _⟩ => exact absurd rfl ha
        | ⟨2, _⟩ => rfl
        | ⟨3, _⟩ => rfl) rfl
  | ⟨3, _⟩ =>
    exact concatenate_apply_piece (t := S12x4x4096x128) 1 [⟨S12x1x4096x128, slab (select early (side x) nil)⟩, ⟨S12x1x4096x128, slab (select early nil (turned x))⟩,
    ⟨S12x1x4096x128, slab (select early (turned x) nil)⟩, ⟨S12x1x4096x128, slab (select early nil (side x))⟩]
      concatenates_S12x1x4096x128_S12x1x4096x128_S12x1x4096x128_S12x1x4096x128_S12x4x4096x128_d1 (ix4 b 3 u l) 3 (by simp)
      S12x1x4096x128 (slab (select early nil (side x))) rfl rfl 3 rfl (ix4 b 0 u l) (fun a ha => by
        match a with
        | ⟨0, _⟩ => rfl
        | ⟨1, _⟩ => exact absurd rfl ha
        | ⟨2, _⟩ => rfl
        | ⟨3, _⟩ => rfl) rfl

/-- A head's slab holding it in the first half, and the one holding it in the second. -/
theorem slabs_low (g : Fin 2) (b : Fin 12) (u : Fin 4096) (l : Fin 128) (s : Fin 4) (hs : s.val = 2 * g.val) :
    slabs x (ix4 b s u l) = if h : l.val < 64 then x (ix4 b u g ⟨l.val, h⟩) else 0 := by
  rw [slabs_at, slab_apply]
  match g with
  | ⟨0, _⟩ =>
    have e : s = 0 := Fin.ext hs
    subst e
    refine (pick _ _ b u l).trans ?_
    split
    · next h => exact side_apply x b u 0 ⟨l.val, h⟩ l (by show l.val = 64 * 0 + l.val; omega)
    · exact nil_apply _
  | ⟨1, _⟩ =>
    have e : s = 2 := Fin.ext hs
    subst e
    refine (pick _ _ b u l).trans ?_
    split
    · next h => exact turned_first x b u ⟨l.val, h⟩ l rfl
    · exact nil_apply _

theorem slabs_high (g : Fin 2) (b : Fin 12) (u : Fin 4096) (l : Fin 128) (s : Fin 4) (hs : s.val = 2 * g.val + 1) :
    slabs x (ix4 b s u l) = if h : l.val < 64 then 0 else x (ix4 b u g ⟨l.val - 64, by omega⟩) := by
  rw [slabs_at, slab_apply]
  match g with
  | ⟨0, _⟩ =>
    have e : s = 1 := Fin.ext hs
    subst e
    refine (pick _ _ b u l).trans ?_
    split
    · exact nil_apply _
    · next h => exact turned_second x b u ⟨l.val - 64, by omega⟩ l (by show l.val = 64 + (l.val - 64); omega)
  | ⟨1, _⟩ =>
    have e : s = 3 := Fin.ext hs
    subst e
    refine (pick _ _ b u l).trans ?_
    split
    · exact nil_apply _
    · next h => exact side_apply x b u 1 ⟨l.val - 64, by omega⟩ l (by show l.val = 64 * 1 + (l.val - 64); omega)

end Cert.AttnHost

end
-- ==== Proof.Attn.Array.lean ====
/- The attention kernel's whole result array: at every batch row, token and lane, the attention's result of the arguments. -/
module

public import proofs.«01_k».proof.Proof.Attn.Pieces
public import proofs.«01_k».proof.Proof.Attn.Token
public import proofs.«01_k».proof.Proof.Attn.Host
public import proofs.«01_k».proof.Proof.Gen.AttnIdeal.Value
public import Idealize.ShloMosaic.Lib.Pipeline.ValueKit
public import Idealize.ShloMosaic.Lib.WholeRead

@[expose] public section

noncomputable section

namespace Cert.AttnArray

open Cert.AttnIdeal Cert.AttnIdeal.Gen Cert.AttnTile Cert.AttnHost Cert.AttnSpec Idealize.ShloMosaic.TcCoe Idealize.ShloMosaic.ValueIdx
open Idealize.ShloMosaic hiding ix1 ix2 ix3 ix4
open Idealize.ShloMosaic.Pipeline (Dat)

variable (m : (ℓ : Loc nD τ sig) → Buf (Elt Ideal) ℓ) (c : Dev nD)

/-- The arguments as functions of their coordinates. -/
abbrev sinks : Fin 8 → EReal := fun g => m ((c : Thread nD τ).loc main_arg0) (ix1 g)
abbrev queries : Fin 12 → Fin 4096 → Fin 8 → Fin 64 → EReal := fun b t g d => m ((c : Thread nD τ).loc main_arg1) (ix4 b t g d)
abbrev keys : Fin 12 → Fin 4096 → Fin 2 → Fin 64 → EReal := fun b u g d => m ((c : Thread nD τ).loc main_arg2) (ix4 b u g d)
abbrev vals : Fin 12 → Fin 4096 → Fin 2 → Fin 64 → EReal := fun b u g d => m ((c : Thread nD τ).loc main_arg3) (ix4 b u g d)

/-- The head and the place in it of a lane of the result. -/
abbrev headOf (l : Fin 512) : Fin 8 := ⟨l.val / 64, by omega⟩
abbrev laneOf (l : Fin 512) : Fin 64 := ⟨l.val % 64, by omega⟩

/-- The result array, whole. -/
abbrev whole : S12x4096x512.Idx → EReal := fun i => result (sinks m c) (queries m c) (keys m c) (vals m c) (i 0) (i 1) (headOf (i 2)) (laneOf (i 2))

/-! ## The blocks of a point -/

abbrev bt (t : Fin cfg0.N) : Fin 12 := ⟨(grid0.coords t 0).val, (grid0.coords t 0).isLt⟩
abbrev tok (t : Fin cfg0.N) (q : Fin 2048) : Fin 4096 := ⟨(grid0.coords t 1).val * 2048 + q.val, by
  have h : (grid0.coords t 1).val < 2 := (grid0.coords t 1).isLt
  omega⟩

theorem at0 : ∀ t : Fin cfg0.N, win0_0.index t = ![0] :=
  (by decide +kernel : ∀ t : Fin grid0.N, win0_0.index t = ![0])
theorem at1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])
theorem at2 : ∀ t : Fin cfg0.N, win0_2.index t = ![(grid0.coords t 0).val, 0, 0, 0] :=
  (by decide +kernel : ∀ t : Fin grid0.N, win0_2.index t = ![(grid0.coords t 0).val, 0, 0, 0])
theorem at3 : ∀ t : Fin cfg0.N, win0_3.index t = ![(grid0.coords t 0).val, 0, 0, 0] :=
  (by decide +kernel : ∀ t : Fin grid0.N, win0_3.index t = ![(grid0.coords t 0).val, 0, 0, 0])
theorem at4 : ∀ t : Fin cfg0.N, win0_4.index t = ![(grid0.coords t 0).val, (grid0.coords t 1).val, 0] :=
  (by decide +kernel : ∀ t : Fin grid0.N, win0_4.index t = ![(grid0.coords t 0).val, (grid0.coords t 1).val, 0])

theorem blk0 (t : Fin cfg0.N) (s : Fin 8) : iblk m c 0 t (ix1 s) = V m c main_arg0 (ix1 s) := by
  refine congrArg (V m c main_arg0) ?_
  blk_ext [at0]

theorem blk1 (t : Fin cfg0.N) (q : Fin 2048) (l : Fin 512) : iblk m c 1 t (ix3 0 q l) = V m c main_v3 (ix3 (bt t) (tok t q) l) := by
  refine congrArg (V m c main_v3) ?_
  blk_ext [at1]

theorem blk2 (t : Fin cfg0.N) (s : Fin 4) (u : Fin 4096) (l : Fin 128) : iblk m c 2 t (ix4 0 s u l) = V m c main_v15 (ix4 (bt t) s u l) := by
  refine congrArg (V m c main_v15) ?_
  blk_ext [at2]

theorem blk3 (t : Fin cfg0.N) (s : Fin 4) (u : Fin 4096) (l : Fin 128) : iblk m c 3 t (ix4 0 s u l) = V m c main_v27 (ix4 (bt t) s u l) := by
  refine congrArg (V m c main_v27) ?_
  blk_ext [at3]

/-! ## What a tile loads -/

theorem sinkAt_eq (arg : Memref sig .tc .smem S8 .f32) (harg : arg.IsWhole) (x : Vec Ideal S8 .f32) (s : Nat) (hs : s < 8) (h) :
    sinkAt arg harg x s h = x (ix1 ⟨s, hs⟩) := by
  unfold sinkAt
  refine (harg.readAt_unread x _ _).trans (congrArg x ?_)
  funext a
  refine Fin.ext ?_
  match a with
  | ⟨0, _⟩ => show s + 1 * 0 = s; omega

theorem queriesAt_eq (arg : Memref sig .tc .vmem S1x2048x512 .f32) (harg : arg.IsWhole) (x : Vec Ideal S1x2048x512 .f32) (r o : Nat) (h) (q l : Fin 128)
    (q' : Fin 2048) (l' : Fin 512) (hq : q'.val = r + q.val) (hl : l'.val = o + l.val) : queriesAt arg harg x r o h (ix3 0 q l) = x (ix3 0 q' l') := by
  unfold queriesAt
  refine (harg.readAt_unread x _ _).trans (congrArg x ?_)
  funext a
  refine Fin.ext ?_
  match a with
  | ⟨0, _⟩ => rfl
  | ⟨1, _⟩ => show r + 1 * q.val = q'.val; omega
  | ⟨2, _⟩ => show o + 1 * l.val = l'.val; omega

theorem windowAt_eq (arg : Memref sig .tc .vmem S1x4x4096x128 .bf16) (harg : arg.IsWhole) (x : Vec Ideal S1x4x4096x128 .bf16) (s o : Nat) (h) (j : Fin 384) (l : Fin 128)
    (s' : Fin 4) (u : Fin 4096) (hs : s'.val = s) (hu : u.val = o + j.val) : windowAt arg harg x ![0, s, o, 0] h (ix4 0 0 j l) = x (ix4 0 s' u l) := by
  unfold windowAt
  refine (harg.readAt_unread x _ _).trans (congrArg x ?_)
  funext a
  refine Fin.ext ?_
  match a with
  | ⟨0, _⟩ => rfl
  | ⟨1, _⟩ => show s + 1 * 0 = s'.val; omega
  | ⟨2, _⟩ => show o + 1 * j.val = u.val; omega
  | ⟨3, _⟩ => show 0 + 1 * l.val = l.val; omega

/-! ## A tile of a point -/

variable (hS : ∀ g, ∃ r : ℝ, sinks m c g = (r : EReal)) (hQ : ∀ b t g d, ∃ r : ℝ, queries m c b t g d = (r : EReal))
  (hK : ∀ b u g d, ∃ r : ℝ, keys m c b u g d = (r : EReal))

include hS hQ hK in
theorem tile_eq (arg2 : Memref sig .tc .smem S8 .f32) (harg2 : arg2.IsWhole) (arg3 : Memref sig .tc .vmem S1x2048x512 .f32) (harg3 : arg3.IsWhole)
    (arg4 : Memref sig .tc .vmem S1x4x4096x128 .bf16) (harg4 : arg4.IsWhole) (arg5 : Memref sig .tc .vmem S1x4x4096x128 .bf16) (harg5 : arg5.IsWhole)
    (t : Fin cfg0.N) (n p : Nat) (hn : n < 16) (hp : p < 4) (q l : Fin 128) :
    tileOf (grid0.coords t) arg2 harg2 arg3 harg3 arg4 harg4 arg5 harg5 (iblk m c 0 t) (iblk m c 1 t) (iblk m c 2 t) (iblk m c 3 t) n p hn hp (ix3 0 q l)
      = whole m c (ix3 (bt t) (tok t ⟨128 * n + q.val, by omega⟩) ⟨128 * p + l.val, by omega⟩) := by
  have h1 : (grid0.coords t 1).val < 2 := (grid0.coords t 1).isLt
  obtain ⟨w, hw⟩ : ∃ w, w = 16 * (grid0.coords t 1).val + n := ⟨_, rfl⟩
  have hw2 : w < 32 := by omega
  have hst := start_toNat (grid0.coords t) n w hw hw2
  have g0 : pairOf ⟨2 * p, by omega⟩ = ⟨p / 2, by omega⟩ := Fin.ext (by show 2 * p / 4 = p / 2; omega)
  have g1 : pairOf ⟨2 * p + 1, by omega⟩ = ⟨p / 2, by omega⟩ := Fin.ext (by show (2 * p + 1) / 4 = p / 2; omega)
  have et : tokenAt w hw2 q = tok t ⟨128 * n + q.val, by omega⟩ := Fin.ext (by
    show 128 * w + q.val = (grid0.coords t 1).val * 2048 + (128 * n + q.val); omega)
  have eq : ∀ (l : Fin 128) (l' : Fin 512) (e : Fin 8) (d : Fin 64), l'.val = 128 * p + l.val → l'.val = 64 * e.val + d.val →
      queriesAt arg3 harg3 (iblk m c 1 t) (128 * n) (128 * p) (tile_inb n p hn hp) (ix3 0 q l) = queries m c (bt t) (tokenAt w hw2 q) e d := fun l l' e d hl he => by
    rw [et]
    exact (queriesAt_eq arg3 harg3 _ _ _ _ q l ⟨128 * n + q.val, by omega⟩ l' rfl hl).trans ((blk1 m c t _ _).trans (queries_eq m c _ _ e d l' he))
  have ek0 : ∀ (j : Fin 384) (l : Fin 128), windowAt arg4 harg4 (iblk m c 2 t) _ (window_inb (grid0.coords t) n (2 * (p / 2)) hn (by omega)) (ix4 0 0 j l)
      = if h : l.val < 64 then keys m c (bt t) (keyAt w j) ⟨p / 2, by omega⟩ ⟨l.val, h⟩ else 0 := fun j l =>
    (windowAt_eq arg4 harg4 _ _ _ _ j l ⟨2 * (p / 2), by omega⟩ (keyAt w j) rfl (by rw [hst]; rfl)).trans ((blk2 m c t _ _ _).trans
      ((congrFun (keys_eq m c) _).trans (slabs_low _ ⟨p / 2, by omega⟩ _ _ _ _ rfl)))
  have ek1 : ∀ (j : Fin 384) (l : Fin 128), windowAt arg4 harg4 (iblk m c 2 t) _ (window_inb (grid0.coords t) n (2 * (p / 2) + 1) hn (by omega)) (ix4 0 0 j l)
      = if h : l.val < 64 then 0 else keys m c (bt t) (keyAt w j) ⟨p / 2, by omega⟩ (back l) := fun j l =>
    (windowAt_eq arg4 harg4 _ _ _ _ j l ⟨2 * (p / 2) + 1, by omega⟩ (keyAt w j) rfl (by rw [hst]; rfl)).trans ((blk2 m c t _ _ _).trans
      ((congrFun (keys_eq m c) _).trans (slabs_high _ ⟨p / 2, by omega⟩ _ _ _ _ rfl)))
  have ev0 : ∀ (j : Fin 384) (l : Fin 128), windowAt arg5 harg5 (iblk m c 3 t) _ (window_inb (grid0.coords t) n (2 * (p / 2)) hn (by omega)) (ix4 0 0 j l)
      = if h : l.val < 64 then vals m c (bt t) (keyAt w j) ⟨p / 2, by omega⟩ ⟨l.val, h⟩ else 0 := fun j l =>
    (windowAt_eq arg5 harg5 _ _ _ _ j l ⟨2 * (p / 2), by omega⟩ (keyAt w j) rfl (by rw [hst]; rfl)).trans ((blk3 m c t _ _ _).trans
      ((congrFun (values_eq m c) _).trans (slabs_low _ ⟨p / 2, by omega⟩ _ _ _ _ rfl)))
  have ev1 : ∀ (j : Fin 384) (l : Fin 128), windowAt arg5 harg5 (iblk m c 3 t) _ (window_inb (grid0.coords t) n (2 * (p / 2) + 1) hn (by omega)) (ix4 0 0 j l)
      = if h : l.val < 64 then 0 else vals m c (bt t) (keyAt w j) ⟨p / 2, by omega⟩ (back l) := fun j l =>
    (windowAt_eq arg5 harg5 _ _ _ _ j l ⟨2 * (p / 2) + 1, by omega⟩ (keyAt w j) rfl (by rw [hst]; rfl)).trans ((blk3 m c t _ _ _).trans
      ((congrFun (values_eq m c) _).trans (slabs_high _ ⟨p / 2, by omega⟩ _ _ _ _ rfl)))
  have es : ∀ (s : Nat) (hs : s < 8) (h), sinkAt arg2 harg2 (iblk m c 0 t) s h = sinks m c ⟨s, hs⟩ := fun s hs h =>
    (sinkAt_eq arg2 harg2 _ s hs h).trans ((blk0 m c t _).trans (congrFun (V_main_arg0 m c) _))
  unfold tileOf
  by_cases hl : l.val < 64
  · refine (tile_low (sinks m c) (queries m c) (keys m c) (vals m c) (grid0.coords t) n w hw hw2 _ (bt t) q hS hQ hK ⟨2 * p, by omega⟩ ⟨p / 2, by omega⟩ g0
      _ _ _ _ _ _ (es _ (by omega) _) (fun d => eq (lo d) ⟨128 * p + d.val, by omega⟩ ⟨2 * p, by omega⟩ d rfl (by show 128 * p + d.val = 64 * (2 * p) + d.val; omega))
      ek0 ev0 ev1 ⟨l.val, hl⟩ l rfl).trans ?_
    rw [et]
    show result _ _ _ _ _ _ _ _ = result _ _ _ _ _ _ _ _
    have a1 : headOf ⟨128 * p + l.val, by omega⟩ = ⟨2 * p, by omega⟩ := Fin.ext (by show (128 * p + l.val) / 64 = 2 * p; omega)
    have a2 : laneOf ⟨128 * p + l.val, by omega⟩ = ⟨l.val, hl⟩ := Fin.ext (by show (128 * p + l.val) % 64 = l.val; omega)
    exact (congrArg₂ (result (sinks m c) (queries m c) (keys m c) (vals m c) (bt t) (tok t ⟨128 * n + q.val, by omega⟩)) a1 a2).symm
  · refine (tile_high (sinks m c) (queries m c) (keys m c) (vals m c) (grid0.coords t) n w hw hw2 _ (bt t) q hS hQ hK ⟨2 * p + 1, by omega⟩ ⟨p / 2, by omega⟩ g1
      _ _ _ _ _ _ (es _ (by omega) _) (fun d => eq (hi d) ⟨128 * p + (64 + d.val), by omega⟩ ⟨2 * p + 1, by omega⟩ d rfl (by show 128 * p + (64 + d.val) = 64 * (2 * p + 1) + d.val; omega))
      ek1 ev0 ev1 (back l) l (by show l.val = 64 + (l.val - 64); omega)).trans ?_
    rw [et]
    show result _ _ _ _ _ _ _ _ = result _ _ _ _ _ _ _ _
    have a1 : headOf ⟨128 * p + l.val, by omega⟩ = ⟨2 * p + 1, by omega⟩ := Fin.ext (by show (128 * p + l.val) / 64 = 2 * p + 1; omega)
    have a2 : laneOf ⟨128 * p + l.val, by omega⟩ = (back l) := Fin.ext (by show (128 * p + l.val) % 64 = l.val - 64; omega)
    exact (congrArg₂ (result (sinks m c) (queries m c) (keys m c) (vals m c) (bt t) (tok t ⟨128 * n + q.val, by omega⟩)) a1 a2).symm

include hS hQ hK in
/-- The result array after the run. -/
theorem final : (dats m 0 c).arrAt 4 cfg0.N = whole m c := by
  refine (dats m 0 c).arrAt_eq_of_covers 4 _ (by decide +kernel) fun t hf y => ?_
  blk_simp
  rw [after0_4]
  have e : (win0_4.blk t).view.emb y = (ix3 (bt t) (tok t (y 1)) (y 2) : S12x4096x512.Idx) := by
    blk_ext [at4]
  rw [e]
  unfold outsAt0
  exact out_apply c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t)
    (fun z => whole m c (ix3 (bt t) (tok t (z 1)) (z 2))) (fun n p hn hp q l => tile_eq m c hS hQ hK _ _ _ _ _ _ _ _ t n p hn hp q l) y

end Cert.AttnArray

end
-- ==== Proof.Attn.RefKeys.lean ====
/- The reference's windows of keys and values, its mask and its scores, read at an index. -/
module

public import proofs.«01_k».proof.Proof.Gen.AttnRefIdeal.Read
public import proofs.«01_k».proof.Proof.Attn.Place
public import Idealize.ShloMosaic.Lib.ValueIdxRank6
public import Idealize.ShloMosaic.Lib.IdealHost

@[expose] public section

noncomputable section

namespace Cert.AttnRef

open Cert.AttnRefIdeal Cert.AttnRefIdeal.Gen Cert.AttnRefIdeal.Read Idealize.ShloMosaic.TcCoe Idealize.ShloMosaic.ValueIdx
open Idealize.ShloMosaic hiding ix1 ix2 ix3 ix4 ix5 ix6

variable (X1 : FVec Ideal S12x4096x8x64 .f32) (X2 X3 : FVec Ideal S12x4096x2x64 .f32)

theorem query_eq (b : Fin 12) (i : Fin 32) (q : Fin 128) (g : Fin 2) (h : Fin 4) (d : Fin 64) :
    val_main_v0 (F := Ideal) X1 (ix6 b i q g h d) = X1 (ix4 b ⟨128 * i.val + q.val, by omega⟩ ⟨4 * g.val + h.val, by omega⟩ d) := by
  unfold val_main_v0
  refine shapeCast_apply (s := S12x4096x8x64) (t := S12x32x128x2x4x64) _ _ _ _ ?_
  rw [Shape.rowMajor_val_four, Shape.rowMajor_val_six]
  show ((b.val * 4096 + (128 * i.val + q.val)) * 8 + (4 * g.val + h.val)) * 64 + d.val = ((((b.val * 32 + i.val) * 128 + q.val) * 2 + g.val) * 4 + h.val) * 64 + d.val
  omega

/-! ## The windows of keys and of values -/

theorem key_padded (b : Fin 12) (r : Fin 4352) (g : Fin 2) (d : Fin 64) (u : Fin 4096) (hu : u.val + 128 = r.val) :
    val_main_v1 (F := Ideal) X2 (ix4 b r g d) = X2 (ix4 b u g d) := by
  unfold val_main_v1
  refine pad_apply_of_inside (s := S12x4096x2x64) (t := S12x4352x2x64) _ _ _ _ _ pads_S12x4096x2x64_S12x4352x2x64_000_1281280_000_000 h_S_ (ix4 b r g d) (ix4 b u g d) (fun a => ?_)
  match a with
  | ⟨0, _⟩ =>
    show b.val = 0 + b.val * (0 + 1)
    omega
  | ⟨1, _⟩ =>
    show r.val = 128 + u.val * (0 + 1)
    omega
  | ⟨2, _⟩ =>
    show g.val = 0 + g.val * (0 + 1)
    omega
  | ⟨3, _⟩ =>
    show d.val = 0 + d.val * (0 + 1)
    omega

theorem key_blocks (b : Fin 12) (i : Fin 34) (j : Fin 128) (g : Fin 2) (d : Fin 64) (u : Fin 4096) (hu : u.val + 128 = 128 * i.val + j.val) :
    val_main_v2 (F := Ideal) X2 (ix5 b i j g d) = X2 (ix4 b u g d) := by
  unfold val_main_v2
  refine (shapeCast_apply (s := S12x4352x2x64) (t := S12x34x128x2x64) _ _ _ (ix4 b ⟨128 * i.val + j.val, by omega⟩ g d) ?_).trans (key_padded X2 b _ g d u hu)
  rw [Shape.rowMajor_val_four, Shape.rowMajor_val_five]
  show ((b.val * 4352 + (128 * i.val + j.val)) * 2 + g.val) * 64 + d.val = (((b.val * 34 + i.val) * 128 + j.val) * 2 + g.val) * 64 + d.val
  omega

theorem key_eq (b : Fin 12) (i : Fin 32) (j : Fin 384) (g : Fin 2) (d : Fin 64) (u : Fin 4096) (hu : u.val + 128 = 128 * i.val + j.val) :
    val_main_v6 (F := Ideal) X2 (ix5 b i j g d) = X2 (ix4 b u g d) := by
  unfold val_main_v6
  by_cases h1 : j.val < 128
  · refine (concatenate_apply_piece (t := S12x32x384x2x64) 2 [⟨S12x32x128x2x64, val_main_v3 (F := Ideal) X2⟩, ⟨S12x32x128x2x64, val_main_v4 (F := Ideal) X2⟩, ⟨S12x32x128x2x64, val_main_v5 (F := Ideal) X2⟩]
      concatenates_S12x32x128x2x64_S12x32x128x2x64_S12x32x128x2x64_S12x32x384x2x64_d2 (ix5 b i j g d) 0 (by simp)
      S12x32x128x2x64 (val_main_v3 (F := Ideal) X2) rfl rfl 0 rfl (ix5 b i ⟨j.val, h1⟩ g d) (fun a ha => by
        match a with
        | ⟨0, _⟩ => rfl
        | ⟨1, _⟩ => rfl
        | ⟨2, _⟩ => exact absurd rfl ha
        | ⟨3, _⟩ => rfl
        | ⟨4, _⟩ => rfl) (by show 0 + j.val = j.val; omega)).trans ?_
    refine (val_main_v3_apply (F := Ideal) X2 _).trans ((congrArg (val_main_v2 (F := Ideal) X2) ?_).trans (key_blocks X2 b ⟨i.val, by omega⟩ ⟨j.val, h1⟩ g d u (by show u.val + 128 = 128 * i.val + j.val; omega)))
    funext a
    match a with
    | ⟨0, _⟩ => rfl
    | ⟨1, _⟩ => rfl
    | ⟨2, _⟩ => rfl
    | ⟨3, _⟩ => rfl
    | ⟨4, _⟩ => rfl
  · by_cases h2 : j.val < 256
    · refine (concatenate_apply_piece (t := S12x32x384x2x64) 2 [⟨S12x32x128x2x64, val_main_v3 (F := Ideal) X2⟩, ⟨S12x32x128x2x64, val_main_v4 (F := Ideal) X2⟩, ⟨S12x32x128x2x64, val_main_v5 (F := Ideal) X2⟩]
        concatenates_S12x32x128x2x64_S12x32x128x2x64_S12x32x128x2x64_S12x32x384x2x64_d2 (ix5 b i j g d) 1 (by simp)
        S12x32x128x2x64 (val_main_v4 (F := Ideal) X2) rfl rfl 128 rfl (ix5 b i ⟨j.val - 128, by omega⟩ g d) (fun a ha => by
          match a with
          | ⟨0, _⟩ => rfl
          | ⟨1, _⟩ => rfl
          | ⟨2, _⟩ => exact absurd rfl ha
          | ⟨3, _⟩ => rfl
          | ⟨4, _⟩ => rfl) (by show 128 + (j.val - 128) = j.val; omega)).trans ?_
      refine (val_main_v4_apply (F := Ideal) X2 _).trans ((congrArg (val_main_v2 (F := Ideal) X2) ?_).trans (key_blocks X2 b ⟨1 + i.val, by omega⟩ ⟨j.val - 128, by omega⟩ g d u (by show u.val + 128 = 128 * (1 + i.val) + (j.val - 128); omega)))
      funext a
      match a with
      | ⟨0, _⟩ => rfl
      | ⟨1, _⟩ => rfl
      | ⟨2, _⟩ => rfl
      | ⟨3, _⟩ => rfl
      | ⟨4, _⟩ => rfl
    · refine (concatenate_apply_piece (t := S12x32x384x2x64) 2 [⟨S12x32x128x2x64, val_main_v3 (F := Ideal) X2⟩, ⟨S12x32x128x2x64, val_main_v4 (F := Ideal) X2⟩, ⟨S12x32x128x2x64, val_main_v5 (F := Ideal) X2⟩]
        concatenates_S12x32x128x2x64_S12x32x128x2x64_S12x32x128x2x64_S12x32x384x2x64_d2 (ix5 b i j g d) 2 (by simp)
        S12x32x128x2x64 (val_main_v5 (F := Ideal) X2) rfl rfl 256 rfl (ix5 b i ⟨j.val - 256, by omega⟩ g d) (fun a ha => by
          match a with
          | ⟨0, _⟩ => rfl
          | ⟨1, _⟩ => rfl
          | ⟨2, _⟩ => exact absurd rfl ha
          | ⟨3, _⟩ => rfl
          | ⟨4, _⟩ => rfl) (by show 256 + (j.val - 256) = j.val; omega)).trans ?_
      refine (val_main_v5_apply (F := Ideal) X2 _).trans ((congrArg (val_main_v2 (F := Ideal) X2) ?_).trans (key_blocks X2 b ⟨2 + i.val, by omega⟩ ⟨j.val - 256, by omega⟩ g d u (by show u.val + 128 = 128 * (2 + i.val) + (j.val - 256); omega)))
      funext a
      match a with
      | ⟨0, _⟩ => rfl
      | ⟨1, _⟩ => rfl
      | ⟨2, _⟩ => rfl
      | ⟨3, _⟩ => rfl
      | ⟨4, _⟩ => rfl

/-- The values' windows are made as the keys' are. -/
theorem values_windows : val_main_v12 (F := Ideal) X3 = val_main_v6 (F := Ideal) X3 := rfl

/-! ## The mask -/

theorem query_place (i : Fin 32) (q : Fin 128) : val_main_v25 (F := Ideal) (ix2 i q) = BitVec.ofNat 32 (128 * i.val + q.val) := by
  rw [val_main_v25_apply, val_main_v23_apply, val_main_v24_apply, val_main_v20_apply, val_main_v18_apply, val_main_v19_apply, val_main_v22_apply]
  show BitVec.ofNat 32 i.val * BitVec.ofNat 32 128 + BitVec.ofNat 32 q.val = _
  rw [← BitVec.ofNat_mul, ← BitVec.ofNat_add, Nat.mul_comm]

theorem key_place (i : Fin 32) (j : Fin 384) : val_main_v36 (F := Ideal) (ix2 i j) = BitVec.ofNat 32 (128 * i.val + j.val) - 128#32 := by
  rw [val_main_v36_apply, val_main_v34_apply, val_main_v35_apply, val_main_v31_apply, val_main_v29_apply, val_main_v27_apply, val_main_v28_apply, val_main_v30_apply, val_main_v33_apply]
  show BitVec.ofNat 32 i.val * BitVec.ofNat 32 128 - 128#32 + BitVec.ofNat 32 j.val = _
  rw [← BitVec.ofNat_mul, Nat.mul_comm, BitVec.sub_add_comm, ← BitVec.ofNat_add]

/-- A key place less the window's overhang, against the first and past the last token. -/
theorem from_first (k : Nat) (hk : k < 8192) : IntOp.cmpi .sge (BitVec.ofNat 32 k - 128#32) 0#32 = if 128 ≤ k then 1#1 else 0#1 := by
  have e : (BitVec.ofNat 32 k - 128#32).toNat = if 128 ≤ k then k - 128 else 2 ^ 32 + k - 128 := by
    rw [BitVec.toNat_sub, BitVec.toNat_ofNat, BitVec.toNat_ofNat]
    split <;> omega
  show BitVec.ofBool (BitVec.sle 0#32 (BitVec.ofNat 32 k - 128#32)) = _
  have e2 : BitVec.sle 0#32 (BitVec.ofNat 32 k - 128#32) = decide (128 ≤ k) := by
    rw [BitVec.sle_eq_decide, BitVec.toInt_eq_toNat_cond (BitVec.ofNat 32 k - 128#32), e]
    have : (0#32 : BitVec 32).toInt = 0 := by decide
    rw [this]
    refine decide_eq_decide.2 ?_
    split <;> split <;> omega
  rw [e2]
  split
  · next h => rw [decide_eq_true h]; rfl
  · next h => rw [decide_eq_false h]; rfl

theorem to_last (k : Nat) (hk : k < 8192) : IntOp.cmpi .slt (BitVec.ofNat 32 k - 128#32) 4096#32 = if k < 4224 then 1#1 else 0#1 := by
  have e : (BitVec.ofNat 32 k - 128#32).toNat = if 128 ≤ k then k - 128 else 2 ^ 32 + k - 128 := by
    rw [BitVec.toNat_sub, BitVec.toNat_ofNat, BitVec.toNat_ofNat]
    split <;> omega
  show BitVec.ofBool (BitVec.slt (BitVec.ofNat 32 k - 128#32) 4096#32) = _
  have e2 : BitVec.slt (BitVec.ofNat 32 k - 128#32) 4096#32 = decide (k < 4224) := by
    rw [BitVec.slt_eq_decide, BitVec.toInt_eq_toNat_cond (BitVec.ofNat 32 k - 128#32), e]
    have : (4096#32 : BitVec 32).toInt = 4096 := by decide
    rw [this]
    refine decide_eq_decide.2 ?_
    split <;> split <;> omega
  rw [e2]
  split
  · next h => rw [decide_eq_true h]; rfl
  · next h => rw [decide_eq_false h]; rfl

theorem mask_eq (i : Fin 32) (q : Fin 128) (j : Fin 384) : val_main_v54 (F := Ideal) (ix3 i q j)
    = if (q.val ≤ j.val ∧ j.val ≤ q.val + 256) ∧ 128 ≤ 128 * i.val + j.val ∧ 128 * i.val + j.val < 4224 then 1#1 else 0#1 := by
  have kp : ∀ z : S32x384.Idx, z = ix2 i j → val_main_v36 (F := Ideal) z = BitVec.ofNat 32 (128 * i.val + j.val) - 128#32 := fun z e => e ▸ key_place i j
  have qp : ∀ z : S32x128.Idx, z = ix2 i q → val_main_v25 (F := Ideal) z = BitVec.ofNat 32 (128 * i.val + q.val) := fun z e => e ▸ query_place i q
  rw [val_main_v54_apply, val_main_v49_apply, val_main_v53_apply, val_main_v52_apply, val_main_v48_apply, val_main_v47_apply, val_main_v44_apply, val_main_v42_apply, val_main_v41_apply,
    val_main_v39_apply, val_main_v40_apply, val_main_v37_apply, val_main_v38_apply, val_main_v45_apply, val_main_v50_apply, val_main_v43_apply, val_main_v46_apply, val_main_v51_apply]
  rw [kp _ (by funext a; match a with | ⟨0, _⟩ => rfl | ⟨1, _⟩ => rfl),
    qp _ (by funext a; match a with | ⟨0, _⟩ => rfl | ⟨1, _⟩ => rfl)]
  have en : IntOp.cmpi .sle (IntOp.absi (IntOp.subi (BitVec.ofNat 32 (128 * i.val + q.val)) (BitVec.ofNat 32 (128 * i.val + j.val) - 128#32))) 128#32
      = if q.val ≤ j.val ∧ j.val ≤ q.val + 256 then 1#1 else 0#1 := by
    have e : IntOp.subi (BitVec.ofNat 32 (128 * i.val + q.val)) (BitVec.ofNat 32 (128 * i.val + j.val) - 128#32)
        = BitVec.ofNat 32 (128 * i.val + q.val + 128) - BitVec.ofNat 32 (128 * i.val + j.val) := by
      show BitVec.ofNat 32 (128 * i.val + q.val) - (BitVec.ofNat 32 (128 * i.val + j.val) - BitVec.ofNat 32 128) = _
      rw [BitVec.ofNat_add (128 * i.val + q.val) 128]
      generalize BitVec.ofNat 32 (128 * i.val + q.val) = x
      generalize BitVec.ofNat 32 (128 * i.val + j.val) = y
      generalize BitVec.ofNat 32 128 = z
      bv_omega
    rw [e, Cert.AttnTile.near_iff _ _ (by omega) (by omega)]
    refine if_congr ?_ rfl rfl
    omega
  refine (congrArg₂ IntOp.andi (congrArg₂ IntOp.andi en (from_first (128 * i.val + j.val) (by omega))) (to_last (128 * i.val + j.val) (by omega))).trans ?_
  by_cases h1 : q.val ≤ j.val ∧ j.val ≤ q.val + 256 <;> by_cases h2 : 128 ≤ 128 * i.val + j.val <;> by_cases h3 : 128 * i.val + j.val < 4224 <;>
    simp only [h1, h2, h3, if_true, if_false, and_true, true_and, and_self, and_false, false_and] <;> rfl

/-! ## The scores -/

theorem eighth : Ideal.ofBits .f32 0x3E000000#32 = ((1 / 8 : ℝ) : EReal) := by
  simp [Ideal.ofBits, Ideal.ieee, -EReal.coe_mul]; norm_num

theorem none_eq : Ideal.ofBits .f32 0xFF800000#32 = ⊥ := by simp [Ideal.ofBits, Ideal.ieee]

theorem score_eq (b : Fin 12) (i : Fin 32) (g : Fin 2) (h : Fin 4) (q : Fin 128) (j : Fin 384) :
    val_main_v56 (F := Ideal) X1 X2 (ix6 b i g h q j)
      = if (q.val ≤ j.val ∧ j.val ≤ q.val + 256) ∧ 128 ≤ 128 * i.val + j.val ∧ 128 * i.val + j.val < 4224
        then (∑ d : Fin 64, val_main_v6 (F := Ideal) X2 (ix5 b i j g d) * X1 (ix4 b ⟨128 * i.val + q.val, by omega⟩ ⟨4 * g.val + h.val, by omega⟩ d)) * ((1 / 8 : ℝ) : EReal)
        else ⊥ := by
  have em : val_main_call2_v1 (F := Ideal) (ix6 b i g h q j) = _ := (val_main_call2_v1_apply (F := Ideal) _).trans ((val_main_v55_apply (F := Ideal) _).trans
    ((congrArg (val_main_v54 (F := Ideal)) (by funext a; match a with | ⟨0, _⟩ => rfl | ⟨1, _⟩ => rfl | ⟨2, _⟩ => rfl)).trans (mask_eq i q j)))
  have es : val_main_v16 (F := Ideal) X1 X2 (ix6 b i g h q j)
      = (∑ d : Fin 64, val_main_v6 (F := Ideal) X2 (ix5 b i j g d) * X1 (ix4 b ⟨128 * i.val + q.val, by omega⟩ ⟨4 * g.val + h.val, by omega⟩ d)) * ((1 / 8 : ℝ) : EReal) := by
    rw [val_main_v16_apply]
    refine congrArg₂ (fun a b : EReal => a * b) ?_ ((val_main_v15_apply (F := Ideal) _).trans eighth)
    refine (val_main_v14_apply (F := Ideal) X1 X2 _).trans ((val_main_v13_apply X1 X2 _).trans (Finset.sum_congr rfl fun d _ => ?_))
    refine congrArg₂ (fun a b : EReal => a * b) (congrArg (val_main_v6 (F := Ideal) X2) ?_) ((congrArg (val_main_v0 (F := Ideal) X1) ?_).trans (query_eq X1 b i q g h d))
    · funext a
      match a with
      | ⟨0, _⟩ => rfl
      | ⟨1, _⟩ => rfl
      | ⟨2, _⟩ => rfl
      | ⟨3, _⟩ => rfl
      | ⟨4, _⟩ => rfl
    · funext a
      match a with
      | ⟨0, _⟩ => rfl
      | ⟨1, _⟩ => rfl
      | ⟨2, _⟩ => rfl
      | ⟨3, _⟩ => rfl
      | ⟨4, _⟩ => rfl
      | ⟨5, _⟩ => rfl
  have en : val_main_call2_v2 (F := Ideal) (ix6 b i g h q j) = ⊥ := (val_main_call2_v2_apply (F := Ideal) _).trans none_eq
  rw [val_main_v56_apply, em, es, en]
  split <;> rfl

end Cert.AttnRef

end
-- ==== Proof.Attn.RefRow.lean ====
/- The reference's softmax and sum, read at an index: a query's attention over its window of keys. -/
module

public import proofs.«01_k».proof.Proof.Attn.RefKeys
public import proofs.«01_k».proof.Proof.Attn.Spec

@[expose] public section

noncomputable section

namespace Cert.AttnRef

open Cert.AttnRow Cert.AttnRefIdeal Cert.AttnRefIdeal.Gen Cert.AttnRefIdeal.Read Idealize.ShloMosaic.TcCoe Idealize.ShloMosaic.ValueIdx
open Idealize.ShloMosaic hiding ix1 ix2 ix3 ix4 ix5 ix6

variable (X0 : FVec Ideal S8 .f32) (X1 : FVec Ideal S12x4096x8x64 .f32) (X2 X3 : FVec Ideal S12x4096x2x64 .f32)
variable (b : Fin 12) (i : Fin 32) (g : Fin 2) (h : Fin 4) (q : Fin 128)

/-- The head's sink. -/
def sinkRef : EReal := X0 (ix1 ⟨4 * g.val + h.val, by omega⟩)
/-- The query's scores. -/
def scoresRef (j : Fin 384) : EReal := val_main_v56 (F := Ideal) X1 X2 (ix6 b i g h q j)

theorem sink_eq : val_main_v57 (F := Ideal) X0 (ix6 0 0 g h 0 0) = sinkRef X0 g h := by
  unfold val_main_v57 sinkRef
  refine shapeCast_apply (s := S8) (t := S1x1x2x4x1x1) _ _ _ _ ?_
  rw [Shape.rowMajor_val_one, Shape.rowMajor_val_six]
  show 4 * g.val + h.val = ((((0 * 1 + 0) * 2 + g.val) * 4 + h.val) * 1 + 0) * 1 + 0
  omega

theorem highest_eq : val_main_v58 (F := Ideal) X1 X2 (ix5 b i g h q) = highest (scoresRef X1 X2 b i g h q) := by
  unfold val_main_v58 val_main_cst_8
  have hr : S12x32x2x4x128x384.Reduces [5] S12x32x2x4x128 := by decide
  refine (congrFun (hostReduce_maximumf_eq_multiReduction (F := Ideal) (φ := .f32) (val_main_v56 (F := Ideal) X1 X2) 0xFF800000#32 reducesTo_S12x32x2x4x128x384_S12x32x2x4x128_d5 h_S_ hr (.inl rfl) rfl) _).trans ?_
  refine (Ideal.multiReduction_maximumf_single _ _ hr _ _ _).trans ?_
  have e0 : (FloatOps.ofBits .f32 0xFF800000#32 : Ideal .f32) = (⊥ : EReal) := none_eq
  rw [e0]
  unfold highest scoresRef
  refine congrArg (fun f => Finset.univ.fold max ⊥ f) (funext fun k => congrArg (val_main_v56 (F := Ideal) X1 X2) (funext fun a => Fin.ext ?_))
  match a with
  | ⟨0, _⟩ => rfl
  | ⟨1, _⟩ => rfl
  | ⟨2, _⟩ => rfl
  | ⟨3, _⟩ => rfl
  | ⟨4, _⟩ => rfl
  | ⟨5, _⟩ => rfl

theorem top_eq : val_main_v61 (F := Ideal) X0 X1 X2 (ix6 b i g h q 0) = top (scoresRef X1 X2 b i g h q) (sinkRef X0 g h) := by
  rw [val_main_v61_apply, val_main_v59_apply, val_main_v60_apply]
  refine congrArg₂ (fun a b : EReal => max a b) ((congrArg (val_main_v58 (F := Ideal) X1 X2) ?_).trans (highest_eq X1 X2 b i g h q))
    ((congrArg (val_main_v57 (F := Ideal) X0) ?_).trans (sink_eq X0 g h))
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl
    | ⟨5, _⟩ => rfl

theorem weight_eq (j : Fin 384) : val_main_v64 (F := Ideal) X0 X1 X2 (ix6 b i g h q j)
    = Ideal.exp (scoresRef X1 X2 b i g h q j - top (scoresRef X1 X2 b i g h q) (sinkRef X0 g h)) := by
  rw [val_main_v64_apply, val_main_v63_apply, val_main_v62_apply]
  refine congrArg Ideal.exp (congrArg (fun z : EReal => scoresRef X1 X2 b i g h q j - z) ((congrArg (val_main_v61 (F := Ideal) X0 X1 X2) ?_).trans (top_eq X0 X1 X2 b i g h q)))
  funext a
  match a with
  | ⟨0, _⟩ => rfl
  | ⟨1, _⟩ => rfl
  | ⟨2, _⟩ => rfl
  | ⟨3, _⟩ => rfl
  | ⟨4, _⟩ => rfl
  | ⟨5, _⟩ => rfl

theorem whole_eq : val_main_v70 (F := Ideal) X0 X1 X2 (ix6 b i g h q 0) = whole (scoresRef X1 X2 b i g h q) (sinkRef X0 g h) := by
  rw [val_main_v70_apply, val_main_v66_apply, val_main_v69_apply, val_main_v68_apply, val_main_v67_apply, top_eq]
  unfold whole
  refine congrArg₂ (fun a b : EReal => a + b) ?_ (congrArg Ideal.exp (congrArg (fun z : EReal => z - top (scoresRef X1 X2 b i g h q) (sinkRef X0 g h)) ((congrArg (val_main_v57 (F := Ideal) X0) ?_).trans (sink_eq X0 g h))))
  · rw [val_main_v65_apply]
    have e0 : val_main_cst_9 (F := Ideal) (Shape.Idx.first h_S_) = (0 : EReal) := Ideal.ofBits_zero_f32
    refine (congrArg (fun z : EReal => z + _) e0).trans ((zero_add _).trans (Finset.sum_congr rfl fun j _ => ?_))
    refine (congrArg (val_main_v64 (F := Ideal) X0 X1 X2) ?_).trans (weight_eq X0 X1 X2 b i g h q j)
    funext a
    match a with
    | ⟨0, _⟩ => rfl
    | ⟨1, _⟩ => rfl
    | ⟨2, _⟩ => rfl
    | ⟨3, _⟩ => rfl
    | ⟨4, _⟩ => rfl
    | ⟨5, _⟩ => rfl
  · funext a
    match a with
    | ⟨0, _⟩ => rfl
    | ⟨1, _⟩ => rfl
    | ⟨2, _⟩ => rfl
    | ⟨3, _⟩ => rfl
    | ⟨4, _⟩ => rfl
    | ⟨5, _⟩ => rfl

theorem share_eq (j : Fin 384) : val_main_v72 (F := Ideal) X0 X1 X2 (ix6 b i g h q j)
    = Ideal.div (Ideal.exp (scoresRef X1 X2 b i g h q j - top (scoresRef X1 X2 b i g h q) (sinkRef X0 g h))) (whole (scoresRef X1 X2 b i g h q) (sinkRef X0 g h)) := by
  rw [val_main_v72_apply, val_main_v71_apply, weight_eq]
  refine congrArg (fun z : EReal => Ideal.div _ z) ((congrArg (val_main_v70 (F := Ideal) X0 X1 X2) ?_).trans (whole_eq X0 X1 X2 b i g h q))
  funext a
  match a with
  | ⟨0, _⟩ => rfl
  | ⟨1, _⟩ => rfl
  | ⟨2, _⟩ => rfl
  | ⟨3, _⟩ => rfl
  | ⟨4, _⟩ => rfl
  | ⟨5, _⟩ => rfl

theorem sums_eq (d : Fin 64) : val_main_v74 (F := Ideal) X0 X1 X2 X3 (ix6 b i q g h d)
    = attend (scoresRef X1 X2 b i g h q) (sinkRef X0 g h) (fun j => val_main_v6 (F := Ideal) X3 (ix5 b i j g d)) := by
  refine (val_main_v74_apply (F := Ideal) X0 X1 X2 X3 _).trans ((val_main_v73_apply X0 X1 X2 X3 _).trans (Finset.sum_congr rfl fun j _ => ?_))
  refine congrArg₂ (fun a b : EReal => a * b) (congrArg (val_main_v6 (F := Ideal) X3) ?_) ((congrArg (val_main_v72 (F := Ideal) X0 X1 X2) ?_).trans (share_eq X0 X1 X2 b i g h q j))
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl
    | ⟨5, _⟩ => rfl

/-! ## Over every key -/

/-- The arguments as functions of their coordinates. -/
abbrev atSink : Fin 8 → EReal := fun g => X0 (ix1 g)
abbrev atQuery : Fin 12 → Fin 4096 → Fin 8 → Fin 64 → EReal := fun b t g d => X1 (ix4 b t g d)
abbrev atKey (X : FVec Ideal S12x4096x2x64 .f32) : Fin 12 → Fin 4096 → Fin 2 → Fin 64 → EReal := fun b u g d => X (ix4 b u g d)

variable (hS : ∀ g, ∃ r : ℝ, atSink X0 g = (r : EReal)) (hQ : ∀ b t g d, ∃ r : ℝ, atQuery X1 b t g d = (r : EReal))
  (hK : ∀ b u g d, ∃ r : ℝ, atKey X2 b u g d = (r : EReal))

include hS hQ hK in
theorem spec_eq (d : Fin 64) (t : Fin 4096) (e : Fin 8) (ht : t.val = 128 * i.val + q.val) (he : e.val = 4 * g.val + h.val) :
    val_main_v74 (F := Ideal) X0 X1 X2 X3 (ix6 b i q g h d)
      = Cert.AttnSpec.result (atSink X0) (atQuery X1) (atKey X2) (atKey X3) b t e d := by
  have et : t = ⟨128 * i.val + q.val, by omega⟩ := Fin.ext ht
  have ee : e = ⟨4 * g.val + h.val, by omega⟩ := Fin.ext he
  have eg : Cert.AttnSpec.pairOf e = g := Fin.ext (by show e.val / 4 = g.val; omega)
  rw [sums_eq]
  unfold Cert.AttnSpec.result
  have es : sinkRef X0 g h = atSink X0 e := by rw [ee]; rfl
  rw [es]
  refine attend_window (128 * i.val) _ _ _ _ _ (fun j u hu => ?_) (fun j u hu => ?_) (fun j hj => ?_) (fun u hu => ?_) (Cert.AttnSpec.whole_ne (atSink X0) (atQuery X1) (atKey X2) hS hQ hK b t e)
  · unfold scoresRef Cert.AttnSpec.keyScores
    rw [score_eq]
    refine if_congr (by omega) ?_ rfl
    unfold Cert.AttnSpec.product
    refine congrArg (fun z : EReal => z * _) (Finset.sum_congr rfl fun d _ => congrArg₂ (fun a b : EReal => a * b) ?_ ?_)
    · rw [eg]; exact key_eq X2 b i j g d u hu
    · rw [et, ee]
  · rw [eg]; exact key_eq X3 b i j g d u hu
  · unfold scoresRef
    rw [score_eq, if_neg]
    intro hc
    exact hj ⟨128 * i.val + j.val - 128, by omega⟩ (by show 128 * i.val + j.val - 128 + 128 = _; omega)
  · unfold Cert.AttnSpec.keyScores
    rw [if_neg]
    intro hc
    exact hu ⟨u.val + 128 - 128 * i.val, by omega⟩ (by show u.val + 128 = 128 * i.val + (u.val + 128 - 128 * i.val); omega)

include hS hQ hK in
theorem result_eq (t : Fin 4096) (e : Fin 8) (d : Fin 64) (l : Fin 512) (hl : l.val = 64 * e.val + d.val) :
    val_main_v76 (F := Ideal) X0 X1 X2 X3 (ix3 b t l) = Cert.AttnSpec.result (atSink X0) (atQuery X1) (atKey X2) (atKey X3) b t e d := by
  refine Eq.trans ?_ (spec_eq X0 X1 X2 X3 b ⟨t.val / 128, by omega⟩ ⟨e.val / 4, by omega⟩ ⟨e.val % 4, by omega⟩ ⟨t.val % 128, by omega⟩ hS hQ hK d t e
    (by show t.val = 128 * (t.val / 128) + t.val % 128; omega) (by show e.val = 4 * (e.val / 4) + e.val % 4; omega))
  rw [val_main_v76_apply]
  show val_main_v75 (F := Ideal) X0 X1 X2 X3 (ix3 b t l) = _
  unfold val_main_v75
  refine shapeCast_apply (s := S12x32x128x2x4x64) (t := S12x4096x512) _ _ _ _ ?_
  rw [Shape.rowMajor_val_six, Shape.rowMajor_val_three]
  show ((((b.val * 32 + t.val / 128) * 128 + t.val % 128) * 2 + e.val / 4) * 4 + e.val % 4) * 64 + d.val = (b.val * 4096 + t.val) * 512 + l.val
  omega

end Cert.AttnRef

end
-- ==== Proof.Attn.Finite.lean ====
/- What the precondition says: the sinks, the queries and the keys are real numbers. -/
module

public import proofs.«01_k».proof.Pre_finite
public import Idealize.ShloMosaic.Lib.ReduceAll
public import Idealize.ShloMosaic.Lib.KernelVsHost

@[expose] public section

noncomputable section

namespace Cert.Pre_finite

open Idealize.ShloMosaic

/-- The shapes of the precondition's broadcasts and reductions fit. -/
instance facts : Facts where
  bcast_S_S8 := by decide
  reducesTo_S8_S_d0 := by decide
  h_S_ := by decide
  bcast_S_S12x4096x8x64 := by decide
  reducesTo_S12x4096x8x64_S_d0_1_2_3 := by decide
  bcast_S_S12x4096x2x64 := by decide
  reducesTo_S12x4096x2x64_S_d0_1_2_3 := by decide

instance : Subsingleton S_.Idx := ⟨fun _ _ => funext fun a => a.elim0⟩

/-- A value whose size is below infinity is a real number. -/
theorem real_of_below (x : EReal)
    (h : (FloatOps.cmpf .olt (FloatOps.hostAbsf (x : Ideal .f32)) (FloatOps.ofBits (F := Ideal) .f32 0x7F800000#32) : BitVec 1) = 1#1) :
    ∃ r : ℝ, x = (r : EReal) := by
  rw [← Ideal.xori_weird_eq_hostAbsf_olt_inf] at h
  change IntOp.xori (BitVec.ofBool (decide (x = ⊤ ∨ x = ⊥))) 1#1 = 1#1 at h
  by_cases hx : x = ⊤ ∨ x = ⊥
  · rw [decide_eq_true hx] at h
    exact absurd h (by decide)
  · rw [not_or] at hx
    exact ⟨x.toReal, (EReal.coe_toReal hx.1 hx.2).symm⟩

/-- Where the precondition holds, the first three arguments are real at every index. -/
theorem reals (a0 : FVec Ideal S8 .f32) (a1 : FVec Ideal S12x4096x8x64 .f32) (a2 a3 : FVec Ideal S12x4096x2x64 .f32)
    (h : fn (F := Ideal) a0 a1 a2 a3 = fun _ => 1#1) :
    (∀ i, ∃ r : ℝ, (a0 i : EReal) = (r : EReal)) ∧ (∀ i, ∃ r : ℝ, (a1 i : EReal) = (r : EReal)) ∧ ∀ i, ∃ r : ℝ, (a2 i : EReal) = (r : EReal) := by
  have h0 := congrFun h (fun a => a.elim0)
  unfold fn at h0
  obtain ⟨h01, h2⟩ := IntOp.andi_eq_one.1 h0
  obtain ⟨h0, h1⟩ := IntOp.andi_eq_one.1 h01
  exact ⟨fun i => real_of_below _ (Host.reduce_andi_all _ _ _ _ _ h0 i), fun i => real_of_below _ (Host.reduce_andi_all _ _ _ _ _ h1 i),
    fun i => real_of_below _ (Host.reduce_andi_all _ _ _ _ _ h2 i)⟩

end Cert.Pre_finite

end
-- ==== Proof.Attn.Claims.lean ====
/- The attention kernel's claims: its frames, its named constants, and that over the reals its result is the layer's own. -/
module

public import proofs.«01_k».proof.Defs
public import proofs.«01_k».proof.Proof.Attn.Array
public import proofs.«01_k».proof.Proof.Attn.RefRow
public import proofs.«01_k».proof.Proof.Attn.Finite
public import proofs.«01_k».proof.Proof.Gen.Attn.Frame

@[expose] public section

noncomputable section

namespace Cert.AttnClaims

open Idealize.ShloMosaic Idealize.ShloMosaic.TcCoe
open Cert.AttnArray (whole headOf laneOf)

theorem frame : Cert.quiescent_Attn := fun m ρ _ => Cert.Attn.Gen.frame m ρ
theorem frame_ideal : Cert.quiescent_AttnIdeal := fun m ρ _ => Cert.AttnIdeal.Gen.frame m ρ
theorem frame_ideal_finite : Cert.quiescent_AttnIdeal_pre_finite := fun m ρ _ => Cert.AttnIdeal.Gen.frame m ρ
theorem frame_ref : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)
theorem frame_ref_finite : Cert.quiescent_AttnRefIdeal_pre_finite := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The three named constants have their values. -/
theorem preserves : Cert.preserves_Attn_AttnIdeal :=
  ⟨IdealRules.named_const.statement _ _ _ _ _ rfl, IdealRules.named_const.statement _ _ _ _ _ rfl, IdealRules.named_const.statement _ _ _ _ _ rfl⟩

section

open Cert.AttnIdeal Cert.AttnIdeal.Gen

variable (m : (ℓ : Loc nD τ sig) → Buf (Elt Ideal) ℓ) (ρ : Dev nD → PrngReg)

/-- An argument of the kernel. -/
abbrev arg (c : Dev nD) (b : Ref sig .tc) := m ((c.tc : Thread nD τ).loc b)

/-- What the precondition says of a device's arguments. -/
theorem reals (h : Cert.Pre_AttnIdeal_finite m) (c : Dev nD) :
    (∀ g, ∃ r : ℝ, Cert.AttnArray.sinks m c g = (r : EReal)) ∧ (∀ b t g d, ∃ r : ℝ, Cert.AttnArray.queries m c b t g d = (r : EReal))
    ∧ ∀ b u g d, ∃ r : ℝ, Cert.AttnArray.keys m c b u g d = (r : EReal) := by
  obtain ⟨h0, h1, h2⟩ := Cert.Pre_finite.reals _ _ _ _ (h c)
  exact ⟨fun g => h0 _, fun b t g d => h1 _, fun b u g d => h2 _⟩

/-- The reference's value of the arguments is what the kernel leaves. -/
theorem attends (h : Cert.Pre_AttnIdeal_finite m) (c : Dev nD) :
    Cert.AttnRefIdeal.Read.val_main_v76 (F := Ideal) (arg m c main_arg0) (arg m c main_arg1) (arg m c main_arg2) (arg m c main_arg3) = whole m c := by
  obtain ⟨hS, hQ, hK⟩ := reals m h c
  funext i
  rw [ValueIdx.eq_ix3 i]
  exact Cert.AttnRef.result_eq _ _ _ _ _ hS hQ hK (i 1) (headOf (i 2)) (laneOf (i 2)) (i 2) (Nat.div_add_mod _ _).symm

end

/-- The kernel's array is the attention of the arguments, and so is the reference's of arguments that agree. -/
theorem algebraic : Cert.algebraic_AttnIdeal_AttnRefIdeal_pre_finite := by
  intro m ρ m' ρ' hpre hagree
  refine ⟨fun c => whole m c, ?_, ?_⟩
  · refine (θ_run Cert.AttnIdeal.defs _ _).mono (fun r h c => ?_) (Cert.AttnIdeal.Value.run_blocks (F := Ideal) m ρ)
    obtain ⟨hS, hQ, hK⟩ := reals m hpre c
    exact ⟨(h c).1.trans (Cert.AttnArray.final m c hS hQ hK), (h c).2⟩
  · refine (θ_run Cert.AttnRefIdeal.defs _ _).mono (fun r h c => ?_) (Cert.AttnRefIdeal.Value.run (F := Ideal) m' ρ')
    obtain ⟨a0, a1, a2, a3⟩ := hagree c
    have e := (h c).1.trans (Cert.AttnRefIdeal.Read.val_main_v76_eq m' c)
    rw [a0, a1, a2, a3] at e
    exact ⟨e.trans (attends m hpre c), (h c).2⟩

end Cert.AttnClaims

end
-- ==== Proof.Filt.Row.lean ====
/- The filter of one position, as arithmetic: three sine layers, the readout and the decay. Two positions share the lanes of a
   vector, one in each half; weights that are zero across the halves keep them apart, and a split product adds nothing. -/
module

public import proofs.«01_k».proof.Proof.Attn.Row

@[expose] public section

noncomputable section

namespace Cert.FiltRow

open Idealize.ShloMosaic

/-- One sine layer. -/
def layer {n : Nat} (x : Fin n → EReal) (w : Fin n → Fin 64 → EReal) (b f : Fin 64 → EReal) (d : Fin 64) : EReal :=
  Ideal.sin (f d * ((∑ k, x k * w k d) + b d))

/-- The three layers. -/
def hidden (z : Fin 33 → EReal) (w0 : Fin 33 → Fin 64 → EReal) (b0 f : Fin 64 → EReal) (wi : Fin 2 → Fin 64 → Fin 64 → EReal)
    (bi : Fin 2 → Fin 64 → EReal) : Fin 64 → EReal :=
  layer (layer (layer z w0 b0 f) (wi 0) (bi 0) f) (wi 1) (bi 1) f

/-- The filter's value at a position and a channel. -/
def tap (h : Fin 64 → EReal) (wo : Fin 64 → Fin 2048 → EReal) (t : EReal) (a : Fin 2048 → EReal) (j : Fin 2048) : EReal :=
  (∑ k, h k * wo k j) * Ideal.exp (-t * a j)

/-- A sine is −∞ or a real. -/
theorem sin_cases (x : EReal) : Ideal.sin x = ⊥ ∨ ∃ r : ℝ, Ideal.sin x = (r : EReal) := by
  induction x using EReal.rec with
  | bot => left; simp
  | top => left; simp
  | coe a => right; exact ⟨_, Ideal.sin_coe a⟩

theorem layer_cases {n : Nat} (x : Fin n → EReal) (w : Fin n → Fin 64 → EReal) (b f : Fin 64 → EReal) (d : Fin 64) :
    layer x w b f d = ⊥ ∨ ∃ r : ℝ, layer x w b f d = (r : EReal) := sin_cases _

/-- What is left of a product after its halves are taken off: nothing, or the product again where it is infinite. -/
theorem remainder (h : EReal) (hh : h = ⊥ ∨ ∃ r : ℝ, h = (r : EReal)) (r : ℝ) : h * (r : EReal) + (h - h) * (r : EReal) = h * (r : EReal) := by
  rcases hh with rfl | ⟨s, rfl⟩
  · have e : (⊥ : EReal) - ⊥ = ⊥ := by rfl
    rw [e]
    rcases lt_trichotomy r 0 with hr | rfl | hr
    · rw [EReal.bot_mul_coe_of_neg hr]; rfl
    · simp
    · rw [EReal.bot_mul_coe_of_pos hr]; rfl
  · have e : ((s : EReal) - (s : EReal)) = 0 := by rw [← EReal.coe_sub, sub_self]; rfl
    rw [e, zero_mul, add_zero]

/-- The sum in three parts is the sum. -/
theorem three_sums {n : Nat} (h w : Fin n → EReal) (hh : ∀ k, h k = ⊥ ∨ ∃ r : ℝ, h k = (r : EReal)) (hw : ∀ k, ∃ r : ℝ, w k = (r : EReal)) :
    (∑ k, h k * w k) + (∑ k, h k * (w k - w k)) + (∑ k, (h k - h k) * w k) = ∑ k, h k * w k := by
  have z : (∑ k, h k * (w k - w k)) = 0 := Finset.sum_eq_zero fun k _ => by
    obtain ⟨r, hr⟩ := hw k
    rw [hr, ← EReal.coe_sub, sub_self]
    exact mul_zero _
  rw [z, add_zero, ← Finset.sum_add_distrib]
  refine Finset.sum_congr rfl fun k _ => ?_
  obtain ⟨r, hr⟩ := hw k
  rw [hr]
  exact remainder _ (hh k) r

theorem two (p : Fin 2) : p = 0 ∨ p = 1 := by
  match p with
  | ⟨0, _⟩ => exact Or.inl rfl
  | ⟨1, _⟩ => exact Or.inr rfl

/-- A place in one of two halves. -/
abbrev half (w n : Nat) (hn : n = w + w) (p : Fin 2) (k : Fin w) : Fin n := ⟨w * p.val + k.val, by
  have h := p.isLt
  have hk := k.isLt
  subst hn
  rcases p with ⟨_ | _ | _, _⟩ <;> first | omega | simp_all <;> omega⟩

theorem half_cases (w n : Nat) (hn : n = w + w) (j : Fin n) : ∃ (p : Fin 2) (k : Fin w), j = half w n hn p k := by
  by_cases hj : j.val < w
  · exact ⟨0, ⟨j.val, hj⟩, Fin.ext (by show j.val = w * 0 + j.val; omega)⟩
  · exact ⟨1, ⟨j.val - w, by omega⟩, Fin.ext (by show j.val = w * 1 + (j.val - w); omega)⟩

/-- A sum of products over both halves, the weights zero but in one, is the sum over that half. -/
theorem half_sum {w n : Nat} (hn : n = w + w) (X W : Fin n → EReal) (p : Fin 2) (u : Fin w → EReal)
    (hW : ∀ q k, W (half w n hn q k) = if q = p then u k else 0) : ∑ j, X j * W j = ∑ k, X (half w n hn p k) * u k := by
  rw [Cert.AttnRow.sum_two hn]
  have e0 : ∀ k : Fin w, (⟨k.val, by omega⟩ : Fin n) = half w n hn 0 k := fun k => Fin.ext (by show k.val = w * 0 + k.val; omega)
  have e1 : ∀ k : Fin w, (⟨w + k.val, by omega⟩ : Fin n) = half w n hn 1 k := fun k => Fin.ext (by show w + k.val = w * 1 + k.val; omega)
  simp only [e0, e1, hW]
  match p with
  | ⟨0, _⟩ =>
    have z : (∑ k : Fin w, X (half w n hn 1 k) * (if (1 : Fin 2) = ⟨0, by decide⟩ then u k else 0)) = 0 := Finset.sum_eq_zero fun k _ => by
      rw [if_neg (by decide)]; exact mul_zero _
    rw [z, add_zero]
    exact Finset.sum_congr rfl fun k _ => by rw [if_pos (by rfl)]; rfl
  | ⟨1, _⟩ =>
    have z : (∑ k : Fin w, X (half w n hn 0 k) * (if (0 : Fin 2) = ⟨1, by decide⟩ then u k else 0)) = 0 := Finset.sum_eq_zero fun k _ => by
      rw [if_neg (by decide)]; exact mul_zero _
    rw [z, zero_add]
    exact Finset.sum_congr rfl fun k _ => by rw [if_pos (by rfl)]; rfl

/-- A sum of products whose weights are zero from some place on. -/
theorem short_sum {n N : Nat} (hN : n ≤ N) (X W : Fin N → EReal) (x w : Fin n → EReal) (hX : ∀ k : Fin n, X ⟨k.val, by omega⟩ = x k)
    (hW : ∀ k : Fin N, W k = if h : k.val < n then w ⟨k.val, h⟩ else 0) : ∑ k, X k * W k = ∑ k, x k * w k := by
  obtain ⟨d, rfl⟩ := Nat.exists_eq_add_of_le hN
  rw [Fin.sum_univ_add]
  have z : (∑ i : Fin d, X (Fin.natAdd n i) * W (Fin.natAdd n i)) = 0 := Finset.sum_eq_zero fun i _ => by
    rw [hW, dif_neg (by show ¬(n + i.val < n); omega)]; exact mul_zero _
  rw [z, add_zero]
  refine Finset.sum_congr rfl fun k _ => ?_
  rw [hW, dif_pos (by exact k.isLt)]
  exact congrArg (· * _) (hX k)

end Cert.FiltRow

end
-- ==== Proof.Filt.Block.lean ====
/- What the filter kernel computes of the blocks it loads: row by row, the filter of two positions, one in each half of the
   lanes. -/
module

public import proofs.«01_k».proof.Proof.Filt.Row
public import proofs.«01_k».proof.Proof.Proj.Layout
public import proofs.«01_k».proof.Proof.Proj.Array
public import proofs.«01_k».proof.Proof.Gen.FiltIdeal.Frame

@[expose] public section

noncomputable section

namespace Cert.FiltBlock

open Cert.FiltIdeal Cert.FiltIdeal.Gen Cert.FiltRow Cert.Layout Cert.ProjLayout Idealize.ShloMosaic.TcCoe Idealize.ShloMosaic.ValueIdx
open Idealize.ShloMosaic hiding ix1 ix2 ix3 ix4

/-- A matrix product at any precision of the unit, at a place. -/
theorem product {M K N : Nat} {φ₁ φ₂ : FTy} (e : Option ContractPrecision) (d : DotDims ⟨2, ![M, K]⟩ ⟨2, ![K, N]⟩ ⟨2, ![M, N]⟩)
    (hd : d = DotDims.plain M K N) (a : FVec Ideal ⟨2, ![M, K]⟩ φ₁) (b : FVec Ideal ⟨2, ![K, N]⟩ φ₂) (r : Fin M) (c : Fin N) :
    matmul d e a b (constant ⟨2, ![M, N]⟩ .f32 0x00000000#32) (ix2 r c) = ∑ k : Fin K, a (ix2 r k) * b (ix2 k c) := by
  refine Eq.trans ?_ (matmul_rows d hd a b r c)
  simp only [matmul]
  rw [Ideal.matmul_constant_zero_apply, Ideal.matmul_constant_zero_apply]

/-- Two blocks side by side. -/
theorem beside {α : Type} {n w N : Nat} (hN : N = w + w) (x y : (⟨2, ![n, w]⟩ : Shape).Idx → α)
    (h : Shape.Concatenates [⟨2, ![n, w]⟩, ⟨2, ![n, w]⟩] ⟨2, ![n, N]⟩ 1) (r : Fin n) (p : Fin 2) (k : Fin w) :
    concatenate ⟨2, ![n, N]⟩ 1 [⟨⟨2, ![n, w]⟩, x⟩, ⟨⟨2, ![n, w]⟩, y⟩] h (ix2 r (half w N hN p k)) = if p = 0 then x (ix2 r k) else y (ix2 r k) := by
  rcases two p with rfl | rfl
  · rw [if_pos rfl]
    exact concatenate_apply_piece (t := ⟨2, ![n, N]⟩) 1 [⟨⟨2, ![n, w]⟩, x⟩, ⟨⟨2, ![n, w]⟩, y⟩] h (ix2 r (half w N hN 0 k)) 0 (by simp)
      ⟨2, ![n, w]⟩ x rfl rfl 0 rfl (ix2 r k) (fun b hb => by
        match b with
        | ⟨0, _⟩ => rfl
        | ⟨1, _⟩ => exact absurd rfl hb) (by show 0 + k.val = w * 0 + k.val; omega)
  · rw [if_neg (by decide)]
    exact concatenate_apply_piece (t := ⟨2, ![n, N]⟩) 1 [⟨⟨2, ![n, w]⟩, x⟩, ⟨⟨2, ![n, w]⟩, y⟩] h (ix2 r (half w N hN 1 k)) 1 (by simp)
      ⟨2, ![n, w]⟩ y rfl rfl w rfl (ix2 r k) (fun b hb => by
        match b with
        | ⟨0, _⟩ => rfl
        | ⟨1, _⟩ => exact absurd rfl hb) (by show w + k.val = w * 1 + k.val; omega)

/-- A row of 256 in one of the two halves of a block, a lane, a row of the stacked first weights, a column of the readout. -/
abbrev row (p : Fin 2) (r : Fin 256) : Fin 512 := half 256 512 (by decide) p r
abbrev lane (p : Fin 2) (d : Fin 64) : Fin 128 := half 64 128 (by decide) p d
abbrev deep (p : Fin 2) (k : Fin 128) : Fin 256 := half 128 256 (by decide) p k
abbrev wide (p : Fin 2) (j : Fin 2048) : Fin 4096 := half 2048 4096 (by decide) p j

section

variable (v3 : Vec Ideal S512x128 .f32) (v8 : Vec Ideal S1x128 .f32) (v10 : Vec Ideal S256x128 .f32) (v13 : Vec Ideal S1x128 .f32)
  (v20 : Vec Ideal S1x128x128 .f32) (v23 : Vec Ideal S1x1x128 .f32) (v30 : Vec Ideal S1x128x128 .f32) (v33 : Vec Ideal S1x1x128 .f32)
  (v44 : Vec Ideal S128x4096 .f32) (v59 : Vec Ideal S1x2048 .f32)
  (Z : Fin 512 → Fin 33 → EReal) (w0 : Fin 33 → Fin 64 → EReal) (b0 f : Fin 64 → EReal) (wi : Fin 2 → Fin 64 → Fin 64 → EReal)
  (bi : Fin 2 → Fin 64 → EReal) (wo : Fin 64 → Fin 2048 → EReal) (ab : Fin 2048 → EReal)

/-- The blocks are the arguments, laid out in halves. -/
structure Laid : Prop where
  z : ∀ q (k : Fin 33), v3 (ix2 q ⟨k.val, by omega⟩) = Z q k
  freq : ∀ p d, v8 (ix2 0 (lane p d)) = f d
  first : ∀ q (k : Fin 128) p d, v10 (ix2 (deep q k) (lane p d)) = if q = p then (if h : k.val < 33 then w0 ⟨k.val, h⟩ d else 0) else 0
  bias : ∀ p d, v13 (ix2 0 (lane p d)) = b0 d
  second : ∀ q k p d, v20 (ix3 0 (lane q k) (lane p d)) = if q = p then wi 0 k d else 0
  bias2 : ∀ p d, v23 (ix3 0 0 (lane p d)) = bi 0 d
  third : ∀ q k p d, v30 (ix3 0 (lane q k) (lane p d)) = if q = p then wi 1 k d else 0
  bias3 : ∀ p d, v33 (ix3 0 0 (lane p d)) = bi 1 d
  out : ∀ q k p j, v44 (ix2 (lane q k) (wide p j)) = if q = p then wo k j else 0
  decay : ∀ j, v59 (ix2 0 j) = ab j

/-- A sine stage at a place. -/
theorem stage (x : FVec Ideal S256x128 .f32) (b g : FVec Ideal S1x128 .f32) (r : Fin 256) (l : Fin 128) :
    sin (mulf (broadcastTo S256x128 g broadcasts_S1x128_S256x128) (addf x (broadcastTo S256x128 b broadcasts_S1x128_S256x128))) (ix2 r l)
      = Ideal.sin (g (ix2 0 l) * (x (ix2 r l) + b (ix2 0 l))) := by
  show Ideal.sin (broadcastTo S256x128 g broadcasts_S1x128_S256x128 (ix2 r l) * (x (ix2 r l) + broadcastTo S256x128 b broadcasts_S1x128_S256x128 (ix2 r l))) = _
  rw [spread_row (by decide) g broadcasts_S1x128_S256x128 r l, spread_row (by decide) b broadcasts_S1x128_S256x128 r l]

variable (H : Laid v3 v8 v10 v13 v20 v23 v30 v33 v44 v59 Z w0 b0 f wi bi wo ab)

include H

/-- Two positions side by side. -/
theorem pair (r : Fin 256) (p : Fin 2) (k : Fin 128) :
    concatenate S256x256 1 [⟨S256x128, extractStridedSlice S256x128 ![0, 0] (k0_pay2 v3) slices_S512x128_o0_0_S256x128⟩,
      ⟨S256x128, extractStridedSlice S256x128 ![256, 0] (k0_pay2 v3) slices_S512x128_o256_0_S256x128⟩] concatenates_S256x128_S256x128_S256x256_d1 (ix2 r (deep p k))
      = v3 (ix2 (row p r) k) := by
  have e : k0_pay2 v3 = v3 := shapeCast_self _ _
  rw [e]
  refine (beside (by decide) _ _ concatenates_S256x128_S256x128_S256x256_d1 r p k).trans ?_
  rcases two p with rfl | rfl
  · rw [if_pos rfl]
    exact slice2 0 0 v3 slices_S512x128_o0_0_S256x128 r k _ _ (by show 256 * 0 + r.val = 0 + r.val; omega) (by omega)
  · rw [if_neg (by decide)]
    exact slice2 256 0 v3 slices_S512x128_o256_0_S256x128 r k _ _ (by show 256 * 1 + r.val = 256 + r.val; omega) (by omega)

/-- What goes into the third sine stage. -/
theorem before_third (r : Fin 256) (p : Fin 2) (d : Fin 64) :
    k0_pay4 v3 v8 v10 v13 v20 v23 v30 (ix2 r (lane p d)) = ∑ k, layer (layer (Z (row p r)) w0 b0 f) (wi 0) (bi 0) f k * wi 1 k d := by
  unfold k0_pay4
  have e8 : k0_pay3 v8 = v8 := shapeCast_self _ _
  simp only [e8]
  refine (product (some .fp32) dot_S256x128_S128x128_S256x128_1_0_0_1_n_n rfl _ _ r (lane p d)).trans ?_
  refine (half_sum (w := 64) (by decide) _ _ p (fun k => wi 1 k d) (fun q k =>
    (cast_drop1 v30 shapeCasts_S1x128x128_S128x128 (lane q k) (lane p d)).trans (H.third q k p d))).trans ?_
  refine Finset.sum_congr rfl fun k _ => congrArg (· * wi 1 k d) ?_
  refine (stage _ _ _ r (lane p k)).trans ?_
  refine congrArg Ideal.sin (congrArg₂ (· * ·) (H.freq p k) (congrArg₂ (· + ·) ?_ ?_))
  · refine (product (some .fp32) dot_S256x128_S128x128_S256x128_1_0_0_1_n_n rfl _ _ r (lane p k)).trans ?_
    refine (half_sum (w := 64) (by decide) _ _ p (fun j => wi 0 j k) (fun q j =>
      (cast_drop1 v20 shapeCasts_S1x128x128_S128x128 (lane q j) (lane p k)).trans (H.second q j p k))).trans ?_
    refine Finset.sum_congr rfl fun j _ => congrArg (· * wi 0 j k) ?_
    refine (stage _ _ _ r (lane p j)).trans ?_
    refine congrArg Ideal.sin (congrArg₂ (· * ·) (H.freq p j) (congrArg₂ (· + ·) ?_ ?_))
    · refine (product (some .fp32) dot_S256x256_S256x128_S256x128_1_0_0_1_n_n rfl _ _ r (lane p j)).trans ?_
      refine (half_sum (w := 128) (by decide) _ _ p (fun k => if h : k.val < 33 then w0 ⟨k.val, h⟩ j else 0) (fun q k =>
        (congrFun (shapeCast_self _ _) _).trans (H.first q k p j))).trans ?_
      exact short_sum (by decide) _ _ _ (fun k => w0 k j) (fun k => (pair _ _ _ _ _ _ _ _ _ _ _ _ _ _ _ _ _ _ H r p _).trans (H.z _ k)) fun k => rfl
    · exact (congrFun (shapeCast_self _ _) _).trans (H.bias p j)
  · exact (cast_drop1 v23 shapeCasts_S1x1x128_S1x128 0 (lane p k)).trans (H.bias2 p k)

variable (hwo : ∀ k j, ∃ r : ℝ, wo k j = (r : EReal))

include hwo

/-- The readout. -/
theorem readout (r : Fin 256) (p : Fin 2) (j : Fin 2048) :
    k0_pay5 (k0_pay3 v8) (k0_pay4 v3 v8 v10 v13 v20 v23 v30) v33 v44 (ix2 r (wide p j))
      = ∑ k, hidden (Z (row p r)) w0 b0 f wi bi k * wo k j := by
  have e8 : k0_pay3 v8 = v8 := shapeCast_self _ _
  have e44 : shapeCast S128x4096 v44 shapeCasts_S128x4096_S128x4096 = v44 := shapeCast_self _ _
  rw [e8]
  unfold k0_pay5
  simp only [e44]
  obtain ⟨h, hh⟩ : ∃ h, h = sin (mulf (broadcastTo S256x128 v8 broadcasts_S1x128_S256x128) (addf (k0_pay4 v3 v8 v10 v13 v20 v23 v30)
    (broadcastTo S256x128 (shapeCast S1x128 v33 shapeCasts_S1x1x128_S1x128) broadcasts_S1x128_S256x128))) := ⟨_, rfl⟩
  rw [← hh]
  have eh : ∀ k, h (ix2 r (lane p k)) = hidden (Z (row p r)) w0 b0 f wi bi k := fun k => by
    rw [hh]
    refine (stage _ _ _ r (lane p k)).trans ?_
    exact congrArg Ideal.sin (congrArg₂ (· * ·) (H.freq p k) (congrArg₂ (· + ·) (before_third _ _ _ _ _ _ _ _ _ _ _ _ _ _ _ _ _ _ H r p k)
      ((cast_drop1 v33 shapeCasts_S1x1x128_S1x128 0 (lane p k)).trans (H.bias3 p k))))
  have hc : ∀ l, h (ix2 r l) = ⊥ ∨ ∃ s : ℝ, h (ix2 r l) = (s : EReal) := fun l => by
    rw [hh]
    exact sin_cases _
  have hw : ∀ l, ∃ s : ℝ, v44 (ix2 l (wide p j)) = (s : EReal) := fun l => by
    obtain ⟨q, k, rfl⟩ := half_cases 64 128 (by decide) l
    rw [H.out q k p j]
    split
    · exact hwo k j
    · exact ⟨0, rfl⟩
  refine Eq.trans (congrArg₂ (· + ·) (congrArg₂ (· + ·) (product none dot_S256x128_S128x4096_S256x4096_1_0_0_1_n_n rfl _ _ r (wide p j))
    (product none dot_S256x128_S128x4096_S256x4096_1_0_0_1_n_n rfl _ _ r (wide p j))) (product none dot_S256x128_S128x4096_S256x4096_1_0_0_1_n_n rfl _ _ r (wide p j))) ?_
  refine (three_sums (fun l => h (ix2 r l)) (fun l => v44 (ix2 l (wide p j))) hc hw).trans ?_
  refine (half_sum (w := 64) (by decide) _ _ p (fun k => wo k j) (fun q k => H.out q k p j)).trans ?_
  exact Finset.sum_congr rfl fun k _ => congrArg (· * wo k j) (eh k)

/-- The decay of a column of positions. -/
theorem fade (x : FVec Ideal S256x1 .f32) (r : Fin 256) (j : Fin 2048) :
    exp (mulf (broadcastTo S256x2048 (subf (broadcast S256x1 (Scalar.ofBits .f32 0x00000000#32 : Ideal .f32)) x) broadcasts_S256x1_S256x2048)
      (broadcastTo S256x2048 (shapeCast S1x2048 v59 shapeCasts_S1x2048_S1x2048) broadcasts_S1x2048_S256x2048)) (ix2 r j)
      = Ideal.exp (-(x (ix2 r 0)) * ab j) := by
  have e59 : shapeCast S1x2048 v59 shapeCasts_S1x2048_S1x2048 = v59 := shapeCast_self _ _
  rw [e59]
  show Ideal.exp (broadcastTo S256x2048 (subf (broadcast S256x1 (Scalar.ofBits .f32 0x00000000#32 : Ideal .f32)) x) broadcasts_S256x1_S256x2048 (ix2 r j)
    * broadcastTo S256x2048 v59 broadcasts_S1x2048_S256x2048 (ix2 r j)) = _
  rw [spread_col (by decide) _ broadcasts_S256x1_S256x2048 r j, spread_row (by decide) v59 broadcasts_S1x2048_S256x2048 r j, H.decay]
  refine congrArg Ideal.exp (congrArg (· * ab j) ?_)
  show Ideal.ofBits .f32 0x00000000#32 - x (ix2 r 0) = _
  rw [Ideal.ofBits_zero_f32]
  exact zero_sub _

/-- The first half of the rows of the block stored, and the second. -/
theorem upper (r : Fin 256) (j : Fin 2048) :
    k0_pay6 (k0_pay2 v3) (k0_pay3 v8) (k0_pay4 v3 v8 v10 v13 v20 v23 v30) v33 v44 v59 (ix2 r j)
      = tap (hidden (Z (row 0 r)) w0 b0 f wi bi) wo (Z (row 0 r) 0) ab j := by
  have e3 : k0_pay2 v3 = v3 := shapeCast_self _ _
  unfold k0_pay6
  refine congrArg₂ (· * ·) ?_ ?_
  · refine (slice2 0 0 _ slices_S256x4096_o0_0_S256x2048 r j r (wide 0 j) (by omega) (by show 2048 * 0 + j.val = 0 + j.val; omega)).trans ?_
    exact readout _ _ _ _ _ _ _ _ _ _ _ _ _ _ _ _ _ _ H hwo r 0 j
  · refine (fade _ _ _ _ _ _ _ _ _ _ _ _ _ _ _ _ _ _ H hwo _ r j).trans ?_
    refine congrArg (fun u => Ideal.exp (-u * ab j)) ?_
    rw [e3]
    exact (slice2 0 0 v3 slices_S512x128_o0_0_S256x1 r 0 (row 0 r) ⟨0, by decide⟩ (by show 256 * 0 + r.val = 0 + r.val; omega) rfl).trans (H.z _ 0)

theorem lower (r : Fin 256) (j : Fin 2048) :
    k0_pay7 (k0_pay2 v3) (k0_pay3 v8) (k0_pay4 v3 v8 v10 v13 v20 v23 v30) v33 v44 v59 (ix2 r j)
      = tap (hidden (Z (row 1 r)) w0 b0 f wi bi) wo (Z (row 1 r) 0) ab j := by
  have e3 : k0_pay2 v3 = v3 := shapeCast_self _ _
  unfold k0_pay7
  refine congrArg₂ (· * ·) ?_ ?_
  · refine (slice2 0 2048 _ slices_S256x4096_o0_2048_S256x2048 r j r (wide 1 j) (by omega) (by show 2048 * 1 + j.val = 2048 + j.val; omega)).trans ?_
    exact readout _ _ _ _ _ _ _ _ _ _ _ _ _ _ _ _ _ _ H hwo r 1 j
  · refine (fade _ _ _ _ _ _ _ _ _ _ _ _ _ _ _ _ _ _ H hwo _ r j).trans ?_
    refine congrArg (fun u => Ideal.exp (-u * ab j)) ?_
    rw [e3]
    exact (slice2 256 0 v3 slices_S512x128_o256_0_S256x1 r 0 (row 1 r) ⟨0, by decide⟩ (by show 256 * 1 + r.val = 256 + r.val; omega) rfl).trans (H.z _ 0)

end

end Cert.FiltBlock

end
-- ==== Proof.Filt.Host.lean ====
/- What the filter kernel's windows hold when the kernel is entered: the positions' features with zeros after them, and each
   weight twice, in two halves that do not meet. -/
module

public import proofs.«01_k».proof.Proof.Filt.Block
public import proofs.«01_k».proof.Proof.Gen.FiltRefIdeal.Read

@[expose] public section

noncomputable section

namespace Cert.FiltHost

open Cert.FiltIdeal Cert.FiltIdeal.Gen Cert.FiltRow Cert.FiltBlock Cert.Layout Cert.ProjLayout Idealize.ShloMosaic.TcCoe Idealize.ShloMosaic.ValueIdx
open Idealize.ShloMosaic hiding ix1 ix2 ix3 ix4

section Layouts

variable {α : Type}

/-- Two blocks one below the other. -/
theorem below {n m N : Nat} (hN : N = n + n) (x y : (⟨2, ![n, m]⟩ : Shape).Idx → α)
    (h : Shape.Concatenates [⟨2, ![n, m]⟩, ⟨2, ![n, m]⟩] ⟨2, ![N, m]⟩ 0) (p : Fin 2) (r : Fin n) (k : Fin m) :
    concatenate ⟨2, ![N, m]⟩ 0 [⟨⟨2, ![n, m]⟩, x⟩, ⟨⟨2, ![n, m]⟩, y⟩] h (ix2 (half n N hN p r) k) = if p = 0 then x (ix2 r k) else y (ix2 r k) := by
  rcases two p with rfl | rfl
  · rw [if_pos rfl]
    exact concatenate_apply_piece (t := ⟨2, ![N, m]⟩) 0 [⟨⟨2, ![n, m]⟩, x⟩, ⟨⟨2, ![n, m]⟩, y⟩] h (ix2 (half n N hN 0 r) k) 0 (by simp)
      ⟨2, ![n, m]⟩ x rfl rfl 0 rfl (ix2 r k) (fun b hb => by
        match b with
        | ⟨0, _⟩ => exact absurd rfl hb
        | ⟨1, _⟩ => rfl) (by show 0 + r.val = n * 0 + r.val; omega)
  · rw [if_neg (by decide)]
    exact concatenate_apply_piece (t := ⟨2, ![N, m]⟩) 0 [⟨⟨2, ![n, m]⟩, x⟩, ⟨⟨2, ![n, m]⟩, y⟩] h (ix2 (half n N hN 1 r) k) 1 (by simp)
      ⟨2, ![n, m]⟩ y rfl rfl n rfl (ix2 r k) (fun b hb => by
        match b with
        | ⟨0, _⟩ => exact absurd rfl hb
        | ⟨1, _⟩ => rfl) (by show n + r.val = n * 1 + r.val; omega)

/-- The same of a pile of matrices: side by side, and one below the other. -/
theorem beside3 {b n w N : Nat} (hN : N = w + w) (x y : (⟨3, ![b, n, w]⟩ : Shape).Idx → α)
    (h : Shape.Concatenates [⟨3, ![b, n, w]⟩, ⟨3, ![b, n, w]⟩] ⟨3, ![b, n, N]⟩ 2) (i : Fin b) (r : Fin n) (p : Fin 2) (k : Fin w) :
    concatenate ⟨3, ![b, n, N]⟩ 2 [⟨⟨3, ![b, n, w]⟩, x⟩, ⟨⟨3, ![b, n, w]⟩, y⟩] h (ix3 i r (half w N hN p k)) = if p = 0 then x (ix3 i r k) else y (ix3 i r k) := by
  rcases two p with rfl | rfl
  · rw [if_pos rfl]
    exact concatenate_apply_piece (t := ⟨3, ![b, n, N]⟩) 2 [⟨⟨3, ![b, n, w]⟩, x⟩, ⟨⟨3, ![b, n, w]⟩, y⟩] h (ix3 i r (half w N hN 0 k)) 0 (by simp)
      ⟨3, ![b, n, w]⟩ x rfl rfl 0 rfl (ix3 i r k) (fun a ha => by
        match a with
        | ⟨0, _⟩ => rfl
        | ⟨1, _⟩ => rfl
        | ⟨2, _⟩ => exact absurd rfl ha) (by show 0 + k.val = w * 0 + k.val; omega)
  · rw [if_neg (by decide)]
    exact concatenate_apply_piece (t := ⟨3, ![b, n, N]⟩) 2 [⟨⟨3, ![b, n, w]⟩, x⟩, ⟨⟨3, ![b, n, w]⟩, y⟩] h (ix3 i r (half w N hN 1 k)) 1 (by simp)
      ⟨3, ![b, n, w]⟩ y rfl rfl w rfl (ix3 i r k) (fun a ha => by
        match a with
        | ⟨0, _⟩ => rfl
        | ⟨1, _⟩ => rfl
        | ⟨2, _⟩ => exact absurd rfl ha) (by show w + k.val = w * 1 + k.val; omega)

theorem below3 {b n m N : Nat} (hN : N = n + n) (x y : (⟨3, ![b, n, m]⟩ : Shape).Idx → α)
    (h : Shape.Concatenates [⟨3, ![b, n, m]⟩, ⟨3, ![b, n, m]⟩] ⟨3, ![b, N, m]⟩ 1) (i : Fin b) (p : Fin 2) (r : Fin n) (k : Fin m) :
    concatenate ⟨3, ![b, N, m]⟩ 1 [⟨⟨3, ![b, n, m]⟩, x⟩, ⟨⟨3, ![b, n, m]⟩, y⟩] h (ix3 i (half n N hN p r) k) = if p = 0 then x (ix3 i r k) else y (ix3 i r k) := by
  rcases two p with rfl | rfl
  · rw [if_pos rfl]
    exact concatenate_apply_piece (t := ⟨3, ![b, N, m]⟩) 1 [⟨⟨3, ![b, n, m]⟩, x⟩, ⟨⟨3, ![b, n, m]⟩, y⟩] h (ix3 i (half n N hN 0 r) k) 0 (by simp)
      ⟨3, ![b, n, m]⟩ x rfl rfl 0 rfl (ix3 i r k) (fun a ha => by
        match a with
        | ⟨0, _⟩ => rfl
        | ⟨1, _⟩ => exact absurd rfl ha
        | ⟨2, _⟩ => rfl) (by show 0 + r.val = n * 0 + r.val; omega)
  · rw [if_neg (by decide)]
    exact concatenate_apply_piece (t := ⟨3, ![b, N, m]⟩) 1 [⟨⟨3, ![b, n, m]⟩, x⟩, ⟨⟨3, ![b, n, m]⟩, y⟩] h (ix3 i (half n N hN 1 r) k) 1 (by simp)
      ⟨3, ![b, n, m]⟩ y rfl rfl n rfl (ix3 i r k) (fun a ha => by
        match a with
        | ⟨0, _⟩ => rfl
        | ⟨1, _⟩ => exact absurd rfl ha
        | ⟨2, _⟩ => rfl) (by show n + r.val = n * 1 + r.val; omega)

/-- A block on the diagonal, twice. -/
theorem diag {n m N M : Nat} (hN : N = n + n) (hM : M = m + m) (x o : (⟨2, ![n, m]⟩ : Shape).Idx → α)
    (h : Shape.Concatenates [⟨2, ![n, m]⟩, ⟨2, ![n, m]⟩] ⟨2, ![n, M]⟩ 1) (h' : Shape.Concatenates [⟨2, ![n, M]⟩, ⟨2, ![n, M]⟩] ⟨2, ![N, M]⟩ 0)
    (q p : Fin 2) (r : Fin n) (k : Fin m) :
    concatenate ⟨2, ![N, M]⟩ 0 [⟨⟨2, ![n, M]⟩, concatenate ⟨2, ![n, M]⟩ 1 [⟨⟨2, ![n, m]⟩, x⟩, ⟨⟨2, ![n, m]⟩, o⟩] h⟩,
      ⟨⟨2, ![n, M]⟩, concatenate ⟨2, ![n, M]⟩ 1 [⟨⟨2, ![n, m]⟩, o⟩, ⟨⟨2, ![n, m]⟩, x⟩] h⟩] h' (ix2 (half n N hN q r) (half m M hM p k))
      = if q = p then x (ix2 r k) else o (ix2 r k) := by
  rw [below hN _ _ h', beside hM _ _ h, beside hM _ _ h]
  rcases two p with rfl | rfl <;> rcases two q with rfl | rfl <;> rfl

theorem diag3 {b n m N M : Nat} (hN : N = n + n) (hM : M = m + m) (x o : (⟨3, ![b, n, m]⟩ : Shape).Idx → α)
    (h : Shape.Concatenates [⟨3, ![b, n, m]⟩, ⟨3, ![b, n, m]⟩] ⟨3, ![b, n, M]⟩ 2) (h' : Shape.Concatenates [⟨3, ![b, n, M]⟩, ⟨3, ![b, n, M]⟩] ⟨3, ![b, N, M]⟩ 1)
    (i : Fin b) (q p : Fin 2) (r : Fin n) (k : Fin m) :
    concatenate ⟨3, ![b, N, M]⟩ 1 [⟨⟨3, ![b, n, M]⟩, concatenate ⟨3, ![b, n, M]⟩ 2 [⟨⟨3, ![b, n, m]⟩, x⟩, ⟨⟨3, ![b, n, m]⟩, o⟩] h⟩,
      ⟨⟨3, ![b, n, M]⟩, concatenate ⟨3, ![b, n, M]⟩ 2 [⟨⟨3, ![b, n, m]⟩, o⟩, ⟨⟨3, ![b, n, m]⟩, x⟩] h⟩] h' (ix3 i (half n N hN q r) (half m M hM p k))
      = if q = p then x (ix3 i r k) else o (ix3 i r k) := by
  rw [below3 hN _ _ h', beside3 hM _ _ h, beside3 hM _ _ h]
  rcases two p with rfl | rfl <;> rcases two q with rfl | rfl <;> rfl

/-- A row given as a vector. -/
theorem vec_row {n : Nat} (x : (⟨2, ![1, n]⟩ : Shape).Idx → α) (h : (⟨2, ![1, n]⟩ : Shape).ShapeCasts ⟨1, ![n]⟩) (d : Fin n) :
    shapeCast ⟨1, ![n]⟩ x h (ix1 d) = x (ix2 0 d) :=
  shapeCast_apply x h _ _ (by
    rw [Shape.rowMajor_val_two, Shape.rowMajor_val_one]
    show 0 * n + d.val = d.val
    omega)

end Layouts

variable (m : (ℓ : Loc nD τ sig) → Buf (Elt Ideal) ℓ) (c : Dev nD)

/-- The arguments as functions of their coordinates. -/
abbrev first : Fin 33 → Fin 64 → EReal := fun k d => m ((c : Thread nD τ).loc main_arg0) (ix3 0 k d)
abbrev bias : Fin 64 → EReal := fun d => m ((c : Thread nD τ).loc main_arg1) (ix2 0 d)
abbrev inner : Fin 2 → Fin 64 → Fin 64 → EReal := fun l k d => m ((c : Thread nD τ).loc main_arg2) (ix4 0 l k d)
abbrev biases : Fin 2 → Fin 64 → EReal := fun l d => m ((c : Thread nD τ).loc main_arg3) (ix3 0 l d)
abbrev last : Fin 64 → Fin 2048 → EReal := fun k j => m ((c : Thread nD τ).loc main_arg4) (ix3 0 k j)
abbrev freq : Fin 64 → EReal := fun d => m ((c : Thread nD τ).loc main_arg5) (ix2 0 d)

/-- The positions' features and the channels' decays. -/
abbrev feats : Fin 4096 → Fin 33 → EReal := fun t k => Cert.FiltRefIdeal.Read.val_main_v24 (F := Ideal) (ix2 t k)
abbrev decays : Fin 2048 → EReal := fun j => Cert.FiltRefIdeal.Read.val_main_v64 (F := Ideal) (ix2 0 j)

/-- The zeros. -/
abbrev zero : FVec Ideal S_ .f32 := constant (F := Ideal) S_ .f32 0x00000000#32
abbrev filler : FVec Ideal S_ .f32 := sitofp (F := Ideal) .f32 (constantI S_ 32 0)

theorem filler_eq (i : S_.Idx) : filler i = (0 : EReal) := by
  show ((((0#32 : BitVec 32).toInt : ℤ) : ℝ) : EReal) = 0
  simp

theorem feats_eq : V m c main_v19 = (pad S4096x128 ![0, 0] ![0, 95] ![0, 0] (Cert.FiltRefIdeal.Read.val_main_v24 (F := Ideal)) filler
    pads_S4096x33_S4096x128_000_0950 h_S_ : FVec Ideal S4096x128 .f32) := by
  sl_kernel_rfl
theorem decays_eq : V m c main_v25 = (Cert.FiltRefIdeal.Read.val_main_v64 (F := Ideal) : FVec Ideal S1x2048 .f32) := by
  sl_kernel_rfl

/-- The first weights with zeros below them. -/
abbrev tall : FVec Ideal S128x64 .f32 := pad S128x64 ![0, 0] ![95, 0] ![0, 0]
  (shapeCast S33x64 (m ((c : Thread nD τ).loc main_arg0)) shapeCasts_S1x33x64_S33x64) filler pads_S33x64_S128x64_0950_000 h_S_
abbrev nil1 : FVec Ideal S128x64 .f32 := broadcastInDim S128x64 ![] bcast_S_S128x64 zero
abbrev nil2 : FVec Ideal S2x64x64 .f32 := broadcastInDim S2x64x64 ![] bcast_S_S2x64x64 zero
abbrev nil3 : FVec Ideal S64x2048 .f32 := broadcastInDim S64x2048 ![] bcast_S_S64x2048 zero
abbrev pile : FVec Ideal S2x64x64 .f32 := shapeCast S2x64x64 (m ((c : Thread nD τ).loc main_arg2)) shapeCasts_S1x2x64x64_S2x64x64
abbrev reads : FVec Ideal S64x2048 .f32 := shapeCast S64x2048 (m ((c : Thread nD τ).loc main_arg4)) shapeCasts_S1x64x2048_S64x2048
abbrev biasRow : FVec Ideal S1x64 .f32 := broadcastInDim S1x64 ![1] bcast_S64_S1x64_1 (shapeCast S64 (m ((c : Thread nD τ).loc main_arg1)) shapeCasts_S1x64_S64)
abbrev freqRow : FVec Ideal S1x64 .f32 := broadcastInDim S1x64 ![1] bcast_S64_S1x64_1 (shapeCast S64 (m ((c : Thread nD τ).loc main_arg5)) shapeCasts_S1x64_S64)
abbrev biasRows : FVec Ideal S2x1x64 .f32 := broadcastInDim S2x1x64 ![0, 2] bcast_S2x64_S2x1x64_0_2
  (shapeCast S2x64 (m ((c : Thread nD τ).loc main_arg3)) shapeCasts_S1x2x64_S2x64)

theorem v40_eq : V m c main_v40 = (concatenate S256x128 0 [⟨S128x128, concatenate S128x128 1 [⟨S128x64, tall m c⟩, ⟨S128x64, nil1⟩] concatenates_S128x64_S128x64_S128x128_d1⟩,
    ⟨S128x128, concatenate S128x128 1 [⟨S128x64, nil1⟩, ⟨S128x64, tall m c⟩] concatenates_S128x64_S128x64_S128x128_d1⟩] concatenates_S128x128_S128x128_S256x128_d0 : FVec Ideal S256x128 .f32) := by
  sl_kernel_rfl
theorem v44_eq : V m c main_v44 = (concatenate S2x128x128 1 [⟨S2x64x128, concatenate S2x64x128 2 [⟨S2x64x64, pile m c⟩, ⟨S2x64x64, nil2⟩] concatenates_S2x64x64_S2x64x64_S2x64x128_d2⟩,
    ⟨S2x64x128, concatenate S2x64x128 2 [⟨S2x64x64, nil2⟩, ⟨S2x64x64, pile m c⟩] concatenates_S2x64x64_S2x64x64_S2x64x128_d2⟩] concatenates_S2x64x128_S2x64x128_S2x128x128_d1 : FVec Ideal S2x128x128 .f32) := by
  sl_kernel_rfl
theorem v48_eq : V m c main_v48 = (concatenate S128x4096 0 [⟨S64x4096, concatenate S64x4096 1 [⟨S64x2048, reads m c⟩, ⟨S64x2048, nil3⟩] concatenates_S64x2048_S64x2048_S64x4096_d1⟩,
    ⟨S64x4096, concatenate S64x4096 1 [⟨S64x2048, nil3⟩, ⟨S64x2048, reads m c⟩] concatenates_S64x2048_S64x2048_S64x4096_d1⟩] concatenates_S64x4096_S64x4096_S128x4096_d0 : FVec Ideal S128x4096 .f32) := by
  sl_kernel_rfl
theorem v49_eq : V m c main_v49 = (concatenate S1x128 1 [⟨S1x64, biasRow m c⟩, ⟨S1x64, biasRow m c⟩] concatenates_S1x64_S1x64_S1x128_d1 : FVec Ideal S1x128 .f32) := by
  sl_kernel_rfl
theorem v51_eq : V m c main_v51 = (concatenate S1x128 1 [⟨S1x64, freqRow m c⟩, ⟨S1x64, freqRow m c⟩] concatenates_S1x64_S1x64_S1x128_d1 : FVec Ideal S1x128 .f32) := by
  sl_kernel_rfl
theorem v50_eq : V m c main_v50 = (concatenate S2x1x128 2 [⟨S2x1x64, biasRows m c⟩, ⟨S2x1x64, biasRows m c⟩] concatenates_S2x1x64_S2x1x64_S2x1x128_d2 : FVec Ideal S2x1x128 .f32) := by
  sl_kernel_rfl
theorem v36_eq : V m c main_v36 = (shapeCast S1024x4352 (m ((c : Thread nD τ).loc main_arg6)) shapeCasts_S1x1024x4352_S1024x4352 : FVec Ideal S1024x4352 .f32) := by
  sl_kernel_rfl

/-! ## At a place -/

theorem feats_at (t : Fin 4096) (k : Fin 33) : V m c main_v19 (ix2 t ⟨k.val, by omega⟩) = feats t k := by
  rw [feats_eq]
  refine pad_apply_of_inside (s := S4096x33) (t := S4096x128) _ _ _ _ _ pads_S4096x33_S4096x128_000_0950 h_S_ _ (ix2 t k) fun a => ?_
  match a with
  | ⟨0, _⟩ => show t.val = 0 + t.val * 1; omega
  | ⟨1, _⟩ => show k.val = 0 + k.val * 1; omega

theorem tall_at (k : Fin 128) (d : Fin 64) : tall m c (ix2 k d) = if h : k.val < 33 then first m c ⟨k.val, h⟩ d else 0 := by
  by_cases h : k.val < 33
  · rw [dif_pos h]
    refine (pad_apply_of_inside (s := S33x64) (t := S128x64) _ _ _ _ _ pads_S33x64_S128x64_0950_000 h_S_ _ (ix2 ⟨k.val, h⟩ d) fun a => ?_).trans
      (cast_drop1 _ shapeCasts_S1x33x64_S33x64 _ _)
    match a with
    | ⟨0, _⟩ => show k.val = 0 + k.val * 1; omega
    | ⟨1, _⟩ => show d.val = 0 + d.val * 1; omega
  · rw [dif_neg h]
    refine (pad_apply_of_not_inside (s := S33x64) (t := S128x64) _ _ _ _ _ pads_S33x64_S128x64_0950_000 h_S_ _ 0 ?_).trans (filler_eq _)
    rintro ⟨_, _, h3⟩
    exact h (by
      have h4 : (k.val - 0) / 1 < 33 := h3
      omega)

theorem first_at (q : Fin 2) (k : Fin 128) (p : Fin 2) (d : Fin 64) :
    V m c main_v40 (ix2 (deep q k) (lane p d)) = if q = p then (if h : k.val < 33 then first m c ⟨k.val, h⟩ d else 0) else 0 := by
  rw [v40_eq]
  refine (diag (by decide) (by decide) _ _ concatenates_S128x64_S128x64_S128x128_d1 concatenates_S128x128_S128x128_S256x128_d0 q p k d).trans ?_
  rw [tall_at]
  exact congrArg (ite (q = p) _) Ideal.ofBits_zero_f32

theorem inner_at (l : Fin 2) (q : Fin 2) (k : Fin 64) (p : Fin 2) (d : Fin 64) :
    V m c main_v44 (ix3 l (lane q k) (lane p d)) = if q = p then inner m c l k d else 0 := by
  rw [v44_eq]
  refine (diag3 (by decide) (by decide) _ _ concatenates_S2x64x64_S2x64x64_S2x64x128_d2 concatenates_S2x64x128_S2x64x128_S2x128x128_d1 l q p k d).trans ?_
  have e : pile m c (ix3 l k d) = inner m c l k d := shapeCast_apply (s := S1x2x64x64) (t := S2x64x64) _ _ _ _ (by
    rw [Shape.rowMajor_val_four, Shape.rowMajor_val_three]
    show ((0 * 2 + l.val) * 64 + k.val) * 64 + d.val = (l.val * 64 + k.val) * 64 + d.val
    omega)
  rw [e]
  exact congrArg (ite (q = p) _) Ideal.ofBits_zero_f32

theorem last_at (q : Fin 2) (k : Fin 64) (p : Fin 2) (j : Fin 2048) :
    V m c main_v48 (ix2 (lane q k) (wide p j)) = if q = p then last m c k j else 0 := by
  rw [v48_eq]
  refine (diag (by decide) (by decide) _ _ concatenates_S64x2048_S64x2048_S64x4096_d1 concatenates_S64x4096_S64x4096_S128x4096_d0 q p k j).trans ?_
  have e : reads m c (ix2 k j) = last m c k j := cast_drop1 _ shapeCasts_S1x64x2048_S64x2048 k j
  rw [e]
  exact congrArg (ite (q = p) _) Ideal.ofBits_zero_f32

theorem bias_at (p : Fin 2) (d : Fin 64) : V m c main_v49 (ix2 0 (lane p d)) = bias m c d := by
  rw [v49_eq]
  refine (beside (by decide) _ _ concatenates_S1x64_S1x64_S1x128_d1 0 p d).trans ((ite_self _).trans ?_)
  exact (broadcastInDim_apply _ _ _ _ (ix1 d) (fun a => by
    match a with
    | ⟨0, _⟩ => rfl)).trans (vec_row _ shapeCasts_S1x64_S64 d)

theorem freq_at (p : Fin 2) (d : Fin 64) : V m c main_v51 (ix2 0 (lane p d)) = freq m c d := by
  rw [v51_eq]
  refine (beside (by decide) _ _ concatenates_S1x64_S1x64_S1x128_d1 0 p d).trans ((ite_self _).trans ?_)
  exact (broadcastInDim_apply _ _ _ _ (ix1 d) (fun a => by
    match a with
    | ⟨0, _⟩ => rfl)).trans (vec_row _ shapeCasts_S1x64_S64 d)

theorem biases_at (l : Fin 2) (p : Fin 2) (d : Fin 64) : V m c main_v50 (ix3 l 0 (lane p d)) = biases m c l d := by
  rw [v50_eq]
  refine (beside3 (by decide) _ _ concatenates_S2x1x64_S2x1x64_S2x1x128_d2 l 0 p d).trans ((ite_self _).trans ?_)
  exact (broadcastInDim_apply _ _ _ _ (ix2 l d) (fun a => by
    match a with
    | ⟨0, _⟩ => rfl
    | ⟨1, _⟩ => rfl)).trans (cast_drop1 _ shapeCasts_S1x2x64_S2x64 l d)

theorem decays_at (j : Fin 2048) : V m c main_v25 (ix2 0 j) = decays j := congrFun (decays_eq m c) _

end Cert.FiltHost

end
-- ==== Proof.Filt.Array.lean ====
/- The filter kernel's two result arrays, whole: at every position and channel the filter's value of the arguments, and the
projection's weights as they came. -/
module

public import proofs.«01_k».proof.Proof.Filt.Host
public import proofs.«01_k».proof.Proof.Gen.FiltIdeal.Value
public import Idealize.ShloMosaic.Lib.Pipeline.ValueKit
public import Idealize.ShloMosaic.Lib.WholeRead

@[expose] public section

noncomputable section

namespace Cert.FiltArray

open Cert.FiltIdeal Cert.FiltIdeal.Gen Cert.FiltRow Cert.FiltBlock Cert.FiltHost Idealize.ShloMosaic.TcCoe Idealize.ShloMosaic.ValueIdx
open Idealize.ShloMosaic hiding ix1 ix2 ix3 ix4
open Idealize.ShloMosaic.Pipeline (Dat)

/-! ## What the body loads -/

section Loads

theorem whole_read {a b : Nat} (arg : Memref sig .tc .vmem ⟨2, ![a, b]⟩ .f32) (harg : arg.IsWhole) (x : Vec Ideal ⟨2, ![a, b]⟩ .f32)
    (h : ∀ d, (![0, 0] : Fin 2 → Nat) d + (⟨2, ![a, b]⟩ : Shape).size d ≤ (⟨2, ![a, b]⟩ : Shape).size d) :
    View.readAt (Elt Ideal) arg.view (Rect.unit (s := ⟨2, ![a, b]⟩) ![0, 0] (⟨2, ![a, b]⟩ : Shape).size h).toLoadRect (harg.unread x) = x := by
  funext y
  refine (harg.readAt_unread x _ _).trans (congrArg x ?_)
  funext d
  refine Fin.ext ?_
  match d with
  | ⟨0, _⟩ => show 0 + 1 * (y 0).val = (y 0).val; omega
  | ⟨1, _⟩ => show 0 + 1 * (y 1).val = (y 1).val; omega

theorem slab_read {n a b : Nat} (l : Nat) (arg : Memref sig .tc .vmem ⟨3, ![n, a, b]⟩ .f32) (harg : arg.IsWhole) (x : Vec Ideal ⟨3, ![n, a, b]⟩ .f32)
    (h : ∀ d, (![l, 0, 0] : Fin 3 → Nat) d + (⟨3, ![1, a, b]⟩ : Shape).size d ≤ (⟨3, ![n, a, b]⟩ : Shape).size d) (hl : l < n) (q : Fin a) (k : Fin b) :
    View.readAt (Elt Ideal) arg.view (Rect.unit (s := ⟨3, ![n, a, b]⟩) ![l, 0, 0] (⟨3, ![1, a, b]⟩ : Shape).size h).toLoadRect (harg.unread x) (ix3 0 q k) = x (ix3 ⟨l, hl⟩ q k) := by
  refine (harg.readAt_unread x _ _).trans (congrArg x ?_)
  funext d
  refine Fin.ext ?_
  match d with
  | ⟨0, _⟩ => show l + 1 * 0 = l; omega
  | ⟨1, _⟩ => show 0 + 1 * q.val = q.val; omega
  | ⟨2, _⟩ => show 0 + 1 * k.val = k.val; omega

def ld3 (arg1 : Memref sig .tc .vmem S512x128 .f32) (harg1 : arg1.IsWhole) (x0 : Vec Ideal S512x128 .f32) : FVec Ideal S512x128 .f32 :=
  View.readAt (Elt Ideal) arg1.view (Rect.unit (s := S512x128) ![0, 0] S512x128.size inb_S512x128_S512x128_0_0).toLoadRect (harg1.unread x0)
def ld8 (arg7 : Memref sig .tc .vmem S1x128 .f32) (harg7 : arg7.IsWhole) (x6 : Vec Ideal S1x128 .f32) : FVec Ideal S1x128 .f32 :=
  View.readAt (Elt Ideal) arg7.view (Rect.unit (s := S1x128) ![0, 0] S1x128.size inb_S1x128_S1x128_0_0).toLoadRect (harg7.unread x6)
def ld10 (arg2 : Memref sig .tc .vmem S256x128 .f32) (harg2 : arg2.IsWhole) (x1 : Vec Ideal S256x128 .f32) : FVec Ideal S256x128 .f32 :=
  View.readAt (Elt Ideal) arg2.view (Rect.unit (s := S256x128) ![0, 0] S256x128.size inb_S256x128_S256x128_0_0).toLoadRect (harg2.unread x1)
def ld20 (arg4 : Memref sig .tc .vmem S2x128x128 .f32) (harg4 : arg4.IsWhole) (x3 : Vec Ideal S2x128x128 .f32) : FVec Ideal S1x128x128 .f32 :=
  View.readAt (Elt Ideal) arg4.view (Rect.unit (s := S2x128x128) ![0, 0, 0] S1x128x128.size inb_S2x128x128_S1x128x128_0_0_0).toLoadRect (harg4.unread x3)
def ld30 (arg4 : Memref sig .tc .vmem S2x128x128 .f32) (harg4 : arg4.IsWhole) (x3 : Vec Ideal S2x128x128 .f32) : FVec Ideal S1x128x128 .f32 :=
  View.readAt (Elt Ideal) arg4.view (Rect.unit (s := S2x128x128) ![1, 0, 0] S1x128x128.size inb_S2x128x128_S1x128x128_1_0_0).toLoadRect (harg4.unread x3)
def ld23 (arg5 : Memref sig .tc .vmem S2x1x128 .f32) (harg5 : arg5.IsWhole) (x4 : Vec Ideal S2x1x128 .f32) : FVec Ideal S1x1x128 .f32 :=
  View.readAt (Elt Ideal) arg5.view (Rect.unit (s := S2x1x128) ![0, 0, 0] S1x1x128.size inb_S2x1x128_S1x1x128_0_0_0).toLoadRect (harg5.unread x4)
def ld33 (arg5 : Memref sig .tc .vmem S2x1x128 .f32) (harg5 : arg5.IsWhole) (x4 : Vec Ideal S2x1x128 .f32) : FVec Ideal S1x1x128 .f32 :=
  View.readAt (Elt Ideal) arg5.view (Rect.unit (s := S2x1x128) ![1, 0, 0] S1x1x128.size inb_S2x1x128_S1x1x128_1_0_0).toLoadRect (harg5.unread x4)
def ld44 (arg6 : Memref sig .tc .vmem S128x4096 .f32) (harg6 : arg6.IsWhole) (x5 : Vec Ideal S128x4096 .f32) : FVec Ideal S128x4096 .f32 :=
  View.readAt (Elt Ideal) arg6.view (Rect.unit (s := S128x4096) ![0, 0] S128x4096.size inb_S128x4096_S128x4096_0_0).toLoadRect (harg6.unread x5)
def ld59 (arg8 : Memref sig .tc .vmem S1x2048 .f32) (harg8 : arg8.IsWhole) (x7 : Vec Ideal S1x2048 .f32) : FVec Ideal S1x2048 .f32 :=
  View.readAt (Elt Ideal) arg8.view (Rect.unit (s := S1x2048) ![0, 0] S1x2048.size inb_S1x2048_S1x2048_0_0).toLoadRect (harg8.unread x7)
def ld79 (arg9 : Memref sig .tc .vmem S128x4352 .f32) (harg9 : arg9.IsWhole) (x8 : Vec Ideal S128x4352 .f32) : FVec Ideal S128x4352 .f32 :=
  View.readAt (Elt Ideal) arg9.view (Rect.unit (s := S128x4352) ![0, 0] S128x4352.size inb_S128x4352_S128x4352_0_0).toLoadRect (harg9.unread x8)

end Loads

section Pieces

variable (c : Dev nD) (i : grid0.Coords) (arg1 : Memref sig .tc .vmem S512x128 .f32) (harg1 : arg1.IsWhole)
  (arg2 : Memref sig .tc .vmem S256x128 .f32) (harg2 : arg2.IsWhole)
  (arg3 : Memref sig .tc .vmem S1x128 .f32) (harg3 : arg3.IsWhole)
  (arg4 : Memref sig .tc .vmem S2x128x128 .f32) (harg4 : arg4.IsWhole)
  (arg5 : Memref sig .tc .vmem S2x1x128 .f32) (harg5 : arg5.IsWhole)
  (arg6 : Memref sig .tc .vmem S128x4096 .f32) (harg6 : arg6.IsWhole)
  (arg7 : Memref sig .tc .vmem S1x128 .f32) (harg7 : arg7.IsWhole)
  (arg8 : Memref sig .tc .vmem S1x2048 .f32) (harg8 : arg8.IsWhole)
  (arg9 : Memref sig .tc .vmem S128x4352 .f32) (harg9 : arg9.IsWhole)
  (arg10 : Memref sig .tc .vmem S512x2048 .f32) (harg10 : arg10.IsWhole)
  (arg11 : Memref sig .tc .vmem S128x4352 .bf16) (harg11 : arg11.IsWhole) (hc0 : cond0_0 i)
  (x0 : Vec Ideal S512x128 .f32) (x1 : Vec Ideal S256x128 .f32) (x2 : Vec Ideal S1x128 .f32) (x3 : Vec Ideal S2x128x128 .f32) (x4 : Vec Ideal S2x1x128 .f32) (x5 : Vec Ideal S128x4096 .f32) (x6 : Vec Ideal S1x128 .f32) (x7 : Vec Ideal S1x2048 .f32) (x8 : Vec Ideal S128x4352 .f32)

/-- The two halves a point stores. -/
def top : FVec Ideal S256x2048 .f32 :=
  k0_pay6 (k0_pay2 (ld3 arg1 harg1 x0)) (k0_pay3 (ld8 arg7 harg7 x6)) (k0_pay4 (ld3 arg1 harg1 x0) (ld8 arg7 harg7 x6) (ld10 arg2 harg2 x1) (ld8 arg3 harg3 x2) (ld20 arg4 harg4 x3) (ld23 arg5 harg5 x4) (ld30 arg4 harg4 x3)) (ld33 arg5 harg5 x4) (ld44 arg6 harg6 x5) (ld59 arg8 harg8 x7)
def bot : FVec Ideal S256x2048 .f32 :=
  k0_pay7 (k0_pay2 (ld3 arg1 harg1 x0)) (k0_pay3 (ld8 arg7 harg7 x6)) (k0_pay4 (ld3 arg1 harg1 x0) (ld8 arg7 harg7 x6) (ld10 arg2 harg2 x1) (ld8 arg3 harg3 x2) (ld20 arg4 harg4 x3) (ld23 arg5 harg5 x4) (ld30 arg4 harg4 x3)) (ld33 arg5 harg5 x4) (ld44 arg6 harg6 x5) (ld59 arg8 harg8 x7)

/-- The body's stores of the filter are these, the last first. -/
theorem pieces_eq : (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7 x8).1
    = [⟨Rect.unit (s := S512x2048) ![256, 0] S256x2048.size inb_S512x2048_S256x2048_256_0, bot arg1 harg1 arg2 harg2 arg3 harg3 arg4 harg4 arg5 harg5 arg6 harg6 arg7 harg7 arg8 harg8 x0 x1 x2 x3 x4 x5 x6 x7⟩,
      ⟨Rect.unit (s := S512x2048) ![0, 0] S256x2048.size inb_S512x2048_S256x2048_0_0, top arg1 harg1 arg2 harg2 arg3 harg3 arg4 harg4 arg5 harg5 arg6 harg6 arg7 harg7 arg8 harg8 x0 x1 x2 x3 x4 x5 x6 x7⟩] := by sl_kernel_rfl

/-- Its store of the weights. -/
theorem weights_eq : (kernelRun0_A c i arg1 harg1 arg2 harg2 arg3 harg3 arg4 harg4 arg5 harg5 arg6 harg6 arg7 harg7 arg8 harg8 arg9 harg9 arg10 harg10 arg11 harg11 hc0 x0 x1 x2 x3 x4 x5 x6 x7 x8).2.1
    = [⟨Rect.unit (s := S128x4352) ![0, 0] S128x4352.size inb_S128x4352_S128x4352_0_0, k0_pay1 (F := Ideal) (ld79 arg9 harg9 x8)⟩] := by sl_kernel_rfl

theorem out_apply (G : S512x2048.Idx → EReal)
    (ht : ∀ (r : Fin 256) (j : Fin 2048), top arg1 harg1 arg2 harg2 arg3 harg3 arg4 harg4 arg5 harg5 arg6 harg6 arg7 harg7 arg8 harg8 x0 x1 x2 x3 x4 x5 x6 x7 (ix2 r j) = G (ix2 (row 0 r) j))
    (hb : ∀ (r : Fin 256) (j : Fin 2048), bot arg1 harg1 arg2 harg2 arg3 harg3 arg4 harg4 arg5 harg5 arg6 harg6 arg7 harg7 arg8 harg8 x0 x1 x2 x3 x4 x5 x6 x7 (ix2 r j) = G (ix2 (row 1 r) j)) (y : S512x2048.Idx) :
    out0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8 y = G y := by
  unfold out0_A_9
  refine View.read_writes_apply_of_pieces _ _ G _ (fun q hq x => ?_) y (cover0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8 y)
  rw [pieces_eq] at hq
  simp only [List.mem_cons, List.not_mem_nil, or_false] at hq
  rcases hq with rfl | rfl
  · refine (congrArg (bot arg1 harg1 arg2 harg2 arg3 harg3 arg4 harg4 arg5 harg5 arg6 harg6 arg7 harg7 arg8 harg8 x0 x1 x2 x3 x4 x5 x6 x7) (ValueIdx.eq_ix2 x)).trans ((hb (x 0) (x 1)).trans (congrArg G ?_))
    funext a
    refine Fin.ext ?_
    match a with
    | ⟨0, _⟩ => show 256 * 1 + (x 0).val = 256 + 1 * (x 0).val; omega
    | ⟨1, _⟩ => show (x 1).val = 0 + 1 * (x 1).val; omega
  · refine (congrArg (top arg1 harg1 arg2 harg2 arg3 harg3 arg4 harg4 arg5 harg5 arg6 harg6 arg7 harg7 arg8 harg8 x0 x1 x2 x3 x4 x5 x6 x7) (ValueIdx.eq_ix2 x)).trans ((ht (x 0) (x 1)).trans (congrArg G ?_))
    funext a
    refine Fin.ext ?_
    match a with
    | ⟨0, _⟩ => show 256 * 0 + (x 0).val = 0 + 1 * (x 0).val; omega
    | ⟨1, _⟩ => show (x 1).val = 0 + 1 * (x 1).val; omega

theorem weights_apply (G : S128x4352.Idx → EReal) (hG : ∀ x, x8 x = G x) (y : S128x4352.Idx) : out0_A_10 c i arg1 harg1 arg2 harg2 arg3 harg3 arg4 harg4 arg5 harg5 arg6 harg6 arg7 harg7 arg8 harg8 arg9 harg9 arg10 harg10 arg11 harg11 hc0 x0 x1 x2 x3 x4 x5 x6 x7 x8 y = G y := by
  unfold out0_A_10
  refine View.read_writes_apply_of_pieces _ _ G _ (fun q hq x => ?_) y (cover0_A_10 c i arg1 harg1 arg2 harg2 arg3 harg3 arg4 harg4 arg5 harg5 arg6 harg6 arg7 harg7 arg8 harg8 arg9 harg9 arg10 harg10 arg11 harg11 hc0 x0 x1 x2 x3 x4 x5 x6 x7 x8 y)
  rw [weights_eq] at hq
  obtain rfl := List.mem_singleton.1 hq
  refine (congrFun (shapeCast_self (ld79 arg9 harg9 x8) shapeCasts_S128x4352_S128x4352) x).trans ?_
  refine (congrFun (whole_read arg9 harg9 x8 inb_S128x4352_S128x4352_0_0) x).trans ((hG x).trans (congrArg G ?_))
  funext a
  refine Fin.ext ?_
  match a with
  | ⟨0, _⟩ => show (x 0).val = 0 + 1 * (x 0).val; omega
  | ⟨1, _⟩ => show (x 1).val = 0 + 1 * (x 1).val; omega

end Pieces

variable (m : (ℓ : Loc nD τ sig) → Buf (Elt Ideal) ℓ) (c : Dev nD)

/-- The filter, whole. -/
abbrev filter : S4096x2048.Idx → EReal := fun i =>
  tap (hidden (feats (i 0)) (first m c) (bias m c) (freq m c) (inner m c) (biases m c)) (last m c) (feats (i 0) 0) decays (i 1)

/-- The projection's weights, whole. -/
abbrev proj : S1024x4352.Idx → EReal := shapeCast S1024x4352 (m ((c : Thread nD τ).loc main_arg6)) shapeCasts_S1x1024x4352_S1024x4352

/-! ## The blocks of a point -/

abbrev pos (t : Fin cfg0.N) (q : Fin 512) : Fin 4096 := ⟨(grid0.coords t 0).val * 512 + q.val, by
  have h : (grid0.coords t 0).val < 8 := (grid0.coords t 0).isLt
  omega⟩
abbrev wrow (t : Fin cfg0.N) (q : Fin 128) : Fin 1024 := ⟨(grid0.coords t 0).val * 128 + q.val, by
  have h : (grid0.coords t 0).val < 8 := (grid0.coords t 0).isLt
  omega⟩

theorem at0 : ∀ t : Fin cfg0.N, win0_0.index t = ![(grid0.coords t 0).val, 0] :=
  (by decide +kernel : ∀ t : Fin grid0.N, win0_0.index t = ![(grid0.coords t 0).val, 0])
theorem at1 : ∀ t : Fin cfg0.N, win0_1.index t = ![0, 0] :=
  (by decide +kernel : ∀ t : Fin grid0.N, win0_1.index t = ![0, 0])
theorem at2 : ∀ t : Fin cfg0.N, win0_2.index t = ![0, 0] :=
  (by decide +kernel : ∀ t : Fin grid0.N, win0_2.index t = ![0, 0])
theorem at3 : ∀ t : Fin cfg0.N, win0_3.index t = ![0, 0, 0] :=
  (by decide +kernel : ∀ t : Fin grid0.N, win0_3.index t = ![0, 0, 0])
theorem at4 : ∀ t : Fin cfg0.N, win0_4.index t = ![0, 0, 0] :=
  (by decide +kernel : ∀ t : Fin grid0.N, win0_4.index t = ![0, 0, 0])
theorem at5 : ∀ t : Fin cfg0.N, win0_5.index t = ![0, 0] :=
  (by decide +kernel : ∀ t : Fin grid0.N, win0_5.index t = ![0, 0])
theorem at6 : ∀ t : Fin cfg0.N, win0_6.index t = ![0, 0] :=
  (by decide +kernel : ∀ t : Fin grid0.N, win0_6.index t = ![0, 0])
theorem at7 : ∀ t : Fin cfg0.N, win0_7.index t = ![0, 0] :=
  (by decide +kernel : ∀ t : Fin grid0.N, win0_7.index t = ![0, 0])
theorem at8 : ∀ t : Fin cfg0.N, win0_8.index t = ![(grid0.coords t 0).val, 0] :=
  (by decide +kernel : ∀ t : Fin grid0.N, win0_8.index t = ![(grid0.coords t 0).val, 0])
theorem at9 : ∀ t : Fin cfg0.N, win0_9.index t = ![(grid0.coords t 0).val, 0] :=
  (by decide +kernel : ∀ t : Fin grid0.N, win0_9.index t = ![(grid0.coords t 0).val, 0])
theorem at10 : ∀ t : Fin cfg0.N, win0_10.index t = ![(grid0.coords t 0).val, 0] :=
  (by decide +kernel : ∀ t : Fin grid0.N, win0_10.index t = ![(grid0.coords t 0).val, 0])

theorem blk0 (t : Fin cfg0.N) (q : Fin 512) (l : Fin 128) : iblk m c 0 t (ix2 q l) = V m c main_v19 (ix2 (pos t q) l) := by
  refine congrArg (V m c main_v19) ?_
  blk_ext [at0]
theorem blk1 (t : Fin cfg0.N) (y : S256x128.Idx) : iblk m c 1 t y = V m c main_v40 y := by
  refine congrArg (V m c main_v40) ?_
  blk_ext [at1]
theorem blk2 (t : Fin cfg0.N) (y : S1x128.Idx) : iblk m c 2 t y = V m c main_v49 y := by
  refine congrArg (V m c main_v49) ?_
  blk_ext [at2]
theorem blk3 (t : Fin cfg0.N) (y : S2x128x128.Idx) : iblk m c 3 t y = V m c main_v44 y := by
  refine congrArg (V m c main_v44) ?_
  blk_ext [at3]
theorem blk4 (t : Fin cfg0.N) (y : S2x1x128.Idx) : iblk m c 4 t y = V m c main_v50 y := by
  refine congrArg (V m c main_v50) ?_
  blk_ext [at4]
theorem blk5 (t : Fin cfg0.N) (y : S128x4096.Idx) : iblk m c 5 t y = V m c main_v48 y := by
  refine congrArg (V m c main_v48) ?_
  blk_ext [at5]
theorem blk6 (t : Fin cfg0.N) (y : S1x128.Idx) : iblk m c 6 t y = V m c main_v51 y := by
  refine congrArg (V m c main_v51) ?_
  blk_ext [at6]
theorem blk7 (t : Fin cfg0.N) (y : S1x2048.Idx) : iblk m c 7 t y = V m c main_v25 y := by
  refine congrArg (V m c main_v25) ?_
  blk_ext [at7]
theorem blk8 (t : Fin cfg0.N) (q : Fin 128) (l : Fin 4352) : iblk m c 8 t (ix2 q l) = V m c main_v36 (ix2 (wrow t q) l) := by
  refine congrArg (V m c main_v36) ?_
  blk_ext [at8]

/-- A point's loads are laid out as its two halves are computed. -/
theorem laid (t : Fin cfg0.N) (arg1 : Memref sig .tc .vmem S512x128 .f32) (harg1 : arg1.IsWhole)
    (arg2 : Memref sig .tc .vmem S256x128 .f32) (harg2 : arg2.IsWhole)
    (arg3 : Memref sig .tc .vmem S1x128 .f32) (harg3 : arg3.IsWhole)
    (arg4 : Memref sig .tc .vmem S2x128x128 .f32) (harg4 : arg4.IsWhole)
    (arg5 : Memref sig .tc .vmem S2x1x128 .f32) (harg5 : arg5.IsWhole)
    (arg6 : Memref sig .tc .vmem S128x4096 .f32) (harg6 : arg6.IsWhole)
    (arg7 : Memref sig .tc .vmem S1x128 .f32) (harg7 : arg7.IsWhole)
    (arg8 : Memref sig .tc .vmem S1x2048 .f32) (harg8 : arg8.IsWhole) :
    Laid (ld3 arg1 harg1 (iblk m c 0 t)) (ld8 arg7 harg7 (iblk m c 6 t)) (ld10 arg2 harg2 (iblk m c 1 t)) (ld8 arg3 harg3 (iblk m c 2 t)) (ld20 arg4 harg4 (iblk m c 3 t))
      (ld23 arg5 harg5 (iblk m c 4 t)) (ld30 arg4 harg4 (iblk m c 3 t)) (ld33 arg5 harg5 (iblk m c 4 t)) (ld44 arg6 harg6 (iblk m c 5 t)) (ld59 arg8 harg8 (iblk m c 7 t))
      (fun q => feats (pos t q)) (first m c) (bias m c) (freq m c) (inner m c) (biases m c) (last m c) decays where
  z q k := (congrFun (whole_read arg1 harg1 _ inb_S512x128_S512x128_0_0) _).trans ((blk0 m c t q _).trans (feats_at m c _ k))
  freq p d := (congrFun (whole_read arg7 harg7 _ inb_S1x128_S1x128_0_0) _).trans ((blk6 m c t _).trans (freq_at m c p d))
  first q k p d := (congrFun (whole_read arg2 harg2 _ inb_S256x128_S256x128_0_0) _).trans ((blk1 m c t _).trans (first_at m c q k p d))
  bias p d := (congrFun (whole_read arg3 harg3 _ inb_S1x128_S1x128_0_0) _).trans ((blk2 m c t _).trans (bias_at m c p d))
  second q k p d := (slab_read 0 arg4 harg4 _ inb_S2x128x128_S1x128x128_0_0_0 (by decide) _ _).trans ((blk3 m c t _).trans (inner_at m c 0 q k p d))
  bias2 p d := (slab_read 0 arg5 harg5 _ inb_S2x1x128_S1x1x128_0_0_0 (by decide) _ _).trans ((blk4 m c t _).trans (biases_at m c 0 p d))
  third q k p d := (slab_read 1 arg4 harg4 _ inb_S2x128x128_S1x128x128_1_0_0 (by decide) _ _).trans ((blk3 m c t _).trans (inner_at m c 1 q k p d))
  bias3 p d := (slab_read 1 arg5 harg5 _ inb_S2x1x128_S1x1x128_1_0_0 (by decide) _ _).trans ((blk4 m c t _).trans (biases_at m c 1 p d))
  out q k p j := (congrFun (whole_read arg6 harg6 _ inb_S128x4096_S128x4096_0_0) _).trans ((blk5 m c t _).trans (last_at m c q k p j))
  decay j := (congrFun (whole_read arg8 harg8 _ inb_S1x2048_S1x2048_0_0) _).trans ((blk7 m c t _).trans (decays_at m c j))

/-! ## The results -/

theorem covers9 : (cfg0.win 9).Covers := by decide +kernel
theorem covers10 : (cfg0.win 10).Covers := by decide +kernel

/-- What a point leaves of the filter. -/
theorem point9 (hwo : ∀ k j, ∃ r : ℝ, last m c k j = (r : EReal)) (t : Fin cfg0.N) (y : S512x2048.Idx) :
    (outsAt0 m c t).1 y = filter m c (ix2 (pos t (y 0)) (y 1)) := by
  have H := laid m c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
  simp only [outsAt0]
  exact out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (hcond0_0 t) (iblk m c 0 t) (iblk m c 1 t) (iblk m c 2 t) (iblk m c 3 t) (iblk m c 4 t) (iblk m c 5 t) (iblk m c 6 t) (iblk m c 7 t) (iblk m c 8 t)
    (fun z => filter m c (ix2 (pos t (z 0)) (z 1)))
    (fun r j => upper _ _ _ _ _ _ _ _ _ _ _ _ _ _ _ _ _ _ H hwo r j)
    (fun r j => lower _ _ _ _ _ _ _ _ _ _ _ _ _ _ _ _ _ _ H hwo r j) y

/-- What it leaves of the weights. -/
theorem point10 (t : Fin cfg0.N) (y : S128x4352.Idx) : (outsAt0 m c t).2 y = proj m c (ix2 (wrow t (y 0)) (y 1)) := by
  simp only [outsAt0]
  exact weights_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (hcond0_0 t) (iblk m c 0 t) (iblk m c 1 t) (iblk m c 2 t) (iblk m c 3 t) (iblk m c 4 t) (iblk m c 5 t) (iblk m c 6 t) (iblk m c 7 t) (iblk m c 8 t)
    (fun z => proj m c (ix2 (wrow t (z 0)) (z 1)))
    (fun x => (congrArg (iblk m c 8 t) (ValueIdx.eq_ix2 (n0 := 128) (n1 := 4352) x)).trans ((blk8 m c t _ _).trans (congrFun (v36_eq m c) _))) y

theorem emb9 (t : Fin cfg0.N) (y : S512x2048.Idx) : (win0_9.blk t).view.emb y = (ix2 (pos t (y 0)) (y 1) : S4096x2048.Idx) := by
  blk_ext [at9]
theorem emb10 (t : Fin cfg0.N) (y : S128x4352.Idx) : (win0_10.blk t).view.emb y = (ix2 (wrow t (y 0)) (y 1) : S1024x4352.Idx) := by
  blk_ext [at10]

theorem final (hwo : ∀ k j, ∃ r : ℝ, last m c k j = (r : EReal)) : (dats m 0 c).arrAt 9 cfg0.N = filter m c := by
  refine (dats m 0 c).arrAt_eq_of_covers 9 _ covers9 fun t hf y => ?_
  blk_simp
  rw [after0_9]
  exact (point9 m c hwo t y).trans (congrArg (filter m c) (emb9 t y).symm)

theorem weights : (dats m 0 c).arrAt 10 cfg0.N = proj m c := by
  refine (dats m 0 c).arrAt_eq_of_covers 10 _ covers10 fun t hf y => ?_
  blk_simp
  rw [after0_10]
  exact (point10 m c t y).trans (congrArg (proj m c) (emb10 t y).symm)

end Cert.FiltArray

end
-- ==== Proof.Filt.RefRow.lean ====
/- The reference's filter, read at a position and a channel. -/
module

public import proofs.«01_k».proof.Proof.Filt.Host

@[expose] public section

noncomputable section

namespace Cert.FiltRef

open Cert.FiltRow Cert.FiltRefIdeal Cert.FiltRefIdeal.Gen Cert.FiltRefIdeal.Read Cert.Layout Cert.ProjLayout Idealize.ShloMosaic.TcCoe Idealize.ShloMosaic.ValueIdx
open Idealize.ShloMosaic hiding ix1 ix2 ix3 ix4

section Layouts

variable {α : Type}

theorem row_of {n : Nat} (hn : n ≠ 1) (y : (⟨1, ![n]⟩ : Shape).Idx → α) (h : (⟨1, ![n]⟩ : Shape).BroadcastsInDim ⟨2, ![1, n]⟩ ![1]) (d : Fin n) :
    broadcastInDim ⟨2, ![1, n]⟩ ![1] h y (ix2 0 d) = y (ix1 d) :=
  broadcastInDim_apply _ _ _ _ _ fun a => by
    match a with
    | ⟨0, _⟩ => exact (if_neg hn).symm

theorem rows_of {M n : Nat} (hn : n ≠ 1) (y : (⟨2, ![1, n]⟩ : Shape).Idx → α) (h : (⟨2, ![1, n]⟩ : Shape).BroadcastsInDim ⟨2, ![M, n]⟩ ![0, 1])
    (t : Fin M) (d : Fin n) : broadcastInDim ⟨2, ![M, n]⟩ ![0, 1] h y (ix2 t d) = y (ix2 0 d) :=
  broadcastInDim_apply _ _ _ _ _ fun a => by
    match a with
    | ⟨0, _⟩ => rfl
    | ⟨1, _⟩ => exact (if_neg hn).symm

theorem cols_of {M n : Nat} (hM : M ≠ 1) (y : (⟨2, ![M, 1]⟩ : Shape).Idx → α) (h : (⟨2, ![M, 1]⟩ : Shape).BroadcastsInDim ⟨2, ![M, n]⟩ ![0, 1])
    (t : Fin M) (d : Fin n) : broadcastInDim ⟨2, ![M, n]⟩ ![0, 1] h y (ix2 t d) = y (ix2 t 0) :=
  broadcastInDim_apply _ _ _ _ _ fun a => by
    match a with
    | ⟨0, _⟩ => exact (if_neg hM).symm
    | ⟨1, _⟩ => rfl

end Layouts

variable (x0 : FVec Ideal S1x33x64 .f32) (x1 : FVec Ideal S1x64 .f32) (x2 : FVec Ideal S1x2x64x64 .f32) (x3 : FVec Ideal S1x2x64 .f32)
  (x4 : FVec Ideal S1x64x2048 .f32) (x5 : FVec Ideal S1x64 .f32)

/-- The arguments as functions of their coordinates. -/
abbrev w0 : Fin 33 → Fin 64 → EReal := fun k d => x0 (ix3 0 k d)
abbrev b0 : Fin 64 → EReal := fun d => x1 (ix2 0 d)
abbrev wi : Fin 2 → Fin 64 → Fin 64 → EReal := fun l k d => x2 (ix4 0 l k d)
abbrev bi : Fin 2 → Fin 64 → EReal := fun l d => x3 (ix3 0 l d)
abbrev wo : Fin 64 → Fin 2048 → EReal := fun k j => x4 (ix3 0 k j)
abbrev fr : Fin 64 → EReal := fun d => x5 (ix2 0 d)

variable (t : Fin 4096) (d k : Fin 64)

/-! ## The weights where the reference reads them -/

theorem bias_eq : val_main_v27 (F := Ideal) x1 (ix2 t d) = b0 x1 d :=
  (rows_of (by decide) _ bcast_S1x64_S4096x64_0_1 t d).trans ((row_of (by decide) _ bcast_S64_S1x64_1 d).trans (Cert.FiltHost.vec_row _ shapeCasts_S1x64_S64 d))
theorem freq1_eq : val_main_v30 (F := Ideal) x5 (ix2 t d) = fr x5 d :=
  (rows_of (by decide) _ bcast_S1x64_S4096x64_0_1 t d).trans ((row_of (by decide) _ bcast_S64_S1x64_1 d).trans (Cert.FiltHost.vec_row _ shapeCasts_S1x64_S64 d))
theorem freq2_eq : val_main_v42 (F := Ideal) x5 (ix2 t d) = fr x5 d :=
  (rows_of (by decide) _ bcast_S1x64_S4096x64_0_1 t d).trans ((row_of (by decide) _ bcast_S64_S1x64_1 d).trans (Cert.FiltHost.vec_row _ shapeCasts_S1x64_S64 d))
theorem freq3_eq : val_main_v54 (F := Ideal) x5 (ix2 t d) = fr x5 d :=
  (rows_of (by decide) _ bcast_S1x64_S4096x64_0_1 t d).trans ((row_of (by decide) _ bcast_S64_S1x64_1 d).trans (Cert.FiltHost.vec_row _ shapeCasts_S1x64_S64 d))

theorem bias2_eq : val_main_v39 (F := Ideal) x3 (ix2 t d) = bi x3 0 d :=
  (rows_of (by decide) _ bcast_S1x64_S4096x64_0_1 t d).trans ((row_of (by decide) _ bcast_S64_S1x64_1 d).trans ((Cert.FiltHost.vec_row _ shapeCasts_S1x64_S64 d).trans
    ((slice2 0 0 _ slices_S2x64_S1x64_0_0 0 d 0 d rfl (by omega)).trans (cast_drop1 _ shapeCasts_S1x2x64_S2x64 0 d))))
theorem bias3_eq : val_main_v51 (F := Ideal) x3 (ix2 t d) = bi x3 1 d :=
  (rows_of (by decide) _ bcast_S1x64_S4096x64_0_1 t d).trans ((row_of (by decide) _ bcast_S64_S1x64_1 d).trans ((Cert.FiltHost.vec_row _ shapeCasts_S1x64_S64 d).trans
    ((slice2 1 0 _ slices_S2x64_S1x64_1_0 0 d 1 d rfl (by omega)).trans (cast_drop1 _ shapeCasts_S1x2x64_S2x64 1 d))))

theorem pile_eq (l : Fin 2) : val_main_v2 (F := Ideal) x2 (ix3 l k d) = wi x2 l k d :=
  shapeCast_apply (s := S1x2x64x64) (t := S2x64x64) _ _ _ _ (by
    rw [Shape.rowMajor_val_four, Shape.rowMajor_val_three]
    show ((0 * 2 + l.val) * 64 + k.val) * 64 + d.val = (l.val * 64 + k.val) * 64 + d.val
    omega)
theorem second_eq : val_main_v34 (F := Ideal) x2 (ix2 k d) = wi x2 0 k d :=
  (cast_drop1 _ shapeCasts_S1x64x64_S64x64 k d).trans ((extractStridedSlice_apply (s := S2x64x64) _ _ slices_S2x64x64_S1x64x64_0_0_0 _ (ix3 0 k d) (fun a => by
    match a with
    | ⟨0, _⟩ => rfl
    | ⟨1, _⟩ => show k.val = 0 + k.val; omega
    | ⟨2, _⟩ => show d.val = 0 + d.val; omega)).trans (pile_eq x2 d k 0))
theorem third_eq : val_main_v46 (F := Ideal) x2 (ix2 k d) = wi x2 1 k d :=
  (cast_drop1 _ shapeCasts_S1x64x64_S64x64 k d).trans ((extractStridedSlice_apply (s := S2x64x64) _ _ slices_S2x64x64_S1x64x64_1_0_0 _ (ix3 1 k d) (fun a => by
    match a with
    | ⟨0, _⟩ => rfl
    | ⟨1, _⟩ => show k.val = 0 + k.val; omega
    | ⟨2, _⟩ => show d.val = 0 + d.val; omega)).trans (pile_eq x2 d k 1))

/-! ## The layers -/

theorem one_eq : val_main_v32 (F := Ideal) x0 x1 x5 (ix2 t d) = layer (Cert.FiltHost.feats t) (w0 x0) (b0 x1) (fr x5) d := by
  refine congrArg Ideal.sin (congrArg₂ (· * ·) (freq1_eq x5 t d) (congrArg₂ (· + ·) ?_ (bias_eq x1 t d)))
  refine (val_main_v25_apply x0 (ix2 t d)).trans (Finset.sum_congr rfl fun k _ => congrArg₂ (· * ·) (congrArg _ (funext fun a => ?_)) ?_)
  · match a with
    | ⟨0, _⟩ => rfl
    | ⟨1, _⟩ => rfl
  · refine (congrArg (val_main_v0 (F := Ideal) x0) (funext fun a => ?_)).trans (cast_drop1 _ shapeCasts_S1x33x64_S33x64 k d)
    match a with
    | ⟨0, _⟩ => rfl
    | ⟨1, _⟩ => rfl

theorem two_eq : val_main_v44 (F := Ideal) x0 x1 x2 x3 x5 (ix2 t d)
    = layer (layer (Cert.FiltHost.feats t) (w0 x0) (b0 x1) (fr x5)) (wi x2 0) (bi x3 0) (fr x5) d := by
  refine congrArg Ideal.sin (congrArg₂ (· * ·) (freq2_eq x5 t d) (congrArg₂ (· + ·) ?_ (bias2_eq x3 t d)))
  refine (val_main_v35_apply x0 x1 x2 x5 (ix2 t d)).trans (Finset.sum_congr rfl fun k _ => congrArg₂ (· * ·) ?_ ?_)
  · refine (congrArg (val_main_v32 (F := Ideal) x0 x1 x5) (funext fun a => ?_)).trans (one_eq x0 x1 x5 t k)
    match a with
    | ⟨0, _⟩ => rfl
    | ⟨1, _⟩ => rfl
  · refine (congrArg (val_main_v34 (F := Ideal) x2) (funext fun a => ?_)).trans (second_eq x2 d k)
    match a with
    | ⟨0, _⟩ => rfl
    | ⟨1, _⟩ => rfl

theorem three_eq : val_main_v56 (F := Ideal) x0 x1 x2 x3 x5 (ix2 t d)
    = hidden (Cert.FiltHost.feats t) (w0 x0) (b0 x1) (fr x5) (wi x2) (bi x3) d := by
  refine congrArg Ideal.sin (congrArg₂ (· * ·) (freq3_eq x5 t d) (congrArg₂ (· + ·) ?_ (bias3_eq x3 t d)))
  refine (val_main_v47_apply x0 x1 x2 x3 x5 (ix2 t d)).trans (Finset.sum_congr rfl fun k _ => congrArg₂ (· * ·) ?_ ?_)
  · refine (congrArg (val_main_v44 (F := Ideal) x0 x1 x2 x3 x5) (funext fun a => ?_)).trans (two_eq x0 x1 x2 x3 x5 t k)
    match a with
    | ⟨0, _⟩ => rfl
    | ⟨1, _⟩ => rfl
  · refine (congrArg (val_main_v46 (F := Ideal) x2) (funext fun a => ?_)).trans (third_eq x2 d k)
    match a with
    | ⟨0, _⟩ => rfl
    | ⟨1, _⟩ => rfl

/-- A position's first feature is its time. -/
theorem time_eq : val_main_v7 (F := Ideal) (ix2 t 0) = Cert.FiltHost.feats t 0 := by
  unfold Cert.FiltHost.feats val_main_v24
  exact (beside_first _ _ _ concatenates_S4096x1_S4096x16_S4096x16_S4096x33_d1 t 0 0 rfl).symm

/-- The reference's filter. -/
theorem result_eq (j : Fin 2048) : val_main_v69 (F := Ideal) x0 x1 x2 x3 x4 x5 (ix2 t j)
    = tap (hidden (Cert.FiltHost.feats t) (w0 x0) (b0 x1) (fr x5) (wi x2) (bi x3)) (wo x4) (Cert.FiltHost.feats t 0) Cert.FiltHost.decays j := by
  refine congrArg₂ (· * ·) ?_ (congrArg Ideal.exp (congrArg₂ (· * ·) ?_ ?_))
  · refine (val_main_v57_apply x0 x1 x2 x3 x4 x5 (ix2 t j)).trans (Finset.sum_congr rfl fun k _ => congrArg₂ (· * ·) ?_ ?_)
    · refine (congrArg (val_main_v56 (F := Ideal) x0 x1 x2 x3 x5) (funext fun a => ?_)).trans (three_eq x0 x1 x2 x3 x5 t k)
      match a with
      | ⟨0, _⟩ => rfl
      | ⟨1, _⟩ => rfl
    · refine (congrArg (val_main_v4 (F := Ideal) x4) (funext fun a => ?_)).trans (cast_drop1 _ shapeCasts_S1x64x2048_S64x2048 k j)
      match a with
      | ⟨0, _⟩ => rfl
      | ⟨1, _⟩ => rfl
  · refine (cols_of (by decide) _ bcast_S4096x1_S4096x2048_0_1 t j).trans ?_
    show -(val_main_v7 (F := Ideal) (ix2 t 0)) = _
    rw [time_eq]
  · exact rows_of (by decide) _ bcast_S1x2048_S4096x2048_0_1 t j

end Cert.FiltRef

end
-- ==== Proof.Filt.Finite.lean ====
/- What the precondition says: the filter's readout weights are real numbers. -/
module

public import proofs.«01_k».proof.Pre_weights
public import proofs.«01_k».proof.Proof.Attn.Finite

@[expose] public section

noncomputable section

namespace Cert.Pre_weights

open Idealize.ShloMosaic

/-- The shapes of the precondition's broadcast and reduction fit. -/
instance facts : Facts where
  bcast_S_S1x64x2048 := by decide
  reducesTo_S1x64x2048_S_d0_1_2 := by decide
  h_S_ := by decide

instance : Subsingleton S_.Idx := ⟨fun _ _ => funext fun a => a.elim0⟩

/-- Where the precondition holds, the readout weights are real at every index. -/
theorem reals (a0 : FVec Ideal S1x33x64 .f32) (a1 : FVec Ideal S1x64 .f32) (a2 : FVec Ideal S1x2x64x64 .f32) (a3 : FVec Ideal S1x2x64 .f32)
    (a4 : FVec Ideal S1x64x2048 .f32) (a5 : FVec Ideal S1x64 .f32) (a6 : FVec Ideal S1x1024x4352 .f32)
    (h : fn (F := Ideal) a0 a1 a2 a3 a4 a5 a6 = fun _ => 1#1) : ∀ i, ∃ r : ℝ, (a4 i : EReal) = (r : EReal) := by
  have h0 := congrFun h (fun a => a.elim0)
  unfold fn at h0
  exact fun i => Cert.Pre_finite.real_of_below _ (Host.reduce_andi_all _ _ _ _ _ h0 i)

end Cert.Pre_weights

end
-- ==== Proof.Filt.Claims.lean ====
/- The filter kernel's claims: its frames, and that over the reals its results are the layer's own. -/
module

public import proofs.«01_k».proof.Defs
public import proofs.«01_k».proof.Proof.Filt.Array
public import proofs.«01_k».proof.Proof.Filt.RefRow
public import proofs.«01_k».proof.Proof.Filt.Finite
public import proofs.«01_k».proof.Proof.Gen.Filt.Frame

@[expose] public section

noncomputable section

namespace Cert.FiltClaims

open Idealize.ShloMosaic Idealize.ShloMosaic.TcCoe
open Cert.FiltArray (filter proj)

theorem frame : Cert.quiescent_Filt := fun m ρ _ => Cert.Filt.Gen.frame m ρ
theorem frame_ideal : Cert.quiescent_FiltIdeal := fun m ρ _ => Cert.FiltIdeal.Gen.frame m ρ
theorem frame_ideal_weights : Cert.quiescent_FiltIdeal_pre_weights := fun m ρ _ => Cert.FiltIdeal.Gen.frame m ρ
theorem frame_ref : Cert.quiescent_FiltRefIdeal := fun m ρ _ =>
  (θ_run Cert.FiltRefIdeal.defs _ _).mono (fun r h => ⟨fun c => (h c).2.2, sem_eq_zero_of_no_sems (by decide) r.2⟩)
    (Cert.FiltRefIdeal.Value.run (F := Ideal) m ρ)
theorem frame_ref_weights : Cert.quiescent_FiltRefIdeal_pre_weights := fun m ρ _ =>
  (θ_run Cert.FiltRefIdeal.defs _ _).mono (fun r h => ⟨fun c => (h c).2.2, sem_eq_zero_of_no_sems (by decide) r.2⟩)
    (Cert.FiltRefIdeal.Value.run (F := Ideal) m ρ)

/-- No constant is renamed in the filter kernel. -/
theorem preserves : Cert.preserves_Filt_FiltIdeal := trivial

section

open Cert.FiltIdeal Cert.FiltIdeal.Gen

variable (m : (ℓ : Loc nD τ sig) → Buf (Elt Ideal) ℓ)

/-- An argument of the kernel. -/
abbrev arg (c : Dev nD) (b : Ref sig .tc) := m ((c.tc : Thread nD τ).loc b)

/-- What the precondition says of a device's arguments. -/
theorem reals (h : Cert.Pre_FiltIdeal_weights m) (c : Dev nD) : ∀ k j, ∃ r : ℝ, Cert.FiltHost.last m c k j = (r : EReal) :=
  fun k j => Cert.Pre_weights.reals _ _ _ _ _ _ _ (h c) _

/-- The reference's filter of the arguments is what the kernel leaves. -/
theorem filters (c : Dev nD) :
    Cert.FiltRefIdeal.Read.val_main_v69 (F := Ideal) (arg m c main_arg0) (arg m c main_arg1) (arg m c main_arg2) (arg m c main_arg3) (arg m c main_arg4) (arg m c main_arg5)
      = filter m c := by
  funext i
  rw [ValueIdx.eq_ix2 i]
  exact Cert.FiltRef.result_eq _ _ _ _ _ _ (i 0) (i 1)

end

/-- The kernel's arrays are the filter of the arguments and the projection's weights, and so are the reference's of arguments that agree. -/
theorem algebraic : Cert.algebraic_FiltIdeal_FiltRefIdeal_pre_weights := by
  intro m ρ m' ρ' hpre hagree
  refine ⟨fun c => filter m c, fun c => proj m c, ?_, ?_⟩
  · refine (θ_run Cert.FiltIdeal.defs _ _).mono (fun r h c => ?_) (Cert.FiltIdeal.Value.run_blocks (F := Ideal) m ρ)
    exact ⟨(h c).1.trans (Cert.FiltArray.final m c (reals m hpre c)), (h c).2.1.trans (Cert.FiltArray.weights m c), (h c).2.2⟩
  · refine (θ_run Cert.FiltRefIdeal.defs _ _).mono (fun r h c => ?_) (Cert.FiltRefIdeal.Value.run (F := Ideal) m' ρ')
    obtain ⟨a0, a1, a2, a3, a4, a5, a6⟩ := hagree c
    have e := (h c).1.trans (Cert.FiltRefIdeal.Read.val_main_v69_eq m' c)
    rw [a0, a1, a2, a3, a4, a5] at e
    have w := (h c).2.1
    rw [a6] at w
    exact ⟨e.trans (filters m c), w, (h c).2.2⟩

end Cert.FiltClaims

end
-- ==== Proof.Tail.Block.lean ====
/- What the projection kernel computes for one block of 1024 tokens, each value it leaves read at an index from the
   normed rows of the block and of its two neighbours. -/
module

public import proofs.«01_k».proof.Proof.Proj.Layout
public import proofs.«01_k».proof.Proof.Proj.Row
public import proofs.«01_k».proof.Proof.Gen.TailIdeal.Frame

@[expose] public section

noncomputable section

namespace Cert.TailBlock

open Cert.TailIdeal Cert.TailIdeal.Gen Cert.Layout Cert.ProjLayout Cert.MixRow Cert.ProjRow Idealize.ShloMosaic Idealize.ShloMosaic.ValueIdx

abbrev rowOf {n m : Nat} (a : (⟨2, ![n, m]⟩ : Shape).Idx → EReal) (r : Fin n) : Fin m → EReal := fun c => a (ix2 r c)
abbrev colOf {n m : Nat} (a : (⟨2, ![n, m]⟩ : Shape).Idx → EReal) (c : Fin m) : Fin n → EReal := fun r => a (ix2 r c)

/-! ## The normed rows -/

/-- The root-mean-square norm of a block's rows, at a row. -/
theorem norm_rows {n : Nat} (hn : n ≠ 1) (h : FVec Ideal ⟨2, ![n, 1024]⟩ .f32) (g : FVec Ideal S1x1024 .f32)
    (hr : (⟨2, ![n, 1024]⟩ : Shape).Reduces [1] ⟨1, ![n]⟩) (hφ : FKind.Formats .f32) (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, 1024]⟩)
    (hg : S1x1024.Broadcasts ⟨2, ![n, 1024]⟩) (r : Fin n) (c : Fin 1024) :
    mulf (mulf h (broadcastTo ⟨2, ![n, 1024]⟩ (rsqrt (addf (divf (shapeCast ⟨2, ![n, 1]⟩ (multiReduction .add [1] ⟨1, ![n]⟩ (mulf h h) 0x00000000#32 hr hφ hacc) hc)
        (broadcast ⟨2, ![n, 1]⟩ (Scalar.ofBits (F := Ideal) .f32 0x44800000#32))) (broadcast ⟨2, ![n, 1]⟩ (Scalar.ofBits (F := Ideal) .f32 0x358637BD#32)))) hb))
      (broadcastTo ⟨2, ![n, 1024]⟩ g hg) (ix2 r c) = norm (rowOf h r) (rowOf g 0) c := by
  rw [mulf_apply, mulf_apply, spread_col hn, spread_row (by decide)]
  show h (ix2 r c) * Ideal.rsqrt (Ideal.div (shapeCast ⟨2, ![n, 1]⟩ (multiReduction .add [1] ⟨1, ![n]⟩ (mulf h h) 0x00000000#32 hr hφ hacc) hc (ix2 r 0)) (Ideal.ofBits .f32 0x44800000#32) + Ideal.ofBits .f32 0x358637BD#32) * g (ix2 0 c) = _
  exact congrArg (fun s => h (ix2 r c) * Ideal.rsqrt (Ideal.div s (Ideal.ofBits .f32 0x44800000#32) + Ideal.ofBits .f32 0x358637BD#32) * g (ix2 0 c))
    ((cast_col _ _ r 0).trans (row_sum (mulf h h) _ _ _ r))

theorem ld_r0_0 (x : Vec Ideal S1x1024x1024 .f32) : View.ld x r0_0 = x :=
  View.ld_unit_zero (funext fun a => by fin_cases a <;> rfl) _ x
theorem ld_r0_1 (x : Vec Ideal S1x1024 .f32) : View.ld x r0_1 = x :=
  View.ld_unit_zero (funext fun a => by fin_cases a <;> rfl) _ x
theorem ld_r0_2 (x : Vec Ideal S1x16x1024 .f32) : View.ld x r0_2 = x :=
  View.ld_unit_zero (funext fun a => by fin_cases a <;> rfl) _ x
theorem ld_r0_31 (x : Vec Ideal S1024x128 .f32) : View.ld x r0_31 = x :=
  View.ld_unit_zero (funext fun a => by fin_cases a <;> rfl) _ x

/-- The factor a halo row is masked with. -/
abbrev flag (b : BitVec 1) : EReal := Scalar.sitofp (F := Ideal) .f32 (Scalar.extui b : BitVec 32)

theorem flag_true (b : BitVec 1) (h : b = 1#1) : flag b = 1 := by
  subst h
  show ((((Scalar.extui 1#1 : BitVec 32).toInt : ℝ)) : EReal) = 1
  have : (Scalar.extui 1#1 : BitVec 32).toInt = 1 := by decide
  rw [this]; simp

theorem flag_false (b : BitVec 1) (h : b = 0#1) : flag b = 0 := by
  subst h
  show ((((Scalar.extui 0#1 : BitVec 32).toInt : ℝ)) : EReal) = 0
  have : (Scalar.extui 0#1 : BitVec 32).toInt = 0 := by decide
  rw [this]; simp

abbrev hasPrev (i : grid0.Coords) : BitVec 1 := Scalar.cmpi .sgt (BitVec.ofNat 32 (i 1).val) 0#32
abbrev hasNext (i : grid0.Coords) : BitVec 1 := Scalar.cmpi .slt (BitVec.ofNat 32 (i 1).val) 3#32

theorem pay2_row (x0 : Vec Ideal S1x1024x1024 .f32) (g : Vec Ideal S1x1024 .f32) (r c : Fin 1024) :
    k0_pay2 x0 g (ix2 r c) = norm (fun k => x0 (ix3 0 r k)) (rowOf g 0) c := by
  unfold k0_pay2
  simp only [truncf_apply, shapeCast_self]
  refine (norm_rows (n := 1024) (by decide) _ g _ _ _ _ _ _ r c).trans ?_
  exact congrArg (fun f => norm f (rowOf g 0) c) (funext fun k => cast_drop1 x0 _ r k)

theorem pay3_row (i : grid0.Coords) (x1 : Vec Ideal S1x16x1024 .f32) (g : Vec Ideal S1x1024 .f32) (r : Fin 16) (c : Fin 1024) :
    k0_pay3 i x1 g (ix2 r c) = norm (fun k => x1 (ix3 0 r k)) (rowOf g 0) c * flag (hasPrev i) := by
  unfold k0_pay3
  simp only [truncf_apply, shapeCast_self]
  refine (mulf_apply _ _ _).trans (congrArg₂ (· * ·) ((norm_rows (n := 16) (by decide) _ g _ _ _ _ _ _ r c).trans ?_) rfl)
  exact congrArg (fun f => norm f (rowOf g 0) c) (funext fun k => cast_drop1 x1 _ r k)

section Extended

variable (i : grid0.Coords) (a : FVec Ideal S1024x1024 .bf16) (p : FVec Ideal S16x1024 .bf16) (x2 : Vec Ideal S1x16x1024 .f32) (g : Vec Ideal S1x1024 .f32)

theorem ext_prev (c : Fin 1024) : k0_pay4 (BitVec.ofNat 32 (i 1).val) a p x2 g (ix2 ⟨15, by decide⟩ c) = p (ix2 ⟨15, by decide⟩ c) :=
  stack_first p a _ concatenates_S16x1024_S1024x1024_S16x1024_S1056x1024_d0 _ c ⟨15, by decide⟩ rfl

theorem ext_here (q c : Fin 1024) : k0_pay4 (BitVec.ofNat 32 (i 1).val) a p x2 g (ix2 ⟨16 + q.val, by omega⟩ c) = a (ix2 q c) :=
  stack_second p a _ concatenates_S16x1024_S1024x1024_S16x1024_S1056x1024_d0 _ c q rfl

theorem ext_next (c : Fin 1024) : k0_pay4 (BitVec.ofNat 32 (i 1).val) a p x2 g (ix2 ⟨1040, by decide⟩ c)
    = norm (fun k => x2 (ix3 0 0 k)) (rowOf g 0) c * flag (hasNext i) := by
  refine (stack_third p a _ concatenates_S16x1024_S1024x1024_S16x1024_S1056x1024_d0 _ c 0 rfl).trans ?_
  simp only [truncf_apply, shapeCast_self]
  refine (mulf_apply _ _ _).trans (congrArg₂ (· * ·) ((norm_rows (n := 16) (by decide) _ g _ _ _ _ _ _ 0 c).trans ?_) rfl)
  exact congrArg (fun f => norm f (rowOf g 0) c) (funext fun k => cast_drop1 x2 _ 0 k)

end Extended

/-! ## The convolution -/

theorem mm_ext (E : FVec Ideal S1056x1024 .bf16) (W : FVec Ideal S1024x512 .bf16) (r : Fin 1056) (c : Fin 512) :
    matmul dot_S1056x1024_S1024x512_S1056x512_1_0_0_1_n_n none E W (constant S1056x512 .f32 0x00000000#32) (ix2 r c)
      = dot (rowOf E r) (colOf W c) := matmul_rows _ rfl E W r c

/-- A strip of the convolution. -/
theorem conv_apply (E : FVec Ideal S1056x1024 .bf16) (W : Vec Ideal S1024x512 .bf16) (c0 c1 c2 c3 : Vec Ideal S1x512 .f32)
    (q : Fin 1024) (j : Fin 512) :
    k0_pay23 E W c0 c1 c2 c3 (ix2 q j) = taps (dot (rowOf E ⟨q.val + 15, by omega⟩) (colOf W j)) (dot (rowOf E ⟨16 + q.val, by omega⟩) (colOf W j))
      (dot (rowOf E ⟨q.val + 17, by omega⟩) (colOf W j)) (c0 (ix2 0 j)) (c1 (ix2 0 j)) (c2 (ix2 0 j)) (c3 (ix2 0 j)) := by
  unfold k0_pay23 taps
  simp only [shapeCast_self]
  have hM := fun r => mm_ext E W r j
  generalize matmul dot_S1056x1024_S1024x512_S1056x512_1_0_0_1_n_n none E W (constant S1056x512 .f32 0x00000000#32) = M at hM ⊢
  have hp := (slice2 16 0 (dynamicRotate 0 1#32 none M rotates_S1056x512_d0) slices_S1056x512_o16_0_S1024x512 q j ⟨16 + q.val, by omega⟩ j rfl (Nat.zero_add _).symm).trans
    (turnRows 1#32 M rotates_S1056x512_d0 ⟨16 + q.val, by omega⟩ ⟨q.val + 15, by omega⟩ j (by
      show q.val + 15 = (16 + q.val + 1056 - 1 % 1056) % 1056
      omega))
  have hn := (slice2 16 0 (dynamicRotate 0 1055#32 none M rotates_S1056x512_d0) slices_S1056x512_o16_0_S1024x512 q j ⟨16 + q.val, by omega⟩ j rfl (Nat.zero_add _).symm).trans
    (turnRows 1055#32 M rotates_S1056x512_d0 ⟨16 + q.val, by omega⟩ ⟨q.val + 17, by omega⟩ j (by
      show q.val + 17 = (16 + q.val + 1056 - 1055 % 1056) % 1056
      omega))
  have hc := slice2 16 0 M slices_S1056x512_o16_0_S1024x512 q j ⟨16 + q.val, by omega⟩ j rfl (Nat.zero_add _).symm
  simp only [addf_apply, mulf_apply, spread_row (show (512 : Nat) ≠ 1 by decide)]
  exact congrArg₂ (· + ·) (congrArg₂ (· + ·) (congrArg₂ (· + ·) (congrArg₂ (· * ·) (hp.trans (hM _)) rfl)
    (congrArg₂ (· * ·) (hc.trans (hM _)) rfl)) (congrArg₂ (· * ·) (hn.trans (hM _)) rfl)) rfl

/-- A slab of a strip. -/
theorem slab_apply (x : FVec Ideal S1024x512 .f32) (o : Nat) (h : S1024x512.Slices ![0, o] S1024x128) (hb : FTy.bits .bf16 < FTy.bits .f32)
    (hc : S1024x128.ShapeCasts S1x1x1024x128) (u v : Fin 1) (q : Fin 1024) (l : Fin 128) (j : Fin 512) (hj : j.val = o + l.val) :
    shapeCast S1x1x1024x128 (truncf .bf16 (extractStridedSlice S1024x128 ![0, o] x h) hb : FVec Ideal S1024x128 .bf16) hc (ix4 u v q l) = x (ix2 q j) :=
  (cast_add2 _ _ u v q l).trans (slice2 0 o x h q l q j (Nat.zero_add _).symm hj)

end Cert.TailBlock

end
-- ==== Proof.Tail.Heads.lean ====
/- The query, key, value and gate strips of the projection kernel, each read at an index: the rotary turn of a head
   spelt with the three tables, the slabs a head is spread into, the gates' sigmoid. -/
module

public import proofs.«01_k».proof.Proof.Tail.Block

@[expose] public section

noncomputable section

namespace Cert.TailBlock

open Cert.TailIdeal Cert.TailIdeal.Gen Cert.Layout Cert.ProjLayout Cert.MixRow Cert.ProjRow Idealize.ShloMosaic Idealize.ShloMosaic.ValueIdx

/-! ## The turn -/

/-- A strip of 128 lanes holds two heads; the neighbours eight lanes off, taken around the strip's end, are the head's
    own wherever their table is not zero. -/
theorem strip_turn (Y : Fin 128 → EReal) (co si : Fin 8 → EReal) (l a b : Fin 128) (c su sd : EReal)
    (hc : c = here co ⟨l.val % 64, by omega⟩) (hu : su = above si ⟨l.val % 64, by omega⟩) (hd : sd = below si ⟨l.val % 64, by omega⟩)
    (ha : a.val = (l.val + 8) % 128) (hb : b.val = (l.val + 120) % 128) :
    Y l * c + Y a * su + Y b * sd = turn (fun e => Y ⟨64 * (l.val / 64) + e.val, by omega⟩) co si ⟨l.val % 64, by omega⟩ := by
  subst hc hu hd
  refine Eq.trans ?_ (turn_tables (fun e => Y ⟨64 * (l.val / 64) + e.val, by omega⟩) co si ⟨l.val % 64, by omega⟩ (Y a) (Y b) ?_ ?_)
  · refine congrArg (fun z => Y z * here co ⟨l.val % 64, by omega⟩ + Y a * above si ⟨l.val % 64, by omega⟩ + Y b * below si ⟨l.val % 64, by omega⟩) (Fin.ext ?_)
    show l.val = 64 * (l.val / 64) + l.val % 64
    omega
  · intro h
    have h : l.val % 64 < 8 := h
    refine congrArg Y (Fin.ext ?_)
    show a.val = 64 * (l.val / 64) + (l.val % 64 + 8)
    omega
  · intro h
    have h : 8 ≤ l.val % 64 ∧ l.val % 64 < 16 := h
    refine congrArg Y (Fin.ext ?_)
    show b.val = 64 * (l.val / 64) + (l.val % 64 - 8)
    omega

/-- The turn of a strip as the body spells it. -/
abbrev turned (x c su sd : FVec Ideal S1024x128 .f32) : FVec Ideal S1024x128 .f32 :=
  addf (addf (mulf x c) (mulf (dynamicRotate 1 120#32 none x rotates_S1024x128_d1) su)) (mulf (dynamicRotate 1 8#32 none x rotates_S1024x128_d1) sd)

theorem turned_apply (x c su sd : FVec Ideal S1024x128 .f32) (Y : Fin 128 → EReal) (co si : Fin 8 → EReal) (q : Fin 1024) (l : Fin 128)
    (hx : ∀ l, x (ix2 q l) = Y l)
    (hc : c (ix2 q l) = here co ⟨l.val % 64, by omega⟩) (hu : su (ix2 q l) = above si ⟨l.val % 64, by omega⟩)
    (hd : sd (ix2 q l) = below si ⟨l.val % 64, by omega⟩) :
    turned x c su sd (ix2 q l) = turn (fun e => Y ⟨64 * (l.val / 64) + e.val, by omega⟩) co si ⟨l.val % 64, by omega⟩ := by
  refine Eq.trans ?_ (strip_turn Y co si l ⟨(l.val + 8) % 128, by omega⟩ ⟨(l.val + 120) % 128, by omega⟩ _ _ _ hc hu hd rfl rfl)
  have h1 := (turnLanes 120#32 x rotates_S1024x128_d1 q l ⟨(l.val + 8) % 128, by omega⟩ (by
    show (l.val + 8) % 128 = (l.val + 128 - 120 % 128) % 128
    omega)).trans (hx _)
  have h2 := (turnLanes 8#32 x rotates_S1024x128_d1 q l ⟨(l.val + 120) % 128, by omega⟩ (by
    show (l.val + 120) % 128 = (l.val + 128 - 8 % 128) % 128
    omega)).trans (hx _)
  exact congrArg₂ (· + ·) (congrArg₂ (· + ·) (congrArg₂ (· * ·) (hx l) rfl) (congrArg₂ (· * ·) h1 rfl)) (congrArg₂ (· * ·) h2 rfl)

/-- A strip of the projection's columns. -/
theorem strip_apply (Y : FVec Ideal S1024x768 .f32) (o : Nat) (h : S1024x768.Slices ![0, o] S1024x128) (ho : o + 128 ≤ 768) (q : Fin 1024) (l : Fin 128) :
    extractStridedSlice S1024x128 ![0, o] Y h (ix2 q l) = Y (ix2 q ⟨o + l.val, by omega⟩) :=
  slice2 0 o Y h q l q _ (Nat.zero_add _).symm rfl

/-! ## The slabs -/

theorem lower_lane : ∀ l : Fin 128, Scalar.cmpi .slt (BitVec.ofNat 32 l.val) 64#32 = if l.val < 64 then 1#1 else 0#1 := by
  decide +kernel

theorem mask_apply (a b : FVec Ideal S1024x128 .f32) (q : Fin 1024) (l : Fin 128) :
    select k0_pay38 a b (ix2 q l) = if l.val < 64 then a (ix2 q l) else b (ix2 q l) := by
  rw [select_apply]
  have e : k0_pay38 (ix2 q l) = if l.val < 64 then 1#1 else 0#1 := by
    show Scalar.cmpi .slt (iota .tc S1024x128 32 [1] iota_S1024x128_d1_w32 (ix2 q l)) 64#32 = _
    rw [iota_single_apply]
    exact lower_lane l
  rw [e]
  by_cases h : l.val < 64
  · rw [if_pos h, if_pos h]; rfl
  · rw [if_neg h, if_neg h]; rfl

theorem zero_bits : Ideal.ofBits .f32 0x00000000#32 = 0 := Ideal.ofBits_zero_f32

abbrev zeros : FVec Ideal S1024x128 .f32 := broadcast S1024x128 (Scalar.ofBits (F := Ideal) .f32 0x00000000#32)
abbrev swapped (R : FVec Ideal S1024x128 .f32) : FVec Ideal S1024x128 .f32 := dynamicRotate 1 64#32 none R rotates_S1024x128_d1

theorem zeros_apply (i : S1024x128.Idx) : zeros i = 0 := zero_bits

section Slabs

variable (R : FVec Ideal S1024x128 .f32) (x : Fin 2 → Fin 64 → EReal) (q : Fin 1024)
  (hR : ∀ l : Fin 128, R (ix2 q l) = x (half l) (place l)) (l : Fin 128)
include hR

theorem swapped_apply : swapped R (ix2 q l) = x ⟨1 - l.val / 64, by omega⟩ (place l) := by
  refine (turnLanes 64#32 R rotates_S1024x128_d1 q l ⟨(l.val + 64) % 128, by omega⟩ (by
    show (l.val + 64) % 128 = (l.val + 128 - 64 % 128) % 128
    omega)).trans ((hR _).trans (congrArg₂ x (Fin.ext ?_) (Fin.ext ?_)))
  · show (l.val + 64) % 128 / 64 = 1 - l.val / 64
    omega
  · show (l.val + 64) % 128 % 64 = l.val % 64
    omega

theorem slab0 : select k0_pay38 R zeros (ix2 q l) = slabLane x 0 l := by
  rw [mask_apply, zeros_apply, hR]
  unfold slabLane
  by_cases h : l.val < 64
  · rw [if_pos h, if_pos (show (0 : Fin 4).val % 2 = l.val / 64 by show 0 = l.val / 64; omega)]
    exact congrArg₂ x (Fin.ext (by show l.val / 64 = 0; omega)) rfl
  · rw [if_neg h, if_neg (show ¬(0 : Fin 4).val % 2 = l.val / 64 by show ¬0 = l.val / 64; omega)]

theorem slab1 : select k0_pay38 zeros (swapped R) (ix2 q l) = slabLane x 1 l := by
  rw [mask_apply, zeros_apply, swapped_apply R x q hR]
  unfold slabLane
  by_cases h : l.val < 64
  · rw [if_pos h, if_neg (show ¬(1 : Fin 4).val % 2 = l.val / 64 by show ¬1 = l.val / 64; omega)]
  · rw [if_neg h, if_pos (show (1 : Fin 4).val % 2 = l.val / 64 by show 1 = l.val / 64; omega)]
    exact congrArg₂ x (Fin.ext (by show 1 - l.val / 64 = 0; omega)) rfl

theorem slab2 : select k0_pay38 (swapped R) zeros (ix2 q l) = slabLane x 2 l := by
  rw [mask_apply, zeros_apply, swapped_apply R x q hR]
  unfold slabLane
  by_cases h : l.val < 64
  · rw [if_pos h, if_pos (show (2 : Fin 4).val % 2 = l.val / 64 by show 0 = l.val / 64; omega)]
    exact congrArg₂ x (Fin.ext (by show 1 - l.val / 64 = 1; omega)) rfl
  · rw [if_neg h, if_neg (show ¬(2 : Fin 4).val % 2 = l.val / 64 by show ¬0 = l.val / 64; omega)]

theorem slab3 : select k0_pay38 zeros R (ix2 q l) = slabLane x 3 l := by
  rw [mask_apply, zeros_apply, hR]
  unfold slabLane
  by_cases h : l.val < 64
  · rw [if_pos h, if_neg (show ¬(3 : Fin 4).val % 2 = l.val / 64 by show ¬1 = l.val / 64; omega)]
  · rw [if_neg h, if_pos (show (3 : Fin 4).val % 2 = l.val / 64 by show 1 = l.val / 64; omega)]
    exact congrArg₂ x (Fin.ext (by show l.val / 64 = 1; omega)) rfl

end Slabs

/-! ## The products -/

theorem mm_heads (a : FVec Ideal S1024x1024 .bf16) (W : FVec Ideal S1024x768 .bf16) (r : Fin 1024) (c : Fin 768) :
    matmul dot_S1024x1024_S1024x768_S1024x768_1_0_0_1_n_n none a W (constant S1024x768 .f32 0x00000000#32) (ix2 r c)
      = dot (rowOf a r) (colOf W c) := matmul_rows _ rfl a W r c

theorem mm_gates (a : FVec Ideal S1024x1024 .bf16) (W : FVec Ideal S1024x512 .bf16) (r : Fin 1024) (c : Fin 512) :
    matmul dot_S1024x1024_S1024x512_S1024x512_1_0_0_1_n_n none a W (constant S1024x512 .f32 0x00000000#32) (ix2 r c)
      = dot (rowOf a r) (colOf W c) := matmul_rows _ rfl a W r c

/-- The heads' columns of the projection. -/
theorem heads_apply (a : FVec Ideal S1024x1024 .bf16) (x4 : Vec Ideal S1024x4352 .bf16) (q : Fin 1024) (j : Fin 768) :
    k0_pay29 a (View.ld x4 r0_30) (ix2 q j) = dot (rowOf a q) (colOf x4 ⟨1536 + j.val, by omega⟩) := by
  unfold k0_pay29
  simp only [shapeCast_self]
  refine (mm_heads a _ q j).trans (congrArg (dot _) (funext fun k => ?_))
  exact ld2 0 1536 x4 _ k j k ⟨1536 + j.val, by omega⟩ (Nat.zero_add _).symm rfl

/-- A strip of the gates. -/
theorem gate_apply (a : FVec Ideal S1024x1024 .bf16) (x4 : Vec Ideal S1024x4352 .bf16) (o : Nat) (ho : o + 512 ≤ 4352)
    (inb : ∀ i, (![0, o] : Fin 2 → Nat) i + S1024x512.size i ≤ S1024x4352.size i) (u : Fin 1) (q : Fin 1024) (j : Fin 512) :
    k0_pay57 a (View.ld x4 (Rect.unit (s := S1024x4352) ![0, o] S1024x512.size inb)) (ix3 u q j)
      = Ideal.logistic (dot (rowOf a q) (colOf x4 ⟨o + j.val, by omega⟩)) := by
  unfold k0_pay57
  simp only [shapeCast_self]
  refine (cast_add1 _ _ u q j).trans (congrArg Ideal.logistic ?_)
  refine (mm_gates a _ q j).trans (congrArg (dot _) (funext fun k => ?_))
  exact ld2 0 o x4 _ k j k ⟨o + j.val, by omega⟩ (Nat.zero_add _).symm rfl

end Cert.TailBlock

end
-- ==== Proof.Tail.Leaves.lean ====
/- What the projection kernel's body leaves in each of its five output blocks, at every place, from its loaded blocks. -/
module

public import proofs.«01_k».proof.Proof.Tail.Heads

@[expose] public section

noncomputable section

namespace Cert.TailBlock

open Cert.TailIdeal Cert.TailIdeal.Gen Cert.Layout Cert.ProjLayout Cert.MixRow Cert.ProjRow Idealize.ShloMosaic Idealize.ShloMosaic.ValueIdx

/-! ## Placing a piece -/

/-- A slab of a block. -/
theorem at_slab {n : Nat} (s : Nat) (hs : s < n)
    (inb : ∀ a, (![0, s, 0, 0] : Fin 4 → Nat) a + S1x1x1024x128.size a ≤ (⟨4, ![1, n, 1024, 128]⟩ : Shape).size a)
    (P : S1x1x1024x128.Idx → EReal) (G : Fin n → Fin 1024 → Fin 128 → EReal) (hP : ∀ u v q l, P (ix4 u v q l) = G ⟨s, hs⟩ q l)
    (y : S1x1x1024x128.Idx) :
    P y = (fun z : (⟨4, ![1, n, 1024, 128]⟩ : Shape).Idx => G (z 1) (z 2) (z 3))
      ((Rect.unit (s := ⟨4, ![1, n, 1024, 128]⟩) ![0, s, 0, 0] S1x1x1024x128.size inb).emb y) := by
  refine (congrArg P (eq_ix4 y)).trans ((hP _ _ _ _).trans ?_)
  have h1 : (y 1).val < 1 := (y 1).isLt
  have e1 : (⟨s, hs⟩ : Fin n) = (Rect.unit (s := ⟨4, ![1, n, 1024, 128]⟩) ![0, s, 0, 0] S1x1x1024x128.size inb).emb y 1 :=
    Fin.ext (by rw [Rect.emb_apply]; show s = s + 1 * (y 1).val; omega)
  have e2 : (y 2 : Fin 1024) = (Rect.unit (s := ⟨4, ![1, n, 1024, 128]⟩) ![0, s, 0, 0] S1x1x1024x128.size inb).emb y 2 :=
    Fin.ext (by rw [Rect.emb_apply]; show (y 2).val = 0 + 1 * (y 2).val; omega)
  have e3 : (y 3 : Fin 128) = (Rect.unit (s := ⟨4, ![1, n, 1024, 128]⟩) ![0, s, 0, 0] S1x1x1024x128.size inb).emb y 3 :=
    Fin.ext (by rw [Rect.emb_apply]; show (y 3).val = 0 + 1 * (y 3).val; omega)
  exact (congrArg (fun z => G z _ _) e1).trans ((congrArg (fun z => G _ z _) e2).trans (congrArg (fun z => G _ _ z) e3))

/-- A strip of columns of a block. -/
theorem at_strip {w W : Nat} (o : Nat) (ho : o + w ≤ W)
    (inb : ∀ a, (![0, 0, o] : Fin 3 → Nat) a + (⟨3, ![1, 1024, w]⟩ : Shape).size a ≤ (⟨3, ![1, 1024, W]⟩ : Shape).size a)
    (P : (⟨3, ![1, 1024, w]⟩ : Shape).Idx → EReal) (G : Fin 1024 → Fin W → EReal) (hP : ∀ u q l, P (ix3 u q l) = G q ⟨o + l.val, by omega⟩)
    (y : (⟨3, ![1, 1024, w]⟩ : Shape).Idx) :
    P y = (fun z : (⟨3, ![1, 1024, W]⟩ : Shape).Idx => G (z 1) (z 2))
      ((Rect.unit (s := ⟨3, ![1, 1024, W]⟩) ![0, 0, o] (⟨3, ![1, 1024, w]⟩ : Shape).size inb).emb y) := by
  refine (congrArg P (eq_ix3 y)).trans ((hP _ _ _).trans ?_)
  have e1 : (y 1 : Fin 1024) = (Rect.unit (s := ⟨3, ![1, 1024, W]⟩) ![0, 0, o] (⟨3, ![1, 1024, w]⟩ : Shape).size inb).emb y 1 :=
    Fin.ext (by rw [Rect.emb_apply]; show (y 1).val = 0 + 1 * (y 1).val; omega)
  have e2 : (⟨o + (y 2).val, by have h : (y 2).val < w := (y 2).isLt; omega⟩ : Fin W) = (Rect.unit (s := ⟨3, ![1, 1024, W]⟩) ![0, 0, o] (⟨3, ![1, 1024, w]⟩ : Shape).size inb).emb y 2 :=
    Fin.ext (by rw [Rect.emb_apply]; show o + (y 2).val = o + 1 * (y 2).val; omega)
  exact (congrArg (fun z => G z _) e1).trans (congrArg (fun z => G _ z) e2)

section Block

variable (i : grid0.Coords) (x0 : Vec Ideal S1x1024x1024 .f32) (x1 x2 : Vec Ideal S1x16x1024 .f32) (x3 : Vec Ideal S1x1024 .f32)
  (x4 : Vec Ideal S1024x4352 .bf16) (x5 : Vec Ideal S8x1536 .f32) (x6 x7 x8 : Vec Ideal S1024x128 .f32)

/-- The normed row of the block's token, of the token before it, and of the token after it. -/
def own (q : Fin 1024) : Fin 1024 → EReal := norm (fun k => x0 (ix3 0 q k)) (rowOf x3 0)
def prior (q : Fin 1024) : Fin 1024 → EReal :=
  if h : q.val = 0 then fun c => norm (fun k => x1 (ix3 0 ⟨15, by decide⟩ k)) (rowOf x3 0) c * flag (hasPrev i)
  else own x0 x3 ⟨q.val - 1, by omega⟩
def later (q : Fin 1024) : Fin 1024 → EReal :=
  if h : q.val = 1023 then fun c => norm (fun k => x2 (ix3 0 0 k)) (rowOf x3 0) c * flag (hasNext i)
  else own x0 x3 ⟨q.val + 1, by omega⟩

theorem own_row (q : Fin 1024) : rowOf (k0_pay60 i x0 x1 x2 x3 x4 x5 x6 x7 x8) q = own x0 x3 q := by
  funext c
  unfold rowOf k0_pay60
  rw [ld_r0_0, ld_r0_1]
  exact pay2_row x0 x3 q c

abbrev ext : FVec Ideal S1056x1024 .bf16 := k0_pay62 i x0 x1 x2 x3 x4 x5 x6 x7 x8

theorem ext_own (q : Fin 1024) : rowOf (ext i x0 x1 x2 x3 x4 x5 x6 x7 x8) ⟨16 + q.val, by omega⟩ = own x0 x3 q := by
  funext c
  exact (ext_here i _ _ _ _ q c).trans (congrFun (own_row i x0 x1 x2 x3 x4 x5 x6 x7 x8 q) c)

theorem ext_prior (q : Fin 1024) : rowOf (ext i x0 x1 x2 x3 x4 x5 x6 x7 x8) ⟨q.val + 15, by omega⟩ = prior i x0 x1 x3 q := by
  unfold prior
  by_cases h : q.val = 0
  · rw [dif_pos h]
    funext c
    have e : (⟨q.val + 15, by omega⟩ : Fin 1056) = ⟨15, by decide⟩ := Fin.ext (by show q.val + 15 = 15; omega)
    rw [e]
    refine (ext_prev i _ _ _ _ c).trans ?_
    unfold k0_pay61
    rw [ld_r0_1, ld_r0_2]
    exact pay3_row i x1 x3 ⟨15, by decide⟩ c
  · rw [dif_neg h]
    have e : (⟨q.val + 15, by omega⟩ : Fin 1056) = ⟨16 + (⟨q.val - 1, by omega⟩ : Fin 1024).val, by show 16 + (q.val - 1) < 1056; omega⟩ :=
      Fin.ext (by show q.val + 15 = 16 + (q.val - 1); omega)
    rw [e]
    exact ext_own i x0 x1 x2 x3 x4 x5 x6 x7 x8 ⟨q.val - 1, by omega⟩

theorem ext_later (q : Fin 1024) : rowOf (ext i x0 x1 x2 x3 x4 x5 x6 x7 x8) ⟨q.val + 17, by omega⟩ = later i x0 x2 x3 q := by
  unfold later
  by_cases h : q.val = 1023
  · rw [dif_pos h]
    funext c
    have e : (⟨q.val + 17, by omega⟩ : Fin 1056) = ⟨1040, by decide⟩ := Fin.ext (by show q.val + 17 = 1040; omega)
    rw [e]
    unfold ext k0_pay62
    rw [ld_r0_1, ld_r0_2]
    exact ext_next i _ _ x2 x3 c
  · rw [dif_neg h]
    have e : (⟨q.val + 17, by omega⟩ : Fin 1056) = ⟨16 + (⟨q.val + 1, by omega⟩ : Fin 1024).val, by show 16 + (q.val + 1) < 1056; omega⟩ :=
      Fin.ext (by show q.val + 17 = 16 + (q.val + 1); omega)
    rw [e]
    exact ext_own i x0 x1 x2 x3 x4 x5 x6 x7 x8 ⟨q.val + 1, by omega⟩

/-! ## The convolved columns -/

/-- Column `j` of the convolved projection at a token of the block. -/
def convAt (q : Fin 1024) (j : Fin 1536) : EReal :=
  taps (dot (prior i x0 x1 x3 q) (colOf x4 ⟨j.val, by omega⟩)) (dot (own x0 x3 q) (colOf x4 ⟨j.val, by omega⟩)) (dot (later i x0 x2 x3 q) (colOf x4 ⟨j.val, by omega⟩))
    (x5 (ix2 0 j)) (x5 (ix2 1 j)) (x5 (ix2 2 j)) (x5 (ix2 3 j))

theorem conv_strip (o : Nat) (ho : o + 512 ≤ 1536)
    (iw : ∀ a, (![0, o] : Fin 2 → Nat) a + S1024x512.size a ≤ S1024x4352.size a)
    (i0 : ∀ a, (![0, o] : Fin 2 → Nat) a + S1x512.size a ≤ S8x1536.size a) (i1 : ∀ a, (![1, o] : Fin 2 → Nat) a + S1x512.size a ≤ S8x1536.size a)
    (i2 : ∀ a, (![2, o] : Fin 2 → Nat) a + S1x512.size a ≤ S8x1536.size a) (i3 : ∀ a, (![3, o] : Fin 2 → Nat) a + S1x512.size a ≤ S8x1536.size a)
    (q : Fin 1024) (j : Fin 512) :
    k0_pay23 (ext i x0 x1 x2 x3 x4 x5 x6 x7 x8) (View.ld x4 (Rect.unit (s := S1024x4352) ![0, o] S1024x512.size iw)) (View.ld x5 (Rect.unit (s := S8x1536) ![0, o] S1x512.size i0))
        (View.ld x5 (Rect.unit (s := S8x1536) ![1, o] S1x512.size i1)) (View.ld x5 (Rect.unit (s := S8x1536) ![2, o] S1x512.size i2))
        (View.ld x5 (Rect.unit (s := S8x1536) ![3, o] S1x512.size i3)) (ix2 q j)
      = convAt i x0 x1 x2 x3 x4 x5 q ⟨o + j.val, by omega⟩ := by
  refine (conv_apply _ _ _ _ _ _ q j).trans ?_
  have hw : colOf (View.ld x4 (Rect.unit (s := S1024x4352) ![0, o] S1024x512.size iw)) j = colOf x4 ⟨o + j.val, by omega⟩ :=
    funext fun k => ld2 0 o x4 _ k j k ⟨o + j.val, by omega⟩ (Nat.zero_add _).symm rfl
  have h0 := ld2 0 o x5 i0 (0 : Fin 1) j 0 ⟨o + j.val, by omega⟩ rfl rfl
  have h1 := ld2 1 o x5 i1 (0 : Fin 1) j 1 ⟨o + j.val, by omega⟩ rfl rfl
  have h2 := ld2 2 o x5 i2 (0 : Fin 1) j 2 ⟨o + j.val, by omega⟩ rfl rfl
  have h3 := ld2 3 o x5 i3 (0 : Fin 1) j 3 ⟨o + j.val, by omega⟩ rfl rfl
  rw [ext_own, ext_prior, ext_later]
  unfold convAt
  exact congr (congr (congr (congr (congr (congr (congrArg taps (congrArg (dot _) hw)) (congrArg (dot _) hw)) (congrArg (dot _) hw)) h0) h1) h2) h3

/-- Slab `4 * p + r` of the convolved columns, from strip `p`. -/
theorem conv_slab (x : FVec Ideal S1024x512 .f32) (p o : Nat) (hp : p + 512 ≤ 1536) (ho : o + 128 ≤ 512)
    (hx : ∀ q j, x (ix2 q j) = convAt i x0 x1 x2 x3 x4 x5 q ⟨p + j.val, by omega⟩)
    (h : S1024x512.Slices ![0, o] S1024x128) (hb : FTy.bits .bf16 < FTy.bits .f32) (hc : S1024x128.ShapeCasts S1x1x1024x128)
    (s : Nat) (hs : s < 12) (e : 128 * s = p + o) (u v : Fin 1) (q : Fin 1024) (l : Fin 128) :
    shapeCast S1x1x1024x128 (truncf .bf16 (extractStridedSlice S1024x128 ![0, o] x h) hb : FVec Ideal S1024x128 .bf16) hc (ix4 u v q l)
      = convAt i x0 x1 x2 x3 x4 x5 q ⟨128 * s + l.val, by omega⟩ :=
  (slab_apply x o h hb hc u v q l ⟨o + l.val, by omega⟩ rfl).trans ((hx q _).trans (congrArg (convAt i x0 x1 x2 x3 x4 x5 q) (Fin.ext (by
    show p + (o + l.val) = 128 * s + l.val
    omega))))

/-- What the body leaves in the convolved columns' block. -/
theorem block9 (s : Fin 12) (q : Fin 1024) (l : Fin 128) :
    out0_9 i x0 x1 x2 x3 x4 x5 x6 x7 x8 (ix4 0 s q l) = convAt i x0 x1 x2 x3 x4 x5 q ⟨128 * s.val + l.val, by omega⟩ := by
  refine (View.canon_apply_of_pieces (Val := Elt Ideal) (e := .bf16)
    (fun z : S1x12x1024x128.Idx => (fun (s : Fin 12) (q : Fin 1024) (l : Fin 128) => convAt i x0 x1 x2 x3 x4 x5 q ⟨128 * s.val + l.val, by omega⟩) (z 1) (z 2) (z 3)) _ ?_
    (ix4 0 s q l) (cover0_9 _ _ _ _ _ _ _ _ _ _ _ _ _))
  intro p hp
  have c0 := conv_strip i x0 x1 x2 x3 x4 x5 x6 x7 x8 0 (by decide) inb_S1024x4352_S1024x512_0_0 inb_S8x1536_S1x512_0_0 inb_S8x1536_S1x512_1_0 inb_S8x1536_S1x512_2_0 inb_S8x1536_S1x512_3_0
  have c1 := conv_strip i x0 x1 x2 x3 x4 x5 x6 x7 x8 512 (by decide) inb_S1024x4352_S1024x512_0_512 inb_S8x1536_S1x512_0_512 inb_S8x1536_S1x512_1_512 inb_S8x1536_S1x512_2_512 inb_S8x1536_S1x512_3_512
  have c2 := conv_strip i x0 x1 x2 x3 x4 x5 x6 x7 x8 1024 (by decide) inb_S1024x4352_S1024x512_0_1024 inb_S8x1536_S1x512_0_1024 inb_S8x1536_S1x512_1_1024 inb_S8x1536_S1x512_2_1024 inb_S8x1536_S1x512_3_1024
  simp only [List.mem_cons, List.not_mem_nil, or_false] at hp
  rcases hp with rfl | rfl | rfl | rfl | rfl | rfl | rfl | rfl | rfl | rfl | rfl | rfl
  · exact at_slab (n := 12) 11 (by decide) inb_S1x12x1024x128_S1x1x1024x128_0_11_0_0 _ (fun s q l => convAt i x0 x1 x2 x3 x4 x5 q ⟨128 * s.val + l.val, by omega⟩) fun u v q l => conv_slab i x0 x1 x2 x3 x4 x5 _ 1024 384 (by decide) (by decide) c2 _ _ _ 11 (by decide) rfl u v q l
  · exact at_slab (n := 12) 10 (by decide) inb_S1x12x1024x128_S1x1x1024x128_0_10_0_0 _ (fun s q l => convAt i x0 x1 x2 x3 x4 x5 q ⟨128 * s.val + l.val, by omega⟩) fun u v q l => conv_slab i x0 x1 x2 x3 x4 x5 _ 1024 256 (by decide) (by decide) c2 _ _ _ 10 (by decide) rfl u v q l
  · exact at_slab (n := 12) 9 (by decide) inb_S1x12x1024x128_S1x1x1024x128_0_9_0_0 _ (fun s q l => convAt i x0 x1 x2 x3 x4 x5 q ⟨128 * s.val + l.val, by omega⟩) fun u v q l => conv_slab i x0 x1 x2 x3 x4 x5 _ 1024 128 (by decide) (by decide) c2 _ _ _ 9 (by decide) rfl u v q l
  · exact at_slab (n := 12) 8 (by decide) inb_S1x12x1024x128_S1x1x1024x128_0_8_0_0 _ (fun s q l => convAt i x0 x1 x2 x3 x4 x5 q ⟨128 * s.val + l.val, by omega⟩) fun u v q l => conv_slab i x0 x1 x2 x3 x4 x5 _ 1024 0 (by decide) (by decide) c2 _ _ _ 8 (by decide) rfl u v q l
  · exact at_slab (n := 12) 7 (by decide) inb_S1x12x1024x128_S1x1x1024x128_0_7_0_0 _ (fun s q l => convAt i x0 x1 x2 x3 x4 x5 q ⟨128 * s.val + l.val, by omega⟩) fun u v q l => conv_slab i x0 x1 x2 x3 x4 x5 _ 512 384 (by decide) (by decide) c1 _ _ _ 7 (by decide) rfl u v q l
  · exact at_slab (n := 12) 6 (by decide) inb_S1x12x1024x128_S1x1x1024x128_0_6_0_0 _ (fun s q l => convAt i x0 x1 x2 x3 x4 x5 q ⟨128 * s.val + l.val, by omega⟩) fun u v q l => conv_slab i x0 x1 x2 x3 x4 x5 _ 512 256 (by decide) (by decide) c1 _ _ _ 6 (by decide) rfl u v q l
  · exact at_slab (n := 12) 5 (by decide) inb_S1x12x1024x128_S1x1x1024x128_0_5_0_0 _ (fun s q l => convAt i x0 x1 x2 x3 x4 x5 q ⟨128 * s.val + l.val, by omega⟩) fun u v q l => conv_slab i x0 x1 x2 x3 x4 x5 _ 512 128 (by decide) (by decide) c1 _ _ _ 5 (by decide) rfl u v q l
  · exact at_slab (n := 12) 4 (by decide) inb_S1x12x1024x128_S1x1x1024x128_0_4_0_0 _ (fun s q l => convAt i x0 x1 x2 x3 x4 x5 q ⟨128 * s.val + l.val, by omega⟩) fun u v q l => conv_slab i x0 x1 x2 x3 x4 x5 _ 512 0 (by decide) (by decide) c1 _ _ _ 4 (by decide) rfl u v q l
  · exact at_slab (n := 12) 3 (by decide) inb_S1x12x1024x128_S1x1x1024x128_0_3_0_0 _ (fun s q l => convAt i x0 x1 x2 x3 x4 x5 q ⟨128 * s.val + l.val, by omega⟩) fun u v q l => conv_slab i x0 x1 x2 x3 x4 x5 _ 0 384 (by decide) (by decide) c0 _ _ _ 3 (by decide) rfl u v q l
  · exact at_slab (n := 12) 2 (by decide) inb_S1x12x1024x128_S1x1x1024x128_0_2_0_0 _ (fun s q l => convAt i x0 x1 x2 x3 x4 x5 q ⟨128 * s.val + l.val, by omega⟩) fun u v q l => conv_slab i x0 x1 x2 x3 x4 x5 _ 0 256 (by decide) (by decide) c0 _ _ _ 2 (by decide) rfl u v q l
  · exact at_slab (n := 12) 1 (by decide) inb_S1x12x1024x128_S1x1x1024x128_0_1_0_0 _ (fun s q l => convAt i x0 x1 x2 x3 x4 x5 q ⟨128 * s.val + l.val, by omega⟩) fun u v q l => conv_slab i x0 x1 x2 x3 x4 x5 _ 0 128 (by decide) (by decide) c0 _ _ _ 1 (by decide) rfl u v q l
  · exact at_slab (n := 12) 0 (by decide) inb_S1x12x1024x128_S1x1x1024x128_0_0_0_0 _ (fun s q l => convAt i x0 x1 x2 x3 x4 x5 q ⟨128 * s.val + l.val, by omega⟩) fun u v q l => conv_slab i x0 x1 x2 x3 x4 x5 _ 0 0 (by decide) (by decide) c0 _ _ _ 0 (by decide) rfl u v q l

/-! ## The heads -/

variable (co si : Fin 1024 → Fin 8 → EReal)

/-- Lane `e` of a head whose columns start at `o`, before the turn. -/
def lane (o : Nat) (ho : o + 64 ≤ 4352) (q : Fin 1024) (e : Fin 64) : EReal := dot (own x0 x3 q) (colOf x4 ⟨o + e.val, by omega⟩)

/-- Lane `j` of the queries, turned and scaled. -/
def queryAt (q : Fin 1024) (j : Fin 512) : EReal :=
  turn (lane x0 x3 x4 (1536 + 64 * (j.val / 64)) (by omega) q) (co q) (si q) ⟨j.val % 64, by omega⟩ * Ideal.ofBits .f32 0x3E38AA3B#32

/-- The two heads of keys, turned, and of values. -/
def keyAt (q : Fin 1024) (h : Fin 2) (e : Fin 64) : EReal := turn (lane x0 x3 x4 (2048 + 64 * h.val) (by omega) q) (co q) (si q) e
def valueAt (q : Fin 1024) (h : Fin 2) (e : Fin 64) : EReal := lane x0 x3 x4 (2176 + 64 * h.val) (by omega) q e

theorem cols (q : Fin 1024) (j : Fin 768) :
    k0_pay70 i x0 x1 x2 x3 x4 x5 x6 x7 x8 (ix2 q j) = dot (own x0 x3 q) (colOf x4 ⟨1536 + j.val, by omega⟩) :=
  (heads_apply _ x4 q j).trans (congrArg (fun r => dot r _) (own_row i x0 x1 x2 x3 x4 x5 x6 x7 x8 q))

section Turned

variable (hc : ∀ (q : Fin 1024) (l : Fin 128), x6 (ix2 q l) = here (co q) (place l))
  (hu : ∀ (q : Fin 1024) (l : Fin 128), x7 (ix2 q l) = above (si q) (place l))
  (hd : ∀ (q : Fin 1024) (l : Fin 128), x8 (ix2 q l) = below (si q) (place l))
include hc hu hd

theorem strip_turned (o : Nat) (h : S1024x768.Slices ![0, o] S1024x128) (ho : o + 128 ≤ 768) (q : Fin 1024) (l : Fin 128) :
    turned (extractStridedSlice S1024x128 ![0, o] (k0_pay70 i x0 x1 x2 x3 x4 x5 x6 x7 x8) h) x6 x7 x8 (ix2 q l)
      = turn (lane x0 x3 x4 (1536 + o + 64 * (l.val / 64)) (by omega) q) (co q) (si q) ⟨l.val % 64, by omega⟩ := by
  refine (turned_apply _ x6 x7 x8 (fun l => dot (own x0 x3 q) (colOf x4 ⟨1536 + (o + l.val), by omega⟩)) (co q) (si q) q l
    (fun l => (strip_apply _ o h ho q l).trans (cols i x0 x1 x2 x3 x4 x5 x6 x7 x8 q _)) (hc q l) (hu q l) (hd q l)).trans ?_
  refine congrArg (fun f => turn f (co q) (si q) _) (funext fun e => ?_)
  unfold lane
  refine congrArg (fun z => dot (own x0 x3 q) (colOf x4 z)) (Fin.ext ?_)
  show 1536 + (o + (64 * (l.val / 64) + e.val)) = 1536 + o + 64 * (l.val / 64) + e.val
  omega

theorem query_strip (o : Nat) (h : S1024x768.Slices ![0, o] S1024x128) (ho : o + 128 ≤ 512) (h64 : o % 64 = 0) (hb : FTy.bits .bf16 < FTy.bits .f32)
    (hs : S1024x128.ShapeCasts S1x1024x128) (u : Fin 1) (q : Fin 1024) (l : Fin 128) :
    shapeCast S1x1024x128 (truncf .bf16 (mulf (turned (extractStridedSlice S1024x128 ![0, o] (k0_pay70 i x0 x1 x2 x3 x4 x5 x6 x7 x8) h) x6 x7 x8)
        (broadcast S1024x128 (Scalar.ofBits (F := Ideal) .f32 0x3E38AA3B#32))) hb : FVec Ideal S1024x128 .bf16) hs (ix3 u q l)
      = queryAt x0 x3 x4 co si q ⟨o + l.val, by omega⟩ := by
  refine (cast_add1 _ _ u q l).trans ?_
  unfold queryAt
  refine congrArg (· * Ideal.ofBits .f32 0x3E38AA3B#32) ((strip_turned i x0 x1 x2 x3 x4 x5 x6 x7 x8 co si hc hu hd o h (by omega) q l).trans ?_)
  have e1 : (⟨(o + l.val) % 64, by omega⟩ : Fin 64) = ⟨l.val % 64, by omega⟩ := Fin.ext (by show (o + l.val) % 64 = l.val % 64; omega)
  show _ = turn (lane x0 x3 x4 (1536 + 64 * ((o + l.val) / 64)) _ q) (co q) (si q) ⟨(o + l.val) % 64, _⟩
  rw [e1]
  refine congrArg (fun f => turn f (co q) (si q) _) (funext fun e => ?_)
  unfold lane
  refine congrArg (fun z => dot (own x0 x3 q) (colOf x4 z)) (Fin.ext ?_)
  show 1536 + o + 64 * (l.val / 64) + e.val = 1536 + 64 * ((o + l.val) / 64) + e.val
  omega

/-- What the body leaves in the queries' block. -/
theorem block10 (q : Fin 1024) (j : Fin 512) :
    out0_10 i x0 x1 x2 x3 x4 x5 x6 x7 x8 (ix3 0 q j) = queryAt x0 x3 x4 co si q j := by
  refine (View.canon_apply_of_pieces (Val := Elt Ideal) (e := .bf16)
    (fun z : S1x1024x512.Idx => queryAt x0 x3 x4 co si (z 1) (z 2)) _ ?_ (ix3 0 q j) (cover0_10 _ _ _ _ _))
  intro p hp
  have hq := query_strip i x0 x1 x2 x3 x4 x5 x6 x7 x8 co si hc hu hd
  simp only [List.mem_cons, List.not_mem_nil, or_false] at hp
  rcases hp with rfl | rfl | rfl | rfl
  · refine at_strip (w := 128) (W := 512) 384 (by decide) inb_S1x1024x512_S1x1024x128_0_0_384 _ (queryAt x0 x3 x4 co si) fun u q l => ?_
    unfold k0_pay37
    simp only [shapeCast_self, ld_r0_31]
    exact hq 384 _ (by decide) rfl _ _ u q l
  · refine at_strip (w := 128) (W := 512) 256 (by decide) inb_S1x1024x512_S1x1024x128_0_0_256 _ (queryAt x0 x3 x4 co si) fun u q l => ?_
    unfold k0_pay36 k0_pay35 k0_pay34 k0_pay33
    simp only [shapeCast_self, ld_r0_31]
    exact hq 256 _ (by decide) rfl _ _ u q l
  · refine at_strip (w := 128) (W := 512) 128 (by decide) inb_S1x1024x512_S1x1024x128_0_0_128 _ (queryAt x0 x3 x4 co si) fun u q l => ?_
    unfold k0_pay32
    simp only [shapeCast_self, ld_r0_31]
    exact hq 128 _ (by decide) rfl _ _ u q l
  · refine at_strip (w := 128) (W := 512) 0 (by decide) inb_S1x1024x512_S1x1024x128_0_0_0 _ (queryAt x0 x3 x4 co si) fun u q l => ?_
    unfold k0_pay31 k0_pay30
    simp only [shapeCast_self, ld_r0_31]
    exact hq 0 _ (by decide) rfl _ _ u q l

/-- The turned keys as the body spells them. -/
theorem keys_apply (q : Fin 1024) (l : Fin 128) :
    k0_pay42 (k0_pay72 i x0 x1 x2 x3 x4 x5 x6 x7 x8) (k0_pay73 i x0 x1 x2 x3 x4 x5 x6 x7 x8) (k0_pay74 i x0 x1 x2 x3 x4 x5 x6 x7 x8)
        (View.ld x7 r0_31) (View.ld x8 r0_31) (ix2 q l)
      = keyAt x0 x3 x4 co si q ⟨l.val / 64, by omega⟩ ⟨l.val % 64, by omega⟩ := by
  unfold k0_pay42 k0_pay72 k0_pay73 k0_pay74 k0_pay41 k0_pay40 k0_pay39
  simp only [shapeCast_self, ld_r0_31]
  exact strip_turned i x0 x1 x2 x3 x4 x5 x6 x7 x8 co si hc hu hd 512 _ (by decide) q l

/-- What the body leaves in the keys' block. -/
theorem block11 (s : Fin 4) (q : Fin 1024) (l : Fin 128) :
    out0_11 i x0 x1 x2 x3 x4 x5 x6 x7 x8 (ix4 0 s q l) = slabLane (keyAt x0 x3 x4 co si q) s l := by
  refine (View.canon_apply_of_pieces (Val := Elt Ideal) (e := .bf16)
    (fun z : S1x4x1024x128.Idx => (fun (s : Fin 4) (q : Fin 1024) (l : Fin 128) => slabLane (keyAt x0 x3 x4 co si q) s l) (z 1) (z 2) (z 3)) _ ?_
    (ix4 0 s q l) (cover0_11 _ _ _ _ _))
  intro p hp
  have hk := keys_apply i x0 x1 x2 x3 x4 x5 x6 x7 x8 co si hc hu hd
  simp only [List.mem_cons, List.not_mem_nil, or_false] at hp
  rcases hp with rfl | rfl | rfl | rfl
  · exact at_slab (n := 4) 3 (by decide) inb_S1x4x1024x128_S1x1x1024x128_0_3_0_0 _ (fun s q l => slabLane (keyAt x0 x3 x4 co si q) s l) fun u v q l =>
      (cast_add2 _ _ u v q l).trans (slab3 _ (keyAt x0 x3 x4 co si q) q (hk q) l)
  · exact at_slab (n := 4) 2 (by decide) inb_S1x4x1024x128_S1x1x1024x128_0_2_0_0 _ (fun s q l => slabLane (keyAt x0 x3 x4 co si q) s l) fun u v q l =>
      (cast_add2 _ _ u v q l).trans (slab2 _ (keyAt x0 x3 x4 co si q) q (hk q) l)
  · exact at_slab (n := 4) 1 (by decide) inb_S1x4x1024x128_S1x1x1024x128_0_1_0_0 _ (fun s q l => slabLane (keyAt x0 x3 x4 co si q) s l) fun u v q l =>
      (cast_add2 _ _ u v q l).trans (slab1 _ (keyAt x0 x3 x4 co si q) q (hk q) l)
  · exact at_slab (n := 4) 0 (by decide) inb_S1x4x1024x128_S1x1x1024x128_0_0_0_0 _ (fun s q l => slabLane (keyAt x0 x3 x4 co si q) s l) fun u v q l =>
      (cast_add2 _ _ u v q l).trans (slab0 _ (keyAt x0 x3 x4 co si q) q (hk q) l)

end Turned

theorem values_apply (q : Fin 1024) (l : Fin 128) :
    k0_pay75 i x0 x1 x2 x3 x4 x5 x6 x7 x8 (ix2 q l) = valueAt x0 x3 x4 q ⟨l.val / 64, by omega⟩ ⟨l.val % 64, by omega⟩ := by
  unfold k0_pay75 k0_pay43 valueAt lane
  refine (strip_apply _ 640 _ (by decide) q l).trans ((cols i x0 x1 x2 x3 x4 x5 x6 x7 x8 q _).trans ?_)
  refine congrArg (fun z => dot (own x0 x3 q) (colOf x4 z)) (Fin.ext ?_)
  show 1536 + (640 + l.val) = 2176 + 64 * (l.val / 64) + l.val % 64
  omega

/-- What the body leaves in the values' block. -/
theorem block12 (s : Fin 4) (q : Fin 1024) (l : Fin 128) :
    out0_12 i x0 x1 x2 x3 x4 x5 x6 x7 x8 (ix4 0 s q l) = slabLane (valueAt x0 x3 x4 q) s l := by
  refine (View.canon_apply_of_pieces (Val := Elt Ideal) (e := .bf16)
    (fun z : S1x4x1024x128.Idx => (fun (s : Fin 4) (q : Fin 1024) (l : Fin 128) => slabLane (valueAt x0 x3 x4 q) s l) (z 1) (z 2) (z 3)) _ ?_
    (ix4 0 s q l) (cover0_12 _ _ _ _ _))
  intro p hp
  have hv := values_apply i x0 x1 x2 x3 x4 x5 x6 x7 x8
  simp only [List.mem_cons, List.not_mem_nil, or_false] at hp
  rcases hp with rfl | rfl | rfl | rfl
  · exact at_slab (n := 4) 3 (by decide) inb_S1x4x1024x128_S1x1x1024x128_0_3_0_0 _ (fun s q l => slabLane (valueAt x0 x3 x4 q) s l) fun u v q l =>
      (cast_add2 _ _ u v q l).trans (slab3 _ (valueAt x0 x3 x4 q) q (hv q) l)
  · exact at_slab (n := 4) 2 (by decide) inb_S1x4x1024x128_S1x1x1024x128_0_2_0_0 _ (fun s q l => slabLane (valueAt x0 x3 x4 q) s l) fun u v q l =>
      (cast_add2 _ _ u v q l).trans (slab2 _ (valueAt x0 x3 x4 q) q (hv q) l)
  · exact at_slab (n := 4) 1 (by decide) inb_S1x4x1024x128_S1x1x1024x128_0_1_0_0 _ (fun s q l => slabLane (valueAt x0 x3 x4 q) s l) fun u v q l =>
      (cast_add2 _ _ u v q l).trans (slab1 _ (valueAt x0 x3 x4 q) q (hv q) l)
  · exact at_slab (n := 4) 0 (by decide) inb_S1x4x1024x128_S1x1x1024x128_0_0_0_0 _ (fun s q l => slabLane (valueAt x0 x3 x4 q) s l) fun u v q l =>
      (cast_add2 _ _ u v q l).trans (slab0 _ (valueAt x0 x3 x4 q) q (hv q) l)

/-! ## The gates -/

def gateAt (q : Fin 1024) (j : Fin 2048) : EReal := Ideal.logistic (dot (own x0 x3 q) (colOf x4 ⟨2304 + j.val, by omega⟩))

theorem gate_strip (o : Nat) (ho : o + 512 ≤ 2048)
    (inb : ∀ a, (![0, 2304 + o] : Fin 2 → Nat) a + S1024x512.size a ≤ S1024x4352.size a) (u : Fin 1) (q : Fin 1024) (j : Fin 512) :
    k0_pay57 (k0_pay60 i x0 x1 x2 x3 x4 x5 x6 x7 x8) (View.ld x4 (Rect.unit (s := S1024x4352) ![0, 2304 + o] S1024x512.size inb)) (ix3 u q j)
      = gateAt x0 x3 x4 q ⟨o + j.val, by omega⟩ := by
  refine (gate_apply _ x4 (2304 + o) (by omega) inb u q j).trans ?_
  rw [own_row]
  unfold gateAt
  refine congrArg (fun z => Ideal.logistic (dot (own x0 x3 q) (colOf x4 z))) (Fin.ext ?_)
  show 2304 + o + j.val = 2304 + (o + j.val)
  omega

/-- What the body leaves in the gates' block. -/
theorem block13 (q : Fin 1024) (j : Fin 2048) :
    out0_13 i x0 x1 x2 x3 x4 x5 x6 x7 x8 (ix3 0 q j) = gateAt x0 x3 x4 q j := by
  refine (View.canon_apply_of_pieces (Val := Elt Ideal) (e := .bf16)
    (fun z : S1x1024x2048.Idx => gateAt x0 x3 x4 (z 1) (z 2)) _ ?_ (ix3 0 q j) (cover0_13 _ _ _ _ _))
  intro p hp
  have hg := gate_strip i x0 x1 x2 x3 x4 x5 x6 x7 x8
  simp only [List.mem_cons, List.not_mem_nil, or_false] at hp
  rcases hp with rfl | rfl | rfl | rfl
  · exact at_strip (w := 512) (W := 2048) 1536 (by decide) inb_S1x1024x2048_S1x1024x512_0_0_1536 _ (gateAt x0 x3 x4) fun u q j => hg 1536 (by decide) inb_S1024x4352_S1024x512_0_3840 u q j
  · exact at_strip (w := 512) (W := 2048) 1024 (by decide) inb_S1x1024x2048_S1x1024x512_0_0_1024 _ (gateAt x0 x3 x4) fun u q j => hg 1024 (by decide) inb_S1024x4352_S1024x512_0_3328 u q j
  · exact at_strip (w := 512) (W := 2048) 512 (by decide) inb_S1x1024x2048_S1x1024x512_0_0_512 _ (gateAt x0 x3 x4) fun u q j => hg 512 (by decide) inb_S1024x4352_S1024x512_0_2816 u q j
  · exact at_strip (w := 512) (W := 2048) 0 (by decide) inb_S1x1024x2048_S1x1024x512_0_0_0 _ (gateAt x0 x3 x4) fun u q j => hg 0 (by decide) inb_S1024x4352_S1024x512_0_2304 u q j

end Block

end Cert.TailBlock

end
-- ==== Proof.Tail.Host.lean ====
/- What the projection kernel's windows hold when the kernel is entered: the norm's gain, the weight, the convolution's
   taps and bias, and the three tables of the rotary turn, read at an index. -/
module

public import proofs.«01_k».proof.Proof.Proj.Layout
public import proofs.«01_k».proof.Proof.Proj.Row
public import Idealize.ShloMosaic.Lib.IdealHost
public import proofs.«01_k».proof.Proof.Gen.TailIdeal.Frame

@[expose] public section

noncomputable section

namespace Cert.TailHost

open Cert.TailIdeal Cert.TailIdeal.Gen Cert.Layout Cert.ProjLayout Cert.ProjRow Idealize.ShloMosaic Idealize.ShloMosaic.TcCoe Idealize.ShloMosaic.ValueIdx

variable (m : (ℓ : Loc nD τ sig) → Buf (Elt Ideal) ℓ) (c : Dev nD)

/-- The norm's gain. -/
theorem gain_eq (k : Fin 1024) : V m c main_v6 (ix2 0 k) = m ((c : Thread nD τ).loc main_arg1) (ix2 0 k) := by
  have e : V m c main_v6 = (broadcastInDim S1x1024 ![1] bcast_S1024_S1x1024_1 (shapeCast S1024 (m ((c : Thread nD τ).loc main_arg1)) shapeCasts_S1x1024_S1024) : FVec Ideal S1x1024 .f32) := by
    rfl
  rw [e]
  refine (broadcastInDim_apply _ _ _ _ (ix1 k) (fun a => ?_)).trans (shapeCast_apply _ _ _ _ ?_)
  · match a with
    | ⟨0, _⟩ => rfl
  · refine (Shape.rowMajor_val_two (d := ![1, 1024]) _).trans (Eq.trans ?_ (Shape.rowMajor_val_one _).symm)
    show 0 * 1024 + k.val = k.val
    omega

/-- The weight. -/
theorem weight_eq (k : Fin 1024) (j : Fin 4352) : V m c main_v8 (ix2 k j) = m ((c : Thread nD τ).loc main_arg2) (ix3 0 k j) := by
  have e : V m c main_v8 = (truncf .bf16 (shapeCast S1024x4352 (m ((c : Thread nD τ).loc main_arg2)) shapeCasts_S1x1024x4352_S1024x4352) bitsLt_bf16_f32 : FVec Ideal S1024x4352 .bf16) := by
    rfl
  rw [e]
  exact cast_drop1 _ _ k j

/-- The convolution's rows: three taps, the bias, and rows nothing reads. -/
theorem conv_eq : V m c main_v4 = (concatenate S8x1536 0 [⟨S3x1536, shapeCast S3x1536 (m ((c : Thread nD τ).loc main_arg3)) shapeCasts_S1x3x1536_S3x1536⟩,
    ⟨S1x1536, broadcastInDim S1x1536 ![1] bcast_S1536_S1x1536_1 (shapeCast S1536 (m ((c : Thread nD τ).loc main_arg4)) shapeCasts_S1x1536_S1536)⟩,
    ⟨S4x1536, broadcastInDim S4x1536 ![] bcast_S_S4x1536 (constant (F := Ideal) S_ .f32 0x00000000#32)⟩] concatenates_S3x1536_S1x1536_S4x1536_S8x1536_d0 : FVec Ideal S8x1536 .f32) := by
  rfl

theorem tap_eq (r : Fin 8) (r' : Fin 3) (hr : r'.val = r.val) (j : Fin 1536) : V m c main_v4 (ix2 r j) = m ((c : Thread nD τ).loc main_arg3) (ix3 0 r' j) := by
  rw [conv_eq]
  exact (stack_first (n := 8) (m := 1536) (shapeCast S3x1536 (m ((c : Thread nD τ).loc main_arg3)) shapeCasts_S1x3x1536_S3x1536) _ _ concatenates_S3x1536_S1x1536_S4x1536_S8x1536_d0 r j r' hr).trans
    (cast_drop1 _ _ r' j)

theorem bias_eq (j : Fin 1536) : V m c main_v4 (ix2 3 j) = m ((c : Thread nD τ).loc main_arg4) (ix2 0 j) := by
  rw [conv_eq]
  refine (stack_second (n := 8) (m := 1536) _ (broadcastInDim S1x1536 ![1] bcast_S1536_S1x1536_1 (shapeCast S1536 (m ((c : Thread nD τ).loc main_arg4)) shapeCasts_S1x1536_S1536)) _
    concatenates_S3x1536_S1x1536_S4x1536_S8x1536_d0 3 j 0 rfl).trans ?_
  refine (broadcastInDim_apply _ _ _ _ (ix1 j) (fun a => ?_)).trans (shapeCast_apply _ _ _ _ ?_)
  · match a with
    | ⟨0, _⟩ => rfl
  · refine (Shape.rowMajor_val_two (d := ![1, 1536]) _).trans (Eq.trans ?_ (Shape.rowMajor_val_one _).symm)
    show 0 * 1536 + j.val = j.val
    omega

/-! ## The tables -/

/-- A position's eight angles, as the host spells them. -/
abbrev angles : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1
      (Host.divf (broadcastInDim S8 ![] bcast_S_S8 (constant (F := Ideal) S_ .f32 0x3F800000#32))
        (Host.powf (broadcastInDim S8 ![] bcast_S_S8 (constant (F := Ideal) S_ .f32 0x48F42400#32))
          (Host.divf (addf (broadcastInDim S8 ![] bcast_S_S8 (constant (F := Ideal) S_ .f32 0x00000000#32))
              (mulf (broadcastInDim S8 ![] bcast_S_S8 (constant (F := Ideal) S_ .f32 0x40000000#32)) (sitofp .f32 (iotaInDim S8 32 0))))
            (broadcastInDim S8 ![] bcast_S_S8 (constant (F := Ideal) S_ .f32 0x41800000#32)))))))
abbrev cosines : FVec Ideal S4096x8 .f32 := Host.cos angles
abbrev sines : FVec Ideal S4096x8 .f32 := Host.sin angles

/-- The cosines and sines of a position. -/
def co (t : Fin 4096) (j : Fin 8) : EReal := cosines (ix2 t j)
def si (t : Fin 4096) (j : Fin 8) : EReal := sines (ix2 t j)

/-- A table of one head's lanes repeated for the two heads of a strip. -/
abbrev twice (T : FVec Ideal S4096x64 .f32) : FVec Ideal S4096x128 .f32 :=
  shapeCast S4096x128 (broadcastInDim S1x4096x2x64 ![0, 1, 2, 3] bcast_S1x4096x1x64_S1x4096x2x64_0_1_2_3 (shapeCast S1x4096x1x64 T shapeCasts_S4096x64_S1x4096x1x64)) shapeCasts_S1x4096x2x64_S4096x128

theorem twice_apply (T : FVec Ideal S4096x64 .f32) (t : Fin 4096) (l : Fin 128) : twice T (ix2 t l) = T (ix2 t (place l)) := by
  refine (shapeCast_apply _ _ _ (ix4 0 t (half l) (place l)) ?_).trans ((broadcastInDim_apply _ _ _ _ (ix4 0 t 0 (place l)) (fun a => ?_)).trans
    (shapeCast_apply _ _ _ _ ?_))
  · refine (Shape.rowMajor_val_four (d := ![1, 4096, 2, 64]) _).trans (Eq.trans ?_ (Shape.rowMajor_val_two _).symm)
    show ((0 * 4096 + t.val) * 2 + l.val / 64) * 64 + l.val % 64 = t.val * 128 + l.val
    omega
  · match a with
    | ⟨0, _⟩ => rfl
    | ⟨1, _⟩ => rfl
    | ⟨2, _⟩ => rfl
    | ⟨3, _⟩ => rfl
  · refine (Shape.rowMajor_val_two (d := ![4096, 64]) _).trans (Eq.trans ?_ (Shape.rowMajor_val_four _).symm)
    show t.val * 64 + l.val % 64 = ((0 * 4096 + t.val) * 1 + 0) * 64 + l.val % 64
    omega

abbrev ones48 : FVec Ideal S4096x48 .f32 := broadcastInDim S4096x48 ![] bcast_S_S4096x48 (constant (F := Ideal) S_ .f32 0x3F800000#32)
abbrev zeros48 : FVec Ideal S4096x48 .f32 := broadcastInDim S4096x48 ![] bcast_S_S4096x48 (constant (F := Ideal) S_ .f32 0x00000000#32)
abbrev zeros8 : FVec Ideal S4096x8 .f32 := broadcastInDim S4096x8 ![] bcast_S_S4096x8 (constant (F := Ideal) S_ .f32 0x00000000#32)

theorem ones48_apply (i : S4096x48.Idx) : ones48 i = 1 := Ideal.ofBits_one_f32
theorem zeros48_apply (i : S4096x48.Idx) : zeros48 i = 0 := Ideal.ofBits_zero_f32
theorem zeros8_apply (i : S4096x8.Idx) : zeros8 i = 0 := Ideal.ofBits_zero_f32

/-- Two runs of eight lanes and one of forty-eight. -/
abbrev lanes (x y : FVec Ideal S4096x8 .f32) (z : FVec Ideal S4096x48 .f32) : FVec Ideal S4096x64 .f32 :=
  concatenate S4096x64 1 [⟨S4096x8, x⟩, ⟨S4096x8, y⟩, ⟨S4096x48, z⟩] concatenates_S4096x8_S4096x8_S4096x48_S4096x64_d1

theorem lanes_apply (x y : FVec Ideal S4096x8 .f32) (z : FVec Ideal S4096x48 .f32) (t : Fin 4096) (l : Fin 64) :
    lanes x y z (ix2 t l) = if h : l.val < 8 then x (ix2 t ⟨l.val, h⟩) else if h' : l.val < 16 then y (ix2 t ⟨l.val - 8, by omega⟩)
      else z (ix2 t ⟨l.val - 16, by omega⟩) := by
  by_cases h : l.val < 8
  · rw [dif_pos h]
    exact beside_first x y z concatenates_S4096x8_S4096x8_S4096x48_S4096x64_d1 t l ⟨l.val, h⟩ rfl
  · rw [dif_neg h]
    by_cases h' : l.val < 16
    · rw [dif_pos h']
      exact beside_second x y z concatenates_S4096x8_S4096x8_S4096x48_S4096x64_d1 t l ⟨l.val - 8, by omega⟩ (by show 8 + (l.val - 8) = l.val; omega)
    · rw [dif_neg h']
      exact beside_third x y z concatenates_S4096x8_S4096x8_S4096x48_S4096x64_d1 t l ⟨l.val - 16, by omega⟩ (by show 8 + 8 + (l.val - 16) = l.val; omega)

theorem here_eq (t : Fin 4096) (l : Fin 128) : V m c main_v37 (ix2 t l) = here (co t) (place l) := by
  have e : V m c main_v37 = twice (lanes cosines cosines ones48) := by
    rfl
  rw [e, twice_apply, lanes_apply]
  unfold here
  by_cases h : (place l).val < 8
  · rw [dif_pos h, dif_pos h]
    rfl
  · rw [dif_neg h, dif_neg h]
    by_cases h' : (place l).val < 16
    · rw [dif_pos h', dif_pos h']
      rfl
    · rw [dif_neg h', dif_neg h']
      exact ones48_apply _

theorem above_eq (t : Fin 4096) (l : Fin 128) : V m c main_v40 (ix2 t l) = above (si t) (place l) := by
  have e : V m c main_v40 = twice (lanes (Host.negf sines) zeros8 zeros48) := by
    rfl
  rw [e, twice_apply, lanes_apply]
  unfold above
  by_cases h : (place l).val < 8
  · rw [dif_pos h, dif_pos h]
    rfl
  · rw [dif_neg h, dif_neg h]
    by_cases h' : (place l).val < 16
    · rw [dif_pos h']
      exact zeros8_apply _
    · rw [dif_neg h']
      exact zeros48_apply _

theorem below_eq (t : Fin 4096) (l : Fin 128) : V m c main_v43 (ix2 t l) = below (si t) (place l) := by
  have e : V m c main_v43 = twice (lanes zeros8 sines zeros48) := by
    rfl
  rw [e, twice_apply, lanes_apply]
  unfold below
  by_cases h : (place l).val < 8
  · rw [dif_pos h, dif_neg (by omega)]
    exact zeros8_apply _
  · rw [dif_neg h]
    by_cases h' : (place l).val < 16
    · rw [dif_pos h', dif_pos ⟨by omega, h'⟩]
      rfl
    · rw [dif_neg h', dif_neg (by omega)]
      exact zeros48_apply _

end Cert.TailHost

end
-- ==== Proof.Tail.Token.lean ====
/- What the projection gives at a token: the normed row through the weight's columns, the short convolution over three
   neighbouring tokens, the turned queries and keys, the values and the gates. -/
module

public import proofs.«01_k».proof.Proof.Layout
public import proofs.«01_k».proof.Proof.Proj.Row
public import proofs.«01_k».proof.Proof.Mix.Row

@[expose] public section

noncomputable section

namespace Cert.TailToken

open Cert.MixRow Cert.ProjRow Idealize.ShloMosaic Idealize.ShloMosaic.ValueIdx

variable (x : (⟨3, ![4, 4096, 1024]⟩ : Shape).Idx → EReal) (g : (⟨2, ![1, 1024]⟩ : Shape).Idx → EReal)
  (w : (⟨3, ![1, 1024, 4352]⟩ : Shape).Idx → EReal) (sw : (⟨3, ![1, 3, 1536]⟩ : Shape).Idx → EReal)
  (sb : (⟨2, ![1, 1536]⟩ : Shape).Idx → EReal) (co si : Fin 4096 → Fin 8 → EReal)

/-- The normed row of a token. -/
def row (b : Fin 4) (t : Fin 4096) : Fin 1024 → EReal := norm (fun k => x (ix3 b t k)) (fun k => g (ix2 0 k))

/-- Column `j` of the projection. -/
def proj (b : Fin 4) (t : Fin 4096) (j : Fin 4352) : EReal := dot (row x g b t) (fun k => w (ix3 0 k j))

/-- The token before (nothing before the first) and the token after (nothing after the last). -/
def before (b : Fin 4) (t : Fin 4096) (j : Fin 4352) : EReal := if h : t.val = 0 then 0 else proj x g w b ⟨t.val - 1, by omega⟩ j
def behind (b : Fin 4) (t : Fin 4096) (j : Fin 4352) : EReal := if h : t.val = 4095 then 0 else proj x g w b ⟨t.val + 1, by omega⟩ j

/-- The short convolution's column `j`. -/
def conv (b : Fin 4) (t : Fin 4096) (j : Fin 1536) : EReal :=
  taps (before x g w b t ⟨j.val, by omega⟩) (proj x g w b t ⟨j.val, by omega⟩) (behind x g w b t ⟨j.val, by omega⟩)
    (sw (ix3 0 0 j)) (sw (ix3 0 1 j)) (sw (ix3 0 2 j)) (sb (ix2 0 j))

/-- Sixty-four columns from `o`. -/
def head (b : Fin 4) (t : Fin 4096) (o : Nat) (ho : o + 64 ≤ 4352) (e : Fin 64) : EReal := proj x g w b t ⟨o + e.val, by omega⟩

/-- Column `j` of the turned and scaled queries. -/
def query (b : Fin 4) (t : Fin 4096) (j : Fin 512) : EReal :=
  turn (head x g w b t (1536 + 64 * (j.val / 64)) (by omega)) (co t) (si t) ⟨j.val % 64, by omega⟩ * Ideal.ofBits .f32 0x3E38AA3B#32

/-- The turned key and the value of head `h`. -/
def key (b : Fin 4) (t : Fin 4096) (h : Fin 2) (e : Fin 64) : EReal := turn (head x g w b t (2048 + 64 * h.val) (by omega)) (co t) (si t) e
def value (b : Fin 4) (t : Fin 4096) (h : Fin 2) (e : Fin 64) : EReal := head x g w b t (2176 + 64 * h.val) (by omega) e

/-- Column `j` of the gates. -/
def gate (b : Fin 4) (t : Fin 4096) (j : Fin 2048) : EReal := Ideal.logistic (proj x g w b t ⟨2304 + j.val, by omega⟩)

/-- Column `128 s + l` of the convolution, as slab `s` holds it. -/
def stream (b : Fin 4) (s : Fin 12) (t : Fin 4096) (l : Fin 128) : EReal := conv x g w sw sb b t ⟨128 * s.val + l.val, by omega⟩

end Cert.TailToken

end
-- ==== Proof.Tail.Tile.lean ====
/- The blocks a grid point of the projection kernel loads, and what its token rows are of the arguments. -/
module

public import proofs.«01_k».proof.Proof.Tail.Leaves
public import proofs.«01_k».proof.Proof.Tail.Host
public import proofs.«01_k».proof.Proof.Tail.Token
public import Idealize.ShloMosaic.Lib.Pipeline.ValueKit

@[expose] public section

noncomputable section

namespace Cert.TailArray

open Cert.TailIdeal Cert.TailIdeal.Gen Cert.Layout Cert.MixRow Cert.ProjRow Cert.TailHost Cert.TailBlock Cert.TailToken Idealize.ShloMosaic.TcCoe Idealize.ShloMosaic.ValueIdx
open Idealize.ShloMosaic hiding ix1 ix2 ix3 ix4
open Idealize.ShloMosaic.Pipeline (Dat)

variable (m : (ℓ : Loc nD τ sig) → Buf (Elt Ideal) ℓ) (c : Dev nD)

/-- The batch row of a grid point, its tile of 1024 tokens, and a token of the tile. -/
abbrev bt (t : Fin cfg0.N) : Fin 4 := ⟨(grid0.coords t 0).val, (grid0.coords t 0).isLt⟩
abbrev tile (t : Fin cfg0.N) : Fin 4 := ⟨(grid0.coords t 1).val, (grid0.coords t 1).isLt⟩
abbrev tok (t : Fin cfg0.N) (q : Fin 1024) : Fin 4096 := ⟨(tile t).val * 1024 + q.val, by omega⟩

theorem at0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem at1 : ∀ t : Fin cfg0.N, win0_1.index t = ![(grid0.coords t 0).val, (grid0.coords t 1).val * 64 - 1, 0] :=
  (by decide +kernel : ∀ t : Fin grid0.N, win0_1.index t = ![(grid0.coords t 0).val, (grid0.coords t 1).val * 64 - 1, 0])
theorem at2 : ∀ t : Fin cfg0.N, win0_2.index t = ![(grid0.coords t 0).val, min ((grid0.coords t 1).val * 64 + 64) 255, 0] :=
  (by decide +kernel : ∀ t : Fin grid0.N, win0_2.index t = ![(grid0.coords t 0).val, min ((grid0.coords t 1).val * 64 + 64) 255, 0])
theorem at3 : ∀ t : Fin cfg0.N, win0_3.index t = ![0, 0] :=
  (by decide +kernel : ∀ t : Fin grid0.N, win0_3.index t = ![0, 0])
theorem at4 : ∀ t : Fin cfg0.N, win0_4.index t = ![0, 0] :=
  (by decide +kernel : ∀ t : Fin grid0.N, win0_4.index t = ![0, 0])
theorem at5 : ∀ t : Fin cfg0.N, win0_5.index t = ![0, 0] :=
  (by decide +kernel : ∀ t : Fin grid0.N, win0_5.index t = ![0, 0])
theorem at6 : ∀ t : Fin cfg0.N, win0_6.index t = ![(grid0.coords t 1).val, 0] :=
  (by decide +kernel : ∀ t : Fin grid0.N, win0_6.index t = ![(grid0.coords t 1).val, 0])
theorem at7 : ∀ t : Fin cfg0.N, win0_7.index t = ![(grid0.coords t 1).val, 0] :=
  (by decide +kernel : ∀ t : Fin grid0.N, win0_7.index t = ![(grid0.coords t 1).val, 0])
theorem at8 : ∀ t : Fin cfg0.N, win0_8.index t = ![(grid0.coords t 1).val, 0] :=
  (by decide +kernel : ∀ t : Fin grid0.N, win0_8.index t = ![(grid0.coords t 1).val, 0])

/-- Whether a tile has one before it, and one after it. -/
theorem flag_before : ∀ t : Fin cfg0.N, (grid0.coords t 1).val = 0 → hasPrev (grid0.coords t) = 0#1 :=
  (by decide +kernel : ∀ t : Fin grid0.N, (grid0.coords t 1).val = 0 → hasPrev (grid0.coords t) = 0#1)
theorem flag_within : ∀ t : Fin cfg0.N, (grid0.coords t 1).val ≠ 0 → hasPrev (grid0.coords t) = 1#1 :=
  (by decide +kernel : ∀ t : Fin grid0.N, (grid0.coords t 1).val ≠ 0 → hasPrev (grid0.coords t) = 1#1)
theorem flag_last : ∀ t : Fin cfg0.N, (grid0.coords t 1).val = 3 → hasNext (grid0.coords t) = 0#1 :=
  (by decide +kernel : ∀ t : Fin grid0.N, (grid0.coords t 1).val = 3 → hasNext (grid0.coords t) = 0#1)
theorem flag_inside : ∀ t : Fin cfg0.N, (grid0.coords t 1).val ≠ 3 → hasNext (grid0.coords t) = 1#1 :=
  (by decide +kernel : ∀ t : Fin grid0.N, (grid0.coords t 1).val ≠ 3 → hasNext (grid0.coords t) = 1#1)

theorem blk0 (t : Fin cfg0.N) (q : Fin 1024) (k : Fin 1024) : iblk m c 0 t (ix3 0 q k) = V m c main_arg0 (ix3 (bt t) (tok t q) k) := by
  refine congrArg (V m c main_arg0) ?_
  blk_ext [at0]

theorem blk1 (t : Fin cfg0.N) (q : Fin 16) (k : Fin 1024) (r : Fin 4096) (hr : ((grid0.coords t 1).val * 64 - 1) * 16 + q.val = r.val) :
    iblk m c 1 t (ix3 0 q k) = V m c main_arg0 (ix3 (bt t) r k) := by
  refine congrArg (V m c main_arg0) ?_
  blk_ext [at1]

theorem blk2 (t : Fin cfg0.N) (q : Fin 16) (k : Fin 1024) (r : Fin 4096) (hr : min ((grid0.coords t 1).val * 64 + 64) 255 * 16 + q.val = r.val) :
    iblk m c 2 t (ix3 0 q k) = V m c main_arg0 (ix3 (bt t) r k) := by
  refine congrArg (V m c main_arg0) ?_
  blk_ext [at2]

theorem blk3 (t : Fin cfg0.N) (q : Fin 1) (k : Fin 1024) : iblk m c 3 t (ix2 q k) = V m c main_v6 (ix2 q k) := by
  refine congrArg (V m c main_v6) ?_
  blk_ext [at3]

theorem blk4 (t : Fin cfg0.N) (k : Fin 1024) (j : Fin 4352) : iblk m c 4 t (ix2 k j) = V m c main_v8 (ix2 k j) := by
  refine congrArg (V m c main_v8) ?_
  blk_ext [at4]

theorem blk5 (t : Fin cfg0.N) (r : Fin 8) (j : Fin 1536) : iblk m c 5 t (ix2 r j) = V m c main_v4 (ix2 r j) := by
  refine congrArg (V m c main_v4) ?_
  blk_ext [at5]

theorem blk6 (t : Fin cfg0.N) (q : Fin 1024) (l : Fin 128) : iblk m c 6 t (ix2 q l) = V m c main_v37 (ix2 (tok t q) l) := by
  refine congrArg (V m c main_v37) ?_
  blk_ext [at6]

theorem blk7 (t : Fin cfg0.N) (q : Fin 1024) (l : Fin 128) : iblk m c 7 t (ix2 q l) = V m c main_v40 (ix2 (tok t q) l) := by
  refine congrArg (V m c main_v40) ?_
  blk_ext [at7]

theorem blk8 (t : Fin cfg0.N) (q : Fin 1024) (l : Fin 128) : iblk m c 8 t (ix2 q l) = V m c main_v43 (ix2 (tok t q) l) := by
  refine congrArg (V m c main_v43) ?_
  blk_ext [at8]

/-! ## The rows a point computes from -/

/-- The arguments. -/
abbrev X : S4x4096x1024.Idx → EReal := m ((c : Thread nD τ).loc main_arg0)
abbrev G : S1x1024.Idx → EReal := m ((c : Thread nD τ).loc main_arg1)
abbrev W : S1x1024x4352.Idx → EReal := m ((c : Thread nD τ).loc main_arg2)
abbrev SW : S1x3x1536.Idx → EReal := m ((c : Thread nD τ).loc main_arg3)
abbrev SB : S1x1536.Idx → EReal := m ((c : Thread nD τ).loc main_arg4)

theorem gain_row (t : Fin cfg0.N) : rowOf (iblk m c 3 t) 0 = fun k => G m c (ix2 0 k) :=
  funext fun k => (blk3 m c t 0 k).trans (gain_eq m c k)

theorem column (t : Fin cfg0.N) (j : Fin 4352) : colOf (iblk m c 4 t) j = fun k => W m c (ix3 0 k j) :=
  funext fun k => (blk4 m c t k j).trans (weight_eq m c k j)

theorem own_eq (t : Fin cfg0.N) (q : Fin 1024) : own (iblk m c 0 t) (iblk m c 3 t) q = row (X m c) (G m c) (bt t) (tok t q) := by
  unfold own row
  rw [gain_row]
  exact congrArg (fun h => norm h _) (funext fun k => (blk0 m c t q k).trans (congrFun (V_main_arg0 m c) _))

theorem dot_own (t : Fin cfg0.N) (q : Fin 1024) (j : Fin 4352) :
    dot (own (iblk m c 0 t) (iblk m c 3 t) q) (colOf (iblk m c 4 t) j) = proj (X m c) (G m c) (W m c) (bt t) (tok t q) j := by
  rw [own_eq, column]
  rfl

theorem proj_at (b : Fin 4) (r r' : Fin 4096) (h : r.val = r'.val) (j : Fin 4352) :
    proj (X m c) (G m c) (W m c) b r j = proj (X m c) (G m c) (W m c) b r' j := by
  rw [Fin.ext h]

theorem dot_prior (t : Fin cfg0.N) (q : Fin 1024) (j : Fin 4352) :
    dot (prior (grid0.coords t) (iblk m c 0 t) (iblk m c 1 t) (iblk m c 3 t) q) (colOf (iblk m c 4 t) j)
      = before (X m c) (G m c) (W m c) (bt t) (tok t q) j := by
  unfold prior before
  by_cases hq : q.val = 0
  · rw [dif_pos hq]
    by_cases ht : (grid0.coords t 1).val = 0
    · rw [flag_before t ht, flag_false _ rfl, dif_pos (by show (grid0.coords t 1).val * 1024 + q.val = 0; omega)]
      exact dot_masked _ _
    · rw [flag_within t ht, flag_true _ rfl, dif_neg (by show ¬ (grid0.coords t 1).val * 1024 + q.val = 0; omega)]
      unfold proj row
      rw [column, gain_row]
      refine congrArg (fun h => dot h _) (funext fun k => (mul_one _).trans (congrFun (congrArg (fun h => norm h _) (funext fun k => ?_)) k))
      refine (blk1 m c t ⟨15, by decide⟩ k _ ?_).trans (congrFun (V_main_arg0 m c) _)
      show ((grid0.coords t 1).val * 64 - 1) * 16 + 15 = (grid0.coords t 1).val * 1024 + q.val - 1
      omega
  · rw [dif_neg hq, dif_neg (by show ¬ (grid0.coords t 1).val * 1024 + q.val = 0; omega)]
    refine (dot_own m c t _ j).trans (proj_at m c _ _ _ ?_ j)
    show (grid0.coords t 1).val * 1024 + (q.val - 1) = (grid0.coords t 1).val * 1024 + q.val - 1
    omega

theorem dot_later (t : Fin cfg0.N) (q : Fin 1024) (j : Fin 4352) :
    dot (later (grid0.coords t) (iblk m c 0 t) (iblk m c 2 t) (iblk m c 3 t) q) (colOf (iblk m c 4 t) j)
      = behind (X m c) (G m c) (W m c) (bt t) (tok t q) j := by
  have h4 : (grid0.coords t 1).val < 4 := (grid0.coords t 1).isLt
  unfold later behind
  by_cases hq : q.val = 1023
  · rw [dif_pos hq]
    by_cases ht : (grid0.coords t 1).val = 3
    · rw [flag_last t ht, flag_false _ rfl, dif_pos (by show (grid0.coords t 1).val * 1024 + q.val = 4095; omega)]
      exact dot_masked _ _
    · rw [flag_inside t ht, flag_true _ rfl, dif_neg (by show ¬ (grid0.coords t 1).val * 1024 + q.val = 4095; omega)]
      unfold proj row
      rw [column, gain_row]
      refine congrArg (fun h => dot h _) (funext fun k => (mul_one _).trans (congrFun (congrArg (fun h => norm h _) (funext fun k => ?_)) k))
      refine (blk2 m c t 0 k _ ?_).trans (congrFun (V_main_arg0 m c) _)
      show min ((grid0.coords t 1).val * 64 + 64) 255 * 16 + 0 = (grid0.coords t 1).val * 1024 + q.val + 1
      omega
  · rw [dif_neg hq, dif_neg (by show ¬ (grid0.coords t 1).val * 1024 + q.val = 4095; omega)]
    refine (dot_own m c t _ j).trans (proj_at m c _ _ _ ?_ j)
    show (grid0.coords t 1).val * 1024 + (q.val + 1) = (grid0.coords t 1).val * 1024 + q.val + 1
    omega

/-! ## What a point's blocks hold, from the arguments -/

theorem conv_at (t : Fin cfg0.N) (q : Fin 1024) (j : Fin 1536) :
    convAt (grid0.coords t) (iblk m c 0 t) (iblk m c 1 t) (iblk m c 2 t) (iblk m c 3 t) (iblk m c 4 t) (iblk m c 5 t) q j
      = conv (X m c) (G m c) (W m c) (SW m c) (SB m c) (bt t) (tok t q) j := by
  unfold convAt conv
  rw [dot_prior, dot_own, dot_later, blk5, blk5, blk5, blk5, tap_eq m c 0 0 rfl, tap_eq m c 1 1 rfl, tap_eq m c 2 2 rfl, bias_eq]

theorem lane_eq (t : Fin cfg0.N) (q : Fin 1024) (o : Nat) (ho : o + 64 ≤ 4352) :
    lane (iblk m c 0 t) (iblk m c 3 t) (iblk m c 4 t) o ho q = head (X m c) (G m c) (W m c) (bt t) (tok t q) o ho :=
  funext fun _ => dot_own m c t q _

theorem query_at (t : Fin cfg0.N) (q : Fin 1024) (j : Fin 512) :
    queryAt (iblk m c 0 t) (iblk m c 3 t) (iblk m c 4 t) (fun q => co (tok t q)) (fun q => si (tok t q)) q j
      = query (X m c) (G m c) (W m c) co si (bt t) (tok t q) j := by
  unfold queryAt query
  rw [lane_eq]

theorem key_at (t : Fin cfg0.N) (q : Fin 1024) :
    keyAt (iblk m c 0 t) (iblk m c 3 t) (iblk m c 4 t) (fun q => co (tok t q)) (fun q => si (tok t q)) q
      = key (X m c) (G m c) (W m c) co si (bt t) (tok t q) := by
  funext h e
  unfold keyAt key
  rw [lane_eq]

theorem value_at (t : Fin cfg0.N) (q : Fin 1024) :
    valueAt (iblk m c 0 t) (iblk m c 3 t) (iblk m c 4 t) q = value (X m c) (G m c) (W m c) (bt t) (tok t q) := by
  funext h e
  unfold valueAt value
  rw [lane_eq]

theorem gate_at (t : Fin cfg0.N) (q : Fin 1024) (j : Fin 2048) :
    gateAt (iblk m c 0 t) (iblk m c 3 t) (iblk m c 4 t) q j = gate (X m c) (G m c) (W m c) (bt t) (tok t q) j := by
  unfold gateAt gate
  rw [dot_own]

end Cert.TailArray

end
-- ==== Proof.Tail.Array.lean ====
/- The projection kernel's five result arrays after the run, and the slices of their last four batch rows. -/
module

public import proofs.«01_k».proof.Proof.Tail.Tile

@[expose] public section

noncomputable section

namespace Cert.TailArray

open Cert.TailIdeal Cert.TailIdeal.Gen Cert.Layout Cert.MixRow Cert.ProjRow Cert.TailHost Cert.TailBlock Cert.TailToken Idealize.ShloMosaic.TcCoe Idealize.ShloMosaic.ValueIdx
open Idealize.ShloMosaic hiding ix1 ix2 ix3 ix4
open Idealize.ShloMosaic.Pipeline (Dat)

variable (m : (ℓ : Loc nD τ sig) → Buf (Elt Ideal) ℓ) (c : Dev nD)

/-- A batch row of the four as one of the twelve of the result arrays, and back. -/
abbrev up (b : Fin 4) : Fin 12 := ⟨8 + b.val, by omega⟩
abbrev down (b : Fin 12) : Fin 4 := ⟨(b.val - 8) % 4, by omega⟩
theorem down_up (b : Fin 4) : down (up b) = b := Fin.ext (by
  show (8 + b.val - 8) % 4 = b.val
  omega)

theorem first3 {a b : Nat} (y : (⟨3, ![1, a, b]⟩ : Shape).Idx) : y = ix3 0 (y 1) (y 2) := (ValueIdx.eq_ix3 y).trans (by
  have h0 : (y 0 : Fin 1) = (0 : Fin 1) := Fin.ext (by have h : (y 0).val < 1 := (y 0).isLt; show (y 0).val = 0; omega)
  exact congrArg (fun u => (ix3 u (y 1) (y 2) : (⟨3, ![1, a, b]⟩ : Shape).Idx)) h0)
theorem first4 {n a b : Nat} (y : (⟨4, ![1, n, a, b]⟩ : Shape).Idx) : y = ix4 0 (y 1) (y 2) (y 3) := (ValueIdx.eq_ix4 y).trans (by
  have h0 : (y 0 : Fin 1) = (0 : Fin 1) := Fin.ext (by have h : (y 0).val < 1 := (y 0).isLt; show (y 0).val = 0; omega)
  exact congrArg (fun u => (ix4 u (y 1) (y 2) (y 3) : (⟨4, ![1, n, a, b]⟩ : Shape).Idx)) h0)

/-- The tables of a point's tile. -/
theorem tables_here (t : Fin cfg0.N) (q : Fin 1024) (l : Fin 128) : iblk m c 6 t (ix2 q l) = here (co (tok t q)) (place l) :=
  (blk6 m c t q l).trans (here_eq m c _ l)
theorem tables_above (t : Fin cfg0.N) (q : Fin 1024) (l : Fin 128) : iblk m c 7 t (ix2 q l) = above (si (tok t q)) (place l) :=
  (blk7 m c t q l).trans (above_eq m c _ l)
theorem tables_below (t : Fin cfg0.N) (q : Fin 1024) (l : Fin 128) : iblk m c 8 t (ix2 q l) = below (si (tok t q)) (place l) :=
  (blk8 m c t q l).trans (below_eq m c _ l)

theorem at9 : ∀ t : Fin cfg0.N, win0_9.index t = ![8 + (grid0.coords t 0).val, 0, (grid0.coords t 1).val, 0] :=
  (by decide +kernel : ∀ t : Fin grid0.N, win0_9.index t = ![8 + (grid0.coords t 0).val, 0, (grid0.coords t 1).val, 0])

/-- The stream array: the rows the points write. -/
abbrev whole9 : S12x12x4096x128.Idx → EReal := fun i => stream (X m c) (G m c) (W m c) (SW m c) (SB m c) (down (i 0)) (i 1) (i 2) (i 3)

theorem final9 (b : Fin 4) (s : Fin 12) (t : Fin 4096) (l : Fin 128) : (dats m 0 c).arrAt 9 cfg0.N (ix4 (up b) s t l : S12x12x4096x128.Idx) = stream (X m c) (G m c) (W m c) (SW m c) (SB m c) b s t l := by
  refine ((dats m 0 c).arrAt_apply_of_coversWhere 9 (whole9 m c) (fun β => 8 ≤ β 0) (by decide +kernel) (fun t hf y => ?_)
    (P := fun j => 8 ≤ (j 0).val) (fun j => ?_) (ix4 (up b) s t l : S12x12x4096x128.Idx)).trans ((if_pos (Nat.le_add_right 8 b.val)).trans ?_)
  · blk_simp
    rw [after0_9]
    have e : (win0_9.blk t).view.emb y = (ix4 (up (bt t)) (y 1) (tok t (y 2)) (y 3) : S12x12x4096x128.Idx) := by
      blk_ext [at9]
    rw [e]
    refine (congrArg (out0_9 (F := Ideal) (grid0.coords t) _ _ _ _ _ _ _ _ _) (first4 y)).trans ((block9 _ _ _ _ _ _ _ _ _ _ (y 1) (y 2) (y 3)).trans ?_)
    refine (conv_at m c t (y 2) _).trans ?_
    show _ = whole9 m c _
    unfold whole9
    rw [down_up]
    rfl
  · blk_simp [Pipeline.Window.cell_apply]
    rw [Nat.div_one]
  · show whole9 m c _ = _
    unfold whole9
    rw [down_up]

theorem at10 : ∀ t : Fin cfg0.N, win0_10.index t = ![8 + (grid0.coords t 0).val, (grid0.coords t 1).val, 0] :=
  (by decide +kernel : ∀ t : Fin grid0.N, win0_10.index t = ![8 + (grid0.coords t 0).val, (grid0.coords t 1).val, 0])

/-- The query array: the rows the points write. -/
abbrev whole10 : S12x4096x512.Idx → EReal := fun i => query (X m c) (G m c) (W m c) co si (down (i 0)) (i 1) (i 2)

theorem final10 (b : Fin 4) (t : Fin 4096) (j : Fin 512) : (dats m 0 c).arrAt 10 cfg0.N (ix3 (up b) t j : S12x4096x512.Idx) = query (X m c) (G m c) (W m c) co si b t j := by
  refine ((dats m 0 c).arrAt_apply_of_coversWhere 10 (whole10 m c) (fun β => 8 ≤ β 0) (by decide +kernel) (fun t hf y => ?_)
    (P := fun j => 8 ≤ (j 0).val) (fun j => ?_) (ix3 (up b) t j : S12x4096x512.Idx)).trans ((if_pos (Nat.le_add_right 8 b.val)).trans ?_)
  · blk_simp
    rw [after0_10]
    have e : (win0_10.blk t).view.emb y = (ix3 (up (bt t)) (tok t (y 1)) (y 2) : S12x4096x512.Idx) := by
      blk_ext [at10]
    rw [e]
    refine (congrArg (out0_10 (F := Ideal) (grid0.coords t) _ _ _ _ _ _ _ _ _) (first3 y)).trans ((block10 _ _ _ _ _ _ _ _ _ _ (fun q => co (tok t q)) (fun q => si (tok t q)) (tables_here m c t) (tables_above m c t) (tables_below m c t) (y 1) (y 2)).trans ?_)
    refine (query_at m c t (y 1) (y 2)).trans ?_
    show _ = whole10 m c _
    unfold whole10
    rw [down_up]
  · blk_simp [Pipeline.Window.cell_apply]
    rw [Nat.div_one]
  · show whole10 m c _ = _
    unfold whole10
    rw [down_up]

theorem at11 : ∀ t : Fin cfg0.N, win0_11.index t = ![8 + (grid0.coords t 0).val, 0, (grid0.coords t 1).val, 0] :=
  (by decide +kernel : ∀ t : Fin grid0.N, win0_11.index t = ![8 + (grid0.coords t 0).val, 0, (grid0.coords t 1).val, 0])

/-- The key array: the rows the points write. -/
abbrev whole11 : S12x4x4096x128.Idx → EReal := fun i => slabLane (key (X m c) (G m c) (W m c) co si (down (i 0)) (i 2)) (i 1) (i 3)

theorem final11 (b : Fin 4) (s : Fin 4) (t : Fin 4096) (l : Fin 128) : (dats m 0 c).arrAt 11 cfg0.N (ix4 (up b) s t l : S12x4x4096x128.Idx) = slabLane (key (X m c) (G m c) (W m c) co si b t) s l := by
  refine ((dats m 0 c).arrAt_apply_of_coversWhere 11 (whole11 m c) (fun β => 8 ≤ β 0) (by decide +kernel) (fun t hf y => ?_)
    (P := fun j => 8 ≤ (j 0).val) (fun j => ?_) (ix4 (up b) s t l : S12x4x4096x128.Idx)).trans ((if_pos (Nat.le_add_right 8 b.val)).trans ?_)
  · blk_simp
    rw [after0_11]
    have e : (win0_11.blk t).view.emb y = (ix4 (up (bt t)) (y 1) (tok t (y 2)) (y 3) : S12x4x4096x128.Idx) := by
      blk_ext [at11]
    rw [e]
    refine (congrArg (out0_11 (F := Ideal) (grid0.coords t) _ _ _ _ _ _ _ _ _) (first4 y)).trans ((block11 _ _ _ _ _ _ _ _ _ _ (fun q => co (tok t q)) (fun q => si (tok t q)) (tables_here m c t) (tables_above m c t) (tables_below m c t) (y 1) (y 2) (y 3)).trans ?_)
    refine (congrArg (fun z => slabLane z (y 1) (y 3)) (key_at m c t (y 2))).trans ?_
    show _ = whole11 m c _
    unfold whole11
    rw [down_up]
  · blk_simp [Pipeline.Window.cell_apply]
    rw [Nat.div_one]
  · show whole11 m c _ = _
    unfold whole11
    rw [down_up]

theorem at12 : ∀ t : Fin cfg0.N, win0_12.index t = ![8 + (grid0.coords t 0).val, 0, (grid0.coords t 1).val, 0] :=
  (by decide +kernel : ∀ t : Fin grid0.N, win0_12.index t = ![8 + (grid0.coords t 0).val, 0, (grid0.coords t 1).val, 0])

/-- The value array: the rows the points write. -/
abbrev whole12 : S12x4x4096x128.Idx → EReal := fun i => slabLane (value (X m c) (G m c) (W m c) (down (i 0)) (i 2)) (i 1) (i 3)

theorem final12 (b : Fin 4) (s : Fin 4) (t : Fin 4096) (l : Fin 128) : (dats m 0 c).arrAt 12 cfg0.N (ix4 (up b) s t l : S12x4x4096x128.Idx) = slabLane (value (X m c) (G m c) (W m c) b t) s l := by
  refine ((dats m 0 c).arrAt_apply_of_coversWhere 12 (whole12 m c) (fun β => 8 ≤ β 0) (by decide +kernel) (fun t hf y => ?_)
    (P := fun j => 8 ≤ (j 0).val) (fun j => ?_) (ix4 (up b) s t l : S12x4x4096x128.Idx)).trans ((if_pos (Nat.le_add_right 8 b.val)).trans ?_)
  · blk_simp
    rw [after0_12]
    have e : (win0_12.blk t).view.emb y = (ix4 (up (bt t)) (y 1) (tok t (y 2)) (y 3) : S12x4x4096x128.Idx) := by
      blk_ext [at12]
    rw [e]
    refine (congrArg (out0_12 (F := Ideal) (grid0.coords t) _ _ _ _ _ _ _ _ _) (first4 y)).trans ((block12 _ _ _ _ _ _ _ _ _ _ (y 1) (y 2) (y 3)).trans ?_)
    refine (congrArg (fun z => slabLane z (y 1) (y 3)) (value_at m c t (y 2))).trans ?_
    show _ = whole12 m c _
    unfold whole12
    rw [down_up]
  · blk_simp [Pipeline.Window.cell_apply]
    rw [Nat.div_one]
  · show whole12 m c _ = _
    unfold whole12
    rw [down_up]

theorem at13 : ∀ t : Fin cfg0.N, win0_13.index t = ![8 + (grid0.coords t 0).val, (grid0.coords t 1).val, 0] :=
  (by decide +kernel : ∀ t : Fin grid0.N, win0_13.index t = ![8 + (grid0.coords t 0).val, (grid0.coords t 1).val, 0])

/-- The gate array: the rows the points write. -/
abbrev whole13 : S12x4096x2048.Idx → EReal := fun i => gate (X m c) (G m c) (W m c) (down (i 0)) (i 1) (i 2)

theorem final13 (b : Fin 4) (t : Fin 4096) (j : Fin 2048) : (dats m 0 c).arrAt 13 cfg0.N (ix3 (up b) t j : S12x4096x2048.Idx) = gate (X m c) (G m c) (W m c) b t j := by
  refine ((dats m 0 c).arrAt_apply_of_coversWhere 13 (whole13 m c) (fun β => 8 ≤ β 0) (by decide +kernel) (fun t hf y => ?_)
    (P := fun j => 8 ≤ (j 0).val) (fun j => ?_) (ix3 (up b) t j : S12x4096x2048.Idx)).trans ((if_pos (Nat.le_add_right 8 b.val)).trans ?_)
  · blk_simp
    rw [after0_13]
    have e : (win0_13.blk t).view.emb y = (ix3 (up (bt t)) (tok t (y 1)) (y 2) : S12x4096x2048.Idx) := by
      blk_ext [at13]
    rw [e]
    refine (congrArg (out0_13 (F := Ideal) (grid0.coords t) _ _ _ _ _ _ _ _ _) (first3 y)).trans ((block13 _ _ _ _ _ _ _ _ _ _ (y 1) (y 2)).trans ?_)
    refine (gate_at m c t (y 1) (y 2)).trans ?_
    show _ = whole13 m c _
    unfold whole13
    rw [down_up]
  · blk_simp [Pipeline.Window.cell_apply]
    rw [Nat.div_one]
  · show whole13 m c _ = _
    unfold whole13
    rw [down_up]

end Cert.TailArray

end
-- ==== Proof.Tail.Run.lean ====
/- The projection kernel's run: its five results, at every index, and its arguments unchanged. -/
module

public import proofs.«01_k».proof.Proof.Tail.Array

@[expose] public section

noncomputable section

namespace Cert.TailArray

open Cert.TailIdeal Cert.TailIdeal.Gen Cert.ProjRow Cert.TailHost Cert.TailToken Idealize.ShloMosaic.TcCoe Idealize.ShloMosaic.ValueIdx
open Idealize.ShloMosaic hiding ix1 ix2 ix3 ix4
open Idealize.ShloMosaic.Pipeline (Dat)

variable (m : (ℓ : Loc nD τ sig) → Buf (Elt Ideal) ℓ) (c : Dev nD)

/-- What the lines after the call leave in a buffer. -/
abbrev after (b : Ref sig .tc) := Pipeline.afterTail₀ cfgs (dats m) 0 (V0 m) [hostOps1] c b

theorem tail9 : after m c main_v45 = (extractStridedSlice S4x12x4096x128 ![8, 0, 0, 0] ((dats m 0 c).arrAt 9 cfg0.N : FVec Ideal S12x12x4096x128 .bf16) slices_S12x12x4096x128_S4x12x4096x128_8_0_0_0 : FVec Ideal S4x12x4096x128 .bf16) := by
  have h := (dats m 0 c).withArrays_arrAt sharedIn0 (V0 m c) (A_eq m c) 9
  refine Eq.trans ?_ (congrArg (fun x : FVec Ideal S12x12x4096x128 .bf16 => (extractStridedSlice S4x12x4096x128 ![8, 0, 0, 0] x slices_S12x12x4096x128_S4x12x4096x128_8_0_0_0 : FVec Ideal S4x12x4096x128 .bf16)) h)
  rfl

theorem result9 (b : Fin 4) (s : Fin 12) (t : Fin 4096) (l : Fin 128) : after m c main_v45 (ix4 b s t l : S4x12x4096x128.Idx) = stream (X m c) (G m c) (W m c) (SW m c) (SB m c) b s t l := by
  rw [tail9]
  refine (extractStridedSlice_apply _ _ _ _ (ix4 (up b) s t l : S12x12x4096x128.Idx) (fun a => ?_)).trans (final9 m c b s t l)
  match a with
    | ⟨0, _⟩ => exact rfl
    | ⟨1, _⟩ => exact (Nat.zero_add _).symm
    | ⟨2, _⟩ => exact (Nat.zero_add _).symm
    | ⟨3, _⟩ => exact (Nat.zero_add _).symm

theorem tail10 : after m c main_v46 = (extractStridedSlice S4x4096x512 ![8, 0, 0] ((dats m 0 c).arrAt 10 cfg0.N : FVec Ideal S12x4096x512 .bf16) slices_S12x4096x512_S4x4096x512_8_0_0 : FVec Ideal S4x4096x512 .bf16) := by
  have h := (dats m 0 c).withArrays_arrAt sharedIn0 (V0 m c) (A_eq m c) 10
  refine Eq.trans ?_ (congrArg (fun x : FVec Ideal S12x4096x512 .bf16 => (extractStridedSlice S4x4096x512 ![8, 0, 0] x slices_S12x4096x512_S4x4096x512_8_0_0 : FVec Ideal S4x4096x512 .bf16)) h)
  rfl

theorem result10 (b : Fin 4) (t : Fin 4096) (j : Fin 512) : after m c main_v46 (ix3 b t j : S4x4096x512.Idx) = query (X m c) (G m c) (W m c) co si b t j := by
  rw [tail10]
  refine (extractStridedSlice_apply _ _ _ _ (ix3 (up b) t j : S12x4096x512.Idx) (fun a => ?_)).trans (final10 m c b t j)
  match a with
    | ⟨0, _⟩ => exact rfl
    | ⟨1, _⟩ => exact (Nat.zero_add _).symm
    | ⟨2, _⟩ => exact (Nat.zero_add _).symm

theorem tail11 : after m c main_v47 = (extractStridedSlice S4x4x4096x128 ![8, 0, 0, 0] ((dats m 0 c).arrAt 11 cfg0.N : FVec Ideal S12x4x4096x128 .bf16) slices_S12x4x4096x128_S4x4x4096x128_8_0_0_0 : FVec Ideal S4x4x4096x128 .bf16) := by
  have h := (dats m 0 c).withArrays_arrAt sharedIn0 (V0 m c) (A_eq m c) 11
  refine Eq.trans ?_ (congrArg (fun x : FVec Ideal S12x4x4096x128 .bf16 => (extractStridedSlice S4x4x4096x128 ![8, 0, 0, 0] x slices_S12x4x4096x128_S4x4x4096x128_8_0_0_0 : FVec Ideal S4x4x4096x128 .bf16)) h)
  rfl

theorem result11 (b : Fin 4) (s : Fin 4) (t : Fin 4096) (l : Fin 128) : after m c main_v47 (ix4 b s t l : S4x4x4096x128.Idx) = slabLane (key (X m c) (G m c) (W m c) co si b t) s l := by
  rw [tail11]
  refine (extractStridedSlice_apply _ _ _ _ (ix4 (up b) s t l : S12x4x4096x128.Idx) (fun a => ?_)).trans (final11 m c b s t l)
  match a with
    | ⟨0, _⟩ => exact rfl
    | ⟨1, _⟩ => exact (Nat.zero_add _).symm
    | ⟨2, _⟩ => exact (Nat.zero_add _).symm
    | ⟨3, _⟩ => exact (Nat.zero_add _).symm

theorem tail12 : after m c main_v48 = (extractStridedSlice S4x4x4096x128 ![8, 0, 0, 0] ((dats m 0 c).arrAt 12 cfg0.N : FVec Ideal S12x4x4096x128 .bf16) slices_S12x4x4096x128_S4x4x4096x128_8_0_0_0 : FVec Ideal S4x4x4096x128 .bf16) := by
  have h := (dats m 0 c).withArrays_arrAt sharedIn0 (V0 m c) (A_eq m c) 12
  refine Eq.trans ?_ (congrArg (fun x : FVec Ideal S12x4x4096x128 .bf16 => (extractStridedSlice S4x4x4096x128 ![8, 0, 0, 0] x slices_S12x4x4096x128_S4x4x4096x128_8_0_0_0 : FVec Ideal S4x4x4096x128 .bf16)) h)
  rfl

theorem result12 (b : Fin 4) (s : Fin 4) (t : Fin 4096) (l : Fin 128) : after m c main_v48 (ix4 b s t l : S4x4x4096x128.Idx) = slabLane (value (X m c) (G m c) (W m c) b t) s l := by
  rw [tail12]
  refine (extractStridedSlice_apply _ _ _ _ (ix4 (up b) s t l : S12x4x4096x128.Idx) (fun a => ?_)).trans (final12 m c b s t l)
  match a with
    | ⟨0, _⟩ => exact rfl
    | ⟨1, _⟩ => exact (Nat.zero_add _).symm
    | ⟨2, _⟩ => exact (Nat.zero_add _).symm
    | ⟨3, _⟩ => exact (Nat.zero_add _).symm

theorem tail13 : after m c main_v49 = (extractStridedSlice S4x4096x2048 ![8, 0, 0] ((dats m 0 c).arrAt 13 cfg0.N : FVec Ideal S12x4096x2048 .bf16) slices_S12x4096x2048_S4x4096x2048_8_0_0 : FVec Ideal S4x4096x2048 .bf16) := by
  have h := (dats m 0 c).withArrays_arrAt sharedIn0 (V0 m c) (A_eq m c) 13
  refine Eq.trans ?_ (congrArg (fun x : FVec Ideal S12x4096x2048 .bf16 => (extractStridedSlice S4x4096x2048 ![8, 0, 0] x slices_S12x4096x2048_S4x4096x2048_8_0_0 : FVec Ideal S4x4096x2048 .bf16)) h)
  rfl

theorem result13 (b : Fin 4) (t : Fin 4096) (j : Fin 2048) : after m c main_v49 (ix3 b t j : S4x4096x2048.Idx) = gate (X m c) (G m c) (W m c) b t j := by
  rw [tail13]
  refine (extractStridedSlice_apply _ _ _ _ (ix3 (up b) t j : S12x4096x2048.Idx) (fun a => ?_)).trans (final13 m c b t j)
  match a with
    | ⟨0, _⟩ => exact rfl
    | ⟨1, _⟩ => exact (Nat.zero_add _).symm
    | ⟨2, _⟩ => exact (Nat.zero_add _).symm

end Cert.TailArray

end
-- ==== Proof.Tail.Strips.lean ====
/- How the projection's reference lays out heads: cutting a head's lanes, turning them, joining them again, and setting a
   head's lanes beside zeros in a strip of a slab. -/
module

public import proofs.«01_k».proof.Proof.Proj.Layout
public import proofs.«01_k».proof.Proof.Proj.Row

@[expose] public section

noncomputable section

namespace Cert.TailStrips

open Cert.ProjRow Idealize.ShloMosaic Idealize.ShloMosaic.ValueIdx

variable {α : Type}

/-- Some of the lanes of a rank-4 array. -/
theorem cut4 {a b n w v : Nat} (o : Nat) (x : (⟨4, ![a, b, n, v]⟩ : Shape).Idx → α)
    (h : (⟨4, ![a, b, n, v]⟩ : Shape).Slices ![0, 0, 0, o] ⟨4, ![a, b, n, w]⟩) (i : Fin a) (j : Fin b) (k : Fin n) (l : Fin w) (l' : Fin v)
    (hl : l'.val = o + l.val) : extractStridedSlice ⟨4, ![a, b, n, w]⟩ ![0, 0, 0, o] x h (ix4 i j k l) = x (ix4 i j k l') :=
  extractStridedSlice_apply _ x h _ _ fun e => by
    match e with
    | ⟨0, _⟩ => exact (Nat.zero_add _).symm
    | ⟨1, _⟩ => exact (Nat.zero_add _).symm
    | ⟨2, _⟩ => exact (Nat.zero_add _).symm
    | ⟨3, _⟩ => exact hl

/-- Some of the columns, and some of the rows, of a rank-3 array. -/
theorem cut3 {a b w v : Nat} (o : Nat) (x : (⟨3, ![a, b, v]⟩ : Shape).Idx → α)
    (h : (⟨3, ![a, b, v]⟩ : Shape).Slices ![0, 0, o] ⟨3, ![a, b, w]⟩) (i : Fin a) (j : Fin b) (l : Fin w) (l' : Fin v)
    (hl : l'.val = o + l.val) : extractStridedSlice ⟨3, ![a, b, w]⟩ ![0, 0, o] x h (ix3 i j l) = x (ix3 i j l') :=
  extractStridedSlice_apply _ x h _ _ fun e => by
    match e with
    | ⟨0, _⟩ => exact (Nat.zero_add _).symm
    | ⟨1, _⟩ => exact (Nat.zero_add _).symm
    | ⟨2, _⟩ => exact hl

theorem cutRows3 {a b w v : Nat} (o : Nat) (x : (⟨3, ![a, v, b]⟩ : Shape).Idx → α)
    (h : (⟨3, ![a, v, b]⟩ : Shape).Slices ![0, o, 0] ⟨3, ![a, w, b]⟩) (i : Fin a) (l : Fin w) (j : Fin b) (l' : Fin v)
    (hl : l'.val = o + l.val) : extractStridedSlice ⟨3, ![a, w, b]⟩ ![0, o, 0] x h (ix3 i l j) = x (ix3 i l' j) :=
  extractStridedSlice_apply _ x h _ _ fun e => by
    match e with
    | ⟨0, _⟩ => exact (Nat.zero_add _).symm
    | ⟨1, _⟩ => exact hl
    | ⟨2, _⟩ => exact (Nat.zero_add _).symm

/-- Two runs of lanes side by side. -/
theorem join4_left {a b n p q s : Nat} (x : (⟨4, ![a, b, n, p]⟩ : Shape).Idx → α) (y : (⟨4, ![a, b, n, q]⟩ : Shape).Idx → α)
    (h : Shape.Concatenates [⟨4, ![a, b, n, p]⟩, ⟨4, ![a, b, n, q]⟩] ⟨4, ![a, b, n, s]⟩ 3) (i : Fin a) (j : Fin b) (k : Fin n) (l : Fin s)
    (l' : Fin p) (hl : l'.val = l.val) :
    concatenate ⟨4, ![a, b, n, s]⟩ 3 [⟨⟨4, ![a, b, n, p]⟩, x⟩, ⟨⟨4, ![a, b, n, q]⟩, y⟩] h (ix4 i j k l) = x (ix4 i j k l') :=
  concatenate_apply_piece (t := ⟨4, ![a, b, n, s]⟩) 3 [⟨⟨4, ![a, b, n, p]⟩, x⟩, ⟨⟨4, ![a, b, n, q]⟩, y⟩] h (ix4 i j k l) 0 (by simp)
    ⟨4, ![a, b, n, p]⟩ x rfl rfl 0 rfl (ix4 i j k l') (fun e he => by
      match e with
      | ⟨0, _⟩ => rfl
      | ⟨1, _⟩ => rfl
      | ⟨2, _⟩ => rfl
      | ⟨3, _⟩ => exact absurd rfl he) (by show 0 + l'.val = l.val; omega)

theorem join4_right {a b n p q s : Nat} (x : (⟨4, ![a, b, n, p]⟩ : Shape).Idx → α) (y : (⟨4, ![a, b, n, q]⟩ : Shape).Idx → α)
    (h : Shape.Concatenates [⟨4, ![a, b, n, p]⟩, ⟨4, ![a, b, n, q]⟩] ⟨4, ![a, b, n, s]⟩ 3) (i : Fin a) (j : Fin b) (k : Fin n) (l : Fin s)
    (l' : Fin q) (hl : p + l'.val = l.val) :
    concatenate ⟨4, ![a, b, n, s]⟩ 3 [⟨⟨4, ![a, b, n, p]⟩, x⟩, ⟨⟨4, ![a, b, n, q]⟩, y⟩] h (ix4 i j k l) = y (ix4 i j k l') :=
  concatenate_apply_piece (t := ⟨4, ![a, b, n, s]⟩) 3 [⟨⟨4, ![a, b, n, p]⟩, x⟩, ⟨⟨4, ![a, b, n, q]⟩, y⟩] h (ix4 i j k l) 1 (by simp)
    ⟨4, ![a, b, n, q]⟩ y rfl rfl p rfl (ix4 i j k l') (fun e he => by
      match e with
      | ⟨0, _⟩ => rfl
      | ⟨1, _⟩ => rfl
      | ⟨2, _⟩ => rfl
      | ⟨3, _⟩ => exact absurd rfl he) hl

/-- Two runs of columns side by side. -/
theorem join3_left {a b p q s : Nat} (x : (⟨3, ![a, b, p]⟩ : Shape).Idx → α) (y : (⟨3, ![a, b, q]⟩ : Shape).Idx → α)
    (h : Shape.Concatenates [⟨3, ![a, b, p]⟩, ⟨3, ![a, b, q]⟩] ⟨3, ![a, b, s]⟩ 2) (i : Fin a) (j : Fin b) (l : Fin s)
    (l' : Fin p) (hl : l'.val = l.val) :
    concatenate ⟨3, ![a, b, s]⟩ 2 [⟨⟨3, ![a, b, p]⟩, x⟩, ⟨⟨3, ![a, b, q]⟩, y⟩] h (ix3 i j l) = x (ix3 i j l') :=
  concatenate_apply_piece (t := ⟨3, ![a, b, s]⟩) 2 [⟨⟨3, ![a, b, p]⟩, x⟩, ⟨⟨3, ![a, b, q]⟩, y⟩] h (ix3 i j l) 0 (by simp)
    ⟨3, ![a, b, p]⟩ x rfl rfl 0 rfl (ix3 i j l') (fun e he => by
      match e with
      | ⟨0, _⟩ => rfl
      | ⟨1, _⟩ => rfl
      | ⟨2, _⟩ => exact absurd rfl he) (by show 0 + l'.val = l.val; omega)

theorem join3_right {a b p q s : Nat} (x : (⟨3, ![a, b, p]⟩ : Shape).Idx → α) (y : (⟨3, ![a, b, q]⟩ : Shape).Idx → α)
    (h : Shape.Concatenates [⟨3, ![a, b, p]⟩, ⟨3, ![a, b, q]⟩] ⟨3, ![a, b, s]⟩ 2) (i : Fin a) (j : Fin b) (l : Fin s)
    (l' : Fin q) (hl : p + l'.val = l.val) :
    concatenate ⟨3, ![a, b, s]⟩ 2 [⟨⟨3, ![a, b, p]⟩, x⟩, ⟨⟨3, ![a, b, q]⟩, y⟩] h (ix3 i j l) = y (ix3 i j l') :=
  concatenate_apply_piece (t := ⟨3, ![a, b, s]⟩) 2 [⟨⟨3, ![a, b, p]⟩, x⟩, ⟨⟨3, ![a, b, q]⟩, y⟩] h (ix3 i j l) 1 (by simp)
    ⟨3, ![a, b, q]⟩ y rfl rfl p rfl (ix3 i j l') (fun e he => by
      match e with
      | ⟨0, _⟩ => rfl
      | ⟨1, _⟩ => rfl
      | ⟨2, _⟩ => exact absurd rfl he) hl

/-! ## The rotary turn -/

section Turn

variable {n : Nat} (hb : (⟨2, ![4096, 8]⟩ : Shape).BroadcastsInDim ⟨4, ![1, 4096, 1, 8]⟩ ![1, 3])
  (hb' : (⟨4, ![1, 4096, 1, 8]⟩ : Shape).BroadcastsInDim ⟨4, ![4, 4096, n, 8]⟩ ![0, 1, 2, 3])
  (h16 : (⟨4, ![4, 4096, n, 64]⟩ : Shape).Slices ![0, 0, 0, 0] ⟨4, ![4, 4096, n, 16]⟩)
  (h0 : (⟨4, ![4, 4096, n, 16]⟩ : Shape).Slices ![0, 0, 0, 0] ⟨4, ![4, 4096, n, 8]⟩)
  (h8 : (⟨4, ![4, 4096, n, 16]⟩ : Shape).Slices ![0, 0, 0, 8] ⟨4, ![4, 4096, n, 8]⟩)
  (h48 : (⟨4, ![4, 4096, n, 64]⟩ : Shape).Slices ![0, 0, 0, 16] ⟨4, ![4, 4096, n, 48]⟩)
  (hc : Shape.Concatenates [⟨4, ![4, 4096, n, 8]⟩, ⟨4, ![4, 4096, n, 8]⟩] ⟨4, ![4, 4096, n, 16]⟩ 3)
  (hc' : Shape.Concatenates [⟨4, ![4, 4096, n, 16]⟩, ⟨4, ![4, 4096, n, 48]⟩] ⟨4, ![4, 4096, n, 64]⟩ 3)

/-- A table of eight lanes a token, for every batch row and head. -/
abbrev table (T : FVec Ideal ⟨2, ![4096, 8]⟩ .f32) : FVec Ideal ⟨4, ![4, 4096, n, 8]⟩ .f32 :=
  broadcastInDim ⟨4, ![4, 4096, n, 8]⟩ ![0, 1, 2, 3] hb' (broadcastInDim ⟨4, ![1, 4096, 1, 8]⟩ ![1, 3] hb T)

theorem table_apply (T : FVec Ideal ⟨2, ![4096, 8]⟩ .f32) (b : Fin 4) (t : Fin 4096) (k : Fin n) (j : Fin 8) :
    table hb hb' T (ix4 b t k j) = T (ix2 t j) :=
  (broadcastInDim_apply _ _ _ _ (ix4 0 t 0 j) (fun a => by
    match a with
    | ⟨0, _⟩ => rfl
    | ⟨1, _⟩ => rfl
    | ⟨2, _⟩ => rfl
    | ⟨3, _⟩ => rfl)).trans (broadcastInDim_apply _ _ _ _ (ix2 t j) (fun a => by
    match a with
    | ⟨0, _⟩ => rfl
    | ⟨1, _⟩ => rfl))

abbrev low (x : FVec Ideal ⟨4, ![4, 4096, n, 64]⟩ .f32) : FVec Ideal ⟨4, ![4, 4096, n, 8]⟩ .f32 :=
  extractStridedSlice ⟨4, ![4, 4096, n, 8]⟩ ![0, 0, 0, 0] (extractStridedSlice ⟨4, ![4, 4096, n, 16]⟩ ![0, 0, 0, 0] x h16) h0
abbrev high (x : FVec Ideal ⟨4, ![4, 4096, n, 64]⟩ .f32) : FVec Ideal ⟨4, ![4, 4096, n, 8]⟩ .f32 :=
  extractStridedSlice ⟨4, ![4, 4096, n, 8]⟩ ![0, 0, 0, 8] (extractStridedSlice ⟨4, ![4, 4096, n, 16]⟩ ![0, 0, 0, 0] x h16) h8

theorem low_apply (x : FVec Ideal ⟨4, ![4, 4096, n, 64]⟩ .f32) (b : Fin 4) (t : Fin 4096) (k : Fin n) (j : Fin 8) (e : Fin 64) (he : e.val = j.val) :
    low h16 h0 x (ix4 b t k j) = x (ix4 b t k e) :=
  (cut4 0 _ h0 b t k j ⟨j.val, by omega⟩ (Nat.zero_add _).symm).trans (cut4 0 x h16 b t k _ e (he.trans (Nat.zero_add _).symm))
theorem high_apply (x : FVec Ideal ⟨4, ![4, 4096, n, 64]⟩ .f32) (b : Fin 4) (t : Fin 4096) (k : Fin n) (j : Fin 8) (e : Fin 64) (he : e.val = j.val + 8) :
    high h16 h8 x (ix4 b t k j) = x (ix4 b t k e) :=
  (cut4 8 _ h8 b t k j ⟨8 + j.val, by omega⟩ rfl).trans (cut4 0 x h16 b t k _ e (by show e.val = 0 + (8 + j.val); omega))

/-- A head's first sixteen lanes turned by the tables, its others kept. -/
abbrev turnHeads (x : FVec Ideal ⟨4, ![4, 4096, n, 64]⟩ .f32) (C S : FVec Ideal ⟨2, ![4096, 8]⟩ .f32) : FVec Ideal ⟨4, ![4, 4096, n, 64]⟩ .f32 :=
  concatenate ⟨4, ![4, 4096, n, 64]⟩ 3 [⟨⟨4, ![4, 4096, n, 16]⟩, concatenate ⟨4, ![4, 4096, n, 16]⟩ 3
      [⟨⟨4, ![4, 4096, n, 8]⟩, subf (mulf (low h16 h0 x) (table hb hb' C)) (mulf (high h16 h8 x) (table hb hb' S))⟩,
       ⟨⟨4, ![4, 4096, n, 8]⟩, addf (mulf (high h16 h8 x) (table hb hb' C)) (mulf (low h16 h0 x) (table hb hb' S))⟩] hc⟩,
    ⟨⟨4, ![4, 4096, n, 48]⟩, extractStridedSlice ⟨4, ![4, 4096, n, 48]⟩ ![0, 0, 0, 16] x h48⟩] hc'

theorem turnHeads_apply (x : FVec Ideal ⟨4, ![4, 4096, n, 64]⟩ .f32) (C S : FVec Ideal ⟨2, ![4096, 8]⟩ .f32)
    (b : Fin 4) (t : Fin 4096) (k : Fin n) (e : Fin 64) :
    turnHeads hb hb' h16 h0 h8 h48 hc hc' x C S (ix4 b t k e)
      = turn (fun e => x (ix4 b t k e)) (fun j => C (ix2 t j)) (fun j => S (ix2 t j)) e := by
  unfold turn
  by_cases h : e.val < 8
  · rw [dif_pos h]
    refine (join4_left _ _ hc' b t k e ⟨e.val, by omega⟩ rfl).trans ((join4_left _ _ hc b t k ⟨e.val, by omega⟩ ⟨e.val, h⟩ rfl).trans ?_)
    exact congrArg₂ (· - ·) (congrArg₂ (· * ·) (low_apply h16 h0 x b t k _ _ rfl) (table_apply hb hb' C b t k _))
      (congrArg₂ (· * ·) (high_apply h16 h8 x b t k _ _ rfl) (table_apply hb hb' S b t k _))
  · rw [dif_neg h]
    by_cases h' : e.val < 16
    · rw [dif_pos h']
      refine (join4_left _ _ hc' b t k e ⟨e.val, h'⟩ rfl).trans
        ((join4_right _ _ hc b t k ⟨e.val, h'⟩ ⟨e.val - 8, by omega⟩ (by show 8 + (e.val - 8) = e.val; omega)).trans ?_)
      exact congrArg₂ (· + ·) (congrArg₂ (· * ·) (high_apply h16 h8 x b t k _ _ (by show e.val = e.val - 8 + 8; omega)) (table_apply hb hb' C b t k _))
        (congrArg₂ (· * ·) (low_apply h16 h0 x b t k _ _ rfl) (table_apply hb hb' S b t k _))
    · rw [dif_neg h']
      exact (join4_right _ _ hc' b t k e ⟨e.val - 16, by omega⟩ (by show 16 + (e.val - 16) = e.val; omega)).trans
        (cut4 16 x h48 b t k _ e (by show e.val = 16 + (e.val - 16); omega))

end Turn

/-! ## The slabs -/

section Slabs

variable (hc : Shape.Concatenates [⟨4, ![4, 4096, 2, 64]⟩, ⟨4, ![4, 4096, 2, 64]⟩] ⟨4, ![4, 4096, 2, 128]⟩ 3)
  (hb : (⟨4, ![4, 4096, 2, 128]⟩ : Shape).BroadcastsInDim ⟨5, ![4, 4096, 2, 1, 128]⟩ ![0, 1, 2, 4])
  (hc' : Shape.Concatenates [⟨5, ![4, 4096, 2, 1, 128]⟩, ⟨5, ![4, 4096, 2, 1, 128]⟩] ⟨5, ![4, 4096, 2, 2, 128]⟩ 3)
  (hs : (⟨5, ![4, 4096, 2, 2, 128]⟩ : Shape).ShapeCasts ⟨4, ![4, 4096, 4, 128]⟩)
  (ht : (⟨4, ![4, 4096, 4, 128]⟩ : Shape).Transposes [0, 2, 1, 3] ⟨4, ![4, 4, 4096, 128]⟩)

abbrev spread (x : FVec Ideal ⟨4, ![4, 4096, 2, 128]⟩ .f32) : FVec Ideal ⟨5, ![4, 4096, 2, 1, 128]⟩ .f32 :=
  broadcastInDim ⟨5, ![4, 4096, 2, 1, 128]⟩ ![0, 1, 2, 4] hb x

theorem spread_apply (x : FVec Ideal ⟨4, ![4, 4096, 2, 128]⟩ .f32) (b : Fin 4) (t : Fin 4096) (k : Fin 2) (u : Fin 1) (l : Fin 128) :
    spread hb x (ix5 b t k u l) = x (ix4 b t k l) :=
  broadcastInDim_apply _ _ _ _ (ix4 b t k l) (fun a => by
    match a with
    | ⟨0, _⟩ => rfl
    | ⟨1, _⟩ => rfl
    | ⟨2, _⟩ => rfl
    | ⟨3, _⟩ => rfl)

abbrev pair (x y : FVec Ideal ⟨5, ![4, 4096, 2, 1, 128]⟩ .f32) : FVec Ideal ⟨5, ![4, 4096, 2, 2, 128]⟩ .f32 :=
  concatenate ⟨5, ![4, 4096, 2, 2, 128]⟩ 3 [⟨⟨5, ![4, 4096, 2, 1, 128]⟩, x⟩, ⟨⟨5, ![4, 4096, 2, 1, 128]⟩, y⟩] hc'

theorem pair_first (x y : FVec Ideal ⟨5, ![4, 4096, 2, 1, 128]⟩ .f32) (b : Fin 4) (t : Fin 4096) (k r : Fin 2) (hr : r.val = 0) (l : Fin 128) :
    pair hc' x y (ix5 b t k r l) = x (ix5 b t k 0 l) :=
  concatenate_apply_piece (t := ⟨5, ![4, 4096, 2, 2, 128]⟩) 3 [⟨⟨5, ![4, 4096, 2, 1, 128]⟩, x⟩, ⟨⟨5, ![4, 4096, 2, 1, 128]⟩, y⟩] hc' (ix5 b t k r l) 0 (by simp)
    ⟨5, ![4, 4096, 2, 1, 128]⟩ x rfl rfl 0 rfl (ix5 b t k 0 l) (fun e he => by
      match e with
      | ⟨0, _⟩ => rfl
      | ⟨1, _⟩ => rfl
      | ⟨2, _⟩ => rfl
      | ⟨3, _⟩ => exact absurd rfl he
      | ⟨4, _⟩ => rfl) (by show 0 + 0 = r.val; omega)

theorem pair_second (x y : FVec Ideal ⟨5, ![4, 4096, 2, 1, 128]⟩ .f32) (b : Fin 4) (t : Fin 4096) (k r : Fin 2) (hr : r.val = 1) (l : Fin 128) :
    pair hc' x y (ix5 b t k r l) = y (ix5 b t k 0 l) :=
  concatenate_apply_piece (t := ⟨5, ![4, 4096, 2, 2, 128]⟩) 3 [⟨⟨5, ![4, 4096, 2, 1, 128]⟩, x⟩, ⟨⟨5, ![4, 4096, 2, 1, 128]⟩, y⟩] hc' (ix5 b t k r l) 1 (by simp)
    ⟨5, ![4, 4096, 2, 1, 128]⟩ y rfl rfl 1 rfl (ix5 b t k 0 l) (fun e he => by
      match e with
      | ⟨0, _⟩ => rfl
      | ⟨1, _⟩ => rfl
      | ⟨2, _⟩ => rfl
      | ⟨3, _⟩ => exact absurd rfl he
      | ⟨4, _⟩ => rfl) (by show 1 + 0 = r.val; omega)

/-- A head's lanes beside zeros. -/
abbrev beside (x y : FVec Ideal ⟨4, ![4, 4096, 2, 64]⟩ .f32) : FVec Ideal ⟨4, ![4, 4096, 2, 128]⟩ .f32 :=
  concatenate ⟨4, ![4, 4096, 2, 128]⟩ 3 [⟨⟨4, ![4, 4096, 2, 64]⟩, x⟩, ⟨⟨4, ![4, 4096, 2, 64]⟩, y⟩] hc

/-- The four slabs: each head twice, in a strip's low lanes and in its high lanes. -/
abbrev slabs (x z : FVec Ideal ⟨4, ![4, 4096, 2, 64]⟩ .f32) : FVec Ideal ⟨4, ![4, 4, 4096, 128]⟩ .f32 :=
  transpose ⟨4, ![4, 4, 4096, 128]⟩ [0, 2, 1, 3] (shapeCast ⟨4, ![4, 4096, 4, 128]⟩ (pair hc' (spread hb (beside hc x z)) (spread hb (beside hc z x))) hs) ht

theorem slabs_apply (x z : FVec Ideal ⟨4, ![4, 4096, 2, 64]⟩ .f32) (hz : ∀ i, z i = 0) (b : Fin 4) (s : Fin 4) (t : Fin 4096) (l : Fin 128) :
    slabs hc hb hc' hs ht x z (ix4 b s t l) = slabLane (fun h e => x (ix4 b t h e)) s l := by
  refine (transpose_apply (t := ⟨4, ![4, 4, 4096, 128]⟩) _ _ ht _ (ix4 b t s l) (fun a => by
    match a with
    | ⟨0, _⟩ => rfl
    | ⟨1, _⟩ => rfl
    | ⟨2, _⟩ => rfl
    | ⟨3, _⟩ => rfl)).trans ((shapeCast_apply _ hs _ (ix5 b t ⟨s.val / 2, by omega⟩ ⟨s.val % 2, by omega⟩ l) ?_).trans ?_)
  · refine (Shape.rowMajor_val_five (d := ![4, 4096, 2, 2, 128]) _).trans (Eq.trans ?_ (Shape.rowMajor_val_four _).symm)
    show (((b.val * 4096 + t.val) * 2 + s.val / 2) * 2 + s.val % 2) * 128 + l.val = ((b.val * 4096 + t.val) * 4 + s.val) * 128 + l.val
    omega
  unfold slabLane
  by_cases h : s.val % 2 = 0
  · refine (pair_first hc' _ _ b t _ _ h l).trans ((spread_apply hb _ b t _ 0 l).trans ?_)
    by_cases hl : l.val < 64
    · rw [if_pos (by omega)]
      exact join4_left x z hc b t _ l ⟨l.val % 64, by omega⟩ (by show l.val % 64 = l.val; omega)
    · rw [if_neg (by omega)]
      exact (join4_right x z hc b t _ l ⟨l.val - 64, by omega⟩ (by show 64 + (l.val - 64) = l.val; omega)).trans (hz _)
  · refine (pair_second hc' _ _ b t _ _ (by show s.val % 2 = 1; omega) l).trans ((spread_apply hb _ b t _ 0 l).trans ?_)
    by_cases hl : l.val < 64
    · rw [if_neg (by omega)]
      exact (join4_left z x hc b t _ l ⟨l.val, hl⟩ rfl).trans (hz _)
    · rw [if_pos (by omega)]
      exact join4_right z x hc b t _ l ⟨l.val % 64, by omega⟩ (by show 64 + l.val % 64 = l.val; omega)

end Slabs

end Cert.TailStrips

end
-- ==== Proof.Tail.RefRow.lean ====
/- The projection's reference, read at a token: the normed row through the weight, cut into its strips. -/
module

public import proofs.«01_k».proof.Proof.Tail.Strips
public import proofs.«01_k».proof.Proof.Tail.Token
public import proofs.«01_k».proof.Proof.Gen.TailRefIdeal.Read
public import Idealize.ShloMosaic.Lib.IdealHost

@[expose] public section

noncomputable section

namespace Cert.TailRefRow

open Cert.TailRefIdeal Cert.TailRefIdeal.Gen Cert.TailRefIdeal.Read Cert.MixRow Cert.ProjRow Cert.TailToken Cert.TailStrips Idealize.ShloMosaic.ValueIdx
open Idealize.ShloMosaic

variable (x0 : (⟨S4x4096x1024, .f32⟩ : BufTy).Contents (Elt Ideal)) (x1 : (⟨S1x1024, .f32⟩ : BufTy).Contents (Elt Ideal))
  (x2 : (⟨S1x1024x4352, .f32⟩ : BufTy).Contents (Elt Ideal)) (x3 : (⟨S1x3x1536, .f32⟩ : BufTy).Contents (Elt Ideal))
  (x4 : (⟨S1x1536, .f32⟩ : BufTy).Contents (Elt Ideal))
variable (b : Fin 4) (t : Fin 4096)

/-! ## The projection -/

theorem row_eq (k : Fin 1024) : val_main_v13 (F := Ideal) x0 x1 (ix3 b t k) = row x0 x1 b t k := by
  have hs : val_main_v2 (F := Ideal) x0 (ix2 b t) = ∑ k : Fin 1024, x0 (ix3 b t k) * x0 (ix3 b t k) := by
    rw [val_main_v2_apply]
    refine (congrArg (· + _) Ideal.ofBits_zero_f32).trans ((zero_add _).trans (Finset.sum_congr rfl fun k _ => ?_))
    exact congrArg (fun i => x0 i * x0 i) (funext fun a => by
    match a with
    | ⟨0, _⟩ => rfl
    | ⟨1, _⟩ => rfl
    | ⟨2, _⟩ => rfl)
  rw [val_main_v13_apply, val_main_v10_apply, val_main_v9_apply, val_main_v8_apply, val_main_v7_apply, val_main_v5_apply, val_main_v3_apply, val_main_v12_apply, val_main_v11_apply, val_main_v0_apply, val_main_v6_apply, val_main_v4_apply]
  unfold row
  refine congrArg₂ (· * ·) (congrArg₂ (· * ·) rfl (congrArg Ideal.rsqrt (congrArg₂ (· + ·) (congrArg₂ Ideal.div ?_ rfl) rfl))) ?_
  · exact (congrArg (val_main_v2 (F := Ideal) x0) (funext fun a => by
    match a with
    | ⟨0, _⟩ => rfl
    | ⟨1, _⟩ => rfl)).trans hs
  · exact congrArg x1 (funext fun a => Fin.ext (by
      match a with
      | ⟨0, _⟩ => rfl
      | ⟨1, _⟩ =>
        show k.val % 1024 = k.val
        omega))

theorem weight (k : Fin 1024) (j : Fin 4352) : val_main_v14 (F := Ideal) x2 (ix2 k j) = x2 (ix3 0 k j) :=
  Cert.Layout.cast_drop1 _ _ k j

theorem proj_eq (j : Fin 4352) : val_main_v15 (F := Ideal) x0 x1 x2 (ix3 b t j) = proj x0 x1 x2 b t j := by
  rw [val_main_v15_apply]
  refine Finset.sum_congr rfl fun k _ => congrArg₂ (· * ·) ((congrArg (val_main_v13 (F := Ideal) x0 x1) (funext fun a => by
    match a with
    | ⟨0, _⟩ => rfl
    | ⟨1, _⟩ => rfl
    | ⟨2, _⟩ => rfl)).trans (row_eq x0 x1 b t k))
    ((congrArg (val_main_v14 (F := Ideal) x2) (funext fun a => by
    match a with
    | ⟨0, _⟩ => rfl
    | ⟨1, _⟩ => rfl)).trans (weight x2 k j))

theorem streams (j : Fin 1536) : val_main_v16 (F := Ideal) x0 x1 x2 (ix3 b t j) = proj x0 x1 x2 b t ⟨j.val, by omega⟩ :=
  (cut3 0 _ slices_S4x4096x4352_S4x4096x1536_0_0_0 b t j ⟨j.val, by omega⟩ (Nat.zero_add _).symm).trans (proj_eq x0 x1 x2 b t _)
theorem queries (j : Fin 512) : val_main_v17 (F := Ideal) x0 x1 x2 (ix3 b t j) = proj x0 x1 x2 b t ⟨1536 + j.val, by omega⟩ :=
  (cut3 1536 _ slices_S4x4096x4352_S4x4096x512_0_0_1536 b t j ⟨1536 + j.val, by omega⟩ rfl).trans (proj_eq x0 x1 x2 b t _)
theorem keys (j : Fin 128) : val_main_v18 (F := Ideal) x0 x1 x2 (ix3 b t j) = proj x0 x1 x2 b t ⟨2048 + j.val, by omega⟩ :=
  (cut3 2048 _ slices_S4x4096x4352_S4x4096x128_0_0_2048 b t j ⟨2048 + j.val, by omega⟩ rfl).trans (proj_eq x0 x1 x2 b t _)
theorem values (j : Fin 128) : val_main_v19 (F := Ideal) x0 x1 x2 (ix3 b t j) = proj x0 x1 x2 b t ⟨2176 + j.val, by omega⟩ :=
  (cut3 2176 _ slices_S4x4096x4352_S4x4096x128_0_0_2176 b t j ⟨2176 + j.val, by omega⟩ rfl).trans (proj_eq x0 x1 x2 b t _)
theorem gates_h (j : Fin 1024) : val_main_v20 (F := Ideal) x0 x1 x2 (ix3 b t j) = proj x0 x1 x2 b t ⟨2304 + j.val, by omega⟩ :=
  (cut3 2304 _ slices_S4x4096x4352_S4x4096x1024_0_0_2304 b t j ⟨2304 + j.val, by omega⟩ rfl).trans (proj_eq x0 x1 x2 b t _)
theorem gates_a (j : Fin 1024) : val_main_v21 (F := Ideal) x0 x1 x2 (ix3 b t j) = proj x0 x1 x2 b t ⟨3328 + j.val, by omega⟩ :=
  (cut3 3328 _ slices_S4x4096x4352_S4x4096x1024_0_0_3328 b t j ⟨3328 + j.val, by omega⟩ rfl).trans (proj_eq x0 x1 x2 b t _)

end Cert.TailRefRow

end
-- ==== Proof.Tail.RefConv.lean ====
/- The projection's reference, read at a token: the short convolution's streams. -/
module

public import proofs.«01_k».proof.Proof.Tail.Strips
public import proofs.«01_k».proof.Proof.Tail.Token
public import proofs.«01_k».proof.Proof.Gen.TailRefIdeal.Read
public import proofs.«01_k».proof.Proof.Tail.RefRow
public import Idealize.ShloMosaic.Lib.IdealHost

@[expose] public section

noncomputable section

namespace Cert.TailRefRow

open Cert.TailRefIdeal Cert.TailRefIdeal.Gen Cert.TailRefIdeal.Read Cert.MixRow Cert.ProjRow Cert.TailToken Cert.TailStrips Idealize.ShloMosaic.ValueIdx
open Idealize.ShloMosaic

variable (x0 : (⟨S4x4096x1024, .f32⟩ : BufTy).Contents (Elt Ideal)) (x1 : (⟨S1x1024, .f32⟩ : BufTy).Contents (Elt Ideal))
  (x2 : (⟨S1x1024x4352, .f32⟩ : BufTy).Contents (Elt Ideal)) (x3 : (⟨S1x3x1536, .f32⟩ : BufTy).Contents (Elt Ideal))
  (x4 : (⟨S1x1536, .f32⟩ : BufTy).Contents (Elt Ideal))
variable (b : Fin 4) (t : Fin 4096)

/-! ## The short convolution -/

/-- A row of the padded streams: a token one place on, and nothing at either end. -/
theorem padded_inside (r : Fin 4098) (t : Fin 4096) (h : r.val = 1 + t.val) (j : Fin 1536) :
    val_main_v22 (F := Ideal) x0 x1 x2 (ix3 b r j) = proj x0 x1 x2 b t ⟨j.val, by omega⟩ := by
  unfold val_main_v22
  refine (pad_apply_of_inside (s := S4x4096x1536) (t := S4x4098x1536) _ _ _ _ _ pads_S4x4096x1536_S4x4098x1536_000_110_000 h_S_ (ix3 b r j) (ix3 b t j) (fun a => ?_)).trans
    (streams x0 x1 x2 b t j)
  match a with
  | ⟨0, _⟩ =>
    show b.val = 0 + b.val * (0 + 1)
    omega
  | ⟨1, _⟩ =>
    show r.val = 1 + t.val * (0 + 1)
    omega
  | ⟨2, _⟩ =>
    show j.val = 0 + j.val * (0 + 1)
    omega

theorem padded_outside (r : Fin 4098) (h : r.val = 0 ∨ r.val = 4097) (j : Fin 1536) :
    val_main_v22 (F := Ideal) x0 x1 x2 (ix3 b r j) = 0 := by
  unfold val_main_v22
  refine (pad_apply_of_not_inside (s := S4x4096x1536) (t := S4x4098x1536) _ _ _ _ _ pads_S4x4096x1536_S4x4098x1536_000_110_000 h_S_ (ix3 b r j) (1 : Fin 3) (fun hin => ?_)).trans ?_
  · have h1 : 1 ≤ r.val := hin.1
    have h2 : (r.val - 1) / (0 + 1) < 4096 := hin.2.2
    omega
  · show (((0#32 : BitVec 32).toInt : ℝ) : EReal) = 0
    simp

theorem before_eq (r : Fin 4098) (h : r.val = t.val) (j : Fin 1536) :
    val_main_v22 (F := Ideal) x0 x1 x2 (ix3 b r j) = before x0 x1 x2 b t ⟨j.val, by omega⟩ := by
  unfold before
  by_cases h0 : t.val = 0
  · rw [dif_pos h0]
    exact padded_outside x0 x1 x2 b r (Or.inl (by omega)) j
  · rw [dif_neg h0]
    exact padded_inside x0 x1 x2 b r ⟨t.val - 1, by omega⟩ (by show r.val = 1 + (t.val - 1); omega) j

theorem behind_eq (r : Fin 4098) (h : r.val = 2 + t.val) (j : Fin 1536) :
    val_main_v22 (F := Ideal) x0 x1 x2 (ix3 b r j) = behind x0 x1 x2 b t ⟨j.val, by omega⟩ := by
  unfold behind
  by_cases h0 : t.val = 4095
  · rw [dif_pos h0]
    exact padded_outside x0 x1 x2 b r (Or.inr (by omega)) j
  · rw [dif_neg h0]
    exact padded_inside x0 x1 x2 b r ⟨t.val + 1, by omega⟩ (by show r.val = 1 + (t.val + 1); omega) j

/-- A row of numbers set at every token. -/
theorem rowEverywhere (y : (⟨S1536, .f32⟩ : BufTy).Contents (Elt Ideal)) (j : Fin 1536) :
    broadcastInDim S4x4096x1536 ![0, 1, 2] bcast_S1x1x1536_S4x4096x1536_0_1_2 (broadcastInDim S1x1x1536 ![2] bcast_S1536_S1x1x1536_2 y) (ix3 b t j) = y (ix1 j) :=
  (broadcastInDim_apply _ _ _ _ (ix3 0 0 j) (fun a => by
    match a with
    | ⟨0, _⟩ => rfl
    | ⟨1, _⟩ => rfl
    | ⟨2, _⟩ => rfl)).trans (broadcastInDim_apply _ _ _ _ (ix1 j) (fun a => by
    match a with
    | ⟨0, _⟩ => rfl))

theorem lineOf (y : (⟨S1x1536, .f32⟩ : BufTy).Contents (Elt Ideal)) (j : Fin 1536) : shapeCast S1536 y shapeCasts_S1x1536_S1536 (ix1 j) = y (ix2 0 j) :=
  shapeCast_apply _ _ _ _ (by
    refine (Shape.rowMajor_val_two (d := ![1, 1536]) _).trans (Eq.trans ?_ (Shape.rowMajor_val_one _).symm)
    show 0 * 1536 + j.val = j.val
    omega)

theorem tap (o : Nat) (r : Fin 3) (hr : r.val = o) (h : S3x1536.Slices ![o, 0] S1x1536) (j : Fin 1536) :
    shapeCast S1536 (extractStridedSlice S1x1536 ![o, 0] (shapeCast S3x1536 x3 shapeCasts_S1x3x1536_S3x1536) h) shapeCasts_S1x1536_S1536 (ix1 j) = x3 (ix3 0 r j) :=
  (lineOf _ j).trans ((Cert.ProjLayout.slice2 o 0 _ h 0 j r j (by show r.val = o + 0; omega) (by omega)).trans (Cert.Layout.cast_drop1 _ _ r j))

theorem conv_eq (j : Fin 1536) : val_main_v51 (F := Ideal) x0 x1 x2 x3 x4 (ix3 b t j) = conv x0 x1 x2 x3 x4 b t j := by
  have h0 : val_main_v31 (F := Ideal) x0 x1 x2 x3 (ix3 b t j) = before x0 x1 x2 b t ⟨j.val, by omega⟩ * x3 (ix3 0 0 j) := by
    refine (congrArg (· + _) Ideal.ofBits_zero_f32).trans ((zero_add _).trans (congrArg₂ (· * ·) ?_ ?_))
    · exact (cutRows3 0 _ slices_S4x4098x1536_S4x4096x1536_0_0_0 b t j ⟨t.val, by omega⟩ (Nat.zero_add _).symm).trans (before_eq x0 x1 x2 b t _ rfl j)
    · exact (rowEverywhere b t _ j).trans (tap x3 0 0 rfl _ j)
  have h1 : val_main_v38 (F := Ideal) x0 x1 x2 x3 (ix3 b t j) = proj x0 x1 x2 b t ⟨j.val, by omega⟩ * x3 (ix3 0 1 j) := by
    refine congrArg₂ (· * ·) ?_ ?_
    · exact (cutRows3 1 _ slices_S4x4098x1536_S4x4096x1536_0_1_0 b t j ⟨1 + t.val, by omega⟩ rfl).trans (padded_inside x0 x1 x2 b _ t rfl j)
    · exact (rowEverywhere b t _ j).trans (tap x3 1 1 rfl _ j)
  have h2 : val_main_v46 (F := Ideal) x0 x1 x2 x3 (ix3 b t j) = behind x0 x1 x2 b t ⟨j.val, by omega⟩ * x3 (ix3 0 2 j) := by
    refine congrArg₂ (· * ·) ?_ ?_
    · exact (cutRows3 2 _ slices_S4x4098x1536_S4x4096x1536_0_2_0 b t j ⟨2 + t.val, by omega⟩ rfl).trans (behind_eq x0 x1 x2 b t _ rfl j)
    · exact (rowEverywhere b t _ j).trans (tap x3 2 2 rfl _ j)
  have h3 : val_main_v50 (F := Ideal) x4 (ix3 b t j) = x4 (ix2 0 j) := (rowEverywhere b t _ j).trans (lineOf x4 j)
  exact congrArg₂ (· + ·) (congrArg₂ (· + ·) (congrArg₂ (· + ·) h0 h1) h2) h3

theorem stream_eq (s : Fin 12) (l : Fin 128) : val_main_v132 (F := Ideal) x0 x1 x2 x3 x4 (ix4 b s t l) = stream x0 x1 x2 x3 x4 b s t l := by
  refine (transpose_apply (t := S4x12x4096x128) _ _ transposes_S4x4096x12x128_S4x12x4096x128_0_2_1_3 _ (ix4 b t s l) (fun a => by
    match a with
    | ⟨0, _⟩ => rfl
    | ⟨1, _⟩ => rfl
    | ⟨2, _⟩ => rfl
    | ⟨3, _⟩ => rfl)).trans ((shapeCast_apply _ shapeCasts_S4x4096x1536_S4x4096x12x128 _ (ix3 b t ⟨128 * s.val + l.val, by omega⟩) ?_).trans
      (conv_eq x0 x1 x2 x3 x4 b t _))
  refine (Shape.rowMajor_val_three (d := ![4, 4096, 1536]) _).trans (Eq.trans ?_ (Shape.rowMajor_val_four _).symm)
  show (b.val * 4096 + t.val) * 1536 + (128 * s.val + l.val) = ((b.val * 4096 + t.val) * 12 + s.val) * 128 + l.val
  omega

end Cert.TailRefRow

end
-- ==== Proof.Tail.RefTables.lean ====
/- The reference's rotary tables are the kernel's. -/
module

public import proofs.«01_k».proof.Proof.Tail.Strips
public import proofs.«01_k».proof.Proof.Tail.Token
public import proofs.«01_k».proof.Proof.Tail.Host
public import proofs.«01_k».proof.Proof.Gen.TailRefIdeal.Read
public import proofs.«01_k».proof.Proof.Tail.RefRow
public import Idealize.ShloMosaic.Lib.IdealHost

@[expose] public section

noncomputable section

namespace Cert.TailRefRow

open Cert.TailRefIdeal Cert.TailRefIdeal.Gen Cert.TailRefIdeal.Read Cert.MixRow Cert.ProjRow Cert.TailToken Cert.TailStrips Idealize.ShloMosaic.ValueIdx
open Cert.TailHost (co si)
open Idealize.ShloMosaic

variable (x0 : (⟨S4x4096x1024, .f32⟩ : BufTy).Contents (Elt Ideal)) (x1 : (⟨S1x1024, .f32⟩ : BufTy).Contents (Elt Ideal))
  (x2 : (⟨S1x1024x4352, .f32⟩ : BufTy).Contents (Elt Ideal)) (x3 : (⟨S1x3x1536, .f32⟩ : BufTy).Contents (Elt Ideal))
  (x4 : (⟨S1x1536, .f32⟩ : BufTy).Contents (Elt Ideal))
variable (b : Fin 4) (t : Fin 4096)

/-- The queries' angles and the keys' angles. -/
theorem angle_eq : val_main_v69 (F := Ideal) = Cert.TailHost.angles := by
  unfold val_main_v69 val_main_v68 val_main_v67 val_main_v66 val_main_v65 val_main_v64 val_main_v63 val_main_v62 val_main_v61 val_main_v60 val_main_v59 val_main_v58 val_main_v57 val_main_v56 val_main_v55 val_main_v54 val_main_v52
  rfl
theorem angle_eq' : val_main_v108 (F := Ideal) = val_main_v69 (F := Ideal) := rfl

theorem co_eq (j : Fin 8) : val_main_v70 (F := Ideal) (ix2 t j) = co t j := congrArg (fun y : FVec Ideal S4096x8 .f32 => Host.cos y (ix2 t j)) angle_eq
theorem si_eq (j : Fin 8) : val_main_v72 (F := Ideal) (ix2 t j) = si t j := congrArg (fun y : FVec Ideal S4096x8 .f32 => Host.sin y (ix2 t j)) angle_eq
theorem co_eq' (j : Fin 8) : val_main_v109 (F := Ideal) (ix2 t j) = co t j := congrArg (fun y : FVec Ideal S4096x8 .f32 => Host.cos y (ix2 t j)) (angle_eq'.trans angle_eq)
theorem si_eq' (j : Fin 8) : val_main_v111 (F := Ideal) (ix2 t j) = si t j := congrArg (fun y : FVec Ideal S4096x8 .f32 => Host.sin y (ix2 t j)) (angle_eq'.trans angle_eq)

end Cert.TailRefRow

end
-- ==== Proof.Tail.RefTurn.lean ====
/- The reference's turned queries and keys are heads turned by the tables. -/
module

public import proofs.«01_k».proof.Proof.Tail.Strips
public import proofs.«01_k».proof.Proof.Tail.Token
public import proofs.«01_k».proof.Proof.Gen.TailRefIdeal.Read
public import proofs.«01_k».proof.Proof.Tail.RefRow
public import Idealize.ShloMosaic.Lib.IdealHost

@[expose] public section

noncomputable section

namespace Cert.TailRefRow

open Cert.TailRefIdeal Cert.TailRefIdeal.Gen Cert.TailRefIdeal.Read Cert.MixRow Cert.ProjRow Cert.TailToken Cert.TailStrips Idealize.ShloMosaic.ValueIdx
open Idealize.ShloMosaic

variable (x0 : (⟨S4x4096x1024, .f32⟩ : BufTy).Contents (Elt Ideal)) (x1 : (⟨S1x1024, .f32⟩ : BufTy).Contents (Elt Ideal))
  (x2 : (⟨S1x1024x4352, .f32⟩ : BufTy).Contents (Elt Ideal)) (x3 : (⟨S1x3x1536, .f32⟩ : BufTy).Contents (Elt Ideal))
  (x4 : (⟨S1x1536, .f32⟩ : BufTy).Contents (Elt Ideal))
variable (b : Fin 4) (t : Fin 4096)

/-- The queries, turned. -/
theorem turnedQ : val_main_v89 (F := Ideal) x0 x1 x2 = turnHeads (n := 8) bcast_S4096x8_S1x4096x1x8_1_3 bcast_S1x4096x1x8_S4x4096x8x8_0_1_2_3 slices_S4x4096x8x64_S4x4096x8x16_0_0_0_0
      slices_S4x4096x8x16_S4x4096x8x8_0_0_0_0 slices_S4x4096x8x16_S4x4096x8x8_0_0_0_8 slices_S4x4096x8x64_S4x4096x8x48_0_0_0_16
      concatenates_S4x4096x8x8_S4x4096x8x8_S4x4096x8x16_d3 concatenates_S4x4096x8x16_S4x4096x8x48_S4x4096x8x64_d3
      (val_main_v53 (F := Ideal) x0 x1 x2) (val_main_v70 (F := Ideal)) (val_main_v72 (F := Ideal)) := by
  unfold val_main_v89 val_main_v88 val_main_v87 val_main_v86 val_main_v85 val_main_v84 val_main_v83 val_main_v82 val_main_v81 val_main_v80 val_main_v79 val_main_v78 val_main_v77 val_main_v76 val_main_v75 val_main_v74 val_main_v73 val_main_v71
  generalize val_main_v53 (F := Ideal) x0 x1 x2 = y
  generalize val_main_v70 (F := Ideal) = C
  generalize val_main_v72 (F := Ideal) = S
  rfl

/-- The keys, turned. -/
theorem turnedK : val_main_v128 (F := Ideal) x0 x1 x2 = turnHeads (n := 2) bcast_S4096x8_S1x4096x1x8_1_3 bcast_S1x4096x1x8_S4x4096x2x8_0_1_2_3 slices_S4x4096x2x64_S4x4096x2x16_0_0_0_0
      slices_S4x4096x2x16_S4x4096x2x8_0_0_0_0 slices_S4x4096x2x16_S4x4096x2x8_0_0_0_8 slices_S4x4096x2x64_S4x4096x2x48_0_0_0_16
      concatenates_S4x4096x2x8_S4x4096x2x8_S4x4096x2x16_d3 concatenates_S4x4096x2x16_S4x4096x2x48_S4x4096x2x64_d3
      (val_main_v92 (F := Ideal) x0 x1 x2) (val_main_v109 (F := Ideal)) (val_main_v111 (F := Ideal)) := by
  unfold val_main_v128 val_main_v127 val_main_v126 val_main_v125 val_main_v124 val_main_v123 val_main_v122 val_main_v121 val_main_v120 val_main_v119 val_main_v118 val_main_v117 val_main_v116 val_main_v115 val_main_v114 val_main_v113 val_main_v112 val_main_v110
  generalize val_main_v92 (F := Ideal) x0 x1 x2 = y
  generalize val_main_v109 (F := Ideal) = C
  generalize val_main_v111 (F := Ideal) = S
  rfl

end Cert.TailRefRow

end
-- ==== Proof.Tail.RefSlabs.lean ====
/- The reference's key and value slabs are heads set beside zeros. -/
module

public import proofs.«01_k».proof.Proof.Tail.Strips
public import proofs.«01_k».proof.Proof.Tail.Token
public import proofs.«01_k».proof.Proof.Gen.TailRefIdeal.Read
public import proofs.«01_k».proof.Proof.Tail.RefRow
public import Idealize.ShloMosaic.Lib.IdealHost

@[expose] public section

noncomputable section

namespace Cert.TailRefRow

open Cert.TailRefIdeal Cert.TailRefIdeal.Gen Cert.TailRefIdeal.Read Cert.MixRow Cert.ProjRow Cert.TailToken Cert.TailStrips Idealize.ShloMosaic.ValueIdx
open Idealize.ShloMosaic

variable (x0 : (⟨S4x4096x1024, .f32⟩ : BufTy).Contents (Elt Ideal)) (x1 : (⟨S1x1024, .f32⟩ : BufTy).Contents (Elt Ideal))
  (x2 : (⟨S1x1024x4352, .f32⟩ : BufTy).Contents (Elt Ideal)) (x3 : (⟨S1x3x1536, .f32⟩ : BufTy).Contents (Elt Ideal))
  (x4 : (⟨S1x1536, .f32⟩ : BufTy).Contents (Elt Ideal))
variable (b : Fin 4) (t : Fin 4096)

/-- The keys' slabs. -/
theorem slabbedK : val_main_v142 (F := Ideal) x0 x1 x2 = slabs concatenates_S4x4096x2x64_S4x4096x2x64_S4x4096x2x128_d3 bcast_S4x4096x2x128_S4x4096x2x1x128_0_1_2_4
    concatenates_S4x4096x2x1x128_S4x4096x2x1x128_S4x4096x2x2x128_d3 shapeCasts_S4x4096x2x2x128_S4x4096x4x128 transposes_S4x4096x4x128_S4x4x4096x128_0_2_1_3
    (val_main_v128 (F := Ideal) x0 x1 x2) (val_main_v135 (F := Ideal)) := by
  unfold val_main_v142 val_main_v141 val_main_v140 val_main_v139 val_main_v138 val_main_v137 val_main_v136
  generalize val_main_v128 (F := Ideal) x0 x1 x2 = y
  generalize val_main_v135 (F := Ideal) = z
  rfl

/-- The values' slabs. -/
theorem slabbedV : val_main_v151 (F := Ideal) x0 x1 x2 = slabs concatenates_S4x4096x2x64_S4x4096x2x64_S4x4096x2x128_d3 bcast_S4x4096x2x128_S4x4096x2x1x128_0_1_2_4
    concatenates_S4x4096x2x1x128_S4x4096x2x1x128_S4x4096x2x2x128_d3 shapeCasts_S4x4096x2x2x128_S4x4096x4x128 transposes_S4x4096x4x128_S4x4x4096x128_0_2_1_3
    (val_main_v129 (F := Ideal) x0 x1 x2) (val_main_v144 (F := Ideal)) := by
  unfold val_main_v151 val_main_v150 val_main_v149 val_main_v148 val_main_v147 val_main_v146 val_main_v145
  generalize val_main_v129 (F := Ideal) x0 x1 x2 = y
  generalize val_main_v144 (F := Ideal) = z
  rfl

end Cert.TailRefRow

end
-- ==== Proof.Tail.RefHeads.lean ====
/- The projection's reference, read at a token: the turned queries and keys, and the values. -/
module

public import proofs.«01_k».proof.Proof.Tail.Strips
public import proofs.«01_k».proof.Proof.Tail.Token
public import proofs.«01_k».proof.Proof.Tail.Host
public import proofs.«01_k».proof.Proof.Gen.TailRefIdeal.Read
public import proofs.«01_k».proof.Proof.Tail.RefRow
public import proofs.«01_k».proof.Proof.Tail.RefTables
public import proofs.«01_k».proof.Proof.Tail.RefTurn
public import proofs.«01_k».proof.Proof.Tail.RefSlabs
public import Idealize.ShloMosaic.Lib.IdealHost

@[expose] public section

noncomputable section

namespace Cert.TailRefRow

open Cert.TailRefIdeal Cert.TailRefIdeal.Gen Cert.TailRefIdeal.Read Cert.MixRow Cert.ProjRow Cert.TailToken Cert.TailStrips Idealize.ShloMosaic.ValueIdx
open Cert.TailHost (co si)
open Idealize.ShloMosaic

variable (x0 : (⟨S4x4096x1024, .f32⟩ : BufTy).Contents (Elt Ideal)) (x1 : (⟨S1x1024, .f32⟩ : BufTy).Contents (Elt Ideal))
  (x2 : (⟨S1x1024x4352, .f32⟩ : BufTy).Contents (Elt Ideal)) (x3 : (⟨S1x3x1536, .f32⟩ : BufTy).Contents (Elt Ideal))
  (x4 : (⟨S1x1536, .f32⟩ : BufTy).Contents (Elt Ideal))
variable (b : Fin 4) (t : Fin 4096)

/-! ## Queries, keys, values -/

theorem headOf (k : Fin 8) (e : Fin 64) : val_main_v53 (F := Ideal) x0 x1 x2 (ix4 b t k e) = proj x0 x1 x2 b t ⟨1536 + (64 * k.val + e.val), by omega⟩ := by
  refine (shapeCast_apply _ shapeCasts_S4x4096x512_S4x4096x8x64 _ (ix3 b t ⟨64 * k.val + e.val, by omega⟩) ?_).trans (queries x0 x1 x2 b t _)
  refine (Shape.rowMajor_val_three (d := ![4, 4096, 512]) _).trans (Eq.trans ?_ (Shape.rowMajor_val_four _).symm)
  show (b.val * 4096 + t.val) * 512 + (64 * k.val + e.val) = ((b.val * 4096 + t.val) * 8 + k.val) * 64 + e.val
  omega

theorem pairOf (y : (⟨S4x4096x128, .f32⟩ : BufTy).Contents (Elt Ideal)) (k : Fin 2) (e : Fin 64) :
    shapeCast S4x4096x2x64 y shapeCasts_S4x4096x128_S4x4096x2x64 (ix4 b t k e) = y (ix3 b t ⟨64 * k.val + e.val, by omega⟩) :=
  shapeCast_apply _ _ _ _ (by
    refine (Shape.rowMajor_val_three (d := ![4, 4096, 128]) _).trans (Eq.trans ?_ (Shape.rowMajor_val_four _).symm)
    show (b.val * 4096 + t.val) * 128 + (64 * k.val + e.val) = ((b.val * 4096 + t.val) * 2 + k.val) * 64 + e.val
    omega)

theorem turnQ (k : Fin 8) (e : Fin 64) : val_main_v89 (F := Ideal) x0 x1 x2 (ix4 b t k e)
    = turn (head x0 x1 x2 b t (1536 + 64 * k.val) (by omega)) (co t) (si t) e := by
  have hh : (fun e => val_main_v53 (F := Ideal) x0 x1 x2 (ix4 b t k e)) = head x0 x1 x2 b t (1536 + 64 * k.val) (by omega) :=
    funext fun e => (headOf x0 x1 x2 b t _ e).trans (congrArg (proj x0 x1 x2 b t) (Fin.ext (Nat.add_assoc _ _ _).symm))
  have hc : (fun j => val_main_v70 (F := Ideal) (ix2 t j)) = co t := funext fun j => co_eq t j
  have hs : (fun j => val_main_v72 (F := Ideal) (ix2 t j)) = si t := funext fun j => si_eq t j
  rw [turnedQ, turnHeads_apply, hh, hc, hs]

theorem turnK (k : Fin 2) (e : Fin 64) : val_main_v128 (F := Ideal) x0 x1 x2 (ix4 b t k e) = key x0 x1 x2 co si b t k e := by
  have hh : (fun e => val_main_v92 (F := Ideal) x0 x1 x2 (ix4 b t k e)) = head x0 x1 x2 b t (2048 + 64 * k.val) (by omega) :=
    funext fun e => (pairOf b t _ k e).trans ((keys x0 x1 x2 b t _).trans (congrArg (proj x0 x1 x2 b t) (Fin.ext (Nat.add_assoc _ _ _).symm)))
  have hc : (fun j => val_main_v109 (F := Ideal) (ix2 t j)) = co t := funext fun j => co_eq' t j
  have hs : (fun j => val_main_v111 (F := Ideal) (ix2 t j)) = si t := funext fun j => si_eq' t j
  rw [turnedK, turnHeads_apply, hh, hc, hs]
  unfold key
  rfl

theorem valueOf (k : Fin 2) (e : Fin 64) : val_main_v129 (F := Ideal) x0 x1 x2 (ix4 b t k e) = value x0 x1 x2 b t k e :=
  (pairOf b t _ k e).trans ((values x0 x1 x2 b t _).trans (congrArg (proj x0 x1 x2 b t) (Fin.ext (Nat.add_assoc _ _ _).symm)))

theorem joinHeads (y : (⟨S4x4096x8x64, .f32⟩ : BufTy).Contents (Elt Ideal)) (j : Fin 512) :
    shapeCast S4x4096x512 y shapeCasts_S4x4096x8x64_S4x4096x512 (ix3 b t j) = y (ix4 b t ⟨j.val / 64, by omega⟩ ⟨j.val % 64, by omega⟩) :=
  shapeCast_apply _ _ _ _ (by
    refine (Shape.rowMajor_val_four (d := ![4, 4096, 8, 64]) _).trans (Eq.trans ?_ (Shape.rowMajor_val_three _).symm)
    show ((b.val * 4096 + t.val) * 8 + j.val / 64) * 64 + j.val % 64 = (b.val * 4096 + t.val) * 512 + j.val
    omega)

theorem query_eq (j : Fin 512) : val_main_v134 (F := Ideal) x0 x1 x2 (ix3 b t j) = query x0 x1 x2 co si b t j := by
  have h : val_main_v134 (F := Ideal) x0 x1 x2 (ix3 b t j) = shapeCast S4x4096x512 (val_main_v91 (F := Ideal) x0 x1 x2) shapeCasts_S4x4096x8x64_S4x4096x512 (ix3 b t j) := rfl
  rw [h, joinHeads, val_main_v91_apply, turnQ]
  rfl

theorem key_eq (s : Fin 4) (l : Fin 128) : val_main_v143 (F := Ideal) x0 x1 x2 (ix4 b s t l) = slabLane (key x0 x1 x2 co si b t) s l := by
  have h : val_main_v143 (F := Ideal) x0 x1 x2 (ix4 b s t l) = val_main_v142 (F := Ideal) x0 x1 x2 (ix4 b s t l) := by
    rw [val_main_v143_apply]
    rfl
  have hz : ∀ i, val_main_v135 (F := Ideal) i = 0 := fun _ => Ideal.ofBits_zero_f32
  rw [h, slabbedK, slabs_apply _ _ _ _ _ _ _ hz]
  exact congrArg (fun z => slabLane z s l) (funext fun k => funext fun e => turnK x0 x1 x2 b t k e)

theorem value_eq (s : Fin 4) (l : Fin 128) : val_main_v152 (F := Ideal) x0 x1 x2 (ix4 b s t l) = slabLane (value x0 x1 x2 b t) s l := by
  have h : val_main_v152 (F := Ideal) x0 x1 x2 (ix4 b s t l) = val_main_v151 (F := Ideal) x0 x1 x2 (ix4 b s t l) := by
    rw [val_main_v152_apply]
    rfl
  have hz : ∀ i, val_main_v144 (F := Ideal) i = 0 := fun _ => Ideal.ofBits_zero_f32
  rw [h, slabbedV, slabs_apply _ _ _ _ _ _ _ hz]
  exact congrArg (fun z => slabLane z s l) (funext fun k => funext fun e => valueOf x0 x1 x2 b t k e)

end Cert.TailRefRow

end
-- ==== Proof.Tail.RefGates.lean ====
/- The projection's reference, read at a token: the gates. -/
module

public import proofs.«01_k».proof.Proof.Tail.Strips
public import proofs.«01_k».proof.Proof.Tail.Token
public import proofs.«01_k».proof.Proof.Gen.TailRefIdeal.Read
public import proofs.«01_k».proof.Proof.Tail.RefRow
public import Idealize.ShloMosaic.Lib.IdealHost

@[expose] public section

noncomputable section

namespace Cert.TailRefRow

open Cert.TailRefIdeal Cert.TailRefIdeal.Gen Cert.TailRefIdeal.Read Cert.MixRow Cert.ProjRow Cert.TailToken Cert.TailStrips Idealize.ShloMosaic.ValueIdx
open Idealize.ShloMosaic

variable (x0 : (⟨S4x4096x1024, .f32⟩ : BufTy).Contents (Elt Ideal)) (x1 : (⟨S1x1024, .f32⟩ : BufTy).Contents (Elt Ideal))
  (x2 : (⟨S1x1024x4352, .f32⟩ : BufTy).Contents (Elt Ideal)) (x3 : (⟨S1x3x1536, .f32⟩ : BufTy).Contents (Elt Ideal))
  (x4 : (⟨S1x1536, .f32⟩ : BufTy).Contents (Elt Ideal))
variable (b : Fin 4) (t : Fin 4096)

/-! ## The gates -/

theorem sigmoid (y : EReal) : Ideal.div (Ideal.ofBits .f32 0x3F800000#32) (Ideal.ofBits .f32 0x3F800000#32 + Ideal.exp (-y)) = Ideal.logistic y := by
  rw [Ideal.ofBits_one_f32]
  rfl

theorem gate_eq (j : Fin 2048) : val_main_v166 (F := Ideal) x0 x1 x2 (ix3 b t j) = gate x0 x1 x2 b t j := by
  unfold gate
  by_cases h : j.val < 1024
  · refine (join3_left (val_main_v158 (F := Ideal) x0 x1 x2) (val_main_v164 (F := Ideal) x0 x1 x2) concatenates_S4x4096x1024_S4x4096x1024_S4x4096x2048_d2 b t j ⟨j.val, h⟩ rfl).trans ?_
    exact (sigmoid _).trans (congrArg Ideal.logistic (gates_h x0 x1 x2 b t ⟨j.val, h⟩))
  · refine (join3_right (val_main_v158 (F := Ideal) x0 x1 x2) (val_main_v164 (F := Ideal) x0 x1 x2) concatenates_S4x4096x1024_S4x4096x1024_S4x4096x2048_d2 b t j ⟨j.val - 1024, by omega⟩
      (by show 1024 + (j.val - 1024) = j.val; omega)).trans ?_
    refine (sigmoid _).trans (congrArg Ideal.logistic ((gates_a x0 x1 x2 b t ⟨j.val - 1024, by omega⟩).trans (congrArg (proj x0 x1 x2 b t) (Fin.ext ?_))))
    show 3328 + (j.val - 1024) = 2304 + j.val
    omega

end Cert.TailRefRow

end
-- ==== Proof.Tail.RefRun.lean ====
/- The projection's reference, run: its five results as values of the arguments, and the arguments unchanged. -/
module

public import proofs.«01_k».proof.Proof.Gen.TailRefIdeal.Read

@[expose] public section

noncomputable section

namespace Cert.TailRefRun

open Cert.TailRefIdeal Cert.TailRefIdeal.Gen Cert.TailRefIdeal.Read Idealize.ShloMosaic Idealize.ShloMosaic.TcCoe Idealize.ShloMosaic.StableHlo

variable (m : (ℓ : Loc nD τ sig) → Buf (Elt Ideal) ℓ) (ρ : Dev nD → PrngReg)

/-- An argument of the reference. -/
abbrev arg (c : Dev nD) (b : Ref sig .tc) := m ((c.tc : Thread nD τ).loc b)

theorem run : θ_run defs (onTc (τ := τ) (main (F := Ideal))) ⟨m, fun _ => 0, ρ⟩ (fun r => ∀ c : Dev nD,
      r.2.mem ((c.tc : Thread nD τ).loc main_v132) = val_main_v132 (F := Ideal) (arg m c main_arg0) (arg m c main_arg1) (arg m c main_arg2) (arg m c main_arg3) (arg m c main_arg4)
      ∧ r.2.mem ((c.tc : Thread nD τ).loc main_v134) = val_main_v134 (F := Ideal) (arg m c main_arg0) (arg m c main_arg1) (arg m c main_arg2)
      ∧ r.2.mem ((c.tc : Thread nD τ).loc main_v143) = val_main_v143 (F := Ideal) (arg m c main_arg0) (arg m c main_arg1) (arg m c main_arg2)
      ∧ r.2.mem ((c.tc : Thread nD τ).loc main_v152) = val_main_v152 (F := Ideal) (arg m c main_arg0) (arg m c main_arg1) (arg m c main_arg2)
      ∧ r.2.mem ((c.tc : Thread nD τ).loc main_v166) = val_main_v166 (F := Ideal) (arg m c main_arg0) (arg m c main_arg1) (arg m c main_arg2)
      ∧ r.2.mem ((c.tc : Thread nD τ).loc main_arg0) = arg m c main_arg0
      ∧ r.2.mem ((c.tc : Thread nD τ).loc main_arg1) = arg m c main_arg1
      ∧ r.2.mem ((c.tc : Thread nD τ).loc main_arg2) = arg m c main_arg2
      ∧ r.2.mem ((c.tc : Thread nD τ).loc main_arg3) = arg m c main_arg3
      ∧ r.2.mem ((c.tc : Thread nD τ).loc main_arg4) = arg m c main_arg4) := by
  refine (θ_run defs _ _).mono (fun r h c => ?_) (Cert.TailRefIdeal.Value.run (F := Ideal) m ρ)
  obtain ⟨h1, h2, h3, h4, h5, h6⟩ := h c
  exact ⟨h1.trans (val_main_v132_eq (launchContents m c)), h2.trans (val_main_v134_eq (launchContents m c)), h3.trans (val_main_v143_eq (launchContents m c)),
    h4.trans (val_main_v152_eq (launchContents m c)), h5.trans (val_main_v166_eq (launchContents m c)), h6⟩

end Cert.TailRefRun

end
-- ==== Proof.Tail.Claims.lean ====
/- The projection kernel's claims: its frames, and that over the reals its five result arrays are the layer's own. -/
module

public import proofs.«01_k».proof.Defs
public import proofs.«01_k».proof.Proof.Tail.Run
public import proofs.«01_k».proof.Proof.Tail.RefConv
public import proofs.«01_k».proof.Proof.Tail.RefHeads
public import proofs.«01_k».proof.Proof.Tail.RefGates
public import proofs.«01_k».proof.Proof.Tail.RefRun
public import proofs.«01_k».proof.Proof.Gen.Tail.Frame

@[expose] public section

noncomputable section

namespace Cert.TailClaims

open Idealize.ShloMosaic Idealize.ShloMosaic.TcCoe Idealize.ShloMosaic.ValueIdx
open Cert.TailArray (after X G W SW SB)

theorem frame : Cert.quiescent_Tail := fun m ρ _ => Cert.Tail.Gen.frame m ρ
theorem frame_ideal : Cert.quiescent_TailIdeal := fun m ρ _ => Cert.TailIdeal.Gen.frame m ρ
theorem frame_ref : Cert.quiescent_TailRefIdeal := fun m ρ _ =>
  (θ_run Cert.TailRefIdeal.defs _ _).mono (fun r h => ⟨fun c => (h c).2.2.2.2.2, sem_eq_zero_of_no_sems (by decide) r.2⟩)
    (Cert.TailRefIdeal.Value.run (F := Ideal) m ρ)

section

open Cert.TailIdeal Cert.TailIdeal.Gen

variable (m : (ℓ : Loc nD τ sig) → Buf (Elt Ideal) ℓ) (ρ : Dev nD → PrngReg)

/-- The reference's five values of the arguments are what the kernel leaves. -/
theorem streams (c : Dev nD) : Cert.TailRefIdeal.Read.val_main_v132 (F := Ideal) (X m c) (G m c) (W m c) (SW m c) (SB m c) = after m c main_v45 := by
  funext i
  rw [ValueIdx.eq_ix4 i]
  exact (Cert.TailRefRow.stream_eq _ _ _ _ _ _ _ _ _).trans (Cert.TailArray.result9 m c _ _ _ _).symm
theorem queries (c : Dev nD) : Cert.TailRefIdeal.Read.val_main_v134 (F := Ideal) (X m c) (G m c) (W m c) = after m c main_v46 := by
  funext i
  rw [ValueIdx.eq_ix3 i]
  exact (Cert.TailRefRow.query_eq _ _ _ _ _ _).trans (Cert.TailArray.result10 m c _ _ _).symm
theorem keys (c : Dev nD) : Cert.TailRefIdeal.Read.val_main_v143 (F := Ideal) (X m c) (G m c) (W m c) = after m c main_v47 := by
  funext i
  rw [ValueIdx.eq_ix4 i]
  exact (Cert.TailRefRow.key_eq _ _ _ _ _ _ _).trans (Cert.TailArray.result11 m c _ _ _ _).symm
theorem values (c : Dev nD) : Cert.TailRefIdeal.Read.val_main_v152 (F := Ideal) (X m c) (G m c) (W m c) = after m c main_v48 := by
  funext i
  rw [ValueIdx.eq_ix4 i]
  exact (Cert.TailRefRow.value_eq _ _ _ _ _ _ _).trans (Cert.TailArray.result12 m c _ _ _ _).symm
theorem gates (c : Dev nD) : Cert.TailRefIdeal.Read.val_main_v166 (F := Ideal) (X m c) (G m c) (W m c) = after m c main_v49 := by
  funext i
  rw [ValueIdx.eq_ix3 i]
  exact (Cert.TailRefRow.gate_eq _ _ _ _ _ _).trans (Cert.TailArray.result13 m c _ _ _).symm

/-- The kernel's run: the five results as the lines after the call leave them, and the arguments unchanged. -/
theorem run : θ_run defs (onTc (τ := τ) (main (F := Ideal))) ⟨m, fun _ => 0, ρ⟩ (fun r => ∀ c : Dev nD,
      r.2.mem ((c.tc : Thread nD τ).loc main_v45) = after m c main_v45
      ∧ r.2.mem ((c.tc : Thread nD τ).loc main_v46) = after m c main_v46
      ∧ r.2.mem ((c.tc : Thread nD τ).loc main_v47) = after m c main_v47
      ∧ r.2.mem ((c.tc : Thread nD τ).loc main_v48) = after m c main_v48
      ∧ r.2.mem ((c.tc : Thread nD τ).loc main_v49) = after m c main_v49
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h.1 c).2 main_v45 (Pipeline.mem_restRefs_of main_v45 (by decide) (by decide)),
     (h.1 c).2 main_v46 (Pipeline.mem_restRefs_of main_v46 (by decide) (by decide)),
     (h.1 c).2 main_v47 (Pipeline.mem_restRefs_of main_v47 (by decide) (by decide)),
     (h.1 c).2 main_v48 (Pipeline.mem_restRefs_of main_v48 (by decide) (by decide)),
     (h.1 c).2 main_v49 (Pipeline.mem_restRefs_of main_v49 (by decide) (by decide)), h.2 c⟩)
    (θ_run_and (run_main m ρ) (unchanged m ρ))

end

/-- The kernel's arrays are the tokens' functions of the arguments, and so are the reference's of arguments that agree. -/
theorem algebraic : Cert.algebraic_TailIdeal_TailRefIdeal := by
  intro m ρ m' ρ' _ hagree
  refine ⟨fun c => after m c Cert.TailIdeal.main_v45, fun c => after m c Cert.TailIdeal.main_v46, fun c => after m c Cert.TailIdeal.main_v47,
    fun c => after m c Cert.TailIdeal.main_v48, fun c => after m c Cert.TailIdeal.main_v49, run m ρ, ?_⟩
  refine (θ_run Cert.TailRefIdeal.defs _ _).mono (fun r h c => ?_) (Cert.TailRefRun.run m' ρ')
  obtain ⟨a0, a1, a2, a3, a4⟩ := hagree c
  obtain ⟨h1, h2, h3, h4, h5, h6⟩ := h c
  rw [Cert.TailRefRun.arg, Cert.TailRefRun.arg, Cert.TailRefRun.arg, a0, a1, a2] at h2 h3 h4 h5
  rw [Cert.TailRefRun.arg, Cert.TailRefRun.arg, Cert.TailRefRun.arg, Cert.TailRefRun.arg, Cert.TailRefRun.arg, a0, a1, a2, a3, a4] at h1
  exact ⟨h1.trans (streams m c), h2.trans (queries m c), h3.trans (keys m c), h4.trans (values m c), h5.trans (gates m c), h6⟩

end Cert.TailClaims

end
-- ==== Proof.lean ====
/- The claim, assembled. -/
module

public import proofs.«01_k».proof.Defs
public import proofs.«01_k».proof.Proof.Mix.Claims
public import proofs.«01_k».proof.Proof.Sample.Claims
public import proofs.«01_k».proof.Proof.Proj.Claims
public import proofs.«01_k».proof.Proof.Attn.Claims
public import proofs.«01_k».proof.Proof.Filt.Claims
public import proofs.«01_k».proof.Proof.Tail.Claims

@[expose] public section

theorem Cert.Proof.claim : Cert.Claim :=
  ⟨Cert.Mix.Gen.facts, Cert.MixIdeal.Gen.facts, Cert.MixRefIdeal.Gen.facts,
  Cert.Sample.Gen.facts, Cert.SampleIdeal.Gen.facts, Cert.SampleRefIdeal.Gen.facts,
  Cert.Proj.Gen.facts, Cert.ProjIdeal.Gen.facts, Cert.ProjRefIdeal.Gen.facts,
  Cert.Attn.Gen.facts, Cert.AttnIdeal.Gen.facts, Cert.AttnRefIdeal.Gen.facts,
  Cert.Filt.Gen.facts, Cert.FiltIdeal.Gen.facts, Cert.FiltRefIdeal.Gen.facts,
  Cert.Tail.Gen.facts, Cert.TailIdeal.Gen.facts, Cert.TailRefIdeal.Gen.facts, Cert.Pre_finite.facts, Cert.Pre_weights.facts,
  Cert.MixClaims.frame, Cert.MixClaims.frame_ideal, Cert.MixClaims.frame_ref,
  Cert.SampleClaims.frame, Cert.SampleClaims.frame_ideal, Cert.SampleClaims.frame_ref,
  Cert.ProjClaims.frame, Cert.ProjClaims.frame_ideal, Cert.ProjClaims.frame_ref,
  Cert.AttnClaims.frame, Cert.AttnClaims.frame_ideal, Cert.AttnClaims.frame_ideal_finite, Cert.AttnClaims.frame_ref, Cert.AttnClaims.frame_ref_finite,
  Cert.FiltClaims.frame, Cert.FiltClaims.frame_ideal, Cert.FiltClaims.frame_ideal_weights, Cert.FiltClaims.frame_ref, Cert.FiltClaims.frame_ref_weights,
  Cert.TailClaims.frame, Cert.TailClaims.frame_ideal, Cert.TailClaims.frame_ref,
  trivial, Cert.MixClaims.algebraic, trivial, Cert.SampleClaims.algebraic, trivial, Cert.ProjClaims.algebraic,
  Cert.AttnClaims.preserves, Cert.AttnClaims.algebraic, Cert.FiltClaims.preserves, Cert.FiltClaims.algebraic,
  trivial, Cert.TailClaims.algebraic⟩

end
